-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23)
      ∧ r.2.mem ((c.tc : Thread Cert.Kernel4.nD Cert.Kernel4.τ).loc Cert.Kernel4.main_arg24) = m ((c.tc : Thread Cert.Kernel4.nD Cert.Kernel4.τ).loc Cert.Kernel4.main_arg24)
      ∧ r.2.mem ((c.tc : Thread Cert.Kernel4.nD Cert.Kernel4.τ).loc Cert.Kernel4.main_arg25) = m ((c.tc : Thread Cert.Kernel4.nD Cert.Kernel4.τ).loc Cert.Kernel4.main_arg25)
      ∧ r.2.mem ((c.tc : Thread Cert.Kernel4.nD Cert.Kernel4.τ).loc Cert.Kernel4.main_arg26) = m ((c.tc : Thread Cert.Kernel4.nD Cert.Kernel4.τ).loc Cert.Kernel4.main_arg26)
      ∧ r.2.mem ((c.tc : Thread Cert.Kernel4.nD Cert.Kernel4.τ).loc Cert.Kernel4.main_arg27) = m ((c.tc : Thread Cert.Kernel4.nD Cert.Kernel4.τ).loc Cert.Kernel4.main_arg27)
      ∧ r.2.mem ((c.tc : Thread Cert.Kernel4.nD Cert.Kernel4.τ).loc Cert.Kernel4.main_arg28) = m ((c.tc : Thread Cert.Kernel4.nD Cert.Kernel4.τ).loc Cert.Kernel4.main_arg28)
      ∧ r.2.mem ((c.tc : Thread Cert.Kernel4.nD Cert.Kernel4.τ).loc Cert.Kernel4.main_arg29) = m ((c.tc : Thread Cert.Kernel4.nD Cert.Kernel4.τ).loc Cert.Kernel4.main_arg29)
      ∧ r.2.mem ((c.tc : Thread Cert.Kernel4.nD Cert.Kernel4.τ).loc Cert.Kernel4.main_arg30) = m ((c.tc : Thread Cert.Kernel4.nD Cert.Kernel4.τ).loc Cert.Kernel4.main_arg30)
      ∧ r.2.mem ((c.tc : Thread Cert.Kernel4.nD Cert.Kernel4.τ).loc Cert.Kernel4.main_arg31) = m ((c.tc : Thread Cert.Kernel4.nD Cert.Kernel4.τ).loc Cert.Kernel4.main_arg31)
      ∧ r.2.mem ((c.tc : Thread Cert.Kernel4.nD Cert.Kernel4.τ).loc Cert.Kernel4.main_arg32) = m ((c.tc : Thread Cert.Kernel4.nD Cert.Kernel4.τ).loc Cert.Kernel4.main_arg32)
      ∧ r.2.mem ((c.tc : Thread Cert.Kernel4.nD Cert.Kernel4.τ).loc Cert.Kernel4.main_arg33) = m ((c.tc : Thread Cert.Kernel4.nD Cert.Kernel4.τ).loc Cert.Kernel4.main_arg33)
      ∧ r.2.mem ((c.tc : Thread Cert.Kernel4.nD Cert.Kernel4.τ).loc Cert.Kernel4.main_arg34) = m ((c.tc : Thread Cert.Kernel4.nD Cert.Kernel4.τ).loc Cert.Kernel4.main_arg34)
      ∧ r.2.mem ((c.tc : Thread Cert.Kernel4.nD Cert.Kernel4.τ).loc Cert.Kernel4.main_arg35) = m ((c.tc : Thread Cert.Kernel4.nD Cert.Kernel4.τ).loc Cert.Kernel4.main_arg35)
      ∧ r.2.mem ((c.tc : Thread Cert.Kernel4.nD Cert.Kernel4.τ).loc Cert.Kernel4.main_arg36) = m ((c.tc : Thread Cert.Kernel4.nD Cert.Kernel4.τ).loc Cert.Kernel4.main_arg36)
      ∧ r.2.mem ((c.tc : Thread Cert.Kernel4.nD Cert.Kernel4.τ).loc Cert.Kernel4.main_arg37) = m ((c.tc : Thread Cert.Kernel4.nD Cert.Kernel4.τ).loc Cert.Kernel4.main_arg37)
      ∧ r.2.mem ((c.tc : Thread Cert.Kernel4.nD Cert.Kernel4.τ).loc Cert.Kernel4.main_arg38) = m ((c.tc : Thread Cert.Kernel4.nD Cert.Kernel4.τ).loc Cert.Kernel4.main_arg38)
      ∧ r.2.mem ((c.tc : Thread Cert.Kernel4.nD Cert.Kernel4.τ).loc Cert.Kernel4.main_arg39) = m ((c.tc : Thread Cert.Kernel4.nD Cert.Kernel4.τ).loc Cert.Kernel4.main_arg39))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
      ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
      ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
      ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
      ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27)
      ∧ r.2.mem ((c.tc : Thread Cert.Kernel4Ideal.nD Cert.Kernel4Ideal.τ).loc Cert.Kernel4Ideal.main_arg28) = m ((c.tc : Thread Cert.Kernel4Ideal.nD Cert.Kernel4Ideal.τ).loc Cert.Kernel4Ideal.main_arg28)
      ∧ r.2.mem ((c.tc : Thread Cert.Kernel4Ideal.nD Cert.Kernel4Ideal.τ).loc Cert.Kernel4Ideal.main_arg29) = m ((c.tc : Thread Cert.Kernel4Ideal.nD Cert.Kernel4Ideal.τ).loc Cert.Kernel4Ideal.main_arg29)
      ∧ r.2.mem ((c.tc : Thread Cert.Kernel4Ideal.nD Cert.Kernel4Ideal.τ).loc Cert.Kernel4Ideal.main_arg30) = m ((c.tc : Thread Cert.Kernel4Ideal.nD Cert.Kernel4Ideal.τ).loc Cert.Kernel4Ideal.main_arg30)
      ∧ r.2.mem ((c.tc : Thread Cert.Kernel4Ideal.nD Cert.Kernel4Ideal.τ).loc Cert.Kernel4Ideal.main_arg31) = m ((c.tc : Thread Cert.Kernel4Ideal.nD Cert.Kernel4Ideal.τ).loc Cert.Kernel4Ideal.main_arg31)
      ∧ r.2.mem ((c.tc : Thread Cert.Kernel4Ideal.nD Cert.Kernel4Ideal.τ).loc Cert.Kernel4Ideal.main_arg32) = m ((c.tc : Thread Cert.Kernel4Ideal.nD Cert.Kernel4Ideal.τ).loc Cert.Kernel4Ideal.main_arg32)
      ∧ r.2.mem ((c.tc : Thread Cert.Kernel4Ideal.nD Cert.Kernel4Ideal.τ).loc Cert.Kernel4Ideal.main_arg33) = m ((c.tc : Thread Cert.Kernel4Ideal.nD Cert.Kernel4Ideal.τ).loc Cert.Kernel4Ideal.main_arg33)
      ∧ r.2.mem ((c.tc : Thread Cert.Kernel4Ideal.nD Cert.Kernel4Ideal.τ).loc Cert.Kernel4Ideal.main_arg34) = m ((c.tc : Thread Cert.Kernel4Ideal.nD Cert.Kernel4Ideal.τ).loc Cert.Kernel4Ideal.main_arg34)
      ∧ r.2.mem ((c.tc : Thread Cert.Kernel4Ideal.nD Cert.Kernel4Ideal.τ).loc Cert.Kernel4Ideal.main_arg35) = m ((c.tc : Thread Cert.Kernel4Ideal.nD Cert.Kernel4Ideal.τ).loc Cert.Kernel4Ideal.main_arg35)
      ∧ r.2.mem ((c.tc : Thread Cert.Kernel4Ideal.nD Cert.Kernel4Ideal.τ).loc Cert.Kernel4Ideal.main_arg36) = m ((c.tc : Thread Cert.Kernel4Ideal.nD Cert.Kernel4Ideal.τ).loc Cert.Kernel4Ideal.main_arg36)
      ∧ r.2.mem ((c.tc : Thread Cert.Kernel4Ideal.nD Cert.Kernel4Ideal.τ).loc Cert.Kernel4Ideal.main_arg37) = m ((c.tc : Thread Cert.Kernel4Ideal.nD Cert.Kernel4Ideal.τ).loc Cert.Kernel4Ideal.main_arg37)
      ∧ r.2.mem ((c.tc : Thread Cert.Kernel4Ideal.nD Cert.Kernel4Ideal.τ).loc Cert.Kernel4Ideal.main_arg38) = m ((c.tc : Thread Cert.Kernel4Ideal.nD Cert.Kernel4Ideal.τ).loc Cert.Kernel4Ideal.main_arg38)
      ∧ r.2.mem ((c.tc : Thread Cert.Kernel4Ideal.nD Cert.Kernel4Ideal.τ).loc Cert.Kernel4Ideal.main_arg39) = m ((c.tc : Thread Cert.Kernel4Ideal.nD Cert.Kernel4Ideal.τ).loc Cert.Kernel4Ideal.main_arg39))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23)
      ∧ r.2.mem ((c.tc : Thread Cert.Reference4Ideal.nD Cert.Reference4Ideal.τ).loc Cert.Reference4Ideal.main_arg24) = m ((c.tc : Thread Cert.Reference4Ideal.nD Cert.Reference4Ideal.τ).loc Cert.Reference4Ideal.main_arg24)
      ∧ r.2.mem ((c.tc : Thread Cert.Reference4Ideal.nD Cert.Reference4Ideal.τ).loc Cert.Reference4Ideal.main_arg25) = m ((c.tc : Thread Cert.Reference4Ideal.nD Cert.Reference4Ideal.τ).loc Cert.Reference4Ideal.main_arg25)
      ∧ r.2.mem ((c.tc : Thread Cert.Reference4Ideal.nD Cert.Reference4Ideal.τ).loc Cert.Reference4Ideal.main_arg26) = m ((c.tc : Thread Cert.Reference4Ideal.nD Cert.Reference4Ideal.τ).loc Cert.Reference4Ideal.main_arg26)
      ∧ r.2.mem ((c.tc : Thread Cert.Reference4Ideal.nD Cert.Reference4Ideal.τ).loc Cert.Reference4Ideal.main_arg27) = m ((c.tc : Thread Cert.Reference4Ideal.nD Cert.Reference4Ideal.τ).loc Cert.Reference4Ideal.main_arg27)
      ∧ r.2.mem ((c.tc : Thread Cert.Reference4Ideal.nD Cert.Reference4Ideal.τ).loc Cert.Reference4Ideal.main_arg28) = m ((c.tc : Thread Cert.Reference4Ideal.nD Cert.Reference4Ideal.τ).loc Cert.Reference4Ideal.main_arg28)
      ∧ r.2.mem ((c.tc : Thread Cert.Reference4Ideal.nD Cert.Reference4Ideal.τ).loc Cert.Reference4Ideal.main_arg29) = m ((c.tc : Thread Cert.Reference4Ideal.nD Cert.Reference4Ideal.τ).loc Cert.Reference4Ideal.main_arg29)
      ∧ r.2.mem ((c.tc : Thread Cert.Reference4Ideal.nD Cert.Reference4Ideal.τ).loc Cert.Reference4Ideal.main_arg30) = m ((c.tc : Thread Cert.Reference4Ideal.nD Cert.Reference4Ideal.τ).loc Cert.Reference4Ideal.main_arg30)
      ∧ r.2.mem ((c.tc : Thread Cert.Reference4Ideal.nD Cert.Reference4Ideal.τ).loc Cert.Reference4Ideal.main_arg31) = m ((c.tc : Thread Cert.Reference4Ideal.nD Cert.Reference4Ideal.τ).loc Cert.Reference4Ideal.main_arg31)
      ∧ r.2.mem ((c.tc : Thread Cert.Reference4Ideal.nD Cert.Reference4Ideal.τ).loc Cert.Reference4Ideal.main_arg32) = m ((c.tc : Thread Cert.Reference4Ideal.nD Cert.Reference4Ideal.τ).loc Cert.Reference4Ideal.main_arg32)
      ∧ r.2.mem ((c.tc : Thread Cert.Reference4Ideal.nD Cert.Reference4Ideal.τ).loc Cert.Reference4Ideal.main_arg33) = m ((c.tc : Thread Cert.Reference4Ideal.nD Cert.Reference4Ideal.τ).loc Cert.Reference4Ideal.main_arg33)
      ∧ r.2.mem ((c.tc : Thread Cert.Reference4Ideal.nD Cert.Reference4Ideal.τ).loc Cert.Reference4Ideal.main_arg34) = m ((c.tc : Thread Cert.Reference4Ideal.nD Cert.Reference4Ideal.τ).loc Cert.Reference4Ideal.main_arg34)
      ∧ r.2.mem ((c.tc : Thread Cert.Reference4Ideal.nD Cert.Reference4Ideal.τ).loc Cert.Reference4Ideal.main_arg35) = m ((c.tc : Thread Cert.Reference4Ideal.nD Cert.Reference4Ideal.τ).loc Cert.Reference4Ideal.main_arg35)
      ∧ r.2.mem ((c.tc : Thread Cert.Reference4Ideal.nD Cert.Reference4Ideal.τ).loc Cert.Reference4Ideal.main_arg36) = m ((c.tc : Thread Cert.Reference4Ideal.nD Cert.Reference4Ideal.τ).loc Cert.Reference4Ideal.main_arg36)
      ∧ r.2.mem ((c.tc : Thread Cert.Reference4Ideal.nD Cert.Reference4Ideal.τ).loc Cert.Reference4Ideal.main_arg37) = m ((c.tc : Thread Cert.Reference4Ideal.nD Cert.Reference4Ideal.τ).loc Cert.Reference4Ideal.main_arg37)
      ∧ r.2.mem ((c.tc : Thread Cert.Reference4Ideal.nD Cert.Reference4Ideal.τ).loc Cert.Reference4Ideal.main_arg38) = m ((c.tc : Thread Cert.Reference4Ideal.nD Cert.Reference4Ideal.τ).loc Cert.Reference4Ideal.main_arg38)
      ∧ r.2.mem ((c.tc : Thread Cert.Reference4Ideal.nD Cert.Reference4Ideal.τ).loc Cert.Reference4Ideal.main_arg39) = m ((c.tc : Thread Cert.Reference4Ideal.nD Cert.Reference4Ideal.τ).loc Cert.Reference4Ideal.main_arg39))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v20)) (v6 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v20) = v5 c
          ∧ r.2.mem ((c.tc : Thread Cert.KernelIdeal.nD Cert.KernelIdeal.τ).loc Cert.KernelIdeal.main_v14) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v69) = v5 c
          ∧ r.2.mem ((c.tc : Thread Cert.ReferenceIdeal.nD Cert.ReferenceIdeal.τ).loc Cert.ReferenceIdeal.main_v64) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v22)) (v2 : (c : Dev Cert.Kernel2Ideal.nD) → Buf (Elt Ideal) ((c.tc : Thread Cert.Kernel2Ideal.nD Cert.Kernel2Ideal.τ).loc Cert.Kernel2Ideal.main_v19_0)) (v3 : (c : Dev Cert.Kernel2Ideal.nD) → Buf (Elt Ideal) ((c.tc : Thread Cert.Kernel2Ideal.nD Cert.Kernel2Ideal.τ).loc Cert.Kernel2Ideal.main_v13_1)) (v4 : (c : Dev Cert.Kernel2Ideal.nD) → Buf (Elt Ideal) ((c.tc : Thread Cert.Kernel2Ideal.nD Cert.Kernel2Ideal.τ).loc Cert.Kernel2Ideal.main_v23)) (v5 : (c : Dev Cert.Kernel2Ideal.nD) → Buf (Elt Ideal) ((c.tc : Thread Cert.Kernel2Ideal.nD Cert.Kernel2Ideal.τ).loc Cert.Kernel2Ideal.main_v24)) (v6 : (c : Dev Cert.Kernel2Ideal.nD) → Buf (Elt Ideal) ((c.tc : Thread Cert.Kernel2Ideal.nD Cert.Kernel2Ideal.τ).loc Cert.Kernel2Ideal.main_v25)) (v7 : (c : Dev Cert.Kernel2Ideal.nD) → Buf (Elt Ideal) ((c.tc : Thread Cert.Kernel2Ideal.nD Cert.Kernel2Ideal.τ).loc Cert.Kernel2Ideal.main_v20)) (v8 : (c : Dev Cert.Kernel2Ideal.nD) → Buf (Elt Ideal) ((c.tc : Thread Cert.Kernel2Ideal.nD Cert.Kernel2Ideal.τ).loc Cert.Kernel2Ideal.main_v15_0)) (v9 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v22) = v1 c
          ∧ r.2.mem ((c.tc : Thread Cert.Kernel2Ideal.nD Cert.Kernel2Ideal.τ).loc Cert.Kernel2Ideal.main_v19_0) = v2 c
          ∧ r.2.mem ((c.tc : Thread Cert.Kernel2Ideal.nD Cert.Kernel2Ideal.τ).loc Cert.Kernel2Ideal.main_v13_1) = v3 c
          ∧ r.2.mem ((c.tc : Thread Cert.Kernel2Ideal.nD Cert.Kernel2Ideal.τ).loc Cert.Kernel2Ideal.main_v23) = v4 c
          ∧ r.2.mem ((c.tc : Thread Cert.Kernel2Ideal.nD Cert.Kernel2Ideal.τ).loc Cert.Kernel2Ideal.main_v24) = v5 c
          ∧ r.2.mem ((c.tc : Thread Cert.Kernel2Ideal.nD Cert.Kernel2Ideal.τ).loc Cert.Kernel2Ideal.main_v25) = v6 c
          ∧ r.2.mem ((c.tc : Thread Cert.Kernel2Ideal.nD Cert.Kernel2Ideal.τ).loc Cert.Kernel2Ideal.main_v20) = v7 c
          ∧ r.2.mem ((c.tc : Thread Cert.Kernel2Ideal.nD Cert.Kernel2Ideal.τ).loc Cert.Kernel2Ideal.main_v15_0) = v8 c
          ∧ r.2.mem ((c.tc : Thread Cert.Kernel2Ideal.nD Cert.Kernel2Ideal.τ).loc Cert.Kernel2Ideal.main_v27) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_v90) = v1 c
          ∧ r.2.mem ((c.tc : Thread Cert.Reference2Ideal.nD Cert.Reference2Ideal.τ).loc Cert.Reference2Ideal.main_v179) = v2 c
          ∧ r.2.mem ((c.tc : Thread Cert.Reference2Ideal.nD Cert.Reference2Ideal.τ).loc Cert.Reference2Ideal.main_v116) = v3 c
          ∧ r.2.mem ((c.tc : Thread Cert.Reference2Ideal.nD Cert.Reference2Ideal.τ).loc Cert.Reference2Ideal.main_v164) = v4 c
          ∧ r.2.mem ((c.tc : Thread Cert.Reference2Ideal.nD Cert.Reference2Ideal.τ).loc Cert.Reference2Ideal.main_v158) = v5 c
          ∧ r.2.mem ((c.tc : Thread Cert.Reference2Ideal.nD Cert.Reference2Ideal.τ).loc Cert.Reference2Ideal.main_v98) = v6 c
          ∧ r.2.mem ((c.tc : Thread Cert.Reference2Ideal.nD Cert.Reference2Ideal.τ).loc Cert.Reference2Ideal.main_v153) = v7 c
          ∧ r.2.mem ((c.tc : Thread Cert.Reference2Ideal.nD Cert.Reference2Ideal.τ).loc Cert.Reference2Ideal.main_v148) = v8 c
          ∧ r.2.mem ((c.tc : Thread Cert.Reference2Ideal.nD Cert.Reference2Ideal.τ).loc Cert.Reference2Ideal.main_v114) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v18)) (v2 : (c : Dev Cert.Kernel3Ideal.nD) → Buf (Elt Ideal) ((c.tc : Thread Cert.Kernel3Ideal.nD Cert.Kernel3Ideal.τ).loc Cert.Kernel3Ideal.main_v16_0)) (v3 : (c : Dev Cert.Kernel3Ideal.nD) → Buf (Elt Ideal) ((c.tc : Thread Cert.Kernel3Ideal.nD Cert.Kernel3Ideal.τ).loc Cert.Kernel3Ideal.main_v13_1)) (v4 : (c : Dev Cert.Kernel3Ideal.nD) → Buf (Elt Ideal) ((c.tc : Thread Cert.Kernel3Ideal.nD Cert.Kernel3Ideal.τ).loc Cert.Kernel3Ideal.main_v19)) (v5 : (c : Dev Cert.Kernel3Ideal.nD) → Buf (Elt Ideal) ((c.tc : Thread Cert.Kernel3Ideal.nD Cert.Kernel3Ideal.τ).loc Cert.Kernel3Ideal.main_v20)) (v6 : (c : Dev Cert.Kernel3Ideal.nD) → Buf (Elt Ideal) ((c.tc : Thread Cert.Kernel3Ideal.nD Cert.Kernel3Ideal.τ).loc Cert.Kernel3Ideal.main_v21)) (v7 : (c : Dev Cert.Kernel3Ideal.nD) → Buf (Elt Ideal) ((c.tc : Thread Cert.Kernel3Ideal.nD Cert.Kernel3Ideal.τ).loc Cert.Kernel3Ideal.main_v17)) (v8 : (c : Dev Cert.Kernel3Ideal.nD) → Buf (Elt Ideal) ((c.tc : Thread Cert.Kernel3Ideal.nD Cert.Kernel3Ideal.τ).loc Cert.Kernel3Ideal.main_v15_0)) (v9 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v18) = v1 c
          ∧ r.2.mem ((c.tc : Thread Cert.Kernel3Ideal.nD Cert.Kernel3Ideal.τ).loc Cert.Kernel3Ideal.main_v16_0) = v2 c
          ∧ r.2.mem ((c.tc : Thread Cert.Kernel3Ideal.nD Cert.Kernel3Ideal.τ).loc Cert.Kernel3Ideal.main_v13_1) = v3 c
          ∧ r.2.mem ((c.tc : Thread Cert.Kernel3Ideal.nD Cert.Kernel3Ideal.τ).loc Cert.Kernel3Ideal.main_v19) = v4 c
          ∧ r.2.mem ((c.tc : Thread Cert.Kernel3Ideal.nD Cert.Kernel3Ideal.τ).loc Cert.Kernel3Ideal.main_v20) = v5 c
          ∧ r.2.mem ((c.tc : Thread Cert.Kernel3Ideal.nD Cert.Kernel3Ideal.τ).loc Cert.Kernel3Ideal.main_v21) = v6 c
          ∧ r.2.mem ((c.tc : Thread Cert.Kernel3Ideal.nD Cert.Kernel3Ideal.τ).loc Cert.Kernel3Ideal.main_v17) = v7 c
          ∧ r.2.mem ((c.tc : Thread Cert.Kernel3Ideal.nD Cert.Kernel3Ideal.τ).loc Cert.Kernel3Ideal.main_v15_0) = v8 c
          ∧ r.2.mem ((c.tc : Thread Cert.Kernel3Ideal.nD Cert.Kernel3Ideal.τ).loc Cert.Kernel3Ideal.main_v23) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v179) = v2 c
          ∧ r.2.mem ((c.tc : Thread Cert.Reference3Ideal.nD Cert.Reference3Ideal.τ).loc Cert.Reference3Ideal.main_v116) = v3 c
          ∧ r.2.mem ((c.tc : Thread Cert.Reference3Ideal.nD Cert.Reference3Ideal.τ).loc Cert.Reference3Ideal.main_v164) = v4 c
          ∧ r.2.mem ((c.tc : Thread Cert.Reference3Ideal.nD Cert.Reference3Ideal.τ).loc Cert.Reference3Ideal.main_v158) = v5 c
          ∧ r.2.mem ((c.tc : Thread Cert.Reference3Ideal.nD Cert.Reference3Ideal.τ).loc Cert.Reference3Ideal.main_v98) = v6 c
          ∧ r.2.mem ((c.tc : Thread Cert.Reference3Ideal.nD Cert.Reference3Ideal.τ).loc Cert.Reference3Ideal.main_v153) = v7 c
          ∧ r.2.mem ((c.tc : Thread Cert.Reference3Ideal.nD Cert.Reference3Ideal.τ).loc Cert.Reference3Ideal.main_v148) = v8 c
          ∧ r.2.mem ((c.tc : Thread Cert.Reference3Ideal.nD Cert.Reference3Ideal.τ).loc Cert.Reference3Ideal.main_v114) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)
      ∧ m' ((c.tc : Thread Cert.Reference4Ideal.nD Cert.Reference4Ideal.τ).loc Cert.Reference4Ideal.main_arg24) = m ((c.tc : Thread Cert.Kernel4Ideal.nD Cert.Kernel4Ideal.τ).loc Cert.Kernel4Ideal.main_arg24)
      ∧ m' ((c.tc : Thread Cert.Reference4Ideal.nD Cert.Reference4Ideal.τ).loc Cert.Reference4Ideal.main_arg25) = m ((c.tc : Thread Cert.Kernel4Ideal.nD Cert.Kernel4Ideal.τ).loc Cert.Kernel4Ideal.main_arg25)
      ∧ m' ((c.tc : Thread Cert.Reference4Ideal.nD Cert.Reference4Ideal.τ).loc Cert.Reference4Ideal.main_arg26) = m ((c.tc : Thread Cert.Kernel4Ideal.nD Cert.Kernel4Ideal.τ).loc Cert.Kernel4Ideal.main_arg26)
      ∧ m' ((c.tc : Thread Cert.Reference4Ideal.nD Cert.Reference4Ideal.τ).loc Cert.Reference4Ideal.main_arg27) = m ((c.tc : Thread Cert.Kernel4Ideal.nD Cert.Kernel4Ideal.τ).loc Cert.Kernel4Ideal.main_arg27)
      ∧ m' ((c.tc : Thread Cert.Reference4Ideal.nD Cert.Reference4Ideal.τ).loc Cert.Reference4Ideal.main_arg28) = m ((c.tc : Thread Cert.Kernel4Ideal.nD Cert.Kernel4Ideal.τ).loc Cert.Kernel4Ideal.main_arg28)
      ∧ m' ((c.tc : Thread Cert.Reference4Ideal.nD Cert.Reference4Ideal.τ).loc Cert.Reference4Ideal.main_arg29) = m ((c.tc : Thread Cert.Kernel4Ideal.nD Cert.Kernel4Ideal.τ).loc Cert.Kernel4Ideal.main_arg29)
      ∧ m' ((c.tc : Thread Cert.Reference4Ideal.nD Cert.Reference4Ideal.τ).loc Cert.Reference4Ideal.main_arg30) = m ((c.tc : Thread Cert.Kernel4Ideal.nD Cert.Kernel4Ideal.τ).loc Cert.Kernel4Ideal.main_arg30)
      ∧ m' ((c.tc : Thread Cert.Reference4Ideal.nD Cert.Reference4Ideal.τ).loc Cert.Reference4Ideal.main_arg31) = m ((c.tc : Thread Cert.Kernel4Ideal.nD Cert.Kernel4Ideal.τ).loc Cert.Kernel4Ideal.main_arg31)
      ∧ m' ((c.tc : Thread Cert.Reference4Ideal.nD Cert.Reference4Ideal.τ).loc Cert.Reference4Ideal.main_arg32) = m ((c.tc : Thread Cert.Kernel4Ideal.nD Cert.Kernel4Ideal.τ).loc Cert.Kernel4Ideal.main_arg32)
      ∧ m' ((c.tc : Thread Cert.Reference4Ideal.nD Cert.Reference4Ideal.τ).loc Cert.Reference4Ideal.main_arg33) = m ((c.tc : Thread Cert.Kernel4Ideal.nD Cert.Kernel4Ideal.τ).loc Cert.Kernel4Ideal.main_arg33)
      ∧ m' ((c.tc : Thread Cert.Reference4Ideal.nD Cert.Reference4Ideal.τ).loc Cert.Reference4Ideal.main_arg34) = m ((c.tc : Thread Cert.Kernel4Ideal.nD Cert.Kernel4Ideal.τ).loc Cert.Kernel4Ideal.main_arg34)
      ∧ m' ((c.tc : Thread Cert.Reference4Ideal.nD Cert.Reference4Ideal.τ).loc Cert.Reference4Ideal.main_arg35) = m ((c.tc : Thread Cert.Kernel4Ideal.nD Cert.Kernel4Ideal.τ).loc Cert.Kernel4Ideal.main_arg35)
      ∧ m' ((c.tc : Thread Cert.Reference4Ideal.nD Cert.Reference4Ideal.τ).loc Cert.Reference4Ideal.main_arg36) = m ((c.tc : Thread Cert.Kernel4Ideal.nD Cert.Kernel4Ideal.τ).loc Cert.Kernel4Ideal.main_arg36)
      ∧ m' ((c.tc : Thread Cert.Reference4Ideal.nD Cert.Reference4Ideal.τ).loc Cert.Reference4Ideal.main_arg37) = m ((c.tc : Thread Cert.Kernel4Ideal.nD Cert.Kernel4Ideal.τ).loc Cert.Kernel4Ideal.main_arg37)
      ∧ m' ((c.tc : Thread Cert.Reference4Ideal.nD Cert.Reference4Ideal.τ).loc Cert.Reference4Ideal.main_arg38) = m ((c.tc : Thread Cert.Kernel4Ideal.nD Cert.Kernel4Ideal.τ).loc Cert.Kernel4Ideal.main_arg38)
      ∧ m' ((c.tc : Thread Cert.Reference4Ideal.nD Cert.Reference4Ideal.τ).loc Cert.Reference4Ideal.main_arg39) = m ((c.tc : Thread Cert.Kernel4Ideal.nD Cert.Kernel4Ideal.τ).loc Cert.Kernel4Ideal.main_arg39)) →
    ∃ (v0 : (c : Dev Cert.Kernel4Ideal.nD) → Buf (Elt Ideal) ((c.tc : Thread Cert.Kernel4Ideal.nD Cert.Kernel4Ideal.τ).loc Cert.Kernel4Ideal.main_v5)) (v1 : (c : Dev Cert.Kernel4Ideal.nD) → Buf (Elt Ideal) ((c.tc : Thread Cert.Kernel4Ideal.nD Cert.Kernel4Ideal.τ).loc Cert.Kernel4Ideal.main_v6)) (v2 : (c : Dev Cert.Kernel4Ideal.nD) → Buf (Elt Ideal) ((c.tc : Thread Cert.Kernel4Ideal.nD Cert.Kernel4Ideal.τ).loc Cert.Kernel4Ideal.main_v7)) (v3 : (c : Dev Cert.Kernel4Ideal.nD) → Buf (Elt Ideal) ((c.tc : Thread Cert.Kernel4Ideal.nD Cert.Kernel4Ideal.τ).loc Cert.Kernel4Ideal.main_v8_0)) (v4 : (c : Dev Cert.Kernel4Ideal.nD) → Buf (Elt Ideal) ((c.tc : Thread Cert.Kernel4Ideal.nD Cert.Kernel4Ideal.τ).loc Cert.Kernel4Ideal.main_v8_1)) (v5 : (c : Dev Cert.Kernel4Ideal.nD) → Buf (Elt Ideal) ((c.tc : Thread Cert.Kernel4Ideal.nD Cert.Kernel4Ideal.τ).loc Cert.Kernel4Ideal.main_v8_2)) (v6 : (c : Dev Cert.Kernel4Ideal.nD) → Buf (Elt Ideal) ((c.tc : Thread Cert.Kernel4Ideal.nD Cert.Kernel4Ideal.τ).loc Cert.Kernel4Ideal.main_v14)) (v7 : (c : Dev Cert.Kernel4Ideal.nD) → Buf (Elt Ideal) ((c.tc : Thread Cert.Kernel4Ideal.nD Cert.Kernel4Ideal.τ).loc Cert.Kernel4Ideal.main_v15)) (v8 : (c : Dev Cert.Kernel4Ideal.nD) → Buf (Elt Ideal) ((c.tc : Thread Cert.Kernel4Ideal.nD Cert.Kernel4Ideal.τ).loc Cert.Kernel4Ideal.main_v16)) (v9 : (c : Dev Cert.Kernel4Ideal.nD) → Buf (Elt Ideal) ((c.tc : Thread Cert.Kernel4Ideal.nD Cert.Kernel4Ideal.τ).loc Cert.Kernel4Ideal.main_v22)) (v10 : (c : Dev Cert.Kernel4Ideal.nD) → Buf (Elt Ideal) ((c.tc : Thread Cert.Kernel4Ideal.nD Cert.Kernel4Ideal.τ).loc Cert.Kernel4Ideal.main_v23)) (v11 : (c : Dev Cert.Kernel4Ideal.nD) → Buf (Elt Ideal) ((c.tc : Thread Cert.Kernel4Ideal.nD Cert.Kernel4Ideal.τ).loc Cert.Kernel4Ideal.main_v24)) (v12 : (c : Dev Cert.Kernel4Ideal.nD) → Buf (Elt Ideal) ((c.tc : Thread Cert.Kernel4Ideal.nD Cert.Kernel4Ideal.τ).loc Cert.Kernel4Ideal.main_v30)) (v13 : (c : Dev Cert.Kernel4Ideal.nD) → Buf (Elt Ideal) ((c.tc : Thread Cert.Kernel4Ideal.nD Cert.Kernel4Ideal.τ).loc Cert.Kernel4Ideal.main_v31)) (v14 : (c : Dev Cert.Kernel4Ideal.nD) → Buf (Elt Ideal) ((c.tc : Thread Cert.Kernel4Ideal.nD Cert.Kernel4Ideal.τ).loc Cert.Kernel4Ideal.main_v32)) (v15 : (c : Dev Cert.Kernel4Ideal.nD) → Buf (Elt Ideal) ((c.tc : Thread Cert.Kernel4Ideal.nD Cert.Kernel4Ideal.τ).loc Cert.Kernel4Ideal.main_v38)) (v16 : (c : Dev Cert.Kernel4Ideal.nD) → Buf (Elt Ideal) ((c.tc : Thread Cert.Kernel4Ideal.nD Cert.Kernel4Ideal.τ).loc Cert.Kernel4Ideal.main_v39)) (v17 : (c : Dev Cert.Kernel4Ideal.nD) → Buf (Elt Ideal) ((c.tc : Thread Cert.Kernel4Ideal.nD Cert.Kernel4Ideal.τ).loc Cert.Kernel4Ideal.main_v40)) (v18 : (c : Dev Cert.Kernel4Ideal.nD) → Buf (Elt Ideal) ((c.tc : Thread Cert.Kernel4Ideal.nD Cert.Kernel4Ideal.τ).loc Cert.Kernel4Ideal.main_v41_0)) (v19 : (c : Dev Cert.Kernel4Ideal.nD) → Buf (Elt Ideal) ((c.tc : Thread Cert.Kernel4Ideal.nD Cert.Kernel4Ideal.τ).loc Cert.Kernel4Ideal.main_v41_1)) (v20 : (c : Dev Cert.Kernel4Ideal.nD) → Buf (Elt Ideal) ((c.tc : Thread Cert.Kernel4Ideal.nD Cert.Kernel4Ideal.τ).loc Cert.Kernel4Ideal.main_v41_2)) (v21 : (c : Dev Cert.Kernel4Ideal.nD) → Buf (Elt Ideal) ((c.tc : Thread Cert.Kernel4Ideal.nD Cert.Kernel4Ideal.τ).loc Cert.Kernel4Ideal.main_v47)) (v22 : (c : Dev Cert.Kernel4Ideal.nD) → Buf (Elt Ideal) ((c.tc : Thread Cert.Kernel4Ideal.nD Cert.Kernel4Ideal.τ).loc Cert.Kernel4Ideal.main_v48)) (v23 : (c : Dev Cert.Kernel4Ideal.nD) → Buf (Elt Ideal) ((c.tc : Thread Cert.Kernel4Ideal.nD Cert.Kernel4Ideal.τ).loc Cert.Kernel4Ideal.main_v49)) (v24 : (c : Dev Cert.Kernel4Ideal.nD) → Buf (Elt Ideal) ((c.tc : Thread Cert.Kernel4Ideal.nD Cert.Kernel4Ideal.τ).loc Cert.Kernel4Ideal.main_v55)) (v25 : (c : Dev Cert.Kernel4Ideal.nD) → Buf (Elt Ideal) ((c.tc : Thread Cert.Kernel4Ideal.nD Cert.Kernel4Ideal.τ).loc Cert.Kernel4Ideal.main_v56)) (v26 : (c : Dev Cert.Kernel4Ideal.nD) → Buf (Elt Ideal) ((c.tc : Thread Cert.Kernel4Ideal.nD Cert.Kernel4Ideal.τ).loc Cert.Kernel4Ideal.main_v57)) (v27 : (c : Dev Cert.Kernel4Ideal.nD) → Buf (Elt Ideal) ((c.tc : Thread Cert.Kernel4Ideal.nD Cert.Kernel4Ideal.τ).loc Cert.Kernel4Ideal.main_v63)) (v28 : (c : Dev Cert.Kernel4Ideal.nD) → Buf (Elt Ideal) ((c.tc : Thread Cert.Kernel4Ideal.nD Cert.Kernel4Ideal.τ).loc Cert.Kernel4Ideal.main_v64)) (v29 : (c : Dev Cert.Kernel4Ideal.nD) → Buf (Elt Ideal) ((c.tc : Thread Cert.Kernel4Ideal.nD Cert.Kernel4Ideal.τ).loc Cert.Kernel4Ideal.main_v65)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_v7) = v2 c
          ∧ r.2.mem ((c.tc : Thread Cert.Kernel4Ideal.nD Cert.Kernel4Ideal.τ).loc Cert.Kernel4Ideal.main_v8_0) = v3 c
          ∧ r.2.mem ((c.tc : Thread Cert.Kernel4Ideal.nD Cert.Kernel4Ideal.τ).loc Cert.Kernel4Ideal.main_v8_1) = v4 c
          ∧ r.2.mem ((c.tc : Thread Cert.Kernel4Ideal.nD Cert.Kernel4Ideal.τ).loc Cert.Kernel4Ideal.main_v8_2) = v5 c
          ∧ r.2.mem ((c.tc : Thread Cert.Kernel4Ideal.nD Cert.Kernel4Ideal.τ).loc Cert.Kernel4Ideal.main_v14) = v6 c
          ∧ r.2.mem ((c.tc : Thread Cert.Kernel4Ideal.nD Cert.Kernel4Ideal.τ).loc Cert.Kernel4Ideal.main_v15) = v7 c
          ∧ r.2.mem ((c.tc : Thread Cert.Kernel4Ideal.nD Cert.Kernel4Ideal.τ).loc Cert.Kernel4Ideal.main_v16) = v8 c
          ∧ r.2.mem ((c.tc : Thread Cert.Kernel4Ideal.nD Cert.Kernel4Ideal.τ).loc Cert.Kernel4Ideal.main_v22) = v9 c
          ∧ r.2.mem ((c.tc : Thread Cert.Kernel4Ideal.nD Cert.Kernel4Ideal.τ).loc Cert.Kernel4Ideal.main_v23) = v10 c
          ∧ r.2.mem ((c.tc : Thread Cert.Kernel4Ideal.nD Cert.Kernel4Ideal.τ).loc Cert.Kernel4Ideal.main_v24) = v11 c
          ∧ r.2.mem ((c.tc : Thread Cert.Kernel4Ideal.nD Cert.Kernel4Ideal.τ).loc Cert.Kernel4Ideal.main_v30) = v12 c
          ∧ r.2.mem ((c.tc : Thread Cert.Kernel4Ideal.nD Cert.Kernel4Ideal.τ).loc Cert.Kernel4Ideal.main_v31) = v13 c
          ∧ r.2.mem ((c.tc : Thread Cert.Kernel4Ideal.nD Cert.Kernel4Ideal.τ).loc Cert.Kernel4Ideal.main_v32) = v14 c
          ∧ r.2.mem ((c.tc : Thread Cert.Kernel4Ideal.nD Cert.Kernel4Ideal.τ).loc Cert.Kernel4Ideal.main_v38) = v15 c
          ∧ r.2.mem ((c.tc : Thread Cert.Kernel4Ideal.nD Cert.Kernel4Ideal.τ).loc Cert.Kernel4Ideal.main_v39) = v16 c
          ∧ r.2.mem ((c.tc : Thread Cert.Kernel4Ideal.nD Cert.Kernel4Ideal.τ).loc Cert.Kernel4Ideal.main_v40) = v17 c
          ∧ r.2.mem ((c.tc : Thread Cert.Kernel4Ideal.nD Cert.Kernel4Ideal.τ).loc Cert.Kernel4Ideal.main_v41_0) = v18 c
          ∧ r.2.mem ((c.tc : Thread Cert.Kernel4Ideal.nD Cert.Kernel4Ideal.τ).loc Cert.Kernel4Ideal.main_v41_1) = v19 c
          ∧ r.2.mem ((c.tc : Thread Cert.Kernel4Ideal.nD Cert.Kernel4Ideal.τ).loc Cert.Kernel4Ideal.main_v41_2) = v20 c
          ∧ r.2.mem ((c.tc : Thread Cert.Kernel4Ideal.nD Cert.Kernel4Ideal.τ).loc Cert.Kernel4Ideal.main_v47) = v21 c
          ∧ r.2.mem ((c.tc : Thread Cert.Kernel4Ideal.nD Cert.Kernel4Ideal.τ).loc Cert.Kernel4Ideal.main_v48) = v22 c
          ∧ r.2.mem ((c.tc : Thread Cert.Kernel4Ideal.nD Cert.Kernel4Ideal.τ).loc Cert.Kernel4Ideal.main_v49) = v23 c
          ∧ r.2.mem ((c.tc : Thread Cert.Kernel4Ideal.nD Cert.Kernel4Ideal.τ).loc Cert.Kernel4Ideal.main_v55) = v24 c
          ∧ r.2.mem ((c.tc : Thread Cert.Kernel4Ideal.nD Cert.Kernel4Ideal.τ).loc Cert.Kernel4Ideal.main_v56) = v25 c
          ∧ r.2.mem ((c.tc : Thread Cert.Kernel4Ideal.nD Cert.Kernel4Ideal.τ).loc Cert.Kernel4Ideal.main_v57) = v26 c
          ∧ r.2.mem ((c.tc : Thread Cert.Kernel4Ideal.nD Cert.Kernel4Ideal.τ).loc Cert.Kernel4Ideal.main_v63) = v27 c
          ∧ r.2.mem ((c.tc : Thread Cert.Kernel4Ideal.nD Cert.Kernel4Ideal.τ).loc Cert.Kernel4Ideal.main_v64) = v28 c
          ∧ r.2.mem ((c.tc : Thread Cert.Kernel4Ideal.nD Cert.Kernel4Ideal.τ).loc Cert.Kernel4Ideal.main_v65) = v29 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
          ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
          ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
          ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
          ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27)
          ∧ r.2.mem ((c.tc : Thread Cert.Kernel4Ideal.nD Cert.Kernel4Ideal.τ).loc Cert.Kernel4Ideal.main_arg28) = m ((c.tc : Thread Cert.Kernel4Ideal.nD Cert.Kernel4Ideal.τ).loc Cert.Kernel4Ideal.main_arg28)
          ∧ r.2.mem ((c.tc : Thread Cert.Kernel4Ideal.nD Cert.Kernel4Ideal.τ).loc Cert.Kernel4Ideal.main_arg29) = m ((c.tc : Thread Cert.Kernel4Ideal.nD Cert.Kernel4Ideal.τ).loc Cert.Kernel4Ideal.main_arg29)
          ∧ r.2.mem ((c.tc : Thread Cert.Kernel4Ideal.nD Cert.Kernel4Ideal.τ).loc Cert.Kernel4Ideal.main_arg30) = m ((c.tc : Thread Cert.Kernel4Ideal.nD Cert.Kernel4Ideal.τ).loc Cert.Kernel4Ideal.main_arg30)
          ∧ r.2.mem ((c.tc : Thread Cert.Kernel4Ideal.nD Cert.Kernel4Ideal.τ).loc Cert.Kernel4Ideal.main_arg31) = m ((c.tc : Thread Cert.Kernel4Ideal.nD Cert.Kernel4Ideal.τ).loc Cert.Kernel4Ideal.main_arg31)
          ∧ r.2.mem ((c.tc : Thread Cert.Kernel4Ideal.nD Cert.Kernel4Ideal.τ).loc Cert.Kernel4Ideal.main_arg32) = m ((c.tc : Thread Cert.Kernel4Ideal.nD Cert.Kernel4Ideal.τ).loc Cert.Kernel4Ideal.main_arg32)
          ∧ r.2.mem ((c.tc : Thread Cert.Kernel4Ideal.nD Cert.Kernel4Ideal.τ).loc Cert.Kernel4Ideal.main_arg33) = m ((c.tc : Thread Cert.Kernel4Ideal.nD Cert.Kernel4Ideal.τ).loc Cert.Kernel4Ideal.main_arg33)
          ∧ r.2.mem ((c.tc : Thread Cert.Kernel4Ideal.nD Cert.Kernel4Ideal.τ).loc Cert.Kernel4Ideal.main_arg34) = m ((c.tc : Thread Cert.Kernel4Ideal.nD Cert.Kernel4Ideal.τ).loc Cert.Kernel4Ideal.main_arg34)
          ∧ r.2.mem ((c.tc : Thread Cert.Kernel4Ideal.nD Cert.Kernel4Ideal.τ).loc Cert.Kernel4Ideal.main_arg35) = m ((c.tc : Thread Cert.Kernel4Ideal.nD Cert.Kernel4Ideal.τ).loc Cert.Kernel4Ideal.main_arg35)
          ∧ r.2.mem ((c.tc : Thread Cert.Kernel4Ideal.nD Cert.Kernel4Ideal.τ).loc Cert.Kernel4Ideal.main_arg36) = m ((c.tc : Thread Cert.Kernel4Ideal.nD Cert.Kernel4Ideal.τ).loc Cert.Kernel4Ideal.main_arg36)
          ∧ r.2.mem ((c.tc : Thread Cert.Kernel4Ideal.nD Cert.Kernel4Ideal.τ).loc Cert.Kernel4Ideal.main_arg37) = m ((c.tc : Thread Cert.Kernel4Ideal.nD Cert.Kernel4Ideal.τ).loc Cert.Kernel4Ideal.main_arg37)
          ∧ r.2.mem ((c.tc : Thread Cert.Kernel4Ideal.nD Cert.Kernel4Ideal.τ).loc Cert.Kernel4Ideal.main_arg38) = m ((c.tc : Thread Cert.Kernel4Ideal.nD Cert.Kernel4Ideal.τ).loc Cert.Kernel4Ideal.main_arg38)
          ∧ r.2.mem ((c.tc : Thread Cert.Kernel4Ideal.nD Cert.Kernel4Ideal.τ).loc Cert.Kernel4Ideal.main_arg39) = m ((c.tc : Thread Cert.Kernel4Ideal.nD Cert.Kernel4Ideal.τ).loc Cert.Kernel4Ideal.main_arg39))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_v34) = v5 c
          ∧ r.2.mem ((c.tc : Thread Cert.Reference4Ideal.nD Cert.Reference4Ideal.τ).loc Cert.Reference4Ideal.main_v71) = v6 c
          ∧ r.2.mem ((c.tc : Thread Cert.Reference4Ideal.nD Cert.Reference4Ideal.τ).loc Cert.Reference4Ideal.main_v52) = v7 c
          ∧ r.2.mem ((c.tc : Thread Cert.Reference4Ideal.nD Cert.Reference4Ideal.τ).loc Cert.Reference4Ideal.main_v58) = v8 c
          ∧ r.2.mem ((c.tc : Thread Cert.Reference4Ideal.nD Cert.Reference4Ideal.τ).loc Cert.Reference4Ideal.main_v95) = v9 c
          ∧ r.2.mem ((c.tc : Thread Cert.Reference4Ideal.nD Cert.Reference4Ideal.τ).loc Cert.Reference4Ideal.main_v76) = v10 c
          ∧ r.2.mem ((c.tc : Thread Cert.Reference4Ideal.nD Cert.Reference4Ideal.τ).loc Cert.Reference4Ideal.main_v82) = v11 c
          ∧ r.2.mem ((c.tc : Thread Cert.Reference4Ideal.nD Cert.Reference4Ideal.τ).loc Cert.Reference4Ideal.main_v119) = v12 c
          ∧ r.2.mem ((c.tc : Thread Cert.Reference4Ideal.nD Cert.Reference4Ideal.τ).loc Cert.Reference4Ideal.main_v100) = v13 c
          ∧ r.2.mem ((c.tc : Thread Cert.Reference4Ideal.nD Cert.Reference4Ideal.τ).loc Cert.Reference4Ideal.main_v106) = v14 c
          ∧ r.2.mem ((c.tc : Thread Cert.Reference4Ideal.nD Cert.Reference4Ideal.τ).loc Cert.Reference4Ideal.main_v143) = v15 c
          ∧ r.2.mem ((c.tc : Thread Cert.Reference4Ideal.nD Cert.Reference4Ideal.τ).loc Cert.Reference4Ideal.main_v124) = v16 c
          ∧ r.2.mem ((c.tc : Thread Cert.Reference4Ideal.nD Cert.Reference4Ideal.τ).loc Cert.Reference4Ideal.main_v130) = v17 c
          ∧ r.2.mem ((c.tc : Thread Cert.Reference4Ideal.nD Cert.Reference4Ideal.τ).loc Cert.Reference4Ideal.main_v167) = v18 c
          ∧ r.2.mem ((c.tc : Thread Cert.Reference4Ideal.nD Cert.Reference4Ideal.τ).loc Cert.Reference4Ideal.main_v148) = v19 c
          ∧ r.2.mem ((c.tc : Thread Cert.Reference4Ideal.nD Cert.Reference4Ideal.τ).loc Cert.Reference4Ideal.main_v154) = v20 c
          ∧ r.2.mem ((c.tc : Thread Cert.Reference4Ideal.nD Cert.Reference4Ideal.τ).loc Cert.Reference4Ideal.main_v191) = v21 c
          ∧ r.2.mem ((c.tc : Thread Cert.Reference4Ideal.nD Cert.Reference4Ideal.τ).loc Cert.Reference4Ideal.main_v172) = v22 c
          ∧ r.2.mem ((c.tc : Thread Cert.Reference4Ideal.nD Cert.Reference4Ideal.τ).loc Cert.Reference4Ideal.main_v178) = v23 c
          ∧ r.2.mem ((c.tc : Thread Cert.Reference4Ideal.nD Cert.Reference4Ideal.τ).loc Cert.Reference4Ideal.main_v215) = v24 c
          ∧ r.2.mem ((c.tc : Thread Cert.Reference4Ideal.nD Cert.Reference4Ideal.τ).loc Cert.Reference4Ideal.main_v196) = v25 c
          ∧ r.2.mem ((c.tc : Thread Cert.Reference4Ideal.nD Cert.Reference4Ideal.τ).loc Cert.Reference4Ideal.main_v202) = v26 c
          ∧ r.2.mem ((c.tc : Thread Cert.Reference4Ideal.nD Cert.Reference4Ideal.τ).loc Cert.Reference4Ideal.main_v239) = v27 c
          ∧ r.2.mem ((c.tc : Thread Cert.Reference4Ideal.nD Cert.Reference4Ideal.τ).loc Cert.Reference4Ideal.main_v220) = v28 c
          ∧ r.2.mem ((c.tc : Thread Cert.Reference4Ideal.nD Cert.Reference4Ideal.τ).loc Cert.Reference4Ideal.main_v226) = v29 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23)
          ∧ r.2.mem ((c.tc : Thread Cert.Reference4Ideal.nD Cert.Reference4Ideal.τ).loc Cert.Reference4Ideal.main_arg24) = m' ((c.tc : Thread Cert.Reference4Ideal.nD Cert.Reference4Ideal.τ).loc Cert.Reference4Ideal.main_arg24)
          ∧ r.2.mem ((c.tc : Thread Cert.Reference4Ideal.nD Cert.Reference4Ideal.τ).loc Cert.Reference4Ideal.main_arg25) = m' ((c.tc : Thread Cert.Reference4Ideal.nD Cert.Reference4Ideal.τ).loc Cert.Reference4Ideal.main_arg25)
          ∧ r.2.mem ((c.tc : Thread Cert.Reference4Ideal.nD Cert.Reference4Ideal.τ).loc Cert.Reference4Ideal.main_arg26) = m' ((c.tc : Thread Cert.Reference4Ideal.nD Cert.Reference4Ideal.τ).loc Cert.Reference4Ideal.main_arg26)
          ∧ r.2.mem ((c.tc : Thread Cert.Reference4Ideal.nD Cert.Reference4Ideal.τ).loc Cert.Reference4Ideal.main_arg27) = m' ((c.tc : Thread Cert.Reference4Ideal.nD Cert.Reference4Ideal.τ).loc Cert.Reference4Ideal.main_arg27)
          ∧ r.2.mem ((c.tc : Thread Cert.Reference4Ideal.nD Cert.Reference4Ideal.τ).loc Cert.Reference4Ideal.main_arg28) = m' ((c.tc : Thread Cert.Reference4Ideal.nD Cert.Reference4Ideal.τ).loc Cert.Reference4Ideal.main_arg28)
          ∧ r.2.mem ((c.tc : Thread Cert.Reference4Ideal.nD Cert.Reference4Ideal.τ).loc Cert.Reference4Ideal.main_arg29) = m' ((c.tc : Thread Cert.Reference4Ideal.nD Cert.Reference4Ideal.τ).loc Cert.Reference4Ideal.main_arg29)
          ∧ r.2.mem ((c.tc : Thread Cert.Reference4Ideal.nD Cert.Reference4Ideal.τ).loc Cert.Reference4Ideal.main_arg30) = m' ((c.tc : Thread Cert.Reference4Ideal.nD Cert.Reference4Ideal.τ).loc Cert.Reference4Ideal.main_arg30)
          ∧ r.2.mem ((c.tc : Thread Cert.Reference4Ideal.nD Cert.Reference4Ideal.τ).loc Cert.Reference4Ideal.main_arg31) = m' ((c.tc : Thread Cert.Reference4Ideal.nD Cert.Reference4Ideal.τ).loc Cert.Reference4Ideal.main_arg31)
          ∧ r.2.mem ((c.tc : Thread Cert.Reference4Ideal.nD Cert.Reference4Ideal.τ).loc Cert.Reference4Ideal.main_arg32) = m' ((c.tc : Thread Cert.Reference4Ideal.nD Cert.Reference4Ideal.τ).loc Cert.Reference4Ideal.main_arg32)
          ∧ r.2.mem ((c.tc : Thread Cert.Reference4Ideal.nD Cert.Reference4Ideal.τ).loc Cert.Reference4Ideal.main_arg33) = m' ((c.tc : Thread Cert.Reference4Ideal.nD Cert.Reference4Ideal.τ).loc Cert.Reference4Ideal.main_arg33)
          ∧ r.2.mem ((c.tc : Thread Cert.Reference4Ideal.nD Cert.Reference4Ideal.τ).loc Cert.Reference4Ideal.main_arg34) = m' ((c.tc : Thread Cert.Reference4Ideal.nD Cert.Reference4Ideal.τ).loc Cert.Reference4Ideal.main_arg34)
          ∧ r.2.mem ((c.tc : Thread Cert.Reference4Ideal.nD Cert.Reference4Ideal.τ).loc Cert.Reference4Ideal.main_arg35) = m' ((c.tc : Thread Cert.Reference4Ideal.nD Cert.Reference4Ideal.τ).loc Cert.Reference4Ideal.main_arg35)
          ∧ r.2.mem ((c.tc : Thread Cert.Reference4Ideal.nD Cert.Reference4Ideal.τ).loc Cert.Reference4Ideal.main_arg36) = m' ((c.tc : Thread Cert.Reference4Ideal.nD Cert.Reference4Ideal.τ).loc Cert.Reference4Ideal.main_arg36)
          ∧ r.2.mem ((c.tc : Thread Cert.Reference4Ideal.nD Cert.Reference4Ideal.τ).loc Cert.Reference4Ideal.main_arg37) = m' ((c.tc : Thread Cert.Reference4Ideal.nD Cert.Reference4Ideal.τ).loc Cert.Reference4Ideal.main_arg37)
          ∧ r.2.mem ((c.tc : Thread Cert.Reference4Ideal.nD Cert.Reference4Ideal.τ).loc Cert.Reference4Ideal.main_arg38) = m' ((c.tc : Thread Cert.Reference4Ideal.nD Cert.Reference4Ideal.τ).loc Cert.Reference4Ideal.main_arg38)
          ∧ r.2.mem ((c.tc : Thread Cert.Reference4Ideal.nD Cert.Reference4Ideal.τ).loc Cert.Reference4Ideal.main_arg39) = m' ((c.tc : Thread Cert.Reference4Ideal.nD Cert.Reference4Ideal.τ).loc Cert.Reference4Ideal.main_arg39))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v145) = v0 c
          ∧ r.2.mem ((c.tc : Thread Cert.Reference6Ideal.nD Cert.Reference6Ideal.τ).loc Cert.Reference6Ideal.main_v89) = v1 c
          ∧ r.2.mem ((c.tc : Thread Cert.Reference6Ideal.nD Cert.Reference6Ideal.τ).loc Cert.Reference6Ideal.main_v83) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8192x1024 : Shape := ⟨2, ![8192, 1024]⟩
abbrev S1024 : Shape := ⟨1, ![1024]⟩
abbrev S1024x2048 : Shape := ⟨2, ![1024, 2048]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S2048x1024 : S_.BroadcastsInDim S2048x1024 (![] : Fin 0 → Fin S2048x1024.rank)

variable [Facts]

def fn_part1 {F : FTy → Type} [FloatOps F] (main_arg6 : FVec F S2048x1024 .f32) (main_v2 : IVec S8192x1024 1) (main_v5 : IVec S8192x1024 1) (main_v8 : IVec S1024 1) (main_v11 : IVec S1024 1) (main_v14 : IVec S1024x2048 1) (main_v17 : IVec S1024x2048 1) : IVec S8192x1024 1 × IVec S8192x1024 1 × IVec S1024 1 × IVec S1024 1 × IVec S1024x2048 1 × IVec S1024x2048 1 × IVec S2048x1024 1 :=
  let main_v18 : FVec F S2048x1024 .f32 := Host.absf main_arg6
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1024 .f32) (main_arg3 : FVec F S1024 .f32) (main_arg4 : FVec F S1024x2048 .f32) (main_arg5 : FVec F S1024x2048 .f32) (main_arg6 : FVec F S2048x1024 .f32) : IVec S8192x1024 1 × IVec S8192x1024 1 × IVec S1024 1 × IVec S1024 1 × IVec S1024x2048 1 × IVec S1024x2048 1 × IVec S2048x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x2048 .f32 := Host.absf main_arg4
  let main_cst_3 : FVec F S_ .f32 := constant S_ .f32 0x7F800000#32
  let main_v13 : FVec F S1024x2048 .f32 := broadcastInDim S1024x2048 ![] bcast_S_S1024x2048 main_cst_3
  let main_v14 : IVec S1024x2048 1 := cmpf .olt main_v12 main_v13
  let main_v15 : FVec F S1024x2048 .f32 := Host.absf main_arg5
  let main_cst_4 : FVec F S_ .f32 := constant S_ .f32 0x7F800000#32
  let main_v16 : FVec F S1024x2048 .f32 := broadcastInDim S1024x2048 ![] bcast_S_S1024x2048 main_cst_4
  let main_v17 : IVec S1024x2048 1 := cmpf .olt main_v15 main_v16
  fn_part1 (F := F) main_arg6 main_v2 main_v5 main_v8 main_v11 main_v14 main_v17
-- ==== Pre_finite2.lean ====
abbrev S8192x1024 : Shape := ⟨2, ![8192, 1024]⟩
abbrev S8192x512 : Shape := ⟨2, ![8192, 512]⟩
abbrev S8192x1536 : Shape := ⟨2, ![8192, 1536]⟩
abbrev S256x1024 : Shape := ⟨2, ![256, 1024]⟩
abbrev S1024 : Shape := ⟨1, ![1024]⟩
abbrev S1024x1792 : Shape := ⟨2, ![1024, 1792]⟩
abbrev S1024x512 : Shape := ⟨2, ![1024, 512]⟩
abbrev S768x1024 : Shape := ⟨2, ![768, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8192x1536 : S_.BroadcastsInDim S8192x1536 (![] : Fin 0 → Fin S8192x1536.rank)
  bcast_S_S256x1024 : S_.BroadcastsInDim S256x1024 (![] : Fin 0 → Fin S256x1024.rank)
  bcast_S_S1024 : S_.BroadcastsInDim S1024 (![] : Fin 0 → Fin S1024.rank)
  bcast_S_S1024x1792 : S_.BroadcastsInDim S1024x1792 (![] : Fin 0 → Fin S1024x1792.rank)
  bcast_S_S1024x512 : S_.BroadcastsInDim S1024x512 (![] : Fin 0 → Fin S1024x512.rank)
  bcast_S_S768x1024 : S_.BroadcastsInDim S768x1024 (![] : Fin 0 → Fin S768x1024.rank)

variable [Facts]

def fn_part1 {F : FTy → Type} [FloatOps F] (main_arg6 : FVec F S1024 .f32) (main_arg7 : FVec F S1024 .f32) (main_arg8 : FVec F S1024x1792 .f32) (main_arg9 : FVec F S1024x512 .f32) (main_arg10 : FVec F S768x1024 .f32) (main_v2 : IVec S8192x1024 1) (main_v5 : IVec S8192x512 1) (main_v8 : IVec S8192x1024 1) (main_v11 : IVec S8192x1536 1) (main_v14 : IVec S256x1024 1) (main_v17 : IVec S1024 1) : IVec S8192x1024 1 × IVec S8192x512 1 × IVec S8192x1024 1 × IVec S8192x1536 1 × IVec S256x1024 1 × IVec S1024 1 × IVec S1024 1 × IVec S1024 1 × IVec S1024x1792 1 × IVec S1024x512 1 × IVec S768x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024x1792 .f32 := Host.absf main_arg8
  let main_cst_7 : FVec F S_ .f32 := constant S_ .f32 0x7F800000#32
  let main_v25 : FVec F S1024x1792 .f32 := broadcastInDim S1024x1792 ![] bcast_S_S1024x1792 main_cst_7
  let main_v26 : IVec S1024x1792 1 := cmpf .olt main_v24 main_v25
  let main_v27 : FVec F S1024x512 .f32 := Host.absf main_arg9
  let main_cst_8 : FVec F S_ .f32 := constant S_ .f32 0x7F800000#32
  let main_v28 : FVec F S1024x512 .f32 := broadcastInDim S1024x512 ![] bcast_S_S1024x512 main_cst_8
  let main_v29 : IVec S1024x512 1 := cmpf .olt main_v27 main_v28
  let main_v30 : FVec F S768x1024 .f32 := Host.absf main_arg10
  let main_cst_9 : FVec F S_ .f32 := constant S_ .f32 0x7F800000#32
  let main_v31 : FVec F S768x1024 .f32 := broadcastInDim S768x1024 ![] bcast_S_S768x1024 main_cst_9
  let main_v32 : IVec S768x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x512 .f32) (main_arg2 : FVec F S8192x1024 .f32) (main_arg3 : FVec F S8192x1536 .f32) (main_arg4 : FVec F S256x1024 .f32) (main_arg5 : FVec F S1024 .f32) (main_arg6 : FVec F S1024 .f32) (main_arg7 : FVec F S1024 .f32) (main_arg8 : FVec F S1024x1792 .f32) (main_arg9 : FVec F S1024x512 .f32) (main_arg10 : FVec F S768x1024 .f32) : IVec S8192x1024 1 × IVec S8192x512 1 × IVec S8192x1024 1 × IVec S8192x1536 1 × IVec S256x1024 1 × IVec S1024 1 × IVec S1024 1 × IVec S1024 1 × IVec S1024x1792 1 × IVec S1024x512 1 × IVec S768x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1536 .f32 := Host.absf main_arg3
  let main_cst_2 : FVec F S_ .f32 := constant S_ .f32 0x7F800000#32
  let main_v10 : FVec F S8192x1536 .f32 := broadcastInDim S8192x1536 ![] bcast_S_S8192x1536 main_cst_2
  let main_v11 : IVec S8192x1536 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_arg10 main_v2 main_v5 main_v8 main_v11 main_v14 main_v17
-- ==== Pre_finite3.lean ====
abbrev S8192x1024 : Shape := ⟨2, ![8192, 1024]⟩
abbrev S8192x512 : Shape := ⟨2, ![8192, 512]⟩
abbrev S256x1024 : Shape := ⟨2, ![256, 1024]⟩
abbrev S1024 : Shape := ⟨1, ![1024]⟩
abbrev S1024x768 : Shape := ⟨2, ![1024, 768]⟩
abbrev S1024x512 : Shape := ⟨2, ![1024, 512]⟩
abbrev S768x1024 : Shape := ⟨2, ![768, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S256x1024 : S_.BroadcastsInDim S256x1024 (![] : Fin 0 → Fin S256x1024.rank)
  bcast_S_S1024 : S_.BroadcastsInDim S1024 (![] : Fin 0 → Fin S1024.rank)
  bcast_S_S1024x768 : S_.BroadcastsInDim S1024x768 (![] : Fin 0 → Fin S1024x768.rank)
  bcast_S_S1024x512 : S_.BroadcastsInDim S1024x512 (![] : Fin 0 → Fin S1024x512.rank)
  bcast_S_S768x1024 : S_.BroadcastsInDim S768x1024 (![] : Fin 0 → Fin S768x1024.rank)

variable [Facts]

def fn_part1 {F : FTy → Type} [FloatOps F] (main_arg6 : FVec F S1024 .f32) (main_arg7 : FVec F S1024 .f32) (main_arg8 : FVec F S1024x768 .f32) (main_arg9 : FVec F S1024x512 .f32) (main_arg10 : FVec F S768x1024 .f32) (main_v2 : IVec S8192x1024 1) (main_v5 : IVec S8192x512 1) (main_v8 : IVec S8192x1024 1) (main_v11 : IVec S8192x512 1) (main_v14 : IVec S256x1024 1) (main_v17 : IVec S1024 1) : IVec S8192x1024 1 × IVec S8192x512 1 × IVec S8192x1024 1 × IVec S8192x512 1 × IVec S256x1024 1 × IVec S1024 1 × IVec S1024 1 × IVec S1024 1 × IVec S1024x768 1 × IVec S1024x512 1 × IVec S768x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024x768 .f32 := Host.absf main_arg8
  let main_cst_7 : FVec F S_ .f32 := constant S_ .f32 0x7F800000#32
  let main_v25 : FVec F S1024x768 .f32 := broadcastInDim S1024x768 ![] bcast_S_S1024x768 main_cst_7
  let main_v26 : IVec S1024x768 1 := cmpf .olt main_v24 main_v25
  let main_v27 : FVec F S1024x512 .f32 := Host.absf main_arg9
  let main_cst_8 : FVec F S_ .f32 := constant S_ .f32 0x7F800000#32
  let main_v28 : FVec F S1024x512 .f32 := broadcastInDim S1024x512 ![] bcast_S_S1024x512 main_cst_8
  let main_v29 : IVec S1024x512 1 := cmpf .olt main_v27 main_v28
  let main_v30 : FVec F S768x1024 .f32 := Host.absf main_arg10
  let main_cst_9 : FVec F S_ .f32 := constant S_ .f32 0x7F800000#32
  let main_v31 : FVec F S768x1024 .f32 := broadcastInDim S768x1024 ![] bcast_S_S768x1024 main_cst_9
  let main_v32 : IVec S768x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x512 .f32) (main_arg2 : FVec F S8192x1024 .f32) (main_arg3 : FVec F S8192x512 .f32) (main_arg4 : FVec F S256x1024 .f32) (main_arg5 : FVec F S1024 .f32) (main_arg6 : FVec F S1024 .f32) (main_arg7 : FVec F S1024 .f32) (main_arg8 : FVec F S1024x768 .f32) (main_arg9 : FVec F S1024x512 .f32) (main_arg10 : FVec F S768x1024 .f32) : IVec S8192x1024 1 × IVec S8192x512 1 × IVec S8192x1024 1 × IVec S8192x512 1 × IVec S256x1024 1 × IVec S1024 1 × IVec S1024 1 × IVec S1024 1 × IVec S1024x768 1 × IVec S1024x512 1 × IVec S768x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_arg10 main_v2 main_v5 main_v8 main_v11 main_v14 main_v17
-- ==== Pre_finite6.lean ====
abbrev S8192x768 : Shape := ⟨2, ![8192, 768]⟩
abbrev S8192x512 : Shape := ⟨2, ![8192, 512]⟩
abbrev S4x128x128 : Shape := ⟨3, ![4, 128, 128]⟩
abbrev S512 : Shape := ⟨1, ![512]⟩
abbrev S_ : Shape := ⟨0, ![]⟩

class Facts : Prop where
  bcast_S_S8192x768 : S_.BroadcastsInDim S8192x768 (![] : Fin 0 → Fin S8192x768.rank)
  bcast_S_S8192x512 : S_.BroadcastsInDim S8192x512 (![] : Fin 0 → Fin S8192x512.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S8192x768 .f32) (main_arg1 : FVec F S8192x512 .f32) (main_arg2 : FVec F S4x128x128 .f32) (main_arg3 : FVec F S512 .f32) : IVec S8192x768 1 × IVec S8192x512 1 × IVec S4x128x128 1 × IVec S512 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  (main_v2, main_v5, main_v8, main_v11)
-- ==== Kernel.lean ====
abbrev S8192x1024 : Shape := ⟨2, ![8192, 1024]⟩
abbrev S1024 : Shape := ⟨1, ![1024]⟩
abbrev S1024x2048 : Shape := ⟨2, ![1024, 2048]⟩
abbrev S2048x1024 : Shape := ⟨2, ![2048, 1024]⟩
abbrev S1x1024 : Shape := ⟨2, ![1, 1024]⟩
abbrev S1024x4x512 : Shape := ⟨3, ![1024, 4, 512]⟩
abbrev S4x1024x512 : Shape := ⟨3, ![4, 1024, 512]⟩
abbrev S4x512x1024 : Shape := ⟨3, ![4, 512, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x1024 : Shape := ⟨2, ![1024, 1024]⟩
abbrev S2048x512 : Shape := ⟨2, ![2048, 512]⟩

abbrev nBuf : Space → Nat
  | .hbm => 38
  | .vmem => 59
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S1024x2048, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S1024x2048, .bf16⟩
  | .hbm, ⟨10, _⟩ => ⟨S1024x4x512, .bf16⟩
  | .hbm, ⟨11, _⟩ => ⟨S4x1024x512, .bf16⟩
  | .hbm, ⟨12, _⟩ => ⟨S1024x2048, .bf16⟩
  | .hbm, ⟨13, _⟩ => ⟨S1024x4x512, .bf16⟩
  | .hbm, ⟨14, _⟩ => ⟨S4x1024x512, .bf16⟩
  | .hbm, ⟨15, _⟩ => ⟨S2048x1024, .bf16⟩
  | .hbm, ⟨16, _⟩ => ⟨S4x512x1024, .bf16⟩
  | .hbm, ⟨17, _⟩ => ⟨S8192x1024, .f32⟩
  | .hbm, ⟨18, _⟩ => ⟨S8192x2048, .bf16⟩
  | .hbm, ⟨19, _⟩ => ⟨S8192x2048, .bf16⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x2048, .bf16⟩
  | .hbm, ⟨24, _⟩ => ⟨S8192x2048, .bf16⟩
  | .hbm, ⟨25, _⟩ => ⟨S8192x2048, .bf16⟩
  | .hbm, ⟨26, _⟩ => ⟨S8192x1024, .bf16⟩
  | .hbm, ⟨27, _⟩ => ⟨S1x1024, .f32⟩
  | .hbm, ⟨28, _⟩ => ⟨S1x1024, .f32⟩
  | .hbm, ⟨29, _⟩ => ⟨S4x1024x512, .f32⟩
  | .hbm, ⟨30, _⟩ => ⟨S4x1024x512, .f32⟩
  | .hbm, ⟨31, _⟩ => ⟨S2048x1024, .f32⟩
  | .hbm, ⟨32, _⟩ => ⟨S1024, .f32⟩
  | .hbm, ⟨33, _⟩ => ⟨S1024, .f32⟩
  | .hbm, ⟨34, _⟩ => ⟨S1024x4x512, .f32⟩
  | .hbm, ⟨35, _⟩ => ⟨S1024x2048, .f32⟩
  | .hbm, ⟨36, _⟩ => ⟨S1024x4x512, .f32⟩
  | .hbm, ⟨37, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x512, .bf16⟩
  | .local _ .vmem, ⟨5, _⟩ => ⟨S4x1024x512, .bf16⟩
  | .local _ .vmem, ⟨6, _⟩ => ⟨S4x512x1024, .bf16⟩
  | .local _ .vmem, ⟨7, _⟩ => ⟨S512x1024, .f32⟩
  | .local _ .vmem, ⟨8, _⟩ => ⟨S512x1024, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .f32⟩
  | .local _ .vmem, ⟨14, _⟩ => ⟨S512x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S1x1024, .f32⟩
  | .local _ .vmem, ⟨27, _⟩ => ⟨S4x1024x512, .bf16⟩
  | .local _ .vmem, ⟨28, _⟩ => ⟨S4x1024x512, .bf16⟩
  | .local _ .vmem, ⟨29, _⟩ => ⟨S4x512x1024, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S256x2048, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S256x2048, .bf16⟩
  | .local _ .vmem, ⟨39, _⟩ => ⟨S256x2048, .bf16⟩
  | .local _ .vmem, ⟨40, _⟩ => ⟨S256x1024, .bf16⟩
  | .local _ .vmem, ⟨41, _⟩ => ⟨S256x1024, .bf16⟩
  | .local _ .vmem, ⟨42, _⟩ => ⟨S1x1024, .f32⟩
  | .local _ .vmem, ⟨43, _⟩ => ⟨S1x1024, .f32⟩
  | .local _ .vmem, ⟨44, _⟩ => ⟨S1024x1024, .bf16⟩
  | .local _ .vmem, ⟨45, _⟩ => ⟨S1024x1024, .bf16⟩
  | .local _ .vmem, ⟨46, _⟩ => ⟨S1024x2048, .bf16⟩
  | .local _ .vmem, ⟨47, _⟩ => ⟨S1024x2048, .bf16⟩
  | .local _ .vmem, ⟨48, _⟩ => ⟨S4x1024x512, .f32⟩
  | .local _ .vmem, ⟨49, _⟩ => ⟨S1024x1024, .bf16⟩
  | .local _ .vmem, ⟨50, _⟩ => ⟨S1024x1024, .bf16⟩
  | .local _ .vmem, ⟨51, _⟩ => ⟨S1024x2048, .bf16⟩
  | .local _ .vmem, ⟨52, _⟩ => ⟨S1024x2048, .bf16⟩
  | .local _ .vmem, ⟨53, _⟩ => ⟨S4x1024x512, .f32⟩
  | .local _ .vmem, ⟨54, _⟩ => ⟨S1024x2048, .bf16⟩
  | .local _ .vmem, ⟨55, _⟩ => ⟨S1024x2048, .bf16⟩
  | .local _ .vmem, ⟨56, _⟩ => ⟨S1024x1024, .bf16⟩
  | .local _ .vmem, ⟨57, _⟩ => ⟨S1024x1024, .bf16⟩
  | .local _ .vmem, ⟨58, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc1_stg15_1 : Ref sig .tc := ⟨.vmem, 41, rfl⟩
abbrev cc1_stg16_0 : Ref sig .tc := ⟨.vmem, 42, rfl⟩
abbrev cc1_stg17_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc3_stg0_0 : Ref sig .tc := ⟨.vmem, 49, rfl⟩
abbrev cc3_stg0_1 : Ref sig .tc := ⟨.vmem, 50, rfl⟩
abbrev cc3_stg1_0 : Ref sig .tc := ⟨.vmem, 51, rfl⟩
abbrev cc3_stg1_1 : Ref sig .tc := ⟨.vmem, 52, rfl⟩
abbrev cc3_stg2_0 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc1_sem13_1 : DmaSem sig := 37
abbrev cc1_sem14_0 : DmaSem sig := 38
abbrev cc1_sem14_1 : DmaSem sig := 39
abbrev cc1_sem15_0 : DmaSem sig := 40
abbrev cc1_sem15_1 : DmaSem sig := 41
abbrev cc1_sem16_0 : DmaSem sig := 42
abbrev cc1_sem17_0 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc3_sem0_0 : DmaSem sig := 49
abbrev cc3_sem0_1 : DmaSem sig := 50
abbrev cc3_sem1_0 : DmaSem sig := 51
abbrev cc3_sem1_1 : DmaSem sig := 52
abbrev cc3_sem2_0 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x1024x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x1024x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x512x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x2048 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x2048 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1024x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4x1024x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2048x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]
-- ==== ReferenceIdeal.lean ====
abbrev S8192x1024 : Shape := ⟨2, ![8192, 1024]⟩
abbrev S1024 : Shape := ⟨1, ![1024]⟩
abbrev S1024x2048 : Shape := ⟨2, ![1024, 2048]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024x2048, .f32⟩
  | 5 => ⟨S1024x2048, .f32⟩
  | 6 => ⟨S2048x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x2048, .f32⟩
  | 28 => ⟨S8192x2048, .f32⟩
  | 29 => ⟨S8192x2048, .f32⟩
  | 30 => ⟨S_, .f32⟩
  | 31 => ⟨S8192x2048, .f32⟩
  | 32 => ⟨S8192x2048, .f32⟩
  | 33 => ⟨S_, .f32⟩
  | 34 => ⟨S8192x2048, .f32⟩
  | 35 => ⟨S8192x2048, .f32⟩
  | 36 => ⟨S_, .f32⟩
  | 37 => ⟨S8192x2048, .f32⟩
  | 38 => ⟨S8192x2048, .f32⟩
  | 39 => ⟨S8192x2048, .f32⟩
  | 40 => ⟨S8192x2048, .f32⟩
  | 41 => ⟨S8192x2048, .f32⟩
  | 42 => ⟨S8192x2048, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S8192x1024, .f32⟩
  | 78 => ⟨S_, .f32⟩
  | 79 => ⟨S1024, .f32⟩
  | 80 => ⟨S8192x1024, .f32⟩
  | 81 => ⟨S_, .f32⟩
  | 82 => ⟨S8192, .f32⟩
  | 83 => ⟨S8192x1, .f32⟩
  | 84 => ⟨S8192x1024, .f32⟩
  | 85 => ⟨S8192x1024, .f32⟩
  | 86 => ⟨S8192x1, .f32⟩
  | 87 => ⟨S_, .f32⟩
  | 88 => ⟨S8192x1, .f32⟩
  | 89 => ⟨S8192x1, .f32⟩
  | 90 => ⟨S_, .f32⟩
  | 91 => ⟨S8192, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S1024x2048, .f32⟩
  | 98 => ⟨S2048x1024, .f32⟩
  | 99 => ⟨S8192x2048, .f32⟩
  | 100 => ⟨S8192x2048, .f32⟩
  | 101 => ⟨S8192x2048, .f32⟩
  | 102 => ⟨S2048x1024, .f32⟩
  | 103 => ⟨S1024x2048, .f32⟩
  | 104 => ⟨S8192x1024, .f32⟩
  | 105 => ⟨S8192x2048, .f32⟩
  | 106 => ⟨S8192x2048, .f32⟩
  | 107 => ⟨S8192x2048, .f32⟩
  | 108 => ⟨S8192x2048, .f32⟩
  | 109 => ⟨S2048x1024, .f32⟩
  | 110 => ⟨S1024x2048, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S8192x1536 : Shape := ⟨2, ![8192, 1536]⟩
abbrev S256x1024 : Shape := ⟨2, ![256, 1024]⟩
abbrev S1024 : Shape := ⟨1, ![1024]⟩
abbrev S1024x1792 : Shape := ⟨2, ![1024, 1792]⟩
abbrev S1024x512 : Shape := ⟨2, ![1024, 512]⟩
abbrev S768x1024 : Shape := ⟨2, ![768, 1024]⟩
abbrev S1x1024 : Shape := ⟨2, ![1, 1024]⟩
abbrev S1x1024x1792 : Shape := ⟨3, ![1, 1024, 1792]⟩
abbrev S4x256x512 : Shape := ⟨3, ![4, 256, 512]⟩
abbrev S768x4x256 : Shape := ⟨3, ![768, 4, 256]⟩
abbrev S4x768x256 : Shape := ⟨3, ![4, 768, 256]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x256x512 : Shape := ⟨3, ![1, 256, 512]⟩
abbrev S8192x1792 : Shape := ⟨2, ![8192, 1792]⟩
abbrev S256x1792 : Shape := ⟨2, ![256, 1792]⟩
abbrev S8192x768 : Shape := ⟨2, ![8192, 768]⟩
abbrev S256x768 : Shape := ⟨2, ![256, 768]⟩
abbrev S256x128 : Shape := ⟨2, ![256, 128]⟩
abbrev S1x768x256 : Shape := ⟨3, ![1, 768, 256]⟩
abbrev S768x256 : Shape := ⟨2, ![768, 256]⟩
abbrev S8192x256 : Shape := ⟨2, ![8192, 256]⟩
abbrev S1024x768 : Shape := ⟨2, ![1024, 768]⟩
abbrev S1024x1024 : Shape := ⟨2, ![1024, 1024]⟩
abbrev S1024x256 : Shape := ⟨2, ![1024, 256]⟩
abbrev S1x1024x512 : Shape := ⟨3, ![1, 1024, 512]⟩
abbrev S1x1024x256 : Shape := ⟨3, ![1, 1024, 256]⟩

abbrev nBuf : Space → Nat
  | .hbm => 49
  | .vmem => 79
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x1536, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1792, .f32⟩
  | .hbm, ⟨9, _⟩ => ⟨S1024x512, .f32⟩
  | .hbm, ⟨10, _⟩ => ⟨S768x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1792, .bf16⟩
  | .hbm, ⟨15, _⟩ => ⟨S1x1024x1792, .bf16⟩
  | .hbm, ⟨16, _⟩ => ⟨S1024x512, .bf16⟩
  | .hbm, ⟨17, _⟩ => ⟨S4x256x512, .bf16⟩
  | .hbm, ⟨18, _⟩ => ⟨S768x1024, .bf16⟩
  | .hbm, ⟨19, _⟩ => ⟨S768x4x256, .bf16⟩
  | .hbm, ⟨20, _⟩ => ⟨S4x768x256, .bf16⟩
  | .hbm, ⟨21, _⟩ => ⟨S256x512, .bf16⟩
  | .hbm, ⟨22, _⟩ => ⟨S8192x1024, .bf16⟩
  | .hbm, ⟨23, _⟩ => ⟨S8192x1792, .bf16⟩
  | .hbm, ⟨24, _⟩ => ⟨S8192x1024, .f32⟩
  | .hbm, ⟨25, _⟩ => ⟨S8192x768, .bf16⟩
  | .hbm, ⟨26, _⟩ => ⟨S8192x1024, .f32⟩
  | .hbm, ⟨27, _⟩ => ⟨S8192x1024, .bf16⟩
  | .hbm, ⟨28, _⟩ => ⟨S8192x512, .f32⟩
  | .hbm, ⟨29, _⟩ => ⟨S8192x256, .bf16⟩
  | .hbm, ⟨30, _⟩ => ⟨S256x512, .f32⟩
  | .hbm, ⟨31, _⟩ => ⟨S1x1024, .f32⟩
  | .hbm, ⟨32, _⟩ => ⟨S4x768x256, .f32⟩
  | .hbm, ⟨33, _⟩ => ⟨S1024x512, .f32⟩
  | .hbm, ⟨34, _⟩ => ⟨S1x1024, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1792, .bf16⟩
  | .hbm, ⟨40, _⟩ => ⟨S1x1024, .f32⟩
  | .hbm, ⟨41, _⟩ => ⟨S1024x1792, .f32⟩
  | .hbm, ⟨42, _⟩ => ⟨S8192x1536, .bf16⟩
  | .hbm, ⟨43, _⟩ => ⟨S8192x1536, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S768x4x256, .f32⟩
  | .hbm, ⟨48, _⟩ => ⟨S768x1024, .f32⟩
  | .local _ .vmem, ⟨0, _⟩ => ⟨S256x1024, .f32⟩
  | .local _ .vmem, ⟨1, _⟩ => ⟨S1x1024, .f32⟩
  | .local _ .vmem, ⟨2, _⟩ => ⟨S4x256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024x1792, .bf16⟩
  | .local _ .vmem, ⟨8, _⟩ => ⟨S256x1024, .bf16⟩
  | .local _ .vmem, ⟨9, _⟩ => ⟨S256x1024, .bf16⟩
  | .local _ .vmem, ⟨10, _⟩ => ⟨S256x1792, .bf16⟩
  | .local _ .vmem, ⟨11, _⟩ => ⟨S256x1792, .bf16⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x256, .bf16⟩
  | .local _ .vmem, ⟨17, _⟩ => ⟨S256x256, .bf16⟩
  | .local _ .vmem, ⟨18, _⟩ => ⟨S256x512, .bf16⟩
  | .local _ .vmem, ⟨19, _⟩ => ⟨S4x768x256, .bf16⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x768, .bf16⟩
  | .local _ .vmem, ⟨24, _⟩ => ⟨S256x768, .bf16⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x256, .bf16⟩
  | .local _ .vmem, ⟨32, _⟩ => ⟨S256x256, .bf16⟩
  | .local _ .vmem, ⟨33, _⟩ => ⟨S256x512, .bf16⟩
  | .local _ .vmem, ⟨34, _⟩ => ⟨S4x768x256, .bf16⟩
  | .local _ .vmem, ⟨35, _⟩ => ⟨S1x1024, .f32⟩
  | .local _ .vmem, ⟨36, _⟩ => ⟨S256x1024, .bf16⟩
  | .local _ .vmem, ⟨37, _⟩ => ⟨S256x1024, .bf16⟩
  | .local _ .vmem, ⟨38, _⟩ => ⟨S256x512, .f32⟩
  | .local _ .vmem, ⟨39, _⟩ => ⟨S256x512, .f32⟩
  | .local _ .vmem, ⟨40, _⟩ => ⟨S256x256, .bf16⟩
  | .local _ .vmem, ⟨41, _⟩ => ⟨S256x256, .bf16⟩
  | .local _ .vmem, ⟨42, _⟩ => ⟨S256x512, .f32⟩
  | .local _ .vmem, ⟨43, _⟩ => ⟨S1x1024, .f32⟩
  | .local _ .vmem, ⟨44, _⟩ => ⟨S1024x768, .bf16⟩
  | .local _ .vmem, ⟨45, _⟩ => ⟨S1024x768, .bf16⟩
  | .local _ .vmem, ⟨46, _⟩ => ⟨S1024x1024, .bf16⟩
  | .local _ .vmem, ⟨47, _⟩ => ⟨S1024x1024, .bf16⟩
  | .local _ .vmem, ⟨48, _⟩ => ⟨S4x768x256, .f32⟩
  | .local _ .vmem, ⟨49, _⟩ => ⟨S256x1024, .f32⟩
  | .local _ .vmem, ⟨50, _⟩ => ⟨S1x1024, .f32⟩
  | .local _ .vmem, ⟨51, _⟩ => ⟨S4x256x512, .bf16⟩
  | .local _ .vmem, ⟨52, _⟩ => ⟨S256x512, .f32⟩
  | .local _ .vmem, ⟨53, _⟩ => ⟨S1024x512, .f32⟩
  | .local _ .vmem, ⟨54, _⟩ => ⟨S1x1024, .f32⟩
  | .local _ .vmem, ⟨55, _⟩ => ⟨S256x1024, .f32⟩
  | .local _ .vmem, ⟨56, _⟩ => ⟨S256x1024, .f32⟩
  | .local _ .vmem, ⟨57, _⟩ => ⟨S256x1024, .f32⟩
  | .local _ .vmem, ⟨58, _⟩ => ⟨S256x1024, .f32⟩
  | .local _ .vmem, ⟨59, _⟩ => ⟨S1x1024, .f32⟩
  | .local _ .vmem, ⟨60, _⟩ => ⟨S1x1024x1792, .bf16⟩
  | .local _ .vmem, ⟨61, _⟩ => ⟨S256x512, .f32⟩
  | .local _ .vmem, ⟨62, _⟩ => ⟨S256x512, .f32⟩
  | .local _ .vmem, ⟨63, _⟩ => ⟨S256x512, .f32⟩
  | .local _ .vmem, ⟨64, _⟩ => ⟨S256x512, .f32⟩
  | .local _ .vmem, ⟨65, _⟩ => ⟨S256x512, .f32⟩
  | .local _ .vmem, ⟨66, _⟩ => ⟨S256x512, .f32⟩
  | .local _ .vmem, ⟨67, _⟩ => ⟨S256x256, .bf16⟩
  | .local _ .vmem, ⟨68, _⟩ => ⟨S256x256, .bf16⟩
  | .local _ .vmem, ⟨69, _⟩ => ⟨S256x1024, .f32⟩
  | .local _ .vmem, ⟨70, _⟩ => ⟨S256x1024, .f32⟩
  | .local _ .vmem, ⟨71, _⟩ => ⟨S256x1792, .bf16⟩
  | .local _ .vmem, ⟨72, _⟩ => ⟨S256x1792, .bf16⟩
  | .local _ .vmem, ⟨73, _⟩ => ⟨S1x1024, .f32⟩
  | .local _ .vmem, ⟨74, _⟩ => ⟨S1024x1024, .bf16⟩
  | .local _ .vmem, ⟨75, _⟩ => ⟨S1024x1024, .bf16⟩
  | .local _ .vmem, ⟨76, _⟩ => ⟨S1024x1792, .bf16⟩
  | .local _ .vmem, ⟨77, _⟩ => ⟨S1024x1792, .bf16⟩
  | .local _ .vmem, ⟨78, _⟩ => ⟨S1024x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg10_0 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc5_stg0_0 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg1_1 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg4_1 : Ref sig .tc := ⟨.vmem, 62, rfl⟩
abbrev cc6_stg5_0 : Ref sig .tc := ⟨.vmem, 63, rfl⟩
abbrev cc6_stg5_1 : Ref sig .tc := ⟨.vmem, 64, rfl⟩
abbrev cc6_stg6_0 : Ref sig .tc := ⟨.vmem, 65, rfl⟩
abbrev cc6_stg6_1 : Ref sig .tc := ⟨.vmem, 66, rfl⟩
abbrev cc6_stg7_0 : Ref sig .tc := ⟨.vmem, 67, rfl⟩
abbrev cc6_stg7_1 : Ref sig .tc := ⟨.vmem, 68, rfl⟩
abbrev cc6_stg8_0 : Ref sig .tc := ⟨.vmem, 69, rfl⟩
abbrev cc6_stg8_1 : Ref sig .tc := ⟨.vmem, 70, rfl⟩
abbrev cc6_stg9_0 : Ref sig .tc := ⟨.vmem, 71, rfl⟩
abbrev cc6_stg9_1 : Ref sig .tc := ⟨.vmem, 72, rfl⟩
abbrev cc6_stg10_0 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc3_sem7_0 : DmaSem sig := 38
abbrev cc3_sem7_1 : DmaSem sig := 39
abbrev cc3_sem8_0 : DmaSem sig := 40
abbrev cc3_sem8_1 : DmaSem sig := 41
abbrev cc3_sem9_0 : DmaSem sig := 42
abbrev cc3_sem10_0 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc5_sem0_0 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc6_sem0_0 : DmaSem sig := 55
abbrev cc6_sem0_1 : DmaSem sig := 56
abbrev cc6_sem1_0 : DmaSem sig := 57
abbrev cc6_sem1_1 : DmaSem sig := 58
abbrev cc6_sem2_0 : DmaSem sig := 59
abbrev cc6_sem3_0 : DmaSem sig := 60
abbrev cc6_sem4_0 : DmaSem sig := 61
abbrev cc6_sem4_1 : DmaSem sig := 62
abbrev cc6_sem5_0 : DmaSem sig := 63
abbrev cc6_sem5_1 : DmaSem sig := 64
abbrev cc6_sem6_0 : DmaSem sig := 65
abbrev cc6_sem6_1 : DmaSem sig := 66
abbrev cc6_sem7_0 : DmaSem sig := 67
abbrev cc6_sem7_1 : DmaSem sig := 68
abbrev cc6_sem8_0 : DmaSem sig := 69
abbrev cc6_sem8_1 : DmaSem sig := 70
abbrev cc6_sem9_0 : DmaSem sig := 71
abbrev cc6_sem9_1 : DmaSem sig := 72
abbrev cc6_sem10_0 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024x1792 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1792 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c6_i32 : BitVec 32 := 6#32
  let c0_i32 : BitVec 32 := 0#32
  ![arg0.toNat, c6_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x768x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x768 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c6_i32 : BitVec 32 := 6#32
  let c0_i32 : BitVec 32 := 0#32
  ![arg0.toNat, c6_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4x768x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x256 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S256x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage4_0 : Fin 2 → Memref sig .tc .vmem S1024x768 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4x768x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := .none

abbrev stage5_0 : Fin 1 → Memref sig .tc .vmem S256x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S1x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S4x256x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S256x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1024x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024x1792 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S256x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S256x256 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S256x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S256x1792 .bf16 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 1 → Memref sig .tc .vmem S1x1024 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x1792 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1024x1792 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]
-- ==== Reference2Ideal.lean ====
abbrev S8192x1024 : Shape := ⟨2, ![8192, 1024]⟩
abbrev S8192x512 : Shape := ⟨2, ![8192, 512]⟩
abbrev S8192x1536 : Shape := ⟨2, ![8192, 1536]⟩
abbrev S256x1024 : Shape := ⟨2, ![256, 1024]⟩
abbrev S1024 : Shape := ⟨1, ![1024]⟩
abbrev S1024x1792 : Shape := ⟨2, ![1024, 1792]⟩
abbrev S1024x512 : Shape := ⟨2, ![1024, 512]⟩
abbrev S768x1024 : Shape := ⟨2, ![768, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256 : Shape := ⟨1, ![256]⟩
abbrev S256x1 : Shape := ⟨2, ![256, 1]⟩
abbrev S8192x1792 : Shape := ⟨2, ![8192, 1792]⟩
abbrev S8192x256 : Shape := ⟨2, ![8192, 256]⟩
abbrev S256x512 : Shape := ⟨2, ![256, 512]⟩
abbrev S256x256 : Shape := ⟨2, ![256, 256]⟩
abbrev S256x4x64 : Shape := ⟨3, ![256, 4, 64]⟩
abbrev S8192x4x64 : Shape := ⟨3, ![8192, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S8192x768 : Shape := ⟨2, ![8192, 768]⟩
abbrev S1024x768 : Shape := ⟨2, ![1024, 768]⟩
abbrev S4x64x256 : Shape := ⟨3, ![4, 64, 256]⟩
abbrev S4x256x64 : Shape := ⟨3, ![4, 256, 64]⟩
abbrev S4x8192x64 : Shape := ⟨3, ![4, 8192, 64]⟩
abbrev S512x1024 : Shape := ⟨2, ![512, 1024]⟩
abbrev S1792x1024 : Shape := ⟨2, ![1792, 1024]⟩

abbrev nBuf : Space → Nat
  | .hbm => 232
  | .vmem => 0
  | .smem => 0
  | _ => 0

abbrev hbmTy0_0 (i : Nat) : BufTy := match i % 128 with
  | 0 => ⟨S8192x1024, .f32⟩
  | 1 => ⟨S8192x512, .f32⟩
  | 2 => ⟨S8192x1024, .f32⟩
  | 3 => ⟨S8192x1536, .f32⟩
  | 4 => ⟨S256x1024, .f32⟩
  | 5 => ⟨S1024, .f32⟩
  | 6 => ⟨S1024, .f32⟩
  | 7 => ⟨S1024, .f32⟩
  | 8 => ⟨S1024x1792, .f32⟩
  | 9 => ⟨S1024x512, .f32⟩
  | 10 => ⟨S768x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S256x1024, .f32⟩
  | 32 => ⟨S_, .f32⟩
  | 33 => ⟨S256, .f32⟩
  | 34 => ⟨S256x1, .f32⟩
  | 35 => ⟨S_, .f32⟩
  | 36 => ⟨S256x1, .f32⟩
  | 37 => ⟨S256x1, .f32⟩
  | 38 => ⟨S_, .f32⟩
  | 39 => ⟨S256x1, .f32⟩
  | 40 => ⟨S256x1, .f32⟩
  | 41 => ⟨S256x1, .f32⟩
  | 42 => ⟨S256x1024, .f32⟩
  | 43 => ⟨S256x1024, .f32⟩
  | 44 => ⟨S1x1024, .f32⟩
  | 45 => ⟨S256x1024, .f32⟩
  | 46 => ⟨S256x1024, .f32⟩
  | 47 => ⟨S8192x1792, .f32⟩
  | 48 => ⟨S8192x256, .f32⟩
  | 49 => ⟨S256x512, .f32⟩
  | 50 => ⟨S256x256, .f32⟩
  | 51 => ⟨S256x4x64, .f32⟩
  | 52 => ⟨S256x256, .f32⟩
  | 53 => ⟨S256x4x64, .f32⟩
  | 54 => ⟨S8192x4x64, .f32⟩
  | 55 => ⟨S4x8192x256, .f32⟩
  | 56 => ⟨S_, .f32⟩
  | 57 => ⟨S4x8192x256, .f32⟩
  | 58 => ⟨S4x8192x256, .f32⟩
  | 59 => ⟨S_, .f32⟩
  | 60 => ⟨S4x8192, .f32⟩
  | 61 => ⟨S4x8192x1, .f32⟩
  | 62 => ⟨S4x8192x256, .f32⟩
  | 63 => ⟨S4x8192x256, .i1⟩
  | 64 => ⟨S4x8192x256, .f32⟩
  | 65 => ⟨S_, .f32⟩
  | 66 => ⟨S4x8192, .f32⟩
  | 67 => ⟨S_, .f32⟩
  | 68 => ⟨S4x8192, .f32⟩
  | 69 => ⟨S4x8192, .f32⟩
  | 70 => ⟨S_, .f32⟩
  | 71 => ⟨S4x8192, .f32⟩
  | 72 => ⟨S4x8192, .i1⟩
  | 73 => ⟨S_, .f32⟩
  | 74 => ⟨S4x8192, .f32⟩
  | 75 => ⟨S4x8192, .i1⟩
  | 76 => ⟨S_, .f32⟩
  | 77 => ⟨S4x8192, .f32⟩
  | 78 => ⟨S_, .f32⟩
  | 79 => ⟨S4x8192, .f32⟩
  | 80 => ⟨S_, .f32⟩
  | 81 => ⟨S4x8192, .f32⟩
  | 82 => ⟨S4x8192, .f32⟩
  | 83 => ⟨S4x8192, .f32⟩
  | 84 => ⟨S4x8192x1, .f32⟩
  | 85 => ⟨S4x8192x256, .f32⟩
  | 86 => ⟨S4x8192x256, .f32⟩
  | 87 => ⟨S4x8192x256, .f32⟩
  | 88 => ⟨S_, .f32⟩
  | 89 => ⟨S4x8192, .f32⟩
  | 90 => ⟨S4x8192x1, .f32⟩
  | 91 => ⟨S4x8192x256, .f32⟩
  | 92 => ⟨S4x8192x256, .f32⟩
  | 93 => ⟨S4x8192x1, .f32⟩
  | 94 => ⟨S_, .f32⟩
  | 95 => ⟨S4x8192x1, .f32⟩
  | 96 => ⟨S4x8192x1, .f32⟩
  | 97 => ⟨S4x64x8192, .f32⟩
  | 98 => ⟨S8192x4x64, .f32⟩
  | 99 => ⟨S8192x256, .f32⟩
  | 100 => ⟨S8192x768, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x1024, .f32⟩
  | 118 => ⟨S8192x1024, .f32⟩
  | 119 => ⟨S1x1024, .f32⟩
  | 120 => ⟨S8192x1024, .f32⟩
  | 121 => ⟨S8192x1024, .f32⟩
  | 122 => ⟨S8192x1024, .f32⟩
  | 123 => ⟨S8192x1536, .f32⟩
  | 124 => ⟨S_, .f32⟩
  | 125 => ⟨S8192x1792, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S_, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S8192x1024, .f32⟩
  | 12 => ⟨S8192x1024, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S1024x768, .f32⟩
  | 25 => ⟨S768x1024, .f32⟩
  | 26 => ⟨S8192x768, .f32⟩
  | 27 => ⟨S8192x512, .f32⟩
  | 28 => ⟨S8192x256, .f32⟩
  | 29 => ⟨S8192x4x64, .f32⟩
  | 30 => ⟨S4x64x8192, .f32⟩
  | 31 => ⟨S4x8192x256, .f32⟩
  | 32 => ⟨S4x64x256, .f32⟩
  | 33 => ⟨S256x4x64, .f32⟩
  | 34 => ⟨S4x8192x256, .f32⟩
  | 35 => ⟨S4x8192x256, .f32⟩
  | 36 => ⟨S4x8192x256, .f32⟩
  | 37 => ⟨S_, .f32⟩
  | 38 => ⟨S4x8192, .f32⟩
  | 39 => ⟨S4x8192x1, .f32⟩
  | 40 => ⟨S4x8192x1, .f32⟩
  | 41 => ⟨S4x8192x256, .f32⟩
  | 42 => ⟨S4x8192x256, .f32⟩
  | 43 => ⟨S_, .f32⟩
  | 44 => ⟨S4x8192, .f32⟩
  | 45 => ⟨S4x8192x256, .f32⟩
  | 46 => ⟨S4x8192x256, .f32⟩
  | 47 => ⟨S4x8192x256, .f32⟩
  | 48 => ⟨S_, .f32⟩
  | 49 => ⟨S4x8192x256, .f32⟩
  | 50 => ⟨S4x8192x256, .f32⟩
  | 51 => ⟨S4x256x64, .f32⟩
  | 52 => ⟨S256x4x64, .f32⟩
  | 53 => ⟨S4x8192x64, .f32⟩
  | 54 => ⟨S8192x4x64, .f32⟩
  | 55 => ⟨S8192x256, .f32⟩
  | 56 => ⟨S256x256, .f32⟩
  | 57 => ⟨S_, .f32⟩
  | 58 => ⟨S256x512, .f32⟩
  | 59 => ⟨S256x256, .f32⟩
  | 60 => ⟨S_, .f32⟩
  | 61 => ⟨S256x512, .f32⟩
  | 62 => ⟨S256x512, .f32⟩
  | 63 => ⟨S512x1024, .f32⟩
  | 64 => ⟨S1024x512, .f32⟩
  | 65 => ⟨S256x1024, .f32⟩
  | 66 => ⟨S_, .f32⟩
  | 67 => ⟨S8192x1792, .f32⟩
  | 68 => ⟨S8192x1792, .f32⟩
  | 69 => ⟨S1792x1024, .f32⟩
  | 70 => ⟨S1024x1792, .f32⟩
  | 71 => ⟨S8192x1024, .f32⟩
  | 72 => ⟨S256x1024, .f32⟩
  | 73 => ⟨S_, .f32⟩
  | 74 => ⟨S1024, .f32⟩
  | 75 => ⟨S1x1024, .f32⟩
  | 76 => ⟨S_, .f32⟩
  | 77 => ⟨S1024, .f32⟩
  | 78 => ⟨S8192x1024, .f32⟩
  | 79 => ⟨S_, .f32⟩
  | 80 => ⟨S1024, .f32⟩
  | 81 => ⟨S1x1024, .f32⟩
  | 82 => ⟨S8192x1024, .f32⟩
  | 83 => ⟨S8192x1024, .f32⟩
  | 84 => ⟨S_, .f32⟩
  | 85 => ⟨S1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1024, .f32⟩
  | 92 => ⟨S8192x1024, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_21 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_23 : Ref sig .tc := ⟨.hbm, 133, rfl⟩
abbrev main_v98 : Ref sig .tc := ⟨.hbm, 134, rfl⟩
abbrev main_v99 : Ref sig .tc := ⟨.hbm, 135, rfl⟩
abbrev main_cst_24 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_28 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_29 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_30 : Ref sig .tc := ⟨.hbm, 185, rfl⟩
abbrev main_v143 : Ref sig .tc := ⟨.hbm, 186, rfl⟩
abbrev main_v144 : Ref sig .tc := ⟨.hbm, 187, rfl⟩
abbrev main_cst_31 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_32 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_33 : Ref sig .tc := ⟨.hbm, 201, rfl⟩
abbrev main_v156 : Ref sig .tc := ⟨.hbm, 202, rfl⟩
abbrev main_v157 : Ref sig .tc := ⟨.hbm, 203, rfl⟩
abbrev main_cst_34 : Ref sig .tc := ⟨.hbm, 204, rfl⟩
abbrev main_v158 : Ref sig .tc := ⟨.hbm, 205, rfl⟩
abbrev main_v159 : Ref sig .tc := ⟨.hbm, 206, rfl⟩
abbrev main_cst_35 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_36 : Ref sig .tc := ⟨.hbm, 212, rfl⟩
abbrev main_v164 : Ref sig .tc := ⟨.hbm, 213, rfl⟩
abbrev main_v165 : Ref sig .tc := ⟨.hbm, 214, rfl⟩
abbrev main_cst_37 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_cst_38 : Ref sig .tc := ⟨.hbm, 222, rfl⟩
abbrev main_v172 : Ref sig .tc := ⟨.hbm, 223, rfl⟩
abbrev main_v173 : Ref sig .tc := ⟨.hbm, 224, rfl⟩
abbrev main_cst_39 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S256x1024 : Shape := ⟨2, ![256, 1024]⟩
abbrev S1024 : Shape := ⟨1, ![1024]⟩
abbrev S1024x768 : Shape := ⟨2, ![1024, 768]⟩
abbrev S1024x512 : Shape := ⟨2, ![1024, 512]⟩
abbrev S768x1024 : Shape := ⟨2, ![768, 1024]⟩
abbrev S1x1024 : Shape := ⟨2, ![1, 1024]⟩
abbrev S4x256x768 : Shape := ⟨3, ![4, 256, 768]⟩
abbrev S4x256x512 : Shape := ⟨3, ![4, 256, 512]⟩
abbrev S768x4x256 : Shape := ⟨3, ![768, 4, 256]⟩
abbrev S4x768x256 : Shape := ⟨3, ![4, 768, 256]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x256x512 : Shape := ⟨3, ![1, 256, 512]⟩
abbrev S8192x768 : Shape := ⟨2, ![8192, 768]⟩
abbrev S256x768 : Shape := ⟨2, ![256, 768]⟩
abbrev S1x256x768 : Shape := ⟨3, ![1, 256, 768]⟩
abbrev S256x128 : Shape := ⟨2, ![256, 128]⟩
abbrev S1x768x256 : Shape := ⟨3, ![1, 768, 256]⟩
abbrev S768x256 : Shape := ⟨2, ![768, 256]⟩
abbrev S8192x256 : Shape := ⟨2, ![8192, 256]⟩
abbrev S1024x1024 : Shape := ⟨2, ![1024, 1024]⟩
abbrev S1024x256 : Shape := ⟨2, ![1024, 256]⟩
abbrev S1x256x256 : Shape := ⟨3, ![1, 256, 256]⟩

abbrev nBuf : Space → Nat
  | .hbm => 45
  | .vmem => 75
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x768, .f32⟩
  | .hbm, ⟨9, _⟩ => ⟨S1024x512, .f32⟩
  | .hbm, ⟨10, _⟩ => ⟨S768x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x768, .bf16⟩
  | .hbm, ⟨15, _⟩ => ⟨S4x256x768, .bf16⟩
  | .hbm, ⟨16, _⟩ => ⟨S1024x512, .bf16⟩
  | .hbm, ⟨17, _⟩ => ⟨S4x256x512, .bf16⟩
  | .hbm, ⟨18, _⟩ => ⟨S768x1024, .bf16⟩
  | .hbm, ⟨19, _⟩ => ⟨S768x4x256, .bf16⟩
  | .hbm, ⟨20, _⟩ => ⟨S4x768x256, .bf16⟩
  | .hbm, ⟨21, _⟩ => ⟨S256x512, .bf16⟩
  | .hbm, ⟨22, _⟩ => ⟨S8192x1024, .bf16⟩
  | .hbm, ⟨23, _⟩ => ⟨S8192x768, .f32⟩
  | .hbm, ⟨24, _⟩ => ⟨S8192x1024, .f32⟩
  | .hbm, ⟨25, _⟩ => ⟨S8192x768, .bf16⟩
  | .hbm, ⟨26, _⟩ => ⟨S8192x1024, .f32⟩
  | .hbm, ⟨27, _⟩ => ⟨S8192x1024, .bf16⟩
  | .hbm, ⟨28, _⟩ => ⟨S8192x512, .f32⟩
  | .hbm, ⟨29, _⟩ => ⟨S8192x256, .bf16⟩
  | .hbm, ⟨30, _⟩ => ⟨S256x512, .f32⟩
  | .hbm, ⟨31, _⟩ => ⟨S1x1024, .f32⟩
  | .hbm, ⟨32, _⟩ => ⟨S4x768x256, .f32⟩
  | .hbm, ⟨33, _⟩ => ⟨S1024x512, .f32⟩
  | .hbm, ⟨34, _⟩ => ⟨S1x1024, .f32⟩
  | .hbm, ⟨35, _⟩ => ⟨S8192x1024, .f32⟩
  | .hbm, ⟨36, _⟩ => ⟨S8192x768, .bf16⟩
  | .hbm, ⟨37, _⟩ => ⟨S1x1024, .f32⟩
  | .hbm, ⟨38, _⟩ => ⟨S1024x768, .f32⟩
  | .hbm, ⟨39, _⟩ => ⟨S8192x512, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S768x4x256, .f32⟩
  | .hbm, ⟨44, _⟩ => ⟨S768x1024, .f32⟩
  | .local _ .vmem, ⟨0, _⟩ => ⟨S256x1024, .f32⟩
  | .local _ .vmem, ⟨1, _⟩ => ⟨S1x1024, .f32⟩
  | .local _ .vmem, ⟨2, _⟩ => ⟨S4x256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S4x256x768, .bf16⟩
  | .local _ .vmem, ⟨8, _⟩ => ⟨S256x1024, .bf16⟩
  | .local _ .vmem, ⟨9, _⟩ => ⟨S256x1024, .bf16⟩
  | .local _ .vmem, ⟨10, _⟩ => ⟨S256x768, .f32⟩
  | .local _ .vmem, ⟨11, _⟩ => ⟨S256x768, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x256, .f32⟩
  | .local _ .vmem, ⟨17, _⟩ => ⟨S256x256, .f32⟩
  | .local _ .vmem, ⟨18, _⟩ => ⟨S256x512, .bf16⟩
  | .local _ .vmem, ⟨19, _⟩ => ⟨S4x768x256, .bf16⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x768, .bf16⟩
  | .local _ .vmem, ⟨24, _⟩ => ⟨S256x768, .bf16⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x256, .f32⟩
  | .local _ .vmem, ⟨32, _⟩ => ⟨S256x256, .f32⟩
  | .local _ .vmem, ⟨33, _⟩ => ⟨S256x512, .bf16⟩
  | .local _ .vmem, ⟨34, _⟩ => ⟨S4x768x256, .bf16⟩
  | .local _ .vmem, ⟨35, _⟩ => ⟨S1x1024, .f32⟩
  | .local _ .vmem, ⟨36, _⟩ => ⟨S256x1024, .bf16⟩
  | .local _ .vmem, ⟨37, _⟩ => ⟨S256x1024, .bf16⟩
  | .local _ .vmem, ⟨38, _⟩ => ⟨S256x512, .f32⟩
  | .local _ .vmem, ⟨39, _⟩ => ⟨S256x512, .f32⟩
  | .local _ .vmem, ⟨40, _⟩ => ⟨S256x256, .bf16⟩
  | .local _ .vmem, ⟨41, _⟩ => ⟨S256x256, .bf16⟩
  | .local _ .vmem, ⟨42, _⟩ => ⟨S256x512, .f32⟩
  | .local _ .vmem, ⟨43, _⟩ => ⟨S1x1024, .f32⟩
  | .local _ .vmem, ⟨44, _⟩ => ⟨S1024x768, .bf16⟩
  | .local _ .vmem, ⟨45, _⟩ => ⟨S1024x768, .bf16⟩
  | .local _ .vmem, ⟨46, _⟩ => ⟨S1024x1024, .bf16⟩
  | .local _ .vmem, ⟨47, _⟩ => ⟨S1024x1024, .bf16⟩
  | .local _ .vmem, ⟨48, _⟩ => ⟨S4x768x256, .f32⟩
  | .local _ .vmem, ⟨49, _⟩ => ⟨S256x1024, .f32⟩
  | .local _ .vmem, ⟨50, _⟩ => ⟨S1x1024, .f32⟩
  | .local _ .vmem, ⟨51, _⟩ => ⟨S4x256x512, .bf16⟩
  | .local _ .vmem, ⟨52, _⟩ => ⟨S256x512, .f32⟩
  | .local _ .vmem, ⟨53, _⟩ => ⟨S1024x512, .f32⟩
  | .local _ .vmem, ⟨54, _⟩ => ⟨S1x1024, .f32⟩
  | .local _ .vmem, ⟨55, _⟩ => ⟨S256x1024, .f32⟩
  | .local _ .vmem, ⟨56, _⟩ => ⟨S256x1024, .f32⟩
  | .local _ .vmem, ⟨57, _⟩ => ⟨S256x1024, .f32⟩
  | .local _ .vmem, ⟨58, _⟩ => ⟨S256x1024, .f32⟩
  | .local _ .vmem, ⟨59, _⟩ => ⟨S1x1024, .f32⟩
  | .local _ .vmem, ⟨60, _⟩ => ⟨S4x256x768, .bf16⟩
  | .local _ .vmem, ⟨61, _⟩ => ⟨S256x512, .f32⟩
  | .local _ .vmem, ⟨62, _⟩ => ⟨S256x512, .f32⟩
  | .local _ .vmem, ⟨63, _⟩ => ⟨S256x256, .bf16⟩
  | .local _ .vmem, ⟨64, _⟩ => ⟨S256x256, .bf16⟩
  | .local _ .vmem, ⟨65, _⟩ => ⟨S256x1024, .f32⟩
  | .local _ .vmem, ⟨66, _⟩ => ⟨S256x1024, .f32⟩
  | .local _ .vmem, ⟨67, _⟩ => ⟨S256x768, .bf16⟩
  | .local _ .vmem, ⟨68, _⟩ => ⟨S256x768, .bf16⟩
  | .local _ .vmem, ⟨69, _⟩ => ⟨S1x1024, .f32⟩
  | .local _ .vmem, ⟨70, _⟩ => ⟨S1024x1024, .bf16⟩
  | .local _ .vmem, ⟨71, _⟩ => ⟨S1024x1024, .bf16⟩
  | .local _ .vmem, ⟨72, _⟩ => ⟨S1024x768, .bf16⟩
  | .local _ .vmem, ⟨73, _⟩ => ⟨S1024x768, .bf16⟩
  | .local _ .vmem, ⟨74, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg10_0 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc5_stg0_0 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg1_1 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg4_1 : Ref sig .tc := ⟨.vmem, 62, rfl⟩
abbrev cc6_stg5_0 : Ref sig .tc := ⟨.vmem, 63, rfl⟩
abbrev cc6_stg5_1 : Ref sig .tc := ⟨.vmem, 64, rfl⟩
abbrev cc6_stg6_0 : Ref sig .tc := ⟨.vmem, 65, rfl⟩
abbrev cc6_stg6_1 : Ref sig .tc := ⟨.vmem, 66, rfl⟩
abbrev cc6_stg7_0 : Ref sig .tc := ⟨.vmem, 67, rfl⟩
abbrev cc6_stg7_1 : Ref sig .tc := ⟨.vmem, 68, rfl⟩
abbrev cc6_stg8_0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc3_sem7_0 : DmaSem sig := 38
abbrev cc3_sem7_1 : DmaSem sig := 39
abbrev cc3_sem8_0 : DmaSem sig := 40
abbrev cc3_sem8_1 : DmaSem sig := 41
abbrev cc3_sem9_0 : DmaSem sig := 42
abbrev cc3_sem10_0 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc5_sem0_0 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc6_sem0_0 : DmaSem sig := 55
abbrev cc6_sem0_1 : DmaSem sig := 56
abbrev cc6_sem1_0 : DmaSem sig := 57
abbrev cc6_sem1_1 : DmaSem sig := 58
abbrev cc6_sem2_0 : DmaSem sig := 59
abbrev cc6_sem3_0 : DmaSem sig := 60
abbrev cc6_sem4_0 : DmaSem sig := 61
abbrev cc6_sem4_1 : DmaSem sig := 62
abbrev cc6_sem5_0 : DmaSem sig := 63
abbrev cc6_sem5_1 : DmaSem sig := 64
abbrev cc6_sem6_0 : DmaSem sig := 65
abbrev cc6_sem6_1 : DmaSem sig := 66
abbrev cc6_sem7_0 : DmaSem sig := 67
abbrev cc6_sem7_1 : DmaSem sig := 68
abbrev cc6_sem8_0 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x256x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x768x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x768 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c2_i32 : BitVec 32 := 2#32
  let c0_i32 : BitVec 32 := 0#32
  ![arg0.toNat, c2_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4x768x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x256 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S256x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage4_0 : Fin 2 → Memref sig .tc .vmem S1024x768 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4x768x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := .none

abbrev stage5_0 : Fin 1 → Memref sig .tc .vmem S256x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S1x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S4x256x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S256x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1024x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S4x256x768 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S256x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x256 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S256x768 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S1x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x768 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1024x768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]
-- ==== Reference3Ideal.lean ====
abbrev S8192x1024 : Shape := ⟨2, ![8192, 1024]⟩
abbrev S8192x512 : Shape := ⟨2, ![8192, 512]⟩
abbrev S256x1024 : Shape := ⟨2, ![256, 1024]⟩
abbrev S1024 : Shape := ⟨1, ![1024]⟩
abbrev S1024x768 : Shape := ⟨2, ![1024, 768]⟩
abbrev S1024x512 : Shape := ⟨2, ![1024, 512]⟩
abbrev S768x1024 : Shape := ⟨2, ![768, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256 : Shape := ⟨1, ![256]⟩
abbrev S256x1 : Shape := ⟨2, ![256, 1]⟩
abbrev S8192x768 : Shape := ⟨2, ![8192, 768]⟩
abbrev S8192x256 : Shape := ⟨2, ![8192, 256]⟩
abbrev S256x512 : Shape := ⟨2, ![256, 512]⟩
abbrev S256x256 : Shape := ⟨2, ![256, 256]⟩
abbrev S256x4x64 : Shape := ⟨3, ![256, 4, 64]⟩
abbrev S8192x4x64 : Shape := ⟨3, ![8192, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩
abbrev S512x1024 : Shape := ⟨2, ![512, 1024]⟩

abbrev nBuf : Space → Nat
  | .hbm => 232
  | .vmem => 0
  | .smem => 0
  | _ => 0

abbrev hbmTy0_0 (i : Nat) : BufTy := match i % 128 with
  | 0 => ⟨S8192x1024, .f32⟩
  | 1 => ⟨S8192x512, .f32⟩
  | 2 => ⟨S8192x1024, .f32⟩
  | 3 => ⟨S8192x512, .f32⟩
  | 4 => ⟨S256x1024, .f32⟩
  | 5 => ⟨S1024, .f32⟩
  | 6 => ⟨S1024, .f32⟩
  | 7 => ⟨S1024, .f32⟩
  | 8 => ⟨S1024x768, .f32⟩
  | 9 => ⟨S1024x512, .f32⟩
  | 10 => ⟨S768x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S256x1024, .f32⟩
  | 32 => ⟨S_, .f32⟩
  | 33 => ⟨S256, .f32⟩
  | 34 => ⟨S256x1, .f32⟩
  | 35 => ⟨S_, .f32⟩
  | 36 => ⟨S256x1, .f32⟩
  | 37 => ⟨S256x1, .f32⟩
  | 38 => ⟨S_, .f32⟩
  | 39 => ⟨S256x1, .f32⟩
  | 40 => ⟨S256x1, .f32⟩
  | 41 => ⟨S256x1, .f32⟩
  | 42 => ⟨S256x1024, .f32⟩
  | 43 => ⟨S256x1024, .f32⟩
  | 44 => ⟨S1x1024, .f32⟩
  | 45 => ⟨S256x1024, .f32⟩
  | 46 => ⟨S256x1024, .f32⟩
  | 47 => ⟨S8192x768, .f32⟩
  | 48 => ⟨S8192x256, .f32⟩
  | 49 => ⟨S256x512, .f32⟩
  | 50 => ⟨S256x256, .f32⟩
  | 51 => ⟨S256x4x64, .f32⟩
  | 52 => ⟨S256x256, .f32⟩
  | 53 => ⟨S256x4x64, .f32⟩
  | 54 => ⟨S8192x4x64, .f32⟩
  | 55 => ⟨S4x8192x256, .f32⟩
  | 56 => ⟨S_, .f32⟩
  | 57 => ⟨S4x8192x256, .f32⟩
  | 58 => ⟨S4x8192x256, .f32⟩
  | 59 => ⟨S_, .f32⟩
  | 60 => ⟨S4x8192, .f32⟩
  | 61 => ⟨S4x8192x1, .f32⟩
  | 62 => ⟨S4x8192x256, .f32⟩
  | 63 => ⟨S4x8192x256, .i1⟩
  | 64 => ⟨S4x8192x256, .f32⟩
  | 65 => ⟨S_, .f32⟩
  | 66 => ⟨S4x8192, .f32⟩
  | 67 => ⟨S_, .f32⟩
  | 68 => ⟨S4x8192, .f32⟩
  | 69 => ⟨S4x8192, .f32⟩
  | 70 => ⟨S_, .f32⟩
  | 71 => ⟨S4x8192, .f32⟩
  | 72 => ⟨S4x8192, .i1⟩
  | 73 => ⟨S_, .f32⟩
  | 74 => ⟨S4x8192, .f32⟩
  | 75 => ⟨S4x8192, .i1⟩
  | 76 => ⟨S_, .f32⟩
  | 77 => ⟨S4x8192, .f32⟩
  | 78 => ⟨S_, .f32⟩
  | 79 => ⟨S4x8192, .f32⟩
  | 80 => ⟨S_, .f32⟩
  | 81 => ⟨S4x8192, .f32⟩
  | 82 => ⟨S4x8192, .f32⟩
  | 83 => ⟨S4x8192, .f32⟩
  | 84 => ⟨S4x8192x1, .f32⟩
  | 85 => ⟨S4x8192x256, .f32⟩
  | 86 => ⟨S4x8192x256, .f32⟩
  | 87 => ⟨S4x8192x256, .f32⟩
  | 88 => ⟨S_, .f32⟩
  | 89 => ⟨S4x8192, .f32⟩
  | 90 => ⟨S4x8192x1, .f32⟩
  | 91 => ⟨S4x8192x256, .f32⟩
  | 92 => ⟨S4x8192x256, .f32⟩
  | 93 => ⟨S4x8192x1, .f32⟩
  | 94 => ⟨S_, .f32⟩
  | 95 => ⟨S4x8192x1, .f32⟩
  | 96 => ⟨S4x8192x1, .f32⟩
  | 97 => ⟨S4x64x8192, .f32⟩
  | 98 => ⟨S8192x4x64, .f32⟩
  | 99 => ⟨S8192x256, .f32⟩
  | 100 => ⟨S8192x768, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x1024, .f32⟩
  | 118 => ⟨S8192x1024, .f32⟩
  | 119 => ⟨S1x1024, .f32⟩
  | 120 => ⟨S8192x1024, .f32⟩
  | 121 => ⟨S8192x1024, .f32⟩
  | 122 => ⟨S8192x1024, .f32⟩
  | 123 => ⟨S8192x512, .f32⟩
  | 124 => ⟨S_, .f32⟩
  | 125 => ⟨S8192x768, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S_, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S8192x1024, .f32⟩
  | 12 => ⟨S8192x1024, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S1024x768, .f32⟩
  | 25 => ⟨S768x1024, .f32⟩
  | 26 => ⟨S8192x768, .f32⟩
  | 27 => ⟨S8192x512, .f32⟩
  | 28 => ⟨S8192x256, .f32⟩
  | 29 => ⟨S8192x4x64, .f32⟩
  | 30 => ⟨S4x64x8192, .f32⟩
  | 31 => ⟨S4x8192x256, .f32⟩
  | 32 => ⟨S4x64x256, .f32⟩
  | 33 => ⟨S256x4x64, .f32⟩
  | 34 => ⟨S4x8192x256, .f32⟩
  | 35 => ⟨S4x8192x256, .f32⟩
  | 36 => ⟨S4x8192x256, .f32⟩
  | 37 => ⟨S_, .f32⟩
  | 38 => ⟨S4x8192, .f32⟩
  | 39 => ⟨S4x8192x1, .f32⟩
  | 40 => ⟨S4x8192x1, .f32⟩
  | 41 => ⟨S4x8192x256, .f32⟩
  | 42 => ⟨S4x8192x256, .f32⟩
  | 43 => ⟨S_, .f32⟩
  | 44 => ⟨S4x8192, .f32⟩
  | 45 => ⟨S4x8192x256, .f32⟩
  | 46 => ⟨S4x8192x256, .f32⟩
  | 47 => ⟨S4x8192x256, .f32⟩
  | 48 => ⟨S_, .f32⟩
  | 49 => ⟨S4x8192x256, .f32⟩
  | 50 => ⟨S4x8192x256, .f32⟩
  | 51 => ⟨S4x256x64, .f32⟩
  | 52 => ⟨S256x4x64, .f32⟩
  | 53 => ⟨S4x8192x64, .f32⟩
  | 54 => ⟨S8192x4x64, .f32⟩
  | 55 => ⟨S8192x256, .f32⟩
  | 56 => ⟨S256x256, .f32⟩
  | 57 => ⟨S_, .f32⟩
  | 58 => ⟨S256x512, .f32⟩
  | 59 => ⟨S256x256, .f32⟩
  | 60 => ⟨S_, .f32⟩
  | 61 => ⟨S256x512, .f32⟩
  | 62 => ⟨S256x512, .f32⟩
  | 63 => ⟨S512x1024, .f32⟩
  | 64 => ⟨S1024x512, .f32⟩
  | 65 => ⟨S256x1024, .f32⟩
  | 66 => ⟨S_, .f32⟩
  | 67 => ⟨S8192x768, .f32⟩
  | 68 => ⟨S8192x768, .f32⟩
  | 69 => ⟨S768x1024, .f32⟩
  | 70 => ⟨S1024x768, .f32⟩
  | 71 => ⟨S8192x1024, .f32⟩
  | 72 => ⟨S256x1024, .f32⟩
  | 73 => ⟨S_, .f32⟩
  | 74 => ⟨S1024, .f32⟩
  | 75 => ⟨S1x1024, .f32⟩
  | 76 => ⟨S_, .f32⟩
  | 77 => ⟨S1024, .f32⟩
  | 78 => ⟨S8192x1024, .f32⟩
  | 79 => ⟨S_, .f32⟩
  | 80 => ⟨S1024, .f32⟩
  | 81 => ⟨S1x1024, .f32⟩
  | 82 => ⟨S8192x1024, .f32⟩
  | 83 => ⟨S8192x1024, .f32⟩
  | 84 => ⟨S_, .f32⟩
  | 85 => ⟨S1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1024, .f32⟩
  | 92 => ⟨S8192x1024, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_21 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_23 : Ref sig .tc := ⟨.hbm, 133, rfl⟩
abbrev main_v98 : Ref sig .tc := ⟨.hbm, 134, rfl⟩
abbrev main_v99 : Ref sig .tc := ⟨.hbm, 135, rfl⟩
abbrev main_cst_24 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_28 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_29 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_30 : Ref sig .tc := ⟨.hbm, 185, rfl⟩
abbrev main_v143 : Ref sig .tc := ⟨.hbm, 186, rfl⟩
abbrev main_v144 : Ref sig .tc := ⟨.hbm, 187, rfl⟩
abbrev main_cst_31 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_32 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_33 : Ref sig .tc := ⟨.hbm, 201, rfl⟩
abbrev main_v156 : Ref sig .tc := ⟨.hbm, 202, rfl⟩
abbrev main_v157 : Ref sig .tc := ⟨.hbm, 203, rfl⟩
abbrev main_cst_34 : Ref sig .tc := ⟨.hbm, 204, rfl⟩
abbrev main_v158 : Ref sig .tc := ⟨.hbm, 205, rfl⟩
abbrev main_v159 : Ref sig .tc := ⟨.hbm, 206, rfl⟩
abbrev main_cst_35 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_36 : Ref sig .tc := ⟨.hbm, 212, rfl⟩
abbrev main_v164 : Ref sig .tc := ⟨.hbm, 213, rfl⟩
abbrev main_v165 : Ref sig .tc := ⟨.hbm, 214, rfl⟩
abbrev main_cst_37 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_cst_38 : Ref sig .tc := ⟨.hbm, 222, rfl⟩
abbrev main_v172 : Ref sig .tc := ⟨.hbm, 223, rfl⟩
abbrev main_v173 : Ref sig .tc := ⟨.hbm, 224, rfl⟩
abbrev main_cst_39 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩

abbrev nD : Nat := 1
abbrev τ : Topo := Topo.v7x

variable {F : FTy → Type} [FloatOps F]
-- ==== Kernel4.lean ====
abbrev S4x3x256 : Shape := ⟨3, ![4, 3, 256]⟩
abbrev S4x1024 : Shape := ⟨2, ![4, 1024]⟩
abbrev S4x1024x512 : Shape := ⟨3, ![4, 1024, 512]⟩
abbrev S4x512x1024 : Shape := ⟨3, ![4, 512, 1024]⟩
abbrev S2x256x768 : Shape := ⟨3, ![2, 256, 768]⟩
abbrev S2x4x128x128 : Shape := ⟨4, ![2, 4, 128, 128]⟩
abbrev S2x512 : Shape := ⟨2, ![2, 512]⟩
abbrev S2x1024x448 : Shape := ⟨3, ![2, 1024, 448]⟩
abbrev S4x256x512 : Shape := ⟨3, ![4, 256, 512]⟩
abbrev S4x768x256 : Shape := ⟨3, ![4, 768, 256]⟩
abbrev S12x256 : Shape := ⟨2, ![12, 256]⟩
abbrev S4096x512 : Shape := ⟨2, ![4096, 512]⟩
abbrev S256x512 : Shape := ⟨2, ![256, 512]⟩
abbrev S2048x1024 : Shape := ⟨2, ![2048, 1024]⟩
abbrev S256x1024 : Shape := ⟨2, ![256, 1024]⟩
abbrev S512x768 : Shape := ⟨2, ![512, 768]⟩
abbrev S256x768 : Shape := ⟨2, ![256, 768]⟩
abbrev S1024x128 : Shape := ⟨2, ![1024, 128]⟩
abbrev S256x128 : Shape := ⟨2, ![256, 128]⟩
abbrev S2048x448 : Shape := ⟨2, ![2048, 448]⟩
abbrev S256x448 : Shape := ⟨2, ![256, 448]⟩
abbrev S1024x512 : Shape := ⟨2, ![1024, 512]⟩
abbrev S3072x256 : Shape := ⟨2, ![3072, 256]⟩
abbrev S256x256 : Shape := ⟨2, ![256, 256]⟩

abbrev nBuf : Space → Nat
  | .hbm => 126
  | .vmem => 119
  | .smem => 0
  | _ => 0

abbrev bufTy : (tb : Table) → Fin (tcTables nBuf tb) → BufTy
  | .hbm, ⟨0, _⟩ => ⟨S4x3x256, .f32⟩
  | .hbm, ⟨1, _⟩ => ⟨S4x1024, .f32⟩
  | .hbm, ⟨2, _⟩ => ⟨S4x1024x512, .f32⟩
  | .hbm, ⟨3, _⟩ => ⟨S4x512x1024, .f32⟩
  | .hbm, ⟨4, _⟩ => ⟨S2x256x768, .f32⟩
  | .hbm, ⟨5, _⟩ => ⟨S2x4x128x128, .f32⟩
  | .hbm, ⟨6, _⟩ => ⟨S2x512, .f32⟩
  | .hbm, ⟨7, _⟩ => ⟨S2x1024x448, .f32⟩
  | .hbm, ⟨8, _⟩ => ⟨S4x256x512, .f32⟩
  | .hbm, ⟨9, _⟩ => ⟨S4x768x256, .f32⟩
  | .hbm, ⟨10, _⟩ => ⟨S4x3x256, .f32⟩
  | .hbm, ⟨11, _⟩ => ⟨S4x1024, .f32⟩
  | .hbm, ⟨12, _⟩ => ⟨S4x1024x512, .f32⟩
  | .hbm, ⟨13, _⟩ => ⟨S4x512x1024, .f32⟩
  | .hbm, ⟨14, _⟩ => ⟨S2x256x768, .f32⟩
  | .hbm, ⟨15, _⟩ => ⟨S2x4x128x128, .f32⟩
  | .hbm, ⟨16, _⟩ => ⟨S2x512, .f32⟩
  | .hbm, ⟨17, _⟩ => ⟨S2x1024x448, .f32⟩
  | .hbm, ⟨18, _⟩ => ⟨S4x256x512, .f32⟩
  | .hbm, ⟨19, _⟩ => ⟨S4x768x256, .f32⟩
  | .hbm, ⟨20, _⟩ => ⟨S4x3x256, .f32⟩
  | .hbm, ⟨21, _⟩ => ⟨S4x1024, .f32⟩
  | .hbm, ⟨22, _⟩ => ⟨S4x1024x512, .f32⟩
  | .hbm, ⟨23, _⟩ => ⟨S4x512x1024, .f32⟩
  | .hbm, ⟨24, _⟩ => ⟨S2x256x768, .f32⟩
  | .hbm, ⟨25, _⟩ => ⟨S2x4x128x128, .f32⟩
  | .hbm, ⟨26, _⟩ => ⟨S2x512, .f32⟩
  | .hbm, ⟨27, _⟩ => ⟨S2x1024x448, .f32⟩
  | .hbm, ⟨28, _⟩ => ⟨S4x256x512, .f32⟩
  | .hbm, ⟨29, _⟩ => ⟨S4x768x256, .f32⟩
  | .hbm, ⟨30, _⟩ => ⟨S4x3x256, .f32⟩
  | .hbm, ⟨31, _⟩ => ⟨S4x1024, .f32⟩
  | .hbm, ⟨32, _⟩ => ⟨S4x1024x512, .f32⟩
  | .hbm, ⟨33, _⟩ => ⟨S4x512x1024, .f32⟩
  | .hbm, ⟨34, _⟩ => ⟨S2x256x768, .f32⟩
  | .hbm, ⟨35, _⟩ => ⟨S2x4x128x128, .f32⟩
  | .hbm, ⟨36, _⟩ => ⟨S2x512, .f32⟩
  | .hbm, ⟨37, _⟩ => ⟨S2x1024x448, .f32⟩
  | .hbm, ⟨38, _⟩ => ⟨S4x256x512, .f32⟩
  | .hbm, ⟨39, _⟩ => ⟨S4x768x256, .f32⟩
  | .hbm, ⟨40, _⟩ => ⟨S12x256, .f32⟩
  | .hbm, ⟨41, _⟩ => ⟨S12x256, .f32⟩
  | .hbm, ⟨42, _⟩ => ⟨S12x256, .f32⟩
  | .hbm, ⟨43, _⟩ => ⟨S12x256, .f32⟩
  | .hbm, ⟨44, _⟩ => ⟨S12x256, .f32⟩
  | .hbm, ⟨45, _⟩ => ⟨S12x256, .f32⟩
  | .hbm, ⟨46, _⟩ => ⟨S12x256, .f32⟩
  | .hbm, ⟨47, _⟩ => ⟨S4x3x256, .f32⟩
  | .hbm, ⟨48, _⟩ => ⟨S4x3x256, .f32⟩
  | .hbm, ⟨49, _⟩ => ⟨S4x3x256, .f32⟩
  | .hbm, ⟨50, _⟩ => ⟨S4x1024, .f32⟩
  | .hbm, ⟨51, _⟩ => ⟨S4x1024, .f32⟩
  | .hbm, ⟨52, _⟩ => ⟨S4x1024, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4x1024x512, .f32⟩
  | .hbm, ⟨61, _⟩ => ⟨S4x1024x512, .f32⟩
  | .hbm, ⟨62, _⟩ => ⟨S4x1024x512, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S4x512x1024, .f32⟩
  | .hbm, ⟨71, _⟩ => ⟨S4x512x1024, .f32⟩
  | .hbm, ⟨72, _⟩ => ⟨S4x512x1024, .f32⟩
  | .hbm, ⟨73, _⟩ => ⟨S512x768, .f32⟩
  | .hbm, ⟨74, _⟩ => ⟨S512x768, .f32⟩
  | .hbm, ⟨75, _⟩ => ⟨S512x768, .f32⟩
  | .hbm, ⟨76, _⟩ => ⟨S512x768, .f32⟩
  | .hbm, ⟨77, _⟩ => ⟨S512x768, .f32⟩
  | .hbm, ⟨78, _⟩ => ⟨S512x768, .f32⟩
  | .hbm, ⟨79, _⟩ => ⟨S512x768, .f32⟩
  | .hbm, ⟨80, _⟩ => ⟨S2x256x768, .f32⟩
  | .hbm, ⟨81, _⟩ => ⟨S2x256x768, .f32⟩
  | .hbm, ⟨82, _⟩ => ⟨S2x256x768, .f32⟩
  | .hbm, ⟨83, _⟩ => ⟨S1024x128, .f32⟩
  | .hbm, ⟨84, _⟩ => ⟨S1024x128, .f32⟩
  | .hbm, ⟨85, _⟩ => ⟨S1024x128, .f32⟩
  | .hbm, ⟨86, _⟩ => ⟨S1024x128, .f32⟩
  | .hbm, ⟨87, _⟩ => ⟨S1024x128, .f32⟩
  | .hbm, ⟨88, _⟩ => ⟨S1024x128, .f32⟩
  | .hbm, ⟨89, _⟩ => ⟨S1024x128, .f32⟩
  | .hbm, ⟨90, _⟩ => ⟨S2x4x128x128, .f32⟩
  | .hbm, ⟨91, _⟩ => ⟨S2x4x128x128, .f32⟩
  | .hbm, ⟨92, _⟩ => ⟨S2x4x128x128, .f32⟩
  | .hbm, ⟨93, _⟩ => ⟨S2x512, .f32⟩
  | .hbm, ⟨94, _⟩ => ⟨S2x512, .f32⟩
  | .hbm, ⟨95, _⟩ => ⟨S2x512, .f32⟩
  | .hbm, ⟨96, _⟩ => ⟨S2048x448, .f32⟩
  | .hbm, ⟨97, _⟩ => ⟨S2048x448, .f32⟩
  | .hbm, ⟨98, _⟩ => ⟨S2048x448, .f32⟩
  | .hbm, ⟨99, _⟩ => ⟨S2048x448, .f32⟩
  | .hbm, ⟨100, _⟩ => ⟨S2048x448, .f32⟩
  | .hbm, ⟨101, _⟩ => ⟨S2048x448, .f32⟩
  | .hbm, ⟨102, _⟩ => ⟨S2048x448, .f32⟩
  | .hbm, ⟨103, _⟩ => ⟨S2x1024x448, .f32⟩
  | .hbm, ⟨104, _⟩ => ⟨S2x1024x448, .f32⟩
  | .hbm, ⟨105, _⟩ => ⟨S2x1024x448, .f32⟩
  | .hbm, ⟨106, _⟩ => ⟨S1024x512, .f32⟩
  | .hbm, ⟨107, _⟩ => ⟨S1024x512, .f32⟩
  | .hbm, ⟨108, _⟩ => ⟨S1024x512, .f32⟩
  | .hbm, ⟨109, _⟩ => ⟨S1024x512, .f32⟩
  | .hbm, ⟨110, _⟩ => ⟨S1024x512, .f32⟩
  | .hbm, ⟨111, _⟩ => ⟨S1024x512, .f32⟩
  | .hbm, ⟨112, _⟩ => ⟨S1024x512, .f32⟩
  | .hbm, ⟨113, _⟩ => ⟨S4x256x512, .f32⟩
  | .hbm, ⟨114, _⟩ => ⟨S4x256x512, .f32⟩
  | .hbm, ⟨115, _⟩ => ⟨S4x256x512, .f32⟩
  | .hbm, ⟨116, _⟩ => ⟨S3072x256, .f32⟩
  | .hbm, ⟨117, _⟩ => ⟨S3072x256, .f32⟩
  | .hbm, ⟨118, _⟩ => ⟨S3072x256, .f32⟩
  | .hbm, ⟨119, _⟩ => ⟨S3072x256, .f32⟩
  | .hbm, ⟨120, _⟩ => ⟨S3072x256, .f32⟩
  | .hbm, ⟨121, _⟩ => ⟨S3072x256, .f32⟩
  | .hbm, ⟨122, _⟩ => ⟨S3072x256, .f32⟩
  | .hbm, ⟨123, _⟩ => ⟨S4x768x256, .f32⟩
  | .hbm, ⟨124, _⟩ => ⟨S4x768x256, .f32⟩
  | .hbm, ⟨125, _⟩ => ⟨S4x768x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | .local _ .vmem, ⟨7, _⟩ => ⟨S4x1024, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x768, .f32⟩
  | .local _ .vmem, ⟨43, _⟩ => ⟨S256x768, .f32⟩
  | .local _ .vmem, ⟨44, _⟩ => ⟨S256x768, .f32⟩
  | .local _ .vmem, ⟨45, _⟩ => ⟨S256x768, .f32⟩
  | .local _ .vmem, ⟨46, _⟩ => ⟨S256x768, .f32⟩
  | .local _ .vmem, ⟨47, _⟩ => ⟨S256x768, .f32⟩
  | .local _ .vmem, ⟨48, _⟩ => ⟨S256x768, .f32⟩
  | .local _ .vmem, ⟨49, _⟩ => ⟨S256x768, .f32⟩
  | .local _ .vmem, ⟨50, _⟩ => ⟨S256x768, .f32⟩
  | .local _ .vmem, ⟨51, _⟩ => ⟨S256x768, .f32⟩
  | .local _ .vmem, ⟨52, _⟩ => ⟨S256x768, .f32⟩
  | .local _ .vmem, ⟨53, _⟩ => ⟨S256x768, .f32⟩
  | .local _ .vmem, ⟨54, _⟩ => ⟨S256x768, .f32⟩
  | .local _ .vmem, ⟨55, _⟩ => ⟨S256x768, .f32⟩
  | .local _ .vmem, ⟨56, _⟩ => ⟨S256x128, .f32⟩
  | .local _ .vmem, ⟨57, _⟩ => ⟨S256x128, .f32⟩
  | .local _ .vmem, ⟨58, _⟩ => ⟨S256x128, .f32⟩
  | .local _ .vmem, ⟨59, _⟩ => ⟨S256x128, .f32⟩
  | .local _ .vmem, ⟨60, _⟩ => ⟨S256x128, .f32⟩
  | .local _ .vmem, ⟨61, _⟩ => ⟨S256x128, .f32⟩
  | .local _ .vmem, ⟨62, _⟩ => ⟨S256x128, .f32⟩
  | .local _ .vmem, ⟨63, _⟩ => ⟨S256x128, .f32⟩
  | .local _ .vmem, ⟨64, _⟩ => ⟨S256x128, .f32⟩
  | .local _ .vmem, ⟨65, _⟩ => ⟨S256x128, .f32⟩
  | .local _ .vmem, ⟨66, _⟩ => ⟨S256x128, .f32⟩
  | .local _ .vmem, ⟨67, _⟩ => ⟨S256x128, .f32⟩
  | .local _ .vmem, ⟨68, _⟩ => ⟨S256x128, .f32⟩
  | .local _ .vmem, ⟨69, _⟩ => ⟨S256x128, .f32⟩
  | .local _ .vmem, ⟨70, _⟩ => ⟨S2x512, .f32⟩
  | .local _ .vmem, ⟨71, _⟩ => ⟨S2x512, .f32⟩
  | .local _ .vmem, ⟨72, _⟩ => ⟨S2x512, .f32⟩
  | .local _ .vmem, ⟨73, _⟩ => ⟨S2x512, .f32⟩
  | .local _ .vmem, ⟨74, _⟩ => ⟨S2x512, .f32⟩
  | .local _ .vmem, ⟨75, _⟩ => ⟨S2x512, .f32⟩
  | .local _ .vmem, ⟨76, _⟩ => ⟨S2x512, .f32⟩
  | .local _ .vmem, ⟨77, _⟩ => ⟨S256x448, .f32⟩
  | .local _ .vmem, ⟨78, _⟩ => ⟨S256x448, .f32⟩
  | .local _ .vmem, ⟨79, _⟩ => ⟨S256x448, .f32⟩
  | .local _ .vmem, ⟨80, _⟩ => ⟨S256x448, .f32⟩
  | .local _ .vmem, ⟨81, _⟩ => ⟨S256x448, .f32⟩
  | .local _ .vmem, ⟨82, _⟩ => ⟨S256x448, .f32⟩
  | .local _ .vmem, ⟨83, _⟩ => ⟨S256x448, .f32⟩
  | .local _ .vmem, ⟨84, _⟩ => ⟨S256x448, .f32⟩
  | .local _ .vmem, ⟨85, _⟩ => ⟨S256x448, .f32⟩
  | .local _ .vmem, ⟨86, _⟩ => ⟨S256x448, .f32⟩
  | .local _ .vmem, ⟨87, _⟩ => ⟨S256x448, .f32⟩
  | .local _ .vmem, ⟨88, _⟩ => ⟨S256x448, .f32⟩
  | .local _ .vmem, ⟨89, _⟩ => ⟨S256x448, .f32⟩
  | .local _ .vmem, ⟨90, _⟩ => ⟨S256x448, .f32⟩
  | .local _ .vmem, ⟨91, _⟩ => ⟨S256x512, .f32⟩
  | .local _ .vmem, ⟨92, _⟩ => ⟨S256x512, .f32⟩
  | .local _ .vmem, ⟨93, _⟩ => ⟨S256x512, .f32⟩
  | .local _ .vmem, ⟨94, _⟩ => ⟨S256x512, .f32⟩
  | .local _ .vmem, ⟨95, _⟩ => ⟨S256x512, .f32⟩
  | .local _ .vmem, ⟨96, _⟩ => ⟨S256x512, .f32⟩
  | .local _ .vmem, ⟨97, _⟩ => ⟨S256x512, .f32⟩
  | .local _ .vmem, ⟨98, _⟩ => ⟨S256x512, .f32⟩
  | .local _ .vmem, ⟨99, _⟩ => ⟨S256x512, .f32⟩
  | .local _ .vmem, ⟨100, _⟩ => ⟨S256x512, .f32⟩
  | .local _ .vmem, ⟨101, _⟩ => ⟨S256x512, .f32⟩
  | .local _ .vmem, ⟨102, _⟩ => ⟨S256x512, .f32⟩
  | .local _ .vmem, ⟨103, _⟩ => ⟨S256x512, .f32⟩
  | .local _ .vmem, ⟨104, _⟩ => ⟨S256x512, .f32⟩
  | .local _ .vmem, ⟨105, _⟩ => ⟨S256x256, .f32⟩
  | .local _ .vmem, ⟨106, _⟩ => ⟨S256x256, .f32⟩
  | .local _ .vmem, ⟨107, _⟩ => ⟨S256x256, .f32⟩
  | .local _ .vmem, ⟨108, _⟩ => ⟨S256x256, .f32⟩
  | .local _ .vmem, ⟨109, _⟩ => ⟨S256x256, .f32⟩
  | .local _ .vmem, ⟨110, _⟩ => ⟨S256x256, .f32⟩
  | .local _ .vmem, ⟨111, _⟩ => ⟨S256x256, .f32⟩
  | .local _ .vmem, ⟨112, _⟩ => ⟨S256x256, .f32⟩
  | .local _ .vmem, ⟨113, _⟩ => ⟨S256x256, .f32⟩
  | .local _ .vmem, ⟨114, _⟩ => ⟨S256x256, .f32⟩
  | .local _ .vmem, ⟨115, _⟩ => ⟨S256x256, .f32⟩
  | .local _ .vmem, ⟨116, _⟩ => ⟨S256x256, .f32⟩
  | .local _ .vmem, ⟨117, _⟩ => ⟨S256x256, .f32⟩
  | .local _ .vmem, ⟨118, _⟩ => ⟨S256x256, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | _, _ => false

abbrev semScoped : Fin 0 → Bool
  | ⟨_, h⟩ => absurd h (Nat.not_lt_zero _)

abbrev dmaSemScoped : Fin 119 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | _ => false

abbrev sig : RefSig :=
  ofTc nBuf bufTy 0 119 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4_0 : Ref sig .tc := ⟨.hbm, 44, rfl⟩
abbrev main_v4_1 : Ref sig .tc := ⟨.hbm, 45, rfl⟩
abbrev main_v4_2 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8_0 : Ref sig .tc := ⟨.hbm, 50, rfl⟩
abbrev main_v8_1 : Ref sig .tc := ⟨.hbm, 51, rfl⟩
abbrev main_v8_2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13_0 : Ref sig .tc := ⟨.hbm, 57, rfl⟩
abbrev main_v13_1 : Ref sig .tc := ⟨.hbm, 58, rfl⟩
abbrev main_v13_2 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21_0 : Ref sig .tc := ⟨.hbm, 67, rfl⟩
abbrev main_v21_1 : Ref sig .tc := ⟨.hbm, 68, rfl⟩
abbrev main_v21_2 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29_0 : Ref sig .tc := ⟨.hbm, 77, rfl⟩
abbrev main_v29_1 : Ref sig .tc := ⟨.hbm, 78, rfl⟩
abbrev main_v29_2 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37_0 : Ref sig .tc := ⟨.hbm, 87, rfl⟩
abbrev main_v37_1 : Ref sig .tc := ⟨.hbm, 88, rfl⟩
abbrev main_v37_2 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41_0 : Ref sig .tc := ⟨.hbm, 93, rfl⟩
abbrev main_v41_1 : Ref sig .tc := ⟨.hbm, 94, rfl⟩
abbrev main_v41_2 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46_0 : Ref sig .tc := ⟨.hbm, 100, rfl⟩
abbrev main_v46_1 : Ref sig .tc := ⟨.hbm, 101, rfl⟩
abbrev main_v46_2 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54_0 : Ref sig .tc := ⟨.hbm, 110, rfl⟩
abbrev main_v54_1 : Ref sig .tc := ⟨.hbm, 111, rfl⟩
abbrev main_v54_2 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62_0 : Ref sig .tc := ⟨.hbm, 120, rfl⟩
abbrev main_v62_1 : Ref sig .tc := ⟨.hbm, 121, rfl⟩
abbrev main_v62_2 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc6_stg0_0 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg3_1 : Ref sig .tc := ⟨.vmem, 84, rfl⟩
abbrev cc7_stg4_0 : Ref sig .tc := ⟨.vmem, 85, rfl⟩
abbrev cc7_stg4_1 : Ref sig .tc := ⟨.vmem, 86, rfl⟩
abbrev cc7_stg5_0 : Ref sig .tc := ⟨.vmem, 87, rfl⟩
abbrev cc7_stg5_1 : Ref sig .tc := ⟨.vmem, 88, rfl⟩
abbrev cc7_stg6_0 : Ref sig .tc := ⟨.vmem, 89, rfl⟩
abbrev cc7_stg6_1 : Ref sig .tc := ⟨.vmem, 90, rfl⟩
abbrev cc8_stg0_0 : Ref sig .tc := ⟨.vmem, 91, rfl⟩
abbrev cc8_stg0_1 : Ref sig .tc := ⟨.vmem, 92, rfl⟩
abbrev cc8_stg1_0 : Ref sig .tc := ⟨.vmem, 93, rfl⟩
abbrev cc8_stg1_1 : Ref sig .tc := ⟨.vmem, 94, rfl⟩
abbrev cc8_stg2_0 : Ref sig .tc := ⟨.vmem, 95, rfl⟩
abbrev cc8_stg2_1 : Ref sig .tc := ⟨.vmem, 96, rfl⟩
abbrev cc8_stg3_0 : Ref sig .tc := ⟨.vmem, 97, rfl⟩
abbrev cc8_stg3_1 : Ref sig .tc := ⟨.vmem, 98, rfl⟩
abbrev cc8_stg4_0 : Ref sig .tc := ⟨.vmem, 99, rfl⟩
abbrev cc8_stg4_1 : Ref sig .tc := ⟨.vmem, 100, rfl⟩
abbrev cc8_stg5_0 : Ref sig .tc := ⟨.vmem, 101, rfl⟩
abbrev cc8_stg5_1 : Ref sig .tc := ⟨.vmem, 102, rfl⟩
abbrev cc8_stg6_0 : Ref sig .tc := ⟨.vmem, 103, rfl⟩
abbrev cc8_stg6_1 : Ref sig .tc := ⟨.vmem, 104, rfl⟩
abbrev cc9_stg0_0 : Ref sig .tc := ⟨.vmem, 105, rfl⟩
abbrev cc9_stg0_1 : Ref sig .tc := ⟨.vmem, 106, rfl⟩
abbrev cc9_stg1_0 : Ref sig .tc := ⟨.vmem, 107, rfl⟩
abbrev cc9_stg1_1 : Ref sig .tc := ⟨.vmem, 108, rfl⟩
abbrev cc9_stg2_0 : Ref sig .tc := ⟨.vmem, 109, rfl⟩
abbrev cc9_stg2_1 : Ref sig .tc := ⟨.vmem, 110, rfl⟩
abbrev cc9_stg3_0 : Ref sig .tc := ⟨.vmem, 111, rfl⟩
abbrev cc9_stg3_1 : Ref sig .tc := ⟨.vmem, 112, rfl⟩
abbrev cc9_stg4_0 : Ref sig .tc := ⟨.vmem, 113, rfl⟩
abbrev cc9_stg4_1 : Ref sig .tc := ⟨.vmem, 114, rfl⟩
abbrev cc9_stg5_0 : Ref sig .tc := ⟨.vmem, 115, rfl⟩
abbrev cc9_stg5_1 : Ref sig .tc := ⟨.vmem, 116, rfl⟩
abbrev cc9_stg6_0 : Ref sig .tc := ⟨.vmem, 117, rfl⟩
abbrev cc9_stg6_1 : Ref sig .tc := ⟨.vmem, 118, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem5_1 : DmaSem sig := 53
abbrev cc4_sem6_0 : DmaSem sig := 54
abbrev cc4_sem6_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc5_sem6_0 : DmaSem sig := 68
abbrev cc5_sem6_1 : DmaSem sig := 69
abbrev cc6_sem0_0 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem6_0 : DmaSem sig := 76
abbrev cc7_sem0_0 : DmaSem sig := 77
abbrev cc7_sem0_1 : DmaSem sig := 78
abbrev cc7_sem1_0 : DmaSem sig := 79
abbrev cc7_sem1_1 : DmaSem sig := 80
abbrev cc7_sem2_0 : DmaSem sig := 81
abbrev cc7_sem2_1 : DmaSem sig := 82
abbrev cc7_sem3_0 : DmaSem sig := 83
abbrev cc7_sem3_1 : DmaSem sig := 84
abbrev cc7_sem4_0 : DmaSem sig := 85
abbrev cc7_sem4_1 : DmaSem sig := 86
abbrev cc7_sem5_0 : DmaSem sig := 87
abbrev cc7_sem5_1 : DmaSem sig := 88
abbrev cc7_sem6_0 : DmaSem sig := 89
abbrev cc7_sem6_1 : DmaSem sig := 90
abbrev cc8_sem0_0 : DmaSem sig := 91
abbrev cc8_sem0_1 : DmaSem sig := 92
abbrev cc8_sem1_0 : DmaSem sig := 93
abbrev cc8_sem1_1 : DmaSem sig := 94
abbrev cc8_sem2_0 : DmaSem sig := 95
abbrev cc8_sem2_1 : DmaSem sig := 96
abbrev cc8_sem3_0 : DmaSem sig := 97
abbrev cc8_sem3_1 : DmaSem sig := 98
abbrev cc8_sem4_0 : DmaSem sig := 99
abbrev cc8_sem4_1 : DmaSem sig := 100
abbrev cc8_sem5_0 : DmaSem sig := 101
abbrev cc8_sem5_1 : DmaSem sig := 102
abbrev cc8_sem6_0 : DmaSem sig := 103
abbrev cc8_sem6_1 : DmaSem sig := 104
abbrev cc9_sem0_0 : DmaSem sig := 105
abbrev cc9_sem0_1 : DmaSem sig := 106
abbrev cc9_sem1_0 : DmaSem sig := 107
abbrev cc9_sem1_1 : DmaSem sig := 108
abbrev cc9_sem2_0 : DmaSem sig := 109
abbrev cc9_sem2_1 : DmaSem sig := 110
abbrev cc9_sem3_0 : DmaSem sig := 111
abbrev cc9_sem3_1 : DmaSem sig := 112
abbrev cc9_sem4_0 : DmaSem sig := 113
abbrev cc9_sem4_1 : DmaSem sig := 114
abbrev cc9_sem5_0 : DmaSem sig := 115
abbrev cc9_sem5_1 : DmaSem sig := 116
abbrev cc9_sem6_0 : DmaSem sig := 117
abbrev cc9_sem6_1 : DmaSem sig := 118

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S4x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S4x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S4x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S4x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x768 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x768 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x768 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x768 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S2x512 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S2x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S2x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S2x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S2x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S2x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S2x512 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x448 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x448 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S256x448 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x448 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x448 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x448 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x448 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S256x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S256x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S256x512 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S256x512 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S256x512 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![12], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S256x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S256x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S256x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S256x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S256x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S256x256 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]
-- ==== Reference4Ideal.lean ====
abbrev S4x3x256 : Shape := ⟨3, ![4, 3, 256]⟩
abbrev S4x1024 : Shape := ⟨2, ![4, 1024]⟩
abbrev S4x1024x512 : Shape := ⟨3, ![4, 1024, 512]⟩
abbrev S4x512x1024 : Shape := ⟨3, ![4, 512, 1024]⟩
abbrev S2x256x768 : Shape := ⟨3, ![2, 256, 768]⟩
abbrev S2x4x128x128 : Shape := ⟨4, ![2, 4, 128, 128]⟩
abbrev S2x512 : Shape := ⟨2, ![2, 512]⟩
abbrev S2x1024x448 : Shape := ⟨3, ![2, 1024, 448]⟩
abbrev S4x256x512 : Shape := ⟨3, ![4, 256, 512]⟩
abbrev S4x768x256 : Shape := ⟨3, ![4, 768, 256]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S4x3x256, .f32⟩
  | 1 => ⟨S4x1024, .f32⟩
  | 2 => ⟨S4x1024x512, .f32⟩
  | 3 => ⟨S4x512x1024, .f32⟩
  | 4 => ⟨S2x256x768, .f32⟩
  | 5 => ⟨S2x4x128x128, .f32⟩
  | 6 => ⟨S2x512, .f32⟩
  | 7 => ⟨S2x1024x448, .f32⟩
  | 8 => ⟨S4x256x512, .f32⟩
  | 9 => ⟨S4x768x256, .f32⟩
  | 10 => ⟨S4x3x256, .f32⟩
  | 11 => ⟨S4x1024, .f32⟩
  | 12 => ⟨S4x1024x512, .f32⟩
  | 13 => ⟨S4x512x1024, .f32⟩
  | 14 => ⟨S2x256x768, .f32⟩
  | 15 => ⟨S2x4x128x128, .f32⟩
  | 16 => ⟨S2x512, .f32⟩
  | 17 => ⟨S2x1024x448, .f32⟩
  | 18 => ⟨S4x256x512, .f32⟩
  | 19 => ⟨S4x768x256, .f32⟩
  | 20 => ⟨S4x3x256, .f32⟩
  | 21 => ⟨S4x1024, .f32⟩
  | 22 => ⟨S4x1024x512, .f32⟩
  | 23 => ⟨S4x512x1024, .f32⟩
  | 24 => ⟨S2x256x768, .f32⟩
  | 25 => ⟨S2x4x128x128, .f32⟩
  | 26 => ⟨S2x512, .f32⟩
  | 27 => ⟨S2x1024x448, .f32⟩
  | 28 => ⟨S4x256x512, .f32⟩
  | 29 => ⟨S4x768x256, .f32⟩
  | 30 => ⟨S4x3x256, .f32⟩
  | 31 => ⟨S4x1024, .f32⟩
  | 32 => ⟨S4x1024x512, .f32⟩
  | 33 => ⟨S4x512x1024, .f32⟩
  | 34 => ⟨S2x256x768, .f32⟩
  | 35 => ⟨S2x4x128x128, .f32⟩
  | 36 => ⟨S2x512, .f32⟩
  | 37 => ⟨S2x1024x448, .f32⟩
  | 38 => ⟨S4x256x512, .f32⟩
  | 39 => ⟨S4x768x256, .f32⟩
  | 40 => ⟨S_, .f32⟩
  | 41 => ⟨S4x3x256, .f32⟩
  | 42 => ⟨S4x3x256, .f32⟩
  | 43 => ⟨S_, .f32⟩
  | 44 => ⟨S4x3x256, .f32⟩
  | 45 => ⟨S4x3x256, .f32⟩
  | 46 => ⟨S4x3x256, .f32⟩
  | 47 => ⟨S_, .f32⟩
  | 48 => ⟨S4x3x256, .f32⟩
  | 49 => ⟨S4x3x256, .f32⟩
  | 50 => ⟨S4x3x256, .f32⟩
  | 51 => ⟨S_, .f32⟩
  | 52 => ⟨S4x3x256, .f32⟩
  | 53 => ⟨S4x3x256, .f32⟩
  | 54 => ⟨S4x3x256, .f32⟩
  | 55 => ⟨S_, .f32⟩
  | 56 => ⟨S4x3x256, .f32⟩
  | 57 => ⟨S4x3x256, .f32⟩
  | 58 => ⟨S_, .f32⟩
  | 59 => ⟨S4x3x256, .f32⟩
  | 60 => ⟨S4x3x256, .f32⟩
  | 61 => ⟨S4x3x256, .f32⟩
  | 62 => ⟨S_, .f32⟩
  | 63 => ⟨S4x3x256, .f32⟩
  | 64 => ⟨S4x3x256, .f32⟩
  | 65 => ⟨S4x3x256, .f32⟩
  | 66 => ⟨S_, .f32⟩
  | 67 => ⟨S4x3x256, .f32⟩
  | 68 => ⟨S4x3x256, .f32⟩
  | 69 => ⟨S4x3x256, .f32⟩
  | 70 => ⟨S_, .f32⟩
  | 71 => ⟨S4x3x256, .f32⟩
  | 72 => ⟨S4x3x256, .f32⟩
  | 73 => ⟨S_, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S4x1024, .f32⟩
  | 84 => ⟨S_, .f32⟩
  | 85 => ⟨S4x1024, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S_, .f32⟩
  | 107 => ⟨S4x1024x512, .f32⟩
  | 108 => ⟨S4x1024x512, .f32⟩
  | 109 => ⟨S_, .f32⟩
  | 110 => ⟨S4x1024x512, .f32⟩
  | 111 => ⟨S4x1024x512, .f32⟩
  | 112 => ⟨S4x1024x512, .f32⟩
  | 113 => ⟨S_, .f32⟩
  | 114 => ⟨S4x1024x512, .f32⟩
  | 115 => ⟨S4x1024x512, .f32⟩
  | 116 => ⟨S4x1024x512, .f32⟩
  | 117 => ⟨S_, .f32⟩
  | 118 => ⟨S4x1024x512, .f32⟩
  | 119 => ⟨S4x1024x512, .f32⟩
  | 120 => ⟨S4x1024x512, .f32⟩
  | 121 => ⟨S_, .f32⟩
  | 122 => ⟨S4x1024x512, .f32⟩
  | 123 => ⟨S4x1024x512, .f32⟩
  | 124 => ⟨S_, .f32⟩
  | 125 => ⟨S4x1024x512, .f32⟩
  | 126 => ⟨S4x1024x512, .f32⟩
  | 127 => ⟨S4x1024x512, .f32⟩
  | _ => ⟨S4x3x256, .f32⟩

abbrev hbmTy0_1 (i : Nat) : BufTy := match i % 128 with
  | 0 => ⟨S_, .f32⟩
  | 1 => ⟨S4x1024x512, .f32⟩
  | 2 => ⟨S4x1024x512, .f32⟩
  | 3 => ⟨S4x1024x512, .f32⟩
  | 4 => ⟨S_, .f32⟩
  | 5 => ⟨S4x1024x512, .f32⟩
  | 6 => ⟨S4x1024x512, .f32⟩
  | 7 => ⟨S4x1024x512, .f32⟩
  | 8 => ⟨S_, .f32⟩
  | 9 => ⟨S4x1024x512, .f32⟩
  | 10 => ⟨S4x1024x512, .f32⟩
  | 11 => ⟨S_, .f32⟩
  | 12 => ⟨S4x512x1024, .f32⟩
  | 13 => ⟨S4x512x1024, .f32⟩
  | 14 => ⟨S_, .f32⟩
  | 15 => ⟨S4x512x1024, .f32⟩
  | 16 => ⟨S4x512x1024, .f32⟩
  | 17 => ⟨S4x512x1024, .f32⟩
  | 18 => ⟨S_, .f32⟩
  | 19 => ⟨S4x512x1024, .f32⟩
  | 20 => ⟨S4x512x1024, .f32⟩
  | 21 => ⟨S4x512x1024, .f32⟩
  | 22 => ⟨S_, .f32⟩
  | 23 => ⟨S4x512x1024, .f32⟩
  | 24 => ⟨S4x512x1024, .f32⟩
  | 25 => ⟨S4x512x1024, .f32⟩
  | 26 => ⟨S_, .f32⟩
  | 27 => ⟨S4x512x1024, .f32⟩
  | 28 => ⟨S4x512x1024, .f32⟩
  | 29 => ⟨S_, .f32⟩
  | 30 => ⟨S4x512x1024, .f32⟩
  | 31 => ⟨S4x512x1024, .f32⟩
  | 32 => ⟨S4x512x1024, .f32⟩
  | 33 => ⟨S_, .f32⟩
  | 34 => ⟨S4x512x1024, .f32⟩
  | 35 => ⟨S4x512x1024, .f32⟩
  | 36 => ⟨S4x512x1024, .f32⟩
  | 37 => ⟨S_, .f32⟩
  | 38 => ⟨S4x512x1024, .f32⟩
  | 39 => ⟨S4x512x1024, .f32⟩
  | 40 => ⟨S4x512x1024, .f32⟩
  | 41 => ⟨S_, .f32⟩
  | 42 => ⟨S4x512x1024, .f32⟩
  | 43 => ⟨S4x512x1024, .f32⟩
  | 44 => ⟨S_, .f32⟩
  | 45 => ⟨S2x256x768, .f32⟩
  | 46 => ⟨S2x256x768, .f32⟩
  | 47 => ⟨S_, .f32⟩
  | 48 => ⟨S2x256x768, .f32⟩
  | 49 => ⟨S2x256x768, .f32⟩
  | 50 => ⟨S2x256x768, .f32⟩
  | 51 => ⟨S_, .f32⟩
  | 52 => ⟨S2x256x768, .f32⟩
  | 53 => ⟨S2x256x768, .f32⟩
  | 54 => ⟨S2x256x768, .f32⟩
  | 55 => ⟨S_, .f32⟩
  | 56 => ⟨S2x256x768, .f32⟩
  | 57 => ⟨S2x256x768, .f32⟩
  | 58 => ⟨S2x256x768, .f32⟩
  | 59 => ⟨S_, .f32⟩
  | 60 => ⟨S2x256x768, .f32⟩
  | 61 => ⟨S2x256x768, .f32⟩
  | 62 => ⟨S_, .f32⟩
  | 63 => ⟨S2x256x768, .f32⟩
  | 64 => ⟨S2x256x768, .f32⟩
  | 65 => ⟨S2x256x768, .f32⟩
  | 66 => ⟨S_, .f32⟩
  | 67 => ⟨S2x256x768, .f32⟩
  | 68 => ⟨S2x256x768, .f32⟩
  | 69 => ⟨S2x256x768, .f32⟩
  | 70 => ⟨S_, .f32⟩
  | 71 => ⟨S2x256x768, .f32⟩
  | 72 => ⟨S2x256x768, .f32⟩
  | 73 => ⟨S2x256x768, .f32⟩
  | 74 => ⟨S_, .f32⟩
  | 75 => ⟨S2x256x768, .f32⟩
  | 76 => ⟨S2x256x768, .f32⟩
  | 77 => ⟨S_, .f32⟩
  | 78 => ⟨S2x4x128x128, .f32⟩
  | 79 => ⟨S2x4x128x128, .f32⟩
  | 80 => ⟨S_, .f32⟩
  | 81 => ⟨S2x4x128x128, .f32⟩
  | 82 => ⟨S2x4x128x128, .f32⟩
  | 83 => ⟨S2x4x128x128, .f32⟩
  | 84 => ⟨S_, .f32⟩
  | 85 => ⟨S2x4x128x128, .f32⟩
  | 86 => ⟨S2x4x128x128, .f32⟩
  | 87 => ⟨S2x4x128x128, .f32⟩
  | 88 => ⟨S_, .f32⟩
  | 89 => ⟨S2x4x128x128, .f32⟩
  | 90 => ⟨S2x4x128x128, .f32⟩
  | 91 => ⟨S2x4x128x128, .f32⟩
  | 92 => ⟨S_, .f32⟩
  | 93 => ⟨S2x4x128x128, .f32⟩
  | 94 => ⟨S2x4x128x128, .f32⟩
  | 95 => ⟨S_, .f32⟩
  | 96 => ⟨S2x4x128x128, .f32⟩
  | 97 => ⟨S2x4x128x128, .f32⟩
  | 98 => ⟨S2x4x128x128, .f32⟩
  | 99 => ⟨S_, .f32⟩
  | 100 => ⟨S2x4x128x128, .f32⟩
  | 101 => ⟨S2x4x128x128, .f32⟩
  | 102 => ⟨S2x4x128x128, .f32⟩
  | 103 => ⟨S_, .f32⟩
  | 104 => ⟨S2x4x128x128, .f32⟩
  | 105 => ⟨S2x4x128x128, .f32⟩
  | 106 => ⟨S2x4x128x128, .f32⟩
  | 107 => ⟨S_, .f32⟩
  | 108 => ⟨S2x4x128x128, .f32⟩
  | 109 => ⟨S2x4x128x128, .f32⟩
  | 110 => ⟨S_, .f32⟩
  | 111 => ⟨S2x512, .f32⟩
  | 112 => ⟨S2x512, .f32⟩
  | 113 => ⟨S_, .f32⟩
  | 114 => ⟨S2x512, .f32⟩
  | 115 => ⟨S2x512, .f32⟩
  | 116 => ⟨S2x512, .f32⟩
  | 117 => ⟨S_, .f32⟩
  | 118 => ⟨S2x512, .f32⟩
  | 119 => ⟨S2x512, .f32⟩
  | 120 => ⟨S2x512, .f32⟩
  | 121 => ⟨S_, .f32⟩
  | 122 => ⟨S2x512, .f32⟩
  | 123 => ⟨S2x512, .f32⟩
  | 124 => ⟨S2x512, .f32⟩
  | 125 => ⟨S_, .f32⟩
  | 126 => ⟨S2x512, .f32⟩
  | 127 => ⟨S2x512, .f32⟩
  | _ => ⟨S4x3x256, .f32⟩

abbrev hbmTy0_2 (i : Nat) : BufTy := match i % 128 with
  | 0 => ⟨S_, .f32⟩
  | 1 => ⟨S2x512, .f32⟩
  | 2 => ⟨S2x512, .f32⟩
  | 3 => ⟨S2x512, .f32⟩
  | 4 => ⟨S_, .f32⟩
  | 5 => ⟨S2x512, .f32⟩
  | 6 => ⟨S2x512, .f32⟩
  | 7 => ⟨S2x512, .f32⟩
  | 8 => ⟨S_, .f32⟩
  | 9 => ⟨S2x512, .f32⟩
  | 10 => ⟨S2x512, .f32⟩
  | 11 => ⟨S2x512, .f32⟩
  | 12 => ⟨S_, .f32⟩
  | 13 => ⟨S2x512, .f32⟩
  | 14 => ⟨S2x512, .f32⟩
  | 15 => ⟨S_, .f32⟩
  | 16 => ⟨S2x1024x448, .f32⟩
  | 17 => ⟨S2x1024x448, .f32⟩
  | 18 => ⟨S_, .f32⟩
  | 19 => ⟨S2x1024x448, .f32⟩
  | 20 => ⟨S2x1024x448, .f32⟩
  | 21 => ⟨S2x1024x448, .f32⟩
  | 22 => ⟨S_, .f32⟩
  | 23 => ⟨S2x1024x448, .f32⟩
  | 24 => ⟨S2x1024x448, .f32⟩
  | 25 => ⟨S2x1024x448, .f32⟩
  | 26 => ⟨S_, .f32⟩
  | 27 => ⟨S2x1024x448, .f32⟩
  | 28 => ⟨S2x1024x448, .f32⟩
  | 29 => ⟨S2x1024x448, .f32⟩
  | 30 => ⟨S_, .f32⟩
  | 31 => ⟨S2x1024x448, .f32⟩
  | 32 => ⟨S2x1024x448, .f32⟩
  | 33 => ⟨S_, .f32⟩
  | 34 => ⟨S2x1024x448, .f32⟩
  | 35 => ⟨S2x1024x448, .f32⟩
  | 36 => ⟨S2x1024x448, .f32⟩
  | 37 => ⟨S_, .f32⟩
  | 38 => ⟨S2x1024x448, .f32⟩
  | 39 => ⟨S2x1024x448, .f32⟩
  | 40 => ⟨S2x1024x448, .f32⟩
  | 41 => ⟨S_, .f32⟩
  | 42 => ⟨S2x1024x448, .f32⟩
  | 43 => ⟨S2x1024x448, .f32⟩
  | 44 => ⟨S2x1024x448, .f32⟩
  | 45 => ⟨S_, .f32⟩
  | 46 => ⟨S2x1024x448, .f32⟩
  | 47 => ⟨S2x1024x448, .f32⟩
  | 48 => ⟨S_, .f32⟩
  | 49 => ⟨S4x256x512, .f32⟩
  | 50 => ⟨S4x256x512, .f32⟩
  | 51 => ⟨S_, .f32⟩
  | 52 => ⟨S4x256x512, .f32⟩
  | 53 => ⟨S4x256x512, .f32⟩
  | 54 => ⟨S4x256x512, .f32⟩
  | 55 => ⟨S_, .f32⟩
  | 56 => ⟨S4x256x512, .f32⟩
  | 57 => ⟨S4x256x512, .f32⟩
  | 58 => ⟨S4x256x512, .f32⟩
  | 59 => ⟨S_, .f32⟩
  | 60 => ⟨S4x256x512, .f32⟩
  | 61 => ⟨S4x256x512, .f32⟩
  | 62 => ⟨S4x256x512, .f32⟩
  | 63 => ⟨S_, .f32⟩
  | 64 => ⟨S4x256x512, .f32⟩
  | 65 => ⟨S4x256x512, .f32⟩
  | 66 => ⟨S_, .f32⟩
  | 67 => ⟨S4x256x512, .f32⟩
  | 68 => ⟨S4x256x512, .f32⟩
  | 69 => ⟨S4x256x512, .f32⟩
  | 70 => ⟨S_, .f32⟩
  | 71 => ⟨S4x256x512, .f32⟩
  | 72 => ⟨S4x256x512, .f32⟩
  | 73 => ⟨S4x256x512, .f32⟩
  | 74 => ⟨S_, .f32⟩
  | 75 => ⟨S4x256x512, .f32⟩
  | 76 => ⟨S4x256x512, .f32⟩
  | 77 => ⟨S4x256x512, .f32⟩
  | 78 => ⟨S_, .f32⟩
  | 79 => ⟨S4x256x512, .f32⟩
  | 80 => ⟨S4x256x512, .f32⟩
  | 81 => ⟨S_, .f32⟩
  | 82 => ⟨S4x768x256, .f32⟩
  | 83 => ⟨S4x768x256, .f32⟩
  | 84 => ⟨S_, .f32⟩
  | 85 => ⟨S4x768x256, .f32⟩
  | 86 => ⟨S4x768x256, .f32⟩
  | 87 => ⟨S4x768x256, .f32⟩
  | 88 => ⟨S_, .f32⟩
  | 89 => ⟨S4x768x256, .f32⟩
  | 90 => ⟨S4x768x256, .f32⟩
  | 91 => ⟨S4x768x256, .f32⟩
  | 92 => ⟨S_, .f32⟩
  | 93 => ⟨S4x768x256, .f32⟩
  | 94 => ⟨S4x768x256, .f32⟩
  | 95 => ⟨S4x768x256, .f32⟩
  | 96 => ⟨S_, .f32⟩
  | 97 => ⟨S4x768x256, .f32⟩
  | 98 => ⟨S4x768x256, .f32⟩
  | 99 => ⟨S_, .f32⟩
  | 100 => ⟨S4x768x256, .f32⟩
  | 101 => ⟨S4x768x256, .f32⟩
  | 102 => ⟨S4x768x256, .f32⟩
  | 103 => ⟨S_, .f32⟩
  | 104 => ⟨S4x768x256, .f32⟩
  | 105 => ⟨S4x768x256, .f32⟩
  | 106 => ⟨S4x768x256, .f32⟩
  | 107 => ⟨S_, .f32⟩
  | 108 => ⟨S4x768x256, .f32⟩
  | 109 => ⟨S4x768x256, .f32⟩
  | 110 => ⟨S4x768x256, .f32⟩
  | 111 => ⟨S_, .f32⟩
  | 112 => ⟨S4x768x256, .f32⟩
  | 113 => ⟨S4x768x256, .f32⟩
  | _ => ⟨S4x3x256, .f32⟩

abbrev hbmTy (i : Nat) : BufTy := match i / 128 with
  | 0 => hbmTy0_0 i
  | 1 => hbmTy0_1 i
  | 2 => hbmTy0_2 i
  | _ => ⟨S4x3x256, .f32⟩

abbrev bufTy : (tb : Table) → Fin (tcTables nBuf tb) → BufTy
  | .hbm, ⟨i, _⟩ => hbmTy i
  | _, _ => ⟨S4x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel6.lean ====
abbrev S8192x768 : Shape := ⟨2, ![8192, 768]⟩
abbrev S8192x512 : Shape := ⟨2, ![8192, 512]⟩
abbrev S4x128x128 : Shape := ⟨3, ![4, 128, 128]⟩
abbrev S512 : Shape := ⟨1, ![512]⟩
abbrev S1x512 : Shape := ⟨2, ![1, 512]⟩
abbrev S256x512 : Shape := ⟨2, ![256, 512]⟩
abbrev S16x512 : Shape := ⟨2, ![16, 512]⟩
abbrev S256x1 : Shape := ⟨2, ![256, 1]⟩
abbrev S272x512 : Shape := ⟨2, ![272, 512]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 9
  | .vmem => 13
  | .smem => 0
  | _ => 0

abbrev bufTy : (tb : Table) → Fin (tcTables nBuf tb) → BufTy
  | .hbm, ⟨0, _⟩ => ⟨S8192x768, .f32⟩
  | .hbm, ⟨1, _⟩ => ⟨S8192x512, .f32⟩
  | .hbm, ⟨2, _⟩ => ⟨S4x128x128, .f32⟩
  | .hbm, ⟨3, _⟩ => ⟨S512, .f32⟩
  | .hbm, ⟨4, _⟩ => ⟨S1x512, .f32⟩
  | .hbm, ⟨5, _⟩ => ⟨S8192x512, .f32⟩
  | .hbm, ⟨6, _⟩ => ⟨S4x128x128, .f32⟩
  | .hbm, ⟨7, _⟩ => ⟨S1x512, .f32⟩
  | .hbm, ⟨8, _⟩ => ⟨S512, .f32⟩
  | .local _ .vmem, ⟨0, _⟩ => ⟨S256x512, .f32⟩
  | .local _ .vmem, ⟨1, _⟩ => ⟨S256x512, .f32⟩
  | .local _ .vmem, ⟨2, _⟩ => ⟨S16x512, .f32⟩
  | .local _ .vmem, ⟨3, _⟩ => ⟨S16x512, .f32⟩
  | .local _ .vmem, ⟨4, _⟩ => ⟨S256x512, .f32⟩
  | .local _ .vmem, ⟨5, _⟩ => ⟨S256x512, .f32⟩
  | .local _ .vmem, ⟨6, _⟩ => ⟨S4x128x128, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S4x128x128, .f32⟩
  | .local _ .vmem, ⟨11, _⟩ => ⟨S1x512, .f32⟩
  | .local _ .vmem, ⟨12, _⟩ => ⟨S16x512, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S8192x768 : Shape := ⟨2, ![8192, 768]⟩
abbrev S8192x512 : Shape := ⟨2, ![8192, 512]⟩
abbrev S4x128x128 : Shape := ⟨3, ![4, 128, 128]⟩
abbrev S512 : Shape := ⟨1, ![512]⟩
abbrev S_ : Shape := ⟨0, ![]⟩
abbrev S8192 : Shape := ⟨1, ![8192]⟩
abbrev S8192x128 : Shape := ⟨2, ![8192, 128]⟩
abbrev S2x128 : Shape := ⟨2, ![2, 128]⟩
abbrev S8190x128 : Shape := ⟨2, ![8190, 128]⟩
abbrev S8192x1 : Shape := ⟨2, ![8192, 1]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S1x512 : Shape := ⟨2, ![1, 512]⟩
abbrev S4x8192x128 : Shape := ⟨3, ![4, 8192, 128]⟩

abbrev nBuf : Space → Nat
  | .hbm => 184
  | .vmem => 0
  | .smem => 0
  | _ => 0

abbrev hbmTy0_0 (i : Nat) : BufTy := match i % 128 with
  | 0 => ⟨S8192x768, .f32⟩
  | 1 => ⟨S8192x512, .f32⟩
  | 2 => ⟨S4x128x128, .f32⟩
  | 3 => ⟨S512, .f32⟩
  | 4 => ⟨S8192x512, .f32⟩
  | 5 => ⟨S_, .f32⟩
  | 6 => ⟨S_, .f32⟩
  | 7 => ⟨S8192x512, .f32⟩
  | 8 => ⟨S8192, .i32⟩
  | 9 => ⟨S8192x128, .f32⟩
  | 10 => ⟨S_, .f32⟩
  | 11 => ⟨S2x128, .f32⟩
  | 12 => ⟨S8190x128, .f32⟩
  | 13 => ⟨S8192x128, .f32⟩
  | 14 => ⟨S_, .f32⟩
  | 15 => ⟨S2x128, .f32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192, .f32⟩
  | 23 => ⟨S8192x1, .f32⟩
  | 24 => ⟨S8192x128, .f32⟩
  | 25 => ⟨S8192x128, .f32⟩
  | 26 => ⟨S8192x128, .f32⟩
  | 27 => ⟨S8192x128, .f32⟩
  | 28 => ⟨S8192x128, .f32⟩
  | 29 => ⟨S8192x128, .f32⟩
  | 30 => ⟨S_, .f32⟩
  | 31 => ⟨S4x128, .f32⟩
  | 32 => ⟨S8188x128, .f32⟩
  | 33 => ⟨S8192x128, .f32⟩
  | 34 => ⟨S_, .f32⟩
  | 35 => ⟨S4x128, .f32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S8192, .f32⟩
  | 43 => ⟨S8192x1, .f32⟩
  | 44 => ⟨S8192x128, .f32⟩
  | 45 => ⟨S8192x128, .f32⟩
  | 46 => ⟨S8192x128, .f32⟩
  | 47 => ⟨S8192x128, .f32⟩
  | 48 => ⟨S8192x128, .f32⟩
  | 49 => ⟨S8192x128, .f32⟩
  | 50 => ⟨S_, .f32⟩
  | 51 => ⟨S8x128, .f32⟩
  | 52 => ⟨S8184x128, .f32⟩
  | 53 => ⟨S8192x128, .f32⟩
  | 54 => ⟨S_, .f32⟩
  | 55 => ⟨S8x128, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S8192x1, .f32⟩
  | 64 => ⟨S8192x128, .f32⟩
  | 65 => ⟨S8192x128, .f32⟩
  | 66 => ⟨S8192x128, .f32⟩
  | 67 => ⟨S8192x128, .f32⟩
  | 68 => ⟨S8192x128, .f32⟩
  | 69 => ⟨S8192x128, .f32⟩
  | 70 => ⟨S_, .f32⟩
  | 71 => ⟨S16x128, .f32⟩
  | 72 => ⟨S8176x128, .f32⟩
  | 73 => ⟨S8192x128, .f32⟩
  | 74 => ⟨S_, .f32⟩
  | 75 => ⟨S16x128, .f32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .f32⟩
  | 83 => ⟨S8192x1, .f32⟩
  | 84 => ⟨S8192x128, .f32⟩
  | 85 => ⟨S8192x128, .f32⟩
  | 86 => ⟨S8192x128, .f32⟩
  | 87 => ⟨S8192x128, .f32⟩
  | 88 => ⟨S8192x128, .f32⟩
  | 89 => ⟨S8192x1x128, .f32⟩
  | 90 => ⟨S8192x1x128, .f32⟩
  | 91 => ⟨S8192x1x128, .f32⟩
  | 92 => ⟨S8192x1x128, .f32⟩
  | 93 => ⟨S8192x4x128, .f32⟩
  | 94 => ⟨S4x128x8192, .f32⟩
  | 95 => ⟨S8192x4x128, .f32⟩
  | 96 => ⟨S8192x512, .f32⟩
  | 97 => ⟨S1x512, .f32⟩
  | 98 => ⟨S8192x512, .f32⟩
  | 99 => ⟨S8192x512, .f32⟩
  | 100 => ⟨S8192x512, .f32⟩
  | 101 => ⟨S_, .f32⟩
  | 102 => ⟨S512, .f32⟩
  | 103 => ⟨S1x512, .f32⟩
  | 104 => ⟨S8192x512, .f32⟩
  | 105 => ⟨S8192x512, .f32⟩
  | 106 => ⟨S_, .f32⟩
  | 107 => ⟨S512, .f32⟩
  | 108 => ⟨S8192x4x128, .f32⟩
  | 109 => ⟨S4x128x8192, .f32⟩
  | 110 => ⟨S4x8192x128, .f32⟩
  | 111 => ⟨S8192x4x128, .f32⟩
  | 112 => ⟨S4x128x128, .f32⟩
  | 113 => ⟨S4x128x128, .f32⟩
  | 114 => ⟨S8192x1x128, .f32⟩
  | 115 => ⟨S8192x128, .f32⟩
  | 116 => ⟨S8192x1x128, .f32⟩
  | 117 => ⟨S8192x128, .f32⟩
  | 118 => ⟨S8192x1x128, .f32⟩
  | 119 => ⟨S8192x128, .f32⟩
  | 120 => ⟨S8192x1x128, .f32⟩
  | 121 => ⟨S8192x128, .f32⟩
  | 122 => ⟨S8192x128, .f32⟩
  | 123 => ⟨S_, .f32⟩
  | 124 => ⟨S8192x512, .f32⟩
  | 125 => ⟨S8192x128, .f32⟩
  | 126 => ⟨S8192x128, .f32⟩
  | 127 => ⟨S8192x128, .f32⟩
  | _ => ⟨S8192x768, .f32⟩

abbrev hbmTy0_1 (i : Nat) : BufTy := match i % 128 with
  | 0 => ⟨S16x128, .f32⟩
  | 1 => ⟨S8176x128, .f32⟩
  | 2 => ⟨S_, .f32⟩
  | 3 => ⟨S8192x128, .f32⟩
  | 4 => ⟨S8192x128, .f32⟩
  | 5 => ⟨S_, .f32⟩
  | 6 => ⟨S8192x512, .f32⟩
  | 7 => ⟨S8192x128, .f32⟩
  | 8 => ⟨S_, .f32⟩
  | 9 => ⟨S8192x512, .f32⟩
  | 10 => ⟨S8192x512, .f32⟩
  | 11 => ⟨S8192x128, .f32⟩
  | 12 => ⟨S8192x128, .f32⟩
  | 13 => ⟨S8192x128, .f32⟩
  | 14 => ⟨S8x128, .f32⟩
  | 15 => ⟨S8184x128, .f32⟩
  | 16 => ⟨S_, .f32⟩
  | 17 => ⟨S8192x128, .f32⟩
  | 18 => ⟨S8192x128, .f32⟩
  | 19 => ⟨S_, .f32⟩
  | 20 => ⟨S8192x512, .f32⟩
  | 21 => ⟨S8192x512, .f32⟩
  | 22 => ⟨S8192x128, .f32⟩
  | 23 => ⟨S_, .f32⟩
  | 24 => ⟨S8192x512, .f32⟩
  | 25 => ⟨S8192x512, .f32⟩
  | 26 => ⟨S8192x128, .f32⟩
  | 27 => ⟨S8192x128, .f32⟩
  | 28 => ⟨S8192x128, .f32⟩
  | 29 => ⟨S4x128, .f32⟩
  | 30 => ⟨S8188x128, .f32⟩
  | 31 => ⟨S_, .f32⟩
  | 32 => ⟨S8192x128, .f32⟩
  | 33 => ⟨S8192x128, .f32⟩
  | 34 => ⟨S_, .f32⟩
  | 35 => ⟨S8192x512, .f32⟩
  | 36 => ⟨S8192x512, .f32⟩
  | 37 => ⟨S8192x128, .f32⟩
  | 38 => ⟨S_, .f32⟩
  | 39 => ⟨S8192x512, .f32⟩
  | 40 => ⟨S8192x512, .f32⟩
  | 41 => ⟨S8192x128, .f32⟩
  | 42 => ⟨S8192x128, .f32⟩
  | 43 => ⟨S8192x128, .f32⟩
  | 44 => ⟨S2x128, .f32⟩
  | 45 => ⟨S8190x128, .f32⟩
  | 46 => ⟨S_, .f32⟩
  | 47 => ⟨S8192x128, .f32⟩
  | 48 => ⟨S8192x128, .f32⟩
  | 49 => ⟨S_, .f32⟩
  | 50 => ⟨S8192x512, .f32⟩
  | 51 => ⟨S8192x512, .f32⟩
  | 52 => ⟨S_, .f32⟩
  | 53 => ⟨S_, .f32⟩
  | 54 => ⟨S8192x512, .f32⟩
  | 55 => ⟨S8192x512, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_15 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_16 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_17 : Ref sig .tc := ⟨.hbm, 130, rfl⟩
abbrev main_v105 : Ref sig .tc := ⟨.hbm, 131, rfl⟩
abbrev main_v106 : Ref sig .tc := ⟨.hbm, 132, rfl⟩
abbrev main_cst_18 : Ref sig .tc := ⟨.hbm, 133, rfl⟩
abbrev main_v107 : Ref sig .tc := ⟨.hbm, 134, rfl⟩
abbrev main_v108 : Ref sig .tc := ⟨.hbm, 135, rfl⟩
abbrev main_cst_19 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_20 : Ref sig .tc := ⟨.hbm, 144, rfl⟩
abbrev main_v116 : Ref sig .tc := ⟨.hbm, 145, rfl⟩
abbrev main_v117 : Ref sig .tc := ⟨.hbm, 146, rfl⟩
abbrev main_cst_21 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_22 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_23 : Ref sig .tc := ⟨.hbm, 159, rfl⟩
abbrev main_v128 : Ref sig .tc := ⟨.hbm, 160, rfl⟩
abbrev main_v129 : Ref sig .tc := ⟨.hbm, 161, rfl⟩
abbrev main_cst_24 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_25 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_26 : Ref sig .tc := ⟨.hbm, 174, rfl⟩
abbrev main_v140 : Ref sig .tc := ⟨.hbm, 175, rfl⟩
abbrev main_v141 : Ref sig .tc := ⟨.hbm, 176, rfl⟩
abbrev main_cst_27 : Ref sig .tc := ⟨.hbm, 177, rfl⟩
abbrev main_v142 : Ref sig .tc := ⟨.hbm, 178, rfl⟩
abbrev main_v143 : Ref sig .tc := ⟨.hbm, 179, rfl⟩
abbrev main_call1_call0_cst : Ref sig .tc := ⟨.hbm, 180, rfl⟩
abbrev main_call1_call0_v0 : Ref sig .tc := ⟨.hbm, 181, rfl⟩
abbrev main_v144 : Ref sig .tc := ⟨.hbm, 182, rfl⟩
abbrev main_v145 : Ref sig .tc := ⟨.hbm, 183, rfl⟩

abbrev nD : Nat := 1
abbrev τ : Topo := Topo.v7x

variable {F : FTy → Type} [FloatOps F]
-- ==== Proof.Lift.lean ====
/- Arrays of real numbers seen as arrays of extended reals, and what each vector operation of the kernel does to them.
   Every rule says: an operation on arrays that hold real numbers gives the array of the real numbers one expects. -/
module

public import proofs.«01_k».proof.Proof.Gen.KernelIdeal.Skeleton
public import Idealize.ShloMosaic.Lib.Pipeline.ValueKit

@[expose] public section

set_option maxRecDepth 16384

noncomputable section

namespace Cert.FfnBlock

open Idealize.ShloMosaic

variable {n m l : ℕ} {φ ψ : FTy}

/-- A vector of real numbers as an array of extended reals. -/
def lift1 (x : Fin n → ℝ) : FVec Ideal ⟨1, ![n]⟩ φ := fun i => ((x (i 0) : ℝ) : EReal)
/-- A matrix of real numbers as an array of extended reals. -/
def lift2 (x : Fin n → Fin m → ℝ) : FVec Ideal ⟨2, ![n, m]⟩ φ := fun i => ((x (i 0) (i 1) : ℝ) : EReal)
/-- A rank-three array of real numbers as an array of extended reals. -/
def lift3 (x : Fin n → Fin m → Fin l → ℝ) : FVec Ideal ⟨3, ![n, m, l]⟩ φ :=
  fun i => ((x (i 0) (i 1) (i 2) : ℝ) : EReal)

/-- The coercion of the reals passes through a finite sum. -/
theorem coe_sum {ι : Type} [Fintype ι] (f : ι → ℝ) : ∑ k, ((f k : ℝ) : EReal) = ((∑ k, f k : ℝ) : EReal) := by
  classical
  have h : ∀ s : Finset ι, ∑ k ∈ s, ((f k : ℝ) : EReal) = ((∑ k ∈ s, f k : ℝ) : EReal) := by
    intro s
    induction s using Finset.induction_on with
    | empty => simp
    | insert a s ha ih => rw [Finset.sum_insert ha, Finset.sum_insert ha, ih, EReal.coe_add]
  exact h Finset.univ

/-! ## Constants -/

/-- The additive constant under the root of the norm: the single-precision number nearest to one millionth. -/
def eps : ℝ := 8796093 / 2 ^ 43

theorem eps_pos : 0 < eps := by unfold eps; norm_num

theorem ofBits_zero : (Ideal.ofBits .f32 0x00000000#32 : EReal) = ((0 : ℝ) : EReal) := by
  simp [Ideal.ofBits, Ideal.ieee]
theorem ofBits_one : (Ideal.ofBits .f32 0x3F800000#32 : EReal) = ((1 : ℝ) : EReal) := by
  simp [Ideal.ofBits, Ideal.ieee, -EReal.coe_mul]; norm_num
theorem ofBits_half : (Ideal.ofBits .f32 0x3F000000#32 : EReal) = ((1 / 2 : ℝ) : EReal) := by
  simp [Ideal.ofBits, Ideal.ieee, -EReal.coe_mul]; norm_num
theorem ofBits_width : (Ideal.ofBits .f32 0x44800000#32 : EReal) = ((1024 : ℝ) : EReal) := by
  simp [Ideal.ofBits, Ideal.ieee, -EReal.coe_mul]; norm_num
theorem ofBits_eps : (Ideal.ofBits .f32 0x358637BD#32 : EReal) = ((eps : ℝ) : EReal) := by
  simp [Ideal.ofBits, Ideal.ieee, -EReal.coe_mul, eps]; norm_num

theorem cst_zero : (broadcast ⟨2, ![n, m]⟩ (Scalar.ofBits .f32 0x00000000#32) : FVec Ideal _ .f32) = lift2 fun _ _ => 0 := by
  funext i; exact ofBits_zero
theorem cst_zero3 : (broadcast ⟨3, ![n, m, l]⟩ (Scalar.ofBits .f32 0x00000000#32) : FVec Ideal _ .f32) = lift3 fun _ _ _ => 0 := by
  funext i; exact ofBits_zero
theorem cst_one : (broadcast ⟨2, ![n, m]⟩ (Scalar.ofBits .f32 0x3F800000#32) : FVec Ideal _ .f32) = lift2 fun _ _ => 1 := by
  funext i; exact ofBits_one
theorem cst_half : (broadcast ⟨2, ![n, m]⟩ (Scalar.ofBits .f32 0x3F000000#32) : FVec Ideal _ .f32) = lift2 fun _ _ => 1 / 2 := by
  funext i; exact ofBits_half
theorem cst_width : (broadcast ⟨2, ![n, m]⟩ (Scalar.ofBits .f32 0x44800000#32) : FVec Ideal _ .f32) = lift2 fun _ _ => 1024 := by
  funext i; exact ofBits_width
theorem cst_eps : (broadcast ⟨2, ![n, m]⟩ (Scalar.ofBits .f32 0x358637BD#32) : FVec Ideal _ .f32) = lift2 fun _ _ => eps := by
  funext i; exact ofBits_eps

/-! ## Elementwise operations -/

theorem mulf_lift2 (x y : Fin n → Fin m → ℝ) :
    mulf (lift2 (φ := φ) x) (lift2 y) = lift2 fun i j => x i j * y i j := by
  funext i; simp [lift2, mulf]
theorem addf_lift2 (x y : Fin n → Fin m → ℝ) :
    addf (lift2 (φ := φ) x) (lift2 y) = lift2 fun i j => x i j + y i j := by
  funext i; simp [lift2, addf]
theorem subf_lift2 (x y : Fin n → Fin m → ℝ) :
    subf (lift2 (φ := φ) x) (lift2 y) = lift2 fun i j => x i j - y i j := by
  funext i; simp [lift2, subf]
theorem exp_lift2 (x : Fin n → Fin m → ℝ) :
    exp (lift2 (φ := φ) x) = lift2 fun i j => Real.exp (x i j) := by
  funext i; simp [lift2, exp]
theorem truncf_lift2 (x : Fin n → Fin m → ℝ) (h) :
    truncf ψ (lift2 (φ := φ) x) h = lift2 x := by
  funext i; simp [lift2, truncf]
theorem extf_lift2 (x : Fin n → Fin m → ℝ) (h) :
    extf ψ (lift2 (φ := φ) x) h = lift2 x := by
  funext i; simp [lift2, extf]
/-- A quotient by a number that is nowhere zero. -/
theorem divf_lift2 (x y : Fin n → Fin m → ℝ) (h : ∀ i j, y i j ≠ 0) :
    divf (lift2 (φ := φ) x) (lift2 y) = lift2 fun i j => x i j / y i j := by
  funext i
  show Ideal.div ((x (i 0) (i 1) : ℝ) : EReal) ((y (i 0) (i 1) : ℝ) : EReal) = ((x (i 0) (i 1) / y (i 0) (i 1) : ℝ) : EReal)
  exact (Ideal.div_coe (h (i 0) (i 1)) _).trans (by rw [← EReal.coe_mul, mul_one_div])
theorem divf_width (x : Fin n → Fin m → ℝ) :
    divf (lift2 (φ := φ) x) (lift2 fun _ _ => 1024) = lift2 fun i j => x i j / 1024 :=
  divf_lift2 _ _ fun _ _ => by norm_num
/-- The logistic function as the kernel computes it. -/
theorem divf_sig (x : Fin n → Fin m → ℝ) :
    divf (lift2 (φ := φ) fun _ _ => 1) (lift2 fun i j => 1 + Real.exp (x i j)) = lift2 fun i j => 1 / (1 + Real.exp (x i j)) :=
  divf_lift2 _ _ fun i j => by positivity
theorem rsqrt_lift2 (x : Fin n → Fin m → ℝ) (h : ∀ i j, 0 < x i j) :
    rsqrt (lift2 (φ := φ) x) = lift2 fun i j => (√(x i j))⁻¹ := by
  funext i
  show Ideal.rsqrt ((x (i 0) (i 1) : ℝ) : EReal) = (((√(x (i 0) (i 1)))⁻¹ : ℝ) : EReal)
  exact (Ideal.rsqrt_coe _).trans ((if_neg (not_lt.2 (h (i 0) (i 1)).le)).trans (if_neg (h (i 0) (i 1)).ne'))
/-- The reciprocal root of a mean of squares. -/
theorem rsqrt_ms (x : Fin n → Fin l → ℝ) :
    rsqrt (lift2 (m := m) (φ := φ) fun i _ => (∑ k, x i k * x i k) / 1024 + eps)
      = lift2 fun i _ => (√((∑ k, x i k * x i k) / 1024 + eps))⁻¹ :=
  rsqrt_lift2 _ fun i _ => by
    have h : 0 ≤ ∑ k, x i k * x i k := Finset.sum_nonneg fun k _ => mul_self_nonneg _
    have := eps_pos
    positivity
theorem constant_lift2 : (constant ⟨2, ![n, m]⟩ .f32 0x00000000#32 : FVec Ideal _ _) = lift2 fun _ _ => 0 := by
  funext i; simp [lift2, constant]

/-! ## Moving and summing -/

section
open Cert.KernelIdeal Cert.KernelIdeal.Gen

theorem cast_512_512 (x : Fin 512 → Fin 512 → ℝ) (h) : shapeCast S512x512 (lift2 (φ := φ) x) h = lift2 x := by
  funext i; pointwise [lift2]
theorem cast_same (x : Fin n → Fin m → ℝ) (h) : shapeCast ⟨2, ![n, m]⟩ (lift2 (φ := φ) x) h = lift2 x := by
  funext i; rw [shapeCast_self]
theorem cast_col512 (x : Fin 512 → ℝ) (h) : shapeCast S512x1 (lift1 (φ := φ) x) h = lift2 fun i _ => x i := by
  funext i; pointwise [lift2, lift1]
theorem cast_col256 (x : Fin 256 → ℝ) (h) : shapeCast S256x1 (lift1 (φ := φ) x) h = lift2 fun i _ => x i := by
  funext i; pointwise [lift2, lift1]
theorem cast_row (x : Fin 1024 → ℝ) (h) : shapeCast S1x1024 (lift1 (φ := φ) x) h = lift2 fun _ i => x i := by
  funext i; pointwise [lift2, lift1]
theorem cast_drop_a (x : Fin 1 → Fin 1024 → Fin 512 → ℝ) (h) : shapeCast S1024x512 (lift3 (φ := φ) x) h = lift2 fun i j => x 0 i j := by
  funext i; pointwise [lift2, lift3]
theorem cast_drop_b (x : Fin 1 → Fin 512 → Fin 1024 → ℝ) (h) : shapeCast S512x1024 (lift3 (φ := φ) x) h = lift2 fun i j => x 0 i j := by
  funext i; pointwise [lift2, lift3]
theorem cast_add_a (x : Fin 1024 → Fin 512 → ℝ) (h) : shapeCast S1x1024x512 (lift2 (φ := φ) x) h = lift3 fun _ i j => x i j := by
  funext i; pointwise [lift2, lift3]
theorem cols_512 (x : Fin 512 → Fin 1 → ℝ) (h) : broadcastTo S512x1024 (lift2 (φ := φ) x) h = lift2 fun i _ => x i 0 := by
  funext i; pointwise [lift2]
theorem cols_256 (x : Fin 256 → Fin 1 → ℝ) (h) : broadcastTo S256x1024 (lift2 (φ := φ) x) h = lift2 fun i _ => x i 0 := by
  funext i; pointwise [lift2]
theorem rows_512 (x : Fin 1 → Fin 1024 → ℝ) (h) : broadcastTo S512x1024 (lift2 (φ := φ) x) h = lift2 fun _ j => x 0 j := by
  funext i; pointwise [lift2]
theorem rows_256 (x : Fin 1 → Fin 1024 → ℝ) (h) : broadcastTo S256x1024 (lift2 (φ := φ) x) h = lift2 fun _ j => x 0 j := by
  funext i; pointwise [lift2]
theorem flip_1024 (x : Fin 1024 → Fin 1024 → ℝ) (h) : transpose S1024x1024 [1, 0] (lift2 (φ := φ) x) h = lift2 fun i j => x j i := by
  funext i; pointwise [lift2]
theorem flip_2048 (x : Fin 1024 → Fin 2048 → ℝ) (h) : transpose S2048x1024 [1, 0] (lift2 (φ := φ) x) h = lift2 fun i j => x j i := by
  funext i; pointwise [lift2]
set_option backward.isDefEq.respectTransparency.types false

theorem sum1_512 (x : Fin 512 → Fin 1024 → ℝ) (h) :
    multiReduction .add [1] S512 (lift2 (φ := .f32) x) 0x00000000#32 h (.inl rfl) rfl = lift1 fun i => ∑ k, x i k := by
  funext i; pointwise [lift2, lift1]; exact coe_sum _
theorem sum1_256 (x : Fin 256 → Fin 1024 → ℝ) (h) :
    multiReduction .add [1] S256 (lift2 (φ := .f32) x) 0x00000000#32 h (.inl rfl) rfl = lift1 fun i => ∑ k, x i k := by
  funext i; pointwise [lift2, lift1]; exact coe_sum _
theorem sum0_256 (x : Fin 256 → Fin 1024 → ℝ) (h) :
    multiReduction .add [0] S1024 (lift2 (φ := .f32) x) 0x00000000#32 h (.inl rfl) rfl = lift1 fun j => ∑ k, x k j := by
  funext i; pointwise [lift2, lift1]; exact coe_sum _

/-! ## Slots of the chunked weights -/

theorem slot_a0 (w : Fin 4 → Fin 1024 → Fin 512 → ℝ) (h) :
    View.ld (Val := Elt Ideal) (e' := .bf16) (lift3 w : FVec Ideal S4x1024x512 .bf16) (Rect.unit (s := S4x1024x512) ![0, 0, 0] S1x1024x512.size h)
      = lift3 (φ := .bf16) fun _ : Fin 1 => w 0 := by
  funext i; pointwise [lift3]
theorem slot_b0 (w : Fin 4 → Fin 512 → Fin 1024 → ℝ) (h) :
    View.ld (Val := Elt Ideal) (e' := .bf16) (lift3 w : FVec Ideal S4x512x1024 .bf16) (Rect.unit (s := S4x512x1024) ![0, 0, 0] S1x512x1024.size h)
      = lift3 (φ := .bf16) fun _ : Fin 1 => w 0 := by
  funext i; pointwise [lift3]
theorem slot_a1 (w : Fin 4 → Fin 1024 → Fin 512 → ℝ) (h) :
    View.ld (Val := Elt Ideal) (e' := .bf16) (lift3 w : FVec Ideal S4x1024x512 .bf16) (Rect.unit (s := S4x1024x512) ![1, 0, 0] S1x1024x512.size h)
      = lift3 (φ := .bf16) fun _ : Fin 1 => w 1 := by
  funext i; pointwise [lift3]
theorem slot_b1 (w : Fin 4 → Fin 512 → Fin 1024 → ℝ) (h) :
    View.ld (Val := Elt Ideal) (e' := .bf16) (lift3 w : FVec Ideal S4x512x1024 .bf16) (Rect.unit (s := S4x512x1024) ![1, 0, 0] S1x512x1024.size h)
      = lift3 (φ := .bf16) fun _ : Fin 1 => w 1 := by
  funext i; pointwise [lift3]
theorem slot_a2 (w : Fin 4 → Fin 1024 → Fin 512 → ℝ) (h) :
    View.ld (Val := Elt Ideal) (e' := .bf16) (lift3 w : FVec Ideal S4x1024x512 .bf16) (Rect.unit (s := S4x1024x512) ![2, 0, 0] S1x1024x512.size h)
      = lift3 (φ := .bf16) fun _ : Fin 1 => w 2 := by
  funext i; pointwise [lift3]
theorem slot_b2 (w : Fin 4 → Fin 512 → Fin 1024 → ℝ) (h) :
    View.ld (Val := Elt Ideal) (e' := .bf16) (lift3 w : FVec Ideal S4x512x1024 .bf16) (Rect.unit (s := S4x512x1024) ![2, 0, 0] S1x512x1024.size h)
      = lift3 (φ := .bf16) fun _ : Fin 1 => w 2 := by
  funext i; pointwise [lift3]
theorem slot_a3 (w : Fin 4 → Fin 1024 → Fin 512 → ℝ) (h) :
    View.ld (Val := Elt Ideal) (e' := .bf16) (lift3 w : FVec Ideal S4x1024x512 .bf16) (Rect.unit (s := S4x1024x512) ![3, 0, 0] S1x1024x512.size h)
      = lift3 (φ := .bf16) fun _ : Fin 1 => w 3 := by
  funext i; pointwise [lift3]
theorem slot_b3 (w : Fin 4 → Fin 512 → Fin 1024 → ℝ) (h) :
    View.ld (Val := Elt Ideal) (e' := .bf16) (lift3 w : FVec Ideal S4x512x1024 .bf16) (Rect.unit (s := S4x512x1024) ![3, 0, 0] S1x512x1024.size h)
      = lift3 (φ := .bf16) fun _ : Fin 1 => w 3 := by
  funext i; pointwise [lift3]

/-! ## Products -/

theorem product_a (x : Fin 512 → Fin 1024 → ℝ) (y : Fin 1024 → Fin 512 → ℝ) :
    matmul dot_S512x1024_S1024x512_S512x512_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product_b (x : Fin 512 → Fin 512 → ℝ) (y : Fin 512 → Fin 1024 → ℝ) :
    matmul dot_S512x512_S512x1024_S512x1024_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product_c (x : Fin 256 → Fin 1024 → ℝ) (y : Fin 512 → Fin 1024 → ℝ) :
    matmul dot_S256x1024_S512x1024_S256x512_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product_d (x : Fin 256 → Fin 512 → ℝ) (y : Fin 1024 → Fin 512 → ℝ) :
    matmul dot_S256x512_S1024x512_S256x1024_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product_e (x : Fin 1024 → Fin 1024 → ℝ) (y : Fin 1024 → Fin 512 → ℝ) :
    matmul dot_S1024x1024_S1024x512_S1024x512_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product_f (x : Fin 2048 → Fin 1024 → ℝ) (y : Fin 1024 → Fin 512 → ℝ) :
    matmul dot_S2048x1024_S1024x512_S2048x512_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp

end

end Cert.FfnBlock
-- ==== Proof.Block.lean ====
/- The feed-forward block over the real numbers, row by row: the forward pass, and its gradient written as the chain of
   the gradients of its four steps (norm, gated product, product, norm). -/
module

public import proofs.«01_k».proof.Proof.Lift

@[expose] public section

noncomputable section

namespace Cert.FfnBlock

/-! ## The forward pass of one row -/

/-- The mean of the squares of a row, plus the small constant. -/
def ms (x : Fin 1024 → ℝ) : ℝ := (∑ k, x k * x k) / 1024 + eps
/-- The reciprocal of its root. -/
def rs (x : Fin 1024 → ℝ) : ℝ := (√(ms x))⁻¹
/-- The row brought to unit mean square. -/
def hat (x : Fin 1024 → ℝ) (j : Fin 1024) : ℝ := x j * rs x
/-- The norm with its gain. -/
def normed (g x : Fin 1024 → ℝ) (j : Fin 1024) : ℝ := hat x j * g j
/-- A row times a matrix. -/
def times {n m : ℕ} (W : Fin n → Fin m → ℝ) (x : Fin n → ℝ) (j : Fin m) : ℝ := ∑ k, x k * W k j
/-- A row times the transpose of a matrix. -/
def timesT {n m : ℕ} (W : Fin n → Fin m → ℝ) (x : Fin m → ℝ) (i : Fin n) : ℝ := ∑ k, x k * W i k
/-- The logistic function. -/
def logistic (a : ℝ) : ℝ := 1 / (1 + Real.exp (-a))
/-- The gated product of two rows. -/
def gated (a b : Fin 2048 → ℝ) (q : Fin 2048) : ℝ := a q * logistic (a q) * b q
/-- The residual sum at the end of the block. -/
def residual (g x f : Fin 1024 → ℝ) (j : Fin 1024) : ℝ := x j + 1 / 2 * normed g f j

/-! ## The gradients of the steps -/

/-- The gradient of the unit-mean-square map at `x`, applied to `t`. -/
def hatBack (x t : Fin 1024 → ℝ) (j : Fin 1024) : ℝ := rs x * (t j - hat x j * ((∑ k, t k * hat x k) / 1024))
/-- The gradient that reaches the branch's output row. -/
def outBack (g f dy : Fin 1024 → ℝ) : Fin 1024 → ℝ := hatBack f fun j => 1 / 2 * dy j * g j
/-- The gradient at the gate's argument. -/
def gateBack (a b ds : Fin 2048 → ℝ) (q : Fin 2048) : ℝ := ds q * b q * (logistic (a q) * (1 + a q * (1 - logistic (a q))))
/-- The gradient at the gated row. -/
def upBack (a ds : Fin 2048 → ℝ) (q : Fin 2048) : ℝ := ds q * (a q * logistic (a q))
/-- The gradient at the normed row. -/
def normedBack (Wg Wu : Fin 1024 → Fin 2048 → ℝ) (da db : Fin 2048 → ℝ) (j : Fin 1024) : ℝ :=
  timesT Wg da j + timesT Wu db j
/-- The gradient at the block's input row. -/
def inBack (g x dy dn : Fin 1024 → ℝ) (j : Fin 1024) : ℝ := dy j + hatBack x (fun k => dn k * g k) j

/-! ## The hidden width in four chunks -/

/-- Column `j` of chunk `c`. -/
def ch (c : Fin 4) (j : Fin 512) : Fin 2048 := ⟨512 * c + j, by omega⟩

/-- A sum over the hidden width, chunk by chunk. -/
theorem sum_chunks (F : Fin 2048 → ℝ) :
    ∑ q, F q = ∑ j, F (ch 0 j) + ∑ j, F (ch 1 j) + ∑ j, F (ch 2 j) + ∑ j, F (ch 3 j) := by
  have h : ∑ q : Fin (4 * 512), F q = ∑ c : Fin 4, ∑ j : Fin 512, F (ch c j) := by
    rw [← Fintype.sum_prod_type', ← finProdFinEquiv.sum_comp]
    refine Finset.sum_congr rfl fun p _ => congrArg F (Fin.ext ?_)
    simp [finProdFinEquiv, ch]; omega
  exact h.trans (by simp [Fin.sum_univ_four])

/-- The mean of squares is positive. -/
theorem ms_pos (x : Fin 1024 → ℝ) : 0 < ms x := by
  have h : 0 ≤ ∑ k, x k * x k := Finset.sum_nonneg fun k _ => mul_self_nonneg _
  have := eps_pos
  unfold ms
  positivity

end Cert.FfnBlock
-- ==== Proof.Forward.lean ====
/- What the forward kernel's body computes on one block of rows: on real inputs every stored value is the row's
   mathematics of the feed-forward block. -/
module

public import proofs.«01_k».proof.Proof.Block
public import proofs.«01_k».proof.Proof.Gen.KernelIdeal.Frame.Region0
public import Idealize.ShloMosaic.Lib.Pipeline.ReadBack

@[expose] public section

set_option maxRecDepth 16384

noncomputable section

namespace Cert.FfnBlock

open Idealize.ShloMosaic Cert.KernelIdeal Cert.KernelIdeal.Gen

set_option backward.isDefEq.respectTransparency.types false

/-- The gate (or up) weights in four column chunks. -/
def colChunks (W : Fin 1024 → Fin 2048 → ℝ) (c : Fin 4) (i : Fin 1024) (j : Fin 512) : ℝ := W i (ch c j)
/-- The down weights in four row chunks. -/
def rowChunks (W : Fin 2048 → Fin 1024 → ℝ) (c : Fin 4) (i : Fin 512) (j : Fin 1024) : ℝ := W (ch c i) j

/-- A gain as the one-row array the kernel takes. -/
abbrev argG (g : Fin 1024 → ℝ) : Vec Ideal S1x1024 .f32 := lift2 (φ := .f32) (n := 1) fun _ => g
/-- The gate or up weights as the kernel takes them. -/
abbrev argC (W : Fin 1024 → Fin 2048 → ℝ) : Vec Ideal S4x1024x512 .bf16 := lift3 (φ := .bf16) (colChunks W)
/-- The down weights as the kernel takes them. -/
abbrev argR (W : Fin 2048 → Fin 1024 → ℝ) : Vec Ideal S4x512x1024 .bf16 := lift3 (φ := .bf16) (rowChunks W)

/-- Four column chunks stored side by side. -/
theorem four_512 (p0 p1 p2 p3 : Fin 512 → Fin 512 → ℝ) (Y : Fin 512 → Fin 2048 → ℝ)
    (h0 : ∀ i j, p0 i j = Y i (ch 0 j)) (h1 : ∀ i j, p1 i j = Y i (ch 1 j))
    (h2 : ∀ i j, p2 i j = Y i (ch 2 j)) (h3 : ∀ i j, p3 i j = Y i (ch 3 j)) :
    View.canon (Val := Elt Ideal) (s := S512x2048) (e := .bf16) [⟨r0_12, lift2 (φ := .bf16) p3⟩, ⟨r0_9, lift2 (φ := .bf16) p2⟩,
      ⟨r0_6, lift2 (φ := .bf16) p1⟩, ⟨r0_3, lift2 (φ := .bf16) p0⟩] = lift2 (φ := .bf16) Y := by
  funext y
  refine View.canon_append_of_piecesOf (Val := Elt Ideal) (e := .bf16) (lift2 (φ := .bf16) Y) [] [⟨_, _⟩, ⟨_, _⟩, ⟨_, _⟩, ⟨_, _⟩] ⟨fun x => ?_, fun x => ?_, fun x => ?_, fun x => ?_, trivial⟩ y
    (cover0_7 _ _ _ _ y)
  · refine congrArg Real.toEReal ((h3 (x 0) (x 1)).trans (congrArg₂ Y (Fin.ext ?_) (Fin.ext ?_)))
    · exact ((Rect.idx_unit_val (s := S512x2048) ![0, 1536] S512x512.size inb_S512x2048_S512x512_0_1536 x 0).trans (Nat.zero_add _)).symm
    · exact (Rect.idx_unit_val (s := S512x2048) ![0, 1536] S512x512.size inb_S512x2048_S512x512_0_1536 x 1).symm
  · refine congrArg Real.toEReal ((h2 (x 0) (x 1)).trans (congrArg₂ Y (Fin.ext ?_) (Fin.ext ?_)))
    · exact ((Rect.idx_unit_val (s := S512x2048) ![0, 1024] S512x512.size inb_S512x2048_S512x512_0_1024 x 0).trans (Nat.zero_add _)).symm
    · exact (Rect.idx_unit_val (s := S512x2048) ![0, 1024] S512x512.size inb_S512x2048_S512x512_0_1024 x 1).symm
  · refine congrArg Real.toEReal ((h1 (x 0) (x 1)).trans (congrArg₂ Y (Fin.ext ?_) (Fin.ext ?_)))
    · exact ((Rect.idx_unit_val (s := S512x2048) ![0, 512] S512x512.size inb_S512x2048_S512x512_0_512 x 0).trans (Nat.zero_add _)).symm
    · exact (Rect.idx_unit_val (s := S512x2048) ![0, 512] S512x512.size inb_S512x2048_S512x512_0_512 x 1).symm
  · refine congrArg Real.toEReal ((h0 (x 0) (x 1)).trans (congrArg₂ Y (Fin.ext ?_) (Fin.ext ?_)))
    · exact ((Rect.idx_unit_val (s := S512x2048) ![0, 0] S512x512.size inb_S512x2048_S512x512_0_0 x 0).trans (Nat.zero_add _)).symm
    · exact (Rect.idx_unit_val (s := S512x2048) ![0, 0] S512x512.size inb_S512x2048_S512x512_0_0 x 1).symm

variable (g g' : Fin 1024 → ℝ) (X : Fin 512 → Fin 1024 → ℝ) (Wg Wu : Fin 1024 → Fin 2048 → ℝ) (Wd : Fin 2048 → Fin 1024 → ℝ)

theorem fwd_normed : k0_pay1 (lift2 X : FVec Ideal S512x1024 .f32) (lift2 (φ := .f32) fun _ => g) = lift2 fun i => normed g (X i) := by
  simp only [k0_pay1, mulf_lift2]
  rw [sum1_512]
  simp only [cast_col512, cst_width, divf_width, cst_eps, addf_lift2, rsqrt_ms, cols_512, cast_same, rows_512,
    truncf_lift2, mulf_lift2]
  rfl

/-- A block of 512 rows as the kernel takes it. -/
abbrev argX (X : Fin 512 → Fin 1024 → ℝ) : Vec Ideal S512x1024 .f32 := lift2 (φ := .f32) X

theorem whole_out (x : Vec Ideal S512x1024 .f32) : View.canon [⟨r0_0, x⟩] = x := View.canon_cons_unit_lit _ _ _ (by decide)
theorem whole_x (x : Vec Ideal S512x1024 .f32) : View.ld x r0_0 = x := View.ld_unit_lit _ _ (by decide)
theorem whole_g (x : Vec Ideal S1x1024 .f32) : View.ld x r0_1 = x := View.ld_unit_lit _ _ (by decide)

theorem fwd24 : k0_pay24 (argX X) (argG g) (argG g') (argC Wg) (argC Wu) (argR Wd) = lift2 fun i => normed g (X i) := by
  rw [k0_pay24, whole_x, whole_g, ← fwd_normed]

theorem fwd26 : k0_pay26 (argX X) (argG g) (argG g') (argC Wg) (argC Wu) (argR Wd)
    = lift2 fun i j => times Wg (normed g (X i)) (ch 3 j) := by
  rw [k0_pay26, fwd24]
  simp only [k0_pay18, slot_a3, cast_drop_a, constant_lift2, product_a]
  rfl

theorem fwd27 : k0_pay27 (argX X) (argG g) (argG g') (argC Wg) (argC Wu) (argR Wd)
    = lift2 fun i j => times Wu (normed g (X i)) (ch 3 j) := by
  rw [k0_pay27, fwd24]
  simp only [k0_pay19, slot_a3, cast_drop_a, constant_lift2, product_a]
  rfl

/-- The gated row of the forward pass. -/
def hid (x : Fin 1024 → ℝ) : Fin 2048 → ℝ := gated (times Wg (normed g x)) (times Wu (normed g x))
/-- The branch's output row of the forward pass. -/
def ff (x : Fin 1024 → ℝ) : Fin 1024 → ℝ := times Wd (hid g Wg Wu x)

/-- The first three chunks of the down product. -/
theorem fwd25 : k0_pay25 (argX X) (argG g) (argG g') (argC Wg) (argC Wu) (argR Wd)
    = lift2 fun i j => ∑ k, hid g Wg Wu (X i) (ch 0 k) * Wd (ch 0 k) j + ∑ k, hid g Wg Wu (X i) (ch 1 k) * Wd (ch 1 k) j
        + ∑ k, hid g Wg Wu (X i) (ch 2 k) * Wd (ch 2 k) j := by
  rw [k0_pay25, fwd24, whole_x, whole_g]
  simp only [k0_pay17, k0_pay12, k0_pay2, k0_pay3, k0_pay4, k0_pay7, k0_pay8, k0_pay9, k0_pay13, k0_pay14, fwd_normed,
    slot_a0, slot_a1, slot_a2, slot_b0, slot_b1, slot_b2, cast_drop_a, cast_drop_b, constant_lift2, product_a, product_b,
    cst_zero, cst_one, subf_lift2, exp_lift2, addf_lift2, divf_sig, mulf_lift2, truncf_lift2, zero_sub, zero_add]
  rfl

/-- The branch's output. -/
theorem fwd22 : k0_pay22 (k0_pay25 (argX X) (argG g) (argG g') (argC Wg) (argC Wu) (argR Wd))
      (k0_pay26 (argX X) (argG g) (argG g') (argC Wg) (argC Wu) (argR Wd))
      (k0_pay27 (argX X) (argG g) (argG g') (argC Wg) (argC Wu) (argR Wd)) (View.ld (argR Wd) r0_13)
    = lift2 fun i => ff g Wg Wu Wd (X i) := by
  rw [fwd25, fwd26, fwd27]
  simp only [k0_pay22, slot_b3, cast_drop_b, constant_lift2, product_b,
    cst_zero, cst_one, subf_lift2, exp_lift2, addf_lift2, divf_sig, mulf_lift2, truncf_lift2, zero_sub, zero_add]
  refine congrArg lift2 (funext fun i => funext fun j => ?_)
  rw [ff, times, sum_chunks]
  rfl

theorem out_f : out0_9 (argX X) (argG g) (argG g') (argC Wg) (argC Wu) (argR Wd)
    = lift2 (φ := .f32) fun i => ff g Wg Wu Wd (X i) := by
  unfold out0_9
  rw [fwd22]
  exact whole_out _

theorem out_h : out0_6 (argX X) (argG g) (argG g') (argC Wg) (argC Wu) (argR Wd)
    = lift2 (φ := .f32) fun i => residual g' (X i) (ff g Wg Wu Wd (X i)) := by
  unfold out0_6 k0_pay23
  rw [fwd22, whole_x, whole_g]
  refine (whole_out _).trans ?_
  simp only [mulf_lift2]
  rw [sum1_512]
  simp only [cast_col512, cst_width, divf_width, cst_eps, addf_lift2, rsqrt_ms, cols_512, cast_same, rows_512, cst_half, mulf_lift2]
  rfl

theorem out_a : out0_7 (argX X) (argG g) (argG g') (argC Wg) (argC Wu) (argR Wd)
    = lift2 (φ := .bf16) fun i => times Wg (normed g (X i)) := by
  rw [out0_7, fwd24, whole_x, whole_g]
  simp only [k0_pay20, k0_pay15, k0_pay10, k0_pay5, k0_pay3, k0_pay8, k0_pay13, k0_pay18, fwd_normed,
    slot_a0, slot_a1, slot_a2, slot_a3, cast_drop_a, constant_lift2, product_a, truncf_lift2]
  exact four_512 _ _ _ _ _ (fun _ _ => rfl) (fun _ _ => rfl) (fun _ _ => rfl) (fun _ _ => rfl)

theorem out_b : out0_8 (argX X) (argG g) (argG g') (argC Wg) (argC Wu) (argR Wd)
    = lift2 (φ := .bf16) fun i => times Wu (normed g (X i)) := by
  rw [out0_8, fwd24, fwd27, whole_x, whole_g]
  simp only [k0_pay21, k0_pay16, k0_pay11, k0_pay6, k0_pay4, k0_pay9, k0_pay14, fwd_normed,
    slot_a0, slot_a1, slot_a2, slot_a3, cast_drop_a, constant_lift2, product_a, truncf_lift2]
  exact four_512 _ _ _ _ _ (fun _ _ => rfl) (fun _ _ => rfl) (fun _ _ => rfl) (fun _ _ => rfl)

end Cert.FfnBlock
-- ==== Proof.ForwardArrays.lean ====
/- The forward kernel's four output arrays: on real arrays they hold the feed-forward block's rows. -/
module

public import proofs.«01_k».proof.Proof.Forward

@[expose] public section

set_option maxRecDepth 16384

noncomputable section

namespace Cert.FfnBlock

open Idealize.ShloMosaic Cert.KernelIdeal Cert.KernelIdeal.Gen Idealize.ShloMosaic.TcCoe

set_option backward.isDefEq.respectTransparency.types false

variable (V : (c : Dev nD) → (b : Ref sig .tc) → Buf (Elt Ideal) ((c : Thread nD τ).loc b)) (c : Dev nD)
variable (g g' : Fin 1024 → ℝ) (H : Fin 8192 → Fin 1024 → ℝ) (Wg Wu : Fin 1024 → Fin 2048 → ℝ) (Wd : Fin 2048 → Fin 1024 → ℝ)

/-- The block index of every window at every grid point. -/
theorem index0 : ∀ t : Fin cfg0.N, win0_0.index t = ![(t : ℕ), 0] ∧ win0_6.index t = ![(t : ℕ), 0] ∧ win0_7.index t = ![(t : ℕ), 0]
    ∧ win0_8.index t = ![(t : ℕ), 0] ∧ win0_9.index t = ![(t : ℕ), 0] ∧ win0_1.index t = ![0, 0] ∧ win0_2.index t = ![0, 0]
    ∧ win0_3.index t = ![0, 0, 0] ∧ win0_4.index t = ![0, 0, 0] ∧ win0_5.index t = ![0, 0, 0] :=
  (by decide +kernel : ∀ t : Fin grid0.N, _)

/-- Row `i` of block `t`. -/
def row512 (t : Fin cfg0.N) (i : Fin 512) : Fin 8192 := ⟨512 * t + i, by have : (t : ℕ) < 16 := t.isLt; omega⟩

theorem row512_val (t : Fin cfg0.N) (i : Fin 512) : ((row512 t i : Fin 8192) : ℕ) = t * 512 + i := by
  show 512 * (t : ℕ) + i = _; omega

theorem block0_0 (h : V c (Pipeline.arrRef spec0 0) = (lift2 (φ := .f32) H : FVec Ideal S8192x1024 .f32)) (t : Fin cfg0.N) :
    iblk0 V c 0 t = argX fun i => H (row512 t i) := by
  rw [iblk0, h]
  funext y
  show (lift2 (φ := .f32) H : FVec Ideal S8192x1024 .f32) (((cfg0.win 0).blk t).view.emb y) = _
  refine congrArg Real.toEReal (congrArg₂ H (Fin.ext ?_) (Fin.ext ?_))
  · blk_simp [index0 t]; exact (row512_val t (y 0)).symm
  · blk_simp [index0 t]

theorem block0_1 (h : V c (Pipeline.arrRef spec0 1) = argG g) (t : Fin cfg0.N) : iblk0 V c 1 t = argG g := by
  rw [iblk0, h]
  funext y
  show argG g (((cfg0.win 1).blk t).view.emb y) = _
  refine congrArg Real.toEReal (congrArg g (Fin.ext ?_))
  blk_simp [index0 t]

theorem block0_2 (h : V c (Pipeline.arrRef spec0 2) = argG g) (t : Fin cfg0.N) : iblk0 V c 2 t = argG g := by
  rw [iblk0, h]
  funext y
  show argG g (((cfg0.win 2).blk t).view.emb y) = _
  refine congrArg Real.toEReal (congrArg g (Fin.ext ?_))
  blk_simp [index0 t]

theorem block0_3 (h : V c (Pipeline.arrRef spec0 3) = argC Wg) (t : Fin cfg0.N) : iblk0 V c 3 t = argC Wg := by
  rw [iblk0, h]
  funext y
  show argC Wg (((cfg0.win 3).blk t).view.emb y) = argC Wg y
  refine congrArg (argC Wg) (funext fun a => Fin.ext ?_)
  fin_cases a <;> blk_simp [index0 t]

theorem block0_4 (h : V c (Pipeline.arrRef spec0 4) = argC Wg) (t : Fin cfg0.N) : iblk0 V c 4 t = argC Wg := by
  rw [iblk0, h]
  funext y
  show argC Wg (((cfg0.win 4).blk t).view.emb y) = argC Wg y
  refine congrArg (argC Wg) (funext fun a => Fin.ext ?_)
  fin_cases a <;> blk_simp [index0 t]

theorem block0_5 (h : V c (Pipeline.arrRef spec0 5) = argR Wd) (t : Fin cfg0.N) : iblk0 V c 5 t = argR Wd := by
  rw [iblk0, h]
  funext y
  show argR Wd (((cfg0.win 5).blk t).view.emb y) = argR Wd y
  refine congrArg (argR Wd) (funext fun a => Fin.ext ?_)
  fin_cases a <;> blk_simp [index0 t]

theorem array_h (h : V c (Pipeline.arrRef spec0 0) = (lift2 (φ := .f32) H : FVec Ideal S8192x1024 .f32))
    (h1 : V c (Pipeline.arrRef spec0 1) = argG g) (h2 : V c (Pipeline.arrRef spec0 2) = argG g')
    (h3 : V c (Pipeline.arrRef spec0 3) = argC Wg) (h4 : V c (Pipeline.arrRef spec0 4) = argC Wu) (h5 : V c (Pipeline.arrRef spec0 5) = argR Wd) :
    (dat0 V c).arrAt 6 cfg0.N = (lift2 (φ := .f32) fun i => residual g' (H i) (ff g Wg Wu Wd (H i)) : FVec Ideal S8192x1024 .f32) := by
  refine (dat0 V c).arrAt_eq_of_covers 6 _ (by decide +kernel) fun t hf y => ?_
  blk_simp
  rw [after0_6, block0_0 V c H h, block0_1 V c g h1, block0_2 V c g' h2, block0_3 V c Wg h3, block0_4 V c Wu h4, block0_5 V c Wd h5, out_h]
  refine congrArg Real.toEReal (congr (congrArg (fun i => residual g' (H i) (ff g Wg Wu Wd (H i))) (Fin.ext ?_)) (Fin.ext ?_))
  · blk_simp [index0 t]; exact row512_val t (y 0)
  · blk_simp [index0 t]

theorem array_a (h : V c (Pipeline.arrRef spec0 0) = (lift2 (φ := .f32) H : FVec Ideal S8192x1024 .f32))
    (h1 : V c (Pipeline.arrRef spec0 1) = argG g) (h2 : V c (Pipeline.arrRef spec0 2) = argG g')
    (h3 : V c (Pipeline.arrRef spec0 3) = argC Wg) (h4 : V c (Pipeline.arrRef spec0 4) = argC Wu) (h5 : V c (Pipeline.arrRef spec0 5) = argR Wd) :
    (dat0 V c).arrAt 7 cfg0.N = (lift2 (φ := .bf16) fun i => times Wg (normed g (H i)) : FVec Ideal S8192x2048 .bf16) := by
  refine (dat0 V c).arrAt_eq_of_covers 7 _ (by decide +kernel) fun t hf y => ?_
  blk_simp
  rw [after0_7, block0_0 V c H h, block0_1 V c g h1, block0_2 V c g' h2, block0_3 V c Wg h3, block0_4 V c Wu h4, block0_5 V c Wd h5, out_a]
  refine congrArg Real.toEReal (congr (congrArg (fun i => times Wg (normed g (H i))) (Fin.ext ?_)) (Fin.ext ?_))
  · blk_simp [index0 t]; exact row512_val t (y 0)
  · blk_simp [index0 t]

theorem array_b (h : V c (Pipeline.arrRef spec0 0) = (lift2 (φ := .f32) H : FVec Ideal S8192x1024 .f32))
    (h1 : V c (Pipeline.arrRef spec0 1) = argG g) (h2 : V c (Pipeline.arrRef spec0 2) = argG g')
    (h3 : V c (Pipeline.arrRef spec0 3) = argC Wg) (h4 : V c (Pipeline.arrRef spec0 4) = argC Wu) (h5 : V c (Pipeline.arrRef spec0 5) = argR Wd) :
    (dat0 V c).arrAt 8 cfg0.N = (lift2 (φ := .bf16) fun i => times Wu (normed g (H i)) : FVec Ideal S8192x2048 .bf16) := by
  refine (dat0 V c).arrAt_eq_of_covers 8 _ (by decide +kernel) fun t hf y => ?_
  blk_simp
  rw [after0_8, block0_0 V c H h, block0_1 V c g h1, block0_2 V c g' h2, block0_3 V c Wg h3, block0_4 V c Wu h4, block0_5 V c Wd h5, out_b]
  refine congrArg Real.toEReal (congr (congrArg (fun i => times Wu (normed g (H i))) (Fin.ext ?_)) (Fin.ext ?_))
  · blk_simp [index0 t]; exact row512_val t (y 0)
  · blk_simp [index0 t]

theorem array_f (h : V c (Pipeline.arrRef spec0 0) = (lift2 (φ := .f32) H : FVec Ideal S8192x1024 .f32))
    (h1 : V c (Pipeline.arrRef spec0 1) = argG g) (h2 : V c (Pipeline.arrRef spec0 2) = argG g')
    (h3 : V c (Pipeline.arrRef spec0 3) = argC Wg) (h4 : V c (Pipeline.arrRef spec0 4) = argC Wu) (h5 : V c (Pipeline.arrRef spec0 5) = argR Wd) :
    (dat0 V c).arrAt 9 cfg0.N = (lift2 (φ := .f32) fun i => ff g Wg Wu Wd (H i) : FVec Ideal S8192x1024 .f32) := by
  refine (dat0 V c).arrAt_eq_of_covers 9 _ (by decide +kernel) fun t hf y => ?_
  blk_simp
  rw [after0_9, block0_0 V c H h, block0_1 V c g h1, block0_2 V c g' h2, block0_3 V c Wg h3, block0_4 V c Wu h4, block0_5 V c Wd h5, out_f]
  refine congrArg Real.toEReal (congr (congrArg (fun i => ff g Wg Wu Wd (H i)) (Fin.ext ?_)) (Fin.ext ?_))
  · blk_simp [index0 t]; exact row512_val t (y 0)
  · blk_simp [index0 t]

end Cert.FfnBlock
-- ==== Proof.Backward.lean ====
/- What the gradient kernel's body computes on one block of 256 rows: on real inputs every stored value is the row's
   mathematics of the feed-forward block's gradient. -/
module

public import proofs.«01_k».proof.Proof.Forward
public import proofs.«01_k».proof.Proof.Gen.KernelIdeal.Frame.Region1

@[expose] public section

set_option maxRecDepth 16384

noncomputable section

namespace Cert.FfnBlock

open Idealize.ShloMosaic Cert.KernelIdeal Cert.KernelIdeal.Gen Idealize.ShloMosaic.TcCoe

set_option backward.isDefEq.respectTransparency.types false

/-- A block of 256 rows as the kernel takes it. -/
abbrev argY (X : Fin 256 → Fin 1024 → ℝ) : Vec Ideal S256x1024 .f32 := lift2 (φ := .f32) X
/-- A block of 256 rows of the hidden width. -/
abbrev argQ (X : Fin 256 → Fin 2048 → ℝ) : Vec Ideal S256x2048 .bf16 := lift2 (φ := .bf16) X

theorem chunk_0 (Y : Fin 256 → Fin 2048 → ℝ) (h) :
    View.ld (Val := Elt Ideal) (e' := .bf16) (lift2 Y : FVec Ideal S256x2048 .bf16) (Rect.unit (s := S256x2048) ![0, 0] ![256, 512] h)
      = lift2 (φ := .bf16) fun i j => Y i (ch 0 j) := by
  funext i; pointwise [lift2]; exact congrArg Real.toEReal (congrArg (Y (i 0)) (Fin.ext (by simp [ch])))
theorem chunk_1 (Y : Fin 256 → Fin 2048 → ℝ) (h) :
    View.ld (Val := Elt Ideal) (e' := .bf16) (lift2 Y : FVec Ideal S256x2048 .bf16) (Rect.unit (s := S256x2048) ![0, 512] ![256, 512] h)
      = lift2 (φ := .bf16) fun i j => Y i (ch 1 j) := by
  funext i; pointwise [lift2]; exact congrArg Real.toEReal (congrArg (Y (i 0)) (Fin.ext (by simp [ch])))
theorem chunk_2 (Y : Fin 256 → Fin 2048 → ℝ) (h) :
    View.ld (Val := Elt Ideal) (e' := .bf16) (lift2 Y : FVec Ideal S256x2048 .bf16) (Rect.unit (s := S256x2048) ![0, 1024] ![256, 512] h)
      = lift2 (φ := .bf16) fun i j => Y i (ch 2 j) := by
  funext i; pointwise [lift2]; exact congrArg Real.toEReal (congrArg (Y (i 0)) (Fin.ext (by simp [ch])))
theorem chunk_3 (Y : Fin 256 → Fin 2048 → ℝ) (h) :
    View.ld (Val := Elt Ideal) (e' := .bf16) (lift2 Y : FVec Ideal S256x2048 .bf16) (Rect.unit (s := S256x2048) ![0, 1536] ![256, 512] h)
      = lift2 (φ := .bf16) fun i j => Y i (ch 3 j) := by
  funext i; pointwise [lift2]; exact congrArg Real.toEReal (congrArg (Y (i 0)) (Fin.ext (by simp [ch])))
theorem tile_a0 (w : Fin 4 → Fin 1024 → Fin 512 → ℝ) (h) :
    View.ld (Val := Elt Ideal) (e' := .bf16) (lift3 w : FVec Ideal S4x1024x512 .bf16) (Rect.unit (s := S4x1024x512) ![0, 0, 0] ![1, 1024, 512] h)
      = lift3 (φ := .bf16) fun _ : Fin 1 => w 0 := slot_a0 w h
theorem tile_b0 (w : Fin 4 → Fin 512 → Fin 1024 → ℝ) (h) :
    View.ld (Val := Elt Ideal) (e' := .bf16) (lift3 w : FVec Ideal S4x512x1024 .bf16) (Rect.unit (s := S4x512x1024) ![0, 0, 0] ![1, 512, 1024] h)
      = lift3 (φ := .bf16) fun _ : Fin 1 => w 0 := slot_b0 w h
theorem tile_a1 (w : Fin 4 → Fin 1024 → Fin 512 → ℝ) (h) :
    View.ld (Val := Elt Ideal) (e' := .bf16) (lift3 w : FVec Ideal S4x1024x512 .bf16) (Rect.unit (s := S4x1024x512) ![1, 0, 0] ![1, 1024, 512] h)
      = lift3 (φ := .bf16) fun _ : Fin 1 => w 1 := slot_a1 w h
theorem tile_b1 (w : Fin 4 → Fin 512 → Fin 1024 → ℝ) (h) :
    View.ld (Val := Elt Ideal) (e' := .bf16) (lift3 w : FVec Ideal S4x512x1024 .bf16) (Rect.unit (s := S4x512x1024) ![1, 0, 0] ![1, 512, 1024] h)
      = lift3 (φ := .bf16) fun _ : Fin 1 => w 1 := slot_b1 w h
theorem tile_a2 (w : Fin 4 → Fin 1024 → Fin 512 → ℝ) (h) :
    View.ld (Val := Elt Ideal) (e' := .bf16) (lift3 w : FVec Ideal S4x1024x512 .bf16) (Rect.unit (s := S4x1024x512) ![2, 0, 0] ![1, 1024, 512] h)
      = lift3 (φ := .bf16) fun _ : Fin 1 => w 2 := slot_a2 w h
theorem tile_b2 (w : Fin 4 → Fin 512 → Fin 1024 → ℝ) (h) :
    View.ld (Val := Elt Ideal) (e' := .bf16) (lift3 w : FVec Ideal S4x512x1024 .bf16) (Rect.unit (s := S4x512x1024) ![2, 0, 0] ![1, 512, 1024] h)
      = lift3 (φ := .bf16) fun _ : Fin 1 => w 2 := slot_b2 w h
theorem tile_a3 (w : Fin 4 → Fin 1024 → Fin 512 → ℝ) (h) :
    View.ld (Val := Elt Ideal) (e' := .bf16) (lift3 w : FVec Ideal S4x1024x512 .bf16) (Rect.unit (s := S4x1024x512) ![3, 0, 0] ![1, 1024, 512] h)
      = lift3 (φ := .bf16) fun _ : Fin 1 => w 3 := slot_a3 w h
theorem tile_b3 (w : Fin 4 → Fin 512 → Fin 1024 → ℝ) (h) :
    View.ld (Val := Elt Ideal) (e' := .bf16) (lift3 w : FVec Ideal S4x512x1024 .bf16) (Rect.unit (s := S4x512x1024) ![3, 0, 0] ![1, 512, 1024] h)
      = lift3 (φ := .bf16) fun _ : Fin 1 => w 3 := slot_b3 w h
theorem cst_zero_at {n m : ℕ} : (broadcast ⟨2, ![n, m]⟩ (FloatOps.ofBits FTy.f32 0x00000000#32 : Ideal .f32) : FVec Ideal _ .f32) = lift2 fun _ _ => 0 :=
  cst_zero
theorem cast_s {n m : ℕ} {φ : FTy} (x : Fin n → Fin m → ℝ) (h) : shapeCast ⟨2, ![n, m]⟩ (lift2 (φ := φ) x) h = lift2 x := cast_same x h

/-- Four column chunks stored side by side. -/
theorem four_256 (p0 p1 p2 p3 : Fin 256 → Fin 512 → ℝ) (Y : Fin 256 → Fin 2048 → ℝ)
    (h0 : ∀ i j, p0 i j = Y i (ch 0 j)) (h1 : ∀ i j, p1 i j = Y i (ch 1 j))
    (h2 : ∀ i j, p2 i j = Y i (ch 2 j)) (h3 : ∀ i j, p3 i j = Y i (ch 3 j)) :
    View.canon (Val := Elt Ideal) (s := S256x2048) (e := .bf16) [⟨Rect.unit (s := S256x2048) ![0, 1536] ![256, 512] inb_S256x2048_S256x512_0_1536, lift2 (φ := .bf16) p3⟩,
      ⟨Rect.unit (s := S256x2048) ![0, 1024] ![256, 512] inb_S256x2048_S256x512_0_1024, lift2 (φ := .bf16) p2⟩,
      ⟨Rect.unit (s := S256x2048) ![0, 512] ![256, 512] inb_S256x2048_S256x512_0_512, lift2 (φ := .bf16) p1⟩,
      ⟨Rect.unit (s := S256x2048) ![0, 0] ![256, 512] inb_S256x2048_S256x512_0_0, lift2 (φ := .bf16) p0⟩]
      = lift2 (φ := .bf16) Y := by
  funext y
  refine View.canon_append_of_piecesOf (Val := Elt Ideal) (e := .bf16) (lift2 (φ := .bf16) Y) [] [⟨_, _⟩, ⟨_, _⟩, ⟨_, _⟩, ⟨_, _⟩] ⟨fun x => ?_, fun x => ?_, fun x => ?_, fun x => ?_, trivial⟩ y
    (View.cover_of_tiled [⟨_, _⟩, ⟨_, _⟩, ⟨_, _⟩, ⟨_, _⟩] ![256, 512] (by rfl) y)
  · refine congrArg Real.toEReal ((h3 (x 0) (x 1)).trans (congrArg₂ Y (Fin.ext ?_) (Fin.ext ?_)))
    · exact ((Rect.idx_unit_val (s := S256x2048) ![0, 1536] ![256, 512] inb_S256x2048_S256x512_0_1536 x 0).trans (Nat.zero_add _)).symm
    · exact (Rect.idx_unit_val (s := S256x2048) ![0, 1536] ![256, 512] inb_S256x2048_S256x512_0_1536 x 1).symm
  · refine congrArg Real.toEReal ((h2 (x 0) (x 1)).trans (congrArg₂ Y (Fin.ext ?_) (Fin.ext ?_)))
    · exact ((Rect.idx_unit_val (s := S256x2048) ![0, 1024] ![256, 512] inb_S256x2048_S256x512_0_1024 x 0).trans (Nat.zero_add _)).symm
    · exact (Rect.idx_unit_val (s := S256x2048) ![0, 1024] ![256, 512] inb_S256x2048_S256x512_0_1024 x 1).symm
  · refine congrArg Real.toEReal ((h1 (x 0) (x 1)).trans (congrArg₂ Y (Fin.ext ?_) (Fin.ext ?_)))
    · exact ((Rect.idx_unit_val (s := S256x2048) ![0, 512] ![256, 512] inb_S256x2048_S256x512_0_512 x 0).trans (Nat.zero_add _)).symm
    · exact (Rect.idx_unit_val (s := S256x2048) ![0, 512] ![256, 512] inb_S256x2048_S256x512_0_512 x 1).symm
  · refine congrArg Real.toEReal ((h0 (x 0) (x 1)).trans (congrArg₂ Y (Fin.ext ?_) (Fin.ext ?_)))
    · exact ((Rect.idx_unit_val (s := S256x2048) ![0, 0] ![256, 512] inb_S256x2048_S256x512_0_0 x 0).trans (Nat.zero_add _)).symm
    · exact (Rect.idx_unit_val (s := S256x2048) ![0, 0] ![256, 512] inb_S256x2048_S256x512_0_0 x 1).symm

variable (g g' : Fin 1024 → ℝ) (H F dY : Fin 256 → Fin 1024 → ℝ) (A B : Fin 256 → Fin 2048 → ℝ)
  (Wg Wu : Fin 1024 → Fin 2048 → ℝ) (Wd : Fin 2048 → Fin 1024 → ℝ)

/-! ## The norms -/

theorem bwd_rs : k1_pay8 (argY F) = lift2 fun i _ => rs (F i) := by
  simp only [k1_pay8, k1_pay6, cast_same, mulf_lift2]
  rw [sum1_256]
  simp only [cast_col256, cst_width, divf_width, cst_eps, addf_lift2, rsqrt_ms]
  rfl

theorem bwd_hat : k1_pay9 (argY F) = lift2 fun i => hat (F i) := by
  simp only [k1_pay9, bwd_rs, k1_pay6, cast_same, cols_256, mulf_lift2]
  rfl

theorem bwd_rs' : k1_pay13 (argY F) = lift2 fun i _ => rs (F i) := by
  simp only [k1_pay13, mulf_lift2]
  rw [sum1_256]
  simp only [cast_col256, cst_width, divf_width, cst_eps, addf_lift2, rsqrt_ms]
  rfl

theorem bwd_hat' : k1_pay14 (argY F) = lift2 fun i => hat (F i) := by
  simp only [k1_pay14, bwd_rs', cols_256, mulf_lift2]
  rfl

theorem bwd_normed : k1_pay16 (argY H) (argG g) = lift2 (φ := .bf16) fun i => normed g (H i) := by
  simp only [k1_pay16, bwd_hat', k1_pay15, cast_same, rows_256, mulf_lift2, truncf_lift2]
  rfl

/-- The gradient that reaches the branch's output. -/
theorem bwd_df : k1_pay10 (argY dY) (argY F) (argG g') = lift2 fun i => outBack g' (F i) (dY i) := by
  simp only [k1_pay10, k1_pay7, bwd_hat, bwd_rs, cast_same, cst_half, rows_256, mulf_lift2]
  rw [sum1_256]
  simp only [cast_col256, cst_width, divf_width, cols_256, mulf_lift2, subf_lift2]
  rfl

theorem bwd_dg2 (z : Fin 1024 → ℝ) :
    k1_pay11 (argY dY) (argY F) (lift2 (φ := .f32) (n := 1) fun _ => z) = argG fun j => z j + ∑ r, 1 / 2 * dY r j * hat (F r) j := by
  simp only [k1_pay11, k1_pay7, bwd_hat, cst_half, mulf_lift2]
  rw [sum0_256]
  simp only [cast_row, cast_same, addf_lift2]

/-! ## The gradients at the hidden width -/

/-- The gradient at the gated row. -/
def hidBack (f dy : Fin 1024 → ℝ) : Fin 2048 → ℝ := timesT Wd (outBack g' f dy)
/-- The gradient at the gate's argument, from the saved rows. -/
def dGate (a b : Fin 2048 → ℝ) (f dy : Fin 1024 → ℝ) : Fin 2048 → ℝ := gateBack a b (hidBack g' Wd f dy)
/-- The gradient at the other factor, from the saved rows. -/
def dUp (a : Fin 2048 → ℝ) (f dy : Fin 1024 → ℝ) : Fin 2048 → ℝ := upBack a (hidBack g' Wd f dy)
/-- The gradient at the normed row, from the saved rows. -/
def dNorm (a b : Fin 2048 → ℝ) (f dy : Fin 1024 → ℝ) : Fin 1024 → ℝ :=
  normedBack Wg Wu (dGate g' Wd a b f dy) (dUp g' Wd a f dy)

theorem bwd_dn : k1_pay1 (k1_pay42
        (k1_pay19 (k1_pay10 (argY dY) (argY F) (argG g'))
          (View.ld (argR Wd) (Rect.unit ![2, 0, 0] ![1, 512, 1024] inb_S4x512x1024_S1x512x1024_2_0_0)))
        (k1_pay39 (View.ld (argQ A) (Rect.unit ![0, 1024] ![256, 512] inb_S256x2048_S256x512_0_1024))))
      (k1_pay50 (k1_pay45 (View.ld (argQ A) (Rect.unit ![0, 1536] ![256, 512] inb_S256x2048_S256x512_0_1536)))
        (k1_pay48
          (k1_pay21 (k1_pay12 (k1_pay10 (argY dY) (argY F) (argG g')))
            (k1_pay20 (View.ld (argR Wd) (Rect.unit ![3, 0, 0] ![1, 512, 1024] inb_S4x512x1024_S1x512x1024_3_0_0)))
            (constant S256x512 FTy.f32 0#32))
          (View.ld (argQ B) (Rect.unit ![0, 1536] ![256, 512] inb_S256x2048_S256x512_0_1536)))
        (k1_pay49 (View.ld (argQ A) (Rect.unit ![0, 1536] ![256, 512] inb_S256x2048_S256x512_0_1536))))
      (k1_pay51
        (k1_pay21 (k1_pay12 (k1_pay10 (argY dY) (argY F) (argG g')))
          (k1_pay20 (View.ld (argR Wd) (Rect.unit ![3, 0, 0] ![1, 512, 1024] inb_S4x512x1024_S1x512x1024_3_0_0)))
          (constant S256x512 FTy.f32 0#32))
        (k1_pay46 (View.ld (argQ A) (Rect.unit ![0, 1536] ![256, 512] inb_S256x2048_S256x512_0_1536))))
      (k1_pay52
        (k1_pay27
          (k1_pay17 (k1_pay10 (argY dY) (argY F) (argG g'))
            (View.ld (argR Wd) (Rect.unit ![0, 0, 0] ![1, 512, 1024] inb_S4x512x1024_S1x512x1024_0_0_0)))
          (View.ld (argQ A) (Rect.unit ![0, 0] ![256, 512] inb_S256x2048_S256x512_0_0))
          (View.ld (argQ B) (Rect.unit ![0, 0] ![256, 512] inb_S256x2048_S256x512_0_0)))
        (k1_pay28
          (k1_pay17 (k1_pay10 (argY dY) (argY F) (argG g'))
            (View.ld (argR Wd) (Rect.unit ![0, 0, 0] ![1, 512, 1024] inb_S4x512x1024_S1x512x1024_0_0_0)))
          (View.ld (argQ A) (Rect.unit ![0, 0] ![256, 512] inb_S256x2048_S256x512_0_0)))
        (k1_pay34
          (k1_pay18 (k1_pay10 (argY dY) (argY F) (argG g'))
            (View.ld (argR Wd) (Rect.unit ![1, 0, 0] ![1, 512, 1024] inb_S4x512x1024_S1x512x1024_1_0_0)))
          (k1_pay29 (View.ld (argQ A) (Rect.unit ![0, 512] ![256, 512] inb_S256x2048_S256x512_0_512)))
          (k1_pay30 (View.ld (argQ B) (Rect.unit ![0, 512] ![256, 512] inb_S256x2048_S256x512_0_512)))
          (FloatOps.ofBits FTy.f32 0#32))
        (k1_pay35
          (k1_pay18 (k1_pay10 (argY dY) (argY F) (argG g'))
            (View.ld (argR Wd) (Rect.unit ![1, 0, 0] ![1, 512, 1024] inb_S4x512x1024_S1x512x1024_1_0_0)))
          (k1_pay29 (View.ld (argQ A) (Rect.unit ![0, 512] ![256, 512] inb_S256x2048_S256x512_0_512)))
          (FloatOps.ofBits FTy.f32 0#32))
        (k1_pay41
          (k1_pay19 (k1_pay10 (argY dY) (argY F) (argG g'))
            (View.ld (argR Wd) (Rect.unit ![2, 0, 0] ![1, 512, 1024] inb_S4x512x1024_S1x512x1024_2_0_0)))
          (k1_pay36 (View.ld (argQ A) (Rect.unit ![0, 1024] ![256, 512] inb_S256x2048_S256x512_0_1024)))
          (k1_pay37 (View.ld (argQ B) (Rect.unit ![0, 1024] ![256, 512] inb_S256x2048_S256x512_0_1024)))
          (k1_pay38 (View.ld (argQ A) (Rect.unit ![0, 1024] ![256, 512] inb_S256x2048_S256x512_0_1024))))
        (View.ld (argC Wg) (Rect.unit ![0, 0, 0] ![1, 1024, 512] inb_S4x1024x512_S1x1024x512_0_0_0))
        (View.ld (argC Wu) (Rect.unit ![0, 0, 0] ![1, 1024, 512] inb_S4x1024x512_S1x1024x512_0_0_0))
        (View.ld (argC Wg) (Rect.unit ![1, 0, 0] ![1, 1024, 512] inb_S4x1024x512_S1x1024x512_1_0_0))
        (View.ld (argC Wu) (Rect.unit ![1, 0, 0] ![1, 1024, 512] inb_S4x1024x512_S1x1024x512_1_0_0))
        (View.ld (argC Wg) (Rect.unit ![2, 0, 0] ![1, 1024, 512] inb_S4x1024x512_S1x1024x512_2_0_0)))
      (k1_pay53 (View.ld (argC Wu) (Rect.unit ![2, 0, 0] ![1, 1024, 512] inb_S4x1024x512_S1x1024x512_2_0_0)))
      (View.ld (argC Wg) (Rect.unit ![3, 0, 0] ![1, 1024, 512] inb_S4x1024x512_S1x1024x512_3_0_0))
      (View.ld (argC Wu) (Rect.unit ![3, 0, 0] ![1, 1024, 512] inb_S4x1024x512_S1x1024x512_3_0_0)) = lift2 fun i => dNorm g' Wg Wu Wd (A i) (B i) (F i) (dY i) := by
  simp only [k1_pay1, k1_pay52, k1_pay53, k1_pay22, k1_pay23, k1_pay24, k1_pay25, k1_pay29, k1_pay30, k1_pay31, k1_pay32, k1_pay36, k1_pay37, k1_pay38, k1_pay39, k1_pay43, k1_pay44, k1_pay45, k1_pay46, k1_pay27, k1_pay34, k1_pay41, k1_pay48, k1_pay49, k1_pay50, k1_pay28, k1_pay35, k1_pay42, k1_pay51, bwd_df, k1_pay12, k1_pay17, k1_pay18, k1_pay19, k1_pay20, k1_pay21, tile_b0, tile_b1, tile_b2, tile_b3, cast_drop_b, constant_lift2, product_c,
    tile_a0, tile_a1, tile_a2, tile_a3, cast_drop_a, product_d, chunk_0, chunk_1, chunk_2, chunk_3, cast_s, extf_lift2, cst_zero, cst_zero_at, cst_one, subf_lift2, exp_lift2, addf_lift2, divf_sig, mulf_lift2, truncf_lift2, zero_sub]
  refine congrArg lift2 (funext fun i => funext fun j => ?_)
  rw [dNorm, normedBack, timesT, timesT, sum_chunks, sum_chunks, zero_add]
  simp only [dGate, dUp, gateBack, upBack, logistic, hidBack, timesT, colChunks, rowChunks]
  ring

/-! ## One grid point -/

section

variable (c : Dev nD) (i : grid1.Coords)
  (a1 : Memref sig .tc .vmem S256x1024 .f32) (h1 : a1.IsWhole)
  (a2 : Memref sig .tc .vmem S256x1024 .f32) (h2 : a2.IsWhole)
  (a3 : Memref sig .tc .vmem S256x2048 .bf16) (h3 : a3.IsWhole)
  (a4 : Memref sig .tc .vmem S256x2048 .bf16) (h4 : a4.IsWhole)
  (a5 : Memref sig .tc .vmem S256x1024 .f32) (h5 : a5.IsWhole)
  (a6 : Memref sig .tc .vmem S1x1024 .f32) (h6 : a6.IsWhole)
  (a7 : Memref sig .tc .vmem S1x1024 .f32) (h7 : a7.IsWhole)
  (a8 : Memref sig .tc .vmem S4x1024x512 .bf16) (h8 : a8.IsWhole)
  (a9 : Memref sig .tc .vmem S4x1024x512 .bf16) (h9 : a9.IsWhole)
  (a10 : Memref sig .tc .vmem S4x512x1024 .bf16) (h10 : a10.IsWhole)
  (a11 : Memref sig .tc .vmem S256x1024 .f32) (h11 : a11.IsWhole)
  (a12 : Memref sig .tc .vmem S256x1024 .bf16) (h12 : a12.IsWhole)
  (a13 : Memref sig .tc .vmem S256x2048 .bf16) (h13 : a13.IsWhole)
  (a14 : Memref sig .tc .vmem S256x2048 .bf16) (h14 : a14.IsWhole)
  (a15 : Memref sig .tc .vmem S256x2048 .bf16) (h15 : a15.IsWhole)
  (a16 : Memref sig .tc .vmem S256x1024 .bf16) (h16 : a16.IsWhole)
  (a17 : Memref sig .tc .vmem S1x1024 .f32) (h17 : a17.IsWhole)
  (a18 : Memref sig .tc .vmem S1x1024 .f32) (h18 : a18.IsWhole)

theorem pointA_10 (hc : cond1_0 i) :
    out1_A_10 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd)
      = lift2 (φ := .f32) fun i => inBack g (H i) (dY i) (dNorm g' Wg Wu Wd (A i) (B i) (F i) (dY i)) := by
  frame_out
  rw [k1_pay2, bwd_dn]
  simp only [bwd_hat', bwd_rs', k1_pay15, cast_same, rows_256, mulf_lift2]
  rw [sum1_256]
  simp only [cast_col256, cst_width, divf_width, cols_256, mulf_lift2, subf_lift2, addf_lift2]
  rfl

theorem pointB_10 (hc : ¬ cond1_0 i) (z z' : Fin 1024 → ℝ) :
    out1_B_10 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd) (argG z) (argG z')
      = lift2 (φ := .f32) fun i => inBack g (H i) (dY i) (dNorm g' Wg Wu Wd (A i) (B i) (F i) (dY i)) := by
  frame_out
  rw [k1_pay2, bwd_dn]
  simp only [bwd_hat', bwd_rs', k1_pay15, cast_same, rows_256, mulf_lift2]
  rw [sum1_256]
  simp only [cast_col256, cst_width, divf_width, cols_256, mulf_lift2, subf_lift2, addf_lift2]
  rfl

theorem pointA_11 (hc : cond1_0 i) :
    out1_A_11 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd)
      = lift2 (φ := .bf16) fun i => normed g (H i) := by
  frame_out
  exact bwd_normed g H

theorem pointB_11 (hc : ¬ cond1_0 i) (z z' : Fin 1024 → ℝ) :
    out1_B_11 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd) (argG z) (argG z')
      = lift2 (φ := .bf16) fun i => normed g (H i) := by
  frame_out
  exact bwd_normed g H

theorem pointA_12 (hc : cond1_0 i) :
    out1_A_12 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd)
      = argQ fun i => gated (A i) (B i) := by
  frame_out
  simp only [k1_pay26, k1_pay33, k1_pay40, k1_pay47, k1_pay22, k1_pay23, k1_pay24, k1_pay25, k1_pay29, k1_pay30, k1_pay31, k1_pay32, k1_pay36, k1_pay37, k1_pay38, k1_pay39, k1_pay43, k1_pay44, k1_pay45, k1_pay46, chunk_0, chunk_1, chunk_2, chunk_3, cast_s, extf_lift2, cst_zero, cst_zero_at, cst_one, subf_lift2, exp_lift2, addf_lift2, divf_sig, mulf_lift2, truncf_lift2, zero_sub]
  exact four_256 _ _ _ _ _ (fun _ _ => rfl) (fun _ _ => rfl) (fun _ _ => rfl) (fun _ _ => rfl)

theorem pointB_12 (hc : ¬ cond1_0 i) (z z' : Fin 1024 → ℝ) :
    out1_B_12 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd) (argG z) (argG z')
      = argQ fun i => gated (A i) (B i) := by
  frame_out
  simp only [k1_pay26, k1_pay33, k1_pay40, k1_pay47, k1_pay22, k1_pay23, k1_pay24, k1_pay25, k1_pay29, k1_pay30, k1_pay31, k1_pay32, k1_pay36, k1_pay37, k1_pay38, k1_pay39, k1_pay43, k1_pay44, k1_pay45, k1_pay46, chunk_0, chunk_1, chunk_2, chunk_3, cast_s, extf_lift2, cst_zero, cst_zero_at, cst_one, subf_lift2, exp_lift2, addf_lift2, divf_sig, mulf_lift2, truncf_lift2, zero_sub]
  exact four_256 _ _ _ _ _ (fun _ _ => rfl) (fun _ _ => rfl) (fun _ _ => rfl) (fun _ _ => rfl)

theorem pointA_13 (hc : cond1_0 i) :
    out1_A_13 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd)
      = argQ fun i => dGate g' Wd (A i) (B i) (F i) (dY i) := by
  frame_out
  simp only [k1_pay27, k1_pay34, k1_pay41, k1_pay48, k1_pay49, k1_pay50, k1_pay22, k1_pay23, k1_pay24, k1_pay25, k1_pay29, k1_pay30, k1_pay31, k1_pay32, k1_pay36, k1_pay37, k1_pay38, k1_pay39, k1_pay43, k1_pay44, k1_pay45, k1_pay46, bwd_df, k1_pay12, k1_pay17, k1_pay18, k1_pay19, k1_pay20, k1_pay21, tile_b0, tile_b1, tile_b2, tile_b3, cast_drop_b, constant_lift2, product_c, chunk_0, chunk_1, chunk_2, chunk_3, cast_s, extf_lift2, cst_zero, cst_zero_at, cst_one, subf_lift2, exp_lift2, addf_lift2, divf_sig, mulf_lift2, truncf_lift2, zero_sub]
  exact four_256 _ _ _ _ _ (fun _ _ => rfl) (fun _ _ => rfl) (fun _ _ => rfl) (fun _ _ => rfl)

theorem pointB_13 (hc : ¬ cond1_0 i) (z z' : Fin 1024 → ℝ) :
    out1_B_13 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd) (argG z) (argG z')
      = argQ fun i => dGate g' Wd (A i) (B i) (F i) (dY i) := by
  frame_out
  simp only [k1_pay27, k1_pay34, k1_pay41, k1_pay48, k1_pay49, k1_pay50, k1_pay22, k1_pay23, k1_pay24, k1_pay25, k1_pay29, k1_pay30, k1_pay31, k1_pay32, k1_pay36, k1_pay37, k1_pay38, k1_pay39, k1_pay43, k1_pay44, k1_pay45, k1_pay46, bwd_df, k1_pay12, k1_pay17, k1_pay18, k1_pay19, k1_pay20, k1_pay21, tile_b0, tile_b1, tile_b2, tile_b3, cast_drop_b, constant_lift2, product_c, chunk_0, chunk_1, chunk_2, chunk_3, cast_s, extf_lift2, cst_zero, cst_zero_at, cst_one, subf_lift2, exp_lift2, addf_lift2, divf_sig, mulf_lift2, truncf_lift2, zero_sub]
  exact four_256 _ _ _ _ _ (fun _ _ => rfl) (fun _ _ => rfl) (fun _ _ => rfl) (fun _ _ => rfl)

theorem pointA_14 (hc : cond1_0 i) :
    out1_A_14 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd)
      = argQ fun i => dUp g' Wd (A i) (F i) (dY i) := by
  frame_out
  simp only [k1_pay28, k1_pay35, k1_pay42, k1_pay51, k1_pay22, k1_pay23, k1_pay24, k1_pay25, k1_pay29, k1_pay30, k1_pay31, k1_pay32, k1_pay36, k1_pay37, k1_pay38, k1_pay39, k1_pay43, k1_pay44, k1_pay45, k1_pay46, bwd_df, k1_pay12, k1_pay17, k1_pay18, k1_pay19, k1_pay20, k1_pay21, tile_b0, tile_b1, tile_b2, tile_b3, cast_drop_b, constant_lift2, product_c, chunk_0, chunk_1, chunk_2, chunk_3, cast_s, extf_lift2, cst_zero, cst_zero_at, cst_one, subf_lift2, exp_lift2, addf_lift2, divf_sig, mulf_lift2, truncf_lift2, zero_sub]
  exact four_256 _ _ _ _ _ (fun _ _ => rfl) (fun _ _ => rfl) (fun _ _ => rfl) (fun _ _ => rfl)

theorem pointB_14 (hc : ¬ cond1_0 i) (z z' : Fin 1024 → ℝ) :
    out1_B_14 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd) (argG z) (argG z')
      = argQ fun i => dUp g' Wd (A i) (F i) (dY i) := by
  frame_out
  simp only [k1_pay28, k1_pay35, k1_pay42, k1_pay51, k1_pay22, k1_pay23, k1_pay24, k1_pay25, k1_pay29, k1_pay30, k1_pay31, k1_pay32, k1_pay36, k1_pay37, k1_pay38, k1_pay39, k1_pay43, k1_pay44, k1_pay45, k1_pay46, bwd_df, k1_pay12, k1_pay17, k1_pay18, k1_pay19, k1_pay20, k1_pay21, tile_b0, tile_b1, tile_b2, tile_b3, cast_drop_b, constant_lift2, product_c, chunk_0, chunk_1, chunk_2, chunk_3, cast_s, extf_lift2, cst_zero, cst_zero_at, cst_one, subf_lift2, exp_lift2, addf_lift2, divf_sig, mulf_lift2, truncf_lift2, zero_sub]
  exact four_256 _ _ _ _ _ (fun _ _ => rfl) (fun _ _ => rfl) (fun _ _ => rfl) (fun _ _ => rfl)

theorem pointA_15 (hc : cond1_0 i) :
    out1_A_15 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd)
      = lift2 (φ := .bf16) fun i => outBack g' (F i) (dY i) := by
  frame_out
  rw [bwd_df]
  exact truncf_lift2 _ _

theorem pointB_15 (hc : ¬ cond1_0 i) (z z' : Fin 1024 → ℝ) :
    out1_B_15 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd) (argG z) (argG z')
      = lift2 (φ := .bf16) fun i => outBack g' (F i) (dY i) := by
  frame_out
  rw [bwd_df]
  exact truncf_lift2 _ _

theorem pointA_16 (hc : cond1_0 i) :
    out1_A_16 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd)
      = argG fun j => ∑ r, dNorm g' Wg Wu Wd (A r) (B r) (F r) (dY r) j * hat (H r) j := by
  frame_out
  rw [k1_pay3, bwd_dn]
  simp only [bwd_hat', k1_pay4, cst_zero, mulf_lift2]
  rw [sum0_256]
  simp only [cast_row, cast_same, addf_lift2, zero_add]

theorem pointB_16 (hc : ¬ cond1_0 i) (z z' : Fin 1024 → ℝ) :
    out1_B_16 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd) (argG z) (argG z')
      = argG fun j => z j + ∑ r, dNorm g' Wg Wu Wd (A r) (B r) (F r) (dY r) j * hat (H r) j := by
  frame_out
  rw [k1_pay3, bwd_dn]
  simp only [bwd_hat', mulf_lift2]
  rw [sum0_256]
  simp only [cast_row, cast_same, addf_lift2]

theorem pointA_17 (hc : cond1_0 i) :
    out1_A_17 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd)
      = argG fun j => ∑ r, 1 / 2 * dY r j * hat (F r) j := by
  frame_out
  rw [k1_pay5, cst_zero]
  refine (bwd_dg2 F dY fun _ => 0).trans ?_
  simp only [zero_add]

theorem pointB_17 (hc : ¬ cond1_0 i) (z z' : Fin 1024 → ℝ) :
    out1_B_17 (F := Ideal) c i a1 h1 a2 h2 a3 h3 a4 h4 a5 h5 a6 h6 a7 h7 a8 h8 a9 h9 a10 h10 a11 h11 a12 h12 a13 h13 a14 h14 a15 h15 a16 h16 a17 h17 a18 h18 hc (argY H) (argY F) (argQ A) (argQ B) (argY dY) (argG g) (argG g') (argC Wg) (argC Wu) (argR Wd) (argG z) (argG z')
      = argG fun j => z' j + ∑ r, 1 / 2 * dY r j * hat (F r) j := by
  frame_out
  exact bwd_dg2 F dY z'

end

end Cert.FfnBlock
-- ==== Proof.BackwardArrays.lean ====
/- The gradient kernel's eight output arrays: on real arrays they hold the rows of the feed-forward block's gradient, and
   the gains' gradients summed over all rows. -/
module

public import proofs.«01_k».proof.Proof.Backward

@[expose] public section

set_option maxRecDepth 16384

noncomputable section

namespace Cert.FfnBlock

open Idealize.ShloMosaic Cert.KernelIdeal Cert.KernelIdeal.Gen Idealize.ShloMosaic.TcCoe

set_option backward.isDefEq.respectTransparency.types false

variable (V : (c : Dev nD) → (b : Ref sig .tc) → Buf (Elt Ideal) ((c : Thread nD τ).loc b)) (c : Dev nD)
variable (g g' : Fin 1024 → ℝ) (H F dY : Fin 8192 → Fin 1024 → ℝ) (A B : Fin 8192 → Fin 2048 → ℝ)
  (Wg Wu : Fin 1024 → Fin 2048 → ℝ) (Wd : Fin 2048 → Fin 1024 → ℝ)

/-- Row `k` of the `p`-th block of 256 rows. -/
def row256 (p : ℕ) (k : Fin 256) : Fin 8192 := ⟨(256 * p + k) % 8192, Nat.mod_lt _ (by norm_num)⟩

theorem row256_val {p : ℕ} (hp : p < 32) (k : Fin 256) : ((row256 p k : Fin 8192) : ℕ) = p * 256 + k := by
  show (256 * p + (k : ℕ)) % 8192 = _
  have := k.isLt
  omega

/-- The blocks' sums together are the sum over all rows. -/
theorem sum_rows256 (f : Fin 8192 → ℝ) : ∑ p ∈ Finset.range 32, ∑ k, f (row256 p k) = ∑ r, f r := by
  rw [Finset.sum_range]
  have h : ∑ r : Fin (32 * 256), f r = ∑ p : Fin 32, ∑ k : Fin 256, f (row256 p k) := by
    rw [← Fintype.sum_prod_type', ← finProdFinEquiv.sum_comp]
    refine Finset.sum_congr rfl fun p _ => congrArg f (Fin.ext ?_)
    rw [row256_val p.1.isLt]
    simp [finProdFinEquiv]; omega
  exact h.symm

/-- The block index of every window at every grid point. -/
theorem index1 : ∀ t : Fin cfg1.N,
    win1_0.index t = ![(t : ℕ), 0]
    ∧ win1_1.index t = ![(t : ℕ), 0]
    ∧ win1_2.index t = ![(t : ℕ), 0]
    ∧ win1_3.index t = ![(t : ℕ), 0]
    ∧ win1_4.index t = ![(t : ℕ), 0]
    ∧ win1_5.index t = ![0, 0]
    ∧ win1_6.index t = ![0, 0]
    ∧ win1_7.index t = ![0, 0, 0]
    ∧ win1_8.index t = ![0, 0, 0]
    ∧ win1_9.index t = ![0, 0, 0]
    ∧ win1_10.index t = ![(t : ℕ), 0]
    ∧ win1_11.index t = ![(t : ℕ), 0]
    ∧ win1_12.index t = ![(t : ℕ), 0]
    ∧ win1_13.index t = ![(t : ℕ), 0]
    ∧ win1_14.index t = ![(t : ℕ), 0]
    ∧ win1_15.index t = ![(t : ℕ), 0]
    ∧ win1_16.index t = ![0, 0]
    ∧ win1_17.index t = ![0, 0] :=
  (by decide +kernel : ∀ t : Fin grid1.N, _)

/-- The arrays the kernel finds on entry: real inputs, the saved rows, the arriving gradient, the gains and the weights. -/
structure Entry1 : Prop where
  e0 : V c (Pipeline.arrRef spec1 0) = (lift2 (φ := .f32) H : FVec Ideal S8192x1024 .f32)
  e1 : V c (Pipeline.arrRef spec1 1) = (lift2 (φ := .f32) F : FVec Ideal S8192x1024 .f32)
  e2 : V c (Pipeline.arrRef spec1 2) = (lift2 (φ := .bf16) A : FVec Ideal S8192x2048 .bf16)
  e3 : V c (Pipeline.arrRef spec1 3) = (lift2 (φ := .bf16) B : FVec Ideal S8192x2048 .bf16)
  e4 : V c (Pipeline.arrRef spec1 4) = (lift2 (φ := .f32) dY : FVec Ideal S8192x1024 .f32)
  e5 : V c (Pipeline.arrRef spec1 5) = argG g
  e6 : V c (Pipeline.arrRef spec1 6) = argG g'
  e7 : V c (Pipeline.arrRef spec1 7) = argC Wg
  e8 : V c (Pipeline.arrRef spec1 8) = argC Wu
  e9 : V c (Pipeline.arrRef spec1 9) = argR Wd

theorem block1_0 (X : Fin 8192 → Fin 1024 → ℝ) (h : V c (Pipeline.arrRef spec1 0) = (lift2 (φ := .f32) X : FVec Ideal S8192x1024 .f32)) (t : Fin cfg1.N) :
    iblk1 V c 0 t = argY fun i => X (row256 t i) := by
  rw [iblk1, h]
  funext y
  show (lift2 (φ := .f32) X : FVec Ideal S8192x1024 .f32) (((cfg1.win 0).blk t).view.emb y) = _
  refine congrArg Real.toEReal (congrArg₂ X (Fin.ext ?_) (Fin.ext ?_))
  · blk_simp [index1 t]; exact (row256_val t.isLt (y 0)).symm
  · blk_simp [index1 t]

theorem block1_1 (X : Fin 8192 → Fin 1024 → ℝ) (h : V c (Pipeline.arrRef spec1 1) = (lift2 (φ := .f32) X : FVec Ideal S8192x1024 .f32)) (t : Fin cfg1.N) :
    iblk1 V c 1 t = argY fun i => X (row256 t i) := by
  rw [iblk1, h]
  funext y
  show (lift2 (φ := .f32) X : FVec Ideal S8192x1024 .f32) (((cfg1.win 1).blk t).view.emb y) = _
  refine congrArg Real.toEReal (congrArg₂ X (Fin.ext ?_) (Fin.ext ?_))
  · blk_simp [index1 t]; exact (row256_val t.isLt (y 0)).symm
  · blk_simp [index1 t]

theorem block1_2 (X : Fin 8192 → Fin 2048 → ℝ) (h : V c (Pipeline.arrRef spec1 2) = (lift2 (φ := .bf16) X : FVec Ideal S8192x2048 .bf16)) (t : Fin cfg1.N) :
    iblk1 V c 2 t = argQ fun i => X (row256 t i) := by
  rw [iblk1, h]
  funext y
  show (lift2 (φ := .bf16) X : FVec Ideal S8192x2048 .bf16) (((cfg1.win 2).blk t).view.emb y) = _
  refine congrArg Real.toEReal (congrArg₂ X (Fin.ext ?_) (Fin.ext ?_))
  · blk_simp [index1 t]; exact (row256_val t.isLt (y 0)).symm
  · blk_simp [index1 t]

theorem block1_3 (X : Fin 8192 → Fin 2048 → ℝ) (h : V c (Pipeline.arrRef spec1 3) = (lift2 (φ := .bf16) X : FVec Ideal S8192x2048 .bf16)) (t : Fin cfg1.N) :
    iblk1 V c 3 t = argQ fun i => X (row256 t i) := by
  rw [iblk1, h]
  funext y
  show (lift2 (φ := .bf16) X : FVec Ideal S8192x2048 .bf16) (((cfg1.win 3).blk t).view.emb y) = _
  refine congrArg Real.toEReal (congrArg₂ X (Fin.ext ?_) (Fin.ext ?_))
  · blk_simp [index1 t]; exact (row256_val t.isLt (y 0)).symm
  · blk_simp [index1 t]

theorem block1_4 (X : Fin 8192 → Fin 1024 → ℝ) (h : V c (Pipeline.arrRef spec1 4) = (lift2 (φ := .f32) X : FVec Ideal S8192x1024 .f32)) (t : Fin cfg1.N) :
    iblk1 V c 4 t = argY fun i => X (row256 t i) := by
  rw [iblk1, h]
  funext y
  show (lift2 (φ := .f32) X : FVec Ideal S8192x1024 .f32) (((cfg1.win 4).blk t).view.emb y) = _
  refine congrArg Real.toEReal (congrArg₂ X (Fin.ext ?_) (Fin.ext ?_))
  · blk_simp [index1 t]; exact (row256_val t.isLt (y 0)).symm
  · blk_simp [index1 t]

theorem block1_5 (g : Fin 1024 → ℝ) (h : V c (Pipeline.arrRef spec1 5) = argG g) (t : Fin cfg1.N) : iblk1 V c 5 t = argG g := by
  rw [iblk1, h]
  funext y
  show argG g (((cfg1.win 5).blk t).view.emb y) = _
  refine congrArg Real.toEReal (congrArg g (Fin.ext ?_))
  blk_simp [index1 t]

theorem block1_6 (g : Fin 1024 → ℝ) (h : V c (Pipeline.arrRef spec1 6) = argG g) (t : Fin cfg1.N) : iblk1 V c 6 t = argG g := by
  rw [iblk1, h]
  funext y
  show argG g (((cfg1.win 6).blk t).view.emb y) = _
  refine congrArg Real.toEReal (congrArg g (Fin.ext ?_))
  blk_simp [index1 t]

theorem block1_7 (W : Fin 1024 → Fin 2048 → ℝ) (h : V c (Pipeline.arrRef spec1 7) = argC W) (t : Fin cfg1.N) : iblk1 V c 7 t = argC W := by
  rw [iblk1, h]
  funext y
  show argC W (((cfg1.win 7).blk t).view.emb y) = argC W y
  refine congrArg (argC W) (funext fun a => Fin.ext ?_)
  fin_cases a <;> blk_simp [index1 t]

theorem block1_8 (W : Fin 1024 → Fin 2048 → ℝ) (h : V c (Pipeline.arrRef spec1 8) = argC W) (t : Fin cfg1.N) : iblk1 V c 8 t = argC W := by
  rw [iblk1, h]
  funext y
  show argC W (((cfg1.win 8).blk t).view.emb y) = argC W y
  refine congrArg (argC W) (funext fun a => Fin.ext ?_)
  fin_cases a <;> blk_simp [index1 t]

theorem block1_9 (W : Fin 2048 → Fin 1024 → ℝ) (h : V c (Pipeline.arrRef spec1 9) = argR W) (t : Fin cfg1.N) : iblk1 V c 9 t = argR W := by
  rw [iblk1, h]
  funext y
  show argR W (((cfg1.win 9).blk t).view.emb y) = argR W y
  refine congrArg (argR W) (funext fun a => Fin.ext ?_)
  fin_cases a <;> blk_simp [index1 t]

/-- What the kernel leaves in its output blocks after each grid point. -/
theorem grads_at (he : Entry1 V c g g' H F dY A B Wg Wu Wd) (n : ℕ) (hn : n < cfg1.N) :
    outsAt1 V c n hn = (lift2 (φ := .f32) fun i => inBack g (H (row256 n i)) (dY (row256 n i)) (dNorm g' Wg Wu Wd (A (row256 n i)) (B (row256 n i)) (F (row256 n i)) (dY (row256 n i))),
      lift2 (φ := .bf16) fun i => normed g (H (row256 n i)),
      argQ fun i => gated (A (row256 n i)) (B (row256 n i)),
      argQ fun i => dGate g' Wd (A (row256 n i)) (B (row256 n i)) (F (row256 n i)) (dY (row256 n i)),
      argQ fun i => dUp g' Wd (A (row256 n i)) (F (row256 n i)) (dY (row256 n i)),
      lift2 (φ := .bf16) fun i => outBack g' (F (row256 n i)) (dY (row256 n i)),
      argG fun j => ∑ p ∈ Finset.range (n + 1), ∑ k, dNorm g' Wg Wu Wd (A (row256 p k)) (B (row256 p k)) (F (row256 p k)) (dY (row256 p k)) j * hat (H (row256 p k)) j,
      argG fun j => ∑ p ∈ Finset.range (n + 1), ∑ k, 1 / 2 * dY (row256 p k) j * hat (F (row256 p k)) j) := by
  have hN : n < 32 := hn
  induction n with
  | zero =>
    refine (outsAt1_A V c ⟨0, hn⟩ rfl).trans ?_
    rw [block1_0 V c H he.e0, block1_1 V c F he.e1, block1_2 V c A he.e2, block1_3 V c B he.e3, block1_4 V c dY he.e4, block1_5 V c g he.e5, block1_6 V c g' he.e6, block1_7 V c Wg he.e7, block1_8 V c Wu he.e8, block1_9 V c Wd he.e9]
    refine congrArg₂ Prod.mk (pointA_10 _ _ _ _ _ _ _ _ _ _ _ _ _ _ _ _ _ _ _ _ _ _ _ _ _ _ _ _ _ _ _ _ _ _ _ _ _ _ _ _ _ _ _ _ _ _ _ _ _) (congrArg₂ Prod.mk (pointA_11 _ _ _ _ _ _ _ _ _ _ _ _ _ _ _ _ _ _ _ _ _ _ _ _ _ _ _ _ _ _ _ _ _ _ _ _ _ _ _ _ _ _ _ _ _ _ _ _ _) (congrArg₂ Prod.mk (pointA_12 _ _ _ _ _ _ _ _ _ _ _ _ _ _ _ _ _ _ _ _ _ _ _ _ _ _ _ _ _ _ _ _ _ _ _ _ _ _ _ _ _ _ _ _ _ _ _ _ _) (congrArg₂ Prod.mk (pointA_13 _ _ _ _ _ _ _ _ _ _ _ _ _ _ _ _ _ _ _ _ _ _ _ _ _ _ _ _ _ _ _ _ _ _ _ _ _ _ _ _ _ _ _ _ _ _ _ _ _) (congrArg₂ Prod.mk (pointA_14 _ _ _ _ _ _ _ _ _ _ _ _ _ _ _ _ _ _ _ _ _ _ _ _ _ _ _ _ _ _ _ _ _ _ _ _ _ _ _ _ _ _ _ _ _ _ _ _ _) (congrArg₂ Prod.mk (pointA_15 _ _ _ _ _ _ _ _ _ _ _ _ _ _ _ _ _ _ _ _ _ _ _ _ _ _ _ _ _ _ _ _ _ _ _ _ _ _ _ _ _ _ _ _ _ _ _ _ _) (congrArg₂ Prod.mk ((pointA_16 _ _ _ _ _ _ _ _ _ _ _ _ _ _ _ _ _ _ _ _ _ _ _ _ _ _ _ _ _ _ _ _ _ _ _ _ _ _ _ _ _ _ _ _ _ _ _ _ _).trans (congrArg argG (funext fun j => ?_))) (((pointA_17 _ _ _ _ _ _ _ _ _ _ _ _ _ _ _ _ _ _ _ _ _ _ _ _ _ _ _ _ _ _ _ _ _ _ _ _ _ _ _ _ _ _ _ _ _ _ _ _ _).trans (congrArg argG (funext fun j => ?_))))))))))
    · simp
    · simp
  | succ n ih =>
    refine (outsAt1_B V c ⟨n + 1, hn⟩ (by show ¬ (n + 1) % 32 = 0; omega)).trans ?_
    rw [block1_0 V c H he.e0, block1_1 V c F he.e1, block1_2 V c A he.e2, block1_3 V c B he.e3, block1_4 V c dY he.e4, block1_5 V c g he.e5, block1_6 V c g' he.e6, block1_7 V c Wg he.e7, block1_8 V c Wu he.e8, block1_9 V c Wd he.e9]
    have e : outsAt1 V c n (Nat.lt_of_succ_lt hn) = _ := ih (Nat.lt_of_succ_lt hn) (by omega)
    simp only [Nat.add_sub_cancel]
    simp only [e]
    refine congrArg₂ Prod.mk (pointB_10 _ _ _ _ _ _ _ _ _ _ _ _ _ _ _ _ _ _ _ _ _ _ _ _ _ _ _ _ _ _ _ _ _ _ _ _ _ _ _ _ _ _ _ _ _ _ _ _ _ _ _) (congrArg₂ Prod.mk (pointB_11 _ _ _ _ _ _ _ _ _ _ _ _ _ _ _ _ _ _ _ _ _ _ _ _ _ _ _ _ _ _ _ _ _ _ _ _ _ _ _ _ _ _ _ _ _ _ _ _ _ _ _) (congrArg₂ Prod.mk (pointB_12 _ _ _ _ _ _ _ _ _ _ _ _ _ _ _ _ _ _ _ _ _ _ _ _ _ _ _ _ _ _ _ _ _ _ _ _ _ _ _ _ _ _ _ _ _ _ _ _ _ _ _) (congrArg₂ Prod.mk (pointB_13 _ _ _ _ _ _ _ _ _ _ _ _ _ _ _ _ _ _ _ _ _ _ _ _ _ _ _ _ _ _ _ _ _ _ _ _ _ _ _ _ _ _ _ _ _ _ _ _ _ _ _) (congrArg₂ Prod.mk (pointB_14 _ _ _ _ _ _ _ _ _ _ _ _ _ _ _ _ _ _ _ _ _ _ _ _ _ _ _ _ _ _ _ _ _ _ _ _ _ _ _ _ _ _ _ _ _ _ _ _ _ _ _) (congrArg₂ Prod.mk (pointB_15 _ _ _ _ _ _ _ _ _ _ _ _ _ _ _ _ _ _ _ _ _ _ _ _ _ _ _ _ _ _ _ _ _ _ _ _ _ _ _ _ _ _ _ _ _ _ _ _ _ _ _) (congrArg₂ Prod.mk ((pointB_16 _ _ _ _ _ _ _ _ _ _ _ _ _ _ _ _ _ _ _ _ _ _ _ _ _ _ _ _ _ _ _ _ _ _ _ _ _ _ _ _ _ _ _ _ _ _ _ _ _ _ _).trans (congrArg argG (funext fun j => ?_))) (((pointB_17 _ _ _ _ _ _ _ _ _ _ _ _ _ _ _ _ _ _ _ _ _ _ _ _ _ _ _ _ _ _ _ _ _ _ _ _ _ _ _ _ _ _ _ _ _ _ _ _ _ _ _).trans (congrArg argG (funext fun j => ?_))))))))))
    · simp only [Finset.sum_range_succ _ (n + 1)]
    · simp only [Finset.sum_range_succ _ (n + 1)]

/-- The last grid point. -/
def last1 : Fin cfg1.N := ⟨31, by show 31 < 32; norm_num⟩

theorem array_dh (he : Entry1 V c g g' H F dY A B Wg Wu Wd) :
    (dat1 V c).arrAt 10 cfg1.N = (lift2 (φ := .f32) fun i => inBack g (H i) (dY i) (dNorm g' Wg Wu Wd (A i) (B i) (F i) (dY i)) : FVec Ideal S8192x1024 .f32) := by
  refine (dat1 V c).arrAt_eq_of_covers 10 _ (by decide +kernel) fun t hf y => ?_
  blk_simp
  rw [after1_10, grads_at V c g g' H F dY A B Wg Wu Wd he]
  refine congrArg Real.toEReal (congr (congrArg (fun i => inBack g (H i) (dY i) (dNorm g' Wg Wu Wd (A i) (B i) (F i) (dY i))) (Fin.ext ?_)) (Fin.ext ?_))
  · blk_simp [index1 t]; exact row256_val t.isLt (y 0)
  · blk_simp [index1 t]

theorem array_n (he : Entry1 V c g g' H F dY A B Wg Wu Wd) :
    (dat1 V c).arrAt 11 cfg1.N = (lift2 (φ := .bf16) fun i => normed g (H i) : FVec Ideal S8192x1024 .bf16) := by
  refine (dat1 V c).arrAt_eq_of_covers 11 _ (by decide +kernel) fun t hf y => ?_
  blk_simp
  rw [after1_11, grads_at V c g g' H F dY A B Wg Wu Wd he]
  refine congrArg Real.toEReal (congr (congrArg (fun i => normed g (H i)) (Fin.ext ?_)) (Fin.ext ?_))
  · blk_simp [index1 t]; exact row256_val t.isLt (y 0)
  · blk_simp [index1 t]

theorem array_s (he : Entry1 V c g g' H F dY A B Wg Wu Wd) :
    (dat1 V c).arrAt 12 cfg1.N = (lift2 (φ := .bf16) fun i => gated (A i) (B i) : FVec Ideal S8192x2048 .bf16) := by
  refine (dat1 V c).arrAt_eq_of_covers 12 _ (by decide +kernel) fun t hf y => ?_
  blk_simp
  rw [after1_12, grads_at V c g g' H F dY A B Wg Wu Wd he]
  refine congrArg Real.toEReal (congr (congrArg (fun i => gated (A i) (B i)) (Fin.ext ?_)) (Fin.ext ?_))
  · blk_simp [index1 t]; exact row256_val t.isLt (y 0)
  · blk_simp [index1 t]

theorem array_da (he : Entry1 V c g g' H F dY A B Wg Wu Wd) :
    (dat1 V c).arrAt 13 cfg1.N = (lift2 (φ := .bf16) fun i => dGate g' Wd (A i) (B i) (F i) (dY i) : FVec Ideal S8192x2048 .bf16) := by
  refine (dat1 V c).arrAt_eq_of_covers 13 _ (by decide +kernel) fun t hf y => ?_
  blk_simp
  rw [after1_13, grads_at V c g g' H F dY A B Wg Wu Wd he]
  refine congrArg Real.toEReal (congr (congrArg (fun i => dGate g' Wd (A i) (B i) (F i) (dY i)) (Fin.ext ?_)) (Fin.ext ?_))
  · blk_simp [index1 t]; exact row256_val t.isLt (y 0)
  · blk_simp [index1 t]

theorem array_db (he : Entry1 V c g g' H F dY A B Wg Wu Wd) :
    (dat1 V c).arrAt 14 cfg1.N = (lift2 (φ := .bf16) fun i => dUp g' Wd (A i) (F i) (dY i) : FVec Ideal S8192x2048 .bf16) := by
  refine (dat1 V c).arrAt_eq_of_covers 14 _ (by decide +kernel) fun t hf y => ?_
  blk_simp
  rw [after1_14, grads_at V c g g' H F dY A B Wg Wu Wd he]
  refine congrArg Real.toEReal (congr (congrArg (fun i => dUp g' Wd (A i) (F i) (dY i)) (Fin.ext ?_)) (Fin.ext ?_))
  · blk_simp [index1 t]; exact row256_val t.isLt (y 0)
  · blk_simp [index1 t]

theorem array_df (he : Entry1 V c g g' H F dY A B Wg Wu Wd) :
    (dat1 V c).arrAt 15 cfg1.N = (lift2 (φ := .bf16) fun i => outBack g' (F i) (dY i) : FVec Ideal S8192x1024 .bf16) := by
  refine (dat1 V c).arrAt_eq_of_covers 15 _ (by decide +kernel) fun t hf y => ?_
  blk_simp
  rw [after1_15, grads_at V c g g' H F dY A B Wg Wu Wd he]
  refine congrArg Real.toEReal (congr (congrArg (fun i => outBack g' (F i) (dY i)) (Fin.ext ?_)) (Fin.ext ?_))
  · blk_simp [index1 t]; exact row256_val t.isLt (y 0)
  · blk_simp [index1 t]

theorem array_dg1 (he : Entry1 V c g g' H F dY A B Wg Wu Wd) :
    (dat1 V c).arrAt 16 cfg1.N = argG fun j => ∑ r, dNorm g' Wg Wu Wd (A r) (B r) (F r) (dY r) j * hat (H r) j := by
  refine (dat1 V c).arrAt_eq_of_after_last 16 last1 (by decide +kernel) _ fun j => ?_
  rw [after1_16, grads_at V c g g' H F dY A B Wg Wu Wd he]
  exact congrArg Real.toEReal (sum_rows256 fun r => dNorm g' Wg Wu Wd (A r) (B r) (F r) (dY r) (j 1) * hat (H r) (j 1))

theorem array_dg2 (he : Entry1 V c g g' H F dY A B Wg Wu Wd) :
    (dat1 V c).arrAt 17 cfg1.N = argG fun j => ∑ r, 1 / 2 * dY r j * hat (F r) j := by
  refine (dat1 V c).arrAt_eq_of_after_last 17 last1 (by decide +kernel) _ fun j => ?_
  rw [after1_17, grads_at V c g g' H F dY A B Wg Wu Wd he]
  exact congrArg Real.toEReal (sum_rows256 fun r => 1 / 2 * dY r (j 1) * hat (F r) (j 1))

end Cert.FfnBlock
-- ==== Proof.WeightGrad.lean ====
/- The weight-gradient kernel for the gate and up weights: one grid point adds a block's product to the running sum. -/
module

public import proofs.«01_k».proof.Proof.Forward
public import proofs.«01_k».proof.Proof.Gen.KernelIdeal.Frame.Region2
public import proofs.«01_k».proof.Proof.Gen.KernelIdeal.Frame.Region3
public import proofs.«01_k».proof.Proof.Gen.KernelIdeal.Frame.Region4

@[expose] public section

set_option maxRecDepth 16384

noncomputable section

namespace Cert.FfnBlock

open Idealize.ShloMosaic Cert.KernelIdeal Cert.KernelIdeal.Gen Idealize.ShloMosaic.TcCoe

set_option backward.isDefEq.respectTransparency.types false

/-! ## Reading and writing chunks -/

theorem col_0 (Y : Fin 1024 → Fin 2048 → ℝ) (h) :
    View.ld (Val := Elt Ideal) (e' := .bf16) (lift2 Y : FVec Ideal S1024x2048 .bf16) (Rect.unit (s := S1024x2048) ![0, 0] ![1024, 512] h)
      = lift2 (φ := .bf16) fun i j => Y i (ch 0 j) := by
  funext i; pointwise [lift2]; exact congrArg Real.toEReal (congrArg (Y (i 0)) (Fin.ext (by simp [ch])))
theorem slot_f0 (w : Fin 4 → Fin 1024 → Fin 512 → ℝ) (h) :
    View.ld (Val := Elt Ideal) (e' := .f32) (lift3 w : FVec Ideal S4x1024x512 .f32) (Rect.unit (s := S4x1024x512) ![0, 0, 0] ![1, 1024, 512] h)
      = lift3 (φ := .f32) fun _ : Fin 1 => w 0 := by
  funext i; pointwise [lift3]
theorem col_1 (Y : Fin 1024 → Fin 2048 → ℝ) (h) :
    View.ld (Val := Elt Ideal) (e' := .bf16) (lift2 Y : FVec Ideal S1024x2048 .bf16) (Rect.unit (s := S1024x2048) ![0, 512] ![1024, 512] h)
      = lift2 (φ := .bf16) fun i j => Y i (ch 1 j) := by
  funext i; pointwise [lift2]; exact congrArg Real.toEReal (congrArg (Y (i 0)) (Fin.ext (by simp [ch])))
theorem slot_f1 (w : Fin 4 → Fin 1024 → Fin 512 → ℝ) (h) :
    View.ld (Val := Elt Ideal) (e' := .f32) (lift3 w : FVec Ideal S4x1024x512 .f32) (Rect.unit (s := S4x1024x512) ![1, 0, 0] ![1, 1024, 512] h)
      = lift3 (φ := .f32) fun _ : Fin 1 => w 1 := by
  funext i; pointwise [lift3]
theorem col_2 (Y : Fin 1024 → Fin 2048 → ℝ) (h) :
    View.ld (Val := Elt Ideal) (e' := .bf16) (lift2 Y : FVec Ideal S1024x2048 .bf16) (Rect.unit (s := S1024x2048) ![0, 1024] ![1024, 512] h)
      = lift2 (φ := .bf16) fun i j => Y i (ch 2 j) := by
  funext i; pointwise [lift2]; exact congrArg Real.toEReal (congrArg (Y (i 0)) (Fin.ext (by simp [ch])))
theorem slot_f2 (w : Fin 4 → Fin 1024 → Fin 512 → ℝ) (h) :
    View.ld (Val := Elt Ideal) (e' := .f32) (lift3 w : FVec Ideal S4x1024x512 .f32) (Rect.unit (s := S4x1024x512) ![2, 0, 0] ![1, 1024, 512] h)
      = lift3 (φ := .f32) fun _ : Fin 1 => w 2 := by
  funext i; pointwise [lift3]
theorem col_3 (Y : Fin 1024 → Fin 2048 → ℝ) (h) :
    View.ld (Val := Elt Ideal) (e' := .bf16) (lift2 Y : FVec Ideal S1024x2048 .bf16) (Rect.unit (s := S1024x2048) ![0, 1536] ![1024, 512] h)
      = lift2 (φ := .bf16) fun i j => Y i (ch 3 j) := by
  funext i; pointwise [lift2]; exact congrArg Real.toEReal (congrArg (Y (i 0)) (Fin.ext (by simp [ch])))
theorem slot_f3 (w : Fin 4 → Fin 1024 → Fin 512 → ℝ) (h) :
    View.ld (Val := Elt Ideal) (e' := .f32) (lift3 w : FVec Ideal S4x1024x512 .f32) (Rect.unit (s := S4x1024x512) ![3, 0, 0] ![1, 1024, 512] h)
      = lift3 (φ := .f32) fun _ : Fin 1 => w 3 := by
  funext i; pointwise [lift3]

/-- Four slots stored over anything. -/
theorem four_slots (p0 p1 p2 p3 : Fin 1024 → Fin 512 → ℝ) (Y : Fin 4 → Fin 1024 → Fin 512 → ℝ) (L : List (View.Piece (Elt Ideal) S4x1024x512 .f32))
    (h0 : ∀ i j, p0 i j = Y 0 i j) (h1 : ∀ i j, p1 i j = Y 1 i j) (h2 : ∀ i j, p2 i j = Y 2 i j) (h3 : ∀ i j, p3 i j = Y 3 i j) :
    View.canon (Val := Elt Ideal) (s := S4x1024x512) (e := .f32)
      (⟨Rect.unit (s := S4x1024x512) ![3, 0, 0] ![1, 1024, 512] inb_S4x1024x512_S1x1024x512_3_0_0, lift3 (φ := .f32) fun _ => p3⟩
        :: ⟨Rect.unit (s := S4x1024x512) ![2, 0, 0] ![1, 1024, 512] inb_S4x1024x512_S1x1024x512_2_0_0, lift3 (φ := .f32) fun _ => p2⟩
        :: ⟨Rect.unit (s := S4x1024x512) ![1, 0, 0] ![1, 1024, 512] inb_S4x1024x512_S1x1024x512_1_0_0, lift3 (φ := .f32) fun _ => p1⟩
        :: ⟨Rect.unit (s := S4x1024x512) ![0, 0, 0] ![1, 1024, 512] inb_S4x1024x512_S1x1024x512_0_0_0, lift3 (φ := .f32) fun _ => p0⟩ :: L)
      = lift3 (φ := .f32) Y := by
  funext y
  refine View.canon_append_of_piecesOf (Val := Elt Ideal) (e := .f32) (lift3 (φ := .f32) Y) L [⟨_, _⟩, ⟨_, _⟩, ⟨_, _⟩, ⟨_, _⟩]
    ⟨fun x => ?_, fun x => ?_, fun x => ?_, fun x => ?_, trivial⟩ y (View.cover_of_tiled [⟨_, _⟩, ⟨_, _⟩, ⟨_, _⟩, ⟨_, _⟩] ![1, 1024, 512] (by rfl) y)
  · refine congrArg Real.toEReal ((h3 (x 1) (x 2)).trans (congr (congrArg₂ Y (Fin.ext ?_) (Fin.ext ?_)) (Fin.ext ?_)))
    · exact ((Rect.idx_unit_val (s := S4x1024x512) ![3, 0, 0] ![1, 1024, 512] inb_S4x1024x512_S1x1024x512_3_0_0 x 0).trans (congrArg (3 + ·) (Nat.lt_one_iff.1 (x 0).isLt))).symm
    · exact ((Rect.idx_unit_val (s := S4x1024x512) ![3, 0, 0] ![1, 1024, 512] inb_S4x1024x512_S1x1024x512_3_0_0 x 1).trans (Nat.zero_add _)).symm
    · exact ((Rect.idx_unit_val (s := S4x1024x512) ![3, 0, 0] ![1, 1024, 512] inb_S4x1024x512_S1x1024x512_3_0_0 x 2).trans (Nat.zero_add _)).symm
  · refine congrArg Real.toEReal ((h2 (x 1) (x 2)).trans (congr (congrArg₂ Y (Fin.ext ?_) (Fin.ext ?_)) (Fin.ext ?_)))
    · exact ((Rect.idx_unit_val (s := S4x1024x512) ![2, 0, 0] ![1, 1024, 512] inb_S4x1024x512_S1x1024x512_2_0_0 x 0).trans (congrArg (2 + ·) (Nat.lt_one_iff.1 (x 0).isLt))).symm
    · exact ((Rect.idx_unit_val (s := S4x1024x512) ![2, 0, 0] ![1, 1024, 512] inb_S4x1024x512_S1x1024x512_2_0_0 x 1).trans (Nat.zero_add _)).symm
    · exact ((Rect.idx_unit_val (s := S4x1024x512) ![2, 0, 0] ![1, 1024, 512] inb_S4x1024x512_S1x1024x512_2_0_0 x 2).trans (Nat.zero_add _)).symm
  · refine congrArg Real.toEReal ((h1 (x 1) (x 2)).trans (congr (congrArg₂ Y (Fin.ext ?_) (Fin.ext ?_)) (Fin.ext ?_)))
    · exact ((Rect.idx_unit_val (s := S4x1024x512) ![1, 0, 0] ![1, 1024, 512] inb_S4x1024x512_S1x1024x512_1_0_0 x 0).trans (congrArg (1 + ·) (Nat.lt_one_iff.1 (x 0).isLt))).symm
    · exact ((Rect.idx_unit_val (s := S4x1024x512) ![1, 0, 0] ![1, 1024, 512] inb_S4x1024x512_S1x1024x512_1_0_0 x 1).trans (Nat.zero_add _)).symm
    · exact ((Rect.idx_unit_val (s := S4x1024x512) ![1, 0, 0] ![1, 1024, 512] inb_S4x1024x512_S1x1024x512_1_0_0 x 2).trans (Nat.zero_add _)).symm
  · refine congrArg Real.toEReal ((h0 (x 1) (x 2)).trans (congr (congrArg₂ Y (Fin.ext ?_) (Fin.ext ?_)) (Fin.ext ?_)))
    · exact ((Rect.idx_unit_val (s := S4x1024x512) ![0, 0, 0] ![1, 1024, 512] inb_S4x1024x512_S1x1024x512_0_0_0 x 0).trans (congrArg (0 + ·) (Nat.lt_one_iff.1 (x 0).isLt))).symm
    · exact ((Rect.idx_unit_val (s := S4x1024x512) ![0, 0, 0] ![1, 1024, 512] inb_S4x1024x512_S1x1024x512_0_0_0 x 1).trans (Nat.zero_add _)).symm
    · exact ((Rect.idx_unit_val (s := S4x1024x512) ![0, 0, 0] ![1, 1024, 512] inb_S4x1024x512_S1x1024x512_0_0_0 x 2).trans (Nat.zero_add _)).symm

/-! ## One grid point -/

theorem gate_flip (X : Fin 1024 → Fin 1024 → ℝ) : k2_pay4 (F := Ideal) (lift2 (φ := .bf16) X) = lift2 fun i j => X j i := by
  rw [k2_pay4]
  simp only [cast_same]
  rw [flip_1024]

section
variable (c : Dev nD) (i : grid2.Coords) (a1 : Memref sig .tc .vmem S1024x1024 .bf16) (h1 : a1.IsWhole)
  (a2 : Memref sig .tc .vmem S1024x2048 .bf16) (h2 : a2.IsWhole) (a3 : Memref sig .tc .vmem S4x1024x512 .f32) (h3 : a3.IsWhole)

theorem gate_first (hc : cond2_0 i) (X : Fin 1024 → Fin 1024 → ℝ) (Y : Fin 1024 → Fin 2048 → ℝ) :
    out2_A_2 (F := Ideal) c i a1 h1 a2 h2 a3 h3 hc (lift2 (φ := .bf16) X) (lift2 (φ := .bf16) Y)
      = lift3 (φ := .f32) fun q i j => ∑ k, X k i * Y k (ch q j) := by
  frame_open
  simp (disch := decide) only [↓ View.readCov_skip, ↓ View.readCov_cons_toLoadRect, ↓ View.readCov_fill]
  frame_out
  simp only [k2_pay1, k2_pay2, k2_pay3, gate_flip, k2_pay5, k2_pay6, k2_pay7, cst_zero3, slot_f0, slot_f1, slot_f2, slot_f3, col_0, col_1, col_2, col_3,
    cast_drop_a, cast_same, constant_lift2, product_e, addf_lift2, cast_add_a, zero_add]
  exact four_slots _ _ _ _ _ _ (fun _ _ => rfl) (fun _ _ => rfl) (fun _ _ => rfl) (fun _ _ => rfl)

theorem gate_next (hc : ¬ cond2_0 i) (X : Fin 1024 → Fin 1024 → ℝ) (Y : Fin 1024 → Fin 2048 → ℝ) (Z : Fin 4 → Fin 1024 → Fin 512 → ℝ) :
    out2_B_2 (F := Ideal) c i a1 h1 a2 h2 a3 h3 hc (lift2 (φ := .bf16) X) (lift2 (φ := .bf16) Y) (lift3 (φ := .f32) Z)
      = lift3 (φ := .f32) fun q i j => Z q i j + ∑ k, X k i * Y k (ch q j) := by
  frame_out
  simp only [k2_pay1, k2_pay2, gate_flip, k2_pay5, k2_pay6, k2_pay7, slot_f0, slot_f1, slot_f2, slot_f3, col_0, col_1, col_2, col_3,
    cast_drop_a, cast_same, constant_lift2, product_e, addf_lift2, cast_add_a]
  exact four_slots _ _ _ _ _ [] (fun _ _ => rfl) (fun _ _ => rfl) (fun _ _ => rfl) (fun _ _ => rfl)

end

theorem up_flip (X : Fin 1024 → Fin 1024 → ℝ) : k3_pay4 (F := Ideal) (lift2 (φ := .bf16) X) = lift2 fun i j => X j i := by
  rw [k3_pay4]
  simp only [cast_same]
  rw [flip_1024]

section
variable (c : Dev nD) (i : grid3.Coords) (a1 : Memref sig .tc .vmem S1024x1024 .bf16) (h1 : a1.IsWhole)
  (a2 : Memref sig .tc .vmem S1024x2048 .bf16) (h2 : a2.IsWhole) (a3 : Memref sig .tc .vmem S4x1024x512 .f32) (h3 : a3.IsWhole)

theorem up_first (hc : cond3_0 i) (X : Fin 1024 → Fin 1024 → ℝ) (Y : Fin 1024 → Fin 2048 → ℝ) :
    out3_A_2 (F := Ideal) c i a1 h1 a2 h2 a3 h3 hc (lift2 (φ := .bf16) X) (lift2 (φ := .bf16) Y)
      = lift3 (φ := .f32) fun q i j => ∑ k, X k i * Y k (ch q j) := by
  frame_open
  simp (disch := decide) only [↓ View.readCov_skip, ↓ View.readCov_cons_toLoadRect, ↓ View.readCov_fill]
  frame_out
  simp only [k3_pay1, k3_pay2, k3_pay3, up_flip, k3_pay5, k3_pay6, k3_pay7, cst_zero3, slot_f0, slot_f1, slot_f2, slot_f3, col_0, col_1, col_2, col_3,
    cast_drop_a, cast_same, constant_lift2, product_e, addf_lift2, cast_add_a, zero_add]
  exact four_slots _ _ _ _ _ _ (fun _ _ => rfl) (fun _ _ => rfl) (fun _ _ => rfl) (fun _ _ => rfl)

theorem up_next (hc : ¬ cond3_0 i) (X : Fin 1024 → Fin 1024 → ℝ) (Y : Fin 1024 → Fin 2048 → ℝ) (Z : Fin 4 → Fin 1024 → Fin 512 → ℝ) :
    out3_B_2 (F := Ideal) c i a1 h1 a2 h2 a3 h3 hc (lift2 (φ := .bf16) X) (lift2 (φ := .bf16) Y) (lift3 (φ := .f32) Z)
      = lift3 (φ := .f32) fun q i j => Z q i j + ∑ k, X k i * Y k (ch q j) := by
  frame_out
  simp only [k3_pay1, k3_pay2, up_flip, k3_pay5, k3_pay6, k3_pay7, slot_f0, slot_f1, slot_f2, slot_f3, col_0, col_1, col_2, col_3,
    cast_drop_a, cast_same, constant_lift2, product_e, addf_lift2, cast_add_a]
  exact four_slots _ _ _ _ _ [] (fun _ _ => rfl) (fun _ _ => rfl) (fun _ _ => rfl) (fun _ _ => rfl)

end

/-! ## The down weights' kernel: two column chunks of a flat array -/

/-- Column `j` of half `q` of the width. -/
def half (q : Fin 2) (j : Fin 512) : Fin 1024 := ⟨512 * q + j, by omega⟩

theorem half_0 (Y : Fin 1024 → Fin 1024 → ℝ) (h) :
    View.ld (Val := Elt Ideal) (e' := .bf16) (lift2 Y : FVec Ideal S1024x1024 .bf16) (Rect.unit (s := S1024x1024) ![0, 0] ![1024, 512] h)
      = lift2 (φ := .bf16) fun i j => Y i (half 0 j) := by
  funext i; pointwise [lift2]; exact congrArg Real.toEReal (congrArg (Y (i 0)) (Fin.ext (by simp [half])))
theorem half_f0 (Y : Fin 2048 → Fin 1024 → ℝ) (h) :
    View.ld (Val := Elt Ideal) (e' := .f32) (lift2 Y : FVec Ideal S2048x1024 .f32) (Rect.unit (s := S2048x1024) ![0, 0] ![2048, 512] h)
      = lift2 (φ := .f32) fun i j => Y i (half 0 j) := by
  funext i; pointwise [lift2]; exact congrArg Real.toEReal (congrArg (Y (i 0)) (Fin.ext (by simp [half])))
theorem half_1 (Y : Fin 1024 → Fin 1024 → ℝ) (h) :
    View.ld (Val := Elt Ideal) (e' := .bf16) (lift2 Y : FVec Ideal S1024x1024 .bf16) (Rect.unit (s := S1024x1024) ![0, 512] ![1024, 512] h)
      = lift2 (φ := .bf16) fun i j => Y i (half 1 j) := by
  funext i; pointwise [lift2]; exact congrArg Real.toEReal (congrArg (Y (i 0)) (Fin.ext (by simp [half])))
theorem half_f1 (Y : Fin 2048 → Fin 1024 → ℝ) (h) :
    View.ld (Val := Elt Ideal) (e' := .f32) (lift2 Y : FVec Ideal S2048x1024 .f32) (Rect.unit (s := S2048x1024) ![0, 512] ![2048, 512] h)
      = lift2 (φ := .f32) fun i j => Y i (half 1 j) := by
  funext i; pointwise [lift2]; exact congrArg Real.toEReal (congrArg (Y (i 0)) (Fin.ext (by simp [half])))

/-- Two halves stored over anything. -/
theorem two_halves (p0 p1 : Fin 2048 → Fin 512 → ℝ) (Y : Fin 2048 → Fin 1024 → ℝ) (L : List (View.Piece (Elt Ideal) S2048x1024 .f32))
    (h0 : ∀ i j, p0 i j = Y i (half 0 j)) (h1 : ∀ i j, p1 i j = Y i (half 1 j)) :
    View.canon (Val := Elt Ideal) (s := S2048x1024) (e := .f32)
      (⟨Rect.unit (s := S2048x1024) ![0, 512] ![2048, 512] inb_S2048x1024_S2048x512_0_512, lift2 (φ := .f32) p1⟩
        :: ⟨Rect.unit (s := S2048x1024) ![0, 0] ![2048, 512] inb_S2048x1024_S2048x512_0_0, lift2 (φ := .f32) p0⟩ :: L)
      = lift2 (φ := .f32) Y := by
  funext y
  refine View.canon_append_of_piecesOf (Val := Elt Ideal) (e := .f32) (lift2 (φ := .f32) Y) L [⟨_, _⟩, ⟨_, _⟩]
    ⟨fun x => ?_, fun x => ?_, trivial⟩ y (View.cover_of_tiled [⟨_, _⟩, ⟨_, _⟩] ![2048, 512] (by rfl) y)
  · refine congrArg Real.toEReal ((h1 (x 0) (x 1)).trans (congrArg₂ Y (Fin.ext ?_) (Fin.ext ?_)))
    · exact ((Rect.idx_unit_val (s := S2048x1024) ![0, 512] ![2048, 512] inb_S2048x1024_S2048x512_0_512 x 0).trans (Nat.zero_add _)).symm
    · exact (Rect.idx_unit_val (s := S2048x1024) ![0, 512] ![2048, 512] inb_S2048x1024_S2048x512_0_512 x 1).symm
  · refine congrArg Real.toEReal ((h0 (x 0) (x 1)).trans (congrArg₂ Y (Fin.ext ?_) (Fin.ext ?_)))
    · exact ((Rect.idx_unit_val (s := S2048x1024) ![0, 0] ![2048, 512] inb_S2048x1024_S2048x512_0_0 x 0).trans (Nat.zero_add _)).symm
    · exact (Rect.idx_unit_val (s := S2048x1024) ![0, 0] ![2048, 512] inb_S2048x1024_S2048x512_0_0 x 1).symm

theorem down_flip (X : Fin 1024 → Fin 2048 → ℝ) : k4_pay2 (F := Ideal) (lift2 (φ := .bf16) X) = lift2 fun i j => X j i := by
  rw [k4_pay2]
  simp only [cast_same]
  rw [flip_2048]

section
variable (c : Dev nD) (i : grid4.Coords) (a1 : Memref sig .tc .vmem S1024x2048 .bf16) (h1 : a1.IsWhole)
  (a2 : Memref sig .tc .vmem S1024x1024 .bf16) (h2 : a2.IsWhole) (a3 : Memref sig .tc .vmem S2048x1024 .f32) (h3 : a3.IsWhole)

theorem down_first (hc : cond4_0 i) (X : Fin 1024 → Fin 2048 → ℝ) (Y : Fin 1024 → Fin 1024 → ℝ) :
    out4_A_2 (F := Ideal) c i a1 h1 a2 h2 a3 h3 hc (lift2 (φ := .bf16) X) (lift2 (φ := .bf16) Y)
      = lift2 (φ := .f32) fun i j => ∑ k, X k i * Y k j := by
  frame_open
  simp (disch := decide) only [↓ View.readCov_skip, ↓ View.readCov_cons_toLoadRect, ↓ View.readCov_fill]
  frame_out
  simp only [k4_pay1, down_flip, k4_pay3, k4_pay4, cst_zero, half_0, half_1, half_f0, half_f1,
    cast_same, constant_lift2, product_f, addf_lift2, zero_add]
  exact two_halves _ _ _ _ (fun _ _ => rfl) (fun _ _ => rfl)

theorem down_next (hc : ¬ cond4_0 i) (X : Fin 1024 → Fin 2048 → ℝ) (Y : Fin 1024 → Fin 1024 → ℝ) (Z : Fin 2048 → Fin 1024 → ℝ) :
    out4_B_2 (F := Ideal) c i a1 h1 a2 h2 a3 h3 hc (lift2 (φ := .bf16) X) (lift2 (φ := .bf16) Y) (lift2 (φ := .f32) Z)
      = lift2 (φ := .f32) fun i j => Z i j + ∑ k, X k i * Y k j := by
  frame_out
  simp only [down_flip, k4_pay3, k4_pay4, half_0, half_1, half_f0, half_f1,
    cast_same, constant_lift2, product_f, addf_lift2]
  exact two_halves _ _ _ [] (fun _ _ => rfl) (fun _ _ => rfl)
end

end Cert.FfnBlock
-- ==== Proof.WeightGradArrays.lean ====
/- The weight-gradient kernels' output arrays: on real arrays they hold the products of the transposed left array with
   the right one, summed over all rows. -/
module

public import proofs.«01_k».proof.Proof.WeightGrad

@[expose] public section

set_option maxRecDepth 16384

noncomputable section

namespace Cert.FfnBlock

open Idealize.ShloMosaic Cert.KernelIdeal Cert.KernelIdeal.Gen Idealize.ShloMosaic.TcCoe

set_option backward.isDefEq.respectTransparency.types false

variable (V : (c : Dev nD) → (b : Ref sig .tc) → Buf (Elt Ideal) ((c : Thread nD τ).loc b)) (c : Dev nD)

/-- Row `k` of the `p`-th block of 1024 rows. -/
def row1024 (p : ℕ) (k : Fin 1024) : Fin 8192 := ⟨(1024 * p + k) % 8192, Nat.mod_lt _ (by norm_num)⟩

theorem row1024_val {p : ℕ} (hp : p < 8) (k : Fin 1024) : ((row1024 p k : Fin 8192) : ℕ) = p * 1024 + k := by
  show (1024 * p + (k : ℕ)) % 8192 = _
  have := k.isLt
  omega

/-- The blocks' sums together are the sum over all rows. -/
theorem sum_rows1024 (f : Fin 8192 → ℝ) : ∑ p ∈ Finset.range 8, ∑ k, f (row1024 p k) = ∑ r, f r := by
  rw [Finset.sum_range]
  have h : ∑ r : Fin (8 * 1024), f r = ∑ p : Fin 8, ∑ k : Fin 1024, f (row1024 p k) := by
    rw [← Fintype.sum_prod_type', ← finProdFinEquiv.sum_comp]
    refine Finset.sum_congr rfl fun p _ => congrArg f (Fin.ext ?_)
    rw [row1024_val p.1.isLt]
    simp [finProdFinEquiv]; omega
  exact h.symm

section
variable (X : Fin 8192 → Fin 1024 → ℝ) (Y : Fin 8192 → Fin 2048 → ℝ)

theorem index2 : ∀ t : Fin cfg2.N, win2_0.index t = ![(t : ℕ), 0] ∧ win2_1.index t = ![(t : ℕ), 0] ∧ win2_2.index t = ![0, 0, 0] :=
  (by decide +kernel : ∀ t : Fin grid2.N, _)

theorem block2_0 (h : V c (Pipeline.arrRef spec2 0) = (lift2 (φ := .bf16) X : FVec Ideal S8192x1024 .bf16)) (t : Fin cfg2.N) :
    iblk2 V c 0 t = (lift2 (φ := .bf16) fun i => X (row1024 t i) : FVec Ideal S1024x1024 .bf16) := by
  rw [iblk2, h]
  funext y
  show (lift2 (φ := .bf16) X : FVec Ideal S8192x1024 .bf16) (((cfg2.win 0).blk t).view.emb y) = _
  refine congrArg Real.toEReal (congrArg₂ X (Fin.ext ?_) (Fin.ext ?_))
  · blk_simp [index2 t]; exact (row1024_val t.isLt (y 0)).symm
  · blk_simp [index2 t]

theorem block2_1 (h : V c (Pipeline.arrRef spec2 1) = (lift2 (φ := .bf16) Y : FVec Ideal S8192x2048 .bf16)) (t : Fin cfg2.N) :
    iblk2 V c 1 t = (lift2 (φ := .bf16) fun i => Y (row1024 t i) : FVec Ideal S1024x2048 .bf16) := by
  rw [iblk2, h]
  funext y
  show (lift2 (φ := .bf16) Y : FVec Ideal S8192x2048 .bf16) (((cfg2.win 1).blk t).view.emb y) = _
  refine congrArg Real.toEReal (congrArg₂ Y (Fin.ext ?_) (Fin.ext ?_))
  · blk_simp [index2 t]; exact (row1024_val t.isLt (y 0)).symm
  · blk_simp [index2 t]

/-- The running sum after each grid point. -/
theorem gate_sum (hX : V c (Pipeline.arrRef spec2 0) = (lift2 (φ := .bf16) X : FVec Ideal S8192x1024 .bf16))
    (hY : V c (Pipeline.arrRef spec2 1) = (lift2 (φ := .bf16) Y : FVec Ideal S8192x2048 .bf16)) (n : ℕ) (hn : n < cfg2.N) :
    outsAt2 V c n hn = lift3 (φ := .f32) fun q i j => ∑ p ∈ Finset.range (n + 1), ∑ k, X (row1024 p k) i * Y (row1024 p k) (ch q j) := by
  have hN : n < 8 := hn
  induction n with
  | zero =>
    refine (outsAt2_A V c ⟨0, hn⟩ rfl).trans ?_
    rw [block2_0 V c X hX, block2_1 V c Y hY]
    refine (gate_first _ _ _ _ _ _ _ _ _ _ _).trans ?_
    simp
  | succ n ih =>
    refine (outsAt2_B V c ⟨n + 1, hn⟩ (by show ¬ (n + 1) % 8 = 0; omega)).trans ?_
    rw [block2_0 V c X hX, block2_1 V c Y hY]
    have e : outsAt2 V c n (Nat.lt_of_succ_lt hn) = _ := ih (Nat.lt_of_succ_lt hn) (by omega)
    show out2_B_2 c _ _ _ _ _ _ _ _ _ _ (outsAt2 V c n (Nat.lt_of_succ_lt hn)) = _
    rw [e]
    refine (gate_next _ _ _ _ _ _ _ _ _ _ _ _).trans ?_
    simp only [Finset.sum_range_succ _ (n + 1)]

theorem array_gate (hX : V c (Pipeline.arrRef spec2 0) = (lift2 (φ := .bf16) X : FVec Ideal S8192x1024 .bf16))
    (hY : V c (Pipeline.arrRef spec2 1) = (lift2 (φ := .bf16) Y : FVec Ideal S8192x2048 .bf16)) :
    (dat2 V c).arrAt 2 cfg2.N = (lift3 (φ := .f32) fun q i j => ∑ r, X r i * Y r (ch q j) : FVec Ideal S4x1024x512 .f32) := by
  refine (dat2 V c).arrAt_eq_of_after_last 2 t2_7 (by decide +kernel) _ fun j => ?_
  rw [after2_2, gate_sum V c X Y hX hY]
  exact congrArg Real.toEReal (sum_rows1024 fun r => X r (j 1) * Y r (ch (j 0) (j 2)))
end

section
variable (X : Fin 8192 → Fin 1024 → ℝ) (Y : Fin 8192 → Fin 2048 → ℝ)

theorem index3 : ∀ t : Fin cfg3.N, win3_0.index t = ![(t : ℕ), 0] ∧ win3_1.index t = ![(t : ℕ), 0] ∧ win3_2.index t = ![0, 0, 0] :=
  (by decide +kernel : ∀ t : Fin grid3.N, _)

theorem block3_0 (h : V c (Pipeline.arrRef spec3 0) = (lift2 (φ := .bf16) X : FVec Ideal S8192x1024 .bf16)) (t : Fin cfg3.N) :
    iblk3 V c 0 t = (lift2 (φ := .bf16) fun i => X (row1024 t i) : FVec Ideal S1024x1024 .bf16) := by
  rw [iblk3, h]
  funext y
  show (lift2 (φ := .bf16) X : FVec Ideal S8192x1024 .bf16) (((cfg3.win 0).blk t).view.emb y) = _
  refine congrArg Real.toEReal (congrArg₂ X (Fin.ext ?_) (Fin.ext ?_))
  · blk_simp [index3 t]; exact (row1024_val t.isLt (y 0)).symm
  · blk_simp [index3 t]

theorem block3_1 (h : V c (Pipeline.arrRef spec3 1) = (lift2 (φ := .bf16) Y : FVec Ideal S8192x2048 .bf16)) (t : Fin cfg3.N) :
    iblk3 V c 1 t = (lift2 (φ := .bf16) fun i => Y (row1024 t i) : FVec Ideal S1024x2048 .bf16) := by
  rw [iblk3, h]
  funext y
  show (lift2 (φ := .bf16) Y : FVec Ideal S8192x2048 .bf16) (((cfg3.win 1).blk t).view.emb y) = _
  refine congrArg Real.toEReal (congrArg₂ Y (Fin.ext ?_) (Fin.ext ?_))
  · blk_simp [index3 t]; exact (row1024_val t.isLt (y 0)).symm
  · blk_simp [index3 t]

/-- The running sum after each grid point. -/
theorem up_sum (hX : V c (Pipeline.arrRef spec3 0) = (lift2 (φ := .bf16) X : FVec Ideal S8192x1024 .bf16))
    (hY : V c (Pipeline.arrRef spec3 1) = (lift2 (φ := .bf16) Y : FVec Ideal S8192x2048 .bf16)) (n : ℕ) (hn : n < cfg3.N) :
    outsAt3 V c n hn = lift3 (φ := .f32) fun q i j => ∑ p ∈ Finset.range (n + 1), ∑ k, X (row1024 p k) i * Y (row1024 p k) (ch q j) := by
  have hN : n < 8 := hn
  induction n with
  | zero =>
    refine (outsAt3_A V c ⟨0, hn⟩ rfl).trans ?_
    rw [block3_0 V c X hX, block3_1 V c Y hY]
    refine (up_first _ _ _ _ _ _ _ _ _ _ _).trans ?_
    simp
  | succ n ih =>
    refine (outsAt3_B V c ⟨n + 1, hn⟩ (by show ¬ (n + 1) % 8 = 0; omega)).trans ?_
    rw [block3_0 V c X hX, block3_1 V c Y hY]
    have e : outsAt3 V c n (Nat.lt_of_succ_lt hn) = _ := ih (Nat.lt_of_succ_lt hn) (by omega)
    show out3_B_2 c _ _ _ _ _ _ _ _ _ _ (outsAt3 V c n (Nat.lt_of_succ_lt hn)) = _
    rw [e]
    refine (up_next _ _ _ _ _ _ _ _ _ _ _ _).trans ?_
    simp only [Finset.sum_range_succ _ (n + 1)]

theorem array_up (hX : V c (Pipeline.arrRef spec3 0) = (lift2 (φ := .bf16) X : FVec Ideal S8192x1024 .bf16))
    (hY : V c (Pipeline.arrRef spec3 1) = (lift2 (φ := .bf16) Y : FVec Ideal S8192x2048 .bf16)) :
    (dat3 V c).arrAt 2 cfg3.N = (lift3 (φ := .f32) fun q i j => ∑ r, X r i * Y r (ch q j) : FVec Ideal S4x1024x512 .f32) := by
  refine (dat3 V c).arrAt_eq_of_after_last 2 t3_7 (by decide +kernel) _ fun j => ?_
  rw [after3_2, up_sum V c X Y hX hY]
  exact congrArg Real.toEReal (sum_rows1024 fun r => X r (j 1) * Y r (ch (j 0) (j 2)))
end

section
variable (X : Fin 8192 → Fin 2048 → ℝ) (Y : Fin 8192 → Fin 1024 → ℝ)

theorem index4 : ∀ t : Fin cfg4.N, win4_0.index t = ![(t : ℕ), 0] ∧ win4_1.index t = ![(t : ℕ), 0] ∧ win4_2.index t = ![0, 0] :=
  (by decide +kernel : ∀ t : Fin grid4.N, _)

theorem block4_0 (h : V c (Pipeline.arrRef spec4 0) = (lift2 (φ := .bf16) X : FVec Ideal S8192x2048 .bf16)) (t : Fin cfg4.N) :
    iblk4 V c 0 t = (lift2 (φ := .bf16) fun i => X (row1024 t i) : FVec Ideal S1024x2048 .bf16) := by
  rw [iblk4, h]
  funext y
  show (lift2 (φ := .bf16) X : FVec Ideal S8192x2048 .bf16) (((cfg4.win 0).blk t).view.emb y) = _
  refine congrArg Real.toEReal (congrArg₂ X (Fin.ext ?_) (Fin.ext ?_))
  · blk_simp [index4 t]; exact (row1024_val t.isLt (y 0)).symm
  · blk_simp [index4 t]

theorem block4_1 (h : V c (Pipeline.arrRef spec4 1) = (lift2 (φ := .bf16) Y : FVec Ideal S8192x1024 .bf16)) (t : Fin cfg4.N) :
    iblk4 V c 1 t = (lift2 (φ := .bf16) fun i => Y (row1024 t i) : FVec Ideal S1024x1024 .bf16) := by
  rw [iblk4, h]
  funext y
  show (lift2 (φ := .bf16) Y : FVec Ideal S8192x1024 .bf16) (((cfg4.win 1).blk t).view.emb y) = _
  refine congrArg Real.toEReal (congrArg₂ Y (Fin.ext ?_) (Fin.ext ?_))
  · blk_simp [index4 t]; exact (row1024_val t.isLt (y 0)).symm
  · blk_simp [index4 t]

/-- The running sum after each grid point. -/
theorem down_sum (hX : V c (Pipeline.arrRef spec4 0) = (lift2 (φ := .bf16) X : FVec Ideal S8192x2048 .bf16))
    (hY : V c (Pipeline.arrRef spec4 1) = (lift2 (φ := .bf16) Y : FVec Ideal S8192x1024 .bf16)) (n : ℕ) (hn : n < cfg4.N) :
    outsAt4 V c n hn = lift2 (φ := .f32) fun i j => ∑ p ∈ Finset.range (n + 1), ∑ k, X (row1024 p k) i * Y (row1024 p k) j := by
  have hN : n < 8 := hn
  induction n with
  | zero =>
    refine (outsAt4_A V c ⟨0, hn⟩ rfl).trans ?_
    rw [block4_0 V c X hX, block4_1 V c Y hY]
    refine (down_first _ _ _ _ _ _ _ _ _ _ _).trans ?_
    simp
  | succ n ih =>
    refine (outsAt4_B V c ⟨n + 1, hn⟩ (by show ¬ (n + 1) % 8 = 0; omega)).trans ?_
    rw [block4_0 V c X hX, block4_1 V c Y hY]
    have e : outsAt4 V c n (Nat.lt_of_succ_lt hn) = _ := ih (Nat.lt_of_succ_lt hn) (by omega)
    show out4_B_2 c _ _ _ _ _ _ _ _ _ _ (outsAt4 V c n (Nat.lt_of_succ_lt hn)) = _
    rw [e]
    refine (down_next _ _ _ _ _ _ _ _ _ _ _ _).trans ?_
    simp only [Finset.sum_range_succ _ (n + 1)]

theorem array_down (hX : V c (Pipeline.arrRef spec4 0) = (lift2 (φ := .bf16) X : FVec Ideal S8192x2048 .bf16))
    (hY : V c (Pipeline.arrRef spec4 1) = (lift2 (φ := .bf16) Y : FVec Ideal S8192x1024 .bf16)) :
    (dat4 V c).arrAt 2 cfg4.N = (lift2 (φ := .f32) fun i j => ∑ r, X r i * Y r j : FVec Ideal S2048x1024 .f32) := by
  refine (dat4 V c).arrAt_eq_of_after_last 2 t4_7 (by decide +kernel) _ fun j => ?_
  rw [after4_2, down_sum V c X Y hX hY]
  exact congrArg Real.toEReal (sum_rows1024 fun r => X r (j 0) * Y r (j 1))
end

end Cert.FfnBlock
-- ==== Proof.Run.lean ====
/- The whole program's run: from arguments that hold real numbers, the seven result arrays end holding the feed-forward
   block's output and its gradients. -/
module

public import proofs.«01_k».proof.Proof.ForwardArrays
public import proofs.«01_k».proof.Proof.BackwardArrays
public import proofs.«01_k».proof.Proof.WeightGradArrays
public import proofs.«01_k».proof.Proof.Gen.KernelIdeal.Frame

@[expose] public section

set_option maxRecDepth 16384

noncomputable section

namespace Cert.FfnBlock

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

set_option backward.isDefEq.respectTransparency.types false

/-! ## Moving the weights in and out of their chunks -/

theorem slots_row (W : Fin 2048 → Fin 1024 → ℝ) (h) :
    shapeCast S4x512x1024 (lift2 (φ := .bf16) W : FVec Ideal S2048x1024 .bf16) h = argR W := by
  funext i; pointwise [lift2, lift3]
  exact congrArg Real.toEReal (congrArg (W · (i 2)) (Fin.ext (by simp [ch, Nat.mul_comm])))
theorem slots_col (W : Fin 1024 → Fin 2048 → ℝ) (h h') :
    transpose S4x1024x512 [1, 0, 2] (shapeCast S1024x4x512 (lift2 (φ := .bf16) W : FVec Ideal S1024x2048 .bf16) h) h' = argC W := by
  funext i; pointwise [lift2, lift3]
  exact congrArg Real.toEReal (congrArg (W (i 1)) (Fin.ext (by simp [ch, Nat.mul_comm])))
theorem join_col (W : Fin 1024 → Fin 2048 → ℝ) (h h') :
    shapeCast S1024x2048 (transpose S1024x4x512 [1, 0, 2] (lift3 (φ := .f32) fun q i j => W i (ch q j) : FVec Ideal S4x1024x512 .f32) h) h' = lift2 W := by
  funext i; pointwise [lift2, lift3]
  exact congrArg Real.toEReal (congrArg (W (i 0)) (Fin.ext (Nat.div_add_mod _ _)))
theorem cast_unrow (x : Fin 1024 → ℝ) (h) : shapeCast S1024 (argG x) h = lift1 (φ := .f32) x := by
  funext i; pointwise [lift2, lift1]

/-! ## The arguments and the seven results as real arrays -/

variable (g g' : Fin 1024 → ℝ) (H dY : Fin 8192 → Fin 1024 → ℝ)
  (Wg Wu : Fin 1024 → Fin 2048 → ℝ) (Wd : Fin 2048 → Fin 1024 → ℝ)

/-- The gate's argument at row `r`. -/
abbrev rowA (r : Fin 8192) : Fin 2048 → ℝ := times Wg (normed g (H r))
/-- The branch's output at row `r`. -/
abbrev rowF (r : Fin 8192) : Fin 1024 → ℝ := ff g Wg Wu Wd (H r)

/-- The block's output. -/
def resOut (r : Fin 8192) : Fin 1024 → ℝ := residual g' (H r) (rowF g H Wg Wu Wd r)
/-- The gradient at the normed rows. -/
def resNorm (r : Fin 8192) : Fin 1024 → ℝ :=
  dNorm g' Wg Wu Wd (rowA g H Wg r) (rowA g H Wu r) (rowF g H Wg Wu Wd r) (dY r)
/-- The gradient of the input rows. -/
def resIn (r : Fin 8192) : Fin 1024 → ℝ := inBack g (H r) (dY r) (resNorm g g' H dY Wg Wu Wd r)
/-- The gradient of the first gain. -/
def resGain (j : Fin 1024) : ℝ := ∑ r, resNorm g g' H dY Wg Wu Wd r j * hat (H r) j
/-- The gradient of the second gain. -/
def resGain' (j : Fin 1024) : ℝ := ∑ r, 1 / 2 * dY r j * hat (rowF g H Wg Wu Wd r) j
/-- The gradient of the gate weights. -/
def resGate (i : Fin 1024) (j : Fin 2048) : ℝ :=
  ∑ r, normed g (H r) i * dGate g' Wd (rowA g H Wg r) (rowA g H Wu r) (rowF g H Wg Wu Wd r) (dY r) j
/-- The gradient of the up weights. -/
def resUp (i : Fin 1024) (j : Fin 2048) : ℝ :=
  ∑ r, normed g (H r) i * dUp g' Wd (rowA g H Wg r) (rowF g H Wg Wu Wd r) (dY r) j
/-- The gradient of the down weights. -/
def resDown (i : Fin 2048) (j : Fin 1024) : ℝ :=
  ∑ r, gated (rowA g H Wg r) (rowA g H Wu r) i * outBack g' (rowF g H Wg Wu Wd r) (dY r) j

variable (m : (ℓ : Loc nD τ sig) → Buf (Elt Ideal) ℓ) (ρ : Dev nD → PrngReg) (c : Dev nD)

/-- The program's arguments hold these real arrays. -/
structure Args : Prop where
  a0 : m ((c : Thread nD τ).loc main_arg0) = (lift2 (φ := .f32) H : FVec Ideal S8192x1024 .f32)
  a1 : m ((c : Thread nD τ).loc main_arg1) = (lift2 (φ := .f32) dY : FVec Ideal S8192x1024 .f32)
  a2 : m ((c : Thread nD τ).loc main_arg2) = (lift1 (φ := .f32) g : FVec Ideal S1024 .f32)
  a3 : m ((c : Thread nD τ).loc main_arg3) = (lift1 (φ := .f32) g' : FVec Ideal S1024 .f32)
  a4 : m ((c : Thread nD τ).loc main_arg4) = (lift2 (φ := .f32) Wg : FVec Ideal S1024x2048 .f32)
  a5 : m ((c : Thread nD τ).loc main_arg5) = (lift2 (φ := .f32) Wu : FVec Ideal S1024x2048 .f32)
  a6 : m ((c : Thread nD τ).loc main_arg6) = (lift2 (φ := .f32) Wd : FVec Ideal S2048x1024 .f32)

/-! ## What the weights' preparation leaves -/

theorem prep_v0 : W1 m ρ c (Proc.devRef .tc main_v0) = (shapeCast S1x1024 (m ((c : Thread nD τ).loc main_arg2) : FVec Ideal S1024 .f32) shapeCasts_S1024_S1x1024 : FVec Ideal S1x1024 .f32) := by
  unfold_abbrev_sides
  after_results
  rfl
theorem prep_v1 : W1 m ρ c (Proc.devRef .tc main_v1) = (shapeCast S1x1024 (m ((c : Thread nD τ).loc main_arg3) : FVec Ideal S1024 .f32) shapeCasts_S1024_S1x1024 : FVec Ideal S1x1024 .f32) := by
  unfold_abbrev_sides
  after_results
  rfl
theorem prep_v4 : W1 m ρ c (Proc.devRef .tc main_v4) = (transpose S4x1024x512 [1, 0, 2] (shapeCast S1024x4x512 (truncf .bf16 (m ((c : Thread nD τ).loc main_arg4) : FVec Ideal S1024x2048 .f32) bitsLt_bf16_f32) shapeCasts_S1024x2048_S1024x4x512) transposes_S1024x4x512_S4x1024x512_1_0_2 : FVec Ideal S4x1024x512 .bf16) := by
  unfold_abbrev_sides
  after_results
  rfl
theorem prep_v7 : W1 m ρ c (Proc.devRef .tc main_v7) = (transpose S4x1024x512 [1, 0, 2] (shapeCast S1024x4x512 (truncf .bf16 (m ((c : Thread nD τ).loc main_arg5) : FVec Ideal S1024x2048 .f32) bitsLt_bf16_f32) shapeCasts_S1024x2048_S1024x4x512) transposes_S1024x4x512_S4x1024x512_1_0_2 : FVec Ideal S4x1024x512 .bf16) := by
  unfold_abbrev_sides
  after_results
  rfl
theorem prep_v9 : W1 m ρ c (Proc.devRef .tc main_v9) = (shapeCast S4x512x1024 (truncf .bf16 (m ((c : Thread nD τ).loc main_arg6) : FVec Ideal S2048x1024 .f32) bitsLt_bf16_f32) shapeCasts_S2048x1024_S4x512x1024 : FVec Ideal S4x512x1024 .bf16) := by
  unfold_abbrev_sides
  after_results
  rfl

variable (hA : Args g g' H dY Wg Wu Wd m c)
include hA

theorem ready_v0 : W1 m ρ c (Proc.devRef .tc main_v0) = argG g := by
  rw [prep_v0, hA.a2]
  exact cast_row _ _
theorem ready_v1 : W1 m ρ c (Proc.devRef .tc main_v1) = argG g' := by
  rw [prep_v1, hA.a3]
  exact cast_row _ _
theorem ready_v4 : W1 m ρ c (Proc.devRef .tc main_v4) = argC Wg := by
  rw [prep_v4, hA.a4, truncf_lift2]
  exact slots_col _ _ _
theorem ready_v7 : W1 m ρ c (Proc.devRef .tc main_v7) = argC Wu := by
  rw [prep_v7, hA.a5, truncf_lift2]
  exact slots_col _ _ _
theorem ready_v9 : W1 m ρ c (Proc.devRef .tc main_v9) = argR Wd := by
  rw [prep_v9, hA.a6, truncf_lift2]
  exact slots_row _ _

/-! ## After the forward kernel -/

theorem fwd_h : W2 m ρ c (Proc.devRef .tc main_v10_0) = (lift2 (φ := .f32) (resOut g g' H Wg Wu Wd) : FVec Ideal S8192x1024 .f32) :=
  (W2_arr m ρ c 6).trans (array_h (V := V1 m ρ) (c := c) (g := g) (g' := g') (H := H) (Wg := Wg) (Wu := Wu) (Wd := Wd)
    (h := (W1_args m ρ c main_arg0 (by decide)).trans hA.a0) (h1 := ready_v0 g g' H dY Wg Wu Wd m ρ c hA) (h2 := ready_v1 g g' H dY Wg Wu Wd m ρ c hA) (h3 := ready_v4 g g' H dY Wg Wu Wd m ρ c hA) (h4 := ready_v7 g g' H dY Wg Wu Wd m ρ c hA) (h5 := ready_v9 g g' H dY Wg Wu Wd m ρ c hA))
theorem fwd_a : W2 m ρ c (Proc.devRef .tc main_v10_1) = (lift2 (φ := .bf16) (rowA g H Wg) : FVec Ideal S8192x2048 .bf16) :=
  (W2_arr m ρ c 7).trans (array_a (V := V1 m ρ) (c := c) (g := g) (g' := g') (H := H) (Wg := Wg) (Wu := Wu) (Wd := Wd)
    (h := (W1_args m ρ c main_arg0 (by decide)).trans hA.a0) (h1 := ready_v0 g g' H dY Wg Wu Wd m ρ c hA) (h2 := ready_v1 g g' H dY Wg Wu Wd m ρ c hA) (h3 := ready_v4 g g' H dY Wg Wu Wd m ρ c hA) (h4 := ready_v7 g g' H dY Wg Wu Wd m ρ c hA) (h5 := ready_v9 g g' H dY Wg Wu Wd m ρ c hA))
theorem fwd_b : W2 m ρ c (Proc.devRef .tc main_v10_2) = (lift2 (φ := .bf16) (rowA g H Wu) : FVec Ideal S8192x2048 .bf16) :=
  (W2_arr m ρ c 8).trans (array_b (V := V1 m ρ) (c := c) (g := g) (g' := g') (H := H) (Wg := Wg) (Wu := Wu) (Wd := Wd)
    (h := (W1_args m ρ c main_arg0 (by decide)).trans hA.a0) (h1 := ready_v0 g g' H dY Wg Wu Wd m ρ c hA) (h2 := ready_v1 g g' H dY Wg Wu Wd m ρ c hA) (h3 := ready_v4 g g' H dY Wg Wu Wd m ρ c hA) (h4 := ready_v7 g g' H dY Wg Wu Wd m ρ c hA) (h5 := ready_v9 g g' H dY Wg Wu Wd m ρ c hA))
theorem fwd_f : W2 m ρ c (Proc.devRef .tc main_v10_3) = (lift2 (φ := .f32) (rowF g H Wg Wu Wd) : FVec Ideal S8192x1024 .f32) :=
  (W2_arr m ρ c 9).trans (array_f (V := V1 m ρ) (c := c) (g := g) (g' := g') (H := H) (Wg := Wg) (Wu := Wu) (Wd := Wd)
    (h := (W1_args m ρ c main_arg0 (by decide)).trans hA.a0) (h1 := ready_v0 g g' H dY Wg Wu Wd m ρ c hA) (h2 := ready_v1 g g' H dY Wg Wu Wd m ρ c hA) (h3 := ready_v4 g g' H dY Wg Wu Wd m ρ c hA) (h4 := ready_v7 g g' H dY Wg Wu Wd m ρ c hA) (h5 := ready_v9 g g' H dY Wg Wu Wd m ρ c hA))

/-- What the gradient kernel finds. -/
theorem entry1 : Entry1 (V2 m ρ) c g g' H (rowF g H Wg Wu Wd) dY (rowA g H Wg) (rowA g H Wu) Wg Wu Wd where
  e0 := (W2_args m ρ c main_arg0 (by decide)).trans hA.a0
  e1 := fwd_f g g' H dY Wg Wu Wd m ρ c hA
  e2 := fwd_a g g' H dY Wg Wu Wd m ρ c hA
  e3 := fwd_b g g' H dY Wg Wu Wd m ρ c hA
  e4 := (W2_args m ρ c main_arg1 (by decide)).trans hA.a1
  e5 := (W2_of m ρ c main_v0 (by decide +kernel)).trans (ready_v0 g g' H dY Wg Wu Wd m ρ c hA)
  e6 := (W2_of m ρ c main_v1 (by decide +kernel)).trans (ready_v1 g g' H dY Wg Wu Wd m ρ c hA)
  e7 := (W2_of m ρ c main_v4 (by decide +kernel)).trans (ready_v4 g g' H dY Wg Wu Wd m ρ c hA)
  e8 := (W2_of m ρ c main_v7 (by decide +kernel)).trans (ready_v7 g g' H dY Wg Wu Wd m ρ c hA)
  e9 := (W2_of m ρ c main_v9 (by decide +kernel)).trans (ready_v9 g g' H dY Wg Wu Wd m ρ c hA)

/-! ## After the gradient kernel -/

theorem bwd_out_dh : W3 m ρ c (Proc.devRef .tc main_v11_0) = (lift2 (φ := .f32) (resIn g g' H dY Wg Wu Wd) : FVec Ideal S8192x1024 .f32) :=
  (W3_arr m ρ c 10).trans (array_dh (he := entry1 g g' H dY Wg Wu Wd m ρ c hA))
theorem bwd_out_n : W3 m ρ c (Proc.devRef .tc main_v11_1) = (lift2 (φ := .bf16) (fun r => normed g (H r)) : FVec Ideal S8192x1024 .bf16) :=
  (W3_arr m ρ c 11).trans (array_n (he := entry1 g g' H dY Wg Wu Wd m ρ c hA))
theorem bwd_out_s : W3 m ρ c (Proc.devRef .tc main_v11_2) = (lift2 (φ := .bf16) (fun r => gated (rowA g H Wg r) (rowA g H Wu r)) : FVec Ideal S8192x2048 .bf16) :=
  (W3_arr m ρ c 12).trans (array_s (he := entry1 g g' H dY Wg Wu Wd m ρ c hA))
theorem bwd_out_da : W3 m ρ c (Proc.devRef .tc main_v11_3) = (lift2 (φ := .bf16) (fun r => dGate g' Wd (rowA g H Wg r) (rowA g H Wu r) (rowF g H Wg Wu Wd r) (dY r)) : FVec Ideal S8192x2048 .bf16) :=
  (W3_arr m ρ c 13).trans (array_da (he := entry1 g g' H dY Wg Wu Wd m ρ c hA))
theorem bwd_out_db : W3 m ρ c (Proc.devRef .tc main_v11_4) = (lift2 (φ := .bf16) (fun r => dUp g' Wd (rowA g H Wg r) (rowF g H Wg Wu Wd r) (dY r)) : FVec Ideal S8192x2048 .bf16) :=
  (W3_arr m ρ c 14).trans (array_db (he := entry1 g g' H dY Wg Wu Wd m ρ c hA))
theorem bwd_out_df : W3 m ρ c (Proc.devRef .tc main_v11_5) = (lift2 (φ := .bf16) (fun r => outBack g' (rowF g H Wg Wu Wd r) (dY r)) : FVec Ideal S8192x1024 .bf16) :=
  (W3_arr m ρ c 15).trans (array_df (he := entry1 g g' H dY Wg Wu Wd m ρ c hA))
theorem bwd_out_dg1 : W3 m ρ c (Proc.devRef .tc main_v11_6) = argG (resGain g g' H dY Wg Wu Wd) :=
  (W3_arr m ρ c 16).trans (array_dg1 (he := entry1 g g' H dY Wg Wu Wd m ρ c hA))
theorem bwd_out_dg2 : W3 m ρ c (Proc.devRef .tc main_v11_7) = argG (resGain' g H dY Wg Wu Wd) :=
  (W3_arr m ρ c 17).trans (array_dg2 (he := entry1 g g' H dY Wg Wu Wd m ρ c hA))

/-! ## After the weight-gradient kernels -/

theorem wg_gate : W4 m ρ c (Proc.devRef .tc main_v12)
    = (lift3 (φ := .f32) fun q i j => resGate g g' H dY Wg Wu Wd i (ch q j) : FVec Ideal S4x1024x512 .f32) :=
  (W4_arr m ρ c 2).trans (array_gate (hX := bwd_out_n g g' H dY Wg Wu Wd m ρ c hA) (hY := bwd_out_da g g' H dY Wg Wu Wd m ρ c hA))
theorem wg_up : W5 m ρ c (Proc.devRef .tc main_v13)
    = (lift3 (φ := .f32) fun q i j => resUp g g' H dY Wg Wu Wd i (ch q j) : FVec Ideal S4x1024x512 .f32) :=
  (W5_arr m ρ c 2).trans (array_up (hX := (W4_of m ρ c main_v11_1 (by decide +kernel)).trans (bwd_out_n g g' H dY Wg Wu Wd m ρ c hA))
    (hY := (W4_of m ρ c main_v11_4 (by decide +kernel)).trans (bwd_out_db g g' H dY Wg Wu Wd m ρ c hA)))
theorem wg_down : W6 m ρ c (Proc.devRef .tc main_v14)
    = (lift2 (φ := .f32) (resDown g g' H dY Wg Wu Wd) : FVec Ideal S2048x1024 .f32) :=
  (W6_arr m ρ c 2).trans (array_down
    (hX := (W5_of m ρ c main_v11_2 (by decide +kernel)).trans ((W4_of m ρ c main_v11_2 (by decide +kernel)).trans (bwd_out_s g g' H dY Wg Wu Wd m ρ c hA)))
    (hY := (W5_of m ρ c main_v11_5 (by decide +kernel)).trans ((W4_of m ρ c main_v11_5 (by decide +kernel)).trans (bwd_out_df g g' H dY Wg Wu Wd m ρ c hA))))

/-! ## The seven results -/

theorem end_out : W7 m ρ c (Proc.devRef .tc main_v10_0) = (lift2 (φ := .f32) (resOut g g' H Wg Wu Wd) : FVec Ideal S8192x1024 .f32) :=
  (W7_of m ρ c main_v10_0 (by decide +kernel)).trans ((W6_of m ρ c main_v10_0 (by decide +kernel)).trans ((W5_of m ρ c main_v10_0 (by decide +kernel)).trans ((W4_of m ρ c main_v10_0 (by decide +kernel)).trans ((W3_of m ρ c main_v10_0 (by decide +kernel)).trans (fwd_h g g' H dY Wg Wu Wd m ρ c hA)))))
theorem end_in : W7 m ρ c (Proc.devRef .tc main_v11_0) = (lift2 (φ := .f32) (resIn g g' H dY Wg Wu Wd) : FVec Ideal S8192x1024 .f32) :=
  (W7_of m ρ c main_v11_0 (by decide +kernel)).trans ((W6_of m ρ c main_v11_0 (by decide +kernel)).trans ((W5_of m ρ c main_v11_0 (by decide +kernel)).trans ((W4_of m ρ c main_v11_0 (by decide +kernel)).trans (bwd_out_dh g g' H dY Wg Wu Wd m ρ c hA))))
theorem end_down : W7 m ρ c (Proc.devRef .tc main_v14) = (lift2 (φ := .f32) (resDown g g' H dY Wg Wu Wd) : FVec Ideal S2048x1024 .f32) :=
  (W7_of m ρ c main_v14 (by decide +kernel)).trans (wg_down g g' H dY Wg Wu Wd m ρ c hA)
omit hA in
theorem last_gain : W7 m ρ c (Proc.devRef .tc main_v15)
    = shapeCast S1024 (W6 m ρ c (Proc.devRef .tc main_v11_6) : FVec Ideal S1x1024 .f32) shapeCasts_S1x1024_S1024 := by
  unfold_abbrev_sides
  after_results
  rfl
theorem end_gain : W7 m ρ c (Proc.devRef .tc main_v15) = (lift1 (φ := .f32) (resGain g g' H dY Wg Wu Wd) : FVec Ideal S1024 .f32) := by
  have h : W6 m ρ c (Proc.devRef .tc main_v11_6) = argG (resGain g g' H dY Wg Wu Wd) :=
    (W6_of m ρ c main_v11_6 (by decide +kernel)).trans ((W5_of m ρ c main_v11_6 (by decide +kernel)).trans ((W4_of m ρ c main_v11_6 (by decide +kernel)).trans (bwd_out_dg1 g g' H dY Wg Wu Wd m ρ c hA)))
  rw [last_gain, h]
  exact cast_unrow _ _
omit hA in
theorem last_gain2 : W7 m ρ c (Proc.devRef .tc main_v16)
    = shapeCast S1024 (W6 m ρ c (Proc.devRef .tc main_v11_7) : FVec Ideal S1x1024 .f32) shapeCasts_S1x1024_S1024 := by
  unfold_abbrev_sides
  after_results
  rfl
theorem end_gain2 : W7 m ρ c (Proc.devRef .tc main_v16) = (lift1 (φ := .f32) (resGain' g H dY Wg Wu Wd) : FVec Ideal S1024 .f32) := by
  have h : W6 m ρ c (Proc.devRef .tc main_v11_7) = argG (resGain' g H dY Wg Wu Wd) :=
    (W6_of m ρ c main_v11_7 (by decide +kernel)).trans ((W5_of m ρ c main_v11_7 (by decide +kernel)).trans ((W4_of m ρ c main_v11_7 (by decide +kernel)).trans (bwd_out_dg2 g g' H dY Wg Wu Wd m ρ c hA)))
  rw [last_gain2, h]
  exact cast_unrow _ _
omit hA in
theorem last_gate : W7 m ρ c (Proc.devRef .tc main_v18)
    = shapeCast S1024x2048 (transpose S1024x4x512 [1, 0, 2] (W6 m ρ c (Proc.devRef .tc main_v12) : FVec Ideal S4x1024x512 .f32)
        transposes_S4x1024x512_S1024x4x512_1_0_2) shapeCasts_S1024x4x512_S1024x2048 := by
  unfold_abbrev_sides
  after_results
  rfl
theorem end_gate : W7 m ρ c (Proc.devRef .tc main_v18) = (lift2 (φ := .f32) (resGate g g' H dY Wg Wu Wd) : FVec Ideal S1024x2048 .f32) := by
  have h : W6 m ρ c (Proc.devRef .tc main_v12)
      = (lift3 (φ := .f32) fun q i j => resGate g g' H dY Wg Wu Wd i (ch q j) : FVec Ideal S4x1024x512 .f32) :=
    (W6_of m ρ c main_v12 (by decide +kernel)).trans ((W5_of m ρ c main_v12 (by decide +kernel)).trans (wg_gate g g' H dY Wg Wu Wd m ρ c hA))
  rw [last_gate, h]
  exact join_col _ _ _
omit hA in
theorem last_up : W7 m ρ c (Proc.devRef .tc main_v20)
    = shapeCast S1024x2048 (transpose S1024x4x512 [1, 0, 2] (W6 m ρ c (Proc.devRef .tc main_v13) : FVec Ideal S4x1024x512 .f32)
        transposes_S4x1024x512_S1024x4x512_1_0_2) shapeCasts_S1024x4x512_S1024x2048 := by
  unfold_abbrev_sides
  after_results
  rfl
theorem end_up : W7 m ρ c (Proc.devRef .tc main_v20) = (lift2 (φ := .f32) (resUp g g' H dY Wg Wu Wd) : FVec Ideal S1024x2048 .f32) := by
  have h : W6 m ρ c (Proc.devRef .tc main_v13)
      = (lift3 (φ := .f32) fun q i j => resUp g g' H dY Wg Wu Wd i (ch q j) : FVec Ideal S4x1024x512 .f32) :=
    (W6_of m ρ c main_v13 (by decide +kernel)).trans (wg_up g g' H dY Wg Wu Wd m ρ c hA)
  rw [last_up, h]
  exact join_col _ _ _

/-! ## The run -/

omit hA c

local notation "𝕄" => MT nD τ sig Unit (Elt Ideal) ℕ (UR sig nD τ) ℕ

/-- Every run ends with each lasting buffer at the contents the program's stages leave in it. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- The contents of the seven results and of the arguments at the end of a run. -/
theorem run_values : θ_run defs (onTc (τ := τ) (main (F := Ideal))) ⟨m, fun _ => 0, ρ⟩ (fun r => ∀ c : Dev nD,
      r.2.mem ((c.tc : Thread nD τ).loc main_v10_0) = W7 m ρ c (Proc.devRef .tc main_v10_0)
      ∧ r.2.mem ((c.tc : Thread nD τ).loc main_v11_0) = W7 m ρ c (Proc.devRef .tc main_v11_0)
      ∧ r.2.mem ((c.tc : Thread nD τ).loc main_v15) = W7 m ρ c (Proc.devRef .tc main_v15)
      ∧ r.2.mem ((c.tc : Thread nD τ).loc main_v16) = W7 m ρ c (Proc.devRef .tc main_v16)
      ∧ r.2.mem ((c.tc : Thread nD τ).loc main_v18) = W7 m ρ c (Proc.devRef .tc main_v18)
      ∧ r.2.mem ((c.tc : Thread nD τ).loc main_v20) = W7 m ρ c (Proc.devRef .tc main_v20)
      ∧ r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v10_0 (by decide)),
      h c _ (mem_uc main_v11_0 (by decide)),
      h c _ (mem_uc main_v15 (by decide)),
      h c _ (mem_uc main_v16 (by decide)),
      h c _ (mem_uc main_v18 (by decide)),
      h c _ (mem_uc main_v20 (by decide)),
      h c _ (mem_uc main_v14 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c)⟩) (run_all m ρ)

end Cert.FfnBlock
-- ==== Proof.ReferenceForward.lean ====
/- The reference's forward pass on real numbers: each of its operations in turn, up to the block's output. -/
module

public import proofs.«01_k».proof.Proof.Run
public import proofs.«01_k».proof.Proof.Gen.ReferenceIdeal.Read

@[expose] public section

set_option maxRecDepth 16384

noncomputable section

namespace Cert.FfnBlock

open Idealize.ShloMosaic Cert.ReferenceIdeal Cert.ReferenceIdeal.Gen Cert.ReferenceIdeal.Read

set_option backward.isDefEq.respectTransparency.types false

/-! ## The host's operations on real numbers -/

theorem ofBits_neg_half : (Ideal.ofBits .f32 0xBF000000#32 : EReal) = ((-1 / 2 : ℝ) : EReal) := by
  simp [Ideal.ofBits, Ideal.ieee, -EReal.coe_mul]; norm_num
theorem host_div {y : ℝ} (h : y ≠ 0) (x : ℝ) :
    (FloatOps.hostDivf (F := Ideal) (φ := .f32) ((x : ℝ) : EReal) ((y : ℝ) : EReal) : EReal) = ((x / y : ℝ) : EReal) := by
  show Ideal.div ((x : ℝ) : EReal) ((y : ℝ) : EReal) = _
  exact (Ideal.div_coe h _).trans (by rw [← EReal.coe_mul, mul_one_div])
theorem host_rsqrt {x : ℝ} (h : 0 < x) :
    (FloatOps.hostUnary (F := Ideal) (φ := .f32) .rsqrt ((x : ℝ) : EReal) : EReal) = (((√x)⁻¹ : ℝ) : EReal) := by
  show Ideal.rsqrt ((x : ℝ) : EReal) = _
  exact (Ideal.rsqrt_coe _).trans ((if_neg (not_lt.2 h.le)).trans (if_neg h.ne'))
/-- A sum starting from zero. -/
theorem host_sum {ι : Type} [Fintype ι] (x : ι → ℝ) :
    (Ideal.ofBits .f32 0x00000000#32 : EReal) + ∑ k, ((x k : ℝ) : EReal) = ((∑ k, x k : ℝ) : EReal) := by
  rw [ofBits_zero, coe_sum, ← EReal.coe_add, zero_add]
/-- A sum of one term. -/
theorem host_sum_one (x : ℝ) :
    (Ideal.ofBits .f32 0x00000000#32 : EReal) + ∑ _k : Fin 1, ((x : ℝ) : EReal) = ((x : ℝ) : EReal) := by
  rw [host_sum]; simp
/-- A scalar product. -/
theorem host_dot {ι : Type} [Fintype ι] (x y : ι → ℝ) :
    ∑ k, ((x k : ℝ) : EReal) * ((y k : ℝ) : EReal) = ((∑ k, x k * y k : ℝ) : EReal) := by
  simp only [← EReal.coe_mul]; exact coe_sum _
theorem cast_col (x : Fin 8192 → ℝ) (h) : shapeCast S8192x1 (lift1 (φ := .f32) x) h = lift2 fun i _ => x i := by
  funext i; pointwise [lift2, lift1]

variable {H dY : Fin 8192 → Fin 1024 → ℝ} {g g' : Fin 1024 → ℝ} {Wg Wu : Fin 1024 → Fin 2048 → ℝ} {Wd : Fin 2048 → Fin 1024 → ℝ}

/-- A matrix argument. -/
abbrev mat {n m : ℕ} (x : Fin n → Fin m → ℝ) : FVec Ideal ⟨2, ![n, m]⟩ .f32 := lift2 (φ := .f32) x
/-- A vector argument. -/
abbrev vec {n : ℕ} (x : Fin n → ℝ) : FVec Ideal ⟨1, ![n]⟩ .f32 := lift1 (φ := .f32) x

/-! ## One operation after another -/

theorem at_v0 : val_main_v0 (F := Ideal) (mat H) =
    lift2 (φ := .f32) fun r j => H r j * H r j := by
  funext i
  rw [val_main_v0_apply]
  exact (EReal.coe_mul _ _).symm
theorem at_v1 : val_main_v1 (F := Ideal) (mat H) =
    lift1 (φ := .f32) fun r => ∑ k, H r k * H r k := by
  funext i
  rw [val_main_v1_apply, val_main_cst_apply, at_v0]
  exact host_sum _
theorem at_v2 : val_main_v2 (F := Ideal) (mat H) =
    lift2 (φ := .f32) fun r _ => ∑ k, H r k * H r k := by
  funext i
  rw [val_main_v2_apply, at_v1]
  rfl
theorem at_v3 : val_main_v3 (F := Ideal) =
    lift2 (φ := .f32) fun _ _ => 1024 := by
  funext i
  rw [val_main_v3_apply, val_main_cst_0_apply]
  exact ofBits_width
theorem at_v4 : val_main_v4 (F := Ideal) (mat H) =
    lift2 (φ := .f32) fun r _ => (∑ k, H r k * H r k) / 1024 := by
  funext i
  rw [val_main_v4_apply, at_v2, at_v3]
  exact host_div (by norm_num) _
theorem at_v5 : val_main_v5 (F := Ideal) =
    lift2 (φ := .f32) fun _ _ => eps := by
  funext i
  rw [val_main_v5_apply, val_main_cst_1_apply]
  exact ofBits_eps
theorem at_v6 : val_main_v6 (F := Ideal) (mat H) =
    lift2 (φ := .f32) fun r _ => ms (H r) := by
  funext i
  rw [val_main_v6_apply, at_v4, at_v5]
  exact (EReal.coe_add _ _).symm
theorem at_v7 : val_main_v7 (F := Ideal) (mat H) =
    lift2 (φ := .f32) fun r _ => rs (H r) := by
  funext i
  rw [val_main_v7_apply, at_v6]
  exact host_rsqrt (ms_pos _)
theorem at_v8 : val_main_v8 (F := Ideal) (mat H) =
    lift2 (φ := .f32) fun r _ => rs (H r) / ms (H r) := by
  funext i
  rw [val_main_v8_apply, at_v7, at_v6]
  exact host_div (ms_pos _).ne' _
theorem at_v9 : val_main_v9 (F := Ideal) =
    lift2 (φ := .f32) fun _ _ => (-1 / 2) := by
  funext i
  rw [val_main_v9_apply, val_main_cst_2_apply]
  exact ofBits_neg_half
theorem at_v10 : val_main_v10 (F := Ideal) (mat H) =
    lift2 (φ := .f32) fun r _ => (-1 / 2) * (rs (H r) / ms (H r)) := by
  funext i
  rw [val_main_v10_apply, at_v9, at_v8]
  exact (EReal.coe_mul _ _).symm
theorem at_v11 : val_main_v11 (F := Ideal) (mat H) =
    lift2 (φ := .f32) fun r _ => rs (H r) := by
  funext i
  rw [val_main_v11_apply, at_v7]
  rfl
theorem at_v12 : val_main_v12 (F := Ideal) (mat H) =
    lift2 (φ := .f32) fun r j => hat (H r) j := by
  funext i
  rw [val_main_v12_apply, at_v11]
  exact (EReal.coe_mul _ _).symm
theorem at_v13 : val_main_v13 (F := Ideal) (vec g) =
    lift2 (φ := .f32) fun _ j => g j := by
  funext i
  rw [val_main_v13_apply]
  rfl
theorem at_v14 : val_main_v14 (F := Ideal) (vec g) =
    lift2 (φ := .f32) fun _ j => g j := by
  funext i
  rw [val_main_v14_apply, at_v13]
  rfl
theorem at_v15 : val_main_v15 (F := Ideal) (mat H) (vec g) =
    lift2 (φ := .f32) fun r j => normed g (H r) j := by
  funext i
  rw [val_main_v15_apply, at_v12, at_v14]
  exact (EReal.coe_mul _ _).symm
theorem at_v16 : val_main_v16 (F := Ideal) (mat H) (vec g) (mat Wg) =
    lift2 (φ := .f32) fun r j => rowA g H Wg r j := by
  funext i
  rw [val_main_v16_apply, at_v15]
  exact host_dot _ _
theorem at_call0_v0 : val_main_call0_v0 (F := Ideal) (mat H) (vec g) (mat Wg) =
    lift2 (φ := .f32) fun r j => -(rowA g H Wg r j) := by
  funext i
  rw [val_main_call0_v0_apply, at_v16]
  exact (EReal.coe_neg _).symm
theorem at_call0_v1 : val_main_call0_v1 (F := Ideal) (mat H) (vec g) (mat Wg) =
    lift2 (φ := .f32) fun r j => Real.exp (-(rowA g H Wg r j)) := by
  funext i
  rw [val_main_call0_v1_apply, at_call0_v0]
  rfl
theorem at_call0_v2 : val_main_call0_v2 (F := Ideal) =
    lift2 (φ := .f32) fun _ _ => 1 := by
  funext i
  rw [val_main_call0_v2_apply, val_main_call0_cst_apply]
  exact ofBits_one
theorem at_call0_v3 : val_main_call0_v3 (F := Ideal) (mat H) (vec g) (mat Wg) =
    lift2 (φ := .f32) fun r j => 1 + (Real.exp (-(rowA g H Wg r j))) := by
  funext i
  rw [val_main_call0_v3_apply, at_call0_v2, at_call0_v1]
  exact (EReal.coe_add _ _).symm
theorem at_call0_v4 : val_main_call0_v4 (F := Ideal) =
    lift2 (φ := .f32) fun _ _ => 1 := by
  funext i
  rw [val_main_call0_v4_apply, val_main_call0_cst_0_apply]
  exact ofBits_one
theorem at_v17_2 : val_main_v17_2 (F := Ideal) (mat H) (vec g) (mat Wg) =
    lift2 (φ := .f32) fun r j => logistic (rowA g H Wg r j) := by
  funext i
  rw [val_main_v17_2_apply, at_call0_v4, at_call0_v3]
  exact host_div (by positivity) _
theorem at_call0_v6 : val_main_call0_v6 (F := Ideal) =
    lift2 (φ := .f32) fun _ _ => 1 := by
  funext i
  rw [val_main_call0_v6_apply, val_main_call0_cst_1_apply]
  exact ofBits_one
theorem at_call0_v7 : val_main_call0_v7 (F := Ideal) (mat H) (vec g) (mat Wg) =
    lift2 (φ := .f32) fun r j => 1 - logistic (rowA g H Wg r j) := by
  funext i
  rw [val_main_call0_v7_apply, at_call0_v6, at_v17_2]
  exact (EReal.coe_sub _ _).symm
theorem at_v17_1 : val_main_v17_1 (F := Ideal) (mat H) (vec g) (mat Wg) =
    lift2 (φ := .f32) fun r j => logistic (rowA g H Wg r j) * (1 - logistic (rowA g H Wg r j)) := by
  funext i
  rw [val_main_v17_1_apply, at_v17_2, at_call0_v7]
  exact (EReal.coe_mul _ _).symm
theorem at_v17_0 : val_main_v17_0 (F := Ideal) (mat H) (vec g) (mat Wg) =
    lift2 (φ := .f32) fun r j => rowA g H Wg r j * logistic (rowA g H Wg r j) := by
  funext i
  rw [val_main_v17_0_apply, at_v16, at_v17_2]
  exact (EReal.coe_mul _ _).symm
theorem at_v18 : val_main_v18 (F := Ideal) (mat H) (vec g) (mat Wu) =
    lift2 (φ := .f32) fun r j => rowA g H Wu r j := by
  funext i
  rw [val_main_v18_apply, at_v15]
  exact host_dot _ _
theorem at_v19 : val_main_v19 (F := Ideal) (mat H) (vec g) (mat Wg) (mat Wu) =
    lift2 (φ := .f32) fun r j => gated (rowA g H Wg r) (rowA g H Wu r) j := by
  funext i
  rw [val_main_v19_apply, at_v17_0, at_v18]
  exact (EReal.coe_mul _ _).symm
theorem at_v20 : val_main_v20 (F := Ideal) (mat H) (vec g) (mat Wg) (mat Wu) (mat Wd) =
    lift2 (φ := .f32) fun r j => rowF g H Wg Wu Wd r j := by
  funext i
  rw [val_main_v20_apply, at_v19]
  exact host_dot _ _
theorem at_v21 : val_main_v21 (F := Ideal) (mat H) (vec g) (mat Wg) (mat Wu) (mat Wd) =
    lift2 (φ := .f32) fun r j => rowF g H Wg Wu Wd r j * rowF g H Wg Wu Wd r j := by
  funext i
  rw [val_main_v21_apply, at_v20]
  exact (EReal.coe_mul _ _).symm
theorem at_v22 : val_main_v22 (F := Ideal) (mat H) (vec g) (mat Wg) (mat Wu) (mat Wd) =
    lift1 (φ := .f32) fun r => ∑ k, rowF g H Wg Wu Wd r k * rowF g H Wg Wu Wd r k := by
  funext i
  rw [val_main_v22_apply, val_main_cst_3_apply, at_v21]
  exact host_sum _
theorem at_v23 : val_main_v23 (F := Ideal) (mat H) (vec g) (mat Wg) (mat Wu) (mat Wd) =
    lift2 (φ := .f32) fun r _ => ∑ k, rowF g H Wg Wu Wd r k * rowF g H Wg Wu Wd r k := by
  funext i
  rw [val_main_v23_apply, at_v22]
  rfl
theorem at_v24 : val_main_v24 (F := Ideal) =
    lift2 (φ := .f32) fun _ _ => 1024 := by
  funext i
  rw [val_main_v24_apply, val_main_cst_4_apply]
  exact ofBits_width
theorem at_v25 : val_main_v25 (F := Ideal) (mat H) (vec g) (mat Wg) (mat Wu) (mat Wd) =
    lift2 (φ := .f32) fun r _ => (∑ k, rowF g H Wg Wu Wd r k * rowF g H Wg Wu Wd r k) / 1024 := by
  funext i
  rw [val_main_v25_apply, at_v23, at_v24]
  exact host_div (by norm_num) _
theorem at_v26 : val_main_v26 (F := Ideal) =
    lift2 (φ := .f32) fun _ _ => eps := by
  funext i
  rw [val_main_v26_apply, val_main_cst_5_apply]
  exact ofBits_eps
theorem at_v27 : val_main_v27 (F := Ideal) (mat H) (vec g) (mat Wg) (mat Wu) (mat Wd) =
    lift2 (φ := .f32) fun r _ => ms (rowF g H Wg Wu Wd r) := by
  funext i
  rw [val_main_v27_apply, at_v25, at_v26]
  exact (EReal.coe_add _ _).symm
theorem at_v28 : val_main_v28 (F := Ideal) (mat H) (vec g) (mat Wg) (mat Wu) (mat Wd) =
    lift2 (φ := .f32) fun r _ => rs (rowF g H Wg Wu Wd r) := by
  funext i
  rw [val_main_v28_apply, at_v27]
  exact host_rsqrt (ms_pos _)
theorem at_v29 : val_main_v29 (F := Ideal) (mat H) (vec g) (mat Wg) (mat Wu) (mat Wd) =
    lift2 (φ := .f32) fun r _ => rs (rowF g H Wg Wu Wd r) / ms (rowF g H Wg Wu Wd r) := by
  funext i
  rw [val_main_v29_apply, at_v28, at_v27]
  exact host_div (ms_pos _).ne' _
theorem at_v30 : val_main_v30 (F := Ideal) =
    lift2 (φ := .f32) fun _ _ => (-1 / 2) := by
  funext i
  rw [val_main_v30_apply, val_main_cst_6_apply]
  exact ofBits_neg_half
theorem at_v31 : val_main_v31 (F := Ideal) (mat H) (vec g) (mat Wg) (mat Wu) (mat Wd) =
    lift2 (φ := .f32) fun r _ => (-1 / 2) * (rs (rowF g H Wg Wu Wd r) / ms (rowF g H Wg Wu Wd r)) := by
  funext i
  rw [val_main_v31_apply, at_v30, at_v29]
  exact (EReal.coe_mul _ _).symm
theorem at_v32 : val_main_v32 (F := Ideal) (mat H) (vec g) (mat Wg) (mat Wu) (mat Wd) =
    lift2 (φ := .f32) fun r _ => rs (rowF g H Wg Wu Wd r) := by
  funext i
  rw [val_main_v32_apply, at_v28]
  rfl
theorem at_v33 : val_main_v33 (F := Ideal) (mat H) (vec g) (mat Wg) (mat Wu) (mat Wd) =
    lift2 (φ := .f32) fun r j => hat (rowF g H Wg Wu Wd r) j := by
  funext i
  rw [val_main_v33_apply, at_v20, at_v32]
  exact (EReal.coe_mul _ _).symm
theorem at_v34 : val_main_v34 (F := Ideal) (vec g') =
    lift2 (φ := .f32) fun _ j => g' j := by
  funext i
  rw [val_main_v34_apply]
  rfl
theorem at_v35 : val_main_v35 (F := Ideal) (vec g') =
    lift2 (φ := .f32) fun _ j => g' j := by
  funext i
  rw [val_main_v35_apply, at_v34]
  rfl
theorem at_v36 : val_main_v36 (F := Ideal) (mat H) (vec g) (vec g') (mat Wg) (mat Wu) (mat Wd) =
    lift2 (φ := .f32) fun r j => normed g' (rowF g H Wg Wu Wd r) j := by
  funext i
  rw [val_main_v36_apply, at_v33, at_v35]
  exact (EReal.coe_mul _ _).symm
theorem at_v37 : val_main_v37 (F := Ideal) =
    lift2 (φ := .f32) fun _ _ => (1 / 2) := by
  funext i
  rw [val_main_v37_apply, val_main_cst_7_apply]
  exact ofBits_half
theorem at_v38 : val_main_v38 (F := Ideal) (mat H) (vec g) (vec g') (mat Wg) (mat Wu) (mat Wd) =
    lift2 (φ := .f32) fun r j => (1 / 2) * normed g' (rowF g H Wg Wu Wd r) j := by
  funext i
  rw [val_main_v38_apply, at_v37, at_v36]
  exact (EReal.coe_mul _ _).symm
theorem at_v39 : val_main_v39 (F := Ideal) (mat H) (vec g) (vec g') (mat Wg) (mat Wu) (mat Wd) =
    lift2 (φ := .f32) fun r j => resOut g g' H Wg Wu Wd r j := by
  funext i
  rw [val_main_v39_apply, at_v38]
  exact (EReal.coe_add _ _).symm

end Cert.FfnBlock
-- ==== Proof.ReferenceBackward.lean ====
/- The reference's gradients on real numbers: each operation of the differentiated program in turn, and the two steps of
   calculus by which the norm's and the gate's derivatives take the closed form. -/
module

public import proofs.«01_k».proof.Proof.ReferenceForward

@[expose] public section

set_option maxRecDepth 16384

noncomputable section

namespace Cert.FfnBlock

open Idealize.ShloMosaic Cert.ReferenceIdeal Cert.ReferenceIdeal.Gen Cert.ReferenceIdeal.Read

set_option backward.isDefEq.respectTransparency.types false

/-! ## The derivative of the norm, as the chain of its operations gives it -/

/-- The reciprocal root over the mean of squares is the cube of the reciprocal root. -/
theorem rs_div_ms (x : Fin 1024 → ℝ) : rs x / ms x = rs x * rs x * rs x := by
  have h : ms x = √(ms x) * √(ms x) := (Real.mul_self_sqrt (ms_pos x).le).symm
  have hp : √(ms x) ≠ 0 := (Real.sqrt_pos.2 (ms_pos x)).ne'
  unfold rs
  rw [div_eq_iff (ms_pos x).ne']
  nth_rewrite 5 [h]
  field_simp
/-- The gradient of the unit-mean-square map: the direct part and the two halves of the square's derivative. -/
theorem rms_back (t x : Fin 1024 → ℝ) (j : Fin 1024) :
    t j * rs x + x j * ((∑ k, x k * t k) * (-1 / 2 * (rs x / ms x)) / 1024)
      + (∑ k, x k * t k) * (-1 / 2 * (rs x / ms x)) / 1024 * x j = hatBack x t j := by
  have e : ∑ k, t k * hat x k = rs x * ∑ k, x k * t k := by
    rw [Finset.mul_sum]; exact Finset.sum_congr rfl fun k _ => by unfold hat; ring
  unfold hatBack
  rw [e, rs_div_ms]; unfold hat; ring
theorem in_back (g x dy dn : Fin 1024 → ℝ) (j : Fin 1024) :
    dy j + dn j * g j * rs x + x j * ((∑ k, x k * (dn k * g k)) * (-1 / 2 * (rs x / ms x)) / 1024)
      + (∑ k, x k * (dn k * g k)) * (-1 / 2 * (rs x / ms x)) / 1024 * x j = inBack g x dy dn j := by
  unfold inBack; rw [← rms_back]; ring
/-- The derivative of the gate, as the chain of its operations gives it. -/
theorem gate_back (s a b : ℝ) :
    s * b * logistic a + a * (s * b) * (logistic a * (1 - logistic a)) = s * b * (logistic a * (1 + a * (1 - logistic a))) := by
  ring

variable {H dY : Fin 8192 → Fin 1024 → ℝ} {g g' : Fin 1024 → ℝ} {Wg Wu : Fin 1024 → Fin 2048 → ℝ} {Wd : Fin 2048 → Fin 1024 → ℝ}

/-! ## One operation after another -/

theorem at_v40 : val_main_v40 (F := Ideal) (mat dY) =
    lift2 (φ := .f32) fun r j => dY r j := by
  funext i
  unfold val_main_v40
  exact congrFun (cast_same dY _) i
theorem at_v41 : val_main_v41 (F := Ideal) =
    lift2 (φ := .f32) fun _ _ => (1 / 2) := by
  funext i
  rw [val_main_v41_apply, val_main_cst_8_apply]
  exact ofBits_half
theorem at_v42 : val_main_v42 (F := Ideal) (mat dY) =
    lift2 (φ := .f32) fun r j => 1 / 2 * dY r j := by
  funext i
  rw [val_main_v42_apply, at_v41, at_v40]
  exact (EReal.coe_mul _ _).symm
theorem at_v43 : val_main_v43 (F := Ideal) (mat H) (mat dY) (vec g) (mat Wg) (mat Wu) (mat Wd) =
    lift2 (φ := .f32) fun r j => hat (rowF g H Wg Wu Wd r) j * (1 / 2 * dY r j) := by
  funext i
  rw [val_main_v43_apply, at_v33, at_v42]
  exact (EReal.coe_mul _ _).symm
theorem at_v44 : val_main_v44 (F := Ideal) (mat H) (mat dY) (vec g) (mat Wg) (mat Wu) (mat Wd) =
    lift1 (φ := .f32) fun r => ∑ k, hat (rowF g H Wg Wu Wd k) r * (1 / 2 * dY k r) := by
  funext i
  rw [val_main_v44_apply, val_main_cst_9_apply, at_v43]
  exact host_sum _
theorem at_v45 : val_main_v45 (F := Ideal) (mat H) (mat dY) (vec g) (mat Wg) (mat Wu) (mat Wd) =
    lift2 (φ := .f32) fun _ j => ∑ k, hat (rowF g H Wg Wu Wd k) j * (1 / 2 * dY k j) := by
  funext i
  unfold val_main_v45
  rw [at_v44]
  exact congrFun (cast_row _ _) i
theorem at_v46 : val_main_v46 (F := Ideal) (vec g') =
    lift2 (φ := .f32) fun _ j => g' j := by
  funext i
  rw [val_main_v46_apply, at_v34]
  rfl
theorem at_v47 : val_main_v47 (F := Ideal) (mat dY) (vec g') =
    lift2 (φ := .f32) fun r j => (1 / 2 * dY r j) * g' j := by
  funext i
  rw [val_main_v47_apply, at_v42, at_v46]
  exact (EReal.coe_mul _ _).symm
theorem at_v48 : val_main_v48 (F := Ideal) (mat H) (mat dY) (vec g) (mat Wg) (mat Wu) (mat Wd) =
    lift1 (φ := .f32) fun r => resGain' g H dY Wg Wu Wd r := by
  funext i
  rw [val_main_v48_apply, val_main_cst_10_apply, at_v45]
  exact (host_sum_one _).trans (congrArg Real.toEReal (Finset.sum_congr rfl fun _ _ => mul_comm _ _))
theorem at_v49 : val_main_v49 (F := Ideal) (mat H) (mat dY) (vec g) (vec g') (mat Wg) (mat Wu) (mat Wd) =
    lift2 (φ := .f32) fun r j => rowF g H Wg Wu Wd r j * ((1 / 2 * dY r j) * g' j) := by
  funext i
  rw [val_main_v49_apply, at_v20, at_v47]
  exact (EReal.coe_mul _ _).symm
theorem at_v50 : val_main_v50 (F := Ideal) (mat H) (mat dY) (vec g) (vec g') (mat Wg) (mat Wu) (mat Wd) =
    lift1 (φ := .f32) fun r => ∑ k, rowF g H Wg Wu Wd r k * ((1 / 2 * dY r k) * g' k) := by
  funext i
  rw [val_main_v50_apply, val_main_cst_11_apply, at_v49]
  exact host_sum _
theorem at_v51 : val_main_v51 (F := Ideal) (mat H) (mat dY) (vec g) (vec g') (mat Wg) (mat Wu) (mat Wd) =
    lift2 (φ := .f32) fun r _ => ∑ k, rowF g H Wg Wu Wd r k * ((1 / 2 * dY r k) * g' k) := by
  funext i
  unfold val_main_v51
  rw [at_v50]
  exact congrFun (cast_col _ _) i
theorem at_v52 : val_main_v52 (F := Ideal) (mat H) (vec g) (mat Wg) (mat Wu) (mat Wd) =
    lift2 (φ := .f32) fun r _ => rs (rowF g H Wg Wu Wd r) := by
  funext i
  rw [val_main_v52_apply, at_v28]
  rfl
theorem at_v53 : val_main_v53 (F := Ideal) (mat H) (mat dY) (vec g) (vec g') (mat Wg) (mat Wu) (mat Wd) =
    lift2 (φ := .f32) fun r j => ((1 / 2 * dY r j) * g' j) * rs (rowF g H Wg Wu Wd r) := by
  funext i
  rw [val_main_v53_apply, at_v47, at_v52]
  exact (EReal.coe_mul _ _).symm
theorem at_v54 : val_main_v54 (F := Ideal) (mat H) (mat dY) (vec g) (vec g') (mat Wg) (mat Wu) (mat Wd) =
    lift2 (φ := .f32) fun r _ => (∑ k, rowF g H Wg Wu Wd r k * ((1 / 2 * dY r k) * g' k)) * ((-1 / 2) * (rs (rowF g H Wg Wu Wd r) / ms (rowF g H Wg Wu Wd r))) := by
  funext i
  rw [val_main_v54_apply, at_v51, at_v31]
  exact (EReal.coe_mul _ _).symm
theorem at_v55 : val_main_v55 (F := Ideal) =
    lift2 (φ := .f32) fun _ _ => 1024 := by
  funext i
  rw [val_main_v55_apply, val_main_cst_12_apply]
  exact ofBits_width
theorem at_v56 : val_main_v56 (F := Ideal) (mat H) (mat dY) (vec g) (vec g') (mat Wg) (mat Wu) (mat Wd) =
    lift2 (φ := .f32) fun r _ => ((∑ k, rowF g H Wg Wu Wd r k * ((1 / 2 * dY r k) * g' k)) * ((-1 / 2) * (rs (rowF g H Wg Wu Wd r) / ms (rowF g H Wg Wu Wd r)))) / 1024 := by
  funext i
  rw [val_main_v56_apply, at_v54, at_v55]
  exact host_div (by norm_num) _
theorem at_v57 : val_main_v57 (F := Ideal) (mat H) (mat dY) (vec g) (vec g') (mat Wg) (mat Wu) (mat Wd) =
    lift1 (φ := .f32) fun r => ((∑ k, rowF g H Wg Wu Wd r k * ((1 / 2 * dY r k) * g' k)) * ((-1 / 2) * (rs (rowF g H Wg Wu Wd r) / ms (rowF g H Wg Wu Wd r)))) / 1024 := by
  funext i
  rw [val_main_v57_apply, val_main_cst_13_apply, at_v56]
  exact host_sum_one _
theorem at_v58 : val_main_v58 (F := Ideal) (mat H) (mat dY) (vec g) (vec g') (mat Wg) (mat Wu) (mat Wd) =
    lift2 (φ := .f32) fun r _ => ((∑ k, rowF g H Wg Wu Wd r k * ((1 / 2 * dY r k) * g' k)) * ((-1 / 2) * (rs (rowF g H Wg Wu Wd r) / ms (rowF g H Wg Wu Wd r)))) / 1024 := by
  funext i
  rw [val_main_v58_apply, at_v57]
  rfl
theorem at_v59 : val_main_v59 (F := Ideal) (mat H) (mat dY) (vec g) (vec g') (mat Wg) (mat Wu) (mat Wd) =
    lift2 (φ := .f32) fun r j => rowF g H Wg Wu Wd r j * (((∑ k, rowF g H Wg Wu Wd r k * ((1 / 2 * dY r k) * g' k)) * ((-1 / 2) * (rs (rowF g H Wg Wu Wd r) / ms (rowF g H Wg Wu Wd r)))) / 1024) := by
  funext i
  rw [val_main_v59_apply, at_v20, at_v58]
  exact (EReal.coe_mul _ _).symm
theorem at_v60 : val_main_v60 (F := Ideal) (mat H) (mat dY) (vec g) (vec g') (mat Wg) (mat Wu) (mat Wd) =
    lift2 (φ := .f32) fun r j => (((1 / 2 * dY r j) * g' j) * rs (rowF g H Wg Wu Wd r)) + (rowF g H Wg Wu Wd r j * (((∑ k, rowF g H Wg Wu Wd r k * ((1 / 2 * dY r k) * g' k)) * ((-1 / 2) * (rs (rowF g H Wg Wu Wd r) / ms (rowF g H Wg Wu Wd r)))) / 1024)) := by
  funext i
  rw [val_main_v60_apply, at_v53, at_v59]
  exact (EReal.coe_add _ _).symm
theorem at_v61 : val_main_v61 (F := Ideal) (mat H) (mat dY) (vec g) (vec g') (mat Wg) (mat Wu) (mat Wd) =
    lift2 (φ := .f32) fun r j => (((∑ k, rowF g H Wg Wu Wd r k * ((1 / 2 * dY r k) * g' k)) * ((-1 / 2) * (rs (rowF g H Wg Wu Wd r) / ms (rowF g H Wg Wu Wd r)))) / 1024) * rowF g H Wg Wu Wd r j := by
  funext i
  rw [val_main_v61_apply, at_v58, at_v20]
  exact (EReal.coe_mul _ _).symm
theorem at_v62 : val_main_v62 (F := Ideal) (mat H) (mat dY) (vec g) (vec g') (mat Wg) (mat Wu) (mat Wd) =
    lift2 (φ := .f32) fun r j => outBack g' (rowF g H Wg Wu Wd r) (dY r) j := by
  funext i
  rw [val_main_v62_apply, at_v60, at_v61]
  exact ((EReal.coe_add _ _).symm).trans (congrArg Real.toEReal (rms_back (fun j => 1 / 2 * dY (i 0) j * g' j) _ (i 1)))
theorem at_v63 : val_main_v63 (F := Ideal) (mat H) (mat dY) (vec g) (vec g') (mat Wg) (mat Wu) (mat Wd) =
    lift2 (φ := .f32) fun r j => ∑ k, outBack g' (rowF g H Wg Wu Wd k) (dY k) r * gated (rowA g H Wg k) (rowA g H Wu k) j := by
  funext i
  rw [val_main_v63_apply, at_v62, at_v19]
  exact host_dot _ _
theorem at_v64 : val_main_v64 (F := Ideal) (mat H) (mat dY) (vec g) (vec g') (mat Wg) (mat Wu) (mat Wd) =
    lift2 (φ := .f32) fun r j => resDown g g' H dY Wg Wu Wd r j := by
  funext i
  rw [val_main_v64_apply, at_v63]
  exact congrArg Real.toEReal (Finset.sum_congr rfl fun _ _ => mul_comm _ _)
theorem at_v65 : val_main_v65 (F := Ideal) (mat H) (mat dY) (vec g) (vec g') (mat Wg) (mat Wu) (mat Wd) =
    lift2 (φ := .f32) fun r j => hidBack g' Wd (rowF g H Wg Wu Wd r) (dY r) j := by
  funext i
  rw [val_main_v65_apply, at_v62]
  exact host_dot _ _
theorem at_v66 : val_main_v66 (F := Ideal) (mat H) (mat dY) (vec g) (vec g') (mat Wg) (mat Wu) (mat Wd) =
    lift2 (φ := .f32) fun r j => dUp g' Wd (rowA g H Wg r) (rowF g H Wg Wu Wd r) (dY r) j := by
  funext i
  rw [val_main_v66_apply, at_v17_0, at_v65]
  exact ((EReal.coe_mul _ _).symm).trans (congrArg Real.toEReal (mul_comm _ _))
theorem at_v67 : val_main_v67 (F := Ideal) (mat H) (mat dY) (vec g) (vec g') (mat Wg) (mat Wu) (mat Wd) =
    lift2 (φ := .f32) fun r j => hidBack g' Wd (rowF g H Wg Wu Wd r) (dY r) j * rowA g H Wu r j := by
  funext i
  rw [val_main_v67_apply, at_v65, at_v18]
  exact (EReal.coe_mul _ _).symm
theorem at_v68 : val_main_v68 (F := Ideal) (mat H) (mat dY) (vec g) (vec g') (mat Wg) (mat Wu) (mat Wd) =
    lift2 (φ := .f32) fun r j => ∑ k, dUp g' Wd (rowA g H Wg k) (rowF g H Wg Wu Wd k) (dY k) r * normed g (H k) j := by
  funext i
  rw [val_main_v68_apply, at_v66, at_v15]
  exact host_dot _ _
theorem at_v69 : val_main_v69 (F := Ideal) (mat H) (mat dY) (vec g) (vec g') (mat Wg) (mat Wu) (mat Wd) =
    lift2 (φ := .f32) fun r j => resUp g g' H dY Wg Wu Wd r j := by
  funext i
  rw [val_main_v69_apply, at_v68]
  exact congrArg Real.toEReal (Finset.sum_congr rfl fun _ _ => mul_comm _ _)
theorem at_v70 : val_main_v70 (F := Ideal) (mat H) (mat dY) (vec g) (vec g') (mat Wg) (mat Wu) (mat Wd) =
    lift2 (φ := .f32) fun r j => ∑ k, dUp g' Wd (rowA g H Wg r) (rowF g H Wg Wu Wd r) (dY r) k * Wu j k := by
  funext i
  rw [val_main_v70_apply, at_v66]
  exact host_dot _ _
theorem at_call1_v0 : val_main_call1_v0 (F := Ideal) (mat H) (mat dY) (vec g) (vec g') (mat Wg) (mat Wu) (mat Wd) =
    lift2 (φ := .f32) fun r j => rowA g H Wg r j * (hidBack g' Wd (rowF g H Wg Wu Wd r) (dY r) j * rowA g H Wu r j) := by
  funext i
  rw [val_main_call1_v0_apply, at_v16, at_v67]
  exact (EReal.coe_mul _ _).symm
theorem at_call1_v1 : val_main_call1_v1 (F := Ideal) (mat H) (mat dY) (vec g) (vec g') (mat Wg) (mat Wu) (mat Wd) =
    lift2 (φ := .f32) fun r j => (hidBack g' Wd (rowF g H Wg Wu Wd r) (dY r) j * rowA g H Wu r j) * logistic (rowA g H Wg r j) := by
  funext i
  rw [val_main_call1_v1_apply, at_v67, at_v17_2]
  exact (EReal.coe_mul _ _).symm
theorem at_call1_v2 : val_main_call1_v2 (F := Ideal) (mat H) (mat dY) (vec g) (vec g') (mat Wg) (mat Wu) (mat Wd) =
    lift2 (φ := .f32) fun r j => (rowA g H Wg r j * (hidBack g' Wd (rowF g H Wg Wu Wd r) (dY r) j * rowA g H Wu r j)) * (logistic (rowA g H Wg r j) * (1 - logistic (rowA g H Wg r j))) := by
  funext i
  rw [val_main_call1_v2_apply, at_call1_v0, at_v17_1]
  exact (EReal.coe_mul _ _).symm
theorem at_v71 : val_main_v71 (F := Ideal) (mat H) (mat dY) (vec g) (vec g') (mat Wg) (mat Wu) (mat Wd) =
    lift2 (φ := .f32) fun r j => dGate g' Wd (rowA g H Wg r) (rowA g H Wu r) (rowF g H Wg Wu Wd r) (dY r) j := by
  funext i
  rw [val_main_v71_apply, at_call1_v1, at_call1_v2]
  exact ((EReal.coe_add _ _).symm).trans (congrArg Real.toEReal (gate_back _ _ _))
theorem at_v72 : val_main_v72 (F := Ideal) (mat H) (mat dY) (vec g) (vec g') (mat Wg) (mat Wu) (mat Wd) =
    lift2 (φ := .f32) fun r j => ∑ k, dGate g' Wd (rowA g H Wg k) (rowA g H Wu k) (rowF g H Wg Wu Wd k) (dY k) r * normed g (H k) j := by
  funext i
  rw [val_main_v72_apply, at_v71, at_v15]
  exact host_dot _ _
theorem at_v73 : val_main_v73 (F := Ideal) (mat H) (mat dY) (vec g) (vec g') (mat Wg) (mat Wu) (mat Wd) =
    lift2 (φ := .f32) fun r j => resGate g g' H dY Wg Wu Wd r j := by
  funext i
  rw [val_main_v73_apply, at_v72]
  exact congrArg Real.toEReal (Finset.sum_congr rfl fun _ _ => mul_comm _ _)
theorem at_v74 : val_main_v74 (F := Ideal) (mat H) (mat dY) (vec g) (vec g') (mat Wg) (mat Wu) (mat Wd) =
    lift2 (φ := .f32) fun r j => ∑ k, dGate g' Wd (rowA g H Wg r) (rowA g H Wu r) (rowF g H Wg Wu Wd r) (dY r) k * Wg j k := by
  funext i
  rw [val_main_v74_apply, at_v71]
  exact host_dot _ _
theorem at_v75 : val_main_v75 (F := Ideal) (mat H) (mat dY) (vec g) (vec g') (mat Wg) (mat Wu) (mat Wd) =
    lift2 (φ := .f32) fun r j => resNorm g g' H dY Wg Wu Wd r j := by
  funext i
  rw [val_main_v75_apply, at_v70, at_v74]
  exact ((EReal.coe_add _ _).symm).trans (congrArg Real.toEReal (add_comm _ _))
theorem at_v76 : val_main_v76 (F := Ideal) (mat H) (mat dY) (vec g) (vec g') (mat Wg) (mat Wu) (mat Wd) =
    lift2 (φ := .f32) fun r j => hat (H r) j * resNorm g g' H dY Wg Wu Wd r j := by
  funext i
  rw [val_main_v76_apply, at_v12, at_v75]
  exact (EReal.coe_mul _ _).symm
theorem at_v77 : val_main_v77 (F := Ideal) (mat H) (mat dY) (vec g) (vec g') (mat Wg) (mat Wu) (mat Wd) =
    lift1 (φ := .f32) fun r => ∑ k, hat (H k) r * resNorm g g' H dY Wg Wu Wd k r := by
  funext i
  rw [val_main_v77_apply, val_main_cst_14_apply, at_v76]
  exact host_sum _
theorem at_v78 : val_main_v78 (F := Ideal) (mat H) (mat dY) (vec g) (vec g') (mat Wg) (mat Wu) (mat Wd) =
    lift2 (φ := .f32) fun _ j => ∑ k, hat (H k) j * resNorm g g' H dY Wg Wu Wd k j := by
  funext i
  unfold val_main_v78
  rw [at_v77]
  exact congrFun (cast_row _ _) i
theorem at_v79 : val_main_v79 (F := Ideal) (vec g) =
    lift2 (φ := .f32) fun _ j => g j := by
  funext i
  rw [val_main_v79_apply, at_v13]
  rfl
theorem at_v80 : val_main_v80 (F := Ideal) (mat H) (mat dY) (vec g) (vec g') (mat Wg) (mat Wu) (mat Wd) =
    lift2 (φ := .f32) fun r j => resNorm g g' H dY Wg Wu Wd r j * g j := by
  funext i
  rw [val_main_v80_apply, at_v75, at_v79]
  exact (EReal.coe_mul _ _).symm
theorem at_v81 : val_main_v81 (F := Ideal) (mat H) (mat dY) (vec g) (vec g') (mat Wg) (mat Wu) (mat Wd) =
    lift1 (φ := .f32) fun r => resGain g g' H dY Wg Wu Wd r := by
  funext i
  rw [val_main_v81_apply, val_main_cst_15_apply, at_v78]
  exact (host_sum_one _).trans (congrArg Real.toEReal (Finset.sum_congr rfl fun _ _ => mul_comm _ _))
theorem at_v82 : val_main_v82 (F := Ideal) (mat H) (mat dY) (vec g) (vec g') (mat Wg) (mat Wu) (mat Wd) =
    lift2 (φ := .f32) fun r j => H r j * (resNorm g g' H dY Wg Wu Wd r j * g j) := by
  funext i
  rw [val_main_v82_apply, at_v80]
  exact (EReal.coe_mul _ _).symm
theorem at_v83 : val_main_v83 (F := Ideal) (mat H) (mat dY) (vec g) (vec g') (mat Wg) (mat Wu) (mat Wd) =
    lift1 (φ := .f32) fun r => ∑ k, H r k * (resNorm g g' H dY Wg Wu Wd r k * g k) := by
  funext i
  rw [val_main_v83_apply, val_main_cst_16_apply, at_v82]
  exact host_sum _
theorem at_v84 : val_main_v84 (F := Ideal) (mat H) (mat dY) (vec g) (vec g') (mat Wg) (mat Wu) (mat Wd) =
    lift2 (φ := .f32) fun r _ => ∑ k, H r k * (resNorm g g' H dY Wg Wu Wd r k * g k) := by
  funext i
  unfold val_main_v84
  rw [at_v83]
  exact congrFun (cast_col _ _) i
theorem at_v85 : val_main_v85 (F := Ideal) (mat H) =
    lift2 (φ := .f32) fun r _ => rs (H r) := by
  funext i
  rw [val_main_v85_apply, at_v7]
  rfl
theorem at_v86 : val_main_v86 (F := Ideal) (mat H) (mat dY) (vec g) (vec g') (mat Wg) (mat Wu) (mat Wd) =
    lift2 (φ := .f32) fun r j => (resNorm g g' H dY Wg Wu Wd r j * g j) * rs (H r) := by
  funext i
  rw [val_main_v86_apply, at_v80, at_v85]
  exact (EReal.coe_mul _ _).symm
theorem at_v87 : val_main_v87 (F := Ideal) (mat H) (mat dY) (vec g) (vec g') (mat Wg) (mat Wu) (mat Wd) =
    lift2 (φ := .f32) fun r j => dY r j + ((resNorm g g' H dY Wg Wu Wd r j * g j) * rs (H r)) := by
  funext i
  rw [val_main_v87_apply, at_v86]
  exact (EReal.coe_add _ _).symm
theorem at_v88 : val_main_v88 (F := Ideal) (mat H) (mat dY) (vec g) (vec g') (mat Wg) (mat Wu) (mat Wd) =
    lift2 (φ := .f32) fun r _ => (∑ k, H r k * (resNorm g g' H dY Wg Wu Wd r k * g k)) * ((-1 / 2) * (rs (H r) / ms (H r))) := by
  funext i
  rw [val_main_v88_apply, at_v84, at_v10]
  exact (EReal.coe_mul _ _).symm
theorem at_v89 : val_main_v89 (F := Ideal) =
    lift2 (φ := .f32) fun _ _ => 1024 := by
  funext i
  rw [val_main_v89_apply, val_main_cst_17_apply]
  exact ofBits_width
theorem at_v90 : val_main_v90 (F := Ideal) (mat H) (mat dY) (vec g) (vec g') (mat Wg) (mat Wu) (mat Wd) =
    lift2 (φ := .f32) fun r _ => ((∑ k, H r k * (resNorm g g' H dY Wg Wu Wd r k * g k)) * ((-1 / 2) * (rs (H r) / ms (H r)))) / 1024 := by
  funext i
  rw [val_main_v90_apply, at_v88, at_v89]
  exact host_div (by norm_num) _
theorem at_v91 : val_main_v91 (F := Ideal) (mat H) (mat dY) (vec g) (vec g') (mat Wg) (mat Wu) (mat Wd) =
    lift1 (φ := .f32) fun r => ((∑ k, H r k * (resNorm g g' H dY Wg Wu Wd r k * g k)) * ((-1 / 2) * (rs (H r) / ms (H r)))) / 1024 := by
  funext i
  rw [val_main_v91_apply, val_main_cst_18_apply, at_v90]
  exact host_sum_one _
theorem at_v92 : val_main_v92 (F := Ideal) (mat H) (mat dY) (vec g) (vec g') (mat Wg) (mat Wu) (mat Wd) =
    lift2 (φ := .f32) fun r _ => ((∑ k, H r k * (resNorm g g' H dY Wg Wu Wd r k * g k)) * ((-1 / 2) * (rs (H r) / ms (H r)))) / 1024 := by
  funext i
  rw [val_main_v92_apply, at_v91]
  rfl
theorem at_v93 : val_main_v93 (F := Ideal) (mat H) (mat dY) (vec g) (vec g') (mat Wg) (mat Wu) (mat Wd) =
    lift2 (φ := .f32) fun r j => H r j * (((∑ k, H r k * (resNorm g g' H dY Wg Wu Wd r k * g k)) * ((-1 / 2) * (rs (H r) / ms (H r)))) / 1024) := by
  funext i
  rw [val_main_v93_apply, at_v92]
  exact (EReal.coe_mul _ _).symm
theorem at_v94 : val_main_v94 (F := Ideal) (mat H) (mat dY) (vec g) (vec g') (mat Wg) (mat Wu) (mat Wd) =
    lift2 (φ := .f32) fun r j => (dY r j + ((resNorm g g' H dY Wg Wu Wd r j * g j) * rs (H r))) + (H r j * (((∑ k, H r k * (resNorm g g' H dY Wg Wu Wd r k * g k)) * ((-1 / 2) * (rs (H r) / ms (H r)))) / 1024)) := by
  funext i
  rw [val_main_v94_apply, at_v87, at_v93]
  exact (EReal.coe_add _ _).symm
theorem at_v95 : val_main_v95 (F := Ideal) (mat H) (mat dY) (vec g) (vec g') (mat Wg) (mat Wu) (mat Wd) =
    lift2 (φ := .f32) fun r j => (((∑ k, H r k * (resNorm g g' H dY Wg Wu Wd r k * g k)) * ((-1 / 2) * (rs (H r) / ms (H r)))) / 1024) * H r j := by
  funext i
  rw [val_main_v95_apply, at_v92]
  exact (EReal.coe_mul _ _).symm
theorem at_v96 : val_main_v96 (F := Ideal) (mat H) (mat dY) (vec g) (vec g') (mat Wg) (mat Wu) (mat Wd) =
    lift2 (φ := .f32) fun r j => resIn g g' H dY Wg Wu Wd r j := by
  funext i
  rw [val_main_v96_apply, at_v94, at_v95]
  exact ((EReal.coe_add _ _).symm).trans (congrArg Real.toEReal (in_back _ _ _ _ (i 1)))

end Cert.FfnBlock
-- ==== Proof.Finite.lean ====
/- The precondition read: arguments whose magnitudes all lie below infinity hold real numbers. -/
module

public import proofs.«01_k».proof.Defs
public import proofs.«01_k».proof.Proof.Run
public import proofs.«01_k».proof.Proof.Gen.Pre_finite

@[expose] public section

set_option maxRecDepth 16384

noncomputable section

namespace Cert.FfnBlock

open Idealize.ShloMosaic Idealize.ShloMosaic.TcCoe Idealize.SL.Sem

set_option backward.isDefEq.respectTransparency.types false

theorem ofBits_top : (Ideal.ofBits .f32 0x7F800000#32 : EReal) = ⊤ := by
  simp [Ideal.ofBits, Ideal.ieee]
/-- An extended real of magnitude below infinity is a real number. -/
theorem real_of_abs_lt (a : EReal) (h : Ideal.cmp .olt (max a (-a)) ⊤ = 1#1) : a = ((a.toReal : ℝ) : EReal) := by
  have h' : max a (-a) < ⊤ := by
    by_contra hn
    simp [Ideal.cmp, hn] at h
  have ht : a ≠ ⊤ := fun e => by simp [e] at h'
  have hb : a ≠ ⊥ := fun e => by simp [e] at h'
  exact (EReal.coe_toReal ht hb).symm
/-- The precondition's test of one array. -/
theorem real_at {s : Shape} (x : FVec Ideal s .f32) (hb)
    (h : cmpf .olt (Host.absf x) (broadcastInDim s ![] hb (constant Cert.Pre_finite.S_ .f32 0x7F800000#32)) = fun _ => 1#1)
    (i : s.Idx) : x i = ((EReal.toReal (x i) : ℝ) : EReal) := by
  have e : Ideal.cmp .olt (max (x i) (-(x i))) (Ideal.ofBits .f32 0x7F800000#32) = 1#1 := congrFun h i
  rw [ofBits_top] at e
  exact real_of_abs_lt _ e
/-- A vector that passes the test is an array of real numbers. -/
theorem lift1_of {n : ℕ} (x : FVec Ideal ⟨1, ![n]⟩ .f32) (hb)
    (h : cmpf .olt (Host.absf x) (broadcastInDim _ ![] hb (constant Cert.Pre_finite.S_ .f32 0x7F800000#32)) = fun _ => 1#1) :
    ∃ X : Fin n → ℝ, x = lift1 (φ := .f32) X :=
  ⟨fun a => EReal.toReal (x fun k => match k with | ⟨0, _⟩ => a), funext fun i => by
    have e : (fun k => match k with | ⟨0, _⟩ => i 0 : Shape.Idx ⟨1, ![n]⟩) = i :=
      funext fun k => match k with | ⟨0, _⟩ => rfl
    show x i = ((EReal.toReal (x fun k => match k with | ⟨0, _⟩ => i 0) : ℝ) : EReal)
    rw [e]; exact real_at x hb h i⟩
/-- A matrix that passes the test is an array of real numbers. -/
theorem lift2_of {n m : ℕ} (x : FVec Ideal ⟨2, ![n, m]⟩ .f32) (hb)
    (h : cmpf .olt (Host.absf x) (broadcastInDim _ ![] hb (constant Cert.Pre_finite.S_ .f32 0x7F800000#32)) = fun _ => 1#1) :
    ∃ X : Fin n → Fin m → ℝ, x = lift2 (φ := .f32) X :=
  ⟨fun a b => EReal.toReal (x fun k => match k with | ⟨0, _⟩ => a | ⟨1, _⟩ => b), funext fun i => by
    have e : (fun k => match k with | ⟨0, _⟩ => i 0 | ⟨1, _⟩ => i 1 : Shape.Idx ⟨2, ![n, m]⟩) = i :=
      funext fun k => match k with | ⟨0, _⟩ => rfl | ⟨1, _⟩ => rfl
    show x i = ((EReal.toReal (x fun k => match k with | ⟨0, _⟩ => i 0 | ⟨1, _⟩ => i 1) : ℝ) : EReal)
    rw [e]; exact real_at x hb h i⟩

/-- Under the precondition every device's arguments hold real numbers. -/
theorem args_of (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ (g g' : Fin 1024 → ℝ) (H dY : Fin 8192 → Fin 1024 → ℝ) (Wg Wu : Fin 1024 → Fin 2048 → ℝ) (Wd : Fin 2048 → Fin 1024 → ℝ),
      Args g g' H dY Wg Wu Wd m c := by
  obtain ⟨h0, h1, h2, h3, h4, h5, h6⟩ := h c
  obtain ⟨H, e0⟩ := lift2_of _ _ h0
  obtain ⟨dY, e1⟩ := lift2_of _ _ h1
  obtain ⟨g, e2⟩ := lift1_of _ _ h2
  obtain ⟨g', e3⟩ := lift1_of _ _ h3
  obtain ⟨Wg, e4⟩ := lift2_of _ _ h4
  obtain ⟨Wu, e5⟩ := lift2_of _ _ h5
  obtain ⟨Wd, e6⟩ := lift2_of _ _ h6
  exact ⟨g, g', H, dY, Wg, Wu, Wd, e0, e1, e2, e3, e4, e5, e6⟩

end Cert.FfnBlock
-- ==== Proof.MixLift.lean ====
/- More rules on arrays of real numbers: the vector operations the mixing sub-layers use, and the reading and storing of
   column pieces and slots. -/
module

public import proofs.«01_k».proof.Proof.Block
public import proofs.«01_k».proof.Proof.Gen.Kernel2Ideal.Skeleton
public import Idealize.ShloMosaic.Lib.Pipeline.ReadBack

@[expose] public section

set_option maxRecDepth 16384

noncomputable section

namespace Cert.Mixing

open Idealize.ShloMosaic Cert.Kernel2Ideal Cert.Kernel2Ideal.Gen Cert.FfnBlock

set_option backward.isDefEq.respectTransparency.types false

variable {n m l : ℕ} {φ ψ : FTy}

/-- Column `j` of the piece that begins at column `o`. -/
def col {w m : ℕ} (o : ℕ) (h : o + w ≤ m) (j : Fin w) : Fin m := ⟨o + j, by omega⟩

/-! ## Constants -/

theorem ofBits_eighth : (Ideal.ofBits .f32 0x3E000000#32 : EReal) = ((1 / 8 : ℝ) : EReal) := by
  simp [Ideal.ofBits, Ideal.ieee, -EReal.coe_mul]; norm_num
theorem ofBits_bottom : (Ideal.ofBits .f32 0xFF800000#32 : EReal) = ⊥ := by
  simp [Ideal.ofBits, Ideal.ieee]
theorem ofBits_zero16 : (Ideal.ofBits .bf16 0x0000#16 : EReal) = ((0 : ℝ) : EReal) := by
  simp [Ideal.ofBits, Ideal.ieee]
theorem cst_eighth : (broadcast ⟨2, ![n, m]⟩ (Scalar.ofBits .f32 0x3E000000#32) : FVec Ideal _ .f32) = lift2 fun _ _ => 1 / 8 := by
  funext i; exact ofBits_eighth
theorem cst_zero16 : (broadcast ⟨2, ![n, m]⟩ (Scalar.ofBits .bf16 0x0000#16) : FVec Ideal _ .bf16) = lift2 fun _ _ => 0 := by
  funext i; exact ofBits_zero16

/-! ## Sums and greatest entries -/

theorem sum1 (x : Fin n → Fin m → ℝ) (h) (h2) (h3) :
    multiReduction .add [1] ⟨1, ![n]⟩ (lift2 (φ := .f32) x) 0x00000000#32 h h2 h3 = lift1 fun i => ∑ k, x i k := by
  funext i; pointwise [lift2, lift1]; exact coe_sum _
theorem sum0 (x : Fin n → Fin m → ℝ) (h) (h2) (h3) :
    multiReduction .add [0] ⟨1, ![m]⟩ (lift2 (φ := .f32) x) 0x00000000#32 h h2 h3 = lift1 fun j => ∑ k, x k j := by
  funext i; pointwise [lift2, lift1]; exact coe_sum _

/-- The greatest entry of a row. -/
def top (s : Fin 256 → ℝ) : ℝ := Finset.univ.sup' Finset.univ_nonempty s

/-- The coercion of the reals passes through the greatest entry. -/
theorem coe_top (s : Fin 256 → ℝ) : Finset.univ.fold max ⊥ (fun k => ((s k : ℝ) : EReal)) = ((top s : ℝ) : EReal) := by
  have h : ((top s : ℝ) : EReal) = Finset.univ.sup' Finset.univ_nonempty fun k => ((s k : ℝ) : EReal) :=
    Finset.comp_sup'_eq_sup'_comp _ Real.toEReal fun x y => EReal.coe_strictMono.monotone.map_max
  rw [h, Finset.sup'_eq_sup]
  rfl

theorem max1 (x : Fin 256 → Fin 256 → ℝ) (h) (h2) (h3) :
    multiReduction .maximumf [1] ⟨1, ![256]⟩ (lift2 (φ := .f32) x) 0xFF800000#32 h h2 h3 = lift1 fun i => top (x i) := by
  funext i; pointwise [lift2, lift1]
  rw [ofBits_bottom]
  exact coe_top _

/-- A row of positive numbers divided by its sum. -/
theorem divf_soft (e : Fin n → Fin 256 → ℝ) :
    divf (lift2 (φ := φ) fun i k => Real.exp (e i k)) (lift2 fun i _ => ∑ l, Real.exp (e i l))
      = lift2 fun i k => Real.exp (e i k) / ∑ l, Real.exp (e i l) :=
  divf_lift2 _ _ fun i _ => (Finset.sum_pos (fun _ _ => Real.exp_pos _) Finset.univ_nonempty).ne'

/-! ## The lane mask -/

/-- The mask of the first 64 lanes. -/
def low : IVec S256x128 1 := fun i => if ((i 1 : Fin 128) : ℕ) < 64 then 1#1 else 0#1

theorem mask_bit : ∀ k : Fin 128, IntOp.cmpi .slt (BitVec.ofNat 32 (k : ℕ)) 64#32 = if (k : ℕ) < 64 then 1#1 else 0#1 := by
  decide +kernel
theorem mask_low (h) : cmpi .slt (iota .tc S256x128 32 [1] h) (broadcast S256x128 64#32) = low := by
  funext i; pointwise [low]; exact mask_bit (i 1)
theorem select_low (x y : Fin 256 → Fin 128 → ℝ) :
    select low (lift2 (φ := φ) x) (lift2 y) = lift2 fun i j => if (j : ℕ) < 64 then x i j else y i j := by
  funext i
  by_cases h : ((i 1 : Fin 128) : ℕ) < 64 <;> simp [select, Scalar.select, low, lift2, h]

/-! ## Layouts -/

theorem drop_256_512 (x : Fin 1 → Fin 256 → Fin 512 → ℝ) (h) :
    shapeCast (⟨2, ![256, 512]⟩ : Shape) (lift3 (φ := φ) x) h = lift2 fun i j => x 0 i j := by
  funext i; pointwise [lift2, lift1, lift3]
theorem drop_768_256 (x : Fin 1 → Fin 768 → Fin 256 → ℝ) (h) :
    shapeCast (⟨2, ![768, 256]⟩ : Shape) (lift3 (φ := φ) x) h = lift2 fun i j => x 0 i j := by
  funext i; pointwise [lift2, lift1, lift3]
theorem drop_1024_1792 (x : Fin 1 → Fin 1024 → Fin 1792 → ℝ) (h) :
    shapeCast (⟨2, ![1024, 1792]⟩ : Shape) (lift3 (φ := φ) x) h = lift2 fun i j => x 0 i j := by
  funext i; pointwise [lift2, lift1, lift3]
theorem drop_256_768 (x : Fin 1 → Fin 256 → Fin 768 → ℝ) (h) :
    shapeCast (⟨2, ![256, 768]⟩ : Shape) (lift3 (φ := φ) x) h = lift2 fun i j => x 0 i j := by
  funext i; pointwise [lift2, lift1, lift3]
theorem drop_1024_512 (x : Fin 1 → Fin 1024 → Fin 512 → ℝ) (h) :
    shapeCast (⟨2, ![1024, 512]⟩ : Shape) (lift3 (φ := φ) x) h = lift2 fun i j => x 0 i j := by
  funext i; pointwise [lift2, lift1, lift3]
theorem drop_1024_256 (x : Fin 1 → Fin 1024 → Fin 256 → ℝ) (h) :
    shapeCast (⟨2, ![1024, 256]⟩ : Shape) (lift3 (φ := φ) x) h = lift2 fun i j => x 0 i j := by
  funext i; pointwise [lift2, lift1, lift3]
theorem drop_256_256 (x : Fin 1 → Fin 256 → Fin 256 → ℝ) (h) :
    shapeCast (⟨2, ![256, 256]⟩ : Shape) (lift3 (φ := φ) x) h = lift2 fun i j => x 0 i j := by
  funext i; pointwise [lift2, lift1, lift3]
theorem add_768_256 (x : Fin 768 → Fin 256 → ℝ) (h) :
    shapeCast (⟨3, ![1, 768, 256]⟩ : Shape) (lift2 (φ := φ) x) h = lift3 fun _ i j => x i j := by
  funext i; pointwise [lift2, lift1, lift3]
theorem cols_256_256 (x : Fin 256 → Fin 1 → ℝ) (h) :
    broadcastTo (⟨2, ![256, 256]⟩ : Shape) (lift2 (φ := φ) x) h = lift2 fun i _ => x i 0 := by
  funext i; pointwise [lift2, lift1, lift3]
theorem flip_768 (x : Fin 1024 → Fin 768 → ℝ) (h) :
    transpose (⟨2, ![768, 1024]⟩ : Shape) [1, 0] (lift2 (φ := φ) x) h = lift2 fun i j => x j i := by
  funext i; pointwise [lift2, lift1, lift3]
theorem cut_256_1024_0 (x : Fin 256 → Fin 1024 → ℝ) (h) :
    extractStridedSlice (⟨2, ![256, 256]⟩ : Shape) ![0, 0] (lift2 (φ := φ) x) h = lift2 fun i j => x i (col 0 (by norm_num) j) := by
  funext i; pointwise [lift2]; exact congrArg Real.toEReal (congrArg (x (i 0)) (Fin.ext (by simp [col])))
theorem cut_256_1024_256 (x : Fin 256 → Fin 1024 → ℝ) (h) :
    extractStridedSlice (⟨2, ![256, 256]⟩ : Shape) ![0, 256] (lift2 (φ := φ) x) h = lift2 fun i j => x i (col 256 (by norm_num) j) := by
  funext i; pointwise [lift2]; exact congrArg Real.toEReal (congrArg (x (i 0)) (Fin.ext (by simp [col])))
theorem cut_256_1024_512 (x : Fin 256 → Fin 1024 → ℝ) (h) :
    extractStridedSlice (⟨2, ![256, 256]⟩ : Shape) ![0, 512] (lift2 (φ := φ) x) h = lift2 fun i j => x i (col 512 (by norm_num) j) := by
  funext i; pointwise [lift2]; exact congrArg Real.toEReal (congrArg (x (i 0)) (Fin.ext (by simp [col])))
theorem cut_256_1024_768 (x : Fin 256 → Fin 1024 → ℝ) (h) :
    extractStridedSlice (⟨2, ![256, 256]⟩ : Shape) ![0, 768] (lift2 (φ := φ) x) h = lift2 fun i j => x i (col 768 (by norm_num) j) := by
  funext i; pointwise [lift2]; exact congrArg Real.toEReal (congrArg (x (i 0)) (Fin.ext (by simp [col])))
theorem cut_128_256_0 (x : Fin 256 → Fin 256 → ℝ) (h) :
    extractStridedSlice (⟨2, ![256, 128]⟩ : Shape) ![0, 0] (lift2 (φ := φ) x) h = lift2 fun i j => x i (col 0 (by norm_num) j) := by
  funext i; pointwise [lift2]; exact congrArg Real.toEReal (congrArg (x (i 0)) (Fin.ext (by simp [col])))
theorem cut_128_256_128 (x : Fin 256 → Fin 256 → ℝ) (h) :
    extractStridedSlice (⟨2, ![256, 128]⟩ : Shape) ![0, 128] (lift2 (φ := φ) x) h = lift2 fun i j => x i (col 128 (by norm_num) j) := by
  funext i; pointwise [lift2]; exact congrArg Real.toEReal (congrArg (x (i 0)) (Fin.ext (by simp [col])))
theorem cut_512_768_0 (x : Fin 256 → Fin 768 → ℝ) (h) :
    extractStridedSlice (⟨2, ![256, 512]⟩ : Shape) ![0, 0] (lift2 (φ := φ) x) h = lift2 fun i j => x i (col 0 (by norm_num) j) := by
  funext i; pointwise [lift2]; exact congrArg Real.toEReal (congrArg (x (i 0)) (Fin.ext (by simp [col])))
theorem cut_128_768_512 (x : Fin 256 → Fin 768 → ℝ) (h) :
    extractStridedSlice (⟨2, ![256, 128]⟩ : Shape) ![0, 512] (lift2 (φ := φ) x) h = lift2 fun i j => x i (col 512 (by norm_num) j) := by
  funext i; pointwise [lift2]; exact congrArg Real.toEReal (congrArg (x (i 0)) (Fin.ext (by simp [col])))
theorem cut_128_768_640 (x : Fin 256 → Fin 768 → ℝ) (h) :
    extractStridedSlice (⟨2, ![256, 128]⟩ : Shape) ![0, 640] (lift2 (φ := φ) x) h = lift2 fun i j => x i (col 640 (by norm_num) j) := by
  funext i; pointwise [lift2]; exact congrArg Real.toEReal (congrArg (x (i 0)) (Fin.ext (by simp [col])))

/-- Four rows of a quarter's width side by side. -/
def joined (y0 y1 y2 y3 : Fin 256 → ℝ) (j : Fin 1024) : ℝ :=
  if h0 : (j : ℕ) < 256 then y0 ⟨j, h0⟩ else if h1 : (j : ℕ) - 256 < 256 then y1 ⟨j - 256, h1⟩
    else if h2 : (j : ℕ) - 256 - 256 < 256 then y2 ⟨j - 256 - 256, h2⟩ else y3 ⟨j - 256 - 256 - 256, by omega⟩
/-- A token row and the two halves of the attention row side by side. -/
def sideBySide (t : Fin 512 → ℝ) (a b : Fin 128 → ℝ) (j : Fin 768) : ℝ :=
  if h0 : (j : ℕ) < 512 then t ⟨j, h0⟩ else if h1 : (j : ℕ) - 512 < 128 then a ⟨j - 512, h1⟩ else b ⟨j - 512 - 128, by omega⟩

theorem joined_cols (f : Fin 1024 → ℝ) :
    joined (fun j => f (col 0 (by norm_num) j)) (fun j => f (col 256 (by norm_num) j)) (fun j => f (col 512 (by norm_num) j))
      (fun j => f (col 768 (by norm_num) j)) = f := by
  funext j
  unfold joined
  split_ifs <;> refine congrArg f (Fin.ext ?_) <;> simp only [col] <;> omega

theorem concat_quarters (x0 x1 x2 x3 : Fin 256 → Fin 256 → ℝ) (h) :
    concatenate S256x1024 1 [⟨S256x256, lift2 (φ := .f32) x0⟩, ⟨S256x256, lift2 (φ := .f32) x1⟩, ⟨S256x256, lift2 (φ := .f32) x2⟩, ⟨S256x256, lift2 (φ := .f32) x3⟩] h
      = lift2 fun i => joined (x0 i) (x1 i) (x2 i) (x3 i) := by
  funext i; pointwise [lift2, joined]
  split_ifs <;> rfl
theorem concat_parts (x0 : Fin 256 → Fin 512 → ℝ) (x1 x2 : Fin 256 → Fin 128 → ℝ) (h) :
    concatenate S256x768 1 [⟨S256x512, lift2 (φ := .bf16) x0⟩, ⟨S256x128, lift2 (φ := .bf16) x1⟩, ⟨S256x128, lift2 (φ := .bf16) x2⟩] h
      = lift2 fun i => sideBySide (x0 i) (x1 i) (x2 i) := by
  funext i; pointwise [lift2, sideBySide]
  split_ifs <;> rfl
theorem concat_quarters_of {x0 x1 x2 x3 : Fin 256 → Fin 256 → ℝ} {a0 a1 a2 a3 : FVec Ideal S256x256 .f32}
    (h0 : a0 = lift2 (φ := .f32) x0) (h1 : a1 = lift2 (φ := .f32) x1) (h2 : a2 = lift2 (φ := .f32) x2) (h3 : a3 = lift2 (φ := .f32) x3) (h) :
    concatenate S256x1024 1 [⟨S256x256, a0⟩, ⟨S256x256, a1⟩, ⟨S256x256, a2⟩, ⟨S256x256, a3⟩] h = lift2 (φ := .f32) fun i => joined (x0 i) (x1 i) (x2 i) (x3 i) := by
  subst h0 h1 h2 h3
  exact concat_quarters _ _ _ _ _
theorem concat_parts_of {x0 : Fin 256 → Fin 512 → ℝ} {x1 x2 : Fin 256 → Fin 128 → ℝ} {a0 : FVec Ideal S256x512 .bf16} {a1 a2 : FVec Ideal S256x128 .bf16}
    (h0 : a0 = lift2 (φ := .bf16) x0) (h1 : a1 = lift2 (φ := .bf16) x1) (h2 : a2 = lift2 (φ := .bf16) x2) (h) :
    concatenate S256x768 1 [⟨S256x512, a0⟩, ⟨S256x128, a1⟩, ⟨S256x128, a2⟩] h = lift2 (φ := .bf16) fun i => sideBySide (x0 i) (x1 i) (x2 i) := by
  subst h0 h1 h2
  exact concat_parts _ _ _ _

/-! ## Reading slots and column pieces -/

theorem slot_kv0 (w : Fin 4 → Fin 256 → Fin 512 → ℝ) (h) :
    View.ld (Val := Elt Ideal) (e' := .bf16) (lift3 w : FVec Ideal S4x256x512 .bf16) (Rect.unit (s := S4x256x512) ![0, 0, 0] S1x256x512.size h) = lift3 (φ := .bf16) fun _ : Fin 1 => w 0 := by
  funext i; pointwise [lift3]
theorem slot_wo0 (w : Fin 4 → Fin 768 → Fin 256 → ℝ) (h) :
    View.ld (Val := Elt Ideal) (e' := .bf16) (lift3 w : FVec Ideal S4x768x256 .bf16) (Rect.unit (s := S4x768x256) ![0, 0, 0] S1x768x256.size h) = lift3 (φ := .bf16) fun _ : Fin 1 => w 0 := by
  funext i; pointwise [lift3]
theorem tile_wo0 (w : Fin 4 → Fin 768 → Fin 256 → ℝ) (h) :
    View.ld (Val := Elt Ideal) (e' := .bf16) (lift3 w : FVec Ideal S4x768x256 .bf16) (Rect.unit (s := S4x768x256) ![0, 0, 0] ![1, 768, 256] h) = lift3 (φ := .bf16) fun _ : Fin 1 => w 0 := by
  funext i; pointwise [lift3]
theorem tile_dwo0 (w : Fin 4 → Fin 768 → Fin 256 → ℝ) (h) :
    View.ld (Val := Elt Ideal) (e' := .f32) (lift3 w : FVec Ideal S4x768x256 .f32) (Rect.unit (s := S4x768x256) ![0, 0, 0] ![1, 768, 256] h) = lift3 (φ := .f32) fun _ : Fin 1 => w 0 := by
  funext i; pointwise [lift3]
theorem slot_kv1 (w : Fin 4 → Fin 256 → Fin 512 → ℝ) (h) :
    View.ld (Val := Elt Ideal) (e' := .bf16) (lift3 w : FVec Ideal S4x256x512 .bf16) (Rect.unit (s := S4x256x512) ![1, 0, 0] S1x256x512.size h) = lift3 (φ := .bf16) fun _ : Fin 1 => w 1 := by
  funext i; pointwise [lift3]
theorem slot_wo1 (w : Fin 4 → Fin 768 → Fin 256 → ℝ) (h) :
    View.ld (Val := Elt Ideal) (e' := .bf16) (lift3 w : FVec Ideal S4x768x256 .bf16) (Rect.unit (s := S4x768x256) ![1, 0, 0] S1x768x256.size h) = lift3 (φ := .bf16) fun _ : Fin 1 => w 1 := by
  funext i; pointwise [lift3]
theorem tile_wo1 (w : Fin 4 → Fin 768 → Fin 256 → ℝ) (h) :
    View.ld (Val := Elt Ideal) (e' := .bf16) (lift3 w : FVec Ideal S4x768x256 .bf16) (Rect.unit (s := S4x768x256) ![1, 0, 0] ![1, 768, 256] h) = lift3 (φ := .bf16) fun _ : Fin 1 => w 1 := by
  funext i; pointwise [lift3]
theorem tile_dwo1 (w : Fin 4 → Fin 768 → Fin 256 → ℝ) (h) :
    View.ld (Val := Elt Ideal) (e' := .f32) (lift3 w : FVec Ideal S4x768x256 .f32) (Rect.unit (s := S4x768x256) ![1, 0, 0] ![1, 768, 256] h) = lift3 (φ := .f32) fun _ : Fin 1 => w 1 := by
  funext i; pointwise [lift3]
theorem slot_kv2 (w : Fin 4 → Fin 256 → Fin 512 → ℝ) (h) :
    View.ld (Val := Elt Ideal) (e' := .bf16) (lift3 w : FVec Ideal S4x256x512 .bf16) (Rect.unit (s := S4x256x512) ![2, 0, 0] S1x256x512.size h) = lift3 (φ := .bf16) fun _ : Fin 1 => w 2 := by
  funext i; pointwise [lift3]
theorem slot_wo2 (w : Fin 4 → Fin 768 → Fin 256 → ℝ) (h) :
    View.ld (Val := Elt Ideal) (e' := .bf16) (lift3 w : FVec Ideal S4x768x256 .bf16) (Rect.unit (s := S4x768x256) ![2, 0, 0] S1x768x256.size h) = lift3 (φ := .bf16) fun _ : Fin 1 => w 2 := by
  funext i; pointwise [lift3]
theorem tile_wo2 (w : Fin 4 → Fin 768 → Fin 256 → ℝ) (h) :
    View.ld (Val := Elt Ideal) (e' := .bf16) (lift3 w : FVec Ideal S4x768x256 .bf16) (Rect.unit (s := S4x768x256) ![2, 0, 0] ![1, 768, 256] h) = lift3 (φ := .bf16) fun _ : Fin 1 => w 2 := by
  funext i; pointwise [lift3]
theorem tile_dwo2 (w : Fin 4 → Fin 768 → Fin 256 → ℝ) (h) :
    View.ld (Val := Elt Ideal) (e' := .f32) (lift3 w : FVec Ideal S4x768x256 .f32) (Rect.unit (s := S4x768x256) ![2, 0, 0] ![1, 768, 256] h) = lift3 (φ := .f32) fun _ : Fin 1 => w 2 := by
  funext i; pointwise [lift3]
theorem slot_kv3 (w : Fin 4 → Fin 256 → Fin 512 → ℝ) (h) :
    View.ld (Val := Elt Ideal) (e' := .bf16) (lift3 w : FVec Ideal S4x256x512 .bf16) (Rect.unit (s := S4x256x512) ![3, 0, 0] S1x256x512.size h) = lift3 (φ := .bf16) fun _ : Fin 1 => w 3 := by
  funext i; pointwise [lift3]
theorem slot_wo3 (w : Fin 4 → Fin 768 → Fin 256 → ℝ) (h) :
    View.ld (Val := Elt Ideal) (e' := .bf16) (lift3 w : FVec Ideal S4x768x256 .bf16) (Rect.unit (s := S4x768x256) ![3, 0, 0] S1x768x256.size h) = lift3 (φ := .bf16) fun _ : Fin 1 => w 3 := by
  funext i; pointwise [lift3]
theorem tile_wo3 (w : Fin 4 → Fin 768 → Fin 256 → ℝ) (h) :
    View.ld (Val := Elt Ideal) (e' := .bf16) (lift3 w : FVec Ideal S4x768x256 .bf16) (Rect.unit (s := S4x768x256) ![3, 0, 0] ![1, 768, 256] h) = lift3 (φ := .bf16) fun _ : Fin 1 => w 3 := by
  funext i; pointwise [lift3]
theorem tile_dwo3 (w : Fin 4 → Fin 768 → Fin 256 → ℝ) (h) :
    View.ld (Val := Elt Ideal) (e' := .f32) (lift3 w : FVec Ideal S4x768x256 .f32) (Rect.unit (s := S4x768x256) ![3, 0, 0] ![1, 768, 256] h) = lift3 (φ := .f32) fun _ : Fin 1 => w 3 := by
  funext i; pointwise [lift3]
theorem piece_kv0 (Y : Fin 256 → Fin 512 → ℝ) (h) :
    View.ld (Val := Elt Ideal) (e' := .bf16) (lift2 Y : FVec Ideal S256x512 .bf16) (Rect.unit (s := S256x512) ![0, 0] S256x128.size h) = lift2 (φ := .bf16) fun i j => Y i (col 0 (by norm_num) j) := by
  funext i; pointwise [lift2]; exact congrArg Real.toEReal (congrArg (Y (i 0)) (Fin.ext (by simp [col])))
theorem tile_kv0 (Y : Fin 256 → Fin 512 → ℝ) (h) :
    View.ld (Val := Elt Ideal) (e' := .bf16) (lift2 Y : FVec Ideal S256x512 .bf16) (Rect.unit (s := S256x512) ![0, 0] ![256, 128] h) = lift2 (φ := .bf16) fun i j => Y i (col 0 (by norm_num) j) := by
  funext i; pointwise [lift2]; exact congrArg Real.toEReal (congrArg (Y (i 0)) (Fin.ext (by simp [col])))
theorem tile_dkv0 (Y : Fin 256 → Fin 512 → ℝ) (h) :
    View.ld (Val := Elt Ideal) (e' := .f32) (lift2 Y : FVec Ideal S256x512 .f32) (Rect.unit (s := S256x512) ![0, 0] ![256, 128] h) = lift2 (φ := .f32) fun i j => Y i (col 0 (by norm_num) j) := by
  funext i; pointwise [lift2]; exact congrArg Real.toEReal (congrArg (Y (i 0)) (Fin.ext (by simp [col])))
theorem piece_kv128 (Y : Fin 256 → Fin 512 → ℝ) (h) :
    View.ld (Val := Elt Ideal) (e' := .bf16) (lift2 Y : FVec Ideal S256x512 .bf16) (Rect.unit (s := S256x512) ![0, 128] S256x128.size h) = lift2 (φ := .bf16) fun i j => Y i (col 128 (by norm_num) j) := by
  funext i; pointwise [lift2]; exact congrArg Real.toEReal (congrArg (Y (i 0)) (Fin.ext (by simp [col])))
theorem tile_kv128 (Y : Fin 256 → Fin 512 → ℝ) (h) :
    View.ld (Val := Elt Ideal) (e' := .bf16) (lift2 Y : FVec Ideal S256x512 .bf16) (Rect.unit (s := S256x512) ![0, 128] ![256, 128] h) = lift2 (φ := .bf16) fun i j => Y i (col 128 (by norm_num) j) := by
  funext i; pointwise [lift2]; exact congrArg Real.toEReal (congrArg (Y (i 0)) (Fin.ext (by simp [col])))
theorem tile_dkv128 (Y : Fin 256 → Fin 512 → ℝ) (h) :
    View.ld (Val := Elt Ideal) (e' := .f32) (lift2 Y : FVec Ideal S256x512 .f32) (Rect.unit (s := S256x512) ![0, 128] ![256, 128] h) = lift2 (φ := .f32) fun i j => Y i (col 128 (by norm_num) j) := by
  funext i; pointwise [lift2]; exact congrArg Real.toEReal (congrArg (Y (i 0)) (Fin.ext (by simp [col])))
theorem piece_kv256 (Y : Fin 256 → Fin 512 → ℝ) (h) :
    View.ld (Val := Elt Ideal) (e' := .bf16) (lift2 Y : FVec Ideal S256x512 .bf16) (Rect.unit (s := S256x512) ![0, 256] S256x128.size h) = lift2 (φ := .bf16) fun i j => Y i (col 256 (by norm_num) j) := by
  funext i; pointwise [lift2]; exact congrArg Real.toEReal (congrArg (Y (i 0)) (Fin.ext (by simp [col])))
theorem tile_kv256 (Y : Fin 256 → Fin 512 → ℝ) (h) :
    View.ld (Val := Elt Ideal) (e' := .bf16) (lift2 Y : FVec Ideal S256x512 .bf16) (Rect.unit (s := S256x512) ![0, 256] ![256, 128] h) = lift2 (φ := .bf16) fun i j => Y i (col 256 (by norm_num) j) := by
  funext i; pointwise [lift2]; exact congrArg Real.toEReal (congrArg (Y (i 0)) (Fin.ext (by simp [col])))
theorem tile_dkv256 (Y : Fin 256 → Fin 512 → ℝ) (h) :
    View.ld (Val := Elt Ideal) (e' := .f32) (lift2 Y : FVec Ideal S256x512 .f32) (Rect.unit (s := S256x512) ![0, 256] ![256, 128] h) = lift2 (φ := .f32) fun i j => Y i (col 256 (by norm_num) j) := by
  funext i; pointwise [lift2]; exact congrArg Real.toEReal (congrArg (Y (i 0)) (Fin.ext (by simp [col])))
theorem piece_kv384 (Y : Fin 256 → Fin 512 → ℝ) (h) :
    View.ld (Val := Elt Ideal) (e' := .bf16) (lift2 Y : FVec Ideal S256x512 .bf16) (Rect.unit (s := S256x512) ![0, 384] S256x128.size h) = lift2 (φ := .bf16) fun i j => Y i (col 384 (by norm_num) j) := by
  funext i; pointwise [lift2]; exact congrArg Real.toEReal (congrArg (Y (i 0)) (Fin.ext (by simp [col])))
theorem tile_kv384 (Y : Fin 256 → Fin 512 → ℝ) (h) :
    View.ld (Val := Elt Ideal) (e' := .bf16) (lift2 Y : FVec Ideal S256x512 .bf16) (Rect.unit (s := S256x512) ![0, 384] ![256, 128] h) = lift2 (φ := .bf16) fun i j => Y i (col 384 (by norm_num) j) := by
  funext i; pointwise [lift2]; exact congrArg Real.toEReal (congrArg (Y (i 0)) (Fin.ext (by simp [col])))
theorem tile_dkv384 (Y : Fin 256 → Fin 512 → ℝ) (h) :
    View.ld (Val := Elt Ideal) (e' := .f32) (lift2 Y : FVec Ideal S256x512 .f32) (Rect.unit (s := S256x512) ![0, 384] ![256, 128] h) = lift2 (φ := .f32) fun i j => Y i (col 384 (by norm_num) j) := by
  funext i; pointwise [lift2]; exact congrArg Real.toEReal (congrArg (Y (i 0)) (Fin.ext (by simp [col])))
theorem tile_y1024_0 (Y : Fin 1024 → Fin 1024 → ℝ) (h) :
    View.ld (Val := Elt Ideal) (e' := .bf16) (lift2 Y : FVec Ideal S1024x1024 .bf16) (Rect.unit (s := S1024x1024) ![0, 0] ![1024, 256] h) = lift2 (φ := .bf16) fun i j => Y i (col 0 (by norm_num) j) := by
  funext i; pointwise [lift2]; exact congrArg Real.toEReal (congrArg (Y (i 0)) (Fin.ext (by simp [col])))
theorem tile_y1024_256 (Y : Fin 1024 → Fin 1024 → ℝ) (h) :
    View.ld (Val := Elt Ideal) (e' := .bf16) (lift2 Y : FVec Ideal S1024x1024 .bf16) (Rect.unit (s := S1024x1024) ![0, 256] ![1024, 256] h) = lift2 (φ := .bf16) fun i j => Y i (col 256 (by norm_num) j) := by
  funext i; pointwise [lift2]; exact congrArg Real.toEReal (congrArg (Y (i 0)) (Fin.ext (by simp [col])))
theorem tile_y1024_512 (Y : Fin 1024 → Fin 1024 → ℝ) (h) :
    View.ld (Val := Elt Ideal) (e' := .bf16) (lift2 Y : FVec Ideal S1024x1024 .bf16) (Rect.unit (s := S1024x1024) ![0, 512] ![1024, 256] h) = lift2 (φ := .bf16) fun i j => Y i (col 512 (by norm_num) j) := by
  funext i; pointwise [lift2]; exact congrArg Real.toEReal (congrArg (Y (i 0)) (Fin.ext (by simp [col])))
theorem tile_y1024_768 (Y : Fin 1024 → Fin 1024 → ℝ) (h) :
    View.ld (Val := Elt Ideal) (e' := .bf16) (lift2 Y : FVec Ideal S1024x1024 .bf16) (Rect.unit (s := S1024x1024) ![0, 768] ![1024, 256] h) = lift2 (φ := .bf16) fun i j => Y i (col 768 (by norm_num) j) := by
  funext i; pointwise [lift2]; exact congrArg Real.toEReal (congrArg (Y (i 0)) (Fin.ext (by simp [col])))
theorem whole_256_1024_f32 (x : Vec Ideal S256x1024 .f32) (h) :
    View.ld x (Rect.unit (s := S256x1024) ![0, 0] S256x1024.size h) = x := by
  exact View.ld_unit_lit _ _ (by decide)
theorem whole_1_1024_f32 (x : Vec Ideal S1x1024 .f32) (h) :
    View.ld x (Rect.unit (s := S1x1024) ![0, 0] S1x1024.size h) = x := by
  exact View.ld_unit_lit _ _ (by decide)
theorem whole_256_512_f32 (x : Vec Ideal S256x512 .f32) (h) :
    View.ld x (Rect.unit (s := S256x512) ![0, 0] S256x512.size h) = x := by
  exact View.ld_unit_lit _ _ (by decide)
theorem whole_256_256_f32 (x : Vec Ideal S256x256 .f32) (h) :
    View.ld x (Rect.unit (s := S256x256) ![0, 0] S256x256.size h) = x := by
  exact View.ld_unit_lit _ _ (by decide)
theorem whole_256_256_bf16 (x : Vec Ideal S256x256 .bf16) (h) :
    View.ld x (Rect.unit (s := S256x256) ![0, 0] S256x256.size h) = x := by
  exact View.ld_unit_lit _ _ (by decide)
theorem whole_1_1024_1792_bf16 (x : Vec Ideal S1x1024x1792 .bf16) (h) :
    View.ld x (Rect.unit (s := S1x1024x1792) ![0, 0, 0] S1x1024x1792.size h) = x := by
  exact View.ld_unit_lit _ _ (by decide)

/-! ## Storing column pieces and slots -/

/-- What a stored column piece agrees with. -/
theorem col_at {n m w o : ℕ} (h) (Y : Fin n → Fin m → ℝ) (p : Fin n → Fin w → ℝ) (hp : ∀ (i : Fin n) (j : Fin w) (hj : o + (j : ℕ) < m), p i j = Y i ⟨o + j, hj⟩)
    (x : (Rect.unit (s := ⟨2, ![n, m]⟩) ![0, o] ![n, w] h).shape.Idx) :
    (lift2 (φ := φ) p : FVec Ideal ⟨2, ![n, w]⟩ φ) x = lift2 (φ := φ) Y ((Rect.unit (s := ⟨2, ![n, m]⟩) ![0, o] ![n, w] h).idx x) := by
  have e0 := Rect.idx_unit_val (s := ⟨2, ![n, m]⟩) ![0, o] ![n, w] h x 0
  have e1 := Rect.idx_unit_val (s := ⟨2, ![n, m]⟩) ![0, o] ![n, w] h x 1
  have h1 : o + ((x 1 : Fin w) : ℕ) < m := e1 ▸ ((Rect.unit (s := ⟨2, ![n, m]⟩) ![0, o] ![n, w] h).idx x 1).isLt
  refine congrArg Real.toEReal ((hp (x 0) (x 1) h1).trans (congrArg₂ Y (Fin.ext ?_) (Fin.ext ?_)))
  · exact (e0.trans (Nat.zero_add _)).symm
  · exact e1.symm

/-- What a stored slot agrees with. -/
theorem slot_at {n m l q : ℕ} (h) (Y : Fin n → Fin m → Fin l → ℝ) (p : Fin m → Fin l → ℝ) (hq : q < n) (hp : ∀ i j, p i j = Y ⟨q, hq⟩ i j)
    (x : (Rect.unit (s := ⟨3, ![n, m, l]⟩) ![q, 0, 0] ![1, m, l] h).shape.Idx) :
    (lift3 (φ := φ) (fun _ : Fin 1 => p) : FVec Ideal ⟨3, ![1, m, l]⟩ φ) x
      = lift3 (φ := φ) Y ((Rect.unit (s := ⟨3, ![n, m, l]⟩) ![q, 0, 0] ![1, m, l] h).idx x) := by
  have e0 := Rect.idx_unit_val (s := ⟨3, ![n, m, l]⟩) ![q, 0, 0] ![1, m, l] h x 0
  have e1 := Rect.idx_unit_val (s := ⟨3, ![n, m, l]⟩) ![q, 0, 0] ![1, m, l] h x 1
  have e2 := Rect.idx_unit_val (s := ⟨3, ![n, m, l]⟩) ![q, 0, 0] ![1, m, l] h x 2
  refine congrArg Real.toEReal ((hp (x 1) (x 2)).trans (congr (congrArg₂ Y (Fin.ext ?_) (Fin.ext ?_)) (Fin.ext ?_)))
  · exact (e0.trans (congrArg (q + ·) (Nat.lt_one_iff.1 (x 0).isLt))).symm
  · exact (e1.trans (Nat.zero_add _)).symm
  · exact (e2.trans (Nat.zero_add _)).symm

end Cert.Mixing
-- ==== Proof.Mixing.lean ====
/- The mixing sub-layer around its token mixer over the real numbers, row by row: the attention over the memory rows, the
   output product and norm, and their gradients. -/
module

public import proofs.«01_k».proof.Proof.MixLift

@[expose] public section

noncomputable section

namespace Cert.Mixing

open Cert.FfnBlock

/-! ## Heads and columns -/

/-- Entry `d` of head `h` in a row of four heads of 64. -/
def hd (h : Fin 4) (d : Fin 64) : Fin 256 := ⟨64 * h + d, by omega⟩
/-- The head an entry belongs to. -/
def headOf (j : Fin 256) : Fin 4 := ⟨j / 64, by omega⟩
/-- The column of a memory row's key entry. -/
def keyCol (j : Fin 256) : Fin 512 := ⟨j, by omega⟩
/-- The column of a memory row's value entry. -/
def valCol (j : Fin 256) : Fin 512 := ⟨256 + j, by omega⟩
/-- Column `j` of quarter `s` of the width. -/
def quarter (s : Fin 4) (j : Fin 256) : Fin 1024 := ⟨256 * s + j, by omega⟩

theorem hd_0 (h h') (d : Fin 64) : (col 0 h (col 0 h' d : Fin 128) : Fin 256) = hd 0 d := Fin.ext (by simp [col, hd])
theorem hd_1 (h h') (d : Fin 64) : (col 0 h (col 64 h' d : Fin 128) : Fin 256) = hd 1 d := Fin.ext (by simp [col, hd])
theorem hd_2 (h h') (d : Fin 64) : (col 128 h (col 0 h' d : Fin 128) : Fin 256) = hd 2 d := Fin.ext (by simp [col, hd])
theorem hd_3 (h h') (d : Fin 64) : (col 128 h (col 64 h' d : Fin 128) : Fin 256) = hd 3 d := Fin.ext (by simp [col, hd]; omega)
theorem key_0 (h h') (d : Fin 64) : (col 0 h (col 0 h' d : Fin 128) : Fin 512) = keyCol (hd 0 d) := Fin.ext (by simp [col, hd, keyCol])
theorem key_1 (h h') (d : Fin 64) : (col 0 h (col 64 h' d : Fin 128) : Fin 512) = keyCol (hd 1 d) := Fin.ext (by simp [col, hd, keyCol])
theorem key_2 (h h') (d : Fin 64) : (col 128 h (col 0 h' d : Fin 128) : Fin 512) = keyCol (hd 2 d) := Fin.ext (by simp [col, hd, keyCol])
theorem key_3 (h h') (d : Fin 64) : (col 128 h (col 64 h' d : Fin 128) : Fin 512) = keyCol (hd 3 d) := Fin.ext (by simp [col, hd, keyCol]; omega)
theorem val_0 (h h') (d : Fin 64) : (col 256 h (col 0 h' d : Fin 128) : Fin 512) = valCol (hd 0 d) := Fin.ext (by simp [col, hd, valCol])
theorem val_1 (h h') (d : Fin 64) : (col 256 h (col 64 h' d : Fin 128) : Fin 512) = valCol (hd 1 d) := Fin.ext (by simp [col, hd, valCol])
theorem val_2 (h h') (d : Fin 64) : (col 384 h (col 0 h' d : Fin 128) : Fin 512) = valCol (hd 2 d) := Fin.ext (by simp [col, hd, valCol]; omega)
theorem val_3 (h h') (d : Fin 64) : (col 384 h (col 64 h' d : Fin 128) : Fin 512) = valCol (hd 3 d) := Fin.ext (by simp [col, hd, valCol]; omega)

/-- A sum over 128 lanes of which only the first 64 count. -/
theorem sum_low (A B : Fin 128 → ℝ) :
    ∑ j : Fin 128, (if (j : ℕ) < 64 then A j else 0) * B j = ∑ d : Fin 64, A (col 0 (by norm_num) d) * B (col 0 (by norm_num) d) := by
  refine (Fin.sum_univ_add (a := 64) (b := 64) fun j : Fin (64 + 64) => (if (j : ℕ) < 64 then A j else 0) * B j).trans ?_
  rw [Finset.sum_eq_zero (s := Finset.univ) (f := fun d : Fin 64 => (if ((Fin.natAdd 64 d : Fin (64 + 64)) : ℕ) < 64 then A (Fin.natAdd 64 d) else 0) * B (Fin.natAdd 64 d))
    (fun d _ => by simp), add_zero]
  refine Finset.sum_congr rfl fun d _ => ?_
  have e : (Fin.castAdd 64 d : Fin (64 + 64)) = col 0 (by norm_num) d := Fin.ext (by simp [col])
  rw [if_pos (by simp), e]
/-- A sum over 128 lanes of which only the last 64 count. -/
theorem sum_high (A B : Fin 128 → ℝ) :
    ∑ j : Fin 128, (if (j : ℕ) < 64 then 0 else A j) * B j = ∑ d : Fin 64, A (col 64 (by norm_num) d) * B (col 64 (by norm_num) d) := by
  refine (Fin.sum_univ_add (a := 64) (b := 64) fun j : Fin (64 + 64) => (if (j : ℕ) < 64 then 0 else A j) * B j).trans ?_
  rw [Finset.sum_eq_zero (s := Finset.univ) (f := fun d : Fin 64 => (if ((Fin.castAdd 64 d : Fin (64 + 64)) : ℕ) < 64 then 0 else A (Fin.castAdd 64 d)) * B (Fin.castAdd 64 d))
    (fun d _ => by simp), zero_add]
  refine Finset.sum_congr rfl fun d _ => ?_
  have e : (Fin.natAdd 64 d : Fin (64 + 64)) = col 64 (by norm_num) d := Fin.ext (by simp [col]; omega)
  rw [if_neg (by simp), e]
/-- A sum over the width, quarter by quarter. -/
theorem sum_quarters (f : Fin 1024 → ℝ) :
    ∑ q, f q = ∑ j, f (quarter 0 j) + ∑ j, f (quarter 1 j) + ∑ j, f (quarter 2 j) + ∑ j, f (quarter 3 j) := by
  have h : ∑ q : Fin (4 * 256), f q = ∑ c : Fin 4, ∑ j : Fin 256, f (quarter c j) := by
    rw [← Fintype.sum_prod_type', ← finProdFinEquiv.sum_comp]
    refine Finset.sum_congr rfl fun p _ => congrArg f (Fin.ext ?_)
    simp [finProdFinEquiv, quarter]; omega
  exact h.trans (by simp [Fin.sum_univ_four])
theorem joined_quarters (f : Fin 1024 → ℝ) :
    joined (fun j => f (quarter 0 j)) (fun j => f (quarter 1 j)) (fun j => f (quarter 2 j)) (fun j => f (quarter 3 j)) = f :=
  joined_cols f

/-! ## The attention of one row over the memory rows -/

/-- The scores of one head. -/
def score (KV : Fin 256 → Fin 512 → ℝ) (q : Fin 256 → ℝ) (h : Fin 4) (k : Fin 256) : ℝ :=
  (∑ d, q (hd h d) * KV k (keyCol (hd h d))) * (1 / 8)
/-- The normalised exponentials of a row of scores. -/
def soft (s : Fin 256 → ℝ) (k : Fin 256) : ℝ := Real.exp (s k - top s) / ∑ l, Real.exp (s l - top s)
/-- The attention's weights of one head. -/
def prob (KV : Fin 256 → Fin 512 → ℝ) (q : Fin 256 → ℝ) (h : Fin 4) : Fin 256 → ℝ := soft (score KV q h)
/-- The attention's output row. -/
def attend (KV : Fin 256 → Fin 512 → ℝ) (q : Fin 256 → ℝ) (j : Fin 256) : ℝ := ∑ k, prob KV q (headOf j) k * KV k (valCol j)
/-- The token mixer's row with the attention's row after it. -/
def beside (t : Fin 512 → ℝ) (a : Fin 256 → ℝ) (j : Fin 768) : ℝ := if h : (j : ℕ) < 512 then t ⟨j, h⟩ else a ⟨j - 512, by omega⟩
/-- The sub-layer's product row. -/
def mixed (KV : Fin 256 → Fin 512 → ℝ) (Wo : Fin 768 → Fin 1024 → ℝ) (t : Fin 512 → ℝ) (q : Fin 256 → ℝ) : Fin 1024 → ℝ :=
  times Wo (beside t (attend KV q))
/-- The sub-layer's output row. -/
def mixOut (g h m : Fin 1024 → ℝ) (j : Fin 1024) : ℝ := h j + normed g m j

/-- The two halves of an attention row, each from two heads, are the row. -/
theorem side_attend (t : Fin 512 → ℝ) (A : Fin 4 → Fin 256 → ℝ) :
    sideBySide t (fun j => if (j : ℕ) < 64 then A 0 (col 0 (by norm_num) j) else A 1 (col 0 (by norm_num) j))
        (fun j => if (j : ℕ) < 64 then A 2 (col 128 (by norm_num) j) else A 3 (col 128 (by norm_num) j))
      = beside t fun j => A (headOf j) j := by
  funext j
  unfold sideBySide beside
  have hj := j.isLt
  by_cases h1 : (j : ℕ) < 512
  · rw [dif_pos h1, dif_pos h1]
  rw [dif_neg h1, dif_neg h1]
  by_cases h2 : (j : ℕ) - 512 < 128
  · rw [dif_pos h2]
    dsimp only
    split_ifs with h3
    · exact congrArg₂ A (Fin.ext (by simp only [headOf, Fin.coe_ofNat_eq_mod]; omega)) (Fin.ext (by simp only [col]; omega))
    · exact congrArg₂ A (Fin.ext (by simp only [headOf, Fin.coe_ofNat_eq_mod]; omega)) (Fin.ext (by simp only [col]; omega))
  · rw [dif_neg h2]
    dsimp only
    split_ifs with h3
    · exact congrArg₂ A (Fin.ext (by simp only [headOf, Fin.coe_ofNat_eq_mod]; omega)) (Fin.ext (by simp only [col]; omega))
    · exact congrArg₂ A (Fin.ext (by simp only [headOf, Fin.coe_ofNat_eq_mod]; omega)) (Fin.ext (by simp only [col]; omega))

/-! ## The gradients of one row -/

/-- The gradient at the sub-layer's product row. -/
def mixedBack (g m dho : Fin 1024 → ℝ) : Fin 1024 → ℝ := hatBack m fun j => dho j * g j
/-- The gradient at the token mixer's row. -/
def tokBack (Wo : Fin 768 → Fin 1024 → ℝ) (dm : Fin 1024 → ℝ) (j : Fin 512) : ℝ := timesT Wo dm ⟨j, by omega⟩
/-- The gradient at the attention's output row. -/
def attBack (Wo : Fin 768 → Fin 1024 → ℝ) (dm : Fin 1024 → ℝ) (j : Fin 256) : ℝ := timesT Wo dm ⟨512 + j, by omega⟩
/-- The gradient at the attention's weights of one head. -/
def probBack (KV : Fin 256 → Fin 512 → ℝ) (da : Fin 256 → ℝ) (h : Fin 4) (k : Fin 256) : ℝ :=
  ∑ d, da (hd h d) * KV k (valCol (hd h d))
/-- The gradient of the normalised exponentials with value `p`, applied to `t`. -/
def softBack (p t : Fin 256 → ℝ) (k : Fin 256) : ℝ := p k * (t k - ∑ l, t l * p l)
/-- The gradient at the products of queries and keys of one head. -/
def scoreBack (KV : Fin 256 → Fin 512 → ℝ) (q da : Fin 256 → ℝ) (h : Fin 4) (k : Fin 256) : ℝ :=
  softBack (prob KV q h) (probBack KV da h) k * (1 / 8)
/-- The gradient at the query row. -/
def queryBack (KV : Fin 256 → Fin 512 → ℝ) (q da : Fin 256 → ℝ) (j : Fin 256) : ℝ :=
  ∑ k, scoreBack KV q da (headOf j) k * KV k (keyCol j)
/-- What one row adds to the gradient at the memory's keys and values. -/
def memBack (KV : Fin 256 → Fin 512 → ℝ) (q da : Fin 256 → ℝ) (k : Fin 256) (j : Fin 512) : ℝ :=
  if h : (j : ℕ) < 256 then scoreBack KV q da (headOf ⟨j, h⟩) k * q ⟨j, h⟩
  else prob KV q (headOf ⟨j - 256, by omega⟩) k * da ⟨j - 256, by omega⟩
/-- The gradient at the sub-layer's input row. -/
def mixIn (g h dho du : Fin 1024 → ℝ) (j : Fin 1024) : ℝ := dho j + hatBack h (fun k => du k * g k) j

end Cert.Mixing
-- ==== Proof.SbProducts.lean ====
/- The sub-layer of a stick-breaking layer: what its bodies' products do to arrays of real numbers, and its arrays' forms. -/
module

public import proofs.«01_k».proof.Proof.Mixing
public import proofs.«01_k».proof.Proof.Gen.Kernel2Ideal.Skeleton
public import Idealize.ShloMosaic.Lib.Pipeline.ReadBack

@[expose] public section

set_option maxRecDepth 16384

noncomputable section

namespace Cert.MixSb

open Idealize.ShloMosaic Cert.Kernel2Ideal Cert.Kernel2Ideal.Gen Cert.FfnBlock Cert.Mixing

set_option backward.isDefEq.respectTransparency.types false

theorem product0 (x : Fin 1024 → Fin 1024 → ℝ) (y : Fin 1024 → Fin 256 → ℝ) :
    matmul dot_S1024x1024_S1024x256_S1024x256_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product1 (x : Fin 256 → Fin 1024 → ℝ) (y : Fin 1024 → Fin 1792 → ℝ) :
    matmul dot_S256x1024_S1024x1792_S256x1792_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product2 (x : Fin 256 → Fin 1024 → ℝ) (y : Fin 256 → Fin 512 → ℝ) :
    matmul dot_S256x1024_S256x512_S1024x512_0_0_1_1_n_n none (lift2 (φ := .bf16) x) (lift2 (φ := .bf16) y) (lift2 (φ := .f32) fun _ _ => 0)
      = lift2 fun i j => ∑ k, x k i * y k j := by
  funext i; pointwise [lift2]; simp only [← EReal.coe_mul]; rw [coe_sum]; simp
theorem product3 (x : Fin 256 → Fin 128 → ℝ) (y : Fin 256 → Fin 128 → ℝ) :
    matmul dot_S256x128_S256x128_S256x256_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product4 (x : Fin 256 → Fin 256 → ℝ) (y : Fin 1024 → Fin 256 → ℝ) :
    matmul dot_S256x256_S1024x256_S256x1024_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product5 (x : Fin 256 → Fin 256 → ℝ) (y : Fin 256 → Fin 128 → ℝ) :
    matmul dot_S256x256_S256x128_S256x128_0_0_1_1_n_n none (lift2 (φ := .bf16) x) (lift2 (φ := .bf16) y) (lift2 (φ := .f32) fun _ _ => 0)
      = lift2 fun i j => ∑ k, x k i * y k j := by
  funext i; pointwise [lift2]; simp only [← EReal.coe_mul]; rw [coe_sum]; simp
theorem product6 (x : Fin 256 → Fin 256 → ℝ) (y : Fin 256 → Fin 128 → ℝ) :
    matmul dot_S256x256_S256x128_S256x128_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product7 (x : Fin 256 → Fin 256 → ℝ) (y : Fin 256 → Fin 512 → ℝ) :
    matmul dot_S256x256_S256x512_S256x512_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product8 (x : Fin 256 → Fin 256 → ℝ) (y : Fin 768 → Fin 256 → ℝ) :
    matmul dot_S256x256_S768x256_S256x768_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product9 (x : Fin 256 → Fin 512 → ℝ) (y : Fin 1024 → Fin 512 → ℝ) :
    matmul dot_S256x512_S1024x512_S256x1024_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product10 (x : Fin 256 → Fin 512 → ℝ) (y : Fin 256 → Fin 512 → ℝ) :
    matmul dot_S256x512_S256x512_S256x256_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product11 (x : Fin 256 → Fin 768 → ℝ) (y : Fin 768 → Fin 256 → ℝ) :
    matmul dot_S256x768_S768x256_S256x256_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product12 (x : Fin 768 → Fin 1024 → ℝ) (y : Fin 1024 → Fin 256 → ℝ) :
    matmul dot_S768x1024_S1024x256_S768x256_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp

/-- A gain as the one-row array the kernel takes. -/
abbrev argG (g : Fin 1024 → ℝ) : Vec Ideal S1x1024 .f32 := lift2 (φ := .f32) (n := 1) fun _ => g
/-- A block of 256 rows. -/
abbrev argY (X : Fin 256 → Fin 1024 → ℝ) : Vec Ideal S256x1024 .f32 := lift2 (φ := .f32) X
/-- The memory's projection weights in four row slots. -/
abbrev argKv (W : Fin 1024 → Fin 512 → ℝ) : Vec Ideal S4x256x512 .bf16 := lift3 (φ := .bf16) fun s i j => W (quarter s i) j
/-- The output weights in four column slots. -/
abbrev argWo (W : Fin 768 → Fin 1024 → ℝ) : Vec Ideal S4x768x256 .bf16 := lift3 (φ := .bf16) fun s i j => W i (quarter s j)
/-- The input weights in their single slot. -/
abbrev argWi (W : Fin 1024 → Fin 1792 → ℝ) : Vec Ideal S1x1024x1792 .bf16 := lift3 (φ := .bf16) fun _ i j => W i j

end Cert.MixSb
-- ==== Proof.SbForward.lean ====
/- What the forward bodies of a stick-breaking layer's sub-layer compute on one block: the memory's projection, the input projection, and the attention with the output product. -/
module

public import proofs.«01_k».proof.Proof.SbProducts
public import proofs.«01_k».proof.Proof.Gen.Kernel2Ideal.Frame.Region0
public import proofs.«01_k».proof.Proof.Gen.Kernel2Ideal.Frame.Region1
public import proofs.«01_k».proof.Proof.Gen.Kernel2Ideal.Frame.Region2
public import Idealize.ShloMosaic.Lib.Pipeline.ReadBack

@[expose] public section

set_option maxRecDepth 16384

noncomputable section

namespace Cert.MixSb

open Idealize.ShloMosaic Cert.Kernel2Ideal Cert.Kernel2Ideal.Gen Cert.FfnBlock Cert.Mixing Idealize.ShloMosaic.TcCoe

set_option backward.isDefEq.respectTransparency.types false

variable (g gm : Fin 1024 → ℝ) (M X : Fin 256 → Fin 1024 → ℝ) (Wkv : Fin 1024 → Fin 512 → ℝ) (Wi : Fin 1024 → Fin 1792 → ℝ)
  (KV : Fin 256 → Fin 512 → ℝ) (Wo : Fin 768 → Fin 1024 → ℝ) (T : Fin 256 → Fin 512 → ℝ) (Q : Fin 256 → Fin 256 → ℝ)

theorem out_kv (x : Vec Ideal S256x512 .bf16) : View.canon [⟨r0_6, x⟩] = x := View.canon_cons_unit_lit _ _ _ (by decide)

/-- The memory's keys and values. -/
theorem memory_out : out0_3 (argY M) (argG gm) (argKv Wkv) = lift2 (φ := .bf16) fun k => times Wkv (normed gm (M k)) := by
  unfold out0_3
  refine (out_kv _).trans ?_
  simp only [whole_256_1024_f32, whole_1_1024_f32, slot_kv0, slot_kv1, slot_kv2, slot_kv3]
  simp only [k0_pay1, mulf_lift2]
  rw [sum1]
  simp only [mulf_lift2, cast_col256, cst_width, divf_width, cst_eps, addf_lift2, rsqrt_ms, cols_256, cast_same, rows_256, truncf_lift2, cut_256_1024_0, cut_256_1024_256, cut_256_1024_512, cut_256_1024_768, drop_256_512, constant_lift2, product0, product1, product2, product3, product4, product5, product6, product7, product8, product9, product10, product11, product12]
  refine congrArg lift2 (funext fun i => funext fun j => ?_)
  exact (sum_quarters fun q => normed gm (M i) q * Wkv q j).symm
theorem out_u (x : Vec Ideal S256x1024 .bf16) : View.canon [⟨r1_0, x⟩] = x := View.canon_cons_unit_lit _ _ _ (by decide)
theorem out_p (x : Vec Ideal S256x1792 .bf16) : View.canon [⟨r1_3, x⟩] = x := View.canon_cons_unit_lit _ _ _ (by decide)

theorem input_normed : k1_pay1 (argY X) (argG g) = lift2 (φ := .bf16) fun i => normed g (X i) := by
  simp only [k1_pay1, mulf_lift2]
  rw [sum1]
  simp only [mulf_lift2, cast_col256, cst_width, divf_width, cst_eps, addf_lift2, rsqrt_ms, cols_256, cast_same, rows_256, truncf_lift2]
  rfl

/-- The normed rows. -/
theorem input_out_u : out1_3 (argY X) (argG g) (argWi Wi) = lift2 (φ := .bf16) fun i => normed g (X i) := by
  unfold out1_3
  refine (out_u _).trans ?_
  simp only [whole_256_1024_f32, whole_1_1024_f32, input_normed]

/-- The input projection. -/
theorem input_out_p : out1_4 (argY X) (argG g) (argWi Wi) = lift2 (φ := .bf16) fun i => times Wi (normed g (X i)) := by
  unfold out1_4
  refine (out_p _).trans ?_
  simp only [whole_256_1024_f32, whole_1_1024_f32, whole_1_1024_1792_bf16, k1_pay2, input_normed, drop_1024_1792, constant_lift2, product0, product1, product2, product3, product4, product5, product6, product7, product8, product9, product10, product11, product12, truncf_lift2]
  rfl

/-! ## The attention over the memory rows -/

theorem low_mask : k2_pay2 = low := mask_low _

theorem score_1 : k2_pay7 (F := Ideal) (lift2 (φ := .bf16) Q) (lift2 (φ := .bf16) fun i j => KV i (col 0 (by norm_num) j)) = lift2 fun i => score KV (Q i) 1 := by
  simp only [k2_pay7, k2_pay3, k2_pay4, k2_pay5, low_mask, cast_same, truncf_lift2, cut_128_256_0, cst_zero16, select_low, constant_lift2, product0, product1, product2, product3, product4, product5, product6, product7, product8, product9, product10, product11, product12, cst_eighth, mulf_lift2,
    sum_low, sum_high, hd_1, key_1]
  rfl
theorem score_2 : k2_pay8 (F := Ideal) (lift2 (φ := .bf16) Q) (lift2 (φ := .bf16) fun i j => KV i (col 128 (by norm_num) j)) = lift2 fun i => score KV (Q i) 2 := by
  simp only [k2_pay8, k2_pay3, k2_pay4, k2_pay6, low_mask, cast_same, truncf_lift2, cut_128_256_128, cst_zero16, select_low, constant_lift2, product0, product1, product2, product3, product4, product5, product6, product7, product8, product9, product10, product11, product12, cst_eighth, mulf_lift2,
    sum_low, sum_high, hd_2, key_2]
  rfl
theorem score_3 : k2_pay9 (F := Ideal) (lift2 (φ := .bf16) Q) (lift2 (φ := .bf16) fun i j => KV i (col 128 (by norm_num) j)) = lift2 fun i => score KV (Q i) 3 := by
  simp only [k2_pay9, k2_pay3, k2_pay4, k2_pay6, low_mask, cast_same, truncf_lift2, cut_128_256_128, cst_zero16, select_low, constant_lift2, product0, product1, product2, product3, product4, product5, product6, product7, product8, product9, product10, product11, product12, cst_eighth, mulf_lift2,
    sum_low, sum_high, hd_3, key_3]
  rfl
theorem exp_0 : k2_pay10 (F := Ideal) (lift2 (φ := .bf16) Q) (lift2 (φ := .bf16) fun i j => KV i (col 0 (by norm_num) j))
    = lift2 fun i k => Real.exp (score KV (Q i) 0 k - top (score KV (Q i) 0)) := by
  simp only [k2_pay10, k2_pay3, k2_pay4, k2_pay5, low_mask, cast_same, truncf_lift2, cut_128_256_0, cst_zero16, select_low, constant_lift2, product0, product1, product2, product3, product4, product5, product6, product7, product8, product9, product10, product11, product12, cst_eighth, mulf_lift2,
    sum_low, sum_high, hd_0, key_0]
  rw [max1]
  simp only [cast_col256, cols_256_256, subf_lift2, exp_lift2]
  rfl
theorem soft_of (S : Fin 256 → Fin 256 → ℝ) : k2_pay11 (F := Ideal) (lift2 (φ := .f32) S) = lift2 fun i => soft (S i) := by
  simp only [k2_pay11]
  rw [max1]
  simp only [cast_col256, cols_256_256, subf_lift2, exp_lift2]
  rw [sum1]
  simp only [cast_col256, cols_256_256, divf_soft]
  rfl
theorem weigh_0 (E : Fin 256 → Fin 256 → ℝ) (V : Fin 256 → Fin 128 → ℝ) :
    k2_pay12 (F := Ideal) (lift2 (φ := .f32) fun i k => Real.exp (E i k)) (lift2 (φ := .bf16) V)
      = lift2 fun i j => ∑ k, Real.exp (E i k) / (∑ l, Real.exp (E i l)) * V k j := by
  simp only [k2_pay12]
  rw [sum1]
  simp only [cast_col256, cols_256_256, divf_soft, cast_same, truncf_lift2, constant_lift2, product0, product1, product2, product3, product4, product5, product6, product7, product8, product9, product10, product11, product12]
theorem weigh_1 (S : Fin 256 → Fin 256 → ℝ) (V : Fin 256 → Fin 128 → ℝ) :
    k2_pay13 (F := Ideal) (lift2 (φ := .f32) S) (lift2 (φ := .bf16) V) = lift2 fun i j => ∑ k, soft (S i) k * V k j := by
  simp only [k2_pay13]
  rw [max1]
  simp only [cast_col256, cols_256_256, subf_lift2, exp_lift2]
  rw [sum1]
  simp only [cast_col256, cols_256_256, divf_soft, cast_same, truncf_lift2, constant_lift2, product0, product1, product2, product3, product4, product5, product6, product7, product8, product9, product10, product11, product12]
  rfl
theorem weigh_2 (S : Fin 256 → Fin 256 → ℝ) (V : Fin 256 → Fin 128 → ℝ) :
    k2_pay14 (F := Ideal) (lift2 (φ := .f32) S) (lift2 (φ := .bf16) V) = lift2 fun i j => ∑ k, soft (S i) k * V k j := by
  simp only [k2_pay14]
  rw [max1]
  simp only [cast_col256, cols_256_256, subf_lift2, exp_lift2]
  rw [sum1]
  simp only [cast_col256, cols_256_256, divf_soft, cast_same, truncf_lift2, constant_lift2, product0, product1, product2, product3, product4, product5, product6, product7, product8, product9, product10, product11, product12]
  rfl

/-- What one head adds to an attention row. -/
theorem cat_of (A1 A2 A3 : Fin 256 → Fin 128 → ℝ) (S : Fin 256 → Fin 256 → ℝ) (V : Fin 256 → Fin 128 → ℝ) :
    k2_pay15 (F := Ideal) low (lift2 (φ := .f32) S) (lift2 (φ := .f32) A1) (lift2 (φ := .f32) A2) (lift2 (φ := .f32) A3) (lift2 (φ := .bf16) V) (lift2 (φ := .f32) T)
      = lift2 (φ := .bf16) fun i => sideBySide (T i) (fun j => if (j : ℕ) < 64 then A1 i j else A2 i j)
          (fun j => if (j : ℕ) < 64 then A3 i j else ∑ k, S i k * V k j) := by
  rw [k2_pay15]
  refine (concat_parts_of (x0 := T) (x1 := fun i j => if (j : ℕ) < 64 then A1 i j else A2 i j) (x2 := fun i j => if (j : ℕ) < 64 then A3 i j else ∑ k, S i k * V k j) ?_ ?_ ?_ _).trans rfl
  · simp only [cast_same, truncf_lift2]
  · simp only [cast_same, select_low, truncf_lift2]
  · simp only [cast_same, truncf_lift2, constant_lift2, product0, product1, product2, product3, product4, product5, product6, product7, product8, product9, product10, product11, product12, select_low]

theorem all_0 : k2_pay19 (F := Ideal) (argY X) (lift2 (φ := .f32) T) (lift2 (φ := .bf16) Q) (lift2 (φ := .bf16) KV) (argWo Wo) (argG g) = low := low_mask
theorem all_1 : k2_pay20 (F := Ideal) (argY X) (lift2 (φ := .f32) T) (lift2 (φ := .bf16) Q) (lift2 (φ := .bf16) KV) (argWo Wo) (argG g) = lift2 (φ := .f32) fun i => prob KV (Q i) 3 := by
  simp only [k2_pay20, whole_256_256_bf16, piece_kv128, score_3, soft_of]
  rfl
theorem all_2 : k2_pay21 (F := Ideal) (argY X) (lift2 (φ := .f32) T) (lift2 (φ := .bf16) Q) (lift2 (φ := .bf16) KV) (argWo Wo) (argG g) = lift2 (φ := .f32) fun i j => ∑ k, prob KV (Q i) 0 k * KV k (valCol (col 0 (by norm_num) j)) := by
  simp only [k2_pay21, whole_256_256_bf16, piece_kv0, piece_kv256, exp_0, weigh_0]
  exact congrArg lift2 (funext fun i => funext fun j => Finset.sum_congr rfl fun k _ => congrArg₂ (· * ·) rfl (congrArg (KV k) (Fin.ext (by simp [col, valCol]))))
theorem all_3 : k2_pay22 (F := Ideal) (argY X) (lift2 (φ := .f32) T) (lift2 (φ := .bf16) Q) (lift2 (φ := .bf16) KV) (argWo Wo) (argG g) = lift2 (φ := .f32) fun i j => ∑ k, prob KV (Q i) 1 k * KV k (valCol (col 0 (by norm_num) j)) := by
  simp only [k2_pay22, whole_256_256_bf16, piece_kv0, piece_kv256, score_1, weigh_1]
  exact congrArg lift2 (funext fun i => funext fun j => Finset.sum_congr rfl fun k _ => congrArg₂ (· * ·) rfl (congrArg (KV k) (Fin.ext (by simp [col, valCol]))))
theorem all_4 : k2_pay23 (F := Ideal) (argY X) (lift2 (φ := .f32) T) (lift2 (φ := .bf16) Q) (lift2 (φ := .bf16) KV) (argWo Wo) (argG g) = lift2 (φ := .f32) fun i j => ∑ k, prob KV (Q i) 2 k * KV k (valCol (col 128 (by norm_num) j)) := by
  simp only [k2_pay23, whole_256_256_bf16, piece_kv128, piece_kv384, score_2, weigh_2]
  exact congrArg lift2 (funext fun i => funext fun j => Finset.sum_congr rfl fun k _ => congrArg₂ (· * ·) rfl (congrArg (KV k) (Fin.ext (by simp [col, valCol]; omega))))

/-- The token rows with the attention rows after them. -/
theorem cat_all : k2_pay15 (F := Ideal) low (lift2 (φ := .f32) fun i => prob KV (Q i) 3)
      (lift2 (φ := .f32) fun i j => ∑ k, prob KV (Q i) 0 k * KV k (valCol (col 0 (by norm_num) j)))
      (lift2 (φ := .f32) fun i j => ∑ k, prob KV (Q i) 1 k * KV k (valCol (col 0 (by norm_num) j)))
      (lift2 (φ := .f32) fun i j => ∑ k, prob KV (Q i) 2 k * KV k (valCol (col 128 (by norm_num) j)))
      (lift2 (φ := .bf16) fun i j => KV i (col 384 (by norm_num) j)) (lift2 (φ := .f32) T)
    = lift2 (φ := .bf16) fun i => beside (T i) (attend KV (Q i)) := by
  rw [cat_of]
  refine congrArg lift2 (funext fun i => ?_)
  refine Eq.trans ?_ (side_attend (T i) fun h j => ∑ k, prob KV (Q i) h k * KV k (valCol j))
  have e : ∀ j : Fin 128, (col 384 (by norm_num) j : Fin 512) = valCol (col 128 (by norm_num) j) := fun j => Fin.ext (by simp [col, valCol]; omega)
  simp only [e]

/-- The product rows. -/
theorem mix_all : k2_pay16 (F := Ideal) low (lift2 (φ := .f32) fun i => prob KV (Q i) 3)
      (lift2 (φ := .f32) fun i j => ∑ k, prob KV (Q i) 0 k * KV k (valCol (col 0 (by norm_num) j)))
      (lift2 (φ := .f32) fun i j => ∑ k, prob KV (Q i) 1 k * KV k (valCol (col 0 (by norm_num) j)))
      (lift2 (φ := .f32) fun i j => ∑ k, prob KV (Q i) 2 k * KV k (valCol (col 128 (by norm_num) j)))
      (lift2 (φ := .bf16) fun i j => KV i (col 384 (by norm_num) j)) (lift2 (φ := .f32) T)
      (lift3 (φ := .bf16) fun (_ : Fin 1) i j => Wo i (quarter 0 j)) (lift3 (φ := .bf16) fun (_ : Fin 1) i j => Wo i (quarter 1 j))
      (lift3 (φ := .bf16) fun (_ : Fin 1) i j => Wo i (quarter 2 j)) (lift3 (φ := .bf16) fun (_ : Fin 1) i j => Wo i (quarter 3 j))
    = lift2 (φ := .f32) fun i => mixed KV Wo (T i) (Q i) := by
  rw [k2_pay16]
  refine (concat_quarters_of (x0 := fun i j => mixed KV Wo (T i) (Q i) (quarter 0 j)) (x1 := fun i j => mixed KV Wo (T i) (Q i) (quarter 1 j))
    (x2 := fun i j => mixed KV Wo (T i) (Q i) (quarter 2 j)) (x3 := fun i j => mixed KV Wo (T i) (Q i) (quarter 3 j)) ?_ ?_ ?_ ?_ _).trans ?_
  iterate 4
    · simp only [cat_all, drop_768_256, constant_lift2, product0, product1, product2, product3, product4, product5, product6, product7, product8, product9, product10, product11, product12]
      rfl
  exact congrArg lift2 (funext fun i => joined_quarters (mixed KV Wo (T i) (Q i)))

theorem out_cat (x : Vec Ideal S256x768 .bf16) : View.canon [⟨r2_6, x⟩] = x := View.canon_cons_unit_lit _ _ _ (by decide)
theorem out_row (x : Vec Ideal S256x1024 .f32) : View.canon [⟨r2_11, x⟩] = x := View.canon_cons_unit_lit _ _ _ (by decide)

theorem mix_out_cat : out2_7 (F := Ideal) (argY X) (lift2 (φ := .f32) T) (lift2 (φ := .bf16) Q) (lift2 (φ := .bf16) KV) (argWo Wo) (argG g) = lift2 (φ := .bf16) fun i => beside (T i) (attend KV (Q i)) := by
  unfold out2_7
  refine (out_cat _).trans ?_
  simp only [all_0, all_1, all_2, all_3, all_4, piece_kv384, whole_256_512_f32, slot_wo0, slot_wo1, slot_wo2, slot_wo3, cat_all]
theorem mix_out_mix : out2_8 (F := Ideal) (argY X) (lift2 (φ := .f32) T) (lift2 (φ := .bf16) Q) (lift2 (φ := .bf16) KV) (argWo Wo) (argG g) = lift2 (φ := .f32) fun i => mixed KV Wo (T i) (Q i) := by
  unfold out2_8
  refine (out_row _).trans ?_
  simp only [all_0, all_1, all_2, all_3, all_4, piece_kv384, whole_256_512_f32, slot_wo0, slot_wo1, slot_wo2, slot_wo3, mix_all]
theorem mix_out_h : out2_6 (F := Ideal) (argY X) (lift2 (φ := .f32) T) (lift2 (φ := .bf16) Q) (lift2 (φ := .bf16) KV) (argWo Wo) (argG g) = lift2 (φ := .f32) fun i => mixOut g (X i) (mixed KV Wo (T i) (Q i)) := by
  unfold out2_6
  refine (out_row _).trans ?_
  simp only [all_0, all_1, all_2, all_3, all_4, piece_kv384, whole_256_512_f32, slot_wo0, slot_wo1, slot_wo2, slot_wo3, whole_256_1024_f32, whole_1_1024_f32, k2_pay1, k2_pay17, mix_all]
  simp only [k2_pay18, mulf_lift2]
  rw [sum1]
  simp only [mulf_lift2, cast_col256, cst_width, divf_width, cst_eps, addf_lift2, rsqrt_ms, cols_256, cast_same, rows_256, truncf_lift2]
  rfl

end Cert.MixSb
-- ==== Proof.MixBack.lean ====
/- The gradient of the mixing sub-layer around its token mixer: how its rows fall into the column pieces the kernels store,
   and the layout steps of the gradient kernels. -/
module

public import proofs.«01_k».proof.Proof.Mixing
public import proofs.«01_k».proof.Proof.Gen.Kernel3Ideal.Skeleton
public import Idealize.ShloMosaic.Lib.Ring
public import Idealize.ShloMosaic.Lib.Pipeline.ReadBack

@[expose] public section

set_option maxRecDepth 16384

noncomputable section

namespace Cert.Mixing

open Idealize.ShloMosaic Cert.Kernel2Ideal Cert.Kernel2Ideal.Gen Cert.FfnBlock

set_option backward.isDefEq.respectTransparency.types false

/-! ## Rows in pieces -/

/-- The column of the attention's entry `j` in the row of the output product. -/
def attCol (j : Fin 256) : Fin 768 := ⟨512 + j, by omega⟩
theorem att_0 (h h') (d : Fin 64) : (col 512 h (col 0 h' d : Fin 128) : Fin 768) = attCol (hd 0 d) := Fin.ext (by simp [col, hd, attCol])
theorem att_1 (h h') (d : Fin 64) : (col 512 h (col 64 h' d : Fin 128) : Fin 768) = attCol (hd 1 d) := Fin.ext (by simp [col, hd, attCol])
theorem att_2 (h h') (d : Fin 64) : (col 640 h (col 0 h' d : Fin 128) : Fin 768) = attCol (hd 2 d) := Fin.ext (by simp [col, hd, attCol]; omega)
theorem att_3 (h h') (d : Fin 64) : (col 640 h (col 64 h' d : Fin 128) : Fin 768) = attCol (hd 3 d) := Fin.ext (by simp [col, hd, attCol]; omega)
theorem att_low (h) (j : Fin 128) : (col 512 h j : Fin 768) = attCol (col 0 (by norm_num) j) := Fin.ext (by simp [col, attCol])
theorem att_high (h) (j : Fin 128) : (col 640 h j : Fin 768) = attCol (col 128 (by norm_num) j) := Fin.ext (by simp [col, attCol]; omega)

/-- Two heads' sums over rows, each on its own lanes. -/
theorem two_heads (A B x : Fin 256 → ℝ) (p : Prop) [Decidable p] :
    ∑ i, A i * (if p then x i else 0) + ∑ i, B i * (if p then 0 else x i) = ∑ i, (if p then A i else B i) * x i := by
  split_ifs <;> simp

variable (KV : Fin 256 → Fin 512 → ℝ) (q da : Fin 256 → ℝ) (k : Fin 256)

theorem headOf_0 {j : Fin 128} {o : ℕ} (ho : o = 0) (h) (hj : (j : ℕ) < 64) : headOf ⟨o + j, h⟩ = 0 := by subst ho; exact Fin.ext (by simp [headOf]; omega)
theorem headOf_1 {j : Fin 128} {o : ℕ} (ho : o = 0) (h) (hj : ¬ (j : ℕ) < 64) : headOf ⟨o + j, h⟩ = 1 := by subst ho; exact Fin.ext (by simp [headOf]; omega)
theorem headOf_2 {j : Fin 128} {o : ℕ} (ho : o = 128) (h) (hj : (j : ℕ) < 64) : headOf ⟨o + j, h⟩ = 2 := by subst ho; exact Fin.ext (by simp [headOf]; omega)
theorem headOf_3 {j : Fin 128} {o : ℕ} (ho : o = 128) (h) (hj : ¬ (j : ℕ) < 64) : headOf ⟨o + j, h⟩ = 3 := by subst ho; exact Fin.ext (by simp [headOf]; omega)

/-- The first half of the gradient at the query row. -/
theorem query_low (j : Fin 128) (h) : queryBack KV q da ⟨0 + j, h⟩
    = if (j : ℕ) < 64 then ∑ k, scoreBack KV q da 0 k * KV k (col 0 (by norm_num) j) else ∑ k, scoreBack KV q da 1 k * KV k (col 0 (by norm_num) j) := by
  unfold queryBack
  split_ifs with hj
  · rw [headOf_0 rfl h hj]; rfl
  · rw [headOf_1 rfl h hj]; rfl
/-- The second half of the gradient at the query row. -/
theorem query_high (j : Fin 128) (h) : queryBack KV q da ⟨128 + j, h⟩
    = if (j : ℕ) < 64 then ∑ k, scoreBack KV q da 2 k * KV k (col 128 (by norm_num) j) else ∑ k, scoreBack KV q da 3 k * KV k (col 128 (by norm_num) j) := by
  unfold queryBack
  split_ifs with hj
  · rw [headOf_2 rfl h hj]; rfl
  · rw [headOf_3 rfl h hj]; rfl
/-- One row's addition to the gradient at the keys of the first two heads. -/
theorem mem_0 (j : Fin 128) (h) : memBack KV q da k ⟨0 + j, h⟩
    = (if (j : ℕ) < 64 then scoreBack KV q da 0 k else scoreBack KV q da 1 k) * q (col 0 (by norm_num) j) := by
  have hj := j.isLt
  unfold memBack
  rw [dif_pos (by show 0 + (j : ℕ) < 256; omega)]
  split_ifs with hj
  · rw [headOf_0 rfl _ hj]; rfl
  · rw [headOf_1 rfl _ hj]; rfl
theorem mem_1 (j : Fin 128) (h) : memBack KV q da k ⟨128 + j, h⟩
    = (if (j : ℕ) < 64 then scoreBack KV q da 2 k else scoreBack KV q da 3 k) * q (col 128 (by norm_num) j) := by
  have hj := j.isLt
  unfold memBack
  rw [dif_pos (by show 128 + (j : ℕ) < 256; omega)]
  split_ifs with hj
  · rw [headOf_2 rfl _ hj]; rfl
  · rw [headOf_3 rfl _ hj]; rfl
theorem mem_2 (j : Fin 128) (h) : memBack KV q da k ⟨256 + j, h⟩
    = (if (j : ℕ) < 64 then prob KV q 0 k else prob KV q 1 k) * da (col 0 (by norm_num) j) := by
  have hj := j.isLt
  unfold memBack
  rw [dif_neg (by show ¬ (256 + (j : ℕ) < 256); omega)]
  have e : ∀ h', (⟨256 + (j : ℕ) - 256, h'⟩ : Fin 256) = ⟨0 + j, by omega⟩ := fun h' => Fin.ext (by show 256 + (j : ℕ) - 256 = 0 + j; omega)
  simp only [e]
  split_ifs with hj
  · rw [headOf_0 rfl _ hj]; rfl
  · rw [headOf_1 rfl _ hj]; rfl
theorem mem_3 (j : Fin 128) (h) : memBack KV q da k ⟨384 + j, h⟩
    = (if (j : ℕ) < 64 then prob KV q 2 k else prob KV q 3 k) * da (col 128 (by norm_num) j) := by
  have hj := j.isLt
  unfold memBack
  rw [dif_neg (by show ¬ (384 + (j : ℕ) < 256); omega)]
  have e : ∀ h', (⟨384 + (j : ℕ) - 256, h'⟩ : Fin 256) = ⟨128 + j, by omega⟩ := fun h' => Fin.ext (by show 384 + (j : ℕ) - 256 = 128 + j; omega)
  simp only [e]
  split_ifs with hj
  · rw [headOf_2 rfl _ hj]; rfl
  · rw [headOf_3 rfl _ hj]; rfl

/-- The row of the stick-breaking layer's projection: queries, keys and values of the token mixer, and the memory's queries. -/
def fourParts (a b c : Fin 512 → ℝ) (d : Fin 256 → ℝ) (j : Fin 1792) : ℝ :=
  if h0 : (j : ℕ) < 512 then a ⟨j, h0⟩ else if h1 : (j : ℕ) - 512 < 512 then b ⟨j - 512, h1⟩
  else if h2 : (j : ℕ) - 1024 < 512 then c ⟨j - 1024, h2⟩ else d ⟨j - 1536, by omega⟩

theorem four_0 (a b c d) (j : Fin 512) (h) : fourParts a b c d ⟨0 + j, h⟩ = a j := by
  have hj := j.isLt
  unfold fourParts
  rw [dif_pos (by show 0 + (j : ℕ) < 512; omega)]
  exact congrArg a (Fin.ext (by show 0 + (j : ℕ) = j; omega))
theorem four_1 (a b c d) (j : Fin 512) (h) : fourParts a b c d ⟨512 + j, h⟩ = b j := by
  have hj := j.isLt
  unfold fourParts
  rw [dif_neg (by show ¬ (512 + (j : ℕ) < 512); omega), dif_pos (by show 512 + (j : ℕ) - 512 < 512; omega)]
  exact congrArg b (Fin.ext (by show 512 + (j : ℕ) - 512 = j; omega))
theorem four_2 (a b c d) (j : Fin 512) (h) : fourParts a b c d ⟨1024 + j, h⟩ = c j := by
  have hj := j.isLt
  unfold fourParts
  rw [dif_neg (by show ¬ (1024 + (j : ℕ) < 512); omega), dif_neg (by show ¬ (1024 + (j : ℕ) - 512 < 512); omega), dif_pos (by show 1024 + (j : ℕ) - 1024 < 512; omega)]
  exact congrArg c (Fin.ext (by show 1024 + (j : ℕ) - 1024 = j; omega))
theorem four_3 (a b c d) (j : Fin 256) (h) : fourParts a b c d ⟨1536 + j, h⟩ = d j := by
  have hj := j.isLt
  unfold fourParts
  rw [dif_neg (by show ¬ (1536 + (j : ℕ) < 512); omega), dif_neg (by show ¬ (1536 + (j : ℕ) - 512 < 512); omega), dif_neg (by show ¬ (1536 + (j : ℕ) - 1024 < 512); omega)]
  exact congrArg d (Fin.ext (by show 1536 + (j : ℕ) - 1536 = j; omega))
theorem beside_0 (a d) (j : Fin 512) (h) : beside a d ⟨0 + j, h⟩ = a j := by
  have hj := j.isLt
  unfold beside
  rw [dif_pos (by show 0 + (j : ℕ) < 512; omega)]
  exact congrArg a (Fin.ext (by show 0 + (j : ℕ) = j; omega))
theorem beside_1 (a d) (j : Fin 256) (h) : beside a d ⟨512 + j, h⟩ = d j := by
  have hj := j.isLt
  unfold beside
  rw [dif_neg (by show ¬ (512 + (j : ℕ) < 512); omega)]
  exact congrArg d (Fin.ext (by show 512 + (j : ℕ) - 512 = j; omega))

/-- A sum over the pooling layer's projection, part by part. -/
theorem sum_768 (f : Fin 768 → ℝ) : ∑ q, f q = ∑ j : Fin 512, f (col 0 (by norm_num) j) + ∑ j : Fin 256, f (col 512 (by norm_num) j) := by
  refine (Fin.sum_univ_add (a := 512) (b := 256) f).trans (congrArg₂ (· + ·) (Finset.sum_congr rfl fun j _ => congrArg f (Fin.ext ?_)) (Finset.sum_congr rfl fun j _ => congrArg f (Fin.ext ?_)))
  · simp [col]
  · simp [col]
/-- A sum over the stick-breaking layer's projection, part by part. -/
theorem sum_1792 (f : Fin 1792 → ℝ) : ∑ q, f q = ∑ j : Fin 512, f (col 0 (by norm_num) j) + ∑ j : Fin 512, f (col 512 (by norm_num) j)
    + ∑ j : Fin 512, f (col 1024 (by norm_num) j) + ∑ j : Fin 256, f (col 1536 (by norm_num) j) := by
  refine (Fin.sum_univ_add (a := 1536) (b := 256) f).trans (congrArg₂ (· + ·) ?_ (Finset.sum_congr rfl fun j _ => congrArg f (Fin.ext ?_)))
  · refine (Fin.sum_univ_add (a := 1024) (b := 512) fun j => f (Fin.castAdd 256 j)).trans (congrArg₂ (· + ·) ?_ (Finset.sum_congr rfl fun j _ => congrArg f (Fin.ext ?_)))
    · refine (Fin.sum_univ_add (a := 512) (b := 512) fun j => f (Fin.castAdd 256 (Fin.castAdd 512 j))).trans (congrArg₂ (· + ·) (Finset.sum_congr rfl fun j _ => congrArg f (Fin.ext ?_)) (Finset.sum_congr rfl fun j _ => congrArg f (Fin.ext ?_)))
      · simp [col]
      · simp [col, Nat.add_comm]
    · simp [col]
  · simp [col]

/-! ## Pieces stored over anything -/

theorem store_kv {p0 : Fin 256 → Fin 128 → ℝ} {p1 : Fin 256 → Fin 128 → ℝ} {p2 : Fin 256 → Fin 128 → ℝ} {p3 : Fin 256 → Fin 128 → ℝ} (Y : Fin 256 → Fin 512 → ℝ) (L : List (View.Piece (Elt Ideal) S256x512 .f32))
    {b0} {b1} {b2} {b3}
    (h0 : ∀ i (j : Fin 128) (hj : 0 + (j : ℕ) < 512), p0 i j = Y i ⟨0 + j, hj⟩)
    (h1 : ∀ i (j : Fin 128) (hj : 256 + (j : ℕ) < 512), p1 i j = Y i ⟨256 + j, hj⟩)
    (h2 : ∀ i (j : Fin 128) (hj : 128 + (j : ℕ) < 512), p2 i j = Y i ⟨128 + j, hj⟩)
    (h3 : ∀ i (j : Fin 128) (hj : 384 + (j : ℕ) < 512), p3 i j = Y i ⟨384 + j, hj⟩) :
    View.canon (Val := Elt Ideal) (s := S256x512) (e := .f32)
      (⟨Rect.unit (s := S256x512) ![0, 384] ![256, 128] b3, lift2 (φ := .f32) p3⟩
        :: ⟨Rect.unit (s := S256x512) ![0, 128] ![256, 128] b2, lift2 (φ := .f32) p2⟩
        :: ⟨Rect.unit (s := S256x512) ![0, 256] ![256, 128] b1, lift2 (φ := .f32) p1⟩
        :: ⟨Rect.unit (s := S256x512) ![0, 0] ![256, 128] b0, lift2 (φ := .f32) p0⟩ :: L)
      = lift2 (φ := .f32) Y := by
  funext y
  exact View.canon_append_of_piecesOf (Val := Elt Ideal) (e := .f32) (lift2 (φ := .f32) Y) L [⟨_, _⟩, ⟨_, _⟩, ⟨_, _⟩, ⟨_, _⟩]
    ⟨fun x => col_at b3 Y p3 h3 x, fun x => col_at b2 Y p2 h2 x, fun x => col_at b1 Y p1 h1 x, fun x => col_at b0 Y p0 h0 x, trivial⟩ y (View.cover_of_tiled [⟨_, _⟩, ⟨_, _⟩, ⟨_, _⟩, ⟨_, _⟩] ![256, 128] (by rfl) y)
theorem store_qm {p0 : Fin 256 → Fin 128 → ℝ} {p1 : Fin 256 → Fin 128 → ℝ} (Y : Fin 256 → Fin 256 → ℝ) (L : List (View.Piece (Elt Ideal) S256x256 .bf16))
    {b0} {b1}
    (h0 : ∀ i (j : Fin 128) (hj : 0 + (j : ℕ) < 256), p0 i j = Y i ⟨0 + j, hj⟩)
    (h1 : ∀ i (j : Fin 128) (hj : 128 + (j : ℕ) < 256), p1 i j = Y i ⟨128 + j, hj⟩) :
    View.canon (Val := Elt Ideal) (s := S256x256) (e := .bf16)
      (⟨Rect.unit (s := S256x256) ![0, 128] ![256, 128] b1, lift2 (φ := .bf16) p1⟩
        :: ⟨Rect.unit (s := S256x256) ![0, 0] ![256, 128] b0, lift2 (φ := .bf16) p0⟩ :: L)
      = lift2 (φ := .bf16) Y := by
  funext y
  exact View.canon_append_of_piecesOf (Val := Elt Ideal) (e := .bf16) (lift2 (φ := .bf16) Y) L [⟨_, _⟩, ⟨_, _⟩]
    ⟨fun x => col_at b1 Y p1 h1 x, fun x => col_at b0 Y p0 h0 x, trivial⟩ y (View.cover_of_tiled [⟨_, _⟩, ⟨_, _⟩] ![256, 128] (by rfl) y)
theorem store_1792 {p0 : Fin 256 → Fin 512 → ℝ} {p1 : Fin 256 → Fin 512 → ℝ} {p2 : Fin 256 → Fin 512 → ℝ} {p3 : Fin 256 → Fin 256 → ℝ} (Y : Fin 256 → Fin 1792 → ℝ) (L : List (View.Piece (Elt Ideal) S256x1792 .bf16))
    {b0} {b1} {b2} {b3}
    (h0 : ∀ i (j : Fin 512) (hj : 0 + (j : ℕ) < 1792), p0 i j = Y i ⟨0 + j, hj⟩)
    (h1 : ∀ i (j : Fin 512) (hj : 512 + (j : ℕ) < 1792), p1 i j = Y i ⟨512 + j, hj⟩)
    (h2 : ∀ i (j : Fin 512) (hj : 1024 + (j : ℕ) < 1792), p2 i j = Y i ⟨1024 + j, hj⟩)
    (h3 : ∀ i (j : Fin 256) (hj : 1536 + (j : ℕ) < 1792), p3 i j = Y i ⟨1536 + j, hj⟩) :
    View.canon (Val := Elt Ideal) (s := S256x1792) (e := .bf16)
      (⟨Rect.unit (s := S256x1792) ![0, 1536] ![256, 256] b3, lift2 (φ := .bf16) p3⟩
        :: ⟨Rect.unit (s := S256x1792) ![0, 1024] ![256, 512] b2, lift2 (φ := .bf16) p2⟩
        :: ⟨Rect.unit (s := S256x1792) ![0, 512] ![256, 512] b1, lift2 (φ := .bf16) p1⟩
        :: ⟨Rect.unit (s := S256x1792) ![0, 0] ![256, 512] b0, lift2 (φ := .bf16) p0⟩ :: L)
      = lift2 (φ := .bf16) Y := by
  funext y
  exact View.canon_append_of_piecesOf (Val := Elt Ideal) (e := .bf16) (lift2 (φ := .bf16) Y) L [⟨_, _⟩, ⟨_, _⟩, ⟨_, _⟩, ⟨_, _⟩]
    ⟨fun x => col_at b3 Y p3 h3 x, fun x => col_at b2 Y p2 h2 x, fun x => col_at b1 Y p1 h1 x, fun x => col_at b0 Y p0 h0 x, trivial⟩ y (View.cover_of_tiledBy [⟨_, _⟩, ⟨_, _⟩, ⟨_, _⟩, ⟨_, _⟩] ![256, 256] (by sl_kernel_rfl) y)
theorem store_768 {p0 : Fin 256 → Fin 512 → ℝ} {p1 : Fin 256 → Fin 256 → ℝ} (Y : Fin 256 → Fin 768 → ℝ) (L : List (View.Piece (Elt Ideal) S256x768 .bf16))
    {b0} {b1}
    (h0 : ∀ i (j : Fin 512) (hj : 0 + (j : ℕ) < 768), p0 i j = Y i ⟨0 + j, hj⟩)
    (h1 : ∀ i (j : Fin 256) (hj : 512 + (j : ℕ) < 768), p1 i j = Y i ⟨512 + j, hj⟩) :
    View.canon (Val := Elt Ideal) (s := S256x768) (e := .bf16)
      (⟨Rect.unit (s := S256x768) ![0, 512] ![256, 256] b1, lift2 (φ := .bf16) p1⟩
        :: ⟨Rect.unit (s := S256x768) ![0, 0] ![256, 512] b0, lift2 (φ := .bf16) p0⟩ :: L)
      = lift2 (φ := .bf16) Y := by
  funext y
  exact View.canon_append_of_piecesOf (Val := Elt Ideal) (e := .bf16) (lift2 (φ := .bf16) Y) L [⟨_, _⟩, ⟨_, _⟩]
    ⟨fun x => col_at b1 Y p1 h1 x, fun x => col_at b0 Y p0 h0 x, trivial⟩ y (View.cover_of_tiledBy [⟨_, _⟩, ⟨_, _⟩] ![256, 256] (by sl_kernel_rfl) y)
theorem store_dw_1792 {p0 : Fin 1024 → Fin 256 → ℝ} {p1 : Fin 1024 → Fin 256 → ℝ} {p2 : Fin 1024 → Fin 256 → ℝ} {p3 : Fin 1024 → Fin 256 → ℝ} {p4 : Fin 1024 → Fin 256 → ℝ} {p5 : Fin 1024 → Fin 256 → ℝ} {p6 : Fin 1024 → Fin 256 → ℝ} (Y : Fin 1024 → Fin 1792 → ℝ) (L : List (View.Piece (Elt Ideal) S1024x1792 .f32))
    {b0} {b1} {b2} {b3} {b4} {b5} {b6}
    (h0 : ∀ i (j : Fin 256) (hj : 0 + (j : ℕ) < 1792), p0 i j = Y i ⟨0 + j, hj⟩)
    (h1 : ∀ i (j : Fin 256) (hj : 256 + (j : ℕ) < 1792), p1 i j = Y i ⟨256 + j, hj⟩)
    (h2 : ∀ i (j : Fin 256) (hj : 512 + (j : ℕ) < 1792), p2 i j = Y i ⟨512 + j, hj⟩)
    (h3 : ∀ i (j : Fin 256) (hj : 768 + (j : ℕ) < 1792), p3 i j = Y i ⟨768 + j, hj⟩)
    (h4 : ∀ i (j : Fin 256) (hj : 1024 + (j : ℕ) < 1792), p4 i j = Y i ⟨1024 + j, hj⟩)
    (h5 : ∀ i (j : Fin 256) (hj : 1280 + (j : ℕ) < 1792), p5 i j = Y i ⟨1280 + j, hj⟩)
    (h6 : ∀ i (j : Fin 256) (hj : 1536 + (j : ℕ) < 1792), p6 i j = Y i ⟨1536 + j, hj⟩) :
    View.canon (Val := Elt Ideal) (s := S1024x1792) (e := .f32)
      (⟨Rect.unit (s := S1024x1792) ![0, 1536] ![1024, 256] b6, lift2 (φ := .f32) p6⟩
        :: ⟨Rect.unit (s := S1024x1792) ![0, 1280] ![1024, 256] b5, lift2 (φ := .f32) p5⟩
        :: ⟨Rect.unit (s := S1024x1792) ![0, 1024] ![1024, 256] b4, lift2 (φ := .f32) p4⟩
        :: ⟨Rect.unit (s := S1024x1792) ![0, 768] ![1024, 256] b3, lift2 (φ := .f32) p3⟩
        :: ⟨Rect.unit (s := S1024x1792) ![0, 512] ![1024, 256] b2, lift2 (φ := .f32) p2⟩
        :: ⟨Rect.unit (s := S1024x1792) ![0, 256] ![1024, 256] b1, lift2 (φ := .f32) p1⟩
        :: ⟨Rect.unit (s := S1024x1792) ![0, 0] ![1024, 256] b0, lift2 (φ := .f32) p0⟩ :: L)
      = lift2 (φ := .f32) Y := by
  funext y
  exact View.canon_append_of_piecesOf (Val := Elt Ideal) (e := .f32) (lift2 (φ := .f32) Y) L [⟨_, _⟩, ⟨_, _⟩, ⟨_, _⟩, ⟨_, _⟩, ⟨_, _⟩, ⟨_, _⟩, ⟨_, _⟩]
    ⟨fun x => col_at b6 Y p6 h6 x, fun x => col_at b5 Y p5 h5 x, fun x => col_at b4 Y p4 h4 x, fun x => col_at b3 Y p3 h3 x, fun x => col_at b2 Y p2 h2 x, fun x => col_at b1 Y p1 h1 x, fun x => col_at b0 Y p0 h0 x, trivial⟩ y (View.cover_of_tiled [⟨_, _⟩, ⟨_, _⟩, ⟨_, _⟩, ⟨_, _⟩, ⟨_, _⟩, ⟨_, _⟩, ⟨_, _⟩] ![1024, 256] (by rfl) y)
theorem store_dw_768 {p0 : Fin 1024 → Fin 256 → ℝ} {p1 : Fin 1024 → Fin 256 → ℝ} {p2 : Fin 1024 → Fin 256 → ℝ} (Y : Fin 1024 → Fin 768 → ℝ) (L : List (View.Piece (Elt Ideal) Kernel3Ideal.S1024x768 .f32))
    {b0} {b1} {b2}
    (h0 : ∀ i (j : Fin 256) (hj : 0 + (j : ℕ) < 768), p0 i j = Y i ⟨0 + j, hj⟩)
    (h1 : ∀ i (j : Fin 256) (hj : 256 + (j : ℕ) < 768), p1 i j = Y i ⟨256 + j, hj⟩)
    (h2 : ∀ i (j : Fin 256) (hj : 512 + (j : ℕ) < 768), p2 i j = Y i ⟨512 + j, hj⟩) :
    View.canon (Val := Elt Ideal) (s := Kernel3Ideal.S1024x768) (e := .f32)
      (⟨Rect.unit (s := Kernel3Ideal.S1024x768) ![0, 512] ![1024, 256] b2, lift2 (φ := .f32) p2⟩
        :: ⟨Rect.unit (s := Kernel3Ideal.S1024x768) ![0, 256] ![1024, 256] b1, lift2 (φ := .f32) p1⟩
        :: ⟨Rect.unit (s := Kernel3Ideal.S1024x768) ![0, 0] ![1024, 256] b0, lift2 (φ := .f32) p0⟩ :: L)
      = lift2 (φ := .f32) Y := by
  funext y
  exact View.canon_append_of_piecesOf (Val := Elt Ideal) (e := .f32) (lift2 (φ := .f32) Y) L [⟨_, _⟩, ⟨_, _⟩, ⟨_, _⟩]
    ⟨fun x => col_at b2 Y p2 h2 x, fun x => col_at b1 Y p1 h1 x, fun x => col_at b0 Y p0 h0 x, trivial⟩ y (View.cover_of_tiled [⟨_, _⟩, ⟨_, _⟩, ⟨_, _⟩] ![1024, 256] (by rfl) y)
theorem store_wo {p0 p1 p2 p3 : Fin 768 → Fin 256 → ℝ} (Y : Fin 4 → Fin 768 → Fin 256 → ℝ) (L : List (View.Piece (Elt Ideal) S4x768x256 .f32))
    {b0 b1 b2 b3} (h0 : ∀ i j, p0 i j = Y 0 i j) (h1 : ∀ i j, p1 i j = Y 1 i j) (h2 : ∀ i j, p2 i j = Y 2 i j) (h3 : ∀ i j, p3 i j = Y 3 i j) :
    View.canon (Val := Elt Ideal) (s := S4x768x256) (e := .f32)
      (⟨Rect.unit (s := S4x768x256) ![3, 0, 0] ![1, 768, 256] b3, lift3 (φ := .f32) fun _ => p3⟩
        :: ⟨Rect.unit (s := S4x768x256) ![2, 0, 0] ![1, 768, 256] b2, lift3 (φ := .f32) fun _ => p2⟩
        :: ⟨Rect.unit (s := S4x768x256) ![1, 0, 0] ![1, 768, 256] b1, lift3 (φ := .f32) fun _ => p1⟩
        :: ⟨Rect.unit (s := S4x768x256) ![0, 0, 0] ![1, 768, 256] b0, lift3 (φ := .f32) fun _ => p0⟩ :: L)
      = lift3 (φ := .f32) Y := by
  funext y
  exact View.canon_append_of_piecesOf (Val := Elt Ideal) (e := .f32) (lift3 (φ := .f32) Y) L [⟨_, _⟩, ⟨_, _⟩, ⟨_, _⟩, ⟨_, _⟩]
    ⟨fun x => slot_at b3 Y p3 (by norm_num) h3 x, fun x => slot_at b2 Y p2 (by norm_num) h2 x, fun x => slot_at b1 Y p1 (by norm_num) h1 x,
      fun x => slot_at b0 Y p0 (by norm_num) h0 x, trivial⟩ y (View.cover_of_tiled [⟨_, _⟩, ⟨_, _⟩, ⟨_, _⟩, ⟨_, _⟩] ![1, 768, 256] (by rfl) y)

/-! ## Pieces read -/

theorem tile_wi_0 (x : Fin 1 → Fin 1024 → Fin 1792 → ℝ) (h) :
    View.ld (Val := Elt Ideal) (e' := .bf16) (lift3 x : FVec Ideal S1x1024x1792 .bf16) (Rect.unit (s := S1x1024x1792) ![0, 0, 0] ![1, 1024, 512] h)
      = lift3 (φ := .bf16) fun (_ : Fin 1) i j => x 0 i (col 0 (by norm_num) j) := by
  funext y; pointwise [lift3]; exact congrArg Real.toEReal (congrArg (x 0 (y 1)) (Fin.ext (by simp [col])))
theorem tile_wi_512 (x : Fin 1 → Fin 1024 → Fin 1792 → ℝ) (h) :
    View.ld (Val := Elt Ideal) (e' := .bf16) (lift3 x : FVec Ideal S1x1024x1792 .bf16) (Rect.unit (s := S1x1024x1792) ![0, 0, 512] ![1, 1024, 512] h)
      = lift3 (φ := .bf16) fun (_ : Fin 1) i j => x 0 i (col 512 (by norm_num) j) := by
  funext y; pointwise [lift3]; exact congrArg Real.toEReal (congrArg (x 0 (y 1)) (Fin.ext (by simp [col])))
theorem tile_wi_1024 (x : Fin 1 → Fin 1024 → Fin 1792 → ℝ) (h) :
    View.ld (Val := Elt Ideal) (e' := .bf16) (lift3 x : FVec Ideal S1x1024x1792 .bf16) (Rect.unit (s := S1x1024x1792) ![0, 0, 1024] ![1, 1024, 512] h)
      = lift3 (φ := .bf16) fun (_ : Fin 1) i j => x 0 i (col 1024 (by norm_num) j) := by
  funext y; pointwise [lift3]; exact congrArg Real.toEReal (congrArg (x 0 (y 1)) (Fin.ext (by simp [col])))
theorem tile_wi_1536 (x : Fin 1 → Fin 1024 → Fin 1792 → ℝ) (h) :
    View.ld (Val := Elt Ideal) (e' := .bf16) (lift3 x : FVec Ideal S1x1024x1792 .bf16) (Rect.unit (s := S1x1024x1792) ![0, 0, 1536] ![1, 1024, 256] h)
      = lift3 (φ := .bf16) fun (_ : Fin 1) i j => x 0 i (col 1536 (by norm_num) j) := by
  funext y; pointwise [lift3]; exact congrArg Real.toEReal (congrArg (x 0 (y 1)) (Fin.ext (by simp [col])))
theorem tile_wp0_0 (x : Fin 4 → Fin 256 → Fin 768 → ℝ) (h) :
    View.ld (Val := Elt Ideal) (e' := .bf16) (lift3 x : FVec Ideal Kernel3Ideal.S4x256x768 .bf16) (Rect.unit (s := Kernel3Ideal.S4x256x768) ![0, 0, 0] ![1, 256, 512] h)
      = lift3 (φ := .bf16) fun (_ : Fin 1) i j => x 0 i (col 0 (by norm_num) j) := by
  funext y; pointwise [lift3]; exact congrArg Real.toEReal (congrArg (x 0 (y 1)) (Fin.ext (by simp [col])))
theorem tile_wp0_512 (x : Fin 4 → Fin 256 → Fin 768 → ℝ) (h) :
    View.ld (Val := Elt Ideal) (e' := .bf16) (lift3 x : FVec Ideal Kernel3Ideal.S4x256x768 .bf16) (Rect.unit (s := Kernel3Ideal.S4x256x768) ![0, 0, 512] ![1, 256, 256] h)
      = lift3 (φ := .bf16) fun (_ : Fin 1) i j => x 0 i (col 512 (by norm_num) j) := by
  funext y; pointwise [lift3]; exact congrArg Real.toEReal (congrArg (x 0 (y 1)) (Fin.ext (by simp [col])))
theorem tile_wp1_0 (x : Fin 4 → Fin 256 → Fin 768 → ℝ) (h) :
    View.ld (Val := Elt Ideal) (e' := .bf16) (lift3 x : FVec Ideal Kernel3Ideal.S4x256x768 .bf16) (Rect.unit (s := Kernel3Ideal.S4x256x768) ![1, 0, 0] ![1, 256, 512] h)
      = lift3 (φ := .bf16) fun (_ : Fin 1) i j => x 1 i (col 0 (by norm_num) j) := by
  funext y; pointwise [lift3]; exact congrArg Real.toEReal (congrArg (x 1 (y 1)) (Fin.ext (by simp [col])))
theorem tile_wp1_512 (x : Fin 4 → Fin 256 → Fin 768 → ℝ) (h) :
    View.ld (Val := Elt Ideal) (e' := .bf16) (lift3 x : FVec Ideal Kernel3Ideal.S4x256x768 .bf16) (Rect.unit (s := Kernel3Ideal.S4x256x768) ![1, 0, 512] ![1, 256, 256] h)
      = lift3 (φ := .bf16) fun (_ : Fin 1) i j => x 1 i (col 512 (by norm_num) j) := by
  funext y; pointwise [lift3]; exact congrArg Real.toEReal (congrArg (x 1 (y 1)) (Fin.ext (by simp [col])))
theorem tile_wp2_0 (x : Fin 4 → Fin 256 → Fin 768 → ℝ) (h) :
    View.ld (Val := Elt Ideal) (e' := .bf16) (lift3 x : FVec Ideal Kernel3Ideal.S4x256x768 .bf16) (Rect.unit (s := Kernel3Ideal.S4x256x768) ![2, 0, 0] ![1, 256, 512] h)
      = lift3 (φ := .bf16) fun (_ : Fin 1) i j => x 2 i (col 0 (by norm_num) j) := by
  funext y; pointwise [lift3]; exact congrArg Real.toEReal (congrArg (x 2 (y 1)) (Fin.ext (by simp [col])))
theorem tile_wp2_512 (x : Fin 4 → Fin 256 → Fin 768 → ℝ) (h) :
    View.ld (Val := Elt Ideal) (e' := .bf16) (lift3 x : FVec Ideal Kernel3Ideal.S4x256x768 .bf16) (Rect.unit (s := Kernel3Ideal.S4x256x768) ![2, 0, 512] ![1, 256, 256] h)
      = lift3 (φ := .bf16) fun (_ : Fin 1) i j => x 2 i (col 512 (by norm_num) j) := by
  funext y; pointwise [lift3]; exact congrArg Real.toEReal (congrArg (x 2 (y 1)) (Fin.ext (by simp [col])))
theorem tile_wp3_0 (x : Fin 4 → Fin 256 → Fin 768 → ℝ) (h) :
    View.ld (Val := Elt Ideal) (e' := .bf16) (lift3 x : FVec Ideal Kernel3Ideal.S4x256x768 .bf16) (Rect.unit (s := Kernel3Ideal.S4x256x768) ![3, 0, 0] ![1, 256, 512] h)
      = lift3 (φ := .bf16) fun (_ : Fin 1) i j => x 3 i (col 0 (by norm_num) j) := by
  funext y; pointwise [lift3]; exact congrArg Real.toEReal (congrArg (x 3 (y 1)) (Fin.ext (by simp [col])))
theorem tile_wp3_512 (x : Fin 4 → Fin 256 → Fin 768 → ℝ) (h) :
    View.ld (Val := Elt Ideal) (e' := .bf16) (lift3 x : FVec Ideal Kernel3Ideal.S4x256x768 .bf16) (Rect.unit (s := Kernel3Ideal.S4x256x768) ![3, 0, 512] ![1, 256, 256] h)
      = lift3 (φ := .bf16) fun (_ : Fin 1) i j => x 3 i (col 512 (by norm_num) j) := by
  funext y; pointwise [lift3]; exact congrArg Real.toEReal (congrArg (x 3 (y 1)) (Fin.ext (by simp [col])))
theorem tile_d1792_bf16_0 (Y : Fin 1024 → Fin 1792 → ℝ) (h) :
    View.ld (Val := Elt Ideal) (e' := .bf16) (lift2 Y : FVec Ideal S1024x1792 .bf16) (Rect.unit (s := S1024x1792) ![0, 0] ![1024, 256] h)
      = lift2 (φ := .bf16) fun i j => Y i (col 0 (by norm_num) j) := by
  funext y; pointwise [lift2]; exact congrArg Real.toEReal (congrArg (Y (y 0)) (Fin.ext (by simp [col])))
theorem tile_d1792_bf16_256 (Y : Fin 1024 → Fin 1792 → ℝ) (h) :
    View.ld (Val := Elt Ideal) (e' := .bf16) (lift2 Y : FVec Ideal S1024x1792 .bf16) (Rect.unit (s := S1024x1792) ![0, 256] ![1024, 256] h)
      = lift2 (φ := .bf16) fun i j => Y i (col 256 (by norm_num) j) := by
  funext y; pointwise [lift2]; exact congrArg Real.toEReal (congrArg (Y (y 0)) (Fin.ext (by simp [col])))
theorem tile_d1792_bf16_512 (Y : Fin 1024 → Fin 1792 → ℝ) (h) :
    View.ld (Val := Elt Ideal) (e' := .bf16) (lift2 Y : FVec Ideal S1024x1792 .bf16) (Rect.unit (s := S1024x1792) ![0, 512] ![1024, 256] h)
      = lift2 (φ := .bf16) fun i j => Y i (col 512 (by norm_num) j) := by
  funext y; pointwise [lift2]; exact congrArg Real.toEReal (congrArg (Y (y 0)) (Fin.ext (by simp [col])))
theorem tile_d1792_bf16_768 (Y : Fin 1024 → Fin 1792 → ℝ) (h) :
    View.ld (Val := Elt Ideal) (e' := .bf16) (lift2 Y : FVec Ideal S1024x1792 .bf16) (Rect.unit (s := S1024x1792) ![0, 768] ![1024, 256] h)
      = lift2 (φ := .bf16) fun i j => Y i (col 768 (by norm_num) j) := by
  funext y; pointwise [lift2]; exact congrArg Real.toEReal (congrArg (Y (y 0)) (Fin.ext (by simp [col])))
theorem tile_d1792_bf16_1024 (Y : Fin 1024 → Fin 1792 → ℝ) (h) :
    View.ld (Val := Elt Ideal) (e' := .bf16) (lift2 Y : FVec Ideal S1024x1792 .bf16) (Rect.unit (s := S1024x1792) ![0, 1024] ![1024, 256] h)
      = lift2 (φ := .bf16) fun i j => Y i (col 1024 (by norm_num) j) := by
  funext y; pointwise [lift2]; exact congrArg Real.toEReal (congrArg (Y (y 0)) (Fin.ext (by simp [col])))
theorem tile_d1792_bf16_1280 (Y : Fin 1024 → Fin 1792 → ℝ) (h) :
    View.ld (Val := Elt Ideal) (e' := .bf16) (lift2 Y : FVec Ideal S1024x1792 .bf16) (Rect.unit (s := S1024x1792) ![0, 1280] ![1024, 256] h)
      = lift2 (φ := .bf16) fun i j => Y i (col 1280 (by norm_num) j) := by
  funext y; pointwise [lift2]; exact congrArg Real.toEReal (congrArg (Y (y 0)) (Fin.ext (by simp [col])))
theorem tile_d1792_bf16_1536 (Y : Fin 1024 → Fin 1792 → ℝ) (h) :
    View.ld (Val := Elt Ideal) (e' := .bf16) (lift2 Y : FVec Ideal S1024x1792 .bf16) (Rect.unit (s := S1024x1792) ![0, 1536] ![1024, 256] h)
      = lift2 (φ := .bf16) fun i j => Y i (col 1536 (by norm_num) j) := by
  funext y; pointwise [lift2]; exact congrArg Real.toEReal (congrArg (Y (y 0)) (Fin.ext (by simp [col])))
theorem tile_d768_bf16_0 (Y : Fin 1024 → Fin 768 → ℝ) (h) :
    View.ld (Val := Elt Ideal) (e' := .bf16) (lift2 Y : FVec Ideal Kernel3Ideal.S1024x768 .bf16) (Rect.unit (s := Kernel3Ideal.S1024x768) ![0, 0] ![1024, 256] h)
      = lift2 (φ := .bf16) fun i j => Y i (col 0 (by norm_num) j) := by
  funext y; pointwise [lift2]; exact congrArg Real.toEReal (congrArg (Y (y 0)) (Fin.ext (by simp [col])))
theorem tile_d768_bf16_256 (Y : Fin 1024 → Fin 768 → ℝ) (h) :
    View.ld (Val := Elt Ideal) (e' := .bf16) (lift2 Y : FVec Ideal Kernel3Ideal.S1024x768 .bf16) (Rect.unit (s := Kernel3Ideal.S1024x768) ![0, 256] ![1024, 256] h)
      = lift2 (φ := .bf16) fun i j => Y i (col 256 (by norm_num) j) := by
  funext y; pointwise [lift2]; exact congrArg Real.toEReal (congrArg (Y (y 0)) (Fin.ext (by simp [col])))
theorem tile_d768_bf16_512 (Y : Fin 1024 → Fin 768 → ℝ) (h) :
    View.ld (Val := Elt Ideal) (e' := .bf16) (lift2 Y : FVec Ideal Kernel3Ideal.S1024x768 .bf16) (Rect.unit (s := Kernel3Ideal.S1024x768) ![0, 512] ![1024, 256] h)
      = lift2 (φ := .bf16) fun i j => Y i (col 512 (by norm_num) j) := by
  funext y; pointwise [lift2]; exact congrArg Real.toEReal (congrArg (Y (y 0)) (Fin.ext (by simp [col])))
theorem tile_d1792_f32_0 (Y : Fin 1024 → Fin 1792 → ℝ) (h) :
    View.ld (Val := Elt Ideal) (e' := .f32) (lift2 Y : FVec Ideal S1024x1792 .f32) (Rect.unit (s := S1024x1792) ![0, 0] ![1024, 256] h)
      = lift2 (φ := .f32) fun i j => Y i (col 0 (by norm_num) j) := by
  funext y; pointwise [lift2]; exact congrArg Real.toEReal (congrArg (Y (y 0)) (Fin.ext (by simp [col])))
theorem tile_d1792_f32_256 (Y : Fin 1024 → Fin 1792 → ℝ) (h) :
    View.ld (Val := Elt Ideal) (e' := .f32) (lift2 Y : FVec Ideal S1024x1792 .f32) (Rect.unit (s := S1024x1792) ![0, 256] ![1024, 256] h)
      = lift2 (φ := .f32) fun i j => Y i (col 256 (by norm_num) j) := by
  funext y; pointwise [lift2]; exact congrArg Real.toEReal (congrArg (Y (y 0)) (Fin.ext (by simp [col])))
theorem tile_d1792_f32_512 (Y : Fin 1024 → Fin 1792 → ℝ) (h) :
    View.ld (Val := Elt Ideal) (e' := .f32) (lift2 Y : FVec Ideal S1024x1792 .f32) (Rect.unit (s := S1024x1792) ![0, 512] ![1024, 256] h)
      = lift2 (φ := .f32) fun i j => Y i (col 512 (by norm_num) j) := by
  funext y; pointwise [lift2]; exact congrArg Real.toEReal (congrArg (Y (y 0)) (Fin.ext (by simp [col])))
theorem tile_d1792_f32_768 (Y : Fin 1024 → Fin 1792 → ℝ) (h) :
    View.ld (Val := Elt Ideal) (e' := .f32) (lift2 Y : FVec Ideal S1024x1792 .f32) (Rect.unit (s := S1024x1792) ![0, 768] ![1024, 256] h)
      = lift2 (φ := .f32) fun i j => Y i (col 768 (by norm_num) j) := by
  funext y; pointwise [lift2]; exact congrArg Real.toEReal (congrArg (Y (y 0)) (Fin.ext (by simp [col])))
theorem tile_d1792_f32_1024 (Y : Fin 1024 → Fin 1792 → ℝ) (h) :
    View.ld (Val := Elt Ideal) (e' := .f32) (lift2 Y : FVec Ideal S1024x1792 .f32) (Rect.unit (s := S1024x1792) ![0, 1024] ![1024, 256] h)
      = lift2 (φ := .f32) fun i j => Y i (col 1024 (by norm_num) j) := by
  funext y; pointwise [lift2]; exact congrArg Real.toEReal (congrArg (Y (y 0)) (Fin.ext (by simp [col])))
theorem tile_d1792_f32_1280 (Y : Fin 1024 → Fin 1792 → ℝ) (h) :
    View.ld (Val := Elt Ideal) (e' := .f32) (lift2 Y : FVec Ideal S1024x1792 .f32) (Rect.unit (s := S1024x1792) ![0, 1280] ![1024, 256] h)
      = lift2 (φ := .f32) fun i j => Y i (col 1280 (by norm_num) j) := by
  funext y; pointwise [lift2]; exact congrArg Real.toEReal (congrArg (Y (y 0)) (Fin.ext (by simp [col])))
theorem tile_d1792_f32_1536 (Y : Fin 1024 → Fin 1792 → ℝ) (h) :
    View.ld (Val := Elt Ideal) (e' := .f32) (lift2 Y : FVec Ideal S1024x1792 .f32) (Rect.unit (s := S1024x1792) ![0, 1536] ![1024, 256] h)
      = lift2 (φ := .f32) fun i j => Y i (col 1536 (by norm_num) j) := by
  funext y; pointwise [lift2]; exact congrArg Real.toEReal (congrArg (Y (y 0)) (Fin.ext (by simp [col])))
theorem tile_d768_f32_0 (Y : Fin 1024 → Fin 768 → ℝ) (h) :
    View.ld (Val := Elt Ideal) (e' := .f32) (lift2 Y : FVec Ideal Kernel3Ideal.S1024x768 .f32) (Rect.unit (s := Kernel3Ideal.S1024x768) ![0, 0] ![1024, 256] h)
      = lift2 (φ := .f32) fun i j => Y i (col 0 (by norm_num) j) := by
  funext y; pointwise [lift2]; exact congrArg Real.toEReal (congrArg (Y (y 0)) (Fin.ext (by simp [col])))
theorem tile_d768_f32_256 (Y : Fin 1024 → Fin 768 → ℝ) (h) :
    View.ld (Val := Elt Ideal) (e' := .f32) (lift2 Y : FVec Ideal Kernel3Ideal.S1024x768 .f32) (Rect.unit (s := Kernel3Ideal.S1024x768) ![0, 256] ![1024, 256] h)
      = lift2 (φ := .f32) fun i j => Y i (col 256 (by norm_num) j) := by
  funext y; pointwise [lift2]; exact congrArg Real.toEReal (congrArg (Y (y 0)) (Fin.ext (by simp [col])))
theorem tile_d768_f32_512 (Y : Fin 1024 → Fin 768 → ℝ) (h) :
    View.ld (Val := Elt Ideal) (e' := .f32) (lift2 Y : FVec Ideal Kernel3Ideal.S1024x768 .f32) (Rect.unit (s := Kernel3Ideal.S1024x768) ![0, 512] ![1024, 256] h)
      = lift2 (φ := .f32) fun i j => Y i (col 512 (by norm_num) j) := by
  funext y; pointwise [lift2]; exact congrArg Real.toEReal (congrArg (Y (y 0)) (Fin.ext (by simp [col])))
theorem whole_1024_768_bf16 (x : Vec Ideal S1024x768 .bf16) (h) :
    View.ld x (Rect.unit (s := S1024x768) ![0, 0] S1024x768.size h) = x := by
  exact View.ld_unit_lit _ _ (by decide)
theorem whole_1024_1024_bf16 (x : Vec Ideal S1024x1024 .bf16) (h) :
    View.ld x (Rect.unit (s := S1024x1024) ![0, 0] S1024x1024.size h) = x := by
  exact View.ld_unit_lit _ _ (by decide)

end Cert.Mixing
-- ==== Proof.SbValues.lean ====
/- The sub-layer of a stick-breaking layer over the real numbers: its inputs, its rows, and its gradients. -/
module

public import proofs.«01_k».proof.Proof.MixBack

@[expose] public section

noncomputable section

namespace Cert.MixSb

open Cert.FfnBlock Cert.Mixing

/-- The query's entries of a row of the input projection. -/
def query (p : Fin 1792 → ℝ) (j : Fin 256) : ℝ := p ⟨1536 + j, by omega⟩
/-- The token mixer's entries of a row of the input projection. -/
def forToken (p : Fin 1792 → ℝ) (j : Fin 1536) : ℝ := p ⟨j, by omega⟩

/-- The sub-layer's inputs: its rows, the token mixer's rows, the gradients arriving at the output and at the token
    mixer's part of the projection, the memory, the three gains and the three weights. -/
structure Inputs where
  H : Fin 8192 → Fin 1024 → ℝ
  T : Fin 8192 → Fin 512 → ℝ
  D : Fin 8192 → Fin 1024 → ℝ
  DP : Fin 8192 → Fin 1536 → ℝ
  M : Fin 256 → Fin 1024 → ℝ
  g : Fin 1024 → ℝ
  gm : Fin 1024 → ℝ
  g' : Fin 1024 → ℝ
  Wi : Fin 1024 → Fin 1792 → ℝ
  Wkv : Fin 1024 → Fin 512 → ℝ
  Wo : Fin 768 → Fin 1024 → ℝ

namespace Inputs

variable (I : Inputs)

/-- The memory's keys and values. -/
def mem (k : Fin 256) : Fin 512 → ℝ := times I.Wkv (normed I.gm (I.M k))
/-- The input projection's row. -/
def proj (r : Fin 8192) : Fin 1792 → ℝ := times I.Wi (normed I.g (I.H r))
/-- The token mixer's row with the attention's row after it. -/
def cat (r : Fin 8192) : Fin 768 → ℝ := beside (I.T r) (attend I.mem (query (I.proj r)))
/-- The output product's row. -/
def mix (r : Fin 8192) : Fin 1024 → ℝ := mixed I.mem I.Wo (I.T r) (query (I.proj r))
/-- The sub-layer's output row. -/
def out (r : Fin 8192) : Fin 1024 → ℝ := mixOut I.g' (I.H r) (I.mix r)
/-- The gradient at the output product's row. -/
def dmix (r : Fin 8192) : Fin 1024 → ℝ := mixedBack I.g' (I.mix r) (I.D r)
/-- The gradient at the token mixer's row. -/
def dtok (r : Fin 8192) : Fin 512 → ℝ := tokBack I.Wo (I.dmix r)
/-- The gradient at the query row. -/
def dquery (r : Fin 8192) : Fin 256 → ℝ := queryBack I.mem (query (I.proj r)) (attBack I.Wo (I.dmix r))
/-- The gradient at the memory's keys and values. -/
def dmem (k : Fin 256) (j : Fin 512) : ℝ := ∑ r, memBack I.mem (query (I.proj r)) (attBack I.Wo (I.dmix r)) k j
/-- The gradient at the projection's row. -/
def dproj (r : Fin 8192) : Fin 1792 → ℝ := fourParts (fun j => I.DP r (col 0 (by norm_num) j)) (fun j => I.DP r (col 512 (by norm_num) j)) (fun j => I.DP r (col 1024 (by norm_num) j)) (I.dquery r)
/-- The gradient of the output gain. -/
def dgpost (j : Fin 1024) : ℝ := ∑ r, I.D r j * hat (I.mix r) j
/-- The gradient of the output weights. -/
def dwo (i : Fin 768) (j : Fin 1024) : ℝ := ∑ r, I.cat r i * I.dmix r j
/-- The gradient of the memory's weights. -/
def dwkv (i : Fin 1024) (j : Fin 512) : ℝ := ∑ k, normed I.gm (I.M k) i * I.dmem k j
/-- The gradient of the memory's gain. -/
def dgmem (j : Fin 1024) : ℝ := ∑ k, timesT I.Wkv (I.dmem k) j * hat (I.M k) j
/-- The gradient at the input rows. -/
def dh (r : Fin 8192) : Fin 1024 → ℝ := mixIn I.g (I.H r) (I.D r) (timesT I.Wi (I.dproj r))
/-- The gradient of the input gain. -/
def dgpre (j : Fin 1024) : ℝ := ∑ r, timesT I.Wi (I.dproj r) j * hat (I.H r) j
/-- The gradient of the input weights. -/
def dwin (i : Fin 1024) (j : Fin 1792) : ℝ := ∑ r, normed I.g (I.H r) i * I.dproj r j

end Inputs

end Cert.MixSb
-- ==== Proof.SbForwardArrays.lean ====
/- The forward kernels' output arrays of the stick-breaking layer's sub-layer, on real arrays. -/
module

public import proofs.«01_k».proof.Proof.SbForward
public import proofs.«01_k».proof.Proof.SbValues
public import proofs.«01_k».proof.Proof.BackwardArrays
public import proofs.«01_k».proof.Proof.WeightGradArrays
public import Idealize.ShloMosaic.Lib.Pipeline.ReadBack

@[expose] public section

set_option maxRecDepth 16384

noncomputable section

namespace Cert.MixSb

open Idealize.ShloMosaic Cert.Kernel2Ideal Cert.Kernel2Ideal.Gen Cert.FfnBlock Cert.Mixing Idealize.ShloMosaic.TcCoe

set_option backward.isDefEq.respectTransparency.types false

variable (V : (c : Dev nD) → (b : Ref sig .tc) → Buf (Elt Ideal) ((c : Thread nD τ).loc b)) (c : Dev nD)

/-- The memory's keys and values as the kernels take them. -/
abbrev argMem (X : Fin 256 → Fin 512 → ℝ) : Vec Ideal S256x512 .bf16 := lift2 (φ := .bf16) X
/-- The gradient at the memory's keys and values. -/
abbrev argDmem (X : Fin 256 → Fin 512 → ℝ) : Vec Ideal S256x512 .f32 := lift2 (φ := .f32) X

section
variable (M : Fin 256 → Fin 1024 → ℝ) (gm : Fin 1024 → ℝ) (Wkv : Fin 1024 → Fin 512 → ℝ)

/-- The block index of every window at every grid point. -/
theorem index0 : ∀ t : Fin cfg0.N,
    win0_0.index t = ![0, 0]
    ∧ win0_1.index t = ![0, 0]
    ∧ win0_2.index t = ![0, 0, 0]
    ∧ win0_3.index t = ![0, 0] :=
  (by decide +kernel : ∀ t : Fin grid0.N, _)

/-- The arrays this kernel finds on entry. -/
structure Entry0 : Prop where
  e0 : V c (Pipeline.arrRef spec0 0) = argY M
  e1 : V c (Pipeline.arrRef spec0 1) = argG gm
  e2 : V c (Pipeline.arrRef spec0 2) = argKv Wkv

theorem block0_0 (he : Entry0 V c M gm Wkv) (t : Fin cfg0.N) : iblk0 V c 0 t = argY M := by
  rw [iblk0, he.e0]
  funext y
  show argY M (((cfg0.win 0).blk t).view.emb y) = argY M y
  refine congrArg (argY M) (funext fun a => Fin.ext ?_)
  fin_cases a <;> blk_simp [index0 t]
theorem block0_1 (he : Entry0 V c M gm Wkv) (t : Fin cfg0.N) : iblk0 V c 1 t = argG gm := by
  rw [iblk0, he.e1]
  funext y
  show argG gm (((cfg0.win 1).blk t).view.emb y) = _
  refine congrArg Real.toEReal (congrArg gm (Fin.ext ?_))
  blk_simp [index0 t]
theorem block0_2 (he : Entry0 V c M gm Wkv) (t : Fin cfg0.N) : iblk0 V c 2 t = argKv Wkv := by
  rw [iblk0, he.e2]
  funext y
  show argKv Wkv (((cfg0.win 2).blk t).view.emb y) = argKv Wkv y
  refine congrArg (argKv Wkv) (funext fun a => Fin.ext ?_)
  fin_cases a <;> blk_simp [index0 t]

theorem array_kv (he : Entry0 V c M gm Wkv) :
    (dat0 V c).arrAt 3 cfg0.N = (argMem fun k => times Wkv (normed gm (M k))) := by
  refine (dat0 V c).arrAt_eq_of_covers 3 _ (by decide +kernel) fun t hf y => ?_
  blk_simp
  rw [after0_3, block0_0 V c M gm Wkv he, block0_1 V c M gm Wkv he, block0_2 V c M gm Wkv he, memory_out]
  refine congrArg (argMem fun k => times Wkv (normed gm (M k))) (funext fun a => Fin.ext ?_)
  fin_cases a <;> blk_simp [index0 t]

end

section
variable (H : Fin 8192 → Fin 1024 → ℝ) (g : Fin 1024 → ℝ) (Wi : Fin 1024 → Fin 1792 → ℝ)

/-- The block index of every window at every grid point. -/
theorem index1 : ∀ t : Fin cfg1.N,
    win1_0.index t = ![(t : ℕ), 0]
    ∧ win1_1.index t = ![0, 0]
    ∧ win1_2.index t = ![0, 0, 0]
    ∧ win1_3.index t = ![(t : ℕ), 0]
    ∧ win1_4.index t = ![(t : ℕ), 0] :=
  (by decide +kernel : ∀ t : Fin grid1.N, _)

/-- The arrays this kernel finds on entry. -/
structure Entry1 : Prop where
  e0 : V c (Pipeline.arrRef spec1 0) = (lift2 (φ := .f32) H : FVec Ideal S8192x1024 .f32)
  e1 : V c (Pipeline.arrRef spec1 1) = argG g
  e2 : V c (Pipeline.arrRef spec1 2) = argWi Wi

theorem block1_0 (he : Entry1 V c H g Wi) (t : Fin cfg1.N) : iblk1 V c 0 t = (lift2 (φ := .f32) fun i => H (row256 t i) : FVec Ideal S256x1024 .f32) := by
  rw [iblk1, he.e0]
  funext y
  show (lift2 (φ := .f32) H : FVec Ideal S8192x1024 .f32) (((cfg1.win 0).blk t).view.emb y) = _
  refine congrArg Real.toEReal (congrArg₂ H (Fin.ext ?_) (Fin.ext ?_))
  · blk_simp [index1 t]; exact (row256_val t.isLt (y 0)).symm
  · blk_simp [index1 t]
theorem block1_1 (he : Entry1 V c H g Wi) (t : Fin cfg1.N) : iblk1 V c 1 t = argG g := by
  rw [iblk1, he.e1]
  funext y
  show argG g (((cfg1.win 1).blk t).view.emb y) = _
  refine congrArg Real.toEReal (congrArg g (Fin.ext ?_))
  blk_simp [index1 t]
theorem block1_2 (he : Entry1 V c H g Wi) (t : Fin cfg1.N) : iblk1 V c 2 t = argWi Wi := by
  rw [iblk1, he.e2]
  funext y
  show argWi Wi (((cfg1.win 2).blk t).view.emb y) = argWi Wi y
  refine congrArg (argWi Wi) (funext fun a => Fin.ext ?_)
  fin_cases a <;> blk_simp [index1 t]

theorem array_u (he : Entry1 V c H g Wi) :
    (dat1 V c).arrAt 3 cfg1.N = (lift2 (φ := .bf16) fun i => normed g (H i) : FVec Ideal S8192x1024 .bf16) := by
  refine (dat1 V c).arrAt_eq_of_covers 3 _ (by decide +kernel) fun t hf y => ?_
  blk_simp
  rw [after1_3, block1_0 V c H g Wi he, block1_1 V c H g Wi he, block1_2 V c H g Wi he, input_out_u]
  refine congrArg Real.toEReal (congr (congrArg (fun i => normed g (H i)) (Fin.ext ?_)) (Fin.ext ?_))
  · blk_simp [index1 t]; exact row256_val t.isLt (y 0)
  · blk_simp [index1 t]

theorem array_proj (he : Entry1 V c H g Wi) :
    (dat1 V c).arrAt 4 cfg1.N = (lift2 (φ := .bf16) fun i => times Wi (normed g (H i)) : FVec Ideal S8192x1792 .bf16) := by
  refine (dat1 V c).arrAt_eq_of_covers 4 _ (by decide +kernel) fun t hf y => ?_
  blk_simp
  rw [after1_4, block1_0 V c H g Wi he, block1_1 V c H g Wi he, block1_2 V c H g Wi he, input_out_p]
  refine congrArg Real.toEReal (congr (congrArg (fun i => times Wi (normed g (H i))) (Fin.ext ?_)) (Fin.ext ?_))
  · blk_simp [index1 t]; exact row256_val t.isLt (y 0)
  · blk_simp [index1 t]

end

section
variable (H : Fin 8192 → Fin 1024 → ℝ) (T : Fin 8192 → Fin 512 → ℝ) (Pj : Fin 8192 → Fin 1792 → ℝ) (KV : Fin 256 → Fin 512 → ℝ) (Wo : Fin 768 → Fin 1024 → ℝ) (g : Fin 1024 → ℝ)

/-- The block index of every window at every grid point. -/
theorem index2 : ∀ t : Fin cfg2.N,
    win2_0.index t = ![(t : ℕ), 0]
    ∧ win2_1.index t = ![(t : ℕ), 0]
    ∧ win2_2.index t = ![(t : ℕ), 6]
    ∧ win2_3.index t = ![0, 0]
    ∧ win2_4.index t = ![0, 0, 0]
    ∧ win2_5.index t = ![0, 0]
    ∧ win2_6.index t = ![(t : ℕ), 0]
    ∧ win2_7.index t = ![(t : ℕ), 0]
    ∧ win2_8.index t = ![(t : ℕ), 0] :=
  (by decide +kernel : ∀ t : Fin grid2.N, _)

/-- The arrays this kernel finds on entry. -/
structure Entry2 : Prop where
  e0 : V c (Pipeline.arrRef spec2 0) = (lift2 (φ := .f32) H : FVec Ideal S8192x1024 .f32)
  e1 : V c (Pipeline.arrRef spec2 1) = (lift2 (φ := .f32) T : FVec Ideal S8192x512 .f32)
  e2 : V c (Pipeline.arrRef spec2 2) = (lift2 (φ := .bf16) Pj : FVec Ideal S8192x1792 .bf16)
  e3 : V c (Pipeline.arrRef spec2 3) = argMem KV
  e4 : V c (Pipeline.arrRef spec2 4) = argWo Wo
  e5 : V c (Pipeline.arrRef spec2 5) = argG g

theorem block2_0 (he : Entry2 V c H T Pj KV Wo g) (t : Fin cfg2.N) : iblk2 V c 0 t = (lift2 (φ := .f32) fun i => H (row256 t i) : FVec Ideal S256x1024 .f32) := by
  rw [iblk2, he.e0]
  funext y
  show (lift2 (φ := .f32) H : FVec Ideal S8192x1024 .f32) (((cfg2.win 0).blk t).view.emb y) = _
  refine congrArg Real.toEReal (congrArg₂ H (Fin.ext ?_) (Fin.ext ?_))
  · blk_simp [index2 t]; exact (row256_val t.isLt (y 0)).symm
  · blk_simp [index2 t]
theorem block2_1 (he : Entry2 V c H T Pj KV Wo g) (t : Fin cfg2.N) : iblk2 V c 1 t = (lift2 (φ := .f32) fun i => T (row256 t i) : FVec Ideal S256x512 .f32) := by
  rw [iblk2, he.e1]
  funext y
  show (lift2 (φ := .f32) T : FVec Ideal S8192x512 .f32) (((cfg2.win 1).blk t).view.emb y) = _
  refine congrArg Real.toEReal (congrArg₂ T (Fin.ext ?_) (Fin.ext ?_))
  · blk_simp [index2 t]; exact (row256_val t.isLt (y 0)).symm
  · blk_simp [index2 t]
theorem block2_2 (he : Entry2 V c H T Pj KV Wo g) (t : Fin cfg2.N) : iblk2 V c 2 t = (lift2 (φ := .bf16) fun i => query (Pj (row256 t i)) : FVec Ideal S256x256 .bf16) := by
  rw [iblk2, he.e2]
  funext y
  show (lift2 (φ := .bf16) Pj : FVec Ideal S8192x1792 .bf16) (((cfg2.win 2).blk t).view.emb y) = Real.toEReal (query (Pj (row256 t (y 0))) (y 1))
  refine congrArg Real.toEReal (congrArg₂ Pj (Fin.ext ?_) (Fin.ext ?_))
  · blk_simp [index2 t]; exact (row256_val t.isLt (y 0)).symm
  · blk_simp [index2 t]
theorem block2_3 (he : Entry2 V c H T Pj KV Wo g) (t : Fin cfg2.N) : iblk2 V c 3 t = argMem KV := by
  rw [iblk2, he.e3]
  funext y
  show argMem KV (((cfg2.win 3).blk t).view.emb y) = argMem KV y
  refine congrArg (argMem KV) (funext fun a => Fin.ext ?_)
  fin_cases a <;> blk_simp [index2 t]
theorem block2_4 (he : Entry2 V c H T Pj KV Wo g) (t : Fin cfg2.N) : iblk2 V c 4 t = argWo Wo := by
  rw [iblk2, he.e4]
  funext y
  show argWo Wo (((cfg2.win 4).blk t).view.emb y) = argWo Wo y
  refine congrArg (argWo Wo) (funext fun a => Fin.ext ?_)
  fin_cases a <;> blk_simp [index2 t]
theorem block2_5 (he : Entry2 V c H T Pj KV Wo g) (t : Fin cfg2.N) : iblk2 V c 5 t = argG g := by
  rw [iblk2, he.e5]
  funext y
  show argG g (((cfg2.win 5).blk t).view.emb y) = _
  refine congrArg Real.toEReal (congrArg g (Fin.ext ?_))
  blk_simp [index2 t]

theorem array_out (he : Entry2 V c H T Pj KV Wo g) :
    (dat2 V c).arrAt 6 cfg2.N = (lift2 (φ := .f32) fun i => mixOut g (H i) (mixed KV Wo (T i) (query (Pj i))) : FVec Ideal S8192x1024 .f32) := by
  refine (dat2 V c).arrAt_eq_of_covers 6 _ (by decide +kernel) fun t hf y => ?_
  blk_simp
  rw [after2_6, block2_0 V c H T Pj KV Wo g he, block2_1 V c H T Pj KV Wo g he, block2_2 V c H T Pj KV Wo g he, block2_3 V c H T Pj KV Wo g he, block2_4 V c H T Pj KV Wo g he, block2_5 V c H T Pj KV Wo g he, mix_out_h]
  refine congrArg Real.toEReal (congr (congrArg (fun i => mixOut g (H i) (mixed KV Wo (T i) (query (Pj i)))) (Fin.ext ?_)) (Fin.ext ?_))
  · blk_simp [index2 t]; exact row256_val t.isLt (y 0)
  · blk_simp [index2 t]

theorem array_cat (he : Entry2 V c H T Pj KV Wo g) :
    (dat2 V c).arrAt 7 cfg2.N = (lift2 (φ := .bf16) fun i => beside (T i) (attend KV (query (Pj i))) : FVec Ideal S8192x768 .bf16) := by
  refine (dat2 V c).arrAt_eq_of_covers 7 _ (by decide +kernel) fun t hf y => ?_
  blk_simp
  rw [after2_7, block2_0 V c H T Pj KV Wo g he, block2_1 V c H T Pj KV Wo g he, block2_2 V c H T Pj KV Wo g he, block2_3 V c H T Pj KV Wo g he, block2_4 V c H T Pj KV Wo g he, block2_5 V c H T Pj KV Wo g he, mix_out_cat]
  refine congrArg Real.toEReal (congr (congrArg (fun i => beside (T i) (attend KV (query (Pj i)))) (Fin.ext ?_)) (Fin.ext ?_))
  · blk_simp [index2 t]; exact row256_val t.isLt (y 0)
  · blk_simp [index2 t]

theorem array_mix (he : Entry2 V c H T Pj KV Wo g) :
    (dat2 V c).arrAt 8 cfg2.N = (lift2 (φ := .f32) fun i => mixed KV Wo (T i) (query (Pj i)) : FVec Ideal S8192x1024 .f32) := by
  refine (dat2 V c).arrAt_eq_of_covers 8 _ (by decide +kernel) fun t hf y => ?_
  blk_simp
  rw [after2_8, block2_0 V c H T Pj KV Wo g he, block2_1 V c H T Pj KV Wo g he, block2_2 V c H T Pj KV Wo g he, block2_3 V c H T Pj KV Wo g he, block2_4 V c H T Pj KV Wo g he, block2_5 V c H T Pj KV Wo g he, mix_out_mix]
  refine congrArg Real.toEReal (congr (congrArg (fun i => mixed KV Wo (T i) (query (Pj i))) (Fin.ext ?_)) (Fin.ext ?_))
  · blk_simp [index2 t]; exact row256_val t.isLt (y 0)
  · blk_simp [index2 t]

end

end Cert.MixSb
-- ==== Proof.SbBackward.lean ====
/- The gradient body around a stick-breaking layer's attention over the memory, on one block of 256 rows. -/
module

public import proofs.«01_k».proof.Proof.SbProducts
public import proofs.«01_k».proof.Proof.MixBack
public import proofs.«01_k».proof.Proof.Gen.Kernel2Ideal.Frame.Region3
public import Idealize.ShloMosaic.Lib.Pipeline.ReadBack

@[expose] public section

set_option maxRecDepth 16384

noncomputable section

namespace Cert.MixSb

open Idealize.ShloMosaic Cert.Kernel2Ideal Cert.Kernel2Ideal.Gen Cert.FfnBlock Cert.Mixing Idealize.ShloMosaic.TcCoe

set_option backward.isDefEq.respectTransparency.types false

variable (g : Fin 1024 → ℝ) (Mx D : Fin 256 → Fin 1024 → ℝ) (Q : Fin 256 → Fin 256 → ℝ) (KV : Fin 256 → Fin 512 → ℝ) (Wo : Fin 768 → Fin 1024 → ℝ)
  (E : Fin 256 → Fin 768 → ℝ)

/-- The attention's entries of a row of the output product. -/
def tail (e : Fin 768 → ℝ) (j : Fin 256) : ℝ := e (attCol j)

theorem mix_rs : k3_pay8 (argY Mx) = lift2 (φ := .f32) fun i (_ : Fin 1) => rs (Mx i) := by
  simp only [k3_pay8, k3_pay7, cast_same, mulf_lift2]
  rw [sum1]
  simp only [cast_same, mulf_lift2, cast_col256, cst_width, divf_width, cst_eps, addf_lift2, rsqrt_ms, cols_256, rows_256, subf_lift2, truncf_lift2]
  rfl
theorem mix_hat : k3_pay9 (argY Mx) = lift2 (φ := .f32) fun i => hat (Mx i) := by
  simp only [k3_pay9, k3_pay7, mix_rs, cast_same, mulf_lift2, cast_col256, cst_width, divf_width, cst_eps, addf_lift2, rsqrt_ms, cols_256, rows_256, subf_lift2, truncf_lift2]
  rfl
/-- The gradient at the output product. -/
theorem back_mix : k3_pay11 (argY Mx) (argG g) (argY D) = lift2 (φ := .bf16) fun i => mixedBack g (Mx i) (D i) := by
  simp only [k3_pay11, mix_hat, mix_rs, cast_same, mulf_lift2, cast_col256, cst_width, divf_width, cst_eps, addf_lift2, rsqrt_ms, cols_256, rows_256, subf_lift2, truncf_lift2]
  rw [sum1]
  simp only [cast_same, mulf_lift2, cast_col256, cst_width, divf_width, cst_eps, addf_lift2, rsqrt_ms, cols_256, rows_256, subf_lift2, truncf_lift2]
  rfl
/-- The gradient at the rows of the output product. -/
theorem back_rows : k3_pay12 (lift2 (φ := .bf16) Mx) (lift3 (φ := .bf16) fun (_ : Fin 1) i j => Wo i (quarter 0 j)) (lift3 (φ := .bf16) fun (_ : Fin 1) i j => Wo i (quarter 1 j))
      (lift3 (φ := .bf16) fun (_ : Fin 1) i j => Wo i (quarter 2 j)) (lift3 (φ := .bf16) fun (_ : Fin 1) i j => Wo i (quarter 3 j))
    = lift2 (φ := .f32) fun i => timesT Wo (Mx i) := by
  simp only [k3_pay12, cut_256_1024_0, cut_256_1024_256, cut_256_1024_512, cut_256_1024_768, drop_768_256, constant_lift2, product0, product1, product2, product3, product4, product5, product6, product7, product8, product9, product10, product11, product12, addf_lift2]
  refine congrArg lift2 (funext fun i => funext fun j => ?_)
  exact (sum_quarters fun q => Mx i q * Wo j q).symm
theorem back_mask : k3_pay14 = low := mask_low _
theorem back_q : k3_pay15 (F := Ideal) (lift2 (φ := .bf16) Q) = lift2 (φ := .bf16) Q := by simp only [k3_pay15, cast_same, truncf_lift2]
theorem back_zero : k3_pay16 (F := Ideal) = lift2 (φ := .bf16) fun (_ : Fin 256) (_ : Fin 128) => 0 := by simp only [k3_pay16, cst_zero16]
theorem back_key (x : Fin 256 → Fin 128 → ℝ) : k3_pay17 (F := Ideal) (lift2 (φ := .bf16) x) = lift2 (φ := .bf16) x := by simp only [k3_pay17, cast_same]
theorem back_key' (x : Fin 256 → Fin 128 → ℝ) : k3_pay18 (F := Ideal) (lift2 (φ := .bf16) x) = lift2 (φ := .bf16) x := by simp only [k3_pay18, cast_same]
/-! ## Scores, weights and their gradients, head by head -/

theorem back_score_1 : k3_pay31 (F := Ideal) low (lift2 (φ := .bf16) Q) (lift2 (φ := .bf16) fun _ _ => 0) (lift2 (φ := .bf16) fun i j => KV i (col 0 (by norm_num) j)) = lift2 (φ := .f32) fun i => score KV (Q i) 1 := by
  simp only [k3_pay31, k3_pay18, k3_pay22, k3_pay23, k3_pay27, k3_pay28, select_low, cut_128_256_0, cut_128_256_128, cut_128_768_512, cut_128_768_640, cast_same, truncf_lift2, constant_lift2, product0, product1, product2, product3, product4, product5, product6, product7, product8, product9, product10, product11, product12, cst_eighth, mulf_lift2, sum_low, sum_high, hd_1, key_1]
  rfl
theorem back_score_2 : k3_pay32 (F := Ideal) low (lift2 (φ := .bf16) Q) (lift2 (φ := .bf16) fun _ _ => 0) (lift2 (φ := .bf16) fun i j => KV i (col 128 (by norm_num) j)) = lift2 (φ := .f32) fun i => score KV (Q i) 2 := by
  simp only [k3_pay32, k3_pay18, k3_pay22, k3_pay23, k3_pay27, k3_pay28, select_low, cut_128_256_0, cut_128_256_128, cut_128_768_512, cut_128_768_640, cast_same, truncf_lift2, constant_lift2, product0, product1, product2, product3, product4, product5, product6, product7, product8, product9, product10, product11, product12, cst_eighth, mulf_lift2, sum_low, sum_high, hd_2, key_2]
  rfl
theorem back_score_3 : k3_pay33 (F := Ideal) low (lift2 (φ := .bf16) Q) (lift2 (φ := .bf16) fun _ _ => 0) (lift2 (φ := .bf16) fun i j => KV i (col 128 (by norm_num) j)) = lift2 (φ := .f32) fun i => score KV (Q i) 3 := by
  simp only [k3_pay33, k3_pay18, k3_pay22, k3_pay23, k3_pay27, k3_pay28, select_low, cut_128_256_0, cut_128_256_128, cut_128_768_512, cut_128_768_640, cast_same, truncf_lift2, constant_lift2, product0, product1, product2, product3, product4, product5, product6, product7, product8, product9, product10, product11, product12, cst_eighth, mulf_lift2, sum_low, sum_high, hd_3, key_3]
  rfl
theorem back_exp : k3_pay38 (F := Ideal) low (lift2 (φ := .bf16) Q) (lift2 (φ := .bf16) fun _ _ => 0) (lift2 (φ := .bf16) fun i j => KV i (col 0 (by norm_num) j)) = lift2 (φ := .f32) fun i k => Real.exp (score KV (Q i) 0 k - top (score KV (Q i) 0)) := by
  simp only [k3_pay38, k3_pay22, select_low, cut_128_256_0, cut_128_256_128, cut_128_768_512, cut_128_768_640, cast_same, truncf_lift2, constant_lift2, product0, product1, product2, product3, product4, product5, product6, product7, product8, product9, product10, product11, product12, cst_eighth, mulf_lift2, sum_low, sum_high, hd_0, key_0]
  rw [max1]
  simp only [cast_col256, cols_256_256, subf_lift2, exp_lift2]
  rfl
theorem back_prob_0 : k3_pay34 (F := Ideal) (lift2 (φ := .f32) E) low (lift2 (φ := .bf16) fun _ _ => 0) (lift2 (φ := .bf16) fun i j => KV i (col 256 (by norm_num) j)) = lift2 (φ := .f32) fun i => probBack KV (tail (E i)) 0 := by
  simp only [k3_pay34, k3_pay19, k3_pay20, k3_pay21, k3_pay24, k3_pay25, k3_pay26, k3_pay29, k3_pay30, select_low, cut_128_256_0, cut_128_256_128, cut_128_768_512, cut_128_768_640, cast_same, truncf_lift2, constant_lift2, product0, product1, product2, product3, product4, product5, product6, product7, product8, product9, product10, product11, product12, sum_low, sum_high, att_0, val_0]
  rfl
theorem back_prob_1 : k3_pay35 (F := Ideal) (lift2 (φ := .f32) E) low (lift2 (φ := .bf16) fun _ _ => 0) (lift2 (φ := .bf16) fun i j => KV i (col 256 (by norm_num) j)) = lift2 (φ := .f32) fun i => probBack KV (tail (E i)) 1 := by
  simp only [k3_pay35, k3_pay19, k3_pay20, k3_pay21, k3_pay24, k3_pay25, k3_pay26, k3_pay29, k3_pay30, select_low, cut_128_256_0, cut_128_256_128, cut_128_768_512, cut_128_768_640, cast_same, truncf_lift2, constant_lift2, product0, product1, product2, product3, product4, product5, product6, product7, product8, product9, product10, product11, product12, sum_low, sum_high, att_1, val_1]
  rfl
theorem back_prob_2 : k3_pay36 (F := Ideal) (lift2 (φ := .f32) E) low (lift2 (φ := .bf16) fun _ _ => 0) (lift2 (φ := .bf16) fun i j => KV i (col 384 (by norm_num) j)) = lift2 (φ := .f32) fun i => probBack KV (tail (E i)) 2 := by
  simp only [k3_pay36, k3_pay19, k3_pay20, k3_pay21, k3_pay24, k3_pay25, k3_pay26, k3_pay29, k3_pay30, select_low, cut_128_256_0, cut_128_256_128, cut_128_768_512, cut_128_768_640, cast_same, truncf_lift2, constant_lift2, product0, product1, product2, product3, product4, product5, product6, product7, product8, product9, product10, product11, product12, sum_low, sum_high, att_2, val_2]
  rfl
theorem back_prob_3 : k3_pay37 (F := Ideal) (lift2 (φ := .f32) E) low (lift2 (φ := .bf16) fun _ _ => 0) (lift2 (φ := .bf16) fun i j => KV i (col 384 (by norm_num) j)) = lift2 (φ := .f32) fun i => probBack KV (tail (E i)) 3 := by
  simp only [k3_pay37, k3_pay19, k3_pay20, k3_pay21, k3_pay24, k3_pay25, k3_pay26, k3_pay29, k3_pay30, select_low, cut_128_256_0, cut_128_256_128, cut_128_768_512, cut_128_768_640, cast_same, truncf_lift2, constant_lift2, product0, product1, product2, product3, product4, product5, product6, product7, product8, product9, product10, product11, product12, sum_low, sum_high, att_3, val_3]
  rfl
theorem back_soft_0 : k3_pay39 (F := Ideal) (lift2 (φ := .f32) fun i k => Real.exp (score KV (Q i) 0 k - top (score KV (Q i) 0))) = lift2 (φ := .f32) fun i => prob KV (Q i) 0 := by
  simp only [k3_pay39]
  rw [sum1]
  simp only [cast_col256, cols_256_256, divf_soft]
  rfl
theorem back_soft_1 : k3_pay41 (F := Ideal) (lift2 (φ := .f32) fun i => score KV (Q i) 1) = lift2 (φ := .f32) fun i => prob KV (Q i) 1 := by
  simp only [k3_pay41]
  rw [max1]
  simp only [cast_col256, cols_256_256, subf_lift2, exp_lift2]
  rw [sum1]
  simp only [cast_col256, cols_256_256, divf_soft]
  rfl
theorem back_soft_2 : k3_pay43 (F := Ideal) (lift2 (φ := .f32) fun i => score KV (Q i) 2) = lift2 (φ := .f32) fun i => prob KV (Q i) 2 := by
  simp only [k3_pay43]
  rw [max1]
  simp only [cast_col256, cols_256_256, subf_lift2, exp_lift2]
  rw [sum1]
  simp only [cast_col256, cols_256_256, divf_soft]
  rfl
theorem back_soft_3 : k3_pay45 (F := Ideal) (lift2 (φ := .f32) fun i => score KV (Q i) 3) = lift2 (φ := .f32) fun i => prob KV (Q i) 3 := by
  simp only [k3_pay45]
  rw [max1]
  simp only [cast_col256, cols_256_256, subf_lift2, exp_lift2]
  rw [sum1]
  simp only [cast_col256, cols_256_256, divf_soft]
  rfl
theorem back_scores_0 : k3_pay40 (F := Ideal) (lift2 (φ := .f32) fun i => probBack KV (tail (E i)) 0) (lift2 (φ := .f32) fun i k => Real.exp (score KV (Q i) 0 k - top (score KV (Q i) 0))) = lift2 (φ := .bf16) fun i => scoreBack KV (Q i) (tail (E i)) 0 := by
  simp only [k3_pay40, back_soft_0, mulf_lift2]
  rw [sum1]
  simp only [cast_col256, cols_256_256, subf_lift2, mulf_lift2, cst_eighth, truncf_lift2]
  rfl
theorem back_scores_1 : k3_pay42 (F := Ideal) (lift2 (φ := .f32) fun i => score KV (Q i) 1) (lift2 (φ := .f32) fun i => probBack KV (tail (E i)) 1) = lift2 (φ := .bf16) fun i => scoreBack KV (Q i) (tail (E i)) 1 := by
  simp only [k3_pay42, back_soft_1, mulf_lift2]
  rw [sum1]
  simp only [cast_col256, cols_256_256, subf_lift2, mulf_lift2, cst_eighth, truncf_lift2]
  rfl
theorem back_scores_2 : k3_pay44 (F := Ideal) (lift2 (φ := .f32) fun i => score KV (Q i) 2) (lift2 (φ := .f32) fun i => probBack KV (tail (E i)) 2) = lift2 (φ := .bf16) fun i => scoreBack KV (Q i) (tail (E i)) 2 := by
  simp only [k3_pay44, back_soft_2, mulf_lift2]
  rw [sum1]
  simp only [cast_col256, cols_256_256, subf_lift2, mulf_lift2, cst_eighth, truncf_lift2]
  rfl
theorem back_scores_3 : k3_pay46 (F := Ideal) (lift2 (φ := .f32) fun i => score KV (Q i) 3) (lift2 (φ := .f32) fun i => probBack KV (tail (E i)) 3) = lift2 (φ := .bf16) fun i => scoreBack KV (Q i) (tail (E i)) 3 := by
  simp only [k3_pay46, back_soft_3, mulf_lift2]
  rw [sum1]
  simp only [cast_col256, cols_256_256, subf_lift2, mulf_lift2, cst_eighth, truncf_lift2]
  rfl

/-! ## What the body leaves -/

variable (c : Dev nD) (i : grid3.Coords) (a1 : Memref sig .tc .vmem S256x1024 .f32) (h1 : a1.IsWhole) (a2 : Memref sig .tc .vmem S256x1024 .f32) (h2 : a2.IsWhole) (a3 : Memref sig .tc .vmem S256x256 .bf16) (h3 : a3.IsWhole) (a4 : Memref sig .tc .vmem S256x512 .bf16) (h4 : a4.IsWhole) (a5 : Memref sig .tc .vmem S4x768x256 .bf16) (h5 : a5.IsWhole) (a6 : Memref sig .tc .vmem S1x1024 .f32) (h6 : a6.IsWhole) (a7 : Memref sig .tc .vmem S256x1024 .bf16) (h7 : a7.IsWhole) (a8 : Memref sig .tc .vmem S256x512 .f32) (h8 : a8.IsWhole) (a9 : Memref sig .tc .vmem S256x256 .bf16) (h9 : a9.IsWhole) (a10 : Memref sig .tc .vmem S256x512 .f32) (h10 : a10.IsWhole) (a11 : Memref sig .tc .vmem S1x1024 .f32) (h11 : a11.IsWhole)

theorem backA_6 (hc : cond3_0 i) :
    out3_A_6 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g)
      = lift2 (φ := .bf16) fun i => mixedBack g (Mx i) (D i) := by
  frame_out
  exact back_mix g Mx D
theorem backA_7 (hc : cond3_0 i) :
    out3_A_7 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g)
      = lift2 (φ := .f32) fun i => tokBack Wo (mixedBack g (Mx i) (D i)) := by
  frame_out
  simp only [k3_pay13, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, cut_512_768_0]
  refine congrArg lift2 (funext fun i => funext fun j => congrArg (timesT Wo _) (Fin.ext ?_))
  simp [col]
theorem backA_8 (hc : cond3_0 i) :
    out3_A_8 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g)
      = lift2 (φ := .bf16) fun i => queryBack KV (Q i) (attBack Wo (mixedBack g (Mx i) (D i))) := by
  frame_out
  simp only [whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, k3_pay2, k3_pay47, k3_pay48, k3_pay49, select_low, cut_128_256_0, cut_128_256_128, cut_128_768_512, cut_128_768_640, cast_same, truncf_lift2, constant_lift2, product0, product1, product2, product3, product4, product5, product6, product7, product8, product9, product10, product11, product12]
  exact store_qm _ [] (fun i j h => (query_low KV (Q i) _ j h).symm) (fun i j h => (query_high KV (Q i) _ j h).symm)
theorem backA_9 (hc : cond3_0 i) :
    out3_A_9 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g)
      = lift2 (φ := .f32) fun k j => ∑ i, memBack KV (Q i) (attBack Wo (mixedBack g (Mx i) (D i))) k j := by
  frame_open
  simp (disch := decide) only [↓ View.readCov_skip, ↓ View.readCov_cons_toLoadRect, ↓ View.readCov_fill]
  try frame_out
  simp only [k3_pay5, cst_zero, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, k3_pay3, k3_pay4, k3_pay50, k3_pay1, k3_pay51, k3_pay52, k3_pay19, k3_pay20, k3_pay21, k3_pay22, k3_pay23, k3_pay24, k3_pay25, k3_pay26, k3_pay27, k3_pay28, k3_pay29, k3_pay30, select_low, cut_128_256_0, cut_128_256_128, cut_128_768_512, cut_128_768_640, cast_same, truncf_lift2, constant_lift2, product0, product1, product2, product3, product4, product5, product6, product7, product8, product9, product10, product11, product12, addf_lift2, zero_add, two_heads, att_low, att_high]
  refine store_kv _ _ ?_ ?_ ?_ ?_
  · exact (fun k j h => (Finset.sum_congr rfl fun i _ => mem_0 KV (Q i) (attBack Wo (mixedBack g (Mx i) (D i))) k j h).symm)
  · exact (fun k j h => (Finset.sum_congr rfl fun i _ => mem_2 KV (Q i) (attBack Wo (mixedBack g (Mx i) (D i))) k j h).symm)
  · exact (fun k j h => (Finset.sum_congr rfl fun i _ => mem_1 KV (Q i) (attBack Wo (mixedBack g (Mx i) (D i))) k j h).symm)
  · exact (fun k j h => (Finset.sum_congr rfl fun i _ => mem_3 KV (Q i) (attBack Wo (mixedBack g (Mx i) (D i))) k j h).symm)
theorem backA_10 (hc : cond3_0 i) :
    out3_A_10 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g)
      = argG fun j => ∑ r, D r j * hat (Mx r) j := by
  frame_open
  simp (disch := decide) only [↓ View.readCov_skip, ↓ View.readCov_cons_toLoadRect, ↓ View.readCov_fill]
  try frame_out
  simp only [k3_pay10, k3_pay6, cst_zero, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, mix_hat, cast_same, mulf_lift2]
  rw [sum0]
  simp only [cast_row, cast_same, addf_lift2, zero_add]
theorem backB_6 (hc : ¬ cond3_0 i) (Z : Fin 256 → Fin 512 → ℝ) (z : Fin 1024 → ℝ) :
    out3_B_6 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g) (lift2 (φ := .f32) Z) (argG z)
      = lift2 (φ := .bf16) fun i => mixedBack g (Mx i) (D i) := by
  frame_out
  exact back_mix g Mx D
theorem backB_7 (hc : ¬ cond3_0 i) (Z : Fin 256 → Fin 512 → ℝ) (z : Fin 1024 → ℝ) :
    out3_B_7 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g) (lift2 (φ := .f32) Z) (argG z)
      = lift2 (φ := .f32) fun i => tokBack Wo (mixedBack g (Mx i) (D i)) := by
  frame_out
  simp only [k3_pay13, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, cut_512_768_0]
  refine congrArg lift2 (funext fun i => funext fun j => congrArg (timesT Wo _) (Fin.ext ?_))
  simp [col]
theorem backB_8 (hc : ¬ cond3_0 i) (Z : Fin 256 → Fin 512 → ℝ) (z : Fin 1024 → ℝ) :
    out3_B_8 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g) (lift2 (φ := .f32) Z) (argG z)
      = lift2 (φ := .bf16) fun i => queryBack KV (Q i) (attBack Wo (mixedBack g (Mx i) (D i))) := by
  frame_out
  simp only [whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, k3_pay2, k3_pay47, k3_pay48, k3_pay49, select_low, cut_128_256_0, cut_128_256_128, cut_128_768_512, cut_128_768_640, cast_same, truncf_lift2, constant_lift2, product0, product1, product2, product3, product4, product5, product6, product7, product8, product9, product10, product11, product12]
  exact store_qm _ [] (fun i j h => (query_low KV (Q i) _ j h).symm) (fun i j h => (query_high KV (Q i) _ j h).symm)
theorem backB_9 (hc : ¬ cond3_0 i) (Z : Fin 256 → Fin 512 → ℝ) (z : Fin 1024 → ℝ) :
    out3_B_9 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g) (lift2 (φ := .f32) Z) (argG z)
      = lift2 (φ := .f32) fun k j => Z k j + ∑ i, memBack KV (Q i) (attBack Wo (mixedBack g (Mx i) (D i))) k j := by
  frame_out
  simp only [whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, k3_pay3, k3_pay4, k3_pay50, k3_pay1, k3_pay51, k3_pay52, k3_pay19, k3_pay20, k3_pay21, k3_pay22, k3_pay23, k3_pay24, k3_pay25, k3_pay26, k3_pay27, k3_pay28, k3_pay29, k3_pay30, select_low, cut_128_256_0, cut_128_256_128, cut_128_768_512, cut_128_768_640, cast_same, truncf_lift2, constant_lift2, product0, product1, product2, product3, product4, product5, product6, product7, product8, product9, product10, product11, product12, addf_lift2, two_heads, att_low, att_high]
  refine store_kv _ _ ?_ ?_ ?_ ?_
  · exact (fun k j h => congrArg₂ (· + ·) (congrArg (Z k) (Fin.ext rfl)) (Finset.sum_congr rfl fun i _ => mem_0 KV (Q i) (attBack Wo (mixedBack g (Mx i) (D i))) k j h).symm)
  · exact (fun k j h => congrArg₂ (· + ·) (congrArg (Z k) (Fin.ext rfl)) (Finset.sum_congr rfl fun i _ => mem_2 KV (Q i) (attBack Wo (mixedBack g (Mx i) (D i))) k j h).symm)
  · exact (fun k j h => congrArg₂ (· + ·) (congrArg (Z k) (Fin.ext rfl)) (Finset.sum_congr rfl fun i _ => mem_1 KV (Q i) (attBack Wo (mixedBack g (Mx i) (D i))) k j h).symm)
  · exact (fun k j h => congrArg₂ (· + ·) (congrArg (Z k) (Fin.ext rfl)) (Finset.sum_congr rfl fun i _ => mem_3 KV (Q i) (attBack Wo (mixedBack g (Mx i) (D i))) k j h).symm)
theorem backB_10 (hc : ¬ cond3_0 i) (Z : Fin 256 → Fin 512 → ℝ) (z : Fin 1024 → ℝ) :
    out3_B_10 (F := Ideal) c i a1 h1 a2 h2 a3 h3 a4 h4 a5 h5 a6 h6 a7 h7 a8 h8 a9 h9 a10 h10 a11 h11 hc (argY D) (argY Mx) (lift2 (φ := .bf16) Q) (lift2 (φ := .bf16) KV) (argWo Wo) (argG g) (lift2 (φ := .f32) Z) (argG z)
      = argG fun j => z j + ∑ r, D r j * hat (Mx r) j := by
  frame_out
  simp only [k3_pay10, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, mix_hat, cast_same, mulf_lift2]
  rw [sum0]
  simp only [cast_row, cast_same, addf_lift2]

end Cert.MixSb
-- ==== Proof.SbGrads.lean ====
/- The gradient bodies of a stick-breaking layer's sub-layer for the output weights, the memory's projection, the input rows and the input weights: one grid point each. -/
module

public import proofs.«01_k».proof.Proof.SbProducts
public import proofs.«01_k».proof.Proof.MixBack
public import proofs.«01_k».proof.Proof.Gen.Kernel2Ideal.Frame.Region4
public import proofs.«01_k».proof.Proof.Gen.Kernel2Ideal.Frame.Region5
public import proofs.«01_k».proof.Proof.Gen.Kernel2Ideal.Frame.Region6
public import proofs.«01_k».proof.Proof.Gen.Kernel2Ideal.Frame.Region7
public import Idealize.ShloMosaic.Lib.Pipeline.ReadBack

@[expose] public section

set_option maxRecDepth 16384

noncomputable section

namespace Cert.MixSb

open Idealize.ShloMosaic Cert.Kernel2Ideal Cert.Kernel2Ideal.Gen Cert.FfnBlock Cert.Mixing Idealize.ShloMosaic.TcCoe

set_option backward.isDefEq.respectTransparency.types false

/-! ## The output weights -/

section

variable (C : Fin 1024 → Fin 768 → ℝ) (Dm : Fin 1024 → Fin 1024 → ℝ) (c : Dev nD) (i : grid4.Coords) (a1 : Memref sig .tc .vmem S1024x768 .bf16) (h1 : a1.IsWhole) (a2 : Memref sig .tc .vmem S1024x1024 .bf16) (h2 : a2.IsWhole) (a3 : Memref sig .tc .vmem S4x768x256 .f32) (h3 : a3.IsWhole)

theorem wout_flip : k4_pay4 (lift2 (φ := .bf16) C) = lift2 (φ := .bf16) fun i j => C j i := by
  simp only [k4_pay4, cast_same]
  rw [flip_768]
theorem woutA (hc : cond4_0 i) :
    out4_A_2 (F := Ideal) c i a1 h1 a2 h2 a3 h3 hc (lift2 (φ := .bf16) C) (lift2 (φ := .bf16) Dm)
      = lift3 (φ := .f32) fun s i j => ∑ r, C r i * Dm r (quarter s j) := by
  frame_open
  simp (disch := decide) only [↓ View.readCov_skip, ↓ View.readCov_cons_toLoadRect, ↓ View.readCov_fill]
  try frame_out
  simp only [k4_pay3, cst_zero3, whole_1024_768_bf16, tile_y1024_0, tile_y1024_256, tile_y1024_512, tile_y1024_768, tile_dwo0, tile_dwo1, tile_dwo2, tile_dwo3, k4_pay1, k4_pay2, wout_flip, k4_pay5, k4_pay6, k4_pay7,
    cast_same, constant_lift2, product0, product1, product2, product3, product4, product5, product6, product7, product8, product9, product10, product11, product12, drop_768_256, addf_lift2, add_768_256, zero_add]
  refine store_wo _ _ ?_ ?_ ?_ ?_ <;> exact fun _ _ => rfl
theorem woutB (hc : ¬ cond4_0 i) (Z : Fin 4 → Fin 768 → Fin 256 → ℝ) :
    out4_B_2 (F := Ideal) c i a1 h1 a2 h2 a3 h3 hc (lift2 (φ := .bf16) C) (lift2 (φ := .bf16) Dm) (lift3 (φ := .f32) Z)
      = lift3 (φ := .f32) fun s i j => Z s i j + ∑ r, C r i * Dm r (quarter s j) := by
  frame_out
  simp only [whole_1024_768_bf16, tile_y1024_0, tile_y1024_256, tile_y1024_512, tile_y1024_768, tile_dwo0, tile_dwo1, tile_dwo2, tile_dwo3, k4_pay1, k4_pay2, wout_flip, k4_pay5, k4_pay6, k4_pay7,
    cast_same, constant_lift2, product0, product1, product2, product3, product4, product5, product6, product7, product8, product9, product10, product11, product12, drop_768_256, addf_lift2, add_768_256]
  refine store_wo _ _ ?_ ?_ ?_ ?_ <;> exact fun _ _ => rfl

end

/-! ## The memory's projection -/

section

variable (gm : Fin 1024 → ℝ) (M : Fin 256 → Fin 1024 → ℝ) (Wkv : Fin 1024 → Fin 512 → ℝ) (DKV : Fin 256 → Fin 512 → ℝ)

theorem memory_hat : k5_pay2 (argY M) = lift2 (φ := .f32) fun i => hat (M i) := by
  simp only [k5_pay2, mulf_lift2]
  rw [sum1]
  simp only [cast_same, mulf_lift2, cast_col256, cst_width, divf_width, cst_eps, addf_lift2, rsqrt_ms, cols_256, rows_256, subf_lift2, truncf_lift2]
  rfl
/-- The gradient of the memory's projection weights. -/
theorem memory_dw : out5_4 (argY M) (argG gm) (argKv Wkv) (lift2 (φ := .f32) DKV)
    = lift2 (φ := .f32) fun i j => ∑ k, normed gm (M k) i * DKV k j := by
  unfold out5_4
  refine (View.canon_cons_unit_lit _ _ _ (by decide)).trans ?_
  simp only [whole_256_1024_f32, whole_1_1024_f32, whole_256_512_f32, k5_pay4, k5_pay3, memory_hat, cast_same, mulf_lift2, cast_col256, cst_width, divf_width, cst_eps, addf_lift2, rsqrt_ms, cols_256, rows_256, subf_lift2, truncf_lift2, constant_lift2, product0, product1, product2, product3, product4, product5, product6, product7, product8, product9, product10, product11, product12]
  rfl
/-- The gradient of the memory's gain. -/
theorem memory_dg : out5_5 (argY M) (argG gm) (argKv Wkv) (lift2 (φ := .f32) DKV)
    = argG fun j => ∑ k, timesT Wkv (DKV k) j * hat (M k) j := by
  unfold out5_5
  refine (View.canon_cons_unit_lit _ _ _ (by decide)).trans ?_
  simp only [whole_256_1024_f32, memory_hat, k5_pay1]
  rw [concat_quarters_of (x0 := fun i j => timesT Wkv (DKV i) (quarter 0 j)) (x1 := fun i j => timesT Wkv (DKV i) (quarter 1 j)) (x2 := fun i j => timesT Wkv (DKV i) (quarter 2 j))
    (x3 := fun i j => timesT Wkv (DKV i) (quarter 3 j)) ?_ ?_ ?_ ?_]
  · simp only [joined_quarters, mulf_lift2]
    rw [sum0]
    simp only [cast_row]
  · simp only [k5_pay5, k5_pay3, whole_256_512_f32, slot_kv0, cast_same, truncf_lift2, drop_256_512, constant_lift2, product0, product1, product2, product3, product4, product5, product6, product7, product8, product9, product10, product11, product12]; rfl
  · simp only [k5_pay6, k5_pay3, whole_256_512_f32, slot_kv1, cast_same, truncf_lift2, drop_256_512, constant_lift2, product0, product1, product2, product3, product4, product5, product6, product7, product8, product9, product10, product11, product12]; rfl
  · simp only [k5_pay7, k5_pay3, whole_256_512_f32, slot_kv2, cast_same, truncf_lift2, drop_256_512, constant_lift2, product0, product1, product2, product3, product4, product5, product6, product7, product8, product9, product10, product11, product12]; rfl
  · simp only [k5_pay8, k5_pay3, whole_256_512_f32, slot_kv3, cast_same, truncf_lift2, drop_256_512, constant_lift2, product0, product1, product2, product3, product4, product5, product6, product7, product8, product9, product10, product11, product12]; rfl

end

/-! ## The input rows -/

section

variable (g : Fin 1024 → ℝ) (H D : Fin 256 → Fin 1024 → ℝ) (Wi : Fin 1024 → Fin 1792 → ℝ) (Tq Tk Tv : Fin 256 → Fin 512 → ℝ) (Dq : Fin 256 → Fin 256 → ℝ)

/-- The gradient at the normed rows, from the four parts of the projection's row. -/
theorem rows_parts : (fun i j => ∑ k, Tq i k * Wi j (col 0 (by norm_num) k) + ∑ k, Tk i k * Wi j (col 512 (by norm_num) k) + ∑ k, Tv i k * Wi j (col 1024 (by norm_num) k)
      + ∑ k, Dq i k * Wi j (col 1536 (by norm_num) k)) = fun i => timesT Wi (fourParts (Tq i) (Tk i) (Tv i) (Dq i)) := by
  funext i j
  refine Eq.trans ?_ (sum_1792 fun q => fourParts (Tq i) (Tk i) (Tv i) (Dq i) q * Wi j q).symm
  simp only [col, four_0, four_1, four_2, four_3]
theorem rows_du : k6_pay8 (k6_pay6 (lift2 (φ := .f32) Tq) (lift3 (φ := .bf16) fun (_ : Fin 1) i j => Wi i (col 0 (by norm_num) j)) (lift2 (φ := .f32) Tk) (lift3 (φ := .bf16) fun (_ : Fin 1) i j => Wi i (col 512 (by norm_num) j)) (lift2 (φ := .f32) Tv) (lift3 (φ := .bf16) fun (_ : Fin 1) i j => Wi i (col 1024 (by norm_num) j))) (lift2 (φ := .bf16) Dq) (lift3 (φ := .bf16) fun (_ : Fin 1) i j => Wi i (col 1536 (by norm_num) j))
    = lift2 (φ := .f32) fun i => timesT Wi (fourParts (Tq i) (Tk i) (Tv i) (Dq i)) := by
  simp only [k6_pay8, k6_pay6, k6_pay3, k6_pay4, k6_pay5, k6_pay7, cst_zero, cast_same, truncf_lift2, drop_1024_512, drop_1024_256, constant_lift2, product0, product1, product2, product3, product4, product5, product6, product7, product8, product9, product10, product11, product12, addf_lift2, zero_add]
  exact congrArg lift2 (rows_parts Wi Tq Tk Tv Dq)
theorem rows_rs : k6_pay9 (argY H) = lift2 (φ := .f32) fun i (_ : Fin 1) => rs (H i) := by
  simp only [k6_pay9, mulf_lift2]
  rw [sum1]
  simp only [cast_same, mulf_lift2, cast_col256, cst_width, divf_width, cst_eps, addf_lift2, rsqrt_ms, cols_256, rows_256, subf_lift2, truncf_lift2]
  rfl
theorem rows_hat : k6_pay10 (argY H) = lift2 (φ := .f32) fun i => hat (H i) := by
  simp only [k6_pay10, rows_rs, cast_same, mulf_lift2, cast_col256, cst_width, divf_width, cst_eps, addf_lift2, rsqrt_ms, cols_256, rows_256, subf_lift2, truncf_lift2]
  rfl

variable (c : Dev nD) (i : grid6.Coords) (a1 : Memref sig .tc .vmem S256x1024 .f32) (h1 : a1.IsWhole) (a2 : Memref sig .tc .vmem S256x1024 .f32) (h2 : a2.IsWhole) (a3 : Memref sig .tc .vmem S1x1024 .f32) (h3 : a3.IsWhole) (a4 : Memref sig .tc .vmem S1x1024x1792 .bf16) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x256 .bf16) (h8 : a8.IsWhole) (a9 : Memref sig .tc .vmem S256x1024 .f32) (h9 : a9.IsWhole) (a10 : Memref sig .tc .vmem S256x1792 .bf16) (h10 : a10.IsWhole) (a11 : Memref sig .tc .vmem S1x1024 .f32) (h11 : a11.IsWhole)

theorem rowsA_8 (hc : cond6_0 i) :
    out6_A_8 (F := Ideal) c i a1 h1 a2 h2 a3 h3 a4 h4 a5 h5 a6 h6 a7 h7 a8 h8 a9 h9 a10 h10 a11 h11 hc (argY H) (argY D) (argG g) (argWi Wi) (lift2 (φ := .f32) Tq) (lift2 (φ := .f32) Tk) (lift2 (φ := .f32) Tv) (lift2 (φ := .bf16) Dq)
      = lift2 (φ := .f32) fun i => mixIn g (H i) (D i) (timesT Wi (fourParts (Tq i) (Tk i) (Tv i) (Dq i))) := by
  frame_out
  simp only [whole_256_1024_f32, whole_1_1024_f32, whole_256_512_f32, whole_256_256_bf16, tile_wi_0, tile_wi_512, tile_wi_1024, tile_wi_1536, k6_pay12, rows_du, rows_hat, rows_rs, cast_same, mulf_lift2, cast_col256, cst_width, divf_width, cst_eps, addf_lift2, rsqrt_ms, cols_256, rows_256, subf_lift2, truncf_lift2]
  rw [sum1]
  simp only [cast_same, mulf_lift2, cast_col256, cst_width, divf_width, cst_eps, addf_lift2, rsqrt_ms, cols_256, rows_256, subf_lift2, truncf_lift2]
  rfl
theorem rowsA_9 (hc : cond6_0 i) :
    out6_A_9 (F := Ideal) c i a1 h1 a2 h2 a3 h3 a4 h4 a5 h5 a6 h6 a7 h7 a8 h8 a9 h9 a10 h10 a11 h11 hc (argY H) (argY D) (argG g) (argWi Wi) (lift2 (φ := .f32) Tq) (lift2 (φ := .f32) Tk) (lift2 (φ := .f32) Tv) (lift2 (φ := .bf16) Dq)
      = lift2 (φ := .bf16) fun i => fourParts (Tq i) (Tk i) (Tv i) (Dq i) := by
  frame_out
  simp only [whole_256_1024_f32, whole_1_1024_f32, whole_256_512_f32, whole_256_256_bf16, tile_wi_0, tile_wi_512, tile_wi_1024, tile_wi_1536, k6_pay3, k6_pay4, k6_pay5, k6_pay7, cast_same, truncf_lift2]
  exact store_1792 _ [] (fun i j h => (four_0 _ _ _ _ j h).symm) (fun i j h => (four_1 _ _ _ _ j h).symm) (fun i j h => (four_2 _ _ _ _ j h).symm) (fun i j h => (four_3 _ _ _ _ j h).symm)
theorem rowsA_10 (hc : cond6_0 i) :
    out6_A_10 (F := Ideal) c i a1 h1 a2 h2 a3 h3 a4 h4 a5 h5 a6 h6 a7 h7 a8 h8 a9 h9 a10 h10 a11 h11 hc (argY H) (argY D) (argG g) (argWi Wi) (lift2 (φ := .f32) Tq) (lift2 (φ := .f32) Tk) (lift2 (φ := .f32) Tv) (lift2 (φ := .bf16) Dq)
      = argG fun j => ∑ r, timesT Wi (fourParts (Tq r) (Tk r) (Tv r) (Dq r)) j * hat (H r) j := by
  frame_open
  simp (disch := decide) only [↓ View.readCov_skip, ↓ View.readCov_cons_toLoadRect, ↓ View.readCov_fill]
  try frame_out
  simp only [whole_256_1024_f32, whole_1_1024_f32, whole_256_512_f32, whole_256_256_bf16, tile_wi_0, tile_wi_512, tile_wi_1024, tile_wi_1536, k6_pay1, k6_pay2, cst_zero, k6_pay11, rows_du, rows_hat, mulf_lift2]
  rw [sum0]
  simp only [cast_row, cast_same, addf_lift2, zero_add]
theorem rowsB_8 (hc : ¬ cond6_0 i) (z : Fin 1024 → ℝ) :
    out6_B_8 (F := Ideal) c i a1 h1 a2 h2 a3 h3 a4 h4 a5 h5 a6 h6 a7 h7 a8 h8 a9 h9 a10 h10 a11 h11 hc (argY H) (argY D) (argG g) (argWi Wi) (lift2 (φ := .f32) Tq) (lift2 (φ := .f32) Tk) (lift2 (φ := .f32) Tv) (lift2 (φ := .bf16) Dq) (argG z)
      = lift2 (φ := .f32) fun i => mixIn g (H i) (D i) (timesT Wi (fourParts (Tq i) (Tk i) (Tv i) (Dq i))) := by
  frame_out
  simp only [whole_256_1024_f32, whole_1_1024_f32, whole_256_512_f32, whole_256_256_bf16, tile_wi_0, tile_wi_512, tile_wi_1024, tile_wi_1536, k6_pay12, rows_du, rows_hat, rows_rs, cast_same, mulf_lift2, cast_col256, cst_width, divf_width, cst_eps, addf_lift2, rsqrt_ms, cols_256, rows_256, subf_lift2, truncf_lift2]
  rw [sum1]
  simp only [cast_same, mulf_lift2, cast_col256, cst_width, divf_width, cst_eps, addf_lift2, rsqrt_ms, cols_256, rows_256, subf_lift2, truncf_lift2]
  rfl
theorem rowsB_9 (hc : ¬ cond6_0 i) (z : Fin 1024 → ℝ) :
    out6_B_9 (F := Ideal) c i a1 h1 a2 h2 a3 h3 a4 h4 a5 h5 a6 h6 a7 h7 a8 h8 a9 h9 a10 h10 a11 h11 hc (argY H) (argY D) (argG g) (argWi Wi) (lift2 (φ := .f32) Tq) (lift2 (φ := .f32) Tk) (lift2 (φ := .f32) Tv) (lift2 (φ := .bf16) Dq) (argG z)
      = lift2 (φ := .bf16) fun i => fourParts (Tq i) (Tk i) (Tv i) (Dq i) := by
  frame_out
  simp only [whole_256_1024_f32, whole_1_1024_f32, whole_256_512_f32, whole_256_256_bf16, tile_wi_0, tile_wi_512, tile_wi_1024, tile_wi_1536, k6_pay3, k6_pay4, k6_pay5, k6_pay7, cast_same, truncf_lift2]
  exact store_1792 _ [] (fun i j h => (four_0 _ _ _ _ j h).symm) (fun i j h => (four_1 _ _ _ _ j h).symm) (fun i j h => (four_2 _ _ _ _ j h).symm) (fun i j h => (four_3 _ _ _ _ j h).symm)
theorem rowsB_10 (hc : ¬ cond6_0 i) (z : Fin 1024 → ℝ) :
    out6_B_10 (F := Ideal) c i a1 h1 a2 h2 a3 h3 a4 h4 a5 h5 a6 h6 a7 h7 a8 h8 a9 h9 a10 h10 a11 h11 hc (argY H) (argY D) (argG g) (argWi Wi) (lift2 (φ := .f32) Tq) (lift2 (φ := .f32) Tk) (lift2 (φ := .f32) Tv) (lift2 (φ := .bf16) Dq) (argG z)
      = argG fun j => z j + ∑ r, timesT Wi (fourParts (Tq r) (Tk r) (Tv r) (Dq r)) j * hat (H r) j := by
  frame_out
  simp only [whole_256_1024_f32, whole_1_1024_f32, whole_256_512_f32, whole_256_256_bf16, tile_wi_0, tile_wi_512, tile_wi_1024, tile_wi_1536, k6_pay1, k6_pay11, rows_du, rows_hat, mulf_lift2]
  rw [sum0]
  simp only [cast_row, cast_same, addf_lift2]

end

/-! ## The input weights -/

section

variable (U : Fin 1024 → Fin 1024 → ℝ) (Dp : Fin 1024 → Fin 1792 → ℝ) (c : Dev nD) (i : grid7.Coords) (a1 : Memref sig .tc .vmem S1024x1024 .bf16) (h1 : a1.IsWhole) (a2 : Memref sig .tc .vmem S1024x1792 .bf16) (h2 : a2.IsWhole) (a3 : Memref sig .tc .vmem S1024x1792 .f32) (h3 : a3.IsWhole)

theorem win_flip : k7_pay6 (lift2 (φ := .bf16) U) = lift2 (φ := .bf16) fun i j => U j i := by
  simp only [k7_pay6, cast_same]
  rw [flip_1024]
theorem winA (hc : cond7_0 i) :
    out7_A_2 (F := Ideal) c i a1 h1 a2 h2 a3 h3 hc (lift2 (φ := .bf16) U) (lift2 (φ := .bf16) Dp)
      = lift2 (φ := .f32) fun i j => ∑ r, U r i * Dp r j := by
  frame_open
  simp (disch := decide) only [↓ View.readCov_skip, ↓ View.readCov_cons_toLoadRect, ↓ View.readCov_fill]
  try frame_out
  simp only [cst_zero, whole_1024_1024_bf16, tile_d1792_bf16_0, tile_d1792_f32_0, tile_d1792_bf16_256, tile_d1792_f32_256, tile_d1792_bf16_512, tile_d1792_f32_512, tile_d1792_bf16_768, tile_d1792_f32_768, tile_d1792_bf16_1024, tile_d1792_f32_1024, tile_d1792_bf16_1280, tile_d1792_f32_1280, tile_d1792_bf16_1536, tile_d1792_f32_1536, k7_pay1, k7_pay2, k7_pay3, k7_pay4, k7_pay5, win_flip, k7_pay7, k7_pay8, k7_pay9,
    cast_same, constant_lift2, product0, product1, product2, product3, product4, product5, product6, product7, product8, product9, product10, product11, product12, addf_lift2, zero_add]
  refine store_dw_1792 _ _ ?_ ?_ ?_ ?_ ?_ ?_ ?_ <;> exact fun _ _ _ => rfl
theorem winB (hc : ¬ cond7_0 i) (Z : Fin 1024 → Fin 1792 → ℝ) :
    out7_B_2 (F := Ideal) c i a1 h1 a2 h2 a3 h3 hc (lift2 (φ := .bf16) U) (lift2 (φ := .bf16) Dp) (lift2 (φ := .f32) Z)
      = lift2 (φ := .f32) fun i j => Z i j + ∑ r, U r i * Dp r j := by
  frame_out
  simp only [whole_1024_1024_bf16, tile_d1792_bf16_0, tile_d1792_f32_0, tile_d1792_bf16_256, tile_d1792_f32_256, tile_d1792_bf16_512, tile_d1792_f32_512, tile_d1792_bf16_768, tile_d1792_f32_768, tile_d1792_bf16_1024, tile_d1792_f32_1024, tile_d1792_bf16_1280, tile_d1792_f32_1280, tile_d1792_bf16_1536, tile_d1792_f32_1536, k7_pay1, k7_pay2, k7_pay3, k7_pay4, k7_pay5, win_flip, k7_pay7, k7_pay8, k7_pay9,
    cast_same, constant_lift2, product0, product1, product2, product3, product4, product5, product6, product7, product8, product9, product10, product11, product12, addf_lift2]
  refine store_dw_1792 _ _ ?_ ?_ ?_ ?_ ?_ ?_ ?_ <;> exact fun _ _ _ => rfl

end

end Cert.MixSb
-- ==== Proof.SbBackwardArrays.lean ====
/- The arrays of the kernels that take the gradient back to the token mixer, the queries and the memory in the stick-breaking layer's sub-layer. -/
module

public import proofs.«01_k».proof.Proof.SbForwardArrays
public import proofs.«01_k».proof.Proof.SbBackward
public import proofs.«01_k».proof.Proof.SbGrads
public import Idealize.ShloMosaic.Lib.Pipeline.ReadBack

@[expose] public section

set_option maxRecDepth 16384

noncomputable section

namespace Cert.MixSb

open Idealize.ShloMosaic Cert.Kernel2Ideal Cert.Kernel2Ideal.Gen Cert.FfnBlock Cert.Mixing Idealize.ShloMosaic.TcCoe

set_option backward.isDefEq.respectTransparency.types false

variable (V : (c : Dev nD) → (b : Ref sig .tc) → Buf (Elt Ideal) ((c : Thread nD τ).loc b)) (c : Dev nD)

section
variable (D : Fin 8192 → Fin 1024 → ℝ) (Mx : Fin 8192 → Fin 1024 → ℝ) (Pj : Fin 8192 → Fin 1792 → ℝ) (KV : Fin 256 → Fin 512 → ℝ) (Wo : Fin 768 → Fin 1024 → ℝ) (g : Fin 1024 → ℝ)

/-- The block index of every window at every grid point. -/
theorem index3 : ∀ t : Fin cfg3.N,
    win3_0.index t = ![(t : ℕ), 0]
    ∧ win3_1.index t = ![(t : ℕ), 0]
    ∧ win3_2.index t = ![(t : ℕ), 6]
    ∧ win3_3.index t = ![0, 0]
    ∧ win3_4.index t = ![0, 0, 0]
    ∧ win3_5.index t = ![0, 0]
    ∧ win3_6.index t = ![(t : ℕ), 0]
    ∧ win3_7.index t = ![(t : ℕ), 0]
    ∧ win3_8.index t = ![(t : ℕ), 0]
    ∧ win3_9.index t = ![0, 0]
    ∧ win3_10.index t = ![0, 0] :=
  (by decide +kernel : ∀ t : Fin grid3.N, _)

/-- The arrays this kernel finds on entry. -/
structure Entry3 : Prop where
  e0 : V c (Pipeline.arrRef spec3 0) = (lift2 (φ := .f32) D : FVec Ideal S8192x1024 .f32)
  e1 : V c (Pipeline.arrRef spec3 1) = (lift2 (φ := .f32) Mx : FVec Ideal S8192x1024 .f32)
  e2 : V c (Pipeline.arrRef spec3 2) = (lift2 (φ := .bf16) Pj : FVec Ideal S8192x1792 .bf16)
  e3 : V c (Pipeline.arrRef spec3 3) = argMem KV
  e4 : V c (Pipeline.arrRef spec3 4) = argWo Wo
  e5 : V c (Pipeline.arrRef spec3 5) = argG g

theorem block3_0 (he : Entry3 V c D Mx Pj KV Wo g) (t : Fin cfg3.N) : iblk3 V c 0 t = (lift2 (φ := .f32) fun i => D (row256 t i) : FVec Ideal S256x1024 .f32) := by
  rw [iblk3, he.e0]
  funext y
  show (lift2 (φ := .f32) D : FVec Ideal S8192x1024 .f32) (((cfg3.win 0).blk t).view.emb y) = _
  refine congrArg Real.toEReal (congrArg₂ D (Fin.ext ?_) (Fin.ext ?_))
  · blk_simp [index3 t]; exact (row256_val t.isLt (y 0)).symm
  · blk_simp [index3 t]
theorem block3_1 (he : Entry3 V c D Mx Pj KV Wo g) (t : Fin cfg3.N) : iblk3 V c 1 t = (lift2 (φ := .f32) fun i => Mx (row256 t i) : FVec Ideal S256x1024 .f32) := by
  rw [iblk3, he.e1]
  funext y
  show (lift2 (φ := .f32) Mx : FVec Ideal S8192x1024 .f32) (((cfg3.win 1).blk t).view.emb y) = _
  refine congrArg Real.toEReal (congrArg₂ Mx (Fin.ext ?_) (Fin.ext ?_))
  · blk_simp [index3 t]; exact (row256_val t.isLt (y 0)).symm
  · blk_simp [index3 t]
theorem block3_2 (he : Entry3 V c D Mx Pj KV Wo g) (t : Fin cfg3.N) : iblk3 V c 2 t = (lift2 (φ := .bf16) fun i => query (Pj (row256 t i)) : FVec Ideal S256x256 .bf16) := by
  rw [iblk3, he.e2]
  funext y
  show (lift2 (φ := .bf16) Pj : FVec Ideal S8192x1792 .bf16) (((cfg3.win 2).blk t).view.emb y) = Real.toEReal (query (Pj (row256 t (y 0))) (y 1))
  refine congrArg Real.toEReal (congrArg₂ Pj (Fin.ext ?_) (Fin.ext ?_))
  · blk_simp [index3 t]; exact (row256_val t.isLt (y 0)).symm
  · blk_simp [index3 t]
theorem block3_3 (he : Entry3 V c D Mx Pj KV Wo g) (t : Fin cfg3.N) : iblk3 V c 3 t = argMem KV := by
  rw [iblk3, he.e3]
  funext y
  show argMem KV (((cfg3.win 3).blk t).view.emb y) = argMem KV y
  refine congrArg (argMem KV) (funext fun a => Fin.ext ?_)
  fin_cases a <;> blk_simp [index3 t]
theorem block3_4 (he : Entry3 V c D Mx Pj KV Wo g) (t : Fin cfg3.N) : iblk3 V c 4 t = argWo Wo := by
  rw [iblk3, he.e4]
  funext y
  show argWo Wo (((cfg3.win 4).blk t).view.emb y) = argWo Wo y
  refine congrArg (argWo Wo) (funext fun a => Fin.ext ?_)
  fin_cases a <;> blk_simp [index3 t]
theorem block3_5 (he : Entry3 V c D Mx Pj KV Wo g) (t : Fin cfg3.N) : iblk3 V c 5 t = argG g := by
  rw [iblk3, he.e5]
  funext y
  show argG g (((cfg3.win 5).blk t).view.emb y) = _
  refine congrArg Real.toEReal (congrArg g (Fin.ext ?_))
  blk_simp [index3 t]

/-- What the kernel leaves in its output blocks after each grid point. -/
theorem grads3 (he : Entry3 V c D Mx Pj KV Wo g) (n : ℕ) (hn : n < cfg3.N) :
    outsAt3 V c n hn = (lift2 (φ := .bf16) fun i => mixedBack g (Mx (row256 n i)) (D (row256 n i)),
      lift2 (φ := .f32) fun i => tokBack Wo (mixedBack g (Mx (row256 n i)) (D (row256 n i))),
      lift2 (φ := .bf16) fun i => queryBack KV (query (Pj (row256 n i))) (attBack Wo (mixedBack g (Mx (row256 n i)) (D (row256 n i)))),
      argDmem fun k j => ∑ p ∈ Finset.range (n + 1), ∑ k', memBack KV (query (Pj (row256 p k'))) (attBack Wo (mixedBack g (Mx (row256 p k')) (D (row256 p k')))) k j,
      argG fun j => ∑ p ∈ Finset.range (n + 1), ∑ k', D (row256 p k') j * hat (Mx (row256 p k')) j) := by
  have hN : n < 32 := hn
  induction n with
  | zero =>
    refine (outsAt3_A V c ⟨0, hn⟩ rfl).trans ?_
    rw [block3_0 V c D Mx Pj KV Wo g he, block3_1 V c D Mx Pj KV Wo g he, block3_2 V c D Mx Pj KV Wo g he, block3_3 V c D Mx Pj KV Wo g he, block3_4 V c D Mx Pj KV Wo g he, block3_5 V c D Mx Pj KV Wo g he]
    refine congrArg₂ Prod.mk ?_ (congrArg₂ Prod.mk ?_ (congrArg₂ Prod.mk ?_ (congrArg₂ Prod.mk ?_ (?_))))
    · exact backA_6 ..
    · exact backA_7 ..
    · exact backA_8 ..
    · refine (backA_9 ..).trans ?_
      simp
    · refine (backA_10 ..).trans ?_
      simp
  | succ n ih =>
    refine (outsAt3_B V c ⟨n + 1, hn⟩ (by show ¬ (n + 1) % 32 = 0; omega)).trans ?_
    rw [block3_0 V c D Mx Pj KV Wo g he, block3_1 V c D Mx Pj KV Wo g he, block3_2 V c D Mx Pj KV Wo g he, block3_3 V c D Mx Pj KV Wo g he, block3_4 V c D Mx Pj KV Wo g he, block3_5 V c D Mx Pj KV Wo g he]
    have e : outsAt3 V c n (Nat.lt_of_succ_lt hn) = _ := ih (Nat.lt_of_succ_lt hn) (by omega)
    simp only [Nat.add_sub_cancel]
    simp only [e]
    refine congrArg₂ Prod.mk ?_ (congrArg₂ Prod.mk ?_ (congrArg₂ Prod.mk ?_ (congrArg₂ Prod.mk ?_ (?_))))
    · exact backB_6 ..
    · exact backB_7 ..
    · exact backB_8 ..
    · refine (backB_9 ..).trans ?_
      simp only [Finset.sum_range_succ _ (n + 1)]
    · refine (backB_10 ..).trans ?_
      simp only [Finset.sum_range_succ _ (n + 1)]

/-- The last grid point. -/
def last3 : Fin cfg3.N := ⟨31, by show 31 < 32; norm_num⟩

theorem array_dm (he : Entry3 V c D Mx Pj KV Wo g) :
    (dat3 V c).arrAt 6 cfg3.N = (lift2 (φ := .bf16) fun i => mixedBack g (Mx i) (D i) : FVec Ideal S8192x1024 .bf16) := by
  refine (dat3 V c).arrAt_eq_of_covers 6 _ (by decide +kernel) fun t hf y => ?_
  blk_simp
  rw [after3_6, grads3 V c D Mx Pj KV Wo g he]
  refine congrArg Real.toEReal (congr (congrArg (fun i => mixedBack g (Mx i) (D i)) (Fin.ext ?_)) (Fin.ext ?_))
  · blk_simp [index3 t]; exact row256_val t.isLt (y 0)
  · blk_simp [index3 t]

theorem array_dtok (he : Entry3 V c D Mx Pj KV Wo g) :
    (dat3 V c).arrAt 7 cfg3.N = (lift2 (φ := .f32) fun i => tokBack Wo (mixedBack g (Mx i) (D i)) : FVec Ideal S8192x512 .f32) := by
  refine (dat3 V c).arrAt_eq_of_covers 7 _ (by decide +kernel) fun t hf y => ?_
  blk_simp
  rw [after3_7, grads3 V c D Mx Pj KV Wo g he]
  refine congrArg Real.toEReal (congr (congrArg (fun i => tokBack Wo (mixedBack g (Mx i) (D i))) (Fin.ext ?_)) (Fin.ext ?_))
  · blk_simp [index3 t]; exact row256_val t.isLt (y 0)
  · blk_simp [index3 t]

theorem array_dqm (he : Entry3 V c D Mx Pj KV Wo g) :
    (dat3 V c).arrAt 8 cfg3.N = (lift2 (φ := .bf16) fun i => queryBack KV (query (Pj i)) (attBack Wo (mixedBack g (Mx i) (D i))) : FVec Ideal S8192x256 .bf16) := by
  refine (dat3 V c).arrAt_eq_of_covers 8 _ (by decide +kernel) fun t hf y => ?_
  blk_simp
  rw [after3_8, grads3 V c D Mx Pj KV Wo g he]
  refine congrArg Real.toEReal (congr (congrArg (fun i => queryBack KV (query (Pj i)) (attBack Wo (mixedBack g (Mx i) (D i)))) (Fin.ext ?_)) (Fin.ext ?_))
  · blk_simp [index3 t]; exact row256_val t.isLt (y 0)
  · blk_simp [index3 t]

theorem array_dkv (he : Entry3 V c D Mx Pj KV Wo g) :
    (dat3 V c).arrAt 9 cfg3.N = (argDmem fun k j => ∑ r, memBack KV (query (Pj r)) (attBack Wo (mixedBack g (Mx r) (D r))) k j) := by
  refine (dat3 V c).arrAt_eq_of_after_last 9 last3 (by decide +kernel) _ fun j => ?_
  rw [after3_9, grads3 V c D Mx Pj KV Wo g he]
  exact congrArg Real.toEReal (sum_rows256 fun r => memBack KV (query (Pj r)) (attBack Wo (mixedBack g (Mx r) (D r))) (j 0) (j 1))

theorem array_dgpost (he : Entry3 V c D Mx Pj KV Wo g) :
    (dat3 V c).arrAt 10 cfg3.N = (argG fun j => ∑ r, D r j * hat (Mx r) j) := by
  refine (dat3 V c).arrAt_eq_of_after_last 10 last3 (by decide +kernel) _ fun j => ?_
  rw [after3_10, grads3 V c D Mx Pj KV Wo g he]
  exact congrArg Real.toEReal (sum_rows256 fun r => D r (j 1) * hat (Mx r) (j 1))

end

section
variable (C : Fin 8192 → Fin 768 → ℝ) (Dm : Fin 8192 → Fin 1024 → ℝ)

/-- The block index of every window at every grid point. -/
theorem index4 : ∀ t : Fin cfg4.N,
    win4_0.index t = ![(t : ℕ), 0]
    ∧ win4_1.index t = ![(t : ℕ), 0]
    ∧ win4_2.index t = ![0, 0, 0] :=
  (by decide +kernel : ∀ t : Fin grid4.N, _)

/-- The arrays this kernel finds on entry. -/
structure Entry4 : Prop where
  e0 : V c (Pipeline.arrRef spec4 0) = (lift2 (φ := .bf16) C : FVec Ideal S8192x768 .bf16)
  e1 : V c (Pipeline.arrRef spec4 1) = (lift2 (φ := .bf16) Dm : FVec Ideal S8192x1024 .bf16)

theorem block4_0 (he : Entry4 V c C Dm) (t : Fin cfg4.N) : iblk4 V c 0 t = (lift2 (φ := .bf16) fun i => C (row1024 t i) : FVec Ideal S1024x768 .bf16) := by
  rw [iblk4, he.e0]
  funext y
  show (lift2 (φ := .bf16) C : FVec Ideal S8192x768 .bf16) (((cfg4.win 0).blk t).view.emb y) = _
  refine congrArg Real.toEReal (congrArg₂ C (Fin.ext ?_) (Fin.ext ?_))
  · blk_simp [index4 t]; exact (row1024_val t.isLt (y 0)).symm
  · blk_simp [index4 t]
theorem block4_1 (he : Entry4 V c C Dm) (t : Fin cfg4.N) : iblk4 V c 1 t = (lift2 (φ := .bf16) fun i => Dm (row1024 t i) : FVec Ideal S1024x1024 .bf16) := by
  rw [iblk4, he.e1]
  funext y
  show (lift2 (φ := .bf16) Dm : FVec Ideal S8192x1024 .bf16) (((cfg4.win 1).blk t).view.emb y) = _
  refine congrArg Real.toEReal (congrArg₂ Dm (Fin.ext ?_) (Fin.ext ?_))
  · blk_simp [index4 t]; exact (row1024_val t.isLt (y 0)).symm
  · blk_simp [index4 t]

/-- What the kernel leaves in its output blocks after each grid point. -/
theorem grads4 (he : Entry4 V c C Dm) (n : ℕ) (hn : n < cfg4.N) :
    outsAt4 V c n hn = lift3 (φ := .f32) fun s i j => ∑ p ∈ Finset.range (n + 1), ∑ k', C (row1024 p k') i * Dm (row1024 p k') (quarter s j) := by
  have hN : n < 8 := hn
  induction n with
  | zero =>
    refine (outsAt4_A V c ⟨0, hn⟩ rfl).trans ?_
    rw [block4_0 V c C Dm he, block4_1 V c C Dm he]
    refine (woutA ..).trans ?_
    simp
  | succ n ih =>
    refine (outsAt4_B V c ⟨n + 1, hn⟩ (by show ¬ (n + 1) % 8 = 0; omega)).trans ?_
    rw [block4_0 V c C Dm he, block4_1 V c C Dm he]
    have e : outsAt4 V c n (Nat.lt_of_succ_lt hn) = _ := ih (Nat.lt_of_succ_lt hn) (by omega)
    show out4_B_2 c _ _ _ _ _ _ _ _ _ _ (outsAt4 V c n (Nat.lt_of_succ_lt hn)) = _
    rw [e]
    refine (woutB ..).trans ?_
    simp only [Finset.sum_range_succ _ (n + 1)]

/-- The last grid point. -/
def last4 : Fin cfg4.N := ⟨7, by show 7 < 8; norm_num⟩

theorem array_dwo (he : Entry4 V c C Dm) :
    (dat4 V c).arrAt 2 cfg4.N = (lift3 (φ := .f32) fun s i j => ∑ r, C r i * Dm r (quarter s j)) := by
  refine (dat4 V c).arrAt_eq_of_after_last 2 last4 (by decide +kernel) _ fun j => ?_
  rw [after4_2, grads4 V c C Dm he]
  exact congrArg Real.toEReal (sum_rows1024 fun r => C r (j 1) * Dm r (quarter (j 0) (j 2)))

end

section
variable (M : Fin 256 → Fin 1024 → ℝ) (gm : Fin 1024 → ℝ) (Wkv : Fin 1024 → Fin 512 → ℝ) (DKV : Fin 256 → Fin 512 → ℝ)

/-- The block index of every window at every grid point. -/
theorem index5 : ∀ t : Fin cfg5.N,
    win5_0.index t = ![0, 0]
    ∧ win5_1.index t = ![0, 0]
    ∧ win5_2.index t = ![0, 0, 0]
    ∧ win5_3.index t = ![0, 0]
    ∧ win5_4.index t = ![0, 0]
    ∧ win5_5.index t = ![0, 0] :=
  (by decide +kernel : ∀ t : Fin grid5.N, _)

/-- The arrays this kernel finds on entry. -/
structure Entry5 : Prop where
  e0 : V c (Pipeline.arrRef spec5 0) = argY M
  e1 : V c (Pipeline.arrRef spec5 1) = argG gm
  e2 : V c (Pipeline.arrRef spec5 2) = argKv Wkv
  e3 : V c (Pipeline.arrRef spec5 3) = argDmem DKV

theorem block5_0 (he : Entry5 V c M gm Wkv DKV) (t : Fin cfg5.N) : iblk5 V c 0 t = argY M := by
  rw [iblk5, he.e0]
  funext y
  show argY M (((cfg5.win 0).blk t).view.emb y) = argY M y
  refine congrArg (argY M) (funext fun a => Fin.ext ?_)
  fin_cases a <;> blk_simp [index5 t]
theorem block5_1 (he : Entry5 V c M gm Wkv DKV) (t : Fin cfg5.N) : iblk5 V c 1 t = argG gm := by
  rw [iblk5, he.e1]
  funext y
  show argG gm (((cfg5.win 1).blk t).view.emb y) = _
  refine congrArg Real.toEReal (congrArg gm (Fin.ext ?_))
  blk_simp [index5 t]
theorem block5_2 (he : Entry5 V c M gm Wkv DKV) (t : Fin cfg5.N) : iblk5 V c 2 t = argKv Wkv := by
  rw [iblk5, he.e2]
  funext y
  show argKv Wkv (((cfg5.win 2).blk t).view.emb y) = argKv Wkv y
  refine congrArg (argKv Wkv) (funext fun a => Fin.ext ?_)
  fin_cases a <;> blk_simp [index5 t]
theorem block5_3 (he : Entry5 V c M gm Wkv DKV) (t : Fin cfg5.N) : iblk5 V c 3 t = argDmem DKV := by
  rw [iblk5, he.e3]
  funext y
  show argDmem DKV (((cfg5.win 3).blk t).view.emb y) = argDmem DKV y
  refine congrArg (argDmem DKV) (funext fun a => Fin.ext ?_)
  fin_cases a <;> blk_simp [index5 t]

theorem array_dwkv (he : Entry5 V c M gm Wkv DKV) :
    (dat5 V c).arrAt 4 cfg5.N = (lift2 (φ := .f32) fun i j => ∑ k, normed gm (M k) i * DKV k j) := by
  refine (dat5 V c).arrAt_eq_of_covers 4 _ (by decide +kernel) fun t hf y => ?_
  blk_simp
  rw [after5_4, block5_0 V c M gm Wkv DKV he, block5_1 V c M gm Wkv DKV he, block5_2 V c M gm Wkv DKV he, block5_3 V c M gm Wkv DKV he, memory_dw]
  refine congrArg (lift2 (φ := .f32) fun i j => ∑ k, normed gm (M k) i * DKV k j) (funext fun a => Fin.ext ?_)
  fin_cases a <;> blk_simp [index5 t]

theorem array_dgmem (he : Entry5 V c M gm Wkv DKV) :
    (dat5 V c).arrAt 5 cfg5.N = (argG fun j => ∑ k, timesT Wkv (DKV k) j * hat (M k) j) := by
  refine (dat5 V c).arrAt_eq_of_covers 5 _ (by decide +kernel) fun t hf y => ?_
  blk_simp
  rw [after5_5, block5_0 V c M gm Wkv DKV he, block5_1 V c M gm Wkv DKV he, block5_2 V c M gm Wkv DKV he, block5_3 V c M gm Wkv DKV he, memory_dg]
  refine congrArg (argG fun j => ∑ k, timesT Wkv (DKV k) j * hat (M k) j) (funext fun a => Fin.ext ?_)
  fin_cases a <;> blk_simp [index5 t]

end

end Cert.MixSb
-- ==== Proof.SbInputArrays.lean ====
/- The arrays of the kernels that take the gradient back to the input rows and the input weights in the stick-breaking layer's sub-layer. -/
module

public import proofs.«01_k».proof.Proof.SbForwardArrays
public import proofs.«01_k».proof.Proof.SbGrads
public import Idealize.ShloMosaic.Lib.Pipeline.ReadBack

@[expose] public section

set_option maxRecDepth 16384

noncomputable section

namespace Cert.MixSb

open Idealize.ShloMosaic Cert.Kernel2Ideal Cert.Kernel2Ideal.Gen Cert.FfnBlock Cert.Mixing Idealize.ShloMosaic.TcCoe

set_option backward.isDefEq.respectTransparency.types false

variable (V : (c : Dev nD) → (b : Ref sig .tc) → Buf (Elt Ideal) ((c : Thread nD τ).loc b)) (c : Dev nD)

section
variable (H : Fin 8192 → Fin 1024 → ℝ) (D : Fin 8192 → Fin 1024 → ℝ) (g : Fin 1024 → ℝ) (Wi : Fin 1024 → Fin 1792 → ℝ) (Tq : Fin 8192 → Fin 512 → ℝ) (Tk : Fin 8192 → Fin 512 → ℝ) (Tv : Fin 8192 → Fin 512 → ℝ) (Dq : Fin 8192 → Fin 256 → ℝ)

/-- The block index of every window at every grid point. -/
theorem index6 : ∀ t : Fin cfg6.N,
    win6_0.index t = ![(t : ℕ), 0]
    ∧ win6_1.index t = ![(t : ℕ), 0]
    ∧ win6_2.index t = ![0, 0]
    ∧ win6_3.index t = ![0, 0, 0]
    ∧ win6_4.index t = ![(t : ℕ), 0]
    ∧ win6_5.index t = ![(t : ℕ), 0]
    ∧ win6_6.index t = ![(t : ℕ), 0]
    ∧ win6_7.index t = ![(t : ℕ), 0]
    ∧ win6_8.index t = ![(t : ℕ), 0]
    ∧ win6_9.index t = ![(t : ℕ), 0]
    ∧ win6_10.index t = ![0, 0] :=
  (by decide +kernel : ∀ t : Fin grid6.N, _)

/-- The arrays this kernel finds on entry. -/
structure Entry6 : Prop where
  e0 : V c (Pipeline.arrRef spec6 0) = (lift2 (φ := .f32) H : FVec Ideal S8192x1024 .f32)
  e1 : V c (Pipeline.arrRef spec6 1) = (lift2 (φ := .f32) D : FVec Ideal S8192x1024 .f32)
  e2 : V c (Pipeline.arrRef spec6 2) = argG g
  e3 : V c (Pipeline.arrRef spec6 3) = argWi Wi
  e4 : V c (Pipeline.arrRef spec6 4) = (lift2 (φ := .f32) Tq : FVec Ideal S8192x512 .f32)
  e5 : V c (Pipeline.arrRef spec6 5) = (lift2 (φ := .f32) Tk : FVec Ideal S8192x512 .f32)
  e6 : V c (Pipeline.arrRef spec6 6) = (lift2 (φ := .f32) Tv : FVec Ideal S8192x512 .f32)
  e7 : V c (Pipeline.arrRef spec6 7) = (lift2 (φ := .bf16) Dq : FVec Ideal S8192x256 .bf16)

theorem block6_0 (he : Entry6 V c H D g Wi Tq Tk Tv Dq) (t : Fin cfg6.N) : iblk6 V c 0 t = (lift2 (φ := .f32) fun i => H (row256 t i) : FVec Ideal S256x1024 .f32) := by
  rw [iblk6, he.e0]
  funext y
  show (lift2 (φ := .f32) H : FVec Ideal S8192x1024 .f32) (((cfg6.win 0).blk t).view.emb y) = _
  refine congrArg Real.toEReal (congrArg₂ H (Fin.ext ?_) (Fin.ext ?_))
  · blk_simp [index6 t]; exact (row256_val t.isLt (y 0)).symm
  · blk_simp [index6 t]
theorem block6_1 (he : Entry6 V c H D g Wi Tq Tk Tv Dq) (t : Fin cfg6.N) : iblk6 V c 1 t = (lift2 (φ := .f32) fun i => D (row256 t i) : FVec Ideal S256x1024 .f32) := by
  rw [iblk6, he.e1]
  funext y
  show (lift2 (φ := .f32) D : FVec Ideal S8192x1024 .f32) (((cfg6.win 1).blk t).view.emb y) = _
  refine congrArg Real.toEReal (congrArg₂ D (Fin.ext ?_) (Fin.ext ?_))
  · blk_simp [index6 t]; exact (row256_val t.isLt (y 0)).symm
  · blk_simp [index6 t]
theorem block6_2 (he : Entry6 V c H D g Wi Tq Tk Tv Dq) (t : Fin cfg6.N) : iblk6 V c 2 t = argG g := by
  rw [iblk6, he.e2]
  funext y
  show argG g (((cfg6.win 2).blk t).view.emb y) = _
  refine congrArg Real.toEReal (congrArg g (Fin.ext ?_))
  blk_simp [index6 t]
theorem block6_3 (he : Entry6 V c H D g Wi Tq Tk Tv Dq) (t : Fin cfg6.N) : iblk6 V c 3 t = argWi Wi := by
  rw [iblk6, he.e3]
  funext y
  show argWi Wi (((cfg6.win 3).blk t).view.emb y) = argWi Wi y
  refine congrArg (argWi Wi) (funext fun a => Fin.ext ?_)
  fin_cases a <;> blk_simp [index6 t]
theorem block6_4 (he : Entry6 V c H D g Wi Tq Tk Tv Dq) (t : Fin cfg6.N) : iblk6 V c 4 t = (lift2 (φ := .f32) fun i => Tq (row256 t i) : FVec Ideal S256x512 .f32) := by
  rw [iblk6, he.e4]
  funext y
  show (lift2 (φ := .f32) Tq : FVec Ideal S8192x512 .f32) (((cfg6.win 4).blk t).view.emb y) = _
  refine congrArg Real.toEReal (congrArg₂ Tq (Fin.ext ?_) (Fin.ext ?_))
  · blk_simp [index6 t]; exact (row256_val t.isLt (y 0)).symm
  · blk_simp [index6 t]
theorem block6_5 (he : Entry6 V c H D g Wi Tq Tk Tv Dq) (t : Fin cfg6.N) : iblk6 V c 5 t = (lift2 (φ := .f32) fun i => Tk (row256 t i) : FVec Ideal S256x512 .f32) := by
  rw [iblk6, he.e5]
  funext y
  show (lift2 (φ := .f32) Tk : FVec Ideal S8192x512 .f32) (((cfg6.win 5).blk t).view.emb y) = _
  refine congrArg Real.toEReal (congrArg₂ Tk (Fin.ext ?_) (Fin.ext ?_))
  · blk_simp [index6 t]; exact (row256_val t.isLt (y 0)).symm
  · blk_simp [index6 t]
theorem block6_6 (he : Entry6 V c H D g Wi Tq Tk Tv Dq) (t : Fin cfg6.N) : iblk6 V c 6 t = (lift2 (φ := .f32) fun i => Tv (row256 t i) : FVec Ideal S256x512 .f32) := by
  rw [iblk6, he.e6]
  funext y
  show (lift2 (φ := .f32) Tv : FVec Ideal S8192x512 .f32) (((cfg6.win 6).blk t).view.emb y) = _
  refine congrArg Real.toEReal (congrArg₂ Tv (Fin.ext ?_) (Fin.ext ?_))
  · blk_simp [index6 t]; exact (row256_val t.isLt (y 0)).symm
  · blk_simp [index6 t]
theorem block6_7 (he : Entry6 V c H D g Wi Tq Tk Tv Dq) (t : Fin cfg6.N) : iblk6 V c 7 t = (lift2 (φ := .bf16) fun i => Dq (row256 t i) : FVec Ideal S256x256 .bf16) := by
  rw [iblk6, he.e7]
  funext y
  show (lift2 (φ := .bf16) Dq : FVec Ideal S8192x256 .bf16) (((cfg6.win 7).blk t).view.emb y) = _
  refine congrArg Real.toEReal (congrArg₂ Dq (Fin.ext ?_) (Fin.ext ?_))
  · blk_simp [index6 t]; exact (row256_val t.isLt (y 0)).symm
  · blk_simp [index6 t]

/-- What the kernel leaves in its output blocks after each grid point. -/
theorem grads6 (he : Entry6 V c H D g Wi Tq Tk Tv Dq) (n : ℕ) (hn : n < cfg6.N) :
    outsAt6 V c n hn = (lift2 (φ := .f32) fun i => mixIn g (H (row256 n i)) (D (row256 n i)) (timesT Wi (fourParts (Tq (row256 n i)) (Tk (row256 n i)) (Tv (row256 n i)) (Dq (row256 n i)))),
      lift2 (φ := .bf16) fun i => fourParts (Tq (row256 n i)) (Tk (row256 n i)) (Tv (row256 n i)) (Dq (row256 n i)),
      argG fun j => ∑ p ∈ Finset.range (n + 1), ∑ k', timesT Wi (fourParts (Tq (row256 p k')) (Tk (row256 p k')) (Tv (row256 p k')) (Dq (row256 p k'))) j * hat (H (row256 p k')) j) := by
  have hN : n < 32 := hn
  induction n with
  | zero =>
    refine (outsAt6_A V c ⟨0, hn⟩ rfl).trans ?_
    rw [block6_0 V c H D g Wi Tq Tk Tv Dq he, block6_1 V c H D g Wi Tq Tk Tv Dq he, block6_2 V c H D g Wi Tq Tk Tv Dq he, block6_3 V c H D g Wi Tq Tk Tv Dq he, block6_4 V c H D g Wi Tq Tk Tv Dq he, block6_5 V c H D g Wi Tq Tk Tv Dq he, block6_6 V c H D g Wi Tq Tk Tv Dq he, block6_7 V c H D g Wi Tq Tk Tv Dq he]
    refine congrArg₂ Prod.mk ?_ (congrArg₂ Prod.mk ?_ (?_))
    · exact rowsA_8 ..
    · exact rowsA_9 ..
    · refine (rowsA_10 ..).trans ?_
      simp
  | succ n ih =>
    refine (outsAt6_B V c ⟨n + 1, hn⟩ (by show ¬ (n + 1) % 32 = 0; omega)).trans ?_
    rw [block6_0 V c H D g Wi Tq Tk Tv Dq he, block6_1 V c H D g Wi Tq Tk Tv Dq he, block6_2 V c H D g Wi Tq Tk Tv Dq he, block6_3 V c H D g Wi Tq Tk Tv Dq he, block6_4 V c H D g Wi Tq Tk Tv Dq he, block6_5 V c H D g Wi Tq Tk Tv Dq he, block6_6 V c H D g Wi Tq Tk Tv Dq he, block6_7 V c H D g Wi Tq Tk Tv Dq he]
    have e : outsAt6 V c n (Nat.lt_of_succ_lt hn) = _ := ih (Nat.lt_of_succ_lt hn) (by omega)
    simp only [Nat.add_sub_cancel]
    simp only [e]
    refine congrArg₂ Prod.mk ?_ (congrArg₂ Prod.mk ?_ (?_))
    · exact rowsB_8 ..
    · exact rowsB_9 ..
    · refine (rowsB_10 ..).trans ?_
      simp only [Finset.sum_range_succ _ (n + 1)]

/-- The last grid point. -/
def last6 : Fin cfg6.N := ⟨31, by show 31 < 32; norm_num⟩

theorem array_dh (he : Entry6 V c H D g Wi Tq Tk Tv Dq) :
    (dat6 V c).arrAt 8 cfg6.N = (lift2 (φ := .f32) fun i => mixIn g (H i) (D i) (timesT Wi (fourParts (Tq i) (Tk i) (Tv i) (Dq i))) : FVec Ideal S8192x1024 .f32) := by
  refine (dat6 V c).arrAt_eq_of_covers 8 _ (by decide +kernel) fun t hf y => ?_
  blk_simp
  rw [after6_8, grads6 V c H D g Wi Tq Tk Tv Dq he]
  refine congrArg Real.toEReal (congr (congrArg (fun i => mixIn g (H i) (D i) (timesT Wi (fourParts (Tq i) (Tk i) (Tv i) (Dq i)))) (Fin.ext ?_)) (Fin.ext ?_))
  · blk_simp [index6 t]; exact row256_val t.isLt (y 0)
  · blk_simp [index6 t]

theorem array_dproj (he : Entry6 V c H D g Wi Tq Tk Tv Dq) :
    (dat6 V c).arrAt 9 cfg6.N = (lift2 (φ := .bf16) fun i => fourParts (Tq i) (Tk i) (Tv i) (Dq i) : FVec Ideal S8192x1792 .bf16) := by
  refine (dat6 V c).arrAt_eq_of_covers 9 _ (by decide +kernel) fun t hf y => ?_
  blk_simp
  rw [after6_9, grads6 V c H D g Wi Tq Tk Tv Dq he]
  refine congrArg Real.toEReal (congr (congrArg (fun i => fourParts (Tq i) (Tk i) (Tv i) (Dq i)) (Fin.ext ?_)) (Fin.ext ?_))
  · blk_simp [index6 t]; exact row256_val t.isLt (y 0)
  · blk_simp [index6 t]

theorem array_dgpre (he : Entry6 V c H D g Wi Tq Tk Tv Dq) :
    (dat6 V c).arrAt 10 cfg6.N = (argG fun j => ∑ r, timesT Wi (fourParts (Tq r) (Tk r) (Tv r) (Dq r)) j * hat (H r) j) := by
  refine (dat6 V c).arrAt_eq_of_after_last 10 last6 (by decide +kernel) _ fun j => ?_
  rw [after6_10, grads6 V c H D g Wi Tq Tk Tv Dq he]
  exact congrArg Real.toEReal (sum_rows256 fun r => timesT Wi (fourParts (Tq r) (Tk r) (Tv r) (Dq r)) (j 1) * hat (H r) (j 1))

end

section
variable (U : Fin 8192 → Fin 1024 → ℝ) (Dp : Fin 8192 → Fin 1792 → ℝ)

/-- The block index of every window at every grid point. -/
theorem index7 : ∀ t : Fin cfg7.N,
    win7_0.index t = ![(t : ℕ), 0]
    ∧ win7_1.index t = ![(t : ℕ), 0]
    ∧ win7_2.index t = ![0, 0] :=
  (by decide +kernel : ∀ t : Fin grid7.N, _)

/-- The arrays this kernel finds on entry. -/
structure Entry7 : Prop where
  e0 : V c (Pipeline.arrRef spec7 0) = (lift2 (φ := .bf16) U : FVec Ideal S8192x1024 .bf16)
  e1 : V c (Pipeline.arrRef spec7 1) = (lift2 (φ := .bf16) Dp : FVec Ideal S8192x1792 .bf16)

theorem block7_0 (he : Entry7 V c U Dp) (t : Fin cfg7.N) : iblk7 V c 0 t = (lift2 (φ := .bf16) fun i => U (row1024 t i) : FVec Ideal S1024x1024 .bf16) := by
  rw [iblk7, he.e0]
  funext y
  show (lift2 (φ := .bf16) U : FVec Ideal S8192x1024 .bf16) (((cfg7.win 0).blk t).view.emb y) = _
  refine congrArg Real.toEReal (congrArg₂ U (Fin.ext ?_) (Fin.ext ?_))
  · blk_simp [index7 t]; exact (row1024_val t.isLt (y 0)).symm
  · blk_simp [index7 t]
theorem block7_1 (he : Entry7 V c U Dp) (t : Fin cfg7.N) : iblk7 V c 1 t = (lift2 (φ := .bf16) fun i => Dp (row1024 t i) : FVec Ideal S1024x1792 .bf16) := by
  rw [iblk7, he.e1]
  funext y
  show (lift2 (φ := .bf16) Dp : FVec Ideal S8192x1792 .bf16) (((cfg7.win 1).blk t).view.emb y) = _
  refine congrArg Real.toEReal (congrArg₂ Dp (Fin.ext ?_) (Fin.ext ?_))
  · blk_simp [index7 t]; exact (row1024_val t.isLt (y 0)).symm
  · blk_simp [index7 t]

/-- What the kernel leaves in its output blocks after each grid point. -/
theorem grads7 (he : Entry7 V c U Dp) (n : ℕ) (hn : n < cfg7.N) :
    outsAt7 V c n hn = lift2 (φ := .f32) fun i j => ∑ p ∈ Finset.range (n + 1), ∑ k', U (row1024 p k') i * Dp (row1024 p k') j := by
  have hN : n < 8 := hn
  induction n with
  | zero =>
    refine (outsAt7_A V c ⟨0, hn⟩ rfl).trans ?_
    rw [block7_0 V c U Dp he, block7_1 V c U Dp he]
    refine (winA ..).trans ?_
    simp
  | succ n ih =>
    refine (outsAt7_B V c ⟨n + 1, hn⟩ (by show ¬ (n + 1) % 8 = 0; omega)).trans ?_
    rw [block7_0 V c U Dp he, block7_1 V c U Dp he]
    have e : outsAt7 V c n (Nat.lt_of_succ_lt hn) = _ := ih (Nat.lt_of_succ_lt hn) (by omega)
    show out7_B_2 c _ _ _ _ _ _ _ _ _ _ (outsAt7 V c n (Nat.lt_of_succ_lt hn)) = _
    rw [e]
    refine (winB ..).trans ?_
    simp only [Finset.sum_range_succ _ (n + 1)]

/-- The last grid point. -/
def last7 : Fin cfg7.N := ⟨7, by show 7 < 8; norm_num⟩

theorem array_dwin (he : Entry7 V c U Dp) :
    (dat7 V c).arrAt 2 cfg7.N = (lift2 (φ := .f32) fun i j => ∑ r, U r i * Dp r j) := by
  refine (dat7 V c).arrAt_eq_of_after_last 2 last7 (by decide +kernel) _ fun j => ?_
  rw [after7_2, grads7 V c U Dp he]
  exact congrArg Real.toEReal (sum_rows1024 fun r => U r (j 0) * Dp r (j 1))

end

end Cert.MixSb
-- ==== Proof.SbRun.lean ====
/- The run of the program around a stick-breaking layer's token mixer: from real arguments its ten results end holding the sub-layer's rows and gradients. -/
module

public import proofs.«01_k».proof.Proof.SbForwardArrays
public import proofs.«01_k».proof.Proof.SbBackwardArrays
public import proofs.«01_k».proof.Proof.SbInputArrays
public import proofs.«01_k».proof.Proof.Gen.Kernel2Ideal.Frame
public import Idealize.ShloMosaic.Lib.Pipeline.ReadBack

@[expose] public section

set_option maxRecDepth 16384

noncomputable section

namespace Cert.MixSb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen Cert.FfnBlock Cert.Mixing

set_option backward.isDefEq.respectTransparency.types false

/-! ## Moving arrays in and out of their slots -/

theorem slots_kv (W : Fin 1024 → Fin 512 → ℝ) (h) : shapeCast S4x256x512 (lift2 (φ := .bf16) W : FVec Ideal S1024x512 .bf16) h = argKv W := by
  funext i; pointwise [lift2, lift3]
  exact congrArg Real.toEReal (congrArg (W · (i 2)) (Fin.ext (by simp [quarter, Nat.mul_comm])))
theorem slots_in (W : Fin 1024 → Fin 1792 → ℝ) (h) : shapeCast S1x1024x1792 (lift2 (φ := .bf16) W : FVec Ideal S1024x1792 .bf16) h = argWi W := by
  funext i; pointwise [lift2, lift3]
theorem part_0 (X : Fin 8192 → Fin 1536 → ℝ) (h) :
    extractStridedSlice S8192x512 ![0, 0] (lift2 (φ := .f32) X : FVec Ideal S8192x1536 .f32) h = lift2 (φ := .f32) fun i j => X i (col 0 (by norm_num) j) := by
  funext i; pointwise [lift2]; exact congrArg Real.toEReal (congrArg (X (i 0)) (Fin.ext (by simp [col])))
theorem part_512 (X : Fin 8192 → Fin 1536 → ℝ) (h) :
    extractStridedSlice S8192x512 ![0, 512] (lift2 (φ := .f32) X : FVec Ideal S8192x1536 .f32) h = lift2 (φ := .f32) fun i j => X i (col 512 (by norm_num) j) := by
  funext i; pointwise [lift2]; exact congrArg Real.toEReal (congrArg (X (i 0)) (Fin.ext (by simp [col])))
theorem part_1024 (X : Fin 8192 → Fin 1536 → ℝ) (h) :
    extractStridedSlice S8192x512 ![0, 1024] (lift2 (φ := .f32) X : FVec Ideal S8192x1536 .f32) h = lift2 (φ := .f32) fun i j => X i (col 1024 (by norm_num) j) := by
  funext i; pointwise [lift2]; exact congrArg Real.toEReal (congrArg (X (i 0)) (Fin.ext (by simp [col])))
theorem token_part (X : Fin 8192 → Fin 1792 → ℝ) (h) :
    extractStridedSlice S8192x1536 ![0, 0] (lift2 (φ := .bf16) X : FVec Ideal S8192x1792 .bf16) h = lift2 (φ := .bf16) fun i => forToken (X i) := by
  funext i; pointwise [lift2]; exact congrArg Real.toEReal (congrArg (X (i 0)) (Fin.ext (by simp)))
theorem slots_out (W : Fin 768 → Fin 1024 → ℝ) (h h') :
    transpose S4x768x256 [1, 0, 2] (shapeCast S768x4x256 (lift2 (φ := .bf16) W : FVec Ideal S768x1024 .bf16) h) h' = argWo W := by
  funext i; pointwise [lift2, lift3]
  exact congrArg Real.toEReal (congrArg (W (i 1)) (Fin.ext (by simp [quarter, Nat.mul_comm])))
theorem join_out (W : Fin 768 → Fin 1024 → ℝ) (h h') :
    shapeCast S768x1024 (transpose S768x4x256 [1, 0, 2] (lift3 (φ := .f32) fun s i j => W i (quarter s j) : FVec Ideal S4x768x256 .f32) h) h' = lift2 (φ := .f32) W := by
  funext i; pointwise [lift2, lift3]
  exact congrArg Real.toEReal (congrArg (W (i 0)) (Fin.ext (Nat.div_add_mod _ _)))
theorem drop_row (x : Fin 1024 → ℝ) (h) : shapeCast S1024 (argG x) h = lift1 (φ := .f32) x := by
  funext i; pointwise [lift2, lift1]

variable (I : Inputs) (m : (ℓ : Loc nD τ sig) → Buf (Elt Ideal) ℓ) (ρ : Dev nD → PrngReg) (c : Dev nD)

/-- The program's arguments hold these real arrays. -/
structure Args : Prop where
  a0 : m ((c : Thread nD τ).loc main_arg0) = (lift2 (φ := .f32) I.H : FVec Ideal S8192x1024 .f32)
  a1 : m ((c : Thread nD τ).loc main_arg1) = (lift2 (φ := .f32) I.T : FVec Ideal S8192x512 .f32)
  a2 : m ((c : Thread nD τ).loc main_arg2) = (lift2 (φ := .f32) I.D : FVec Ideal S8192x1024 .f32)
  a3 : m ((c : Thread nD τ).loc main_arg3) = (lift2 (φ := .f32) I.DP : FVec Ideal S8192x1536 .f32)
  a4 : m ((c : Thread nD τ).loc main_arg4) = (lift2 (φ := .f32) I.M : FVec Ideal S256x1024 .f32)
  a5 : m ((c : Thread nD τ).loc main_arg5) = (lift1 (φ := .f32) I.g : FVec Ideal S1024 .f32)
  a6 : m ((c : Thread nD τ).loc main_arg6) = (lift1 (φ := .f32) I.gm : FVec Ideal S1024 .f32)
  a7 : m ((c : Thread nD τ).loc main_arg7) = (lift1 (φ := .f32) I.g' : FVec Ideal S1024 .f32)
  a8 : m ((c : Thread nD τ).loc main_arg8) = (lift2 (φ := .f32) I.Wi : FVec Ideal S1024x1792 .f32)
  a9 : m ((c : Thread nD τ).loc main_arg9) = (lift2 (φ := .f32) I.Wkv : FVec Ideal S1024x512 .f32)
  a10 : m ((c : Thread nD τ).loc main_arg10) = (lift2 (φ := .f32) I.Wo : FVec Ideal S768x1024 .f32)

/-! ## What the preparation leaves -/

theorem prep_v0 : W1 m ρ c (Proc.devRef .tc main_v0) = (shapeCast S1x1024 (m ((c : Thread nD τ).loc main_arg5) : FVec Ideal S1024 .f32) shapeCasts_S1024_S1x1024 : FVec Ideal S1x1024 .f32) := by
  unfold_abbrev_sides
  after_results
  rfl
theorem prep_v1 : W1 m ρ c (Proc.devRef .tc main_v1) = (shapeCast S1x1024 (m ((c : Thread nD τ).loc main_arg6) : FVec Ideal S1024 .f32) shapeCasts_S1024_S1x1024 : FVec Ideal S1x1024 .f32) := by
  unfold_abbrev_sides
  after_results
  rfl
theorem prep_v2 : W1 m ρ c (Proc.devRef .tc main_v2) = (shapeCast S1x1024 (m ((c : Thread nD τ).loc main_arg7) : FVec Ideal S1024 .f32) shapeCasts_S1024_S1x1024 : FVec Ideal S1x1024 .f32) := by
  unfold_abbrev_sides
  after_results
  rfl
theorem prep_v4 : W1 m ρ c (Proc.devRef .tc main_v4) = (shapeCast S1x1024x1792 (truncf .bf16 (m ((c : Thread nD τ).loc main_arg8) : FVec Ideal S1024x1792 .f32) bitsLt_bf16_f32) shapeCasts_S1024x1792_S1x1024x1792 : FVec Ideal S1x1024x1792 .bf16) := by
  unfold_abbrev_sides
  after_results
  rfl
theorem prep_v6 : W1 m ρ c (Proc.devRef .tc main_v6) = (shapeCast S4x256x512 (truncf .bf16 (m ((c : Thread nD τ).loc main_arg9) : FVec Ideal S1024x512 .f32) bitsLt_bf16_f32) shapeCasts_S1024x512_S4x256x512 : FVec Ideal S4x256x512 .bf16) := by
  unfold_abbrev_sides
  after_results
  rfl
theorem prep_v9 : W1 m ρ c (Proc.devRef .tc main_v9) = (transpose S4x768x256 [1, 0, 2] (shapeCast S768x4x256 (truncf .bf16 (m ((c : Thread nD τ).loc main_arg10) : FVec Ideal S768x1024 .f32) bitsLt_bf16_f32) shapeCasts_S768x1024_S768x4x256) transposes_S768x4x256_S4x768x256_1_0_2 : FVec Ideal S4x768x256 .bf16) := by
  unfold_abbrev_sides
  after_results
  rfl

variable (hA : Args I m c)
include hA

theorem ready_v0 : W1 m ρ c (Proc.devRef .tc main_v0) = argG I.g := by
  rw [prep_v0, hA.a5]
  exact cast_row _ _
theorem ready_v1 : W1 m ρ c (Proc.devRef .tc main_v1) = argG I.gm := by
  rw [prep_v1, hA.a6]
  exact cast_row _ _
theorem ready_v2 : W1 m ρ c (Proc.devRef .tc main_v2) = argG I.g' := by
  rw [prep_v2, hA.a7]
  exact cast_row _ _
theorem ready_v4 : W1 m ρ c (Proc.devRef .tc main_v4) = argWi I.Wi := by
  rw [prep_v4, hA.a8, truncf_lift2]
  exact slots_in _ _
theorem ready_v6 : W1 m ρ c (Proc.devRef .tc main_v6) = argKv I.Wkv := by
  rw [prep_v6, hA.a9, truncf_lift2]
  exact slots_kv _ _
theorem ready_v9 : W1 m ρ c (Proc.devRef .tc main_v9) = argWo I.Wo := by
  rw [prep_v9, hA.a10, truncf_lift2]
  exact slots_out _ _ _

/-! ## The kernels, one after another -/

/-- What kernel 0 finds. -/
theorem entry0 : Entry0 (V1 m ρ) c I.M I.gm I.Wkv where
  e0 := (W1_args m ρ c main_arg4 (by decide)).trans hA.a4
  e1 := ready_v1 I m ρ c hA
  e2 := ready_v6 I m ρ c hA
theorem after_kv : W2 m ρ c (Proc.devRef .tc main_v10) = argMem I.mem :=
  (W2_arr m ρ c 3).trans (array_kv (he := entry0 I m ρ c hA))

/-- What kernel 1 finds. -/
theorem entry1 : Entry1 (V2 m ρ) c I.H I.g I.Wi where
  e0 := (W2_args m ρ c main_arg0 (by decide)).trans hA.a0
  e1 := (W2_of m ρ c main_v0 (by decide +kernel)).trans (ready_v0 I m ρ c hA)
  e2 := (W2_of m ρ c main_v4 (by decide +kernel)).trans (ready_v4 I m ρ c hA)
theorem after_u : W3 m ρ c (Proc.devRef .tc main_v11_0) = (lift2 (φ := .bf16) (fun r => normed I.g (I.H r)) : FVec Ideal S8192x1024 .bf16) :=
  (W3_arr m ρ c 3).trans (array_u (he := entry1 I m ρ c hA))
theorem after_proj : W3 m ρ c (Proc.devRef .tc main_v11_1) = (lift2 (φ := .bf16) (I.proj) : FVec Ideal S8192x1792 .bf16) :=
  (W3_arr m ρ c 4).trans (array_proj (he := entry1 I m ρ c hA))

/-- What kernel 2 finds. -/
theorem entry2 : Entry2 (V3 m ρ) c I.H I.T I.proj I.mem I.Wo I.g' where
  e0 := (W3_args m ρ c main_arg0 (by decide)).trans hA.a0
  e1 := (W3_args m ρ c main_arg1 (by decide)).trans hA.a1
  e2 := after_proj I m ρ c hA
  e3 := (W3_of m ρ c main_v10 (by decide +kernel)).trans (after_kv I m ρ c hA)
  e4 := (W3_of m ρ c main_v9 (by decide +kernel)).trans ((W2_of m ρ c main_v9 (by decide +kernel)).trans (ready_v9 I m ρ c hA))
  e5 := (W3_of m ρ c main_v2 (by decide +kernel)).trans ((W2_of m ρ c main_v2 (by decide +kernel)).trans (ready_v2 I m ρ c hA))
theorem after_out : W4 m ρ c (Proc.devRef .tc main_v12_0) = (lift2 (φ := .f32) (I.out) : FVec Ideal S8192x1024 .f32) :=
  (W4_arr m ρ c 6).trans (array_out (he := entry2 I m ρ c hA))
theorem after_cat : W4 m ρ c (Proc.devRef .tc main_v12_1) = (lift2 (φ := .bf16) (I.cat) : FVec Ideal S8192x768 .bf16) :=
  (W4_arr m ρ c 7).trans (array_cat (he := entry2 I m ρ c hA))
theorem after_mix : W4 m ρ c (Proc.devRef .tc main_v12_2) = (lift2 (φ := .f32) (I.mix) : FVec Ideal S8192x1024 .f32) :=
  (W4_arr m ρ c 8).trans (array_mix (he := entry2 I m ρ c hA))

/-- What kernel 3 finds. -/
theorem entry3 : Entry3 (V4 m ρ) c I.D I.mix I.proj I.mem I.Wo I.g' where
  e0 := (W4_args m ρ c main_arg2 (by decide)).trans hA.a2
  e1 := after_mix I m ρ c hA
  e2 := (W4_of m ρ c main_v11_1 (by decide +kernel)).trans (after_proj I m ρ c hA)
  e3 := (W4_of m ρ c main_v10 (by decide +kernel)).trans ((W3_of m ρ c main_v10 (by decide +kernel)).trans (after_kv I m ρ c hA))
  e4 := (W4_of m ρ c main_v9 (by decide +kernel)).trans ((W3_of m ρ c main_v9 (by decide +kernel)).trans ((W2_of m ρ c main_v9 (by decide +kernel)).trans (ready_v9 I m ρ c hA)))
  e5 := (W4_of m ρ c main_v2 (by decide +kernel)).trans ((W3_of m ρ c main_v2 (by decide +kernel)).trans ((W2_of m ρ c main_v2 (by decide +kernel)).trans (ready_v2 I m ρ c hA)))
theorem after_dm : W5 m ρ c (Proc.devRef .tc main_v13_0) = (lift2 (φ := .bf16) (I.dmix) : FVec Ideal S8192x1024 .bf16) :=
  (W5_arr m ρ c 6).trans (array_dm (he := entry3 I m ρ c hA))
theorem after_dtok : W5 m ρ c (Proc.devRef .tc main_v13_1) = (lift2 (φ := .f32) (I.dtok) : FVec Ideal S8192x512 .f32) :=
  (W5_arr m ρ c 7).trans (array_dtok (he := entry3 I m ρ c hA))
theorem after_dqm : W5 m ρ c (Proc.devRef .tc main_v13_2) = (lift2 (φ := .bf16) (I.dquery) : FVec Ideal S8192x256 .bf16) :=
  (W5_arr m ρ c 8).trans (array_dqm (he := entry3 I m ρ c hA))
theorem after_dkv : W5 m ρ c (Proc.devRef .tc main_v13_3) = argDmem I.dmem :=
  (W5_arr m ρ c 9).trans (array_dkv (he := entry3 I m ρ c hA))
theorem after_dgpost : W5 m ρ c (Proc.devRef .tc main_v13_4) = argG I.dgpost :=
  (W5_arr m ρ c 10).trans (array_dgpost (he := entry3 I m ρ c hA))

/-- What kernel 4 finds. -/
theorem entry4 : Entry4 (V5 m ρ) c I.cat I.dmix where
  e0 := (W5_of m ρ c main_v12_1 (by decide +kernel)).trans (after_cat I m ρ c hA)
  e1 := after_dm I m ρ c hA
theorem after_dwo : W6 m ρ c (Proc.devRef .tc main_v14) = (lift3 (φ := .f32) fun s i j => I.dwo i (quarter s j) : FVec Ideal S4x768x256 .f32) :=
  (W6_arr m ρ c 2).trans (array_dwo (he := entry4 I m ρ c hA))

/-- What kernel 5 finds. -/
theorem entry5 : Entry5 (V6 m ρ) c I.M I.gm I.Wkv I.dmem where
  e0 := (W6_args m ρ c main_arg4 (by decide)).trans hA.a4
  e1 := (W6_of m ρ c main_v1 (by decide +kernel)).trans ((W5_of m ρ c main_v1 (by decide +kernel)).trans ((W4_of m ρ c main_v1 (by decide +kernel)).trans ((W3_of m ρ c main_v1 (by decide +kernel)).trans ((W2_of m ρ c main_v1 (by decide +kernel)).trans (ready_v1 I m ρ c hA)))))
  e2 := (W6_of m ρ c main_v6 (by decide +kernel)).trans ((W5_of m ρ c main_v6 (by decide +kernel)).trans ((W4_of m ρ c main_v6 (by decide +kernel)).trans ((W3_of m ρ c main_v6 (by decide +kernel)).trans ((W2_of m ρ c main_v6 (by decide +kernel)).trans (ready_v6 I m ρ c hA)))))
  e3 := (W6_of m ρ c main_v13_3 (by decide +kernel)).trans (after_dkv I m ρ c hA)
theorem after_dwkv : W7 m ρ c (Proc.devRef .tc main_v15_0) = (lift2 (φ := .f32) (I.dwkv) : FVec Ideal S1024x512 .f32) :=
  (W7_arr m ρ c 4).trans (array_dwkv (he := entry5 I m ρ c hA))
theorem after_dgmem : W7 m ρ c (Proc.devRef .tc main_v15_1) = argG I.dgmem :=
  (W7_arr m ρ c 5).trans (array_dgmem (he := entry5 I m ρ c hA))

omit hA in
theorem prep_v16 : W8 m ρ c (Proc.devRef .tc main_v16) = (extractStridedSlice S8192x512 ![0, 0] (W7 m ρ c (Proc.devRef .tc main_arg3) : FVec Ideal S8192x1536 .f32) slices_S8192x1536_S8192x512_0_0 : FVec Ideal S8192x512 .f32) := by
  unfold_abbrev_sides
  after_results
theorem ready_v16 : W8 m ρ c (Proc.devRef .tc main_v16) = (lift2 (φ := .f32) ((fun r j => I.DP r (col 0 (by norm_num) j))) : FVec Ideal S8192x512 .f32) := by
  have h : W7 m ρ c (Proc.devRef .tc main_arg3) = (lift2 (φ := .f32) (I.DP) : FVec Ideal S8192x1536 .f32) := (W7_args m ρ c main_arg3 (by decide)).trans hA.a3
  rw [prep_v16, h]
  exact part_0 _ _
omit hA in
theorem prep_v17 : W8 m ρ c (Proc.devRef .tc main_v17) = (extractStridedSlice S8192x512 ![0, 512] (W7 m ρ c (Proc.devRef .tc main_arg3) : FVec Ideal S8192x1536 .f32) slices_S8192x1536_S8192x512_0_512 : FVec Ideal S8192x512 .f32) := by
  unfold_abbrev_sides
  after_results
theorem ready_v17 : W8 m ρ c (Proc.devRef .tc main_v17) = (lift2 (φ := .f32) ((fun r j => I.DP r (col 512 (by norm_num) j))) : FVec Ideal S8192x512 .f32) := by
  have h : W7 m ρ c (Proc.devRef .tc main_arg3) = (lift2 (φ := .f32) (I.DP) : FVec Ideal S8192x1536 .f32) := (W7_args m ρ c main_arg3 (by decide)).trans hA.a3
  rw [prep_v17, h]
  exact part_512 _ _
omit hA in
theorem prep_v18 : W8 m ρ c (Proc.devRef .tc main_v18) = (extractStridedSlice S8192x512 ![0, 1024] (W7 m ρ c (Proc.devRef .tc main_arg3) : FVec Ideal S8192x1536 .f32) slices_S8192x1536_S8192x512_0_1024 : FVec Ideal S8192x512 .f32) := by
  unfold_abbrev_sides
  after_results
theorem ready_v18 : W8 m ρ c (Proc.devRef .tc main_v18) = (lift2 (φ := .f32) ((fun r j => I.DP r (col 1024 (by norm_num) j))) : FVec Ideal S8192x512 .f32) := by
  have h : W7 m ρ c (Proc.devRef .tc main_arg3) = (lift2 (φ := .f32) (I.DP) : FVec Ideal S8192x1536 .f32) := (W7_args m ρ c main_arg3 (by decide)).trans hA.a3
  rw [prep_v18, h]
  exact part_1024 _ _
/-- What kernel 6 finds. -/
theorem entry6 : Entry6 (V8 m ρ) c I.H I.D I.g I.Wi (fun r j => I.DP r (col 0 (by norm_num) j)) (fun r j => I.DP r (col 512 (by norm_num) j)) (fun r j => I.DP r (col 1024 (by norm_num) j)) I.dquery where
  e0 := (W8_args m ρ c main_arg0 (by decide)).trans hA.a0
  e1 := (W8_args m ρ c main_arg2 (by decide)).trans hA.a2
  e2 := (W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans (ready_v0 I m ρ c hA)))))))
  e3 := (W8_of m ρ c main_v4 (by decide +kernel)).trans ((W7_of m ρ c main_v4 (by decide +kernel)).trans ((W6_of m ρ c main_v4 (by decide +kernel)).trans ((W5_of m ρ c main_v4 (by decide +kernel)).trans ((W4_of m ρ c main_v4 (by decide +kernel)).trans ((W3_of m ρ c main_v4 (by decide +kernel)).trans ((W2_of m ρ c main_v4 (by decide +kernel)).trans (ready_v4 I m ρ c hA)))))))
  e4 := ready_v16 I m ρ c hA
  e5 := ready_v17 I m ρ c hA
  e6 := ready_v18 I m ρ c hA
  e7 := (W8_of m ρ c main_v13_2 (by decide +kernel)).trans ((W7_of m ρ c main_v13_2 (by decide +kernel)).trans ((W6_of m ρ c main_v13_2 (by decide +kernel)).trans (after_dqm I m ρ c hA)))
theorem after_dh : W9 m ρ c (Proc.devRef .tc main_v19_0) = (lift2 (φ := .f32) (I.dh) : FVec Ideal S8192x1024 .f32) :=
  (W9_arr m ρ c 8).trans (array_dh (he := entry6 I m ρ c hA))
theorem after_dproj : W9 m ρ c (Proc.devRef .tc main_v19_1) = (lift2 (φ := .bf16) (I.dproj) : FVec Ideal S8192x1792 .bf16) :=
  (W9_arr m ρ c 9).trans (array_dproj (he := entry6 I m ρ c hA))
theorem after_dgpre : W9 m ρ c (Proc.devRef .tc main_v19_2) = argG I.dgpre :=
  (W9_arr m ρ c 10).trans (array_dgpre (he := entry6 I m ρ c hA))

/-- What kernel 7 finds. -/
theorem entry7 : Entry7 (V9 m ρ) c (fun r => normed I.g (I.H r)) I.dproj where
  e0 := (W9_of m ρ c main_v11_0 (by decide +kernel)).trans ((W8_of m ρ c main_v11_0 (by decide +kernel)).trans ((W7_of m ρ c main_v11_0 (by decide +kernel)).trans ((W6_of m ρ c main_v11_0 (by decide +kernel)).trans ((W5_of m ρ c main_v11_0 (by decide +kernel)).trans ((W4_of m ρ c main_v11_0 (by decide +kernel)).trans (after_u I m ρ c hA))))))
  e1 := after_dproj I m ρ c hA
theorem after_dwin : W10 m ρ c (Proc.devRef .tc main_v20) = (lift2 (φ := .f32) (I.dwin) : FVec Ideal S1024x1792 .f32) :=
  (W10_arr m ρ c 2).trans (array_dwin (he := entry7 I m ρ c hA))

/-! ## The ten results -/

theorem end_out : W11 m ρ c (Proc.devRef .tc main_v12_0) = (lift2 (φ := .f32) (I.out) : FVec Ideal S8192x1024 .f32) :=
  (W11_of m ρ c main_v12_0 (by decide +kernel)).trans ((W10_of m ρ c main_v12_0 (by decide +kernel)).trans ((W9_of m ρ c main_v12_0 (by decide +kernel)).trans ((W8_of m ρ c main_v12_0 (by decide +kernel)).trans ((W7_of m ρ c main_v12_0 (by decide +kernel)).trans ((W6_of m ρ c main_v12_0 (by decide +kernel)).trans ((W5_of m ρ c main_v12_0 (by decide +kernel)).trans (after_out I m ρ c hA)))))))
theorem end_dh : W11 m ρ c (Proc.devRef .tc main_v19_0) = (lift2 (φ := .f32) (I.dh) : FVec Ideal S8192x1024 .f32) :=
  (W11_of m ρ c main_v19_0 (by decide +kernel)).trans ((W10_of m ρ c main_v19_0 (by decide +kernel)).trans (after_dh I m ρ c hA))
theorem end_dtok : W11 m ρ c (Proc.devRef .tc main_v13_1) = (lift2 (φ := .f32) (I.dtok) : FVec Ideal S8192x512 .f32) :=
  (W11_of m ρ c main_v13_1 (by decide +kernel)).trans ((W10_of m ρ c main_v13_1 (by decide +kernel)).trans ((W9_of m ρ c main_v13_1 (by decide +kernel)).trans ((W8_of m ρ c main_v13_1 (by decide +kernel)).trans ((W7_of m ρ c main_v13_1 (by decide +kernel)).trans ((W6_of m ρ c main_v13_1 (by decide +kernel)).trans (after_dtok I m ρ c hA))))))
theorem end_dwin : W11 m ρ c (Proc.devRef .tc main_v20) = (lift2 (φ := .f32) (I.dwin) : FVec Ideal S1024x1792 .f32) :=
  (W11_of m ρ c main_v20 (by decide +kernel)).trans (after_dwin I m ρ c hA)
theorem end_dwkv : W11 m ρ c (Proc.devRef .tc main_v15_0) = (lift2 (φ := .f32) (I.dwkv) : FVec Ideal S1024x512 .f32) :=
  (W11_of m ρ c main_v15_0 (by decide +kernel)).trans ((W10_of m ρ c main_v15_0 (by decide +kernel)).trans ((W9_of m ρ c main_v15_0 (by decide +kernel)).trans ((W8_of m ρ c main_v15_0 (by decide +kernel)).trans (after_dwkv I m ρ c hA))))
omit hA in
theorem last_tok : W11 m ρ c (Proc.devRef .tc main_v22) = (extf .f32 (extractStridedSlice S8192x1536 ![0, 0] (W10 m ρ c (Proc.devRef .tc main_v11_1) : FVec Ideal S8192x1792 .bf16) slices_S8192x1792_S8192x1536_0_0) bitsLt_bf16_f32 : FVec Ideal S8192x1536 .f32) := by
  unfold_abbrev_sides
  after_results
theorem end_tok : W11 m ρ c (Proc.devRef .tc main_v22) = (lift2 (φ := .f32) (fun r => forToken (I.proj r)) : FVec Ideal S8192x1536 .f32) := by
  have h : W10 m ρ c (Proc.devRef .tc main_v11_1) = (lift2 (φ := .bf16) (I.proj) : FVec Ideal S8192x1792 .bf16) :=
    (W10_of m ρ c main_v11_1 (by decide +kernel)).trans ((W9_of m ρ c main_v11_1 (by decide +kernel)).trans ((W8_of m ρ c main_v11_1 (by decide +kernel)).trans ((W7_of m ρ c main_v11_1 (by decide +kernel)).trans ((W6_of m ρ c main_v11_1 (by decide +kernel)).trans ((W5_of m ρ c main_v11_1 (by decide +kernel)).trans ((W4_of m ρ c main_v11_1 (by decide +kernel)).trans (after_proj I m ρ c hA)))))))
  rw [last_tok, h]
  exact (congrArg (extf .f32 · bitsLt_bf16_f32) (token_part _ _)).trans (extf_lift2 _ _)
omit hA in
theorem last_dgpre : W11 m ρ c (Proc.devRef .tc main_v23) = shapeCast S1024 (W10 m ρ c (Proc.devRef .tc main_v19_2) : FVec Ideal S1x1024 .f32) shapeCasts_S1x1024_S1024 := by
  unfold_abbrev_sides
  after_results
  rfl
theorem end_dgpre : W11 m ρ c (Proc.devRef .tc main_v23) = (lift1 (φ := .f32) (I.dgpre) : FVec Ideal S1024 .f32) := by
  have h : W10 m ρ c (Proc.devRef .tc main_v19_2) = argG I.dgpre :=
    (W10_of m ρ c main_v19_2 (by decide +kernel)).trans (after_dgpre I m ρ c hA)
  rw [last_dgpre, h]
  exact drop_row _ _
omit hA in
theorem last_dgmem : W11 m ρ c (Proc.devRef .tc main_v24) = shapeCast S1024 (W10 m ρ c (Proc.devRef .tc main_v15_1) : FVec Ideal S1x1024 .f32) shapeCasts_S1x1024_S1024 := by
  unfold_abbrev_sides
  after_results
  rfl
theorem end_dgmem : W11 m ρ c (Proc.devRef .tc main_v24) = (lift1 (φ := .f32) (I.dgmem) : FVec Ideal S1024 .f32) := by
  have h : W10 m ρ c (Proc.devRef .tc main_v15_1) = argG I.dgmem :=
    (W10_of m ρ c main_v15_1 (by decide +kernel)).trans ((W9_of m ρ c main_v15_1 (by decide +kernel)).trans ((W8_of m ρ c main_v15_1 (by decide +kernel)).trans (after_dgmem I m ρ c hA)))
  rw [last_dgmem, h]
  exact drop_row _ _
omit hA in
theorem last_dgpost : W11 m ρ c (Proc.devRef .tc main_v25) = shapeCast S1024 (W10 m ρ c (Proc.devRef .tc main_v13_4) : FVec Ideal S1x1024 .f32) shapeCasts_S1x1024_S1024 := by
  unfold_abbrev_sides
  after_results
  rfl
theorem end_dgpost : W11 m ρ c (Proc.devRef .tc main_v25) = (lift1 (φ := .f32) (I.dgpost) : FVec Ideal S1024 .f32) := by
  have h : W10 m ρ c (Proc.devRef .tc main_v13_4) = argG I.dgpost :=
    (W10_of m ρ c main_v13_4 (by decide +kernel)).trans ((W9_of m ρ c main_v13_4 (by decide +kernel)).trans ((W8_of m ρ c main_v13_4 (by decide +kernel)).trans ((W7_of m ρ c main_v13_4 (by decide +kernel)).trans ((W6_of m ρ c main_v13_4 (by decide +kernel)).trans (after_dgpost I m ρ c hA)))))
  rw [last_dgpost, h]
  exact drop_row _ _
omit hA in
theorem last_dwo : W11 m ρ c (Proc.devRef .tc main_v27)
    = shapeCast S768x1024 (transpose S768x4x256 [1, 0, 2] (W10 m ρ c (Proc.devRef .tc main_v14) : FVec Ideal S4x768x256 .f32)
        transposes_S4x768x256_S768x4x256_1_0_2) shapeCasts_S768x4x256_S768x1024 := by
  unfold_abbrev_sides
  after_results
  rfl
theorem end_dwo : W11 m ρ c (Proc.devRef .tc main_v27) = (lift2 (φ := .f32) (I.dwo) : FVec Ideal S768x1024 .f32) := by
  have h : W10 m ρ c (Proc.devRef .tc main_v14) = (lift3 (φ := .f32) fun s i j => I.dwo i (quarter s j) : FVec Ideal S4x768x256 .f32) :=
    (W10_of m ρ c main_v14 (by decide +kernel)).trans ((W9_of m ρ c main_v14 (by decide +kernel)).trans ((W8_of m ρ c main_v14 (by decide +kernel)).trans ((W7_of m ρ c main_v14 (by decide +kernel)).trans (after_dwo I m ρ c hA))))
  rw [last_dwo, h]
  exact join_out _ _ _

/-! ## The run -/

omit hA I c

local notation "𝕄" => MT nD τ sig Unit (Elt Ideal) ℕ (UR sig nD τ) ℕ

/-- Every run ends with each lasting buffer at the contents the program's stages leave in it. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

/-- The contents of the ten results and of the arguments at the end of a run. -/
theorem run_values : θ_run defs (onTc (τ := τ) (main (F := Ideal))) ⟨m, fun _ => 0, ρ⟩ (fun r => ∀ c : Dev nD,
      r.2.mem ((c.tc : Thread nD τ).loc main_v12_0) = W11 m ρ c (Proc.devRef .tc main_v12_0)
      ∧ r.2.mem ((c.tc : Thread nD τ).loc main_v22) = W11 m ρ c (Proc.devRef .tc main_v22)
      ∧ r.2.mem ((c.tc : Thread nD τ).loc main_v19_0) = W11 m ρ c (Proc.devRef .tc main_v19_0)
      ∧ r.2.mem ((c.tc : Thread nD τ).loc main_v13_1) = W11 m ρ c (Proc.devRef .tc main_v13_1)
      ∧ r.2.mem ((c.tc : Thread nD τ).loc main_v23) = W11 m ρ c (Proc.devRef .tc main_v23)
      ∧ r.2.mem ((c.tc : Thread nD τ).loc main_v24) = W11 m ρ c (Proc.devRef .tc main_v24)
      ∧ r.2.mem ((c.tc : Thread nD τ).loc main_v25) = W11 m ρ c (Proc.devRef .tc main_v25)
      ∧ r.2.mem ((c.tc : Thread nD τ).loc main_v20) = W11 m ρ c (Proc.devRef .tc main_v20)
      ∧ r.2.mem ((c.tc : Thread nD τ).loc main_v15_0) = W11 m ρ c (Proc.devRef .tc main_v15_0)
      ∧ r.2.mem ((c.tc : Thread nD τ).loc main_v27) = W11 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v12_0 (by decide)),
      h c _ (mem_uc main_v22 (by decide)),
      h c _ (mem_uc main_v19_0 (by decide)),
      h c _ (mem_uc main_v13_1 (by decide)),
      h c _ (mem_uc main_v23 (by decide)),
      h c _ (mem_uc main_v24 (by decide)),
      h c _ (mem_uc main_v25 (by decide)),
      h c _ (mem_uc main_v20 (by decide)),
      h c _ (mem_uc main_v15_0 (by decide)),
      h c _ (mem_uc main_v27 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c)⟩) (run_all m ρ)

end Cert.MixSb
-- ==== Proof.MixHost.lean ====
/- The host's operations on real arrays of the mixing sub-layer: heads, greatest scores, paddings, and the identities that
   turn the chain rule's sums into the sub-layer's gradients. -/
module

public import proofs.«01_k».proof.Proof.MixBack
public import proofs.«01_k».proof.Proof.ReferenceBackward

@[expose] public section

set_option maxRecDepth 16384

noncomputable section

namespace Cert.Mixing

open Idealize.ShloMosaic Cert.FfnBlock

set_option backward.isDefEq.respectTransparency.types false

/-- An entry's place within its head. -/
def inHead (j : Fin 256) : Fin 64 := ⟨j % 64, by omega⟩
theorem hd_headOf (j : Fin 256) : hd (headOf j) (inHead j) = j := Fin.ext (Nat.div_add_mod _ _)
/-- An array whose first entries are these and whose others are zero. -/
def lowPart {w m : ℕ} (x : Fin w → ℝ) (j : Fin m) : ℝ := if h : (j : ℕ) < w then x ⟨j, h⟩ else 0
/-- An array whose entries from `o` on are these and whose others are zero. -/
def highPart {w m : ℕ} (o : ℕ) (x : Fin w → ℝ) (j : Fin m) : ℝ :=
  if h : o ≤ (j : ℕ) ∧ (j : ℕ) - o < w then x ⟨(j : ℕ) - o, h.2⟩ else 0

/-- The denominator of the normalised exponentials. -/
def total (s : Fin 256 → ℝ) : ℝ := ∑ l, Real.exp (s l - top s)
/-- The gradient that reaches a row through its mean square, halved. -/
def sizeBack (x t : Fin 1024 → ℝ) : ℝ := (∑ k, x k * t k) * (-1 / 2 * (rs x / ms x)) / 1024

/-! ## Layouts -/

theorem heads_rows (X : Fin 8192 → Fin 256 → ℝ) (h) :
    shapeCast ⟨3, ![8192, 4, 64]⟩ (lift2 (φ := .f32) X) h = lift3 (φ := .f32) fun r k d => X r (hd k d) := by
  funext i; pointwise [lift2, lift3]
  exact congrArg Real.toEReal (congrArg (X (i 0)) (Fin.ext (by simp [hd, Nat.mul_comm])))
theorem heads_mem (X : Fin 256 → Fin 256 → ℝ) (h) :
    shapeCast ⟨3, ![256, 4, 64]⟩ (lift2 (φ := .f32) X) h = lift3 (φ := .f32) fun r k d => X r (hd k d) := by
  funext i; pointwise [lift2, lift3]
  exact congrArg Real.toEReal (congrArg (X (i 0)) (Fin.ext (by simp [hd, Nat.mul_comm])))
theorem flat_rows (X : Fin 8192 → Fin 4 → Fin 64 → ℝ) (h) :
    shapeCast ⟨2, ![8192, 256]⟩ (lift3 (φ := .f32) X) h = lift2 (φ := .f32) fun r j => X r (headOf j) (inHead j) := by
  funext i; pointwise [lift2, lift3]; rfl
theorem flat_mem (X : Fin 256 → Fin 4 → Fin 64 → ℝ) (h) :
    shapeCast ⟨2, ![256, 256]⟩ (lift3 (φ := .f32) X) h = lift2 (φ := .f32) fun r j => X r (headOf j) (inHead j) := by
  funext i; pointwise [lift2, lift3]; rfl
theorem with_last (X : Fin 4 → Fin 8192 → ℝ) (h) :
    shapeCast ⟨3, ![4, 8192, 1]⟩ (lift2 (φ := .f32) X) h = lift3 (φ := .f32) fun k r _ => X k r := by
  funext i; pointwise [lift2, lift3]
theorem join_rows (x : Fin 8192 → Fin 512 → ℝ) (y : Fin 8192 → Fin 256 → ℝ) (h) :
    concatenate ⟨2, ![8192, 768]⟩ 1 [⟨⟨2, ![8192, 512]⟩, lift2 (φ := .f32) x⟩, ⟨⟨2, ![8192, 256]⟩, lift2 (φ := .f32) y⟩] h
      = lift2 (φ := .f32) fun r => beside (x r) (y r) := by
  funext i; pointwise [lift2, beside]
  split_ifs <;> rfl
theorem join_rows_of {x : Fin 8192 → Fin 512 → ℝ} {y : Fin 8192 → Fin 256 → ℝ} {a : FVec Ideal ⟨2, ![8192, 256]⟩ .f32}
    (e : a = lift2 (φ := .f32) y) (h) :
    concatenate ⟨2, ![8192, 768]⟩ 1 [⟨⟨2, ![8192, 512]⟩, lift2 (φ := .f32) x⟩, ⟨⟨2, ![8192, 256]⟩, a⟩] h
      = lift2 (φ := .f32) fun r => beside (x r) (y r) := by
  subst e; exact join_rows _ _ _

/-- The greatest entry of each row of scores. -/
theorem max_last (X : Fin 4 → Fin 8192 → Fin 256 → ℝ) (h) (hu) :
    Host.reduce (FloatOps.maximumf (F := Ideal) (φ := .f32)) (lift3 (φ := .f32) X) (constant (F := Ideal) ⟨0, ![]⟩ .f32 0xFF800000#32) (axes := [2]) (t := ⟨2, ![4, 8192]⟩) h hu
      = lift2 (φ := .f32) fun k r => top (X k r) := by
  funext i
  pointwise [lift2, lift3]
  rw [ofBits_bottom]
  exact coe_top _

/-! ## Paddings -/

theorem pad_low_1536_1792 (x : Fin 8192 → Fin 1536 → ℝ) (h) (hu) :
    pad ⟨2, ![8192, 1792]⟩ ![0, 0] ![0, 256] ![0, 0] (lift2 (φ := .f32) x) (constant (F := Ideal) ⟨0, ![]⟩ .f32 0x00000000#32) h hu
      = lift2 (φ := .f32) fun r => lowPart (x r) := by
  funext i
  pointwise [lift2, lowPart]
  split_ifs <;> rfl
theorem pad_high_256_1792 (x : Fin 8192 → Fin 256 → ℝ) (h) (hu) :
    pad ⟨2, ![8192, 1792]⟩ ![0, 1536] ![0, 0] ![0, 0] (lift2 (φ := .f32) x) (constant (F := Ideal) ⟨0, ![]⟩ .f32 0x00000000#32) h hu
      = lift2 (φ := .f32) fun r => highPart 1536 (x r) := by
  funext i
  pointwise [lift2, highPart]
  split_ifs <;> rfl
theorem pad_low_512_768 (x : Fin 8192 → Fin 512 → ℝ) (h) (hu) :
    pad ⟨2, ![8192, 768]⟩ ![0, 0] ![0, 256] ![0, 0] (lift2 (φ := .f32) x) (constant (F := Ideal) ⟨0, ![]⟩ .f32 0x00000000#32) h hu
      = lift2 (φ := .f32) fun r => lowPart (x r) := by
  funext i
  pointwise [lift2, lowPart]
  split_ifs <;> rfl
theorem pad_high_256_768 (x : Fin 8192 → Fin 256 → ℝ) (h) (hu) :
    pad ⟨2, ![8192, 768]⟩ ![0, 512] ![0, 0] ![0, 0] (lift2 (φ := .f32) x) (constant (F := Ideal) ⟨0, ![]⟩ .f32 0x00000000#32) h hu
      = lift2 (φ := .f32) fun r => highPart 512 (x r) := by
  funext i
  pointwise [lift2, highPart]
  split_ifs <;> rfl
theorem pad_low_256_512 (x : Fin 256 → Fin 256 → ℝ) (h) (hu) :
    pad ⟨2, ![256, 512]⟩ ![0, 0] ![0, 256] ![0, 0] (lift2 (φ := .f32) x) (constant (F := Ideal) ⟨0, ![]⟩ .f32 0x00000000#32) h hu
      = lift2 (φ := .f32) fun r => lowPart (x r) := by
  funext i
  pointwise [lift2, lowPart]
  split_ifs <;> rfl
theorem pad_high_256_512 (x : Fin 256 → Fin 256 → ℝ) (h) (hu) :
    pad ⟨2, ![256, 512]⟩ ![0, 256] ![0, 0] ![0, 0] (lift2 (φ := .f32) x) (constant (F := Ideal) ⟨0, ![]⟩ .f32 0x00000000#32) h hu
      = lift2 (φ := .f32) fun r => highPart 256 (x r) := by
  funext i
  pointwise [lift2, highPart]
  split_ifs <;> rfl

/-! ## The chain rule's sums -/

/-- The gradient of the normalised exponentials, as the chain of its operations gives it. -/
theorem soft_back (s t : Fin 256 → ℝ) (k : Fin 256) :
    (t k / total s + -(∑ l, t l * (1 / (total s * total s)) * Real.exp (s l - top s)))
      * Real.exp (s k - top s) = softBack (soft s) t k := by
  unfold softBack soft total
  set Z := ∑ l, Real.exp (s l - top s) with hZ
  have hz : Z ≠ 0 := (Finset.sum_pos (fun _ _ => Real.exp_pos _) Finset.univ_nonempty).ne'
  have e1 : ∑ l, t l * (1 / (Z * Z)) * Real.exp (s l - top s) = (∑ l, t l * Real.exp (s l - top s)) / (Z * Z) := by
    rw [Finset.sum_div]; exact Finset.sum_congr rfl fun l _ => by ring
  have e2 : ∑ l, t l * (Real.exp (s l - top s) / Z) = (∑ l, t l * Real.exp (s l - top s)) / Z := by
    rw [Finset.sum_div]; exact Finset.sum_congr rfl fun l _ => by ring
  rw [e1, e2]; field_simp; ring
/-- The two halves of the gradient at the memory's keys and values. -/
theorem mem_back (KV : Fin 256 → Fin 512 → ℝ) (q a : Fin 8192 → Fin 256 → ℝ) (k : Fin 256) (j : Fin 512) :
    highPart 256 (fun j => ∑ r, a r j * prob KV (q r) (headOf j) k) j + lowPart (fun j => ∑ r, scoreBack KV (q r) (a r) (headOf j) k * q r j) j
      = ∑ r, memBack KV (q r) (a r) k j := by
  have hj := j.isLt
  unfold highPart lowPart memBack
  by_cases h : (j : ℕ) < 256
  · simp only [dif_pos h]
    rw [dif_neg (by omega), zero_add]
  · simp only [dif_neg h]
    rw [dif_pos (by omega), add_zero]
    exact Finset.sum_congr rfl fun r _ => mul_comm _ _
/-- The attention's row, as the product of the memory's values with the weights gives it. -/
theorem attend_eq (KV : Fin 256 → Fin 512 → ℝ) (q : Fin 256 → ℝ) (j : Fin 256) :
    ∑ k, KV k (valCol (hd (headOf j) (inHead j))) * prob KV q (headOf j) k = attend KV q j := by
  rw [hd_headOf]; exact Finset.sum_congr rfl fun _ _ => mul_comm _ _
/-- The gradient at the query row, head by head. -/
theorem query_eq (KV : Fin 256 → Fin 512 → ℝ) (q a : Fin 256 → ℝ) (j : Fin 256) :
    ∑ k, scoreBack KV q a (headOf j) k * KV k (keyCol (hd (headOf j) (inHead j))) = queryBack KV q a j := by
  rw [hd_headOf]; rfl
/-- The query's gradient after the token mixer's. -/
theorem beside_parts (x : Fin 512 → ℝ) (y : Fin 256 → ℝ) (j : Fin 768) : lowPart x j + highPart 512 y j = beside x y j := by
  have hj := j.isLt
  unfold lowPart highPart beside
  by_cases h : (j : ℕ) < 512
  · rw [dif_pos h, dif_pos h, dif_neg (by omega), add_zero]
  · rw [dif_neg h, dif_neg h, dif_pos (by omega), zero_add]
theorem four_parts (x : Fin 1536 → ℝ) (y : Fin 256 → ℝ) (j : Fin 1792) (h0 h1 h2) :
    lowPart x j + highPart 1536 y j = fourParts (fun j => x (col 0 h0 j)) (fun j => x (col 512 h1 j)) (fun j => x (col 1024 h2 j)) y j := by
  have hj := j.isLt
  unfold lowPart highPart fourParts
  by_cases h : (j : ℕ) < 1536
  · rw [dif_pos h, dif_neg (by omega), add_zero]
    split_ifs with h3 h4 h5
    · exact congrArg x (Fin.ext (by simp only [col]; omega))
    · exact congrArg x (Fin.ext (by simp only [col]; omega))
    · exact congrArg x (Fin.ext (by simp only [col]; omega))
    · omega
  · rw [dif_neg h, dif_pos (by omega), zero_add, dif_neg (by omega), dif_neg (by omega), dif_neg (by omega)]

/-! ## Constants and quotients -/

theorem word_width : (FloatOps.ofBits .f32 0x44800000#32 : Ideal .f32) = ((1024 : ℝ) : EReal) := ofBits_width
theorem word_eps : (FloatOps.ofBits .f32 0x358637BD#32 : Ideal .f32) = ((eps : ℝ) : EReal) := ofBits_eps
theorem word_neg_half : (FloatOps.ofBits .f32 0xBF000000#32 : Ideal .f32) = ((-1 / 2 : ℝ) : EReal) := ofBits_neg_half
theorem word_eighth : (FloatOps.ofBits .f32 0x3E000000#32 : Ideal .f32) = ((1 / 8 : ℝ) : EReal) := ofBits_eighth
theorem word_one : (FloatOps.ofBits .f32 0x3F800000#32 : Ideal .f32) = ((1 : ℝ) : EReal) := ofBits_one
theorem max_bottom (x : ℝ) :
    FloatOps.maximumf (F := Ideal) (φ := .f32) (FloatOps.ofBits .f32 0xFF800000#32) ((x : ℝ) : EReal) = ((x : ℝ) : EReal) := by
  show max (Ideal.ofBits .f32 0xFF800000#32 : EReal) ((x : ℝ) : EReal) = _
  rw [ofBits_bottom]; exact max_eq_right bot_le
theorem total_ne (s : Fin 256 → ℝ) : total s ≠ 0 :=
  (Finset.sum_pos (fun _ _ => Real.exp_pos _) Finset.univ_nonempty).ne'

end Cert.Mixing
-- ==== Proof.SbReferenceForward.lean ====
/- The reference of a stick-breaking layer's mixing sub-layer on real numbers: each operation of the forward pass in turn. -/
module

public import proofs.«01_k».proof.Proof.SbValues
public import proofs.«01_k».proof.Proof.MixHost
public import proofs.«01_k».proof.Proof.Gen.Reference2Ideal.Read

@[expose] public section

set_option maxRecDepth 16384

noncomputable section

namespace Cert.MixSb

open Idealize.ShloMosaic Cert.FfnBlock Cert.Mixing Cert.Reference2Ideal Cert.Reference2Ideal.Gen Cert.Reference2Ideal.Read

set_option backward.isDefEq.respectTransparency.types false

/-! ## The arguments -/

namespace Inputs

variable (I : Inputs)

abbrev h : FVec Ideal S8192x1024 .f32 := lift2 (φ := .f32) I.H
abbrev t : FVec Ideal S8192x512 .f32 := lift2 (φ := .f32) I.T
abbrev d : FVec Ideal S8192x1024 .f32 := lift2 (φ := .f32) I.D
abbrev dp : FVec Ideal S8192x1536 .f32 := lift2 (φ := .f32) I.DP
abbrev p : FVec Ideal S256x1024 .f32 := lift2 (φ := .f32) I.M
abbrev g1 : FVec Ideal S1024 .f32 := lift1 (φ := .f32) I.g
abbrev g2 : FVec Ideal S1024 .f32 := lift1 (φ := .f32) I.gm
abbrev g3 : FVec Ideal S1024 .f32 := lift1 (φ := .f32) I.g'
abbrev w1 : FVec Ideal S1024x1792 .f32 := lift2 (φ := .f32) I.Wi
abbrev w2 : FVec Ideal S1024x512 .f32 := lift2 (φ := .f32) I.Wkv
abbrev w3 : FVec Ideal S768x1024 .f32 := lift2 (φ := .f32) I.Wo

end Inputs

variable (I : Inputs)

/-! ## One operation after another -/

theorem at_v0 : val_main_v0 (F := Ideal) I.h =
    lift2 (φ := .f32) fun a b => I.H a b * I.H a b := by
  funext i
  rw [val_main_v0_apply]
  exact (EReal.coe_mul _ _).symm
theorem at_v1 : val_main_v1 (F := Ideal) I.h =
    lift1 (φ := .f32) fun a => ∑ k, I.H a k * I.H a k := by
  funext i
  rw [val_main_v1_apply, val_main_cst_apply, at_v0 I]
  exact host_sum _
theorem at_v4 : val_main_v4 (F := Ideal) I.h =
    lift2 (φ := .f32) fun a _ => (∑ k, I.H a k * I.H a k) / 1024 := by
  funext i
  rw [val_main_v4_apply, val_main_v2_apply, at_v1 I, val_main_v3_apply, val_main_cst_0_apply, word_width]
  exact host_div (by norm_num) _
theorem at_v6 : val_main_v6 (F := Ideal) I.h =
    lift2 (φ := .f32) fun a _ => ms (I.H a) := by
  funext i
  rw [val_main_v6_apply, at_v4 I, val_main_v5_apply, val_main_cst_1_apply, word_eps]
  exact (EReal.coe_add _ _).symm
theorem at_v7 : val_main_v7 (F := Ideal) I.h =
    lift2 (φ := .f32) fun a _ => rs (I.H a) := by
  funext i
  rw [val_main_v7_apply, at_v6 I]
  exact host_rsqrt (ms_pos _)
theorem at_v8 : val_main_v8 (F := Ideal) I.h =
    lift2 (φ := .f32) fun a _ => rs (I.H a) / ms (I.H a) := by
  funext i
  rw [val_main_v8_apply, at_v7 I, at_v6 I]
  exact host_div (ms_pos _).ne' _
theorem at_v10 : val_main_v10 (F := Ideal) I.h =
    lift2 (φ := .f32) fun a _ => (-1 / 2) * (rs (I.H a) / ms (I.H a)) := by
  funext i
  rw [val_main_v10_apply, val_main_v9_apply, val_main_cst_2_apply, word_neg_half, at_v8 I]
  exact (EReal.coe_mul _ _).symm
theorem at_v12 : val_main_v12 (F := Ideal) I.h =
    lift2 (φ := .f32) fun a b => hat (I.H a) b := by
  funext i
  rw [val_main_v12_apply, val_main_v11_apply, at_v7 I]
  exact (EReal.coe_mul _ _).symm
theorem at_v15 : val_main_v15 (F := Ideal) I.h I.g1 =
    lift2 (φ := .f32) fun a b => normed I.g (I.H a) b := by
  funext i
  rw [val_main_v15_apply, at_v12 I, val_main_v14_apply, val_main_v13_apply]
  exact (EReal.coe_mul _ _).symm
theorem at_v16 : val_main_v16 (F := Ideal) I.p =
    lift2 (φ := .f32) fun a b => I.M a b * I.M a b := by
  funext i
  rw [val_main_v16_apply]
  exact (EReal.coe_mul _ _).symm
theorem at_v17 : val_main_v17 (F := Ideal) I.p =
    lift1 (φ := .f32) fun a => ∑ k, I.M a k * I.M a k := by
  funext i
  rw [val_main_v17_apply, val_main_cst_3_apply, at_v16 I]
  exact host_sum _
theorem at_v20 : val_main_v20 (F := Ideal) I.p =
    lift2 (φ := .f32) fun a _ => (∑ k, I.M a k * I.M a k) / 1024 := by
  funext i
  rw [val_main_v20_apply, val_main_v18_apply, at_v17 I, val_main_v19_apply, val_main_cst_4_apply, word_width]
  exact host_div (by norm_num) _
theorem at_v22 : val_main_v22 (F := Ideal) I.p =
    lift2 (φ := .f32) fun a _ => ms (I.M a) := by
  funext i
  rw [val_main_v22_apply, at_v20 I, val_main_v21_apply, val_main_cst_5_apply, word_eps]
  exact (EReal.coe_add _ _).symm
theorem at_v23 : val_main_v23 (F := Ideal) I.p =
    lift2 (φ := .f32) fun a _ => rs (I.M a) := by
  funext i
  rw [val_main_v23_apply, at_v22 I]
  exact host_rsqrt (ms_pos _)
theorem at_v25 : val_main_v25 (F := Ideal) I.p =
    lift2 (φ := .f32) fun a b => hat (I.M a) b := by
  funext i
  rw [val_main_v25_apply, val_main_v24_apply, at_v23 I]
  exact (EReal.coe_mul _ _).symm
theorem at_v28 : val_main_v28 (F := Ideal) I.p I.g2 =
    lift2 (φ := .f32) fun a b => normed I.gm (I.M a) b := by
  funext i
  rw [val_main_v28_apply, at_v25 I, val_main_v27_apply, val_main_v26_apply]
  exact (EReal.coe_mul _ _).symm
theorem at_v29 : val_main_v29 (F := Ideal) I.h I.g1 I.w1 =
    lift2 (φ := .f32) fun a b => I.proj a b := by
  funext i
  rw [val_main_v29_apply, at_v15 I]
  exact host_dot _ _
theorem at_v30 : val_main_v30 (F := Ideal) I.h I.g1 I.w1 =
    lift2 (φ := .f32) fun a b => query (I.proj a) b := by
  funext i
  rw [val_main_v30_apply, at_v29 I]
  rfl
theorem at_v31 : val_main_v31 (F := Ideal) I.p I.g2 I.w2 =
    lift2 (φ := .f32) fun a b => I.mem a b := by
  funext i
  rw [val_main_v31_apply, at_v28 I]
  exact host_dot _ _
theorem at_v32 : val_main_v32 (F := Ideal) I.p I.g2 I.w2 =
    lift2 (φ := .f32) fun a b => I.mem a (keyCol b) := by
  funext i
  rw [val_main_v32_apply, at_v31 I]
  rfl
theorem at_v33 : val_main_v33 (F := Ideal) I.p I.g2 I.w2 =
    lift3 (φ := .f32) fun a b c => I.mem a (keyCol (hd b c)) := by
  funext i
  unfold val_main_v33
  rw [at_v32 I]
  exact congrFun (heads_mem _ _) i
theorem at_v34 : val_main_v34 (F := Ideal) I.p I.g2 I.w2 =
    lift2 (φ := .f32) fun a b => I.mem a (valCol b) := by
  funext i
  rw [val_main_v34_apply, at_v31 I]
  rfl
theorem at_v35 : val_main_v35 (F := Ideal) I.p I.g2 I.w2 =
    lift3 (φ := .f32) fun a b c => I.mem a (valCol (hd b c)) := by
  funext i
  unfold val_main_v35
  rw [at_v34 I]
  exact congrFun (heads_mem _ _) i
theorem at_v36 : val_main_v36 (F := Ideal) I.h I.g1 I.w1 =
    lift3 (φ := .f32) fun a b c => query (I.proj a) (hd b c) := by
  funext i
  unfold val_main_v36
  rw [at_v30 I]
  exact congrFun (heads_rows _ _) i
theorem at_v37 : val_main_v37 (F := Ideal) I.h I.p I.g1 I.g2 I.w1 I.w2 =
    lift3 (φ := .f32) fun a b c => ∑ k, query (I.proj b) (hd a k) * I.mem c (keyCol (hd a k)) := by
  funext i
  rw [val_main_v37_apply, at_v36 I, at_v33 I]
  exact host_dot _ _
theorem at_v39 : val_main_v39 (F := Ideal) I.h I.p I.g1 I.g2 I.w1 I.w2 =
    lift3 (φ := .f32) fun a b c => score I.mem (query (I.proj b)) a c := by
  funext i
  rw [val_main_v39_apply, at_v37 I, val_main_v38_apply, val_main_cst_6_apply, word_eighth]
  exact (EReal.coe_mul _ _).symm
theorem at_v40 : val_main_v40 (F := Ideal) I.h I.p I.g1 I.g2 I.w1 I.w2 =
    lift2 (φ := .f32) fun a b => top (score I.mem (query (I.proj b)) a) := by
  funext i
  unfold val_main_v40
  rw [at_v39 I]
  exact congrFun (max_last _ _ _) i
theorem at_v47 : val_main_v47 (F := Ideal) I.h I.p I.g1 I.g2 I.w1 I.w2 =
    lift2 (φ := .f32) fun a b => top (score I.mem (query (I.proj b)) a) := by
  funext i
  rw [val_main_v47_apply, val_main_v46_apply, val_main_cst_9_apply, at_v40 I]
  exact max_bottom _
theorem at_v59 : val_main_v59 (F := Ideal) I.h I.p I.g1 I.g2 I.w1 I.w2 =
    lift3 (φ := .f32) fun a b c => score I.mem (query (I.proj b)) a c - top (score I.mem (query (I.proj b)) a) := by
  funext i
  rw [val_main_v59_apply, at_v39 I, val_main_v58_apply, val_main_v57_apply, at_v47 I]
  exact (EReal.coe_sub _ _).symm
theorem at_v60 : val_main_v60 (F := Ideal) I.h I.p I.g1 I.g2 I.w1 I.w2 =
    lift3 (φ := .f32) fun a b c => Real.exp (score I.mem (query (I.proj b)) a c - top (score I.mem (query (I.proj b)) a)) := by
  funext i
  rw [val_main_v60_apply, at_v59 I]
  rfl
theorem at_v61 : val_main_v61 (F := Ideal) I.h I.p I.g1 I.g2 I.w1 I.w2 =
    lift2 (φ := .f32) fun a b => total (score I.mem (query (I.proj b)) a) := by
  funext i
  rw [val_main_v61_apply, val_main_cst_15_apply, at_v60 I]
  exact host_sum _
theorem at_v64 : val_main_v64 (F := Ideal) I.h I.p I.g1 I.g2 I.w1 I.w2 =
    lift3 (φ := .f32) fun a b c => prob I.mem (query (I.proj b)) a c := by
  funext i
  rw [val_main_v64_apply, at_v60 I, val_main_v63_apply, val_main_v62_apply, at_v61 I]
  exact host_div (total_ne _) _
theorem at_v65 : val_main_v65 (F := Ideal) I.h I.p I.g1 I.g2 I.w1 I.w2 =
    lift3 (φ := .f32) fun a b _ => total (score I.mem (query (I.proj b)) a) * total (score I.mem (query (I.proj b)) a) := by
  funext i
  rw [val_main_v65_apply, val_main_v62_apply, at_v61 I]
  exact (EReal.coe_mul _ _).symm
theorem at_v67 : val_main_v67 (F := Ideal) I.h I.p I.g1 I.g2 I.w1 I.w2 =
    lift3 (φ := .f32) fun a b _ => 1 / (total (score I.mem (query (I.proj b)) a) * total (score I.mem (query (I.proj b)) a)) := by
  funext i
  rw [val_main_v67_apply, val_main_v66_apply, val_main_cst_16_apply, word_one, at_v65 I]
  exact host_div (mul_ne_zero (total_ne _) (total_ne _)) _
theorem at_v68 : val_main_v68 (F := Ideal) I.h I.p I.g1 I.g2 I.w1 I.w2 =
    lift3 (φ := .f32) fun a b c => ∑ k, I.mem k (valCol (hd a b)) * prob I.mem (query (I.proj c)) a k := by
  funext i
  rw [val_main_v68_apply, at_v35 I, at_v64 I]
  exact host_dot _ _
theorem at_v69 : val_main_v69 (F := Ideal) I.h I.p I.g1 I.g2 I.w1 I.w2 =
    lift3 (φ := .f32) fun a b c => ∑ k, I.mem k (valCol (hd b c)) * prob I.mem (query (I.proj a)) b k := by
  funext i
  rw [val_main_v69_apply, at_v68 I]
  rfl
theorem at_v70 : val_main_v70 (F := Ideal) I.h I.p I.g1 I.g2 I.w1 I.w2 =
    lift2 (φ := .f32) fun a b => attend I.mem (query (I.proj a)) b := by
  funext i
  unfold val_main_v70
  rw [at_v69 I]
  exact (congrFun (flat_rows _ _) i).trans (congrArg Real.toEReal (attend_eq _ _ _))
theorem at_v71 : val_main_v71 (F := Ideal) I.h I.t I.p I.g1 I.g2 I.w1 I.w2 =
    lift2 (φ := .f32) fun a b => I.cat a b := by
  funext i
  unfold val_main_v71
  exact congrFun (join_rows_of (at_v70 I) _) i
theorem at_v72 : val_main_v72 (F := Ideal) I.h I.t I.p I.g1 I.g2 I.w1 I.w2 I.w3 =
    lift2 (φ := .f32) fun a b => I.mix a b := by
  funext i
  rw [val_main_v72_apply, at_v71 I]
  exact host_dot _ _
theorem at_v73 : val_main_v73 (F := Ideal) I.h I.t I.p I.g1 I.g2 I.w1 I.w2 I.w3 =
    lift2 (φ := .f32) fun a b => I.mix a b * I.mix a b := by
  funext i
  rw [val_main_v73_apply, at_v72 I]
  exact (EReal.coe_mul _ _).symm
theorem at_v74 : val_main_v74 (F := Ideal) I.h I.t I.p I.g1 I.g2 I.w1 I.w2 I.w3 =
    lift1 (φ := .f32) fun a => ∑ k, I.mix a k * I.mix a k := by
  funext i
  rw [val_main_v74_apply, val_main_cst_17_apply, at_v73 I]
  exact host_sum _
theorem at_v77 : val_main_v77 (F := Ideal) I.h I.t I.p I.g1 I.g2 I.w1 I.w2 I.w3 =
    lift2 (φ := .f32) fun a _ => (∑ k, I.mix a k * I.mix a k) / 1024 := by
  funext i
  rw [val_main_v77_apply, val_main_v75_apply, at_v74 I, val_main_v76_apply, val_main_cst_18_apply, word_width]
  exact host_div (by norm_num) _
theorem at_v79 : val_main_v79 (F := Ideal) I.h I.t I.p I.g1 I.g2 I.w1 I.w2 I.w3 =
    lift2 (φ := .f32) fun a _ => ms (I.mix a) := by
  funext i
  rw [val_main_v79_apply, at_v77 I, val_main_v78_apply, val_main_cst_19_apply, word_eps]
  exact (EReal.coe_add _ _).symm
theorem at_v80 : val_main_v80 (F := Ideal) I.h I.t I.p I.g1 I.g2 I.w1 I.w2 I.w3 =
    lift2 (φ := .f32) fun a _ => rs (I.mix a) := by
  funext i
  rw [val_main_v80_apply, at_v79 I]
  exact host_rsqrt (ms_pos _)
theorem at_v81 : val_main_v81 (F := Ideal) I.h I.t I.p I.g1 I.g2 I.w1 I.w2 I.w3 =
    lift2 (φ := .f32) fun a _ => rs (I.mix a) / ms (I.mix a) := by
  funext i
  rw [val_main_v81_apply, at_v80 I, at_v79 I]
  exact host_div (ms_pos _).ne' _
theorem at_v83 : val_main_v83 (F := Ideal) I.h I.t I.p I.g1 I.g2 I.w1 I.w2 I.w3 =
    lift2 (φ := .f32) fun a _ => (-1 / 2) * (rs (I.mix a) / ms (I.mix a)) := by
  funext i
  rw [val_main_v83_apply, val_main_v82_apply, val_main_cst_20_apply, word_neg_half, at_v81 I]
  exact (EReal.coe_mul _ _).symm
theorem at_v85 : val_main_v85 (F := Ideal) I.h I.t I.p I.g1 I.g2 I.w1 I.w2 I.w3 =
    lift2 (φ := .f32) fun a b => hat (I.mix a) b := by
  funext i
  rw [val_main_v85_apply, at_v72 I, val_main_v84_apply, at_v80 I]
  exact (EReal.coe_mul _ _).symm
theorem at_v88 : val_main_v88 (F := Ideal) I.h I.t I.p I.g1 I.g2 I.g3 I.w1 I.w2 I.w3 =
    lift2 (φ := .f32) fun a b => normed I.g' (I.mix a) b := by
  funext i
  rw [val_main_v88_apply, at_v85 I, val_main_v87_apply, val_main_v86_apply]
  exact (EReal.coe_mul _ _).symm
theorem at_v89 : val_main_v89 (F := Ideal) I.h I.t I.p I.g1 I.g2 I.g3 I.w1 I.w2 I.w3 =
    lift2 (φ := .f32) fun a b => I.out a b := by
  funext i
  rw [val_main_v89_apply, at_v88 I]
  exact (EReal.coe_add _ _).symm
theorem at_v90 : val_main_v90 (F := Ideal) I.h I.g1 I.w1 =
    lift2 (φ := .f32) fun a b => forToken (I.proj a) b := by
  funext i
  rw [val_main_v90_apply, at_v29 I]
  rfl

end Cert.MixSb
-- ==== Proof.SbReferenceBackward.lean ====
/- The reference of a stick-breaking layer's mixing sub-layer on real numbers: each operation of the backward pass in turn. -/
module

public import proofs.«01_k».proof.Proof.SbReferenceForward

@[expose] public section

set_option maxRecDepth 16384

noncomputable section

namespace Cert.MixSb

open Idealize.ShloMosaic Cert.FfnBlock Cert.Mixing Cert.Reference2Ideal Cert.Reference2Ideal.Gen Cert.Reference2Ideal.Read

set_option backward.isDefEq.respectTransparency.types false

variable (I : Inputs)

/-! ## One operation after another -/

theorem at_v91 : val_main_v91 (F := Ideal) I.dp =
    lift2 (φ := .f32) fun a b => lowPart (I.DP a) b := by
  funext i
  unfold val_main_v91
  exact congrFun (pad_low_1536_1792 _ _ _) i
theorem at_v92 : val_main_v92 (F := Ideal) I.d =
    lift2 (φ := .f32) fun a b => I.D a b := by
  funext i
  unfold val_main_v92
  exact congrFun (cast_same _ _) i
theorem at_v93 : val_main_v93 (F := Ideal) I.h I.t I.d I.p I.g1 I.g2 I.w1 I.w2 I.w3 =
    lift2 (φ := .f32) fun a b => hat (I.mix a) b * I.D a b := by
  funext i
  rw [val_main_v93_apply, at_v85 I, at_v92 I]
  exact (EReal.coe_mul _ _).symm
theorem at_v94 : val_main_v94 (F := Ideal) I.h I.t I.d I.p I.g1 I.g2 I.w1 I.w2 I.w3 =
    lift1 (φ := .f32) fun a => I.dgpost a := by
  funext i
  rw [val_main_v94_apply, val_main_cst_22_apply, at_v93 I]
  exact (host_sum _).trans (congrArg Real.toEReal (Finset.sum_congr rfl fun _ _ => mul_comm _ _))
theorem at_v95 : val_main_v95 (F := Ideal) I.h I.t I.d I.p I.g1 I.g2 I.w1 I.w2 I.w3 =
    lift2 (φ := .f32) fun _ b => I.dgpost b := by
  funext i
  unfold val_main_v95
  rw [at_v94 I]
  exact congrFun (cast_row _ _) i
theorem at_v97 : val_main_v97 (F := Ideal) I.d I.g3 =
    lift2 (φ := .f32) fun a b => I.D a b * I.g' b := by
  funext i
  rw [val_main_v97_apply, at_v92 I, val_main_v96_apply, val_main_v86_apply]
  exact (EReal.coe_mul _ _).symm
theorem at_v98 : val_main_v98 (F := Ideal) I.h I.t I.d I.p I.g1 I.g2 I.w1 I.w2 I.w3 =
    lift1 (φ := .f32) fun a => I.dgpost a := by
  funext i
  rw [val_main_v98_apply, val_main_cst_23_apply, at_v95 I]
  exact host_sum_one _
theorem at_v99 : val_main_v99 (F := Ideal) I.h I.t I.d I.p I.g1 I.g2 I.g3 I.w1 I.w2 I.w3 =
    lift2 (φ := .f32) fun a b => I.mix a b * (I.D a b * I.g' b) := by
  funext i
  rw [val_main_v99_apply, at_v72 I, at_v97 I]
  exact (EReal.coe_mul _ _).symm
theorem at_v100 : val_main_v100 (F := Ideal) I.h I.t I.d I.p I.g1 I.g2 I.g3 I.w1 I.w2 I.w3 =
    lift1 (φ := .f32) fun a => ∑ k, I.mix a k * (I.D a k * I.g' k) := by
  funext i
  rw [val_main_v100_apply, val_main_cst_24_apply, at_v99 I]
  exact host_sum _
theorem at_v101 : val_main_v101 (F := Ideal) I.h I.t I.d I.p I.g1 I.g2 I.g3 I.w1 I.w2 I.w3 =
    lift2 (φ := .f32) fun a _ => ∑ k, I.mix a k * (I.D a k * I.g' k) := by
  funext i
  unfold val_main_v101
  rw [at_v100 I]
  exact congrFun (cast_col _ _) i
theorem at_v103 : val_main_v103 (F := Ideal) I.h I.t I.d I.p I.g1 I.g2 I.g3 I.w1 I.w2 I.w3 =
    lift2 (φ := .f32) fun a b => (I.D a b * I.g' b) * rs (I.mix a) := by
  funext i
  rw [val_main_v103_apply, at_v97 I, val_main_v102_apply, at_v80 I]
  exact (EReal.coe_mul _ _).symm
theorem at_v104 : val_main_v104 (F := Ideal) I.h I.t I.d I.p I.g1 I.g2 I.g3 I.w1 I.w2 I.w3 =
    lift2 (φ := .f32) fun a _ => (∑ k, I.mix a k * (I.D a k * I.g' k)) * ((-1 / 2) * (rs (I.mix a) / ms (I.mix a))) := by
  funext i
  rw [val_main_v104_apply, at_v101 I, at_v83 I]
  exact (EReal.coe_mul _ _).symm
theorem at_v106 : val_main_v106 (F := Ideal) I.h I.t I.d I.p I.g1 I.g2 I.g3 I.w1 I.w2 I.w3 =
    lift2 (φ := .f32) fun a _ => sizeBack (I.mix a) (fun j => I.D a j * I.g' j) := by
  funext i
  rw [val_main_v106_apply, at_v104 I, val_main_v105_apply, val_main_cst_25_apply, word_width]
  exact host_div (by norm_num) _
theorem at_v107 : val_main_v107 (F := Ideal) I.h I.t I.d I.p I.g1 I.g2 I.g3 I.w1 I.w2 I.w3 =
    lift1 (φ := .f32) fun a => sizeBack (I.mix a) (fun j => I.D a j * I.g' j) := by
  funext i
  rw [val_main_v107_apply, val_main_cst_26_apply, at_v106 I]
  exact host_sum_one _
theorem at_v109 : val_main_v109 (F := Ideal) I.h I.t I.d I.p I.g1 I.g2 I.g3 I.w1 I.w2 I.w3 =
    lift2 (φ := .f32) fun a b => I.mix a b * sizeBack (I.mix a) (fun j => I.D a j * I.g' j) := by
  funext i
  rw [val_main_v109_apply, at_v72 I, val_main_v108_apply, at_v107 I]
  exact (EReal.coe_mul _ _).symm
theorem at_v110 : val_main_v110 (F := Ideal) I.h I.t I.d I.p I.g1 I.g2 I.g3 I.w1 I.w2 I.w3 =
    lift2 (φ := .f32) fun a b => (I.D a b * I.g' b) * rs (I.mix a) + (I.mix a b * sizeBack (I.mix a) (fun j => I.D a j * I.g' j)) := by
  funext i
  rw [val_main_v110_apply, at_v103 I, at_v109 I]
  exact (EReal.coe_add _ _).symm
theorem at_v111 : val_main_v111 (F := Ideal) I.h I.t I.d I.p I.g1 I.g2 I.g3 I.w1 I.w2 I.w3 =
    lift2 (φ := .f32) fun a b => sizeBack (I.mix a) (fun j => I.D a j * I.g' j) * I.mix a b := by
  funext i
  rw [val_main_v111_apply, val_main_v108_apply, at_v107 I, at_v72 I]
  exact (EReal.coe_mul _ _).symm
theorem at_v112 : val_main_v112 (F := Ideal) I.h I.t I.d I.p I.g1 I.g2 I.g3 I.w1 I.w2 I.w3 =
    lift2 (φ := .f32) fun a b => I.dmix a b := by
  funext i
  rw [val_main_v112_apply, at_v110 I, at_v111 I]
  exact ((EReal.coe_add _ _).symm).trans (congrArg Real.toEReal (rms_back (fun j => I.D (i 0) j * I.g' j) _ _))
theorem at_v113 : val_main_v113 (F := Ideal) I.h I.t I.d I.p I.g1 I.g2 I.g3 I.w1 I.w2 I.w3 =
    lift2 (φ := .f32) fun a b => ∑ k, I.dmix k a * I.cat k b := by
  funext i
  rw [val_main_v113_apply, at_v112 I, at_v71 I]
  exact host_dot _ _
theorem at_v114 : val_main_v114 (F := Ideal) I.h I.t I.d I.p I.g1 I.g2 I.g3 I.w1 I.w2 I.w3 =
    lift2 (φ := .f32) fun a b => I.dwo a b := by
  funext i
  rw [val_main_v114_apply, at_v113 I]
  exact congrArg Real.toEReal (Finset.sum_congr rfl fun _ _ => mul_comm _ _)
theorem at_v115 : val_main_v115 (F := Ideal) I.h I.t I.d I.p I.g1 I.g2 I.g3 I.w1 I.w2 I.w3 =
    lift2 (φ := .f32) fun a b => timesT I.Wo (I.dmix a) b := by
  funext i
  rw [val_main_v115_apply, at_v112 I]
  exact host_dot _ _
theorem at_v116 : val_main_v116 (F := Ideal) I.h I.t I.d I.p I.g1 I.g2 I.g3 I.w1 I.w2 I.w3 =
    lift2 (φ := .f32) fun a b => I.dtok a b := by
  funext i
  rw [val_main_v116_apply, at_v115 I]
  rfl
theorem at_v117 : val_main_v117 (F := Ideal) I.h I.t I.d I.p I.g1 I.g2 I.g3 I.w1 I.w2 I.w3 =
    lift2 (φ := .f32) fun a b => attBack I.Wo (I.dmix a) b := by
  funext i
  rw [val_main_v117_apply, at_v115 I]
  rfl
theorem at_v118 : val_main_v118 (F := Ideal) I.h I.t I.d I.p I.g1 I.g2 I.g3 I.w1 I.w2 I.w3 =
    lift3 (φ := .f32) fun a b c => attBack I.Wo (I.dmix a) (hd b c) := by
  funext i
  unfold val_main_v118
  rw [at_v117 I]
  exact congrFun (heads_rows _ _) i
theorem at_v119 : val_main_v119 (F := Ideal) I.h I.t I.d I.p I.g1 I.g2 I.g3 I.w1 I.w2 I.w3 =
    lift3 (φ := .f32) fun a b c => attBack I.Wo (I.dmix c) (hd a b) := by
  funext i
  rw [val_main_v119_apply, at_v118 I]
  rfl
theorem at_v120 : val_main_v120 (F := Ideal) I.h I.t I.d I.p I.g1 I.g2 I.g3 I.w1 I.w2 I.w3 =
    lift3 (φ := .f32) fun a b c => probBack I.mem (attBack I.Wo (I.dmix b)) a c := by
  funext i
  rw [val_main_v120_apply, at_v119 I, at_v35 I]
  exact host_dot _ _
theorem at_v121 : val_main_v121 (F := Ideal) I.h I.t I.d I.p I.g1 I.g2 I.g3 I.w1 I.w2 I.w3 =
    lift3 (φ := .f32) fun a b c => ∑ k, attBack I.Wo (I.dmix k) (hd a b) * prob I.mem (query (I.proj k)) a c := by
  funext i
  rw [val_main_v121_apply, at_v119 I, at_v64 I]
  exact host_dot _ _
theorem at_v122 : val_main_v122 (F := Ideal) I.h I.t I.d I.p I.g1 I.g2 I.g3 I.w1 I.w2 I.w3 =
    lift3 (φ := .f32) fun a b c => ∑ k, attBack I.Wo (I.dmix k) (hd b c) * prob I.mem (query (I.proj k)) b a := by
  funext i
  rw [val_main_v122_apply, at_v121 I]
  rfl
theorem at_v124 : val_main_v124 (F := Ideal) I.h I.t I.d I.p I.g1 I.g2 I.g3 I.w1 I.w2 I.w3 =
    lift3 (φ := .f32) fun a b c => probBack I.mem (attBack I.Wo (I.dmix b)) a c * (1 / (total (score I.mem (query (I.proj b)) a) * total (score I.mem (query (I.proj b)) a))) := by
  funext i
  rw [val_main_v124_apply, at_v120 I, val_main_v123_apply, at_v67 I]
  exact (EReal.coe_mul _ _).symm
theorem at_v125 : val_main_v125 (F := Ideal) I.h I.t I.d I.p I.g1 I.g2 I.g3 I.w1 I.w2 I.w3 =
    lift3 (φ := .f32) fun a b c => (probBack I.mem (attBack I.Wo (I.dmix b)) a c * (1 / (total (score I.mem (query (I.proj b)) a) * total (score I.mem (query (I.proj b)) a)))) * Real.exp (score I.mem (query (I.proj b)) a c - top (score I.mem (query (I.proj b)) a)) := by
  funext i
  rw [val_main_v125_apply, at_v124 I, at_v60 I]
  exact (EReal.coe_mul _ _).symm
theorem at_v126 : val_main_v126 (F := Ideal) I.h I.t I.d I.p I.g1 I.g2 I.g3 I.w1 I.w2 I.w3 =
    lift2 (φ := .f32) fun a b => ∑ k, (probBack I.mem (attBack I.Wo (I.dmix b)) a k * (1 / (total (score I.mem (query (I.proj b)) a) * total (score I.mem (query (I.proj b)) a)))) * Real.exp (score I.mem (query (I.proj b)) a k - top (score I.mem (query (I.proj b)) a)) := by
  funext i
  rw [val_main_v126_apply, val_main_cst_27_apply, at_v125 I]
  exact host_sum _
theorem at_v127 : val_main_v127 (F := Ideal) I.h I.t I.d I.p I.g1 I.g2 I.g3 I.w1 I.w2 I.w3 =
    lift3 (φ := .f32) fun a b _ => ∑ k, (probBack I.mem (attBack I.Wo (I.dmix b)) a k * (1 / (total (score I.mem (query (I.proj b)) a) * total (score I.mem (query (I.proj b)) a)))) * Real.exp (score I.mem (query (I.proj b)) a k - top (score I.mem (query (I.proj b)) a)) := by
  funext i
  unfold val_main_v127
  rw [at_v126 I]
  exact congrFun (with_last _ _) i
theorem at_v128 : val_main_v128 (F := Ideal) I.h I.t I.d I.p I.g1 I.g2 I.g3 I.w1 I.w2 I.w3 =
    lift3 (φ := .f32) fun a b _ => -(∑ k, (probBack I.mem (attBack I.Wo (I.dmix b)) a k * (1 / (total (score I.mem (query (I.proj b)) a) * total (score I.mem (query (I.proj b)) a)))) * Real.exp (score I.mem (query (I.proj b)) a k - top (score I.mem (query (I.proj b)) a))) := by
  funext i
  rw [val_main_v128_apply, at_v127 I]
  exact (EReal.coe_neg _).symm
theorem at_v130 : val_main_v130 (F := Ideal) I.h I.t I.d I.p I.g1 I.g2 I.g3 I.w1 I.w2 I.w3 =
    lift3 (φ := .f32) fun a b c => probBack I.mem (attBack I.Wo (I.dmix b)) a c / total (score I.mem (query (I.proj b)) a) := by
  funext i
  rw [val_main_v130_apply, at_v120 I, val_main_v129_apply, val_main_v62_apply, at_v61 I]
  exact host_div (total_ne _) _
theorem at_v131 : val_main_v131 (F := Ideal) I.h I.t I.d I.p I.g1 I.g2 I.g3 I.w1 I.w2 I.w3 =
    lift2 (φ := .f32) fun a b => -(∑ k, (probBack I.mem (attBack I.Wo (I.dmix b)) a k * (1 / (total (score I.mem (query (I.proj b)) a) * total (score I.mem (query (I.proj b)) a)))) * Real.exp (score I.mem (query (I.proj b)) a k - top (score I.mem (query (I.proj b)) a))) := by
  funext i
  rw [val_main_v131_apply, val_main_cst_28_apply, at_v128 I]
  exact host_sum_one _
theorem at_v133 : val_main_v133 (F := Ideal) I.h I.t I.d I.p I.g1 I.g2 I.g3 I.w1 I.w2 I.w3 =
    lift3 (φ := .f32) fun a b c => probBack I.mem (attBack I.Wo (I.dmix b)) a c / total (score I.mem (query (I.proj b)) a) + (-(∑ k, (probBack I.mem (attBack I.Wo (I.dmix b)) a k * (1 / (total (score I.mem (query (I.proj b)) a) * total (score I.mem (query (I.proj b)) a)))) * Real.exp (score I.mem (query (I.proj b)) a k - top (score I.mem (query (I.proj b)) a)))) := by
  funext i
  rw [val_main_v133_apply, at_v130 I, val_main_v132_apply, at_v131 I]
  exact (EReal.coe_add _ _).symm
theorem at_v134 : val_main_v134 (F := Ideal) I.h I.t I.d I.p I.g1 I.g2 I.g3 I.w1 I.w2 I.w3 =
    lift3 (φ := .f32) fun a b c => softBack (prob I.mem (query (I.proj b)) a) (probBack I.mem (attBack I.Wo (I.dmix b)) a) c := by
  funext i
  rw [val_main_v134_apply, at_v133 I, at_v60 I]
  exact ((EReal.coe_mul _ _).symm).trans (congrArg Real.toEReal (soft_back (score I.mem (query (I.proj (i 1))) (i 0)) _ _))
theorem at_v136 : val_main_v136 (F := Ideal) I.h I.t I.d I.p I.g1 I.g2 I.g3 I.w1 I.w2 I.w3 =
    lift3 (φ := .f32) fun a b c => scoreBack I.mem (query (I.proj b)) (attBack I.Wo (I.dmix b)) a c := by
  funext i
  rw [val_main_v136_apply, at_v134 I, val_main_v135_apply, val_main_cst_29_apply, word_eighth]
  exact (EReal.coe_mul _ _).symm
theorem at_v137 : val_main_v137 (F := Ideal) I.h I.t I.d I.p I.g1 I.g2 I.g3 I.w1 I.w2 I.w3 =
    lift3 (φ := .f32) fun a b c => ∑ k, scoreBack I.mem (query (I.proj k)) (attBack I.Wo (I.dmix k)) a b * query (I.proj k) (hd a c) := by
  funext i
  rw [val_main_v137_apply, at_v136 I, at_v36 I]
  exact host_dot _ _
theorem at_v138 : val_main_v138 (F := Ideal) I.h I.t I.d I.p I.g1 I.g2 I.g3 I.w1 I.w2 I.w3 =
    lift3 (φ := .f32) fun a b c => ∑ k, scoreBack I.mem (query (I.proj k)) (attBack I.Wo (I.dmix k)) b a * query (I.proj k) (hd b c) := by
  funext i
  rw [val_main_v138_apply, at_v137 I]
  rfl
theorem at_v139 : val_main_v139 (F := Ideal) I.h I.t I.d I.p I.g1 I.g2 I.g3 I.w1 I.w2 I.w3 =
    lift3 (φ := .f32) fun a b c => ∑ k, scoreBack I.mem (query (I.proj b)) (attBack I.Wo (I.dmix b)) a k * I.mem k (keyCol (hd a c)) := by
  funext i
  rw [val_main_v139_apply, at_v136 I, at_v33 I]
  exact host_dot _ _
theorem at_v140 : val_main_v140 (F := Ideal) I.h I.t I.d I.p I.g1 I.g2 I.g3 I.w1 I.w2 I.w3 =
    lift3 (φ := .f32) fun a b c => ∑ k, scoreBack I.mem (query (I.proj a)) (attBack I.Wo (I.dmix a)) b k * I.mem k (keyCol (hd b c)) := by
  funext i
  rw [val_main_v140_apply, at_v139 I]
  rfl
theorem at_v141 : val_main_v141 (F := Ideal) I.h I.t I.d I.p I.g1 I.g2 I.g3 I.w1 I.w2 I.w3 =
    lift2 (φ := .f32) fun a b => I.dquery a b := by
  funext i
  unfold val_main_v141
  rw [at_v140 I]
  exact (congrFun (flat_rows _ _) i).trans (congrArg Real.toEReal (query_eq _ _ _ _))
theorem at_v142 : val_main_v142 (F := Ideal) I.h I.t I.d I.p I.g1 I.g2 I.g3 I.w1 I.w2 I.w3 =
    lift2 (φ := .f32) fun a b => ∑ r, attBack I.Wo (I.dmix r) b * prob I.mem (query (I.proj r)) (headOf b) a := by
  funext i
  unfold val_main_v142
  rw [at_v122 I]
  exact (congrFun (flat_mem _ _) i).trans (congrArg Real.toEReal (congrArg (fun t => ∑ r, attBack I.Wo (I.dmix r) t * prob I.mem (query (I.proj r)) (headOf (i 1)) (i 0)) (hd_headOf (i 1))))
theorem at_v143 : val_main_v143 (F := Ideal) I.h I.t I.d I.p I.g1 I.g2 I.g3 I.w1 I.w2 I.w3 =
    lift2 (φ := .f32) fun a b => highPart 256 (fun j => ∑ r, attBack I.Wo (I.dmix r) j * prob I.mem (query (I.proj r)) (headOf j) a) b := by
  funext i
  unfold val_main_v143
  rw [at_v142 I]
  exact congrFun (pad_high_256_512 _ _ _) i
theorem at_v144 : val_main_v144 (F := Ideal) I.h I.t I.d I.p I.g1 I.g2 I.g3 I.w1 I.w2 I.w3 =
    lift2 (φ := .f32) fun a b => ∑ r, scoreBack I.mem (query (I.proj r)) (attBack I.Wo (I.dmix r)) (headOf b) a * query (I.proj r) b := by
  funext i
  unfold val_main_v144
  rw [at_v138 I]
  exact (congrFun (flat_mem _ _) i).trans (congrArg Real.toEReal (congrArg (fun t => ∑ r, scoreBack I.mem (query (I.proj r)) (attBack I.Wo (I.dmix r)) (headOf (i 1)) (i 0) * query (I.proj r) t) (hd_headOf (i 1))))
theorem at_v145 : val_main_v145 (F := Ideal) I.h I.t I.d I.p I.g1 I.g2 I.g3 I.w1 I.w2 I.w3 =
    lift2 (φ := .f32) fun a b => lowPart (fun j => ∑ r, scoreBack I.mem (query (I.proj r)) (attBack I.Wo (I.dmix r)) (headOf j) a * query (I.proj r) j) b := by
  funext i
  unfold val_main_v145
  rw [at_v144 I]
  exact congrFun (pad_low_256_512 _ _ _) i
theorem at_v146 : val_main_v146 (F := Ideal) I.h I.t I.d I.p I.g1 I.g2 I.g3 I.w1 I.w2 I.w3 =
    lift2 (φ := .f32) fun a b => I.dmem a b := by
  funext i
  rw [val_main_v146_apply, at_v143 I, at_v145 I]
  exact ((EReal.coe_add _ _).symm).trans (congrArg Real.toEReal (mem_back _ _ _ _ _))
theorem at_v147 : val_main_v147 (F := Ideal) I.h I.t I.d I.p I.g1 I.g2 I.g3 I.w1 I.w2 I.w3 =
    lift2 (φ := .f32) fun a b => ∑ k, I.dmem k a * normed I.gm (I.M k) b := by
  funext i
  rw [val_main_v147_apply, at_v146 I, at_v28 I]
  exact host_dot _ _
theorem at_v148 : val_main_v148 (F := Ideal) I.h I.t I.d I.p I.g1 I.g2 I.g3 I.w1 I.w2 I.w3 =
    lift2 (φ := .f32) fun a b => I.dwkv a b := by
  funext i
  rw [val_main_v148_apply, at_v147 I]
  exact congrArg Real.toEReal (Finset.sum_congr rfl fun _ _ => mul_comm _ _)
theorem at_v149 : val_main_v149 (F := Ideal) I.h I.t I.d I.p I.g1 I.g2 I.g3 I.w1 I.w2 I.w3 =
    lift2 (φ := .f32) fun a b => timesT I.Wkv (I.dmem a) b := by
  funext i
  rw [val_main_v149_apply, at_v146 I]
  exact host_dot _ _
theorem at_v150 : val_main_v150 (F := Ideal) I.h I.t I.d I.p I.g1 I.g2 I.g3 I.w1 I.w2 I.w3 =
    lift2 (φ := .f32) fun a b => highPart 1536 (I.dquery a) b := by
  funext i
  unfold val_main_v150
  rw [at_v141 I]
  exact congrFun (pad_high_256_1792 _ _ _) i
theorem at_v151 : val_main_v151 (F := Ideal) I.h I.t I.d I.dp I.p I.g1 I.g2 I.g3 I.w1 I.w2 I.w3 =
    lift2 (φ := .f32) fun a b => I.dproj a b := by
  funext i
  rw [val_main_v151_apply, at_v91 I, at_v150 I]
  exact ((EReal.coe_add _ _).symm).trans (congrArg Real.toEReal (four_parts _ _ _ _ _ _))
theorem at_v152 : val_main_v152 (F := Ideal) I.h I.t I.d I.dp I.p I.g1 I.g2 I.g3 I.w1 I.w2 I.w3 =
    lift2 (φ := .f32) fun a b => ∑ k, I.dproj k a * normed I.g (I.H k) b := by
  funext i
  rw [val_main_v152_apply, at_v151 I, at_v15 I]
  exact host_dot _ _
theorem at_v153 : val_main_v153 (F := Ideal) I.h I.t I.d I.dp I.p I.g1 I.g2 I.g3 I.w1 I.w2 I.w3 =
    lift2 (φ := .f32) fun a b => I.dwin a b := by
  funext i
  rw [val_main_v153_apply, at_v152 I]
  exact congrArg Real.toEReal (Finset.sum_congr rfl fun _ _ => mul_comm _ _)
theorem at_v154 : val_main_v154 (F := Ideal) I.h I.t I.d I.dp I.p I.g1 I.g2 I.g3 I.w1 I.w2 I.w3 =
    lift2 (φ := .f32) fun a b => timesT I.Wi (I.dproj a) b := by
  funext i
  rw [val_main_v154_apply, at_v151 I]
  exact host_dot _ _
theorem at_v155 : val_main_v155 (F := Ideal) I.h I.t I.d I.p I.g1 I.g2 I.g3 I.w1 I.w2 I.w3 =
    lift2 (φ := .f32) fun a b => hat (I.M a) b * timesT I.Wkv (I.dmem a) b := by
  funext i
  rw [val_main_v155_apply, at_v25 I, at_v149 I]
  exact (EReal.coe_mul _ _).symm
theorem at_v156 : val_main_v156 (F := Ideal) I.h I.t I.d I.p I.g1 I.g2 I.g3 I.w1 I.w2 I.w3 =
    lift1 (φ := .f32) fun a => I.dgmem a := by
  funext i
  rw [val_main_v156_apply, val_main_cst_33_apply, at_v155 I]
  exact (host_sum _).trans (congrArg Real.toEReal (Finset.sum_congr rfl fun _ _ => mul_comm _ _))
theorem at_v157 : val_main_v157 (F := Ideal) I.h I.t I.d I.p I.g1 I.g2 I.g3 I.w1 I.w2 I.w3 =
    lift2 (φ := .f32) fun _ b => I.dgmem b := by
  funext i
  unfold val_main_v157
  rw [at_v156 I]
  exact congrFun (cast_row _ _) i
theorem at_v158 : val_main_v158 (F := Ideal) I.h I.t I.d I.p I.g1 I.g2 I.g3 I.w1 I.w2 I.w3 =
    lift1 (φ := .f32) fun a => I.dgmem a := by
  funext i
  rw [val_main_v158_apply, val_main_cst_34_apply, at_v157 I]
  exact host_sum_one _
theorem at_v159 : val_main_v159 (F := Ideal) I.h I.t I.d I.dp I.p I.g1 I.g2 I.g3 I.w1 I.w2 I.w3 =
    lift2 (φ := .f32) fun a b => hat (I.H a) b * timesT I.Wi (I.dproj a) b := by
  funext i
  rw [val_main_v159_apply, at_v12 I, at_v154 I]
  exact (EReal.coe_mul _ _).symm
theorem at_v160 : val_main_v160 (F := Ideal) I.h I.t I.d I.dp I.p I.g1 I.g2 I.g3 I.w1 I.w2 I.w3 =
    lift1 (φ := .f32) fun a => I.dgpre a := by
  funext i
  rw [val_main_v160_apply, val_main_cst_35_apply, at_v159 I]
  exact (host_sum _).trans (congrArg Real.toEReal (Finset.sum_congr rfl fun _ _ => mul_comm _ _))
theorem at_v161 : val_main_v161 (F := Ideal) I.h I.t I.d I.dp I.p I.g1 I.g2 I.g3 I.w1 I.w2 I.w3 =
    lift2 (φ := .f32) fun _ b => I.dgpre b := by
  funext i
  unfold val_main_v161
  rw [at_v160 I]
  exact congrFun (cast_row _ _) i
theorem at_v163 : val_main_v163 (F := Ideal) I.h I.t I.d I.dp I.p I.g1 I.g2 I.g3 I.w1 I.w2 I.w3 =
    lift2 (φ := .f32) fun a b => timesT I.Wi (I.dproj a) b * I.g b := by
  funext i
  rw [val_main_v163_apply, at_v154 I, val_main_v162_apply, val_main_v13_apply]
  exact (EReal.coe_mul _ _).symm
theorem at_v164 : val_main_v164 (F := Ideal) I.h I.t I.d I.dp I.p I.g1 I.g2 I.g3 I.w1 I.w2 I.w3 =
    lift1 (φ := .f32) fun a => I.dgpre a := by
  funext i
  rw [val_main_v164_apply, val_main_cst_36_apply, at_v161 I]
  exact host_sum_one _
theorem at_v165 : val_main_v165 (F := Ideal) I.h I.t I.d I.dp I.p I.g1 I.g2 I.g3 I.w1 I.w2 I.w3 =
    lift2 (φ := .f32) fun a b => I.H a b * (timesT I.Wi (I.dproj a) b * I.g b) := by
  funext i
  rw [val_main_v165_apply, at_v163 I]
  exact (EReal.coe_mul _ _).symm
theorem at_v166 : val_main_v166 (F := Ideal) I.h I.t I.d I.dp I.p I.g1 I.g2 I.g3 I.w1 I.w2 I.w3 =
    lift1 (φ := .f32) fun a => ∑ k, I.H a k * (timesT I.Wi (I.dproj a) k * I.g k) := by
  funext i
  rw [val_main_v166_apply, val_main_cst_37_apply, at_v165 I]
  exact host_sum _
theorem at_v167 : val_main_v167 (F := Ideal) I.h I.t I.d I.dp I.p I.g1 I.g2 I.g3 I.w1 I.w2 I.w3 =
    lift2 (φ := .f32) fun a _ => ∑ k, I.H a k * (timesT I.Wi (I.dproj a) k * I.g k) := by
  funext i
  unfold val_main_v167
  rw [at_v166 I]
  exact congrFun (cast_col _ _) i
theorem at_v169 : val_main_v169 (F := Ideal) I.h I.t I.d I.dp I.p I.g1 I.g2 I.g3 I.w1 I.w2 I.w3 =
    lift2 (φ := .f32) fun a b => (timesT I.Wi (I.dproj a) b * I.g b) * rs (I.H a) := by
  funext i
  rw [val_main_v169_apply, at_v163 I, val_main_v168_apply, at_v7 I]
  exact (EReal.coe_mul _ _).symm
theorem at_v170 : val_main_v170 (F := Ideal) I.h I.t I.d I.dp I.p I.g1 I.g2 I.g3 I.w1 I.w2 I.w3 =
    lift2 (φ := .f32) fun a b => I.D a b + ((timesT I.Wi (I.dproj a) b * I.g b) * rs (I.H a)) := by
  funext i
  rw [val_main_v170_apply, at_v169 I]
  exact (EReal.coe_add _ _).symm
theorem at_v171 : val_main_v171 (F := Ideal) I.h I.t I.d I.dp I.p I.g1 I.g2 I.g3 I.w1 I.w2 I.w3 =
    lift2 (φ := .f32) fun a _ => (∑ k, I.H a k * (timesT I.Wi (I.dproj a) k * I.g k)) * ((-1 / 2) * (rs (I.H a) / ms (I.H a))) := by
  funext i
  rw [val_main_v171_apply, at_v167 I, at_v10 I]
  exact (EReal.coe_mul _ _).symm
theorem at_v173 : val_main_v173 (F := Ideal) I.h I.t I.d I.dp I.p I.g1 I.g2 I.g3 I.w1 I.w2 I.w3 =
    lift2 (φ := .f32) fun a _ => sizeBack (I.H a) (fun j => timesT I.Wi (I.dproj a) j * I.g j) := by
  funext i
  rw [val_main_v173_apply, at_v171 I, val_main_v172_apply, val_main_cst_38_apply, word_width]
  exact host_div (by norm_num) _
theorem at_v174 : val_main_v174 (F := Ideal) I.h I.t I.d I.dp I.p I.g1 I.g2 I.g3 I.w1 I.w2 I.w3 =
    lift1 (φ := .f32) fun a => sizeBack (I.H a) (fun j => timesT I.Wi (I.dproj a) j * I.g j) := by
  funext i
  rw [val_main_v174_apply, val_main_cst_39_apply, at_v173 I]
  exact host_sum_one _
theorem at_v176 : val_main_v176 (F := Ideal) I.h I.t I.d I.dp I.p I.g1 I.g2 I.g3 I.w1 I.w2 I.w3 =
    lift2 (φ := .f32) fun a b => I.H a b * sizeBack (I.H a) (fun j => timesT I.Wi (I.dproj a) j * I.g j) := by
  funext i
  rw [val_main_v176_apply, val_main_v175_apply, at_v174 I]
  exact (EReal.coe_mul _ _).symm
theorem at_v177 : val_main_v177 (F := Ideal) I.h I.t I.d I.dp I.p I.g1 I.g2 I.g3 I.w1 I.w2 I.w3 =
    lift2 (φ := .f32) fun a b => I.D a b + ((timesT I.Wi (I.dproj a) b * I.g b) * rs (I.H a)) + (I.H a b * sizeBack (I.H a) (fun j => timesT I.Wi (I.dproj a) j * I.g j)) := by
  funext i
  rw [val_main_v177_apply, at_v170 I, at_v176 I]
  exact (EReal.coe_add _ _).symm
theorem at_v178 : val_main_v178 (F := Ideal) I.h I.t I.d I.dp I.p I.g1 I.g2 I.g3 I.w1 I.w2 I.w3 =
    lift2 (φ := .f32) fun a b => sizeBack (I.H a) (fun j => timesT I.Wi (I.dproj a) j * I.g j) * I.H a b := by
  funext i
  rw [val_main_v178_apply, val_main_v175_apply, at_v174 I]
  exact (EReal.coe_mul _ _).symm
theorem at_v179 : val_main_v179 (F := Ideal) I.h I.t I.d I.dp I.p I.g1 I.g2 I.g3 I.w1 I.w2 I.w3 =
    lift2 (φ := .f32) fun a b => I.dh a b := by
  funext i
  rw [val_main_v179_apply, at_v177 I, at_v178 I]
  exact ((EReal.coe_add _ _).symm).trans (congrArg Real.toEReal (in_back _ _ _ _ _))

end Cert.MixSb
-- ==== Proof.SbClaim.lean ====
/- The mixing sub-layer of a stick-breaking layer: the kernels and the differentiated reference agree on all ten results when the
   arguments hold real numbers. -/
module

public import proofs.«01_k».proof.Defs
public import proofs.«01_k».proof.Proof.SbRun
public import proofs.«01_k».proof.Proof.SbReferenceBackward
public import proofs.«01_k».proof.Proof.Finite
public import proofs.«01_k».proof.Proof.Gen.Pre_finite2
public import proofs.«01_k».proof.Proof.Gen.Reference2Ideal.Run

@[expose] public section

set_option maxRecDepth 16384

noncomputable section

namespace Cert.MixSb

open Idealize.ShloMosaic Idealize.ShloMosaic.StableHlo Idealize.ShloMosaic.TcCoe Idealize.SL.Sem Cert.FfnBlock

set_option backward.isDefEq.respectTransparency.types false

/-- Under the precondition every device's arguments hold real numbers. -/
theorem args_of (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : ∃ I : Inputs, Args I m c := by
  obtain ⟨h0, h1, h2, h3, h4, h5, h6, h7, h8, h9, h10⟩ := h c
  obtain ⟨x0, e0⟩ := lift2_of _ _ h0
  obtain ⟨x1, e1⟩ := lift2_of _ _ h1
  obtain ⟨x2, e2⟩ := lift2_of _ _ h2
  obtain ⟨x3, e3⟩ := lift2_of _ _ h3
  obtain ⟨x4, e4⟩ := lift2_of _ _ h4
  obtain ⟨x5, e5⟩ := lift1_of _ _ h5
  obtain ⟨x6, e6⟩ := lift1_of _ _ h6
  obtain ⟨x7, e7⟩ := lift1_of _ _ h7
  obtain ⟨x8, e8⟩ := lift2_of _ _ h8
  obtain ⟨x9, e9⟩ := lift2_of _ _ h9
  obtain ⟨x10, e10⟩ := lift2_of _ _ h10
  exact ⟨⟨x0, x1, x2, x3, x4, x5, x6, x7, x8, x9, x10⟩, ⟨e0, e1, e2, e3, e4, e5, e6, e7, e8, e9, e10⟩⟩

section
open Cert.Reference2Ideal Cert.Reference2Ideal.Read

/-- The reference's frame. -/
theorem frame_reference [Cert.Reference2Ideal.Facts] : Cert.quiescent_Reference2Ideal := fun m g _ =>
  (θ_run _ _ _).mono (fun r h => ⟨fun c => ((h c).2.2.2.2.2.2.2.2.2.2), sem_eq_zero_of_no_sems (by decide) _⟩)
    (Cert.Reference2Ideal.Value.run m g)

/-- The reference's arguments hold these real arrays. -/
structure Holds (I : Inputs) (V : Valuation τ sig (Elt Ideal)) : Prop where
  a0 : V (Proc.devRef .tc main_arg0) = I.h
  a1 : V (Proc.devRef .tc main_arg1) = I.t
  a2 : V (Proc.devRef .tc main_arg2) = I.d
  a3 : V (Proc.devRef .tc main_arg3) = I.dp
  a4 : V (Proc.devRef .tc main_arg4) = I.p
  a5 : V (Proc.devRef .tc main_arg5) = I.g1
  a6 : V (Proc.devRef .tc main_arg6) = I.g2
  a7 : V (Proc.devRef .tc main_arg7) = I.g3
  a8 : V (Proc.devRef .tc main_arg8) = I.w1
  a9 : V (Proc.devRef .tc main_arg9) = I.w2
  a10 : V (Proc.devRef .tc main_arg10) = I.w3

variable {I : Inputs} {V : Valuation τ sig (Elt Ideal)} (h : Holds I V)
include h

theorem ref_out : val_main_v89 (F := Ideal) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.out) := by
  rw [h.a0, h.a1, h.a4, h.a5, h.a6, h.a7, h.a8, h.a9, h.a10]; exact at_v89 I
theorem ref_tok : val_main_v90 (F := Ideal) (V (Proc.devRef .tc main_arg0)) (V (Proc.devRef .tc main_arg5)) (V (Proc.devRef .tc main_arg8))
    = lift2 (φ := .f32) (fun r => forToken (I.proj r)) := by
  rw [h.a0, h.a5, h.a8]; exact at_v90 I
theorem ref_dh : val_main_v179 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dh) := by
  rw [h.a0, h.a1, h.a2, h.a3, h.a4, h.a5, h.a6, h.a7, h.a8, h.a9, h.a10]; exact at_v179 I
theorem ref_dtok : val_main_v116 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dtok) := by
  rw [h.a0, h.a1, h.a2, h.a4, h.a5, h.a6, h.a7, h.a8, h.a9, h.a10]; exact at_v116 I
theorem ref_dgpre : val_main_v164 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift1 (φ := .f32) (I.dgpre) := by
  rw [h.a0, h.a1, h.a2, h.a3, h.a4, h.a5, h.a6, h.a7, h.a8, h.a9, h.a10]; exact at_v164 I
theorem ref_dgmem : val_main_v158 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift1 (φ := .f32) (I.dgmem) := by
  rw [h.a0, h.a1, h.a2, h.a4, h.a5, h.a6, h.a7, h.a8, h.a9, h.a10]; exact at_v158 I
theorem ref_dgpost : val_main_v98 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9)) (V (Proc.devRef .tc main_arg10))
    = lift1 (φ := .f32) (I.dgpost) := by
  rw [h.a0, h.a1, h.a2, h.a4, h.a5, h.a6, h.a8, h.a9, h.a10]; exact at_v98 I
theorem ref_dwin : val_main_v153 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dwin) := by
  rw [h.a0, h.a1, h.a2, h.a3, h.a4, h.a5, h.a6, h.a7, h.a8, h.a9, h.a10]; exact at_v153 I
theorem ref_dwkv : val_main_v148 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dwkv) := by
  rw [h.a0, h.a1, h.a2, h.a4, h.a5, h.a6, h.a7, h.a8, h.a9, h.a10]; exact at_v148 I
theorem ref_dwo : val_main_v114 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dwo) := by
  rw [h.a0, h.a1, h.a2, h.a4, h.a5, h.a6, h.a7, h.a8, h.a9, h.a10]; exact at_v114 I

end

theorem algebraic : Cert.algebraic_Kernel2Ideal_Reference2Ideal_pre_finite2 := by
  intro m ρ m' ρ' hpre heq
  choose I hA using args_of m hpre
  have hB : ∀ c, Holds (I c) (launchContents m' c) := fun c =>
    have ⟨e0, e1, e2, e3, e4, e5, e6, e7, e8, e9, e10⟩ := heq c
    ⟨e0.trans (hA c).a0, e1.trans (hA c).a1, e2.trans (hA c).a2, e3.trans (hA c).a3, e4.trans (hA c).a4, e5.trans (hA c).a5, e6.trans (hA c).a6, e7.trans (hA c).a7, e8.trans (hA c).a8, e9.trans (hA c).a9, e10.trans (hA c).a10⟩
  refine ⟨fun c => lift2 (φ := .f32) ((I c).out),
    fun c => lift2 (φ := .f32) (fun r => forToken ((I c).proj r)),
    fun c => lift2 (φ := .f32) ((I c).dh),
    fun c => lift2 (φ := .f32) ((I c).dtok),
    fun c => lift1 (φ := .f32) ((I c).dgpre),
    fun c => lift1 (φ := .f32) ((I c).dgmem),
    fun c => lift1 (φ := .f32) ((I c).dgpost),
    fun c => lift2 (φ := .f32) ((I c).dwin),
    fun c => lift2 (φ := .f32) ((I c).dwkv),
    fun c => lift2 (φ := .f32) ((I c).dwo),
    (θ_run _ _ _).mono (fun r h c => ?_) (run_values m ρ), (θ_run _ _ _).mono (fun r h c => ?_) (Cert.Reference2Ideal.Value.run m' ρ')⟩
  · obtain ⟨h0, h1, h2, h3, h4, h5, h6, h7, h8, h9, hargs⟩ := h c
    exact ⟨h0.trans (end_out (I c) m ρ c (hA c)),
      h1.trans (end_tok (I c) m ρ c (hA c)),
      h2.trans (end_dh (I c) m ρ c (hA c)),
      h3.trans (end_dtok (I c) m ρ c (hA c)),
      h4.trans (end_dgpre (I c) m ρ c (hA c)),
      h5.trans (end_dgmem (I c) m ρ c (hA c)),
      h6.trans (end_dgpost (I c) m ρ c (hA c)),
      h7.trans (end_dwin (I c) m ρ c (hA c)),
      h8.trans (end_dwkv (I c) m ρ c (hA c)),
      h9.trans (end_dwo (I c) m ρ c (hA c)), hargs⟩
  · obtain ⟨h0, h1, h2, h3, h4, h5, h6, h7, h8, h9, hargs⟩ := h c
    exact ⟨h0.trans ((Cert.Reference2Ideal.Read.val_main_v89_eq _).trans (ref_out (hB c))),
      h1.trans ((Cert.Reference2Ideal.Read.val_main_v90_eq _).trans (ref_tok (hB c))),
      h2.trans ((Cert.Reference2Ideal.Read.val_main_v179_eq _).trans (ref_dh (hB c))),
      h3.trans ((Cert.Reference2Ideal.Read.val_main_v116_eq _).trans (ref_dtok (hB c))),
      h4.trans ((Cert.Reference2Ideal.Read.val_main_v164_eq _).trans (ref_dgpre (hB c))),
      h5.trans ((Cert.Reference2Ideal.Read.val_main_v158_eq _).trans (ref_dgmem (hB c))),
      h6.trans ((Cert.Reference2Ideal.Read.val_main_v98_eq _).trans (ref_dgpost (hB c))),
      h7.trans ((Cert.Reference2Ideal.Read.val_main_v153_eq _).trans (ref_dwin (hB c))),
      h8.trans ((Cert.Reference2Ideal.Read.val_main_v148_eq _).trans (ref_dwkv (hB c))),
      h9.trans ((Cert.Reference2Ideal.Read.val_main_v114_eq _).trans (ref_dwo (hB c))), hargs⟩

end Cert.MixSb
-- ==== Proof.OptimiserStep.lean ====
/- One step of the optimiser at a single weight, and over whole arrays. -/
module

public import Idealize.ShloMosaic.PureOps.Ideal
public import Idealize.ShloMosaic.Lib.Pipeline.ValueKit

@[expose] public section

noncomputable section

namespace Cert.Optimiser

open Idealize.ShloMosaic

/-- The running mean of the gradient after the step: nine tenths of the old one and a tenth of the gradient. -/
def mean (g m : Ideal .f32) : Ideal .f32 :=
  FloatOps.addf (FloatOps.mulf (FloatOps.ofBits .f32 0x3F666666#32) m) (FloatOps.mulf (FloatOps.ofBits .f32 0x3DCCCCCD#32) g)

/-- The running mean of the gradient's square after the step. -/
def square (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The change of the weight: minus the learning rate times the corrected mean over the corrected root, with the weight's decay added. -/
def delta (w g m v : Ideal .f32) : Ideal .f32 :=
  FloatOps.mulf (FloatOps.ofBits .f32 0xBA83126F#32)
    (FloatOps.addf
      (FloatOps.divf (FloatOps.divf (mean g m) (FloatOps.ofBits .f32 0x3F26BD02#32))
        (FloatOps.addf (FloatOps.sqrt (FloatOps.divf (square g v) (FloatOps.ofBits .f32 0x3C231ACC#32)))
          (FloatOps.ofBits .f32 0x322BCC77#32)))
      (FloatOps.mulf (FloatOps.ofBits .f32 0x3C23D70A#32) w))

variable {s t : Shape}

/-- The step's means over whole arrays. -/
def means (g m : FVec Ideal s .f32) : FVec Ideal s .f32 := fun i => mean (g i) (m i)
/-- The step's squares over whole arrays. -/
def squares (g v : FVec Ideal s .f32) : FVec Ideal s .f32 := fun i => square (g i) (v i)
/-- The step's changes over whole arrays. -/
def deltas (w g m v : FVec Ideal s .f32) : FVec Ideal s .f32 := fun i => delta (w i) (g i) (m i) (v i)

/-! The step is elementwise: it may be taken on flattened arrays. -/

theorem means_flat (g m : FVec Ideal s .f32) (h : s.ShapeCasts t) (h' : t.ShapeCasts s) :
    shapeCast s (means (shapeCast t g h) (shapeCast t m h)) h' = means g m := by
  show means (shapeCast s (shapeCast t g h) h') (shapeCast s (shapeCast t m h) h') = _
  rw [shapeCast_shapeCast, shapeCast_shapeCast]
theorem squares_flat (g v : FVec Ideal s .f32) (h : s.ShapeCasts t) (h' : t.ShapeCasts s) :
    shapeCast s (squares (shapeCast t g h) (shapeCast t v h)) h' = squares g v := by
  show squares (shapeCast s (shapeCast t g h) h') (shapeCast s (shapeCast t v h) h') = _
  rw [shapeCast_shapeCast, shapeCast_shapeCast]
theorem deltas_flat (w g m v : FVec Ideal s .f32) (h : s.ShapeCasts t) (h' : t.ShapeCasts s) :
    shapeCast s (deltas (shapeCast t w h) (shapeCast t g h) (shapeCast t m h) (shapeCast t v h)) h' = deltas w g m v := by
  show deltas (shapeCast s (shapeCast t w h) h') (shapeCast s (shapeCast t g h) h') (shapeCast s (shapeCast t m h) h')
    (shapeCast s (shapeCast t v h) h') = _
  rw [shapeCast_shapeCast, shapeCast_shapeCast, shapeCast_shapeCast, shapeCast_shapeCast]

/-! Equal arrays take equal steps. -/

theorem means_congr {g g' m m' : FVec Ideal s .f32} (e : g' = g) (f : m' = m) : means g' m' = means g m := by rw [e, f]
theorem squares_congr {g g' v v' : FVec Ideal s .f32} (e : g' = g) (f : v' = v) : squares g' v' = squares g v := by rw [e, f]
theorem deltas_congr {w w' g g' m m' v v' : FVec Ideal s .f32} (d : w' = w) (e : g' = g) (f : m' = m) (k : v' = v) :
    deltas w' g' m' v' = deltas w g m v := by rw [d, e, f, k]

end Cert.Optimiser
-- ==== Proof.OptimiserArrays.lean ====
/- What the optimiser's ten launches leave: each array is the elementwise step of the four arrays the launch reads. -/
module

public import proofs.«01_k».proof.Proof.OptimiserStep
public import proofs.«01_k».proof.Proof.Gen.Kernel4Ideal.Frame
public import Idealize.ShloMosaic.Lib.Pipeline.ReadBack

@[expose] public section

set_option maxRecDepth 16384

noncomputable section

namespace Cert.Optimiser

open Idealize.ShloMosaic Cert.Kernel4Ideal Cert.Kernel4Ideal.Gen Idealize.ShloMosaic.TcCoe

set_option backward.isDefEq.respectTransparency.types false

variable (V : (c : Dev nD) → (b : Ref sig .tc) → Buf (Elt Ideal) ((c : Thread nD τ).loc b)) (c : Dev nD)

/-! ## Launch 0: the weights of shape 4x3x256 -/

theorem stored0 (x : Vec Ideal S12x256 .f32) : View.canon [⟨r0_0, x⟩] = x := View.canon_cons_unit_lit _ _ _ (by decide)
theorem loaded0 (x : Vec Ideal S12x256 .f32) : View.ld x r0_0 = x := View.ld_unit_lit _ _ (by decide)
theorem out0_delta (x0 x1 x2 x3 : Vec Ideal S12x256 .f32) : out0_4 x0 x1 x2 x3 = deltas x0 x1 x2 x3 := by
  rw [out0_4, stored0]; simp only [loaded0, k0_pay4, k0_pay3, k0_pay2, k0_pay1, shapeCast_self]; rfl
theorem array0_delta : (dat0 V c).arrAt 4 cfg0.N = (deltas (s := S12x256) (V c main_v0) (V c main_v1) (V c main_v2) (V c main_v3) : FVec Ideal S12x256 .f32) := by
  refine (dat0 V c).arrAt_eq_of_covers 4 _ (by decide +kernel) fun t hf y => ?_
  rw [after0_4, out0_delta]; rfl
theorem out0_mean (x0 x1 x2 x3 : Vec Ideal S12x256 .f32) : out0_5 x0 x1 x2 x3 = means x1 x2 := by
  rw [out0_5, stored0]; simp only [loaded0, k0_pay2, k0_pay1, shapeCast_self]; rfl
theorem array0_mean : (dat0 V c).arrAt 5 cfg0.N = (means (s := S12x256) (V c main_v1) (V c main_v2) : FVec Ideal S12x256 .f32) := by
  refine (dat0 V c).arrAt_eq_of_covers 5 _ (by decide +kernel) fun t hf y => ?_
  rw [after0_5, out0_mean]; rfl
theorem out0_square (x0 x1 x2 x3 : Vec Ideal S12x256 .f32) : out0_6 x0 x1 x2 x3 = squares x1 x3 := by
  rw [out0_6, stored0]; simp only [loaded0, k0_pay3, k0_pay1, shapeCast_self]; rfl
theorem array0_square : (dat0 V c).arrAt 6 cfg0.N = (squares (s := S12x256) (V c main_v1) (V c main_v3) : FVec Ideal S12x256 .f32) := by
  refine (dat0 V c).arrAt_eq_of_covers 6 _ (by decide +kernel) fun t hf y => ?_
  rw [after0_6, out0_square]; rfl

/-! ## Launch 1: the weights of shape 4x1024 -/

theorem stored1 (x : Vec Ideal S4x1024 .f32) : View.canon [⟨r1_0, x⟩] = x := View.canon_cons_unit_lit _ _ _ (by decide)
theorem loaded1 (x : Vec Ideal S4x1024 .f32) : View.ld x r1_0 = x := View.ld_unit_lit _ _ (by decide)
theorem out1_delta (x0 x1 x2 x3 : Vec Ideal S4x1024 .f32) : out1_4 x0 x1 x2 x3 = deltas x0 x1 x2 x3 := by
  rw [out1_4, stored1]; simp only [loaded1, k1_pay3, k1_pay2, k1_pay1, shapeCast_self]; rfl
theorem array1_delta : (dat1 V c).arrAt 4 cfg1.N = (deltas (s := S4x1024) (V c main_arg1) (V c main_arg11) (V c main_arg21) (V c main_arg31) : FVec Ideal S4x1024 .f32) := by
  refine (dat1 V c).arrAt_eq_of_covers 4 _ (by decide +kernel) fun t hf y => ?_
  rw [after1_4, out1_delta]; rfl
theorem out1_mean (x0 x1 x2 x3 : Vec Ideal S4x1024 .f32) : out1_5 x0 x1 x2 x3 = means x1 x2 := by
  rw [out1_5, stored1]; simp only [loaded1, k1_pay1, shapeCast_self]; rfl
theorem array1_mean : (dat1 V c).arrAt 5 cfg1.N = (means (s := S4x1024) (V c main_arg11) (V c main_arg21) : FVec Ideal S4x1024 .f32) := by
  refine (dat1 V c).arrAt_eq_of_covers 5 _ (by decide +kernel) fun t hf y => ?_
  rw [after1_5, out1_mean]; rfl
theorem out1_square (x0 x1 x2 x3 : Vec Ideal S4x1024 .f32) : out1_6 x0 x1 x2 x3 = squares x1 x3 := by
  rw [out1_6, stored1]; simp only [loaded1, k1_pay2, shapeCast_self]; rfl
theorem array1_square : (dat1 V c).arrAt 6 cfg1.N = (squares (s := S4x1024) (V c main_arg11) (V c main_arg31) : FVec Ideal S4x1024 .f32) := by
  refine (dat1 V c).arrAt_eq_of_covers 6 _ (by decide +kernel) fun t hf y => ?_
  rw [after1_6, out1_square]; rfl

/-! ## Launch 2: the weights of shape 4x1024x512 -/

theorem stored2 (x : Vec Ideal S256x512 .f32) : View.canon [⟨r2_0, x⟩] = x := View.canon_cons_unit_lit _ _ _ (by decide)
theorem loaded2 (x : Vec Ideal S256x512 .f32) : View.ld x r2_0 = x := View.ld_unit_lit _ _ (by decide)
theorem out2_delta (x0 x1 x2 x3 : Vec Ideal S256x512 .f32) : out2_4 x0 x1 x2 x3 = deltas x0 x1 x2 x3 := by
  rw [out2_4, stored2]; simp only [loaded2, k2_pay4, k2_pay3, k2_pay2, k2_pay1, shapeCast_self]; rfl
theorem array2_delta : (dat2 V c).arrAt 4 cfg2.N = (deltas (s := S4096x512) (V c main_v9) (V c main_v10) (V c main_v11) (V c main_v12) : FVec Ideal S4096x512 .f32) := by
  refine (dat2 V c).arrAt_eq_of_covers 4 _ (by decide +kernel) fun t hf y => ?_
  rw [after2_4, out2_delta]; rfl
theorem out2_mean (x0 x1 x2 x3 : Vec Ideal S256x512 .f32) : out2_5 x0 x1 x2 x3 = means x1 x2 := by
  rw [out2_5, stored2]; simp only [loaded2, k2_pay2, k2_pay1, shapeCast_self]; rfl
theorem array2_mean : (dat2 V c).arrAt 5 cfg2.N = (means (s := S4096x512) (V c main_v10) (V c main_v11) : FVec Ideal S4096x512 .f32) := by
  refine (dat2 V c).arrAt_eq_of_covers 5 _ (by decide +kernel) fun t hf y => ?_
  rw [after2_5, out2_mean]; rfl
theorem out2_square (x0 x1 x2 x3 : Vec Ideal S256x512 .f32) : out2_6 x0 x1 x2 x3 = squares x1 x3 := by
  rw [out2_6, stored2]; simp only [loaded2, k2_pay3, k2_pay1, shapeCast_self]; rfl
theorem array2_square : (dat2 V c).arrAt 6 cfg2.N = (squares (s := S4096x512) (V c main_v10) (V c main_v12) : FVec Ideal S4096x512 .f32) := by
  refine (dat2 V c).arrAt_eq_of_covers 6 _ (by decide +kernel) fun t hf y => ?_
  rw [after2_6, out2_square]; rfl

/-! ## Launch 3: the weights of shape 4x512x1024 -/

theorem stored3 (x : Vec Ideal S256x1024 .f32) : View.canon [⟨r3_0, x⟩] = x := View.canon_cons_unit_lit _ _ _ (by decide)
theorem loaded3 (x : Vec Ideal S256x1024 .f32) : View.ld x r3_0 = x := View.ld_unit_lit _ _ (by decide)
theorem out3_delta (x0 x1 x2 x3 : Vec Ideal S256x1024 .f32) : out3_4 x0 x1 x2 x3 = deltas x0 x1 x2 x3 := by
  rw [out3_4, stored3]; simp only [loaded3, k3_pay4, k3_pay3, k3_pay2, k3_pay1, shapeCast_self]; rfl
theorem array3_delta : (dat3 V c).arrAt 4 cfg3.N = (deltas (s := S2048x1024) (V c main_v17) (V c main_v18) (V c main_v19) (V c main_v20) : FVec Ideal S2048x1024 .f32) := by
  refine (dat3 V c).arrAt_eq_of_covers 4 _ (by decide +kernel) fun t hf y => ?_
  rw [after3_4, out3_delta]; rfl
theorem out3_mean (x0 x1 x2 x3 : Vec Ideal S256x1024 .f32) : out3_5 x0 x1 x2 x3 = means x1 x2 := by
  rw [out3_5, stored3]; simp only [loaded3, k3_pay2, k3_pay1, shapeCast_self]; rfl
theorem array3_mean : (dat3 V c).arrAt 5 cfg3.N = (means (s := S2048x1024) (V c main_v18) (V c main_v19) : FVec Ideal S2048x1024 .f32) := by
  refine (dat3 V c).arrAt_eq_of_covers 5 _ (by decide +kernel) fun t hf y => ?_
  rw [after3_5, out3_mean]; rfl
theorem out3_square (x0 x1 x2 x3 : Vec Ideal S256x1024 .f32) : out3_6 x0 x1 x2 x3 = squares x1 x3 := by
  rw [out3_6, stored3]; simp only [loaded3, k3_pay3, k3_pay1, shapeCast_self]; rfl
theorem array3_square : (dat3 V c).arrAt 6 cfg3.N = (squares (s := S2048x1024) (V c main_v18) (V c main_v20) : FVec Ideal S2048x1024 .f32) := by
  refine (dat3 V c).arrAt_eq_of_covers 6 _ (by decide +kernel) fun t hf y => ?_
  rw [after3_6, out3_square]; rfl

/-! ## Launch 4: the weights of shape 2x256x768 -/

theorem stored4 (x : Vec Ideal S256x768 .f32) : View.canon [⟨r4_0, x⟩] = x := View.canon_cons_unit_lit _ _ _ (by decide)
theorem loaded4 (x : Vec Ideal S256x768 .f32) : View.ld x r4_0 = x := View.ld_unit_lit _ _ (by decide)
theorem out4_delta (x0 x1 x2 x3 : Vec Ideal S256x768 .f32) : out4_4 x0 x1 x2 x3 = deltas x0 x1 x2 x3 := by
  rw [out4_4, stored4]; simp only [loaded4, k4_pay4, k4_pay3, k4_pay2, k4_pay1, shapeCast_self]; rfl
theorem array4_delta : (dat4 V c).arrAt 4 cfg4.N = (deltas (s := S512x768) (V c main_v25) (V c main_v26) (V c main_v27) (V c main_v28) : FVec Ideal S512x768 .f32) := by
  refine (dat4 V c).arrAt_eq_of_covers 4 _ (by decide +kernel) fun t hf y => ?_
  rw [after4_4, out4_delta]; rfl
theorem out4_mean (x0 x1 x2 x3 : Vec Ideal S256x768 .f32) : out4_5 x0 x1 x2 x3 = means x1 x2 := by
  rw [out4_5, stored4]; simp only [loaded4, k4_pay2, k4_pay1, shapeCast_self]; rfl
theorem array4_mean : (dat4 V c).arrAt 5 cfg4.N = (means (s := S512x768) (V c main_v26) (V c main_v27) : FVec Ideal S512x768 .f32) := by
  refine (dat4 V c).arrAt_eq_of_covers 5 _ (by decide +kernel) fun t hf y => ?_
  rw [after4_5, out4_mean]; rfl
theorem out4_square (x0 x1 x2 x3 : Vec Ideal S256x768 .f32) : out4_6 x0 x1 x2 x3 = squares x1 x3 := by
  rw [out4_6, stored4]; simp only [loaded4, k4_pay3, k4_pay1, shapeCast_self]; rfl
theorem array4_square : (dat4 V c).arrAt 6 cfg4.N = (squares (s := S512x768) (V c main_v26) (V c main_v28) : FVec Ideal S512x768 .f32) := by
  refine (dat4 V c).arrAt_eq_of_covers 6 _ (by decide +kernel) fun t hf y => ?_
  rw [after4_6, out4_square]; rfl

/-! ## Launch 5: the weights of shape 2x4x128x128 -/

theorem stored5 (x : Vec Ideal S256x128 .f32) : View.canon [⟨r5_0, x⟩] = x := View.canon_cons_unit_lit _ _ _ (by decide)
theorem loaded5 (x : Vec Ideal S256x128 .f32) : View.ld x r5_0 = x := View.ld_unit_lit _ _ (by decide)
theorem out5_delta (x0 x1 x2 x3 : Vec Ideal S256x128 .f32) : out5_4 x0 x1 x2 x3 = deltas x0 x1 x2 x3 := by
  rw [out5_4, stored5]; simp only [loaded5, k5_pay4, k5_pay3, k5_pay2, k5_pay1, shapeCast_self]; rfl
theorem array5_delta : (dat5 V c).arrAt 4 cfg5.N = (deltas (s := S1024x128) (V c main_v33) (V c main_v34) (V c main_v35) (V c main_v36) : FVec Ideal S1024x128 .f32) := by
  refine (dat5 V c).arrAt_eq_of_covers 4 _ (by decide +kernel) fun t hf y => ?_
  rw [after5_4, out5_delta]; rfl
theorem out5_mean (x0 x1 x2 x3 : Vec Ideal S256x128 .f32) : out5_5 x0 x1 x2 x3 = means x1 x2 := by
  rw [out5_5, stored5]; simp only [loaded5, k5_pay2, k5_pay1, shapeCast_self]; rfl
theorem array5_mean : (dat5 V c).arrAt 5 cfg5.N = (means (s := S1024x128) (V c main_v34) (V c main_v35) : FVec Ideal S1024x128 .f32) := by
  refine (dat5 V c).arrAt_eq_of_covers 5 _ (by decide +kernel) fun t hf y => ?_
  rw [after5_5, out5_mean]; rfl
theorem out5_square (x0 x1 x2 x3 : Vec Ideal S256x128 .f32) : out5_6 x0 x1 x2 x3 = squares x1 x3 := by
  rw [out5_6, stored5]; simp only [loaded5, k5_pay3, k5_pay1, shapeCast_self]; rfl
theorem array5_square : (dat5 V c).arrAt 6 cfg5.N = (squares (s := S1024x128) (V c main_v34) (V c main_v36) : FVec Ideal S1024x128 .f32) := by
  refine (dat5 V c).arrAt_eq_of_covers 6 _ (by decide +kernel) fun t hf y => ?_
  rw [after5_6, out5_square]; rfl

/-! ## Launch 6: the weights of shape 2x512 -/

theorem stored6 (x : Vec Ideal S2x512 .f32) : View.canon [⟨r6_0, x⟩] = x := View.canon_cons_unit_lit _ _ _ (by decide)
theorem loaded6 (x : Vec Ideal S2x512 .f32) : View.ld x r6_0 = x := View.ld_unit_lit _ _ (by decide)
theorem out6_delta (x0 x1 x2 x3 : Vec Ideal S2x512 .f32) : out6_4 x0 x1 x2 x3 = deltas x0 x1 x2 x3 := by
  rw [out6_4, stored6]; simp only [loaded6, k6_pay3, k6_pay2, k6_pay1, shapeCast_self]; rfl
theorem array6_delta : (dat6 V c).arrAt 4 cfg6.N = (deltas (s := S2x512) (V c main_arg6) (V c main_arg16) (V c main_arg26) (V c main_arg36) : FVec Ideal S2x512 .f32) := by
  refine (dat6 V c).arrAt_eq_of_covers 4 _ (by decide +kernel) fun t hf y => ?_
  rw [after6_4, out6_delta]; rfl
theorem out6_mean (x0 x1 x2 x3 : Vec Ideal S2x512 .f32) : out6_5 x0 x1 x2 x3 = means x1 x2 := by
  rw [out6_5, stored6]; simp only [loaded6, k6_pay1, shapeCast_self]; rfl
theorem array6_mean : (dat6 V c).arrAt 5 cfg6.N = (means (s := S2x512) (V c main_arg16) (V c main_arg26) : FVec Ideal S2x512 .f32) := by
  refine (dat6 V c).arrAt_eq_of_covers 5 _ (by decide +kernel) fun t hf y => ?_
  rw [after6_5, out6_mean]; rfl
theorem out6_square (x0 x1 x2 x3 : Vec Ideal S2x512 .f32) : out6_6 x0 x1 x2 x3 = squares x1 x3 := by
  rw [out6_6, stored6]; simp only [loaded6, k6_pay2, shapeCast_self]; rfl
theorem array6_square : (dat6 V c).arrAt 6 cfg6.N = (squares (s := S2x512) (V c main_arg16) (V c main_arg36) : FVec Ideal S2x512 .f32) := by
  refine (dat6 V c).arrAt_eq_of_covers 6 _ (by decide +kernel) fun t hf y => ?_
  rw [after6_6, out6_square]; rfl

/-! ## Launch 7: the weights of shape 2x1024x448 -/

theorem stored7 (x : Vec Ideal S256x448 .f32) : View.canon [⟨r7_0, x⟩] = x := View.canon_cons_unit_lit _ _ _ (by decide)
theorem loaded7 (x : Vec Ideal S256x448 .f32) : View.ld x r7_0 = x := View.ld_unit_lit _ _ (by decide)
theorem out7_delta (x0 x1 x2 x3 : Vec Ideal S256x448 .f32) : out7_4 x0 x1 x2 x3 = deltas x0 x1 x2 x3 := by
  rw [out7_4, stored7]; simp only [loaded7, k7_pay4, k7_pay3, k7_pay2, k7_pay1, shapeCast_self]; rfl
theorem array7_delta : (dat7 V c).arrAt 4 cfg7.N = (deltas (s := S2048x448) (V c main_v42) (V c main_v43) (V c main_v44) (V c main_v45) : FVec Ideal S2048x448 .f32) := by
  refine (dat7 V c).arrAt_eq_of_covers 4 _ (by decide +kernel) fun t hf y => ?_
  rw [after7_4, out7_delta]; rfl
theorem out7_mean (x0 x1 x2 x3 : Vec Ideal S256x448 .f32) : out7_5 x0 x1 x2 x3 = means x1 x2 := by
  rw [out7_5, stored7]; simp only [loaded7, k7_pay2, k7_pay1, shapeCast_self]; rfl
theorem array7_mean : (dat7 V c).arrAt 5 cfg7.N = (means (s := S2048x448) (V c main_v43) (V c main_v44) : FVec Ideal S2048x448 .f32) := by
  refine (dat7 V c).arrAt_eq_of_covers 5 _ (by decide +kernel) fun t hf y => ?_
  rw [after7_5, out7_mean]; rfl
theorem out7_square (x0 x1 x2 x3 : Vec Ideal S256x448 .f32) : out7_6 x0 x1 x2 x3 = squares x1 x3 := by
  rw [out7_6, stored7]; simp only [loaded7, k7_pay3, k7_pay1, shapeCast_self]; rfl
theorem array7_square : (dat7 V c).arrAt 6 cfg7.N = (squares (s := S2048x448) (V c main_v43) (V c main_v45) : FVec Ideal S2048x448 .f32) := by
  refine (dat7 V c).arrAt_eq_of_covers 6 _ (by decide +kernel) fun t hf y => ?_
  rw [after7_6, out7_square]; rfl

/-! ## Launch 8: the weights of shape 4x256x512 -/

theorem stored8 (x : Vec Ideal S256x512 .f32) : View.canon [⟨r8_0, x⟩] = x := View.canon_cons_unit_lit _ _ _ (by decide)
theorem loaded8 (x : Vec Ideal S256x512 .f32) : View.ld x r8_0 = x := View.ld_unit_lit _ _ (by decide)
theorem out8_delta (x0 x1 x2 x3 : Vec Ideal S256x512 .f32) : out8_4 x0 x1 x2 x3 = deltas x0 x1 x2 x3 := by
  rw [out8_4, stored8]; simp only [loaded8, k8_pay4, k8_pay3, k8_pay2, k8_pay1, shapeCast_self]; rfl
theorem array8_delta : (dat8 V c).arrAt 4 cfg8.N = (deltas (s := S1024x512) (V c main_v50) (V c main_v51) (V c main_v52) (V c main_v53) : FVec Ideal S1024x512 .f32) := by
  refine (dat8 V c).arrAt_eq_of_covers 4 _ (by decide +kernel) fun t hf y => ?_
  rw [after8_4, out8_delta]; rfl
theorem out8_mean (x0 x1 x2 x3 : Vec Ideal S256x512 .f32) : out8_5 x0 x1 x2 x3 = means x1 x2 := by
  rw [out8_5, stored8]; simp only [loaded8, k8_pay2, k8_pay1, shapeCast_self]; rfl
theorem array8_mean : (dat8 V c).arrAt 5 cfg8.N = (means (s := S1024x512) (V c main_v51) (V c main_v52) : FVec Ideal S1024x512 .f32) := by
  refine (dat8 V c).arrAt_eq_of_covers 5 _ (by decide +kernel) fun t hf y => ?_
  rw [after8_5, out8_mean]; rfl
theorem out8_square (x0 x1 x2 x3 : Vec Ideal S256x512 .f32) : out8_6 x0 x1 x2 x3 = squares x1 x3 := by
  rw [out8_6, stored8]; simp only [loaded8, k8_pay3, k8_pay1, shapeCast_self]; rfl
theorem array8_square : (dat8 V c).arrAt 6 cfg8.N = (squares (s := S1024x512) (V c main_v51) (V c main_v53) : FVec Ideal S1024x512 .f32) := by
  refine (dat8 V c).arrAt_eq_of_covers 6 _ (by decide +kernel) fun t hf y => ?_
  rw [after8_6, out8_square]; rfl

/-! ## Launch 9: the weights of shape 4x768x256 -/

theorem stored9 (x : Vec Ideal S256x256 .f32) : View.canon [⟨r9_0, x⟩] = x := View.canon_cons_unit_lit _ _ _ (by decide)
theorem loaded9 (x : Vec Ideal S256x256 .f32) : View.ld x r9_0 = x := View.ld_unit_lit _ _ (by decide)
theorem out9_delta (x0 x1 x2 x3 : Vec Ideal S256x256 .f32) : out9_4 x0 x1 x2 x3 = deltas x0 x1 x2 x3 := by
  rw [out9_4, stored9]; simp only [loaded9, k9_pay4, k9_pay3, k9_pay2, k9_pay1, shapeCast_self]; rfl
theorem array9_delta : (dat9 V c).arrAt 4 cfg9.N = (deltas (s := S3072x256) (V c main_v58) (V c main_v59) (V c main_v60) (V c main_v61) : FVec Ideal S3072x256 .f32) := by
  refine (dat9 V c).arrAt_eq_of_covers 4 _ (by decide +kernel) fun t hf y => ?_
  rw [after9_4, out9_delta]; rfl
theorem out9_mean (x0 x1 x2 x3 : Vec Ideal S256x256 .f32) : out9_5 x0 x1 x2 x3 = means x1 x2 := by
  rw [out9_5, stored9]; simp only [loaded9, k9_pay2, k9_pay1, shapeCast_self]; rfl
theorem array9_mean : (dat9 V c).arrAt 5 cfg9.N = (means (s := S3072x256) (V c main_v59) (V c main_v60) : FVec Ideal S3072x256 .f32) := by
  refine (dat9 V c).arrAt_eq_of_covers 5 _ (by decide +kernel) fun t hf y => ?_
  rw [after9_5, out9_mean]; rfl
theorem out9_square (x0 x1 x2 x3 : Vec Ideal S256x256 .f32) : out9_6 x0 x1 x2 x3 = squares x1 x3 := by
  rw [out9_6, stored9]; simp only [loaded9, k9_pay3, k9_pay1, shapeCast_self]; rfl
theorem array9_square : (dat9 V c).arrAt 6 cfg9.N = (squares (s := S3072x256) (V c main_v59) (V c main_v61) : FVec Ideal S3072x256 .f32) := by
  refine (dat9 V c).arrAt_eq_of_covers 6 _ (by decide +kernel) fun t hf y => ?_
  rw [after9_6, out9_square]; rfl

end Cert.Optimiser
-- ==== Proof.OptimiserRun.lean ====
/- The run of the optimiser's program: its thirty results end holding the elementwise step of the forty arguments. -/
module

public import proofs.«01_k».proof.Proof.OptimiserArrays

@[expose] public section

set_option maxRecDepth 16384

noncomputable section

namespace Cert.Optimiser

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

set_option backward.isDefEq.respectTransparency.types false

local notation "𝕄" => MT nD τ sig Unit (Elt Ideal) ℕ (UR sig nD τ) ℕ

variable (m : (ℓ : Loc nD τ sig) → Buf (Elt Ideal) ℓ) (ρ : Dev nD → PrngReg) (c : Dev nD)

/-! ## What is computed stays to the end -/

/-- The results there are after stage 3. -/
abbrev kept3 : List (Ref sig .tc) := [main_v5, main_v6, main_v7]
/-- The results there are after stage 4. -/
abbrev kept4 : List (Ref sig .tc) := kept3 ++ [main_v8_0, main_v8_1, main_v8_2]
/-- The results there are after stage 5. -/
abbrev kept5 : List (Ref sig .tc) := kept4
/-- The results there are after stage 6. -/
abbrev kept6 : List (Ref sig .tc) := kept5
/-- The results there are after stage 7. -/
abbrev kept7 : List (Ref sig .tc) := kept6 ++ [main_v14, main_v15, main_v16]
/-- The results there are after stage 8. -/
abbrev kept8 : List (Ref sig .tc) := kept7
/-- The results there are after stage 9. -/
abbrev kept9 : List (Ref sig .tc) := kept8 ++ [main_v22, main_v23, main_v24]
/-- The results there are after stage 10. -/
abbrev kept10 : List (Ref sig .tc) := kept9
/-- The results there are after stage 11. -/
abbrev kept11 : List (Ref sig .tc) := kept10 ++ [main_v30, main_v31, main_v32]
/-- The results there are after stage 12. -/
abbrev kept12 : List (Ref sig .tc) := kept11
/-- The results there are after stage 13. -/
abbrev kept13 : List (Ref sig .tc) := kept12 ++ [main_v38, main_v39, main_v40]
/-- The results there are after stage 14. -/
abbrev kept14 : List (Ref sig .tc) := kept13 ++ [main_v41_0, main_v41_1, main_v41_2]
/-- The results there are after stage 15. -/
abbrev kept15 : List (Ref sig .tc) := kept14
/-- The results there are after stage 16. -/
abbrev kept16 : List (Ref sig .tc) := kept15
/-- The results there are after stage 17. -/
abbrev kept17 : List (Ref sig .tc) := kept16 ++ [main_v47, main_v48, main_v49]
/-- The results there are after stage 18. -/
abbrev kept18 : List (Ref sig .tc) := kept17
/-- The results there are after stage 19. -/
abbrev kept19 : List (Ref sig .tc) := kept18 ++ [main_v55, main_v56, main_v57]
/-- The results there are after stage 20. -/
abbrev kept20 : List (Ref sig .tc) := kept19
/-- The results there are after stage 21. -/
abbrev kept21 : List (Ref sig .tc) := kept20 ++ [main_v63, main_v64, main_v65]

theorem stays21 : ∀ r ∈ kept21, W21 m ρ c (Proc.devRef .tc r) = W21 m ρ c (Proc.devRef .tc r) := fun _ _ => rfl
theorem stays20 : ∀ r ∈ kept20, W21 m ρ c (Proc.devRef .tc r) = W20 m ρ c (Proc.devRef .tc r) := fun r h =>
  (stays21 m ρ c r (List.mem_append_left _ h)).trans (W21_of m ρ c r ((by decide +kernel : ∀ r ∈ kept20, r ∉ hostOps10_W) r h))
theorem stays19 : ∀ r ∈ kept19, W21 m ρ c (Proc.devRef .tc r) = W19 m ρ c (Proc.devRef .tc r) := fun r h =>
  (stays20 m ρ c r h).trans (W20_of m ρ c r ((by decide +kernel : ∀ r ∈ kept19, ∀ w : Fin cfg9.W, Pipeline.arrRef spec9 w = r → (cfg9.win w).isOut = false) r h))
theorem stays18 : ∀ r ∈ kept18, W21 m ρ c (Proc.devRef .tc r) = W18 m ρ c (Proc.devRef .tc r) := fun r h =>
  (stays19 m ρ c r (List.mem_append_left _ h)).trans (W19_of m ρ c r ((by decide +kernel : ∀ r ∈ kept18, r ∉ hostOps9_W) r h))
theorem stays17 : ∀ r ∈ kept17, W21 m ρ c (Proc.devRef .tc r) = W17 m ρ c (Proc.devRef .tc r) := fun r h =>
  (stays18 m ρ c r h).trans (W18_of m ρ c r ((by decide +kernel : ∀ r ∈ kept17, ∀ w : Fin cfg8.W, Pipeline.arrRef spec8 w = r → (cfg8.win w).isOut = false) r h))
theorem stays16 : ∀ r ∈ kept16, W21 m ρ c (Proc.devRef .tc r) = W16 m ρ c (Proc.devRef .tc r) := fun r h =>
  (stays17 m ρ c r (List.mem_append_left _ h)).trans (W17_of m ρ c r ((by decide +kernel : ∀ r ∈ kept16, r ∉ hostOps8_W) r h))
theorem stays15 : ∀ r ∈ kept15, W21 m ρ c (Proc.devRef .tc r) = W15 m ρ c (Proc.devRef .tc r) := fun r h =>
  (stays16 m ρ c r h).trans (W16_of m ρ c r ((by decide +kernel : ∀ r ∈ kept15, ∀ w : Fin cfg7.W, Pipeline.arrRef spec7 w = r → (cfg7.win w).isOut = false) r h))
theorem stays14 : ∀ r ∈ kept14, W21 m ρ c (Proc.devRef .tc r) = W14 m ρ c (Proc.devRef .tc r) := fun r h =>
  (stays15 m ρ c r h).trans (W15_of m ρ c r ((by decide +kernel : ∀ r ∈ kept14, r ∉ hostOps7_W) r h))
theorem stays13 : ∀ r ∈ kept13, W21 m ρ c (Proc.devRef .tc r) = W13 m ρ c (Proc.devRef .tc r) := fun r h =>
  (stays14 m ρ c r (List.mem_append_left _ h)).trans (W14_of m ρ c r ((by decide +kernel : ∀ r ∈ kept13, ∀ w : Fin cfg6.W, Pipeline.arrRef spec6 w = r → (cfg6.win w).isOut = false) r h))
theorem stays12 : ∀ r ∈ kept12, W21 m ρ c (Proc.devRef .tc r) = W12 m ρ c (Proc.devRef .tc r) := fun r h =>
  (stays13 m ρ c r (List.mem_append_left _ h)).trans (W13_of m ρ c r ((by decide +kernel : ∀ r ∈ kept12, r ∉ hostOps6_W) r h))
theorem stays11 : ∀ r ∈ kept11, W21 m ρ c (Proc.devRef .tc r) = W11 m ρ c (Proc.devRef .tc r) := fun r h =>
  (stays12 m ρ c r h).trans (W12_of m ρ c r ((by decide +kernel : ∀ r ∈ kept11, ∀ w : Fin cfg5.W, Pipeline.arrRef spec5 w = r → (cfg5.win w).isOut = false) r h))
theorem stays10 : ∀ r ∈ kept10, W21 m ρ c (Proc.devRef .tc r) = W10 m ρ c (Proc.devRef .tc r) := fun r h =>
  (stays11 m ρ c r (List.mem_append_left _ h)).trans (W11_of m ρ c r ((by decide +kernel : ∀ r ∈ kept10, r ∉ hostOps5_W) r h))
theorem stays9 : ∀ r ∈ kept9, W21 m ρ c (Proc.devRef .tc r) = W9 m ρ c (Proc.devRef .tc r) := fun r h =>
  (stays10 m ρ c r h).trans (W10_of m ρ c r ((by decide +kernel : ∀ r ∈ kept9, ∀ w : Fin cfg4.W, Pipeline.arrRef spec4 w = r → (cfg4.win w).isOut = false) r h))
theorem stays8 : ∀ r ∈ kept8, W21 m ρ c (Proc.devRef .tc r) = W8 m ρ c (Proc.devRef .tc r) := fun r h =>
  (stays9 m ρ c r (List.mem_append_left _ h)).trans (W9_of m ρ c r ((by decide +kernel : ∀ r ∈ kept8, r ∉ hostOps4_W) r h))
theorem stays7 : ∀ r ∈ kept7, W21 m ρ c (Proc.devRef .tc r) = W7 m ρ c (Proc.devRef .tc r) := fun r h =>
  (stays8 m ρ c r h).trans (W8_of m ρ c r ((by decide +kernel : ∀ r ∈ kept7, ∀ w : Fin cfg3.W, Pipeline.arrRef spec3 w = r → (cfg3.win w).isOut = false) r h))
theorem stays6 : ∀ r ∈ kept6, W21 m ρ c (Proc.devRef .tc r) = W6 m ρ c (Proc.devRef .tc r) := fun r h =>
  (stays7 m ρ c r (List.mem_append_left _ h)).trans (W7_of m ρ c r ((by decide +kernel : ∀ r ∈ kept6, r ∉ hostOps3_W) r h))
theorem stays5 : ∀ r ∈ kept5, W21 m ρ c (Proc.devRef .tc r) = W5 m ρ c (Proc.devRef .tc r) := fun r h =>
  (stays6 m ρ c r h).trans (W6_of m ρ c r ((by decide +kernel : ∀ r ∈ kept5, ∀ w : Fin cfg2.W, Pipeline.arrRef spec2 w = r → (cfg2.win w).isOut = false) r h))
theorem stays4 : ∀ r ∈ kept4, W21 m ρ c (Proc.devRef .tc r) = W4 m ρ c (Proc.devRef .tc r) := fun r h =>
  (stays5 m ρ c r h).trans (W5_of m ρ c r ((by decide +kernel : ∀ r ∈ kept4, r ∉ hostOps2_W) r h))
theorem stays3 : ∀ r ∈ kept3, W21 m ρ c (Proc.devRef .tc r) = W3 m ρ c (Proc.devRef .tc r) := fun r h =>
  (stays4 m ρ c r (List.mem_append_left _ h)).trans (W4_of m ρ c r ((by decide +kernel : ∀ r ∈ kept3, ∀ w : Fin cfg1.W, Pipeline.arrRef spec1 w = r → (cfg1.win w).isOut = false) r h))

/-! ## Launch 0: the weights of shape 4x3x256 -/

theorem prep_v0 : W1 m ρ c (Proc.devRef .tc main_v0) = (shapeCast S12x256 (m ((c : Thread nD τ).loc main_arg0) : FVec Ideal S4x3x256 .f32) shapeCasts_S4x3x256_S12x256 : FVec Ideal S12x256 .f32) := by
  rw [← W0_args m ρ c main_arg0 (by decide)]; unfold_abbrev_sides; after_results; rfl
theorem prep_v1 : W1 m ρ c (Proc.devRef .tc main_v1) = (shapeCast S12x256 (m ((c : Thread nD τ).loc main_arg10) : FVec Ideal S4x3x256 .f32) shapeCasts_S4x3x256_S12x256 : FVec Ideal S12x256 .f32) := by
  rw [← W0_args m ρ c main_arg10 (by decide)]; unfold_abbrev_sides; after_results; rfl
theorem prep_v2 : W1 m ρ c (Proc.devRef .tc main_v2) = (shapeCast S12x256 (m ((c : Thread nD τ).loc main_arg20) : FVec Ideal S4x3x256 .f32) shapeCasts_S4x3x256_S12x256 : FVec Ideal S12x256 .f32) := by
  rw [← W0_args m ρ c main_arg20 (by decide)]; unfold_abbrev_sides; after_results; rfl
theorem prep_v3 : W1 m ρ c (Proc.devRef .tc main_v3) = (shapeCast S12x256 (m ((c : Thread nD τ).loc main_arg30) : FVec Ideal S4x3x256 .f32) shapeCasts_S4x3x256_S12x256 : FVec Ideal S12x256 .f32) := by
  rw [← W0_args m ρ c main_arg30 (by decide)]; unfold_abbrev_sides; after_results; rfl
theorem end0_delta : W21 m ρ c (Proc.devRef .tc main_v5) = (deltas (s := S4x3x256) (m ((c : Thread nD τ).loc main_arg0)) (m ((c : Thread nD τ).loc main_arg10)) (m ((c : Thread nD τ).loc main_arg20)) (m ((c : Thread nD τ).loc main_arg30)) : FVec Ideal S4x3x256 .f32) := by
  have back : W3 m ρ c (Proc.devRef .tc main_v5) = shapeCast S4x3x256 (W2 m ρ c (Proc.devRef .tc main_v4_0) : FVec Ideal S12x256 .f32) shapeCasts_S12x256_S4x3x256 := by
    unfold_abbrev_sides; after_results; rfl
  have flat : W2 m ρ c (Proc.devRef .tc main_v4_0) = (deltas (s := S12x256) (W1 m ρ c (Proc.devRef .tc main_v0)) (W1 m ρ c (Proc.devRef .tc main_v1)) (W1 m ρ c (Proc.devRef .tc main_v2)) (W1 m ρ c (Proc.devRef .tc main_v3)) : FVec Ideal S12x256 .f32) :=
    (W2_arr m ρ c 4).trans (array0_delta (V1 m ρ) c)
  rw [stays3 m ρ c main_v5 (by decide), back, flat, prep_v0 m ρ c, prep_v1 m ρ c, prep_v2 m ρ c, prep_v3 m ρ c]
  exact deltas_flat _ _ _ _ _ _
theorem end0_mean : W21 m ρ c (Proc.devRef .tc main_v6) = (means (s := S4x3x256) (m ((c : Thread nD τ).loc main_arg10)) (m ((c : Thread nD τ).loc main_arg20)) : FVec Ideal S4x3x256 .f32) := by
  have back : W3 m ρ c (Proc.devRef .tc main_v6) = shapeCast S4x3x256 (W2 m ρ c (Proc.devRef .tc main_v4_1) : FVec Ideal S12x256 .f32) shapeCasts_S12x256_S4x3x256 := by
    unfold_abbrev_sides; after_results; rfl
  have flat : W2 m ρ c (Proc.devRef .tc main_v4_1) = (means (s := S12x256) (W1 m ρ c (Proc.devRef .tc main_v1)) (W1 m ρ c (Proc.devRef .tc main_v2)) : FVec Ideal S12x256 .f32) :=
    (W2_arr m ρ c 5).trans (array0_mean (V1 m ρ) c)
  rw [stays3 m ρ c main_v6 (by decide), back, flat, prep_v1 m ρ c, prep_v2 m ρ c]
  exact means_flat _ _ _ _
theorem end0_square : W21 m ρ c (Proc.devRef .tc main_v7) = (squares (s := S4x3x256) (m ((c : Thread nD τ).loc main_arg10)) (m ((c : Thread nD τ).loc main_arg30)) : FVec Ideal S4x3x256 .f32) := by
  have back : W3 m ρ c (Proc.devRef .tc main_v7) = shapeCast S4x3x256 (W2 m ρ c (Proc.devRef .tc main_v4_2) : FVec Ideal S12x256 .f32) shapeCasts_S12x256_S4x3x256 := by
    unfold_abbrev_sides; after_results; rfl
  have flat : W2 m ρ c (Proc.devRef .tc main_v4_2) = (squares (s := S12x256) (W1 m ρ c (Proc.devRef .tc main_v1)) (W1 m ρ c (Proc.devRef .tc main_v3)) : FVec Ideal S12x256 .f32) :=
    (W2_arr m ρ c 6).trans (array0_square (V1 m ρ) c)
  rw [stays3 m ρ c main_v7 (by decide), back, flat, prep_v1 m ρ c, prep_v3 m ρ c]
  exact squares_flat _ _ _ _

/-! ## Launch 1: the weights of shape 4x1024 -/

theorem end1_delta : W21 m ρ c (Proc.devRef .tc main_v8_0) = (deltas (s := S4x1024) (m ((c : Thread nD τ).loc main_arg1)) (m ((c : Thread nD τ).loc main_arg11)) (m ((c : Thread nD τ).loc main_arg21)) (m ((c : Thread nD τ).loc main_arg31)) : FVec Ideal S4x1024 .f32) := by
  have flat : W4 m ρ c (Proc.devRef .tc main_v8_0) = (deltas (s := S4x1024) (W3 m ρ c (Proc.devRef .tc main_arg1)) (W3 m ρ c (Proc.devRef .tc main_arg11)) (W3 m ρ c (Proc.devRef .tc main_arg21)) (W3 m ρ c (Proc.devRef .tc main_arg31)) : FVec Ideal S4x1024 .f32) :=
    (W4_arr m ρ c 4).trans (array1_delta (V3 m ρ) c)
  rw [stays4 m ρ c main_v8_0 (by decide), flat, W3_args m ρ c main_arg1 (by decide), W3_args m ρ c main_arg11 (by decide), W3_args m ρ c main_arg21 (by decide), W3_args m ρ c main_arg31 (by decide)]
theorem end1_mean : W21 m ρ c (Proc.devRef .tc main_v8_1) = (means (s := S4x1024) (m ((c : Thread nD τ).loc main_arg11)) (m ((c : Thread nD τ).loc main_arg21)) : FVec Ideal S4x1024 .f32) := by
  have flat : W4 m ρ c (Proc.devRef .tc main_v8_1) = (means (s := S4x1024) (W3 m ρ c (Proc.devRef .tc main_arg11)) (W3 m ρ c (Proc.devRef .tc main_arg21)) : FVec Ideal S4x1024 .f32) :=
    (W4_arr m ρ c 5).trans (array1_mean (V3 m ρ) c)
  rw [stays4 m ρ c main_v8_1 (by decide), flat, W3_args m ρ c main_arg11 (by decide), W3_args m ρ c main_arg21 (by decide)]
theorem end1_square : W21 m ρ c (Proc.devRef .tc main_v8_2) = (squares (s := S4x1024) (m ((c : Thread nD τ).loc main_arg11)) (m ((c : Thread nD τ).loc main_arg31)) : FVec Ideal S4x1024 .f32) := by
  have flat : W4 m ρ c (Proc.devRef .tc main_v8_2) = (squares (s := S4x1024) (W3 m ρ c (Proc.devRef .tc main_arg11)) (W3 m ρ c (Proc.devRef .tc main_arg31)) : FVec Ideal S4x1024 .f32) :=
    (W4_arr m ρ c 6).trans (array1_square (V3 m ρ) c)
  rw [stays4 m ρ c main_v8_2 (by decide), flat, W3_args m ρ c main_arg11 (by decide), W3_args m ρ c main_arg31 (by decide)]

/-! ## Launch 2: the weights of shape 4x1024x512 -/

theorem prep_v9 : W5 m ρ c (Proc.devRef .tc main_v9) = (shapeCast S4096x512 (m ((c : Thread nD τ).loc main_arg2) : FVec Ideal S4x1024x512 .f32) shapeCasts_S4x1024x512_S4096x512 : FVec Ideal S4096x512 .f32) := by
  rw [← W4_args m ρ c main_arg2 (by decide)]; unfold_abbrev_sides; after_results; rfl
theorem prep_v10 : W5 m ρ c (Proc.devRef .tc main_v10) = (shapeCast S4096x512 (m ((c : Thread nD τ).loc main_arg12) : FVec Ideal S4x1024x512 .f32) shapeCasts_S4x1024x512_S4096x512 : FVec Ideal S4096x512 .f32) := by
  rw [← W4_args m ρ c main_arg12 (by decide)]; unfold_abbrev_sides; after_results; rfl
theorem prep_v11 : W5 m ρ c (Proc.devRef .tc main_v11) = (shapeCast S4096x512 (m ((c : Thread nD τ).loc main_arg22) : FVec Ideal S4x1024x512 .f32) shapeCasts_S4x1024x512_S4096x512 : FVec Ideal S4096x512 .f32) := by
  rw [← W4_args m ρ c main_arg22 (by decide)]; unfold_abbrev_sides; after_results; rfl
theorem prep_v12 : W5 m ρ c (Proc.devRef .tc main_v12) = (shapeCast S4096x512 (m ((c : Thread nD τ).loc main_arg32) : FVec Ideal S4x1024x512 .f32) shapeCasts_S4x1024x512_S4096x512 : FVec Ideal S4096x512 .f32) := by
  rw [← W4_args m ρ c main_arg32 (by decide)]; unfold_abbrev_sides; after_results; rfl
theorem end2_delta : W21 m ρ c (Proc.devRef .tc main_v14) = (deltas (s := S4x1024x512) (m ((c : Thread nD τ).loc main_arg2)) (m ((c : Thread nD τ).loc main_arg12)) (m ((c : Thread nD τ).loc main_arg22)) (m ((c : Thread nD τ).loc main_arg32)) : FVec Ideal S4x1024x512 .f32) := by
  have back : W7 m ρ c (Proc.devRef .tc main_v14) = shapeCast S4x1024x512 (W6 m ρ c (Proc.devRef .tc main_v13_0) : FVec Ideal S4096x512 .f32) shapeCasts_S4096x512_S4x1024x512 := by
    unfold_abbrev_sides; after_results; rfl
  have flat : W6 m ρ c (Proc.devRef .tc main_v13_0) = (deltas (s := S4096x512) (W5 m ρ c (Proc.devRef .tc main_v9)) (W5 m ρ c (Proc.devRef .tc main_v10)) (W5 m ρ c (Proc.devRef .tc main_v11)) (W5 m ρ c (Proc.devRef .tc main_v12)) : FVec Ideal S4096x512 .f32) :=
    (W6_arr m ρ c 4).trans (array2_delta (V5 m ρ) c)
  rw [stays7 m ρ c main_v14 (by decide), back, flat, prep_v9 m ρ c, prep_v10 m ρ c, prep_v11 m ρ c, prep_v12 m ρ c]
  exact deltas_flat _ _ _ _ _ _
theorem end2_mean : W21 m ρ c (Proc.devRef .tc main_v15) = (means (s := S4x1024x512) (m ((c : Thread nD τ).loc main_arg12)) (m ((c : Thread nD τ).loc main_arg22)) : FVec Ideal S4x1024x512 .f32) := by
  have back : W7 m ρ c (Proc.devRef .tc main_v15) = shapeCast S4x1024x512 (W6 m ρ c (Proc.devRef .tc main_v13_1) : FVec Ideal S4096x512 .f32) shapeCasts_S4096x512_S4x1024x512 := by
    unfold_abbrev_sides; after_results; rfl
  have flat : W6 m ρ c (Proc.devRef .tc main_v13_1) = (means (s := S4096x512) (W5 m ρ c (Proc.devRef .tc main_v10)) (W5 m ρ c (Proc.devRef .tc main_v11)) : FVec Ideal S4096x512 .f32) :=
    (W6_arr m ρ c 5).trans (array2_mean (V5 m ρ) c)
  rw [stays7 m ρ c main_v15 (by decide), back, flat, prep_v10 m ρ c, prep_v11 m ρ c]
  exact means_flat _ _ _ _
theorem end2_square : W21 m ρ c (Proc.devRef .tc main_v16) = (squares (s := S4x1024x512) (m ((c : Thread nD τ).loc main_arg12)) (m ((c : Thread nD τ).loc main_arg32)) : FVec Ideal S4x1024x512 .f32) := by
  have back : W7 m ρ c (Proc.devRef .tc main_v16) = shapeCast S4x1024x512 (W6 m ρ c (Proc.devRef .tc main_v13_2) : FVec Ideal S4096x512 .f32) shapeCasts_S4096x512_S4x1024x512 := by
    unfold_abbrev_sides; after_results; rfl
  have flat : W6 m ρ c (Proc.devRef .tc main_v13_2) = (squares (s := S4096x512) (W5 m ρ c (Proc.devRef .tc main_v10)) (W5 m ρ c (Proc.devRef .tc main_v12)) : FVec Ideal S4096x512 .f32) :=
    (W6_arr m ρ c 6).trans (array2_square (V5 m ρ) c)
  rw [stays7 m ρ c main_v16 (by decide), back, flat, prep_v10 m ρ c, prep_v12 m ρ c]
  exact squares_flat _ _ _ _

/-! ## Launch 3: the weights of shape 4x512x1024 -/

theorem prep_v17 : W7 m ρ c (Proc.devRef .tc main_v17) = (shapeCast S2048x1024 (m ((c : Thread nD τ).loc main_arg3) : FVec Ideal S4x512x1024 .f32) shapeCasts_S4x512x1024_S2048x1024 : FVec Ideal S2048x1024 .f32) := by
  rw [← W6_args m ρ c main_arg3 (by decide)]; unfold_abbrev_sides; after_results; rfl
theorem prep_v18 : W7 m ρ c (Proc.devRef .tc main_v18) = (shapeCast S2048x1024 (m ((c : Thread nD τ).loc main_arg13) : FVec Ideal S4x512x1024 .f32) shapeCasts_S4x512x1024_S2048x1024 : FVec Ideal S2048x1024 .f32) := by
  rw [← W6_args m ρ c main_arg13 (by decide)]; unfold_abbrev_sides; after_results; rfl
theorem prep_v19 : W7 m ρ c (Proc.devRef .tc main_v19) = (shapeCast S2048x1024 (m ((c : Thread nD τ).loc main_arg23) : FVec Ideal S4x512x1024 .f32) shapeCasts_S4x512x1024_S2048x1024 : FVec Ideal S2048x1024 .f32) := by
  rw [← W6_args m ρ c main_arg23 (by decide)]; unfold_abbrev_sides; after_results; rfl
theorem prep_v20 : W7 m ρ c (Proc.devRef .tc main_v20) = (shapeCast S2048x1024 (m ((c : Thread nD τ).loc main_arg33) : FVec Ideal S4x512x1024 .f32) shapeCasts_S4x512x1024_S2048x1024 : FVec Ideal S2048x1024 .f32) := by
  rw [← W6_args m ρ c main_arg33 (by decide)]; unfold_abbrev_sides; after_results; rfl
theorem end3_delta : W21 m ρ c (Proc.devRef .tc main_v22) = (deltas (s := S4x512x1024) (m ((c : Thread nD τ).loc main_arg3)) (m ((c : Thread nD τ).loc main_arg13)) (m ((c : Thread nD τ).loc main_arg23)) (m ((c : Thread nD τ).loc main_arg33)) : FVec Ideal S4x512x1024 .f32) := by
  have back : W9 m ρ c (Proc.devRef .tc main_v22) = shapeCast S4x512x1024 (W8 m ρ c (Proc.devRef .tc main_v21_0) : FVec Ideal S2048x1024 .f32) shapeCasts_S2048x1024_S4x512x1024 := by
    unfold_abbrev_sides; after_results; rfl
  have flat : W8 m ρ c (Proc.devRef .tc main_v21_0) = (deltas (s := S2048x1024) (W7 m ρ c (Proc.devRef .tc main_v17)) (W7 m ρ c (Proc.devRef .tc main_v18)) (W7 m ρ c (Proc.devRef .tc main_v19)) (W7 m ρ c (Proc.devRef .tc main_v20)) : FVec Ideal S2048x1024 .f32) :=
    (W8_arr m ρ c 4).trans (array3_delta (V7 m ρ) c)
  rw [stays9 m ρ c main_v22 (by decide), back, flat, prep_v17 m ρ c, prep_v18 m ρ c, prep_v19 m ρ c, prep_v20 m ρ c]
  exact deltas_flat _ _ _ _ _ _
theorem end3_mean : W21 m ρ c (Proc.devRef .tc main_v23) = (means (s := S4x512x1024) (m ((c : Thread nD τ).loc main_arg13)) (m ((c : Thread nD τ).loc main_arg23)) : FVec Ideal S4x512x1024 .f32) := by
  have back : W9 m ρ c (Proc.devRef .tc main_v23) = shapeCast S4x512x1024 (W8 m ρ c (Proc.devRef .tc main_v21_1) : FVec Ideal S2048x1024 .f32) shapeCasts_S2048x1024_S4x512x1024 := by
    unfold_abbrev_sides; after_results; rfl
  have flat : W8 m ρ c (Proc.devRef .tc main_v21_1) = (means (s := S2048x1024) (W7 m ρ c (Proc.devRef .tc main_v18)) (W7 m ρ c (Proc.devRef .tc main_v19)) : FVec Ideal S2048x1024 .f32) :=
    (W8_arr m ρ c 5).trans (array3_mean (V7 m ρ) c)
  rw [stays9 m ρ c main_v23 (by decide), back, flat, prep_v18 m ρ c, prep_v19 m ρ c]
  exact means_flat _ _ _ _
theorem end3_square : W21 m ρ c (Proc.devRef .tc main_v24) = (squares (s := S4x512x1024) (m ((c : Thread nD τ).loc main_arg13)) (m ((c : Thread nD τ).loc main_arg33)) : FVec Ideal S4x512x1024 .f32) := by
  have back : W9 m ρ c (Proc.devRef .tc main_v24) = shapeCast S4x512x1024 (W8 m ρ c (Proc.devRef .tc main_v21_2) : FVec Ideal S2048x1024 .f32) shapeCasts_S2048x1024_S4x512x1024 := by
    unfold_abbrev_sides; after_results; rfl
  have flat : W8 m ρ c (Proc.devRef .tc main_v21_2) = (squares (s := S2048x1024) (W7 m ρ c (Proc.devRef .tc main_v18)) (W7 m ρ c (Proc.devRef .tc main_v20)) : FVec Ideal S2048x1024 .f32) :=
    (W8_arr m ρ c 6).trans (array3_square (V7 m ρ) c)
  rw [stays9 m ρ c main_v24 (by decide), back, flat, prep_v18 m ρ c, prep_v20 m ρ c]
  exact squares_flat _ _ _ _

/-! ## Launch 4: the weights of shape 2x256x768 -/

theorem prep_v25 : W9 m ρ c (Proc.devRef .tc main_v25) = (shapeCast S512x768 (m ((c : Thread nD τ).loc main_arg4) : FVec Ideal S2x256x768 .f32) shapeCasts_S2x256x768_S512x768 : FVec Ideal S512x768 .f32) := by
  rw [← W8_args m ρ c main_arg4 (by decide)]; unfold_abbrev_sides; after_results; rfl
theorem prep_v26 : W9 m ρ c (Proc.devRef .tc main_v26) = (shapeCast S512x768 (m ((c : Thread nD τ).loc main_arg14) : FVec Ideal S2x256x768 .f32) shapeCasts_S2x256x768_S512x768 : FVec Ideal S512x768 .f32) := by
  rw [← W8_args m ρ c main_arg14 (by decide)]; unfold_abbrev_sides; after_results; rfl
theorem prep_v27 : W9 m ρ c (Proc.devRef .tc main_v27) = (shapeCast S512x768 (m ((c : Thread nD τ).loc main_arg24) : FVec Ideal S2x256x768 .f32) shapeCasts_S2x256x768_S512x768 : FVec Ideal S512x768 .f32) := by
  rw [← W8_args m ρ c main_arg24 (by decide)]; unfold_abbrev_sides; after_results; rfl
theorem prep_v28 : W9 m ρ c (Proc.devRef .tc main_v28) = (shapeCast S512x768 (m ((c : Thread nD τ).loc main_arg34) : FVec Ideal S2x256x768 .f32) shapeCasts_S2x256x768_S512x768 : FVec Ideal S512x768 .f32) := by
  rw [← W8_args m ρ c main_arg34 (by decide)]; unfold_abbrev_sides; after_results; rfl
theorem end4_delta : W21 m ρ c (Proc.devRef .tc main_v30) = (deltas (s := S2x256x768) (m ((c : Thread nD τ).loc main_arg4)) (m ((c : Thread nD τ).loc main_arg14)) (m ((c : Thread nD τ).loc main_arg24)) (m ((c : Thread nD τ).loc main_arg34)) : FVec Ideal S2x256x768 .f32) := by
  have back : W11 m ρ c (Proc.devRef .tc main_v30) = shapeCast S2x256x768 (W10 m ρ c (Proc.devRef .tc main_v29_0) : FVec Ideal S512x768 .f32) shapeCasts_S512x768_S2x256x768 := by
    unfold_abbrev_sides; after_results; rfl
  have flat : W10 m ρ c (Proc.devRef .tc main_v29_0) = (deltas (s := S512x768) (W9 m ρ c (Proc.devRef .tc main_v25)) (W9 m ρ c (Proc.devRef .tc main_v26)) (W9 m ρ c (Proc.devRef .tc main_v27)) (W9 m ρ c (Proc.devRef .tc main_v28)) : FVec Ideal S512x768 .f32) :=
    (W10_arr m ρ c 4).trans (array4_delta (V9 m ρ) c)
  rw [stays11 m ρ c main_v30 (by decide), back, flat, prep_v25 m ρ c, prep_v26 m ρ c, prep_v27 m ρ c, prep_v28 m ρ c]
  exact deltas_flat _ _ _ _ _ _
theorem end4_mean : W21 m ρ c (Proc.devRef .tc main_v31) = (means (s := S2x256x768) (m ((c : Thread nD τ).loc main_arg14)) (m ((c : Thread nD τ).loc main_arg24)) : FVec Ideal S2x256x768 .f32) := by
  have back : W11 m ρ c (Proc.devRef .tc main_v31) = shapeCast S2x256x768 (W10 m ρ c (Proc.devRef .tc main_v29_1) : FVec Ideal S512x768 .f32) shapeCasts_S512x768_S2x256x768 := by
    unfold_abbrev_sides; after_results; rfl
  have flat : W10 m ρ c (Proc.devRef .tc main_v29_1) = (means (s := S512x768) (W9 m ρ c (Proc.devRef .tc main_v26)) (W9 m ρ c (Proc.devRef .tc main_v27)) : FVec Ideal S512x768 .f32) :=
    (W10_arr m ρ c 5).trans (array4_mean (V9 m ρ) c)
  rw [stays11 m ρ c main_v31 (by decide), back, flat, prep_v26 m ρ c, prep_v27 m ρ c]
  exact means_flat _ _ _ _
theorem end4_square : W21 m ρ c (Proc.devRef .tc main_v32) = (squares (s := S2x256x768) (m ((c : Thread nD τ).loc main_arg14)) (m ((c : Thread nD τ).loc main_arg34)) : FVec Ideal S2x256x768 .f32) := by
  have back : W11 m ρ c (Proc.devRef .tc main_v32) = shapeCast S2x256x768 (W10 m ρ c (Proc.devRef .tc main_v29_2) : FVec Ideal S512x768 .f32) shapeCasts_S512x768_S2x256x768 := by
    unfold_abbrev_sides; after_results; rfl
  have flat : W10 m ρ c (Proc.devRef .tc main_v29_2) = (squares (s := S512x768) (W9 m ρ c (Proc.devRef .tc main_v26)) (W9 m ρ c (Proc.devRef .tc main_v28)) : FVec Ideal S512x768 .f32) :=
    (W10_arr m ρ c 6).trans (array4_square (V9 m ρ) c)
  rw [stays11 m ρ c main_v32 (by decide), back, flat, prep_v26 m ρ c, prep_v28 m ρ c]
  exact squares_flat _ _ _ _

/-! ## Launch 5: the weights of shape 2x4x128x128 -/

theorem prep_v33 : W11 m ρ c (Proc.devRef .tc main_v33) = (shapeCast S1024x128 (m ((c : Thread nD τ).loc main_arg5) : FVec Ideal S2x4x128x128 .f32) shapeCasts_S2x4x128x128_S1024x128 : FVec Ideal S1024x128 .f32) := by
  rw [← W10_args m ρ c main_arg5 (by decide)]; unfold_abbrev_sides; after_results; rfl
theorem prep_v34 : W11 m ρ c (Proc.devRef .tc main_v34) = (shapeCast S1024x128 (m ((c : Thread nD τ).loc main_arg15) : FVec Ideal S2x4x128x128 .f32) shapeCasts_S2x4x128x128_S1024x128 : FVec Ideal S1024x128 .f32) := by
  rw [← W10_args m ρ c main_arg15 (by decide)]; unfold_abbrev_sides; after_results; rfl
theorem prep_v35 : W11 m ρ c (Proc.devRef .tc main_v35) = (shapeCast S1024x128 (m ((c : Thread nD τ).loc main_arg25) : FVec Ideal S2x4x128x128 .f32) shapeCasts_S2x4x128x128_S1024x128 : FVec Ideal S1024x128 .f32) := by
  rw [← W10_args m ρ c main_arg25 (by decide)]; unfold_abbrev_sides; after_results; rfl
theorem prep_v36 : W11 m ρ c (Proc.devRef .tc main_v36) = (shapeCast S1024x128 (m ((c : Thread nD τ).loc main_arg35) : FVec Ideal S2x4x128x128 .f32) shapeCasts_S2x4x128x128_S1024x128 : FVec Ideal S1024x128 .f32) := by
  rw [← W10_args m ρ c main_arg35 (by decide)]; unfold_abbrev_sides; after_results; rfl
theorem end5_delta : W21 m ρ c (Proc.devRef .tc main_v38) = (deltas (s := S2x4x128x128) (m ((c : Thread nD τ).loc main_arg5)) (m ((c : Thread nD τ).loc main_arg15)) (m ((c : Thread nD τ).loc main_arg25)) (m ((c : Thread nD τ).loc main_arg35)) : FVec Ideal S2x4x128x128 .f32) := by
  have back : W13 m ρ c (Proc.devRef .tc main_v38) = shapeCast S2x4x128x128 (W12 m ρ c (Proc.devRef .tc main_v37_0) : FVec Ideal S1024x128 .f32) shapeCasts_S1024x128_S2x4x128x128 := by
    unfold_abbrev_sides; after_results; rfl
  have flat : W12 m ρ c (Proc.devRef .tc main_v37_0) = (deltas (s := S1024x128) (W11 m ρ c (Proc.devRef .tc main_v33)) (W11 m ρ c (Proc.devRef .tc main_v34)) (W11 m ρ c (Proc.devRef .tc main_v35)) (W11 m ρ c (Proc.devRef .tc main_v36)) : FVec Ideal S1024x128 .f32) :=
    (W12_arr m ρ c 4).trans (array5_delta (V11 m ρ) c)
  rw [stays13 m ρ c main_v38 (by decide), back, flat, prep_v33 m ρ c, prep_v34 m ρ c, prep_v35 m ρ c, prep_v36 m ρ c]
  exact deltas_flat _ _ _ _ _ _
theorem end5_mean : W21 m ρ c (Proc.devRef .tc main_v39) = (means (s := S2x4x128x128) (m ((c : Thread nD τ).loc main_arg15)) (m ((c : Thread nD τ).loc main_arg25)) : FVec Ideal S2x4x128x128 .f32) := by
  have back : W13 m ρ c (Proc.devRef .tc main_v39) = shapeCast S2x4x128x128 (W12 m ρ c (Proc.devRef .tc main_v37_1) : FVec Ideal S1024x128 .f32) shapeCasts_S1024x128_S2x4x128x128 := by
    unfold_abbrev_sides; after_results; rfl
  have flat : W12 m ρ c (Proc.devRef .tc main_v37_1) = (means (s := S1024x128) (W11 m ρ c (Proc.devRef .tc main_v34)) (W11 m ρ c (Proc.devRef .tc main_v35)) : FVec Ideal S1024x128 .f32) :=
    (W12_arr m ρ c 5).trans (array5_mean (V11 m ρ) c)
  rw [stays13 m ρ c main_v39 (by decide), back, flat, prep_v34 m ρ c, prep_v35 m ρ c]
  exact means_flat _ _ _ _
theorem end5_square : W21 m ρ c (Proc.devRef .tc main_v40) = (squares (s := S2x4x128x128) (m ((c : Thread nD τ).loc main_arg15)) (m ((c : Thread nD τ).loc main_arg35)) : FVec Ideal S2x4x128x128 .f32) := by
  have back : W13 m ρ c (Proc.devRef .tc main_v40) = shapeCast S2x4x128x128 (W12 m ρ c (Proc.devRef .tc main_v37_2) : FVec Ideal S1024x128 .f32) shapeCasts_S1024x128_S2x4x128x128 := by
    unfold_abbrev_sides; after_results; rfl
  have flat : W12 m ρ c (Proc.devRef .tc main_v37_2) = (squares (s := S1024x128) (W11 m ρ c (Proc.devRef .tc main_v34)) (W11 m ρ c (Proc.devRef .tc main_v36)) : FVec Ideal S1024x128 .f32) :=
    (W12_arr m ρ c 6).trans (array5_square (V11 m ρ) c)
  rw [stays13 m ρ c main_v40 (by decide), back, flat, prep_v34 m ρ c, prep_v36 m ρ c]
  exact squares_flat _ _ _ _

/-! ## Launch 6: the weights of shape 2x512 -/

theorem end6_delta : W21 m ρ c (Proc.devRef .tc main_v41_0) = (deltas (s := S2x512) (m ((c : Thread nD τ).loc main_arg6)) (m ((c : Thread nD τ).loc main_arg16)) (m ((c : Thread nD τ).loc main_arg26)) (m ((c : Thread nD τ).loc main_arg36)) : FVec Ideal S2x512 .f32) := by
  have flat : W14 m ρ c (Proc.devRef .tc main_v41_0) = (deltas (s := S2x512) (W13 m ρ c (Proc.devRef .tc main_arg6)) (W13 m ρ c (Proc.devRef .tc main_arg16)) (W13 m ρ c (Proc.devRef .tc main_arg26)) (W13 m ρ c (Proc.devRef .tc main_arg36)) : FVec Ideal S2x512 .f32) :=
    (W14_arr m ρ c 4).trans (array6_delta (V13 m ρ) c)
  rw [stays14 m ρ c main_v41_0 (by decide), flat, W13_args m ρ c main_arg6 (by decide), W13_args m ρ c main_arg16 (by decide), W13_args m ρ c main_arg26 (by decide), W13_args m ρ c main_arg36 (by decide)]
theorem end6_mean : W21 m ρ c (Proc.devRef .tc main_v41_1) = (means (s := S2x512) (m ((c : Thread nD τ).loc main_arg16)) (m ((c : Thread nD τ).loc main_arg26)) : FVec Ideal S2x512 .f32) := by
  have flat : W14 m ρ c (Proc.devRef .tc main_v41_1) = (means (s := S2x512) (W13 m ρ c (Proc.devRef .tc main_arg16)) (W13 m ρ c (Proc.devRef .tc main_arg26)) : FVec Ideal S2x512 .f32) :=
    (W14_arr m ρ c 5).trans (array6_mean (V13 m ρ) c)
  rw [stays14 m ρ c main_v41_1 (by decide), flat, W13_args m ρ c main_arg16 (by decide), W13_args m ρ c main_arg26 (by decide)]
theorem end6_square : W21 m ρ c (Proc.devRef .tc main_v41_2) = (squares (s := S2x512) (m ((c : Thread nD τ).loc main_arg16)) (m ((c : Thread nD τ).loc main_arg36)) : FVec Ideal S2x512 .f32) := by
  have flat : W14 m ρ c (Proc.devRef .tc main_v41_2) = (squares (s := S2x512) (W13 m ρ c (Proc.devRef .tc main_arg16)) (W13 m ρ c (Proc.devRef .tc main_arg36)) : FVec Ideal S2x512 .f32) :=
    (W14_arr m ρ c 6).trans (array6_square (V13 m ρ) c)
  rw [stays14 m ρ c main_v41_2 (by decide), flat, W13_args m ρ c main_arg16 (by decide), W13_args m ρ c main_arg36 (by decide)]

/-! ## Launch 7: the weights of shape 2x1024x448 -/

theorem prep_v42 : W15 m ρ c (Proc.devRef .tc main_v42) = (shapeCast S2048x448 (m ((c : Thread nD τ).loc main_arg7) : FVec Ideal S2x1024x448 .f32) shapeCasts_S2x1024x448_S2048x448 : FVec Ideal S2048x448 .f32) := by
  rw [← W14_args m ρ c main_arg7 (by decide)]; unfold_abbrev_sides; after_results; rfl
theorem prep_v43 : W15 m ρ c (Proc.devRef .tc main_v43) = (shapeCast S2048x448 (m ((c : Thread nD τ).loc main_arg17) : FVec Ideal S2x1024x448 .f32) shapeCasts_S2x1024x448_S2048x448 : FVec Ideal S2048x448 .f32) := by
  rw [← W14_args m ρ c main_arg17 (by decide)]; unfold_abbrev_sides; after_results; rfl
theorem prep_v44 : W15 m ρ c (Proc.devRef .tc main_v44) = (shapeCast S2048x448 (m ((c : Thread nD τ).loc main_arg27) : FVec Ideal S2x1024x448 .f32) shapeCasts_S2x1024x448_S2048x448 : FVec Ideal S2048x448 .f32) := by
  rw [← W14_args m ρ c main_arg27 (by decide)]; unfold_abbrev_sides; after_results; rfl
theorem prep_v45 : W15 m ρ c (Proc.devRef .tc main_v45) = (shapeCast S2048x448 (m ((c : Thread nD τ).loc main_arg37) : FVec Ideal S2x1024x448 .f32) shapeCasts_S2x1024x448_S2048x448 : FVec Ideal S2048x448 .f32) := by
  rw [← W14_args m ρ c main_arg37 (by decide)]; unfold_abbrev_sides; after_results; rfl
theorem end7_delta : W21 m ρ c (Proc.devRef .tc main_v47) = (deltas (s := S2x1024x448) (m ((c : Thread nD τ).loc main_arg7)) (m ((c : Thread nD τ).loc main_arg17)) (m ((c : Thread nD τ).loc main_arg27)) (m ((c : Thread nD τ).loc main_arg37)) : FVec Ideal S2x1024x448 .f32) := by
  have back : W17 m ρ c (Proc.devRef .tc main_v47) = shapeCast S2x1024x448 (W16 m ρ c (Proc.devRef .tc main_v46_0) : FVec Ideal S2048x448 .f32) shapeCasts_S2048x448_S2x1024x448 := by
    unfold_abbrev_sides; after_results; rfl
  have flat : W16 m ρ c (Proc.devRef .tc main_v46_0) = (deltas (s := S2048x448) (W15 m ρ c (Proc.devRef .tc main_v42)) (W15 m ρ c (Proc.devRef .tc main_v43)) (W15 m ρ c (Proc.devRef .tc main_v44)) (W15 m ρ c (Proc.devRef .tc main_v45)) : FVec Ideal S2048x448 .f32) :=
    (W16_arr m ρ c 4).trans (array7_delta (V15 m ρ) c)
  rw [stays17 m ρ c main_v47 (by decide), back, flat, prep_v42 m ρ c, prep_v43 m ρ c, prep_v44 m ρ c, prep_v45 m ρ c]
  exact deltas_flat _ _ _ _ _ _
theorem end7_mean : W21 m ρ c (Proc.devRef .tc main_v48) = (means (s := S2x1024x448) (m ((c : Thread nD τ).loc main_arg17)) (m ((c : Thread nD τ).loc main_arg27)) : FVec Ideal S2x1024x448 .f32) := by
  have back : W17 m ρ c (Proc.devRef .tc main_v48) = shapeCast S2x1024x448 (W16 m ρ c (Proc.devRef .tc main_v46_1) : FVec Ideal S2048x448 .f32) shapeCasts_S2048x448_S2x1024x448 := by
    unfold_abbrev_sides; after_results; rfl
  have flat : W16 m ρ c (Proc.devRef .tc main_v46_1) = (means (s := S2048x448) (W15 m ρ c (Proc.devRef .tc main_v43)) (W15 m ρ c (Proc.devRef .tc main_v44)) : FVec Ideal S2048x448 .f32) :=
    (W16_arr m ρ c 5).trans (array7_mean (V15 m ρ) c)
  rw [stays17 m ρ c main_v48 (by decide), back, flat, prep_v43 m ρ c, prep_v44 m ρ c]
  exact means_flat _ _ _ _
theorem end7_square : W21 m ρ c (Proc.devRef .tc main_v49) = (squares (s := S2x1024x448) (m ((c : Thread nD τ).loc main_arg17)) (m ((c : Thread nD τ).loc main_arg37)) : FVec Ideal S2x1024x448 .f32) := by
  have back : W17 m ρ c (Proc.devRef .tc main_v49) = shapeCast S2x1024x448 (W16 m ρ c (Proc.devRef .tc main_v46_2) : FVec Ideal S2048x448 .f32) shapeCasts_S2048x448_S2x1024x448 := by
    unfold_abbrev_sides; after_results; rfl
  have flat : W16 m ρ c (Proc.devRef .tc main_v46_2) = (squares (s := S2048x448) (W15 m ρ c (Proc.devRef .tc main_v43)) (W15 m ρ c (Proc.devRef .tc main_v45)) : FVec Ideal S2048x448 .f32) :=
    (W16_arr m ρ c 6).trans (array7_square (V15 m ρ) c)
  rw [stays17 m ρ c main_v49 (by decide), back, flat, prep_v43 m ρ c, prep_v45 m ρ c]
  exact squares_flat _ _ _ _

/-! ## Launch 8: the weights of shape 4x256x512 -/

theorem prep_v50 : W17 m ρ c (Proc.devRef .tc main_v50) = (shapeCast S1024x512 (m ((c : Thread nD τ).loc main_arg8) : FVec Ideal S4x256x512 .f32) shapeCasts_S4x256x512_S1024x512 : FVec Ideal S1024x512 .f32) := by
  rw [← W16_args m ρ c main_arg8 (by decide)]; unfold_abbrev_sides; after_results; rfl
theorem prep_v51 : W17 m ρ c (Proc.devRef .tc main_v51) = (shapeCast S1024x512 (m ((c : Thread nD τ).loc main_arg18) : FVec Ideal S4x256x512 .f32) shapeCasts_S4x256x512_S1024x512 : FVec Ideal S1024x512 .f32) := by
  rw [← W16_args m ρ c main_arg18 (by decide)]; unfold_abbrev_sides; after_results; rfl
theorem prep_v52 : W17 m ρ c (Proc.devRef .tc main_v52) = (shapeCast S1024x512 (m ((c : Thread nD τ).loc main_arg28) : FVec Ideal S4x256x512 .f32) shapeCasts_S4x256x512_S1024x512 : FVec Ideal S1024x512 .f32) := by
  rw [← W16_args m ρ c main_arg28 (by decide)]; unfold_abbrev_sides; after_results; rfl
theorem prep_v53 : W17 m ρ c (Proc.devRef .tc main_v53) = (shapeCast S1024x512 (m ((c : Thread nD τ).loc main_arg38) : FVec Ideal S4x256x512 .f32) shapeCasts_S4x256x512_S1024x512 : FVec Ideal S1024x512 .f32) := by
  rw [← W16_args m ρ c main_arg38 (by decide)]; unfold_abbrev_sides; after_results; rfl
theorem end8_delta : W21 m ρ c (Proc.devRef .tc main_v55) = (deltas (s := S4x256x512) (m ((c : Thread nD τ).loc main_arg8)) (m ((c : Thread nD τ).loc main_arg18)) (m ((c : Thread nD τ).loc main_arg28)) (m ((c : Thread nD τ).loc main_arg38)) : FVec Ideal S4x256x512 .f32) := by
  have back : W19 m ρ c (Proc.devRef .tc main_v55) = shapeCast S4x256x512 (W18 m ρ c (Proc.devRef .tc main_v54_0) : FVec Ideal S1024x512 .f32) shapeCasts_S1024x512_S4x256x512 := by
    unfold_abbrev_sides; after_results; rfl
  have flat : W18 m ρ c (Proc.devRef .tc main_v54_0) = (deltas (s := S1024x512) (W17 m ρ c (Proc.devRef .tc main_v50)) (W17 m ρ c (Proc.devRef .tc main_v51)) (W17 m ρ c (Proc.devRef .tc main_v52)) (W17 m ρ c (Proc.devRef .tc main_v53)) : FVec Ideal S1024x512 .f32) :=
    (W18_arr m ρ c 4).trans (array8_delta (V17 m ρ) c)
  rw [stays19 m ρ c main_v55 (by decide), back, flat, prep_v50 m ρ c, prep_v51 m ρ c, prep_v52 m ρ c, prep_v53 m ρ c]
  exact deltas_flat _ _ _ _ _ _
theorem end8_mean : W21 m ρ c (Proc.devRef .tc main_v56) = (means (s := S4x256x512) (m ((c : Thread nD τ).loc main_arg18)) (m ((c : Thread nD τ).loc main_arg28)) : FVec Ideal S4x256x512 .f32) := by
  have back : W19 m ρ c (Proc.devRef .tc main_v56) = shapeCast S4x256x512 (W18 m ρ c (Proc.devRef .tc main_v54_1) : FVec Ideal S1024x512 .f32) shapeCasts_S1024x512_S4x256x512 := by
    unfold_abbrev_sides; after_results; rfl
  have flat : W18 m ρ c (Proc.devRef .tc main_v54_1) = (means (s := S1024x512) (W17 m ρ c (Proc.devRef .tc main_v51)) (W17 m ρ c (Proc.devRef .tc main_v52)) : FVec Ideal S1024x512 .f32) :=
    (W18_arr m ρ c 5).trans (array8_mean (V17 m ρ) c)
  rw [stays19 m ρ c main_v56 (by decide), back, flat, prep_v51 m ρ c, prep_v52 m ρ c]
  exact means_flat _ _ _ _
theorem end8_square : W21 m ρ c (Proc.devRef .tc main_v57) = (squares (s := S4x256x512) (m ((c : Thread nD τ).loc main_arg18)) (m ((c : Thread nD τ).loc main_arg38)) : FVec Ideal S4x256x512 .f32) := by
  have back : W19 m ρ c (Proc.devRef .tc main_v57) = shapeCast S4x256x512 (W18 m ρ c (Proc.devRef .tc main_v54_2) : FVec Ideal S1024x512 .f32) shapeCasts_S1024x512_S4x256x512 := by
    unfold_abbrev_sides; after_results; rfl
  have flat : W18 m ρ c (Proc.devRef .tc main_v54_2) = (squares (s := S1024x512) (W17 m ρ c (Proc.devRef .tc main_v51)) (W17 m ρ c (Proc.devRef .tc main_v53)) : FVec Ideal S1024x512 .f32) :=
    (W18_arr m ρ c 6).trans (array8_square (V17 m ρ) c)
  rw [stays19 m ρ c main_v57 (by decide), back, flat, prep_v51 m ρ c, prep_v53 m ρ c]
  exact squares_flat _ _ _ _

/-! ## Launch 9: the weights of shape 4x768x256 -/

theorem prep_v58 : W19 m ρ c (Proc.devRef .tc main_v58) = (shapeCast S3072x256 (m ((c : Thread nD τ).loc main_arg9) : FVec Ideal S4x768x256 .f32) shapeCasts_S4x768x256_S3072x256 : FVec Ideal S3072x256 .f32) := by
  rw [← W18_args m ρ c main_arg9 (by decide)]; unfold_abbrev_sides; after_results; rfl
theorem prep_v59 : W19 m ρ c (Proc.devRef .tc main_v59) = (shapeCast S3072x256 (m ((c : Thread nD τ).loc main_arg19) : FVec Ideal S4x768x256 .f32) shapeCasts_S4x768x256_S3072x256 : FVec Ideal S3072x256 .f32) := by
  rw [← W18_args m ρ c main_arg19 (by decide)]; unfold_abbrev_sides; after_results; rfl
theorem prep_v60 : W19 m ρ c (Proc.devRef .tc main_v60) = (shapeCast S3072x256 (m ((c : Thread nD τ).loc main_arg29) : FVec Ideal S4x768x256 .f32) shapeCasts_S4x768x256_S3072x256 : FVec Ideal S3072x256 .f32) := by
  rw [← W18_args m ρ c main_arg29 (by decide)]; unfold_abbrev_sides; after_results; rfl
theorem prep_v61 : W19 m ρ c (Proc.devRef .tc main_v61) = (shapeCast S3072x256 (m ((c : Thread nD τ).loc main_arg39) : FVec Ideal S4x768x256 .f32) shapeCasts_S4x768x256_S3072x256 : FVec Ideal S3072x256 .f32) := by
  rw [← W18_args m ρ c main_arg39 (by decide)]; unfold_abbrev_sides; after_results; rfl
theorem end9_delta : W21 m ρ c (Proc.devRef .tc main_v63) = (deltas (s := S4x768x256) (m ((c : Thread nD τ).loc main_arg9)) (m ((c : Thread nD τ).loc main_arg19)) (m ((c : Thread nD τ).loc main_arg29)) (m ((c : Thread nD τ).loc main_arg39)) : FVec Ideal S4x768x256 .f32) := by
  have back : W21 m ρ c (Proc.devRef .tc main_v63) = shapeCast S4x768x256 (W20 m ρ c (Proc.devRef .tc main_v62_0) : FVec Ideal S3072x256 .f32) shapeCasts_S3072x256_S4x768x256 := by
    unfold_abbrev_sides; after_results; rfl
  have flat : W20 m ρ c (Proc.devRef .tc main_v62_0) = (deltas (s := S3072x256) (W19 m ρ c (Proc.devRef .tc main_v58)) (W19 m ρ c (Proc.devRef .tc main_v59)) (W19 m ρ c (Proc.devRef .tc main_v60)) (W19 m ρ c (Proc.devRef .tc main_v61)) : FVec Ideal S3072x256 .f32) :=
    (W20_arr m ρ c 4).trans (array9_delta (V19 m ρ) c)
  rw [stays21 m ρ c main_v63 (by decide), back, flat, prep_v58 m ρ c, prep_v59 m ρ c, prep_v60 m ρ c, prep_v61 m ρ c]
  exact deltas_flat _ _ _ _ _ _
theorem end9_mean : W21 m ρ c (Proc.devRef .tc main_v64) = (means (s := S4x768x256) (m ((c : Thread nD τ).loc main_arg19)) (m ((c : Thread nD τ).loc main_arg29)) : FVec Ideal S4x768x256 .f32) := by
  have back : W21 m ρ c (Proc.devRef .tc main_v64) = shapeCast S4x768x256 (W20 m ρ c (Proc.devRef .tc main_v62_1) : FVec Ideal S3072x256 .f32) shapeCasts_S3072x256_S4x768x256 := by
    unfold_abbrev_sides; after_results; rfl
  have flat : W20 m ρ c (Proc.devRef .tc main_v62_1) = (means (s := S3072x256) (W19 m ρ c (Proc.devRef .tc main_v59)) (W19 m ρ c (Proc.devRef .tc main_v60)) : FVec Ideal S3072x256 .f32) :=
    (W20_arr m ρ c 5).trans (array9_mean (V19 m ρ) c)
  rw [stays21 m ρ c main_v64 (by decide), back, flat, prep_v59 m ρ c, prep_v60 m ρ c]
  exact means_flat _ _ _ _
theorem end9_square : W21 m ρ c (Proc.devRef .tc main_v65) = (squares (s := S4x768x256) (m ((c : Thread nD τ).loc main_arg19)) (m ((c : Thread nD τ).loc main_arg39)) : FVec Ideal S4x768x256 .f32) := by
  have back : W21 m ρ c (Proc.devRef .tc main_v65) = shapeCast S4x768x256 (W20 m ρ c (Proc.devRef .tc main_v62_2) : FVec Ideal S3072x256 .f32) shapeCasts_S3072x256_S4x768x256 := by
    unfold_abbrev_sides; after_results; rfl
  have flat : W20 m ρ c (Proc.devRef .tc main_v62_2) = (squares (s := S3072x256) (W19 m ρ c (Proc.devRef .tc main_v59)) (W19 m ρ c (Proc.devRef .tc main_v61)) : FVec Ideal S3072x256 .f32) :=
    (W20_arr m ρ c 6).trans (array9_square (V19 m ρ) c)
  rw [stays21 m ρ c main_v65 (by decide), back, flat, prep_v59 m ρ c, prep_v61 m ρ c]
  exact squares_flat _ _ _ _

/-! ## The run -/

/-- Every buffer that outlives the launches ends at the value the stages give it. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W21 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => h)

end Cert.Optimiser
-- ==== Proof.OptimiserClaim.lean ====
/- The optimiser: the ten launches and the plainly written step agree on all thirty results, whatever the arguments. -/
module

public import proofs.«01_k».proof.Defs
public import proofs.«01_k».proof.Proof.OptimiserRun
public import proofs.«01_k».proof.Proof.Gen.Reference4Ideal.Run
public import proofs.«01_k».proof.Proof.Gen.Reference4Ideal.Read

@[expose] public section

set_option maxRecDepth 16384

noncomputable section

namespace Cert.Optimiser

open Idealize.ShloMosaic Idealize.ShloMosaic.StableHlo Idealize.ShloMosaic.TcCoe Idealize.SL.Sem Cert.Kernel4Ideal.Gen

set_option backward.isDefEq.respectTransparency.types false

/-- The reference's frame. -/
theorem frame_reference [Cert.Reference4Ideal.Facts] : Cert.quiescent_Reference4Ideal := fun m g _ =>
  (θ_run _ _ _).mono (fun r h => ⟨fun c => (h c).2.2.2.2.2.2.2.2.2.2.2.2.2.2.2.2.2.2.2.2.2.2.2.2.2.2.2.2.2.2, sem_eq_zero_of_no_sems (by decide) _⟩)
    (Cert.Reference4Ideal.Value.run m g)

/-! ## The reference is the elementwise step -/

section
open Cert.Reference4Ideal Cert.Reference4Ideal.Read

theorem ref0_delta (w g m v : FVec Ideal S4x3x256 .f32) : val_main_v23 (F := Ideal) w g m v = deltas w g m v := rfl
theorem ref0_mean (g m : FVec Ideal S4x3x256 .f32) : val_main_v4 (F := Ideal) g m = means g m := rfl
theorem ref0_square (g v : FVec Ideal S4x3x256 .f32) : val_main_v10 (F := Ideal) g v = squares g v := rfl
theorem ref1_delta (w g m v : FVec Ideal S4x1024 .f32) : val_main_v47 (F := Ideal) w g m v = deltas w g m v := rfl
theorem ref1_mean (g m : FVec Ideal S4x1024 .f32) : val_main_v28 (F := Ideal) g m = means g m := rfl
theorem ref1_square (g v : FVec Ideal S4x1024 .f32) : val_main_v34 (F := Ideal) g v = squares g v := rfl
theorem ref2_delta (w g m v : FVec Ideal S4x1024x512 .f32) : val_main_v71 (F := Ideal) w g m v = deltas w g m v := rfl
theorem ref2_mean (g m : FVec Ideal S4x1024x512 .f32) : val_main_v52 (F := Ideal) g m = means g m := rfl
theorem ref2_square (g v : FVec Ideal S4x1024x512 .f32) : val_main_v58 (F := Ideal) g v = squares g v := rfl
theorem ref3_delta (w g m v : FVec Ideal S4x512x1024 .f32) : val_main_v95 (F := Ideal) w g m v = deltas w g m v := rfl
theorem ref3_mean (g m : FVec Ideal S4x512x1024 .f32) : val_main_v76 (F := Ideal) g m = means g m := rfl
theorem ref3_square (g v : FVec Ideal S4x512x1024 .f32) : val_main_v82 (F := Ideal) g v = squares g v := rfl
theorem ref4_delta (w g m v : FVec Ideal S2x256x768 .f32) : val_main_v119 (F := Ideal) w g m v = deltas w g m v := rfl
theorem ref4_mean (g m : FVec Ideal S2x256x768 .f32) : val_main_v100 (F := Ideal) g m = means g m := rfl
theorem ref4_square (g v : FVec Ideal S2x256x768 .f32) : val_main_v106 (F := Ideal) g v = squares g v := rfl
theorem ref5_delta (w g m v : FVec Ideal S2x4x128x128 .f32) : val_main_v143 (F := Ideal) w g m v = deltas w g m v := rfl
theorem ref5_mean (g m : FVec Ideal S2x4x128x128 .f32) : val_main_v124 (F := Ideal) g m = means g m := rfl
theorem ref5_square (g v : FVec Ideal S2x4x128x128 .f32) : val_main_v130 (F := Ideal) g v = squares g v := rfl
theorem ref6_delta (w g m v : FVec Ideal S2x512 .f32) : val_main_v167 (F := Ideal) w g m v = deltas w g m v := rfl
theorem ref6_mean (g m : FVec Ideal S2x512 .f32) : val_main_v148 (F := Ideal) g m = means g m := rfl
theorem ref6_square (g v : FVec Ideal S2x512 .f32) : val_main_v154 (F := Ideal) g v = squares g v := rfl
theorem ref7_delta (w g m v : FVec Ideal S2x1024x448 .f32) : val_main_v191 (F := Ideal) w g m v = deltas w g m v := rfl
theorem ref7_mean (g m : FVec Ideal S2x1024x448 .f32) : val_main_v172 (F := Ideal) g m = means g m := rfl
theorem ref7_square (g v : FVec Ideal S2x1024x448 .f32) : val_main_v178 (F := Ideal) g v = squares g v := rfl
theorem ref8_delta (w g m v : FVec Ideal S4x256x512 .f32) : val_main_v215 (F := Ideal) w g m v = deltas w g m v := rfl
theorem ref8_mean (g m : FVec Ideal S4x256x512 .f32) : val_main_v196 (F := Ideal) g m = means g m := rfl
theorem ref8_square (g v : FVec Ideal S4x256x512 .f32) : val_main_v202 (F := Ideal) g v = squares g v := rfl
theorem ref9_delta (w g m v : FVec Ideal S4x768x256 .f32) : val_main_v239 (F := Ideal) w g m v = deltas w g m v := rfl
theorem ref9_mean (g m : FVec Ideal S4x768x256 .f32) : val_main_v220 (F := Ideal) g m = means g m := rfl
theorem ref9_square (g v : FVec Ideal S4x768x256 .f32) : val_main_v226 (F := Ideal) g v = squares g v := rfl

end

/-! ## The launches' ends, read off a memory -/

section
open Cert.Kernel4Ideal
variable (m : (ℓ : Loc nD τ sig) → Buf (Elt Ideal) ℓ) (ρ : Dev nD → PrngReg) (c : Dev nD) (q : (ℓ : Loc nD τ sig) → Buf (Elt Ideal) ℓ)
  (h : ∀ b ∈ Pipeline.ucRefs τ sig, q (((c : Thread nD τ)).1, b) = W21 m ρ c b)
include h

theorem read0_delta : q (c.tc.loc main_v5) = deltas (s := S4x3x256) (m (c.tc.loc main_arg0)) (m (c.tc.loc main_arg10)) (m (c.tc.loc main_arg20)) (m (c.tc.loc main_arg30)) :=
  (h _ (mem_uc main_v5 (by decide))).trans (end0_delta m ρ c)
theorem read0_mean : q (c.tc.loc main_v6) = means (s := S4x3x256) (m (c.tc.loc main_arg10)) (m (c.tc.loc main_arg20)) :=
  (h _ (mem_uc main_v6 (by decide))).trans (end0_mean m ρ c)
theorem read0_square : q (c.tc.loc main_v7) = squares (s := S4x3x256) (m (c.tc.loc main_arg10)) (m (c.tc.loc main_arg30)) :=
  (h _ (mem_uc main_v7 (by decide))).trans (end0_square m ρ c)
theorem read1_delta : q (c.tc.loc main_v8_0) = deltas (s := S4x1024) (m (c.tc.loc main_arg1)) (m (c.tc.loc main_arg11)) (m (c.tc.loc main_arg21)) (m (c.tc.loc main_arg31)) :=
  (h _ (mem_uc main_v8_0 (by decide))).trans (end1_delta m ρ c)
theorem read1_mean : q (c.tc.loc main_v8_1) = means (s := S4x1024) (m (c.tc.loc main_arg11)) (m (c.tc.loc main_arg21)) :=
  (h _ (mem_uc main_v8_1 (by decide))).trans (end1_mean m ρ c)
theorem read1_square : q (c.tc.loc main_v8_2) = squares (s := S4x1024) (m (c.tc.loc main_arg11)) (m (c.tc.loc main_arg31)) :=
  (h _ (mem_uc main_v8_2 (by decide))).trans (end1_square m ρ c)
theorem read2_delta : q (c.tc.loc main_v14) = deltas (s := S4x1024x512) (m (c.tc.loc main_arg2)) (m (c.tc.loc main_arg12)) (m (c.tc.loc main_arg22)) (m (c.tc.loc main_arg32)) :=
  (h _ (mem_uc main_v14 (by decide))).trans (end2_delta m ρ c)
theorem read2_mean : q (c.tc.loc main_v15) = means (s := S4x1024x512) (m (c.tc.loc main_arg12)) (m (c.tc.loc main_arg22)) :=
  (h _ (mem_uc main_v15 (by decide))).trans (end2_mean m ρ c)
theorem read2_square : q (c.tc.loc main_v16) = squares (s := S4x1024x512) (m (c.tc.loc main_arg12)) (m (c.tc.loc main_arg32)) :=
  (h _ (mem_uc main_v16 (by decide))).trans (end2_square m ρ c)
theorem read3_delta : q (c.tc.loc main_v22) = deltas (s := S4x512x1024) (m (c.tc.loc main_arg3)) (m (c.tc.loc main_arg13)) (m (c.tc.loc main_arg23)) (m (c.tc.loc main_arg33)) :=
  (h _ (mem_uc main_v22 (by decide))).trans (end3_delta m ρ c)
theorem read3_mean : q (c.tc.loc main_v23) = means (s := S4x512x1024) (m (c.tc.loc main_arg13)) (m (c.tc.loc main_arg23)) :=
  (h _ (mem_uc main_v23 (by decide))).trans (end3_mean m ρ c)
theorem read3_square : q (c.tc.loc main_v24) = squares (s := S4x512x1024) (m (c.tc.loc main_arg13)) (m (c.tc.loc main_arg33)) :=
  (h _ (mem_uc main_v24 (by decide))).trans (end3_square m ρ c)
theorem read4_delta : q (c.tc.loc main_v30) = deltas (s := S2x256x768) (m (c.tc.loc main_arg4)) (m (c.tc.loc main_arg14)) (m (c.tc.loc main_arg24)) (m (c.tc.loc main_arg34)) :=
  (h _ (mem_uc main_v30 (by decide))).trans (end4_delta m ρ c)
theorem read4_mean : q (c.tc.loc main_v31) = means (s := S2x256x768) (m (c.tc.loc main_arg14)) (m (c.tc.loc main_arg24)) :=
  (h _ (mem_uc main_v31 (by decide))).trans (end4_mean m ρ c)
theorem read4_square : q (c.tc.loc main_v32) = squares (s := S2x256x768) (m (c.tc.loc main_arg14)) (m (c.tc.loc main_arg34)) :=
  (h _ (mem_uc main_v32 (by decide))).trans (end4_square m ρ c)
theorem read5_delta : q (c.tc.loc main_v38) = deltas (s := S2x4x128x128) (m (c.tc.loc main_arg5)) (m (c.tc.loc main_arg15)) (m (c.tc.loc main_arg25)) (m (c.tc.loc main_arg35)) :=
  (h _ (mem_uc main_v38 (by decide))).trans (end5_delta m ρ c)
theorem read5_mean : q (c.tc.loc main_v39) = means (s := S2x4x128x128) (m (c.tc.loc main_arg15)) (m (c.tc.loc main_arg25)) :=
  (h _ (mem_uc main_v39 (by decide))).trans (end5_mean m ρ c)
theorem read5_square : q (c.tc.loc main_v40) = squares (s := S2x4x128x128) (m (c.tc.loc main_arg15)) (m (c.tc.loc main_arg35)) :=
  (h _ (mem_uc main_v40 (by decide))).trans (end5_square m ρ c)
theorem read6_delta : q (c.tc.loc main_v41_0) = deltas (s := S2x512) (m (c.tc.loc main_arg6)) (m (c.tc.loc main_arg16)) (m (c.tc.loc main_arg26)) (m (c.tc.loc main_arg36)) :=
  (h _ (mem_uc main_v41_0 (by decide))).trans (end6_delta m ρ c)
theorem read6_mean : q (c.tc.loc main_v41_1) = means (s := S2x512) (m (c.tc.loc main_arg16)) (m (c.tc.loc main_arg26)) :=
  (h _ (mem_uc main_v41_1 (by decide))).trans (end6_mean m ρ c)
theorem read6_square : q (c.tc.loc main_v41_2) = squares (s := S2x512) (m (c.tc.loc main_arg16)) (m (c.tc.loc main_arg36)) :=
  (h _ (mem_uc main_v41_2 (by decide))).trans (end6_square m ρ c)
theorem read7_delta : q (c.tc.loc main_v47) = deltas (s := S2x1024x448) (m (c.tc.loc main_arg7)) (m (c.tc.loc main_arg17)) (m (c.tc.loc main_arg27)) (m (c.tc.loc main_arg37)) :=
  (h _ (mem_uc main_v47 (by decide))).trans (end7_delta m ρ c)
theorem read7_mean : q (c.tc.loc main_v48) = means (s := S2x1024x448) (m (c.tc.loc main_arg17)) (m (c.tc.loc main_arg27)) :=
  (h _ (mem_uc main_v48 (by decide))).trans (end7_mean m ρ c)
theorem read7_square : q (c.tc.loc main_v49) = squares (s := S2x1024x448) (m (c.tc.loc main_arg17)) (m (c.tc.loc main_arg37)) :=
  (h _ (mem_uc main_v49 (by decide))).trans (end7_square m ρ c)
theorem read8_delta : q (c.tc.loc main_v55) = deltas (s := S4x256x512) (m (c.tc.loc main_arg8)) (m (c.tc.loc main_arg18)) (m (c.tc.loc main_arg28)) (m (c.tc.loc main_arg38)) :=
  (h _ (mem_uc main_v55 (by decide))).trans (end8_delta m ρ c)
theorem read8_mean : q (c.tc.loc main_v56) = means (s := S4x256x512) (m (c.tc.loc main_arg18)) (m (c.tc.loc main_arg28)) :=
  (h _ (mem_uc main_v56 (by decide))).trans (end8_mean m ρ c)
theorem read8_square : q (c.tc.loc main_v57) = squares (s := S4x256x512) (m (c.tc.loc main_arg18)) (m (c.tc.loc main_arg38)) :=
  (h _ (mem_uc main_v57 (by decide))).trans (end8_square m ρ c)
theorem read9_delta : q (c.tc.loc main_v63) = deltas (s := S4x768x256) (m (c.tc.loc main_arg9)) (m (c.tc.loc main_arg19)) (m (c.tc.loc main_arg29)) (m (c.tc.loc main_arg39)) :=
  (h _ (mem_uc main_v63 (by decide))).trans (end9_delta m ρ c)
theorem read9_mean : q (c.tc.loc main_v64) = means (s := S4x768x256) (m (c.tc.loc main_arg19)) (m (c.tc.loc main_arg29)) :=
  (h _ (mem_uc main_v64 (by decide))).trans (end9_mean m ρ c)
theorem read9_square : q (c.tc.loc main_v65) = squares (s := S4x768x256) (m (c.tc.loc main_arg19)) (m (c.tc.loc main_arg39)) :=
  (h _ (mem_uc main_v65 (by decide))).trans (end9_square m ρ c)
theorem read_args : q (c.tc.loc main_arg0) = m (c.tc.loc main_arg0) ∧ q (c.tc.loc main_arg1) = m (c.tc.loc main_arg1) ∧ q (c.tc.loc main_arg2) = m (c.tc.loc main_arg2) ∧ q (c.tc.loc main_arg3) = m (c.tc.loc main_arg3) ∧ q (c.tc.loc main_arg4) = m (c.tc.loc main_arg4) ∧ q (c.tc.loc main_arg5) = m (c.tc.loc main_arg5) ∧ q (c.tc.loc main_arg6) = m (c.tc.loc main_arg6) ∧ q (c.tc.loc main_arg7) = m (c.tc.loc main_arg7) ∧ q (c.tc.loc main_arg8) = m (c.tc.loc main_arg8) ∧ q (c.tc.loc main_arg9) = m (c.tc.loc main_arg9) ∧ q (c.tc.loc main_arg10) = m (c.tc.loc main_arg10) ∧ q (c.tc.loc main_arg11) = m (c.tc.loc main_arg11) ∧ q (c.tc.loc main_arg12) = m (c.tc.loc main_arg12) ∧ q (c.tc.loc main_arg13) = m (c.tc.loc main_arg13) ∧ q (c.tc.loc main_arg14) = m (c.tc.loc main_arg14) ∧ q (c.tc.loc main_arg15) = m (c.tc.loc main_arg15) ∧ q (c.tc.loc main_arg16) = m (c.tc.loc main_arg16) ∧ q (c.tc.loc main_arg17) = m (c.tc.loc main_arg17) ∧ q (c.tc.loc main_arg18) = m (c.tc.loc main_arg18) ∧ q (c.tc.loc main_arg19) = m (c.tc.loc main_arg19) ∧ q (c.tc.loc main_arg20) = m (c.tc.loc main_arg20) ∧ q (c.tc.loc main_arg21) = m (c.tc.loc main_arg21) ∧ q (c.tc.loc main_arg22) = m (c.tc.loc main_arg22) ∧ q (c.tc.loc main_arg23) = m (c.tc.loc main_arg23) ∧ q (c.tc.loc main_arg24) = m (c.tc.loc main_arg24) ∧ q (c.tc.loc main_arg25) = m (c.tc.loc main_arg25) ∧ q (c.tc.loc main_arg26) = m (c.tc.loc main_arg26) ∧ q (c.tc.loc main_arg27) = m (c.tc.loc main_arg27) ∧ q (c.tc.loc main_arg28) = m (c.tc.loc main_arg28) ∧ q (c.tc.loc main_arg29) = m (c.tc.loc main_arg29) ∧ q (c.tc.loc main_arg30) = m (c.tc.loc main_arg30) ∧ q (c.tc.loc main_arg31) = m (c.tc.loc main_arg31) ∧ q (c.tc.loc main_arg32) = m (c.tc.loc main_arg32) ∧ q (c.tc.loc main_arg33) = m (c.tc.loc main_arg33) ∧ q (c.tc.loc main_arg34) = m (c.tc.loc main_arg34) ∧ q (c.tc.loc main_arg35) = m (c.tc.loc main_arg35) ∧ q (c.tc.loc main_arg36) = m (c.tc.loc main_arg36) ∧ q (c.tc.loc main_arg37) = m (c.tc.loc main_arg37) ∧ q (c.tc.loc main_arg38) = m (c.tc.loc main_arg38) ∧ q (c.tc.loc main_arg39) = m (c.tc.loc main_arg39) :=
  ⟨(h _ (mem_uc main_arg0 (by decide))).trans (W21_main_arg0 m ρ c), (h _ (mem_uc main_arg1 (by decide))).trans (W21_main_arg1 m ρ c), (h _ (mem_uc main_arg2 (by decide))).trans (W21_main_arg2 m ρ c), (h _ (mem_uc main_arg3 (by decide))).trans (W21_main_arg3 m ρ c), (h _ (mem_uc main_arg4 (by decide))).trans (W21_main_arg4 m ρ c), (h _ (mem_uc main_arg5 (by decide))).trans (W21_main_arg5 m ρ c), (h _ (mem_uc main_arg6 (by decide))).trans (W21_main_arg6 m ρ c), (h _ (mem_uc main_arg7 (by decide))).trans (W21_main_arg7 m ρ c), (h _ (mem_uc main_arg8 (by decide))).trans (W21_main_arg8 m ρ c), (h _ (mem_uc main_arg9 (by decide))).trans (W21_main_arg9 m ρ c), (h _ (mem_uc main_arg10 (by decide))).trans (W21_main_arg10 m ρ c), (h _ (mem_uc main_arg11 (by decide))).trans (W21_main_arg11 m ρ c), (h _ (mem_uc main_arg12 (by decide))).trans (W21_main_arg12 m ρ c), (h _ (mem_uc main_arg13 (by decide))).trans (W21_main_arg13 m ρ c), (h _ (mem_uc main_arg14 (by decide))).trans (W21_main_arg14 m ρ c), (h _ (mem_uc main_arg15 (by decide))).trans (W21_main_arg15 m ρ c), (h _ (mem_uc main_arg16 (by decide))).trans (W21_main_arg16 m ρ c), (h _ (mem_uc main_arg17 (by decide))).trans (W21_main_arg17 m ρ c), (h _ (mem_uc main_arg18 (by decide))).trans (W21_main_arg18 m ρ c), (h _ (mem_uc main_arg19 (by decide))).trans (W21_main_arg19 m ρ c), (h _ (mem_uc main_arg20 (by decide))).trans (W21_main_arg20 m ρ c), (h _ (mem_uc main_arg21 (by decide))).trans (W21_main_arg21 m ρ c), (h _ (mem_uc main_arg22 (by decide))).trans (W21_main_arg22 m ρ c), (h _ (mem_uc main_arg23 (by decide))).trans (W21_main_arg23 m ρ c), (h _ (mem_uc main_arg24 (by decide))).trans (W21_main_arg24 m ρ c), (h _ (mem_uc main_arg25 (by decide))).trans (W21_main_arg25 m ρ c), (h _ (mem_uc main_arg26 (by decide))).trans (W21_main_arg26 m ρ c), (h _ (mem_uc main_arg27 (by decide))).trans (W21_main_arg27 m ρ c), (h _ (mem_uc main_arg28 (by decide))).trans (W21_main_arg28 m ρ c), (h _ (mem_uc main_arg29 (by decide))).trans (W21_main_arg29 m ρ c), (h _ (mem_uc main_arg30 (by decide))).trans (W21_main_arg30 m ρ c), (h _ (mem_uc main_arg31 (by decide))).trans (W21_main_arg31 m ρ c), (h _ (mem_uc main_arg32 (by decide))).trans (W21_main_arg32 m ρ c), (h _ (mem_uc main_arg33 (by decide))).trans (W21_main_arg33 m ρ c), (h _ (mem_uc main_arg34 (by decide))).trans (W21_main_arg34 m ρ c), (h _ (mem_uc main_arg35 (by decide))).trans (W21_main_arg35 m ρ c), (h _ (mem_uc main_arg36 (by decide))).trans (W21_main_arg36 m ρ c), (h _ (mem_uc main_arg37 (by decide))).trans (W21_main_arg37 m ρ c), (h _ (mem_uc main_arg38 (by decide))).trans (W21_main_arg38 m ρ c), (h _ (mem_uc main_arg39 (by decide))).trans (W21_main_arg39 m ρ c)⟩

end

set_option maxHeartbeats 4000000 in
/-- The ten launches and the reference end with the same thirty arrays. -/
theorem algebraic : Cert.algebraic_Kernel4Ideal_Reference4Ideal := by
  intro m ρ m' ρ' _ heq
  refine ⟨fun c => deltas (s := Cert.Kernel4Ideal.S4x3x256) (m (c.tc.loc Cert.Kernel4Ideal.main_arg0)) (m (c.tc.loc Cert.Kernel4Ideal.main_arg10)) (m (c.tc.loc Cert.Kernel4Ideal.main_arg20)) (m (c.tc.loc Cert.Kernel4Ideal.main_arg30)),
    fun c => means (s := Cert.Kernel4Ideal.S4x3x256) (m (c.tc.loc Cert.Kernel4Ideal.main_arg10)) (m (c.tc.loc Cert.Kernel4Ideal.main_arg20)),
    fun c => squares (s := Cert.Kernel4Ideal.S4x3x256) (m (c.tc.loc Cert.Kernel4Ideal.main_arg10)) (m (c.tc.loc Cert.Kernel4Ideal.main_arg30)),
    fun c => deltas (s := Cert.Kernel4Ideal.S4x1024) (m (c.tc.loc Cert.Kernel4Ideal.main_arg1)) (m (c.tc.loc Cert.Kernel4Ideal.main_arg11)) (m (c.tc.loc Cert.Kernel4Ideal.main_arg21)) (m (c.tc.loc Cert.Kernel4Ideal.main_arg31)),
    fun c => means (s := Cert.Kernel4Ideal.S4x1024) (m (c.tc.loc Cert.Kernel4Ideal.main_arg11)) (m (c.tc.loc Cert.Kernel4Ideal.main_arg21)),
    fun c => squares (s := Cert.Kernel4Ideal.S4x1024) (m (c.tc.loc Cert.Kernel4Ideal.main_arg11)) (m (c.tc.loc Cert.Kernel4Ideal.main_arg31)),
    fun c => deltas (s := Cert.Kernel4Ideal.S4x1024x512) (m (c.tc.loc Cert.Kernel4Ideal.main_arg2)) (m (c.tc.loc Cert.Kernel4Ideal.main_arg12)) (m (c.tc.loc Cert.Kernel4Ideal.main_arg22)) (m (c.tc.loc Cert.Kernel4Ideal.main_arg32)),
    fun c => means (s := Cert.Kernel4Ideal.S4x1024x512) (m (c.tc.loc Cert.Kernel4Ideal.main_arg12)) (m (c.tc.loc Cert.Kernel4Ideal.main_arg22)),
    fun c => squares (s := Cert.Kernel4Ideal.S4x1024x512) (m (c.tc.loc Cert.Kernel4Ideal.main_arg12)) (m (c.tc.loc Cert.Kernel4Ideal.main_arg32)),
    fun c => deltas (s := Cert.Kernel4Ideal.S4x512x1024) (m (c.tc.loc Cert.Kernel4Ideal.main_arg3)) (m (c.tc.loc Cert.Kernel4Ideal.main_arg13)) (m (c.tc.loc Cert.Kernel4Ideal.main_arg23)) (m (c.tc.loc Cert.Kernel4Ideal.main_arg33)),
    fun c => means (s := Cert.Kernel4Ideal.S4x512x1024) (m (c.tc.loc Cert.Kernel4Ideal.main_arg13)) (m (c.tc.loc Cert.Kernel4Ideal.main_arg23)),
    fun c => squares (s := Cert.Kernel4Ideal.S4x512x1024) (m (c.tc.loc Cert.Kernel4Ideal.main_arg13)) (m (c.tc.loc Cert.Kernel4Ideal.main_arg33)),
    fun c => deltas (s := Cert.Kernel4Ideal.S2x256x768) (m (c.tc.loc Cert.Kernel4Ideal.main_arg4)) (m (c.tc.loc Cert.Kernel4Ideal.main_arg14)) (m (c.tc.loc Cert.Kernel4Ideal.main_arg24)) (m (c.tc.loc Cert.Kernel4Ideal.main_arg34)),
    fun c => means (s := Cert.Kernel4Ideal.S2x256x768) (m (c.tc.loc Cert.Kernel4Ideal.main_arg14)) (m (c.tc.loc Cert.Kernel4Ideal.main_arg24)),
    fun c => squares (s := Cert.Kernel4Ideal.S2x256x768) (m (c.tc.loc Cert.Kernel4Ideal.main_arg14)) (m (c.tc.loc Cert.Kernel4Ideal.main_arg34)),
    fun c => deltas (s := Cert.Kernel4Ideal.S2x4x128x128) (m (c.tc.loc Cert.Kernel4Ideal.main_arg5)) (m (c.tc.loc Cert.Kernel4Ideal.main_arg15)) (m (c.tc.loc Cert.Kernel4Ideal.main_arg25)) (m (c.tc.loc Cert.Kernel4Ideal.main_arg35)),
    fun c => means (s := Cert.Kernel4Ideal.S2x4x128x128) (m (c.tc.loc Cert.Kernel4Ideal.main_arg15)) (m (c.tc.loc Cert.Kernel4Ideal.main_arg25)),
    fun c => squares (s := Cert.Kernel4Ideal.S2x4x128x128) (m (c.tc.loc Cert.Kernel4Ideal.main_arg15)) (m (c.tc.loc Cert.Kernel4Ideal.main_arg35)),
    fun c => deltas (s := Cert.Kernel4Ideal.S2x512) (m (c.tc.loc Cert.Kernel4Ideal.main_arg6)) (m (c.tc.loc Cert.Kernel4Ideal.main_arg16)) (m (c.tc.loc Cert.Kernel4Ideal.main_arg26)) (m (c.tc.loc Cert.Kernel4Ideal.main_arg36)),
    fun c => means (s := Cert.Kernel4Ideal.S2x512) (m (c.tc.loc Cert.Kernel4Ideal.main_arg16)) (m (c.tc.loc Cert.Kernel4Ideal.main_arg26)),
    fun c => squares (s := Cert.Kernel4Ideal.S2x512) (m (c.tc.loc Cert.Kernel4Ideal.main_arg16)) (m (c.tc.loc Cert.Kernel4Ideal.main_arg36)),
    fun c => deltas (s := Cert.Kernel4Ideal.S2x1024x448) (m (c.tc.loc Cert.Kernel4Ideal.main_arg7)) (m (c.tc.loc Cert.Kernel4Ideal.main_arg17)) (m (c.tc.loc Cert.Kernel4Ideal.main_arg27)) (m (c.tc.loc Cert.Kernel4Ideal.main_arg37)),
    fun c => means (s := Cert.Kernel4Ideal.S2x1024x448) (m (c.tc.loc Cert.Kernel4Ideal.main_arg17)) (m (c.tc.loc Cert.Kernel4Ideal.main_arg27)),
    fun c => squares (s := Cert.Kernel4Ideal.S2x1024x448) (m (c.tc.loc Cert.Kernel4Ideal.main_arg17)) (m (c.tc.loc Cert.Kernel4Ideal.main_arg37)),
    fun c => deltas (s := Cert.Kernel4Ideal.S4x256x512) (m (c.tc.loc Cert.Kernel4Ideal.main_arg8)) (m (c.tc.loc Cert.Kernel4Ideal.main_arg18)) (m (c.tc.loc Cert.Kernel4Ideal.main_arg28)) (m (c.tc.loc Cert.Kernel4Ideal.main_arg38)),
    fun c => means (s := Cert.Kernel4Ideal.S4x256x512) (m (c.tc.loc Cert.Kernel4Ideal.main_arg18)) (m (c.tc.loc Cert.Kernel4Ideal.main_arg28)),
    fun c => squares (s := Cert.Kernel4Ideal.S4x256x512) (m (c.tc.loc Cert.Kernel4Ideal.main_arg18)) (m (c.tc.loc Cert.Kernel4Ideal.main_arg38)),
    fun c => deltas (s := Cert.Kernel4Ideal.S4x768x256) (m (c.tc.loc Cert.Kernel4Ideal.main_arg9)) (m (c.tc.loc Cert.Kernel4Ideal.main_arg19)) (m (c.tc.loc Cert.Kernel4Ideal.main_arg29)) (m (c.tc.loc Cert.Kernel4Ideal.main_arg39)),
    fun c => means (s := Cert.Kernel4Ideal.S4x768x256) (m (c.tc.loc Cert.Kernel4Ideal.main_arg19)) (m (c.tc.loc Cert.Kernel4Ideal.main_arg29)),
    fun c => squares (s := Cert.Kernel4Ideal.S4x768x256) (m (c.tc.loc Cert.Kernel4Ideal.main_arg19)) (m (c.tc.loc Cert.Kernel4Ideal.main_arg39)),
    (θ_run _ _ _).mono (fun r h c => ?_) (run_all m ρ), (θ_run _ _ _).mono (fun r h c => ?_) (Cert.Reference4Ideal.Value.run m' ρ')⟩
  · exact ⟨read0_delta m ρ c r.2.mem (h c),
      read0_mean m ρ c r.2.mem (h c),
      read0_square m ρ c r.2.mem (h c),
      read1_delta m ρ c r.2.mem (h c),
      read1_mean m ρ c r.2.mem (h c),
      read1_square m ρ c r.2.mem (h c),
      read2_delta m ρ c r.2.mem (h c),
      read2_mean m ρ c r.2.mem (h c),
      read2_square m ρ c r.2.mem (h c),
      read3_delta m ρ c r.2.mem (h c),
      read3_mean m ρ c r.2.mem (h c),
      read3_square m ρ c r.2.mem (h c),
      read4_delta m ρ c r.2.mem (h c),
      read4_mean m ρ c r.2.mem (h c),
      read4_square m ρ c r.2.mem (h c),
      read5_delta m ρ c r.2.mem (h c),
      read5_mean m ρ c r.2.mem (h c),
      read5_square m ρ c r.2.mem (h c),
      read6_delta m ρ c r.2.mem (h c),
      read6_mean m ρ c r.2.mem (h c),
      read6_square m ρ c r.2.mem (h c),
      read7_delta m ρ c r.2.mem (h c),
      read7_mean m ρ c r.2.mem (h c),
      read7_square m ρ c r.2.mem (h c),
      read8_delta m ρ c r.2.mem (h c),
      read8_mean m ρ c r.2.mem (h c),
      read8_square m ρ c r.2.mem (h c),
      read9_delta m ρ c r.2.mem (h c),
      read9_mean m ρ c r.2.mem (h c),
      read9_square m ρ c r.2.mem (h c),
      read_args m ρ c r.2.mem (h c)⟩
  · obtain ⟨h0, h1, h2, h3, h4, h5, h6, h7, h8, h9, h10, h11, h12, h13, h14, h15, h16, h17, h18, h19, h20, h21, h22, h23, h24, h25, h26, h27, h28, h29, hargs⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39⟩ := heq c
    exact ⟨h0.trans ((Cert.Reference4Ideal.Read.val_main_v23_eq _).trans ((ref0_delta _ _ _ _).trans (deltas_congr e0 e10 e20 e30))),
      h1.trans ((Cert.Reference4Ideal.Read.val_main_v4_eq _).trans ((ref0_mean _ _).trans (means_congr e10 e20))),
      h2.trans ((Cert.Reference4Ideal.Read.val_main_v10_eq _).trans ((ref0_square _ _).trans (squares_congr e10 e30))),
      h3.trans ((Cert.Reference4Ideal.Read.val_main_v47_eq _).trans ((ref1_delta _ _ _ _).trans (deltas_congr e1 e11 e21 e31))),
      h4.trans ((Cert.Reference4Ideal.Read.val_main_v28_eq _).trans ((ref1_mean _ _).trans (means_congr e11 e21))),
      h5.trans ((Cert.Reference4Ideal.Read.val_main_v34_eq _).trans ((ref1_square _ _).trans (squares_congr e11 e31))),
      h6.trans ((Cert.Reference4Ideal.Read.val_main_v71_eq _).trans ((ref2_delta _ _ _ _).trans (deltas_congr e2 e12 e22 e32))),
      h7.trans ((Cert.Reference4Ideal.Read.val_main_v52_eq _).trans ((ref2_mean _ _).trans (means_congr e12 e22))),
      h8.trans ((Cert.Reference4Ideal.Read.val_main_v58_eq _).trans ((ref2_square _ _).trans (squares_congr e12 e32))),
      h9.trans ((Cert.Reference4Ideal.Read.val_main_v95_eq _).trans ((ref3_delta _ _ _ _).trans (deltas_congr e3 e13 e23 e33))),
      h10.trans ((Cert.Reference4Ideal.Read.val_main_v76_eq _).trans ((ref3_mean _ _).trans (means_congr e13 e23))),
      h11.trans ((Cert.Reference4Ideal.Read.val_main_v82_eq _).trans ((ref3_square _ _).trans (squares_congr e13 e33))),
      h12.trans ((Cert.Reference4Ideal.Read.val_main_v119_eq _).trans ((ref4_delta _ _ _ _).trans (deltas_congr e4 e14 e24 e34))),
      h13.trans ((Cert.Reference4Ideal.Read.val_main_v100_eq _).trans ((ref4_mean _ _).trans (means_congr e14 e24))),
      h14.trans ((Cert.Reference4Ideal.Read.val_main_v106_eq _).trans ((ref4_square _ _).trans (squares_congr e14 e34))),
      h15.trans ((Cert.Reference4Ideal.Read.val_main_v143_eq _).trans ((ref5_delta _ _ _ _).trans (deltas_congr e5 e15 e25 e35))),
      h16.trans ((Cert.Reference4Ideal.Read.val_main_v124_eq _).trans ((ref5_mean _ _).trans (means_congr e15 e25))),
      h17.trans ((Cert.Reference4Ideal.Read.val_main_v130_eq _).trans ((ref5_square _ _).trans (squares_congr e15 e35))),
      h18.trans ((Cert.Reference4Ideal.Read.val_main_v167_eq _).trans ((ref6_delta _ _ _ _).trans (deltas_congr e6 e16 e26 e36))),
      h19.trans ((Cert.Reference4Ideal.Read.val_main_v148_eq _).trans ((ref6_mean _ _).trans (means_congr e16 e26))),
      h20.trans ((Cert.Reference4Ideal.Read.val_main_v154_eq _).trans ((ref6_square _ _).trans (squares_congr e16 e36))),
      h21.trans ((Cert.Reference4Ideal.Read.val_main_v191_eq _).trans ((ref7_delta _ _ _ _).trans (deltas_congr e7 e17 e27 e37))),
      h22.trans ((Cert.Reference4Ideal.Read.val_main_v172_eq _).trans ((ref7_mean _ _).trans (means_congr e17 e27))),
      h23.trans ((Cert.Reference4Ideal.Read.val_main_v178_eq _).trans ((ref7_square _ _).trans (squares_congr e17 e37))),
      h24.trans ((Cert.Reference4Ideal.Read.val_main_v215_eq _).trans ((ref8_delta _ _ _ _).trans (deltas_congr e8 e18 e28 e38))),
      h25.trans ((Cert.Reference4Ideal.Read.val_main_v196_eq _).trans ((ref8_mean _ _).trans (means_congr e18 e28))),
      h26.trans ((Cert.Reference4Ideal.Read.val_main_v202_eq _).trans ((ref8_square _ _).trans (squares_congr e18 e38))),
      h27.trans ((Cert.Reference4Ideal.Read.val_main_v239_eq _).trans ((ref9_delta _ _ _ _).trans (deltas_congr e9 e19 e29 e39))),
      h28.trans ((Cert.Reference4Ideal.Read.val_main_v220_eq _).trans ((ref9_mean _ _).trans (means_congr e19 e29))),
      h29.trans ((Cert.Reference4Ideal.Read.val_main_v226_eq _).trans ((ref9_square _ _).trans (squares_congr e19 e39))), hargs⟩

end Cert.Optimiser
-- ==== Proof.LossHead.lean ====
/- The loss head: the squared errors summed over the grid's blocks of rows, the gradient row by row, and the two results
   as extended reals. No number needs to be finite: the reference divides each row's sum by the width before adding the
   rows, the kernel multiplies the whole sum once, and a positive real factor may be taken out of any sum. -/
module

public import proofs.«01_k».proof.Proof.Lift
public import proofs.«01_k».proof.Proof.Gen.Kernel5Ideal.Frame
public import Idealize.ShloMosaic.Lib.Pipeline.ReadBack
public import Idealize.ShloMosaic.Lib.Pointwise

@[expose] public section

set_option maxRecDepth 16384

noncomputable section

namespace Cert.LossHead

open Idealize.ShloMosaic Cert.Kernel5Ideal Cert.Kernel5Ideal.Gen Cert.FfnBlock Idealize.ShloMosaic.TcCoe

set_option backward.isDefEq.respectTransparency.types false

/-! ## The two results -/

/-- The squared error at row `r` and column `j`. -/
def sq {n : ℕ} (x y : FVec Ideal ⟨2, ![n, 1024]⟩ .f32) (r : Fin n) (j : Fin 1024) : EReal :=
  ((x (ix2 r j) : EReal) - y (ix2 r j)) * ((x (ix2 r j) : EReal) - y (ix2 r j))
/-- The sum of all squared errors over twice the width. -/
def loss (x y : FVec Ideal S8192x1024 .f32) : FVec Ideal S_ .f32 :=
  fun _ => ((1 / 2048 : ℝ) : EReal) * ∑ r, ∑ j, sq x y r j
/-- The error over the width. -/
def slope {n : ℕ} (x y : FVec Ideal ⟨2, ![n, 1024]⟩ .f32) : FVec Ideal ⟨2, ![n, 1024]⟩ .f32 :=
  fun i => ((x i : EReal) - y i) * ((1 / 1024 : ℝ) : EReal)

/-- A nonnegative real factor may be taken out of a sum of extended reals. -/
theorem factor {ι : Type} (s : Finset ι) (a : ℝ) (ha : 0 ≤ a) (f : ι → EReal) :
    ∑ k ∈ s, f k * (a : EReal) = (a : EReal) * ∑ k ∈ s, f k := by
  classical
  induction s using Finset.induction_on with
  | empty => simp
  | insert k s hk ih =>
    rw [Finset.sum_insert hk, Finset.sum_insert hk, ih, mul_comm (f k),
      EReal.left_distrib_of_nonneg_of_ne_top (EReal.coe_nonneg.2 ha) (EReal.coe_ne_top a)]

theorem ofBits_inv_width : (Ideal.ofBits .f32 0x3A800000#32 : EReal) = ((1 / 1024 : ℝ) : EReal) := by
  simp [Ideal.ofBits, Ideal.ieee, -EReal.coe_mul]; norm_num
theorem ofBits_inv_twice : (Ideal.ofBits .f32 0x3A000000#32 : EReal) = ((1 / 2048 : ℝ) : EReal) := by
  simp [Ideal.ofBits, Ideal.ieee, -EReal.coe_mul]; norm_num
theorem ofBits_two : (Ideal.ofBits .f32 0x40000000#32 : EReal) = ((2 : ℝ) : EReal) := by
  simp [Ideal.ofBits, Ideal.ieee, -EReal.coe_mul]; norm_num

/-! ## One block of rows -/

/-- The squared errors of a block, summed down its columns. -/
def down {n : ℕ} (x y : FVec Ideal ⟨2, ![n, 1024]⟩ .f32) (j : Fin 1024) : EReal := ∑ k, sq x y k j
/-- A row of sums as the array the kernel keeps. -/
def kept (f : Fin 1024 → EReal) : FVec Ideal S1x1024 .f32 := fun i => f (i 1)

theorem zeros : k0_pay1 (F := Ideal) = kept fun _ => 0 := by
  funext i; exact ofBits_zero
theorem add_block (x y : Vec Ideal S512x1024 .f32) (z : Fin 1024 → EReal) :
    k0_pay3 (F := Ideal) x y (kept z) = kept fun j => z j + down x y j := by
  have h : ∀ (q : FVec Ideal S512x1024 .f32) (h h2 h3 h4), (shapeCast S1x1024 (multiReduction .add [0] S1024 q 0x00000000#32 h h2 h3) h4 : FVec Ideal S1x1024 .f32)
      = kept fun j => ∑ k, q (ix2 k j) := by
    intro q h h2 h3 h4; funext i; pointwise [kept]
  unfold k0_pay3
  rw [shapeCast_self]
  funext i
  exact congrArg (z (i 1) + ·) (congrFun (h _ _ _ _ _) i)
theorem slope_block (x y : Vec Ideal S512x1024 .f32) : k0_pay4 (F := Ideal) x y = slope x y := by
  funext i; exact congrArg (((x i : EReal) - y i) * ·) ofBits_inv_width

theorem stored_sums (x : Vec Ideal S1x1024 .f32) (l) : View.canon (⟨Rect.unit (s := S1x1024) ![0, 0] S1x1024.size inb_S1x1024_S1x1024_0_0, x⟩ :: l) = x :=
  View.canon_cons_unit_lit _ _ _ (by decide)

section
variable (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S512x1024 .f32) (h4 : a4.IsWhole)
  (x y : Vec Ideal S512x1024 .f32)

theorem first_sums (hc : cond0_0 i) : out0_A_2 (F := Ideal) c i a1 h1 a2 h2 a3 h3 a4 h4 hc x y = kept (down x y) := by
  frame_open
  simp (disch := decide) only [↓ View.readCov_skip, ↓ View.readCov_cons_toLoadRect, ↓ View.readCov_fill]
  try frame_out
  rw [zeros, add_block]; simp only [zero_add]
theorem first_slope (hc : cond0_0 i) : out0_A_3 (F := Ideal) c i a1 h1 a2 h2 a3 h3 a4 h4 hc x y = slope x y := by
  frame_out
  exact slope_block x y
theorem next_sums (hc : ¬ cond0_0 i) (z : Fin 1024 → EReal) :
    out0_B_2 (F := Ideal) c i a1 h1 a2 h2 a3 h3 a4 h4 hc x y (kept z) = kept fun j => z j + down x y j := by
  frame_out
  exact add_block x y z
theorem next_slope (hc : ¬ cond0_0 i) (z : Fin 1024 → EReal) :
    out0_B_3 (F := Ideal) c i a1 h1 a2 h2 a3 h3 a4 h4 hc x y (kept z) = slope x y := by
  frame_out
  exact slope_block x y
end

/-! ## The two arrays -/

variable (m : (ℓ : Loc nD τ sig) → Buf (Elt Ideal) ℓ) (ρ : Dev nD → PrngReg) (c : Dev nD)

/-- The rows the network gives. -/
abbrev out : FVec Ideal S8192x1024 .f32 := m ((c : Thread nD τ).loc main_arg0)
/-- The rows it should have given. -/
abbrev aim : FVec Ideal S8192x1024 .f32 := m ((c : Thread nD τ).loc main_arg1)

/-- Row `k` of the `p`-th block of 512 rows. -/
def row512 (p : ℕ) (k : Fin 512) : Fin 8192 := ⟨(512 * p + k) % 8192, Nat.mod_lt _ (by norm_num)⟩

theorem row512_val {p : ℕ} (hp : p < 16) (k : Fin 512) : ((row512 p k : Fin 8192) : ℕ) = p * 512 + k := by
  show (512 * p + (k : ℕ)) % 8192 = _
  have := k.isLt
  omega

/-- The blocks' sums together are the sum over all rows. -/
theorem sum_rows512 (f : Fin 8192 → EReal) : ∑ p ∈ Finset.range 16, ∑ k, f (row512 p k) = ∑ r, f r := by
  rw [Finset.sum_range]
  have h : ∑ r : Fin (16 * 512), f r = ∑ p : Fin 16, ∑ k : Fin 512, f (row512 p k) := by
    rw [← Fintype.sum_prod_type', ← finProdFinEquiv.sum_comp]
    refine Finset.sum_congr rfl fun p _ => congrArg f (Fin.ext ?_)
    rw [row512_val p.1.isLt]
    simp [finProdFinEquiv]; omega
  exact h.symm

/-- The block index of every window at every grid point. -/
theorem index0 : ∀ t : Fin cfg0.N,
    win0_0.index t = ![(t : ℕ), 0]
    ∧ win0_1.index t = ![(t : ℕ), 0]
    ∧ win0_2.index t = ![0, 0]
    ∧ win0_3.index t = ![(t : ℕ), 0] :=
  (by decide +kernel : ∀ t : Fin grid0.N, _)

/-- The `p`-th block of 512 rows. -/
def part (x : FVec Ideal S8192x1024 .f32) (p : ℕ) : FVec Ideal S512x1024 .f32 := fun i => x (ix2 (row512 p (i 0)) (i 1))

theorem block0_0 (t : Fin cfg0.N) : iblk m c 0 t = part (out m c) t := by
  funext y
  show out m c (((cfg0.win 0).blk t).view.emb y) = _
  refine congrArg (out m c) (funext fun a => Fin.ext ?_)
  fin_cases a
  · blk_simp [index0 t]; exact (row512_val t.isLt (y 0)).symm
  · blk_simp [index0 t]; rfl
theorem block0_1 (t : Fin cfg0.N) : iblk m c 1 t = part (aim m c) t := by
  funext y
  show aim m c (((cfg0.win 1).blk t).view.emb y) = _
  refine congrArg (aim m c) (funext fun a => Fin.ext ?_)
  fin_cases a
  · blk_simp [index0 t]; exact (row512_val t.isLt (y 0)).symm
  · blk_simp [index0 t]; rfl

/-- What the kernel leaves in its output blocks after each grid point. -/
theorem blocks (n : ℕ) (hn : n < cfg0.N) :
    outsAt0 m c n hn = (kept fun j => ∑ p ∈ Finset.range (n + 1), down (part (out m c) p) (part (aim m c) p) j,
      slope (part (out m c) n) (part (aim m c) n)) := by
  have hN : n < 16 := hn
  induction n with
  | zero =>
    refine (outsAt0_A m c ⟨0, hn⟩ rfl).trans ?_
    rw [block0_0, block0_1]
    refine congrArg₂ Prod.mk ?_ ?_
    · refine (first_sums ..).trans ?_
      simp
    · exact first_slope ..
  | succ n ih =>
    refine (outsAt0_B m c ⟨n + 1, hn⟩ (by show ¬ (n + 1) % 16 = 0; omega)).trans ?_
    rw [block0_0, block0_1]
    have e : outsAt0 m c n (Nat.lt_of_succ_lt hn) = _ := ih (Nat.lt_of_succ_lt hn) (by omega)
    simp only [Nat.add_sub_cancel]
    simp only [e]
    refine congrArg₂ Prod.mk ?_ ?_
    · refine (next_sums ..).trans ?_
      simp only [Finset.sum_range_succ _ (n + 1)]
    · exact next_slope ..

/-- The last grid point. -/
def last0 : Fin cfg0.N := ⟨15, by show 15 < 16; norm_num⟩

theorem array_sums : (dats m 0 c).arrAt 2 cfg0.N = kept (down (out m c) (aim m c)) := by
  refine (dats m 0 c).arrAt_eq_of_after_last 2 last0 (by decide +kernel) _ fun j => ?_
  rw [after0_2, blocks]
  exact sum_rows512 fun r => sq (out m c) (aim m c) r (j 1)
theorem array_slope : (dats m 0 c).arrAt 3 cfg0.N = (slope (out m c) (aim m c) : FVec Ideal S8192x1024 .f32) := by
  refine (dats m 0 c).arrAt_eq_of_covers 3 _ (by decide +kernel) fun t hf y => ?_
  blk_simp
  rw [after0_3, blocks]
  refine congrArg (slope (out m c) (aim m c)) (funext fun a => Fin.ext ?_)
  fin_cases a
  · blk_simp [index0 t]; exact row512_val t.isLt (y 0)
  · blk_simp [index0 t]; rfl

/-! ## The host's last lines -/

/-- The host's sum and factor turn the kept row into the loss. -/
theorem total (f : Fin 1024 → EReal) (h : S1x1024.ReducesTo [0, 1] S_) (h') :
    (mulf (constant S_ .f32 0x3A000000#32) (Host.reduceAdd (kept f) (constant S_ .f32 0x00000000#32) h h') : FVec Ideal S_ .f32)
      = fun _ => ((1 / 2048 : ℝ) : EReal) * ∑ j, f j := by
  funext i
  refine congrArg₂ (· * ·) ofBits_inv_twice ((Ideal.hostReduceAdd_total h (fun b => b.elim0) (kept f) _ i).trans ?_)
  rw [sum_idx2]
  refine (congrArg (· + _) ofBits_zero).trans ?_
  simp [kept]

theorem end_loss : Pipeline.afterTail₀ cfgs (dats m) 0 (V0 m) [hostOps1] c main_v2 = loss (out m c) (aim m c) := by
  unfold Pipeline.afterTail₀
  simp only [List.flatten_cons, List.flatten_nil, List.append_nil]
  refine Eq.trans (b := mulf (constant S_ .f32 0x3A000000#32) (Host.reduceAdd ((dats m 0 c).arrAt 2 cfg0.N) (constant S_ .f32 0x00000000#32) reducesTo_S1x1024_S_d0_1 h_S_)) ?_ ?_
  · after_results
    exact congrArg (fun q => mulf (constant S_ .f32 0x3A000000#32) (Host.reduceAdd (q : FVec Ideal S1x1024 .f32) (constant S_ .f32 0x00000000#32) reducesTo_S1x1024_S_d0_1 h_S_))
      (Pipeline.withArrays_arr spec0 launch0.win.arr_inj c _ _ 2)
  · rw [array_sums]
    refine (total _ _ _).trans ?_
    exact funext fun _ => congrArg (_ * ·) Finset.sum_comm

/-- What both results hold at the end. -/
theorem run_values : θ_run defs (onTc (τ := τ) (main (F := Ideal))) ⟨m, fun _ => 0, ρ⟩ (fun r => ∀ c : Dev nD,
      r.2.mem ((c.tc : Thread nD τ).loc main_v2) = loss (out m c) (aim m c)
      ∧ r.2.mem ((c.tc : Thread nD τ).loc main_v0_1) = slope (out m c) (aim m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v2 (by decide)).trans (end_loss m c), ((h c).1 3).trans (array_slope m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.LossHead
-- ==== Proof.LossClaim.lean ====
/- The loss head's claim: the reference, from its own operations, gives the loss and the gradient the kernel leaves. -/
module

public import proofs.«01_k».proof.Defs
public import proofs.«01_k».proof.Proof.LossHead
public import proofs.«01_k».proof.Proof.Gen.Reference5Ideal.Read
public import Idealize.ShloMosaic.Adequacy

@[expose] public section

set_option maxRecDepth 16384

noncomputable section

namespace Cert.LossHead

open Idealize.ShloMosaic Idealize.ShloMosaic.StableHlo Idealize.ShloMosaic.TcCoe Idealize.SL.Sem Cert.FfnBlock

set_option backward.isDefEq.respectTransparency.types false

/-- The reference's frame. -/
theorem frame_reference [Cert.Reference5Ideal.Facts] : Cert.quiescent_Reference5Ideal := fun m g _ =>
  (θ_run _ _ _).mono (fun r h => ⟨fun c => (h c).2.2, sem_eq_zero_of_no_sems (by decide) _⟩)
    (Cert.Reference5Ideal.Value.run m g)

section
open Cert.Reference5Ideal Cert.Reference5Ideal.Read

variable (x y : FVec Ideal S8192x1024 .f32)

theorem quotient (a : EReal) : Ideal.div a ((1024 : ℝ) : EReal) = a * ((1 / 1024 : ℝ) : EReal) := Ideal.div_coe (by norm_num) a

/-- One row's mean squared error. -/
theorem ref_row (i : S8192.Idx) : val_main_v6 (F := Ideal) x y i = (∑ j, sq x y (i 0) j) * ((1 / 1024 : ℝ) : EReal) := by
  rw [val_main_v6_apply, val_main_v4_apply, val_main_v5_apply, val_main_cst_1_apply]
  have e : (val_main_cst_0 (F := Ideal)) (Shape.Idx.first Cert.Reference5Ideal.Gen.h_S_) + ∑ k : Fin 1024, (val_main_v1 (F := Ideal) x y) (idx_main_v4 i k)
      = ∑ j, sq x y (i 0) j := by
    refine (congrArg (· + _) ofBits_zero).trans ?_
    refine (zero_add _).trans (Finset.sum_congr rfl fun k _ => ?_)
    have q : idx_main_v4 i k = ix2 (i 0) k := by funext a; fin_cases a <;> rfl
    rw [q]; rfl
  rw [e]
  exact (congrArg (Ideal.div _) ofBits_width).trans (quotient _)

theorem ref_loss : val_main_v8 (F := Ideal) x y = loss x y := by
  funext i
  rw [val_main_v8_apply, val_main_v7_apply]
  have e : (val_main_cst_2 (F := Ideal)) (Shape.Idx.first Cert.Reference5Ideal.Gen.h_S_) + ∑ j : S8192.Idx, (val_main_v6 (F := Ideal) x y) j
      = ((1 / 1024 : ℝ) : EReal) * ∑ r, ∑ j, sq x y r j := by
    refine (congrArg (· + _) ofBits_zero).trans ((zero_add _).trans ?_)
    rw [sum_idx1, ← factor _ _ (by norm_num)]
    exact Finset.sum_congr rfl fun r _ => ref_row x y (ix1 r)
  rw [e]
  refine (congrArg (· * _) ofBits_half).trans ?_
  rw [← mul_assoc, ← EReal.coe_mul]
  norm_num [loss]

theorem ref_slope : val_main_v14 (F := Ideal) x y = slope x y := by
  funext i
  rw [val_main_v14_apply, val_main_v13_apply, val_main_v12_apply, val_main_v10_apply, val_main_v9_apply, val_main_v11_apply,
    val_main_v3_apply, val_main_v2_apply, val_main_v0_apply]
  have e : FloatOps.hostDivf (F := Ideal) (φ := .f32) (FloatOps.mulf (Ideal.ofBits .f32 0x3F000000#32) (Ideal.ofBits .f32 0x3F800000#32)) (Ideal.ofBits .f32 0x44800000#32)
      = ((1 / 2 * 1 * (1 / 1024) : ℝ) : EReal) := by
    rw [ofBits_half, ofBits_one, ofBits_width]
    refine (quotient _).trans ?_
    rw [EReal.coe_mul, EReal.coe_mul]; rfl
  refine (congrArg₂ (fun p q : EReal => p * (q * ((x i : EReal) - y i))) e ofBits_two).trans ?_
  rw [← mul_assoc, ← EReal.coe_mul, mul_comm]
  norm_num [slope]

end

theorem algebraic : Cert.algebraic_Kernel5Ideal_Reference5Ideal := by
  intro m ρ m' ρ' _ heq
  refine ⟨fun c => loss (out m c) (aim m c), fun c => slope (out m c) (aim m c), run_values m ρ,
    (θ_run _ _ _).mono (fun r h c => ?_) (Cert.Reference5Ideal.Value.run m' ρ')⟩
  obtain ⟨h0, h1, hargs⟩ := h c
  obtain ⟨e0, e1⟩ := heq c
  refine ⟨h0.trans ((Cert.Reference5Ideal.Read.val_main_v8_eq _ _).trans ?_),
    h1.trans ((Cert.Reference5Ideal.Read.val_main_v14_eq _ _).trans ?_), hargs⟩
  · rw [e0, e1]; exact ref_loss _ _
  · rw [e0, e1]; exact ref_slope _ _

end Cert.LossHead
-- ==== Proof.WindowMix.lean ====
/- The causal pooling mixer over the real numbers, and the rules on arrays of real numbers that its kernel's body needs:
   rotations that double a window, pieces of columns side by side, and the counts a window is divided by. -/
module

public import proofs.«01_k».proof.Proof.MixLift
public import proofs.«01_k».proof.Proof.Gen.Kernel6Ideal.Skeleton

@[expose] public section

set_option maxRecDepth 16384

noncomputable section

namespace Cert.WindowMix

open Idealize.ShloMosaic Cert.Kernel6Ideal Cert.Kernel6Ideal.Gen Cert.FfnBlock Cert.Mixing

set_option backward.isDefEq.respectTransparency.types false

/-! ## The mathematics -/

/-- Column `c` of group `g`. -/
def at4 (g : Fin 4) (c : Fin 128) : Fin 512 := ⟨128 * g + c, by omega⟩
/-- The group a column lies in. -/
def grp (j : Fin 512) : Fin 4 := ⟨j / 128, by omega⟩
/-- The column's place in its group. -/
def plc (j : Fin 512) : Fin 128 := ⟨j % 128, by omega⟩
theorem grp_at4 (g : Fin 4) (c : Fin 128) : grp (at4 g c) = g := Fin.ext (by simp only [grp, at4]; omega)
theorem plc_at4 (g : Fin 4) (c : Fin 128) : plc (at4 g c) = c := Fin.ext (by simp only [plc, at4]; omega)
theorem at4_grp (j : Fin 512) : at4 (grp j) (plc j) = j := Fin.ext (by simp only [grp, plc, at4]; omega)

/-- A group's window. -/
def wide (g : Fin 4) : ℕ := 2 ^ ((g : ℕ) + 1)
/-- How many rows of the window ending at row `t` there are. -/
def count (g : Fin 4) (t : ℕ) : ℝ := min ((t : ℝ) + 1) (wide g : ℝ)
theorem count_ne (g : Fin 4) (t : ℕ) : count g t ≠ 0 := by
  have h1 : (0 : ℝ) < (t : ℝ) + 1 := by positivity
  have h2 : (0 : ℝ) < (wide g : ℝ) := by unfold wide; positivity
  exact (lt_min h1 h2).ne'

/-- Row `t` of an array of 8192 rows, all zeros outside it. -/
def ext (u : Fin 8192 → Fin 512 → ℝ) (t : ℤ) (j : Fin 512) : ℝ :=
  if h : 0 ≤ t ∧ t < 8192 then u ⟨t.toNat, by omega⟩ j else 0
theorem ext_nat (u : Fin 8192 → Fin 512 → ℝ) (t : Fin 8192) (j : Fin 512) : ext u (t : ℕ) j = u t j := by
  unfold ext
  rw [dif_pos ⟨by omega, by omega⟩]
  rfl

/-- The window's mean minus the row itself. -/
def delta (u : Fin 8192 → Fin 512 → ℝ) (t : Fin 8192) (j : Fin 512) : ℝ :=
  (∑ k ∈ Finset.range (wide (grp j)), ext u ((t : ℕ) - (k : ℕ) : ℤ) j) / count (grp j) t - u t j
/-- The group's product. -/
def mixed (P : Fin 4 → Fin 128 → Fin 128 → ℝ) (d : Fin 512 → ℝ) (j : Fin 512) : ℝ := ∑ c, d (at4 (grp j) c) * P (grp j) c (plc j)
/-- The gradient of the scale. -/
def scaleGrad (u T : Fin 8192 → Fin 512 → ℝ) (P : Fin 4 → Fin 128 → Fin 128 → ℝ) (j : Fin 512) : ℝ :=
  ∑ t, T t j * mixed P (delta u t) j
/-- The gradient of the group's weights. -/
def weightGrad (u T : Fin 8192 → Fin 512 → ℝ) (S : Fin 512 → ℝ) (g : Fin 4) (c d : Fin 128) : ℝ :=
  ∑ t, delta u t (at4 g c) * (T t (at4 g d) * S (at4 g d))
/-- The gradient of the difference, for one row. -/
def deltaGrad (P : Fin 4 → Fin 128 → Fin 128 → ℝ) (S t : Fin 512 → ℝ) (j : Fin 512) : ℝ :=
  ∑ d, t (at4 (grp j) d) * S (at4 (grp j) d) * P (grp j) (plc j) d
/-- The same over the window's count. -/
def meanGrad (T : Fin 8192 → Fin 512 → ℝ) (P : Fin 4 → Fin 128 → Fin 128 → ℝ) (S : Fin 512 → ℝ) (t : Fin 8192) (j : Fin 512) : ℝ :=
  deltaGrad P S (T t) j / count (grp j) t
/-- The gradient of the mixer's input. -/
def inGrad (T : Fin 8192 → Fin 512 → ℝ) (P : Fin 4 → Fin 128 → Fin 128 → ℝ) (S : Fin 512 → ℝ) (t : Fin 8192) (j : Fin 512) : ℝ :=
  (∑ k ∈ Finset.range (wide (grp j)), ext (meanGrad T P S) ((t : ℕ) + (k : ℕ) : ℤ) j) - deltaGrad P S (T t) j

/-! ## Rotations that double a window -/

/-- An array plus itself rotated by `s` rows. -/
def turned (s : ℕ) (A : Fin 272 → Fin 512 → ℝ) (r : Fin 272) (j : Fin 512) : ℝ := A r j + A ⟨(r + 272 - s) % 272, Nat.mod_lt _ (by norm_num)⟩ j
theorem turn (n : BitVec 32) (hn : n.toNat < 272) (A : Fin 272 → Fin 512 → ℝ) (h) :
    addf (lift2 (φ := .f32) A) (dynamicRotate (s := S272x512) 0 n none (lift2 (φ := .f32) A) h) = lift2 (φ := .f32) (turned n.toNat A) := by
  funext i
  have e : (dynamicRotate (s := S272x512) 0 n none (lift2 (φ := .f32) A) h) i
      = ((A ⟨(i 0 + 272 - n.toNat) % 272, Nat.mod_lt _ (by norm_num)⟩ (i 1) : ℝ) : EReal) := by
    rw [Pointwise.dynamicRotate_apply]
    refine congrArg Real.toEReal (congrArg₂ A (Fin.ext ?_) rfl)
    exact congrArg (fun q => ((i 0 : ℕ) + 272 - q) % 272) (show (n.toNat + 0) % 272 = n.toNat from Nat.mod_eq_of_lt hn)
  exact (congrArg (lift2 (φ := .f32) A i + ·) e).trans (EReal.coe_add _ _).symm

/-- Every row far enough from the top holds the sum of the `n` rows ending at it. -/
def Behind (a A : Fin 272 → Fin 512 → ℝ) (n : ℕ) : Prop :=
  ∀ (r : ℕ) (hr : r < 272) (j : Fin 512), n ≤ r + 1 → A ⟨r, hr⟩ j = ∑ k ∈ Finset.range n, a ⟨r - k, by omega⟩ j
/-- Every row far enough from the bottom holds the sum of the `n` rows beginning at it. -/
def Before (a A : Fin 272 → Fin 512 → ℝ) (n : ℕ) : Prop :=
  ∀ (r : ℕ) (hr : r < 272) (j : Fin 512), r + n ≤ 272 → A ⟨r, hr⟩ j = ∑ k ∈ Finset.range n, a ⟨(r + k) % 272, Nat.mod_lt _ (by norm_num)⟩ j
theorem behind_one (a : Fin 272 → Fin 512 → ℝ) : Behind a a 1 := fun r hr j _ => by simp
theorem before_one (a : Fin 272 → Fin 512 → ℝ) : Before a a 1 := fun r hr j _ => by
  simp only [Finset.sum_range_one, Nat.add_zero, Nat.mod_eq_of_lt hr]
theorem Behind.double {a A : Fin 272 → Fin 512 → ℝ} {n : ℕ} (h : Behind a A n) (hn : 2 * n ≤ 272) : Behind a (turned n A) (n + n) := fun r hr j hj => by
  have e : (r + 272 - n) % 272 = r - n ∨ n = 0 := by omega
  rcases e with e | rfl
  · unfold turned
    simp only [e]
    rw [h r hr j (by omega), Finset.sum_range_add]
    have hz : n ≤ r - n + 1 := by omega
    rw [h (r - n) (by omega) j hz]
    refine congrArg (_ + ·) (Finset.sum_congr rfl fun k _ => congrArg (fun q => a q j) (Fin.ext ?_))
    show r - n - k = r - (n + k)
    omega
  · have := h r hr j (by omega)
    simp only [turned, Nat.sub_zero, Nat.add_mod_right, Nat.mod_eq_of_lt hr]
    rw [this]; simp
theorem Before.double {a A : Fin 272 → Fin 512 → ℝ} {n : ℕ} (h : Before a A n) (h0 : 0 < n) (hn : 2 * n ≤ 272) : Before a (turned (272 - n) A) (n + n) := fun r hr j hj => by
  have e : (r + 272 - (272 - n)) % 272 = r + n := by omega
  unfold turned
  simp only [e]
  rw [h r hr j (by omega), Finset.sum_range_add, h (r + n) (by omega) j (by omega)]
  simp only [Nat.add_assoc]

/-! ## Reading and joining pieces -/

variable {φ : FTy}

/-- The piece beginning at a row and a column. -/
theorem cut {n m a b r q : ℕ} (x : Fin n → Fin m → ℝ) (h : (⟨2, ![n, m]⟩ : Shape).Slices ![r, q] ⟨2, ![a, b]⟩) :
    extractStridedSlice (⟨2, ![a, b]⟩ : Shape) ![r, q] (lift2 (φ := φ) x) h
      = lift2 fun i j => x ⟨r + i, Nat.lt_of_lt_of_le (Nat.add_lt_add_left i.isLt _) (h.2 0)⟩ ⟨q + j, Nat.lt_of_lt_of_le (Nat.add_lt_add_left j.isLt _) (h.2 1)⟩ := rfl

/-- Four groups' rows side by side. -/
def beside (y0 y1 y2 y3 : Fin 128 → ℝ) (j : Fin 512) : ℝ :=
  if h0 : (j : ℕ) < 128 then y0 ⟨j, h0⟩ else if h1 : (j : ℕ) - 128 < 128 then y1 ⟨j - 128, h1⟩
    else if h2 : (j : ℕ) - 128 - 128 < 128 then y2 ⟨j - 128 - 128, h2⟩ else y3 ⟨j - 128 - 128 - 128, by omega⟩
theorem beside_eq (f : Fin 512 → ℝ) : beside (fun j => f (at4 0 j)) (fun j => f (at4 1 j)) (fun j => f (at4 2 j)) (fun j => f (at4 3 j)) = f := by
  funext j
  unfold beside
  split_ifs <;> refine congrArg f (Fin.ext ?_) <;> simp [at4] <;> omega
theorem concat_groups (x0 x1 x2 x3 : Fin 256 → Fin 128 → ℝ) (h) :
    concatenate S256x512 1 [⟨S256x128, lift2 (φ := .f32) x0⟩, ⟨S256x128, lift2 (φ := .f32) x1⟩, ⟨S256x128, lift2 (φ := .f32) x2⟩, ⟨S256x128, lift2 (φ := .f32) x3⟩] h
      = lift2 fun i => beside (x0 i) (x1 i) (x2 i) (x3 i) := by
  funext i; pointwise [lift2, beside]
  split_ifs <;> rfl
/-- Four groups' pieces of one array side by side are the array. -/
theorem concat_of (Y : Fin 256 → Fin 512 → ℝ) {a0 a1 a2 a3 : FVec Ideal S256x128 .f32} (h0 : a0 = lift2 (φ := .f32) fun i j => Y i (at4 0 j))
    (h1 : a1 = lift2 (φ := .f32) fun i j => Y i (at4 1 j)) (h2 : a2 = lift2 (φ := .f32) fun i j => Y i (at4 2 j))
    (h3 : a3 = lift2 (φ := .f32) fun i j => Y i (at4 3 j)) (h) :
    concatenate S256x512 1 [⟨S256x128, a0⟩, ⟨S256x128, a1⟩, ⟨S256x128, a2⟩, ⟨S256x128, a3⟩] h = lift2 (φ := .f32) Y := by
  subst h0 h1 h2 h3
  rw [concat_groups]
  simp only [beside_eq (Y _)]

/-- Sixteen rows above 256. -/
def under (h : Fin 16 → Fin 512 → ℝ) (x : Fin 256 → Fin 512 → ℝ) (r : Fin 272) (j : Fin 512) : ℝ :=
  if h0 : (r : ℕ) < 16 then h ⟨r, h0⟩ j else x ⟨r - 16, by omega⟩ j
/-- Sixteen rows below 256. -/
def over (x : Fin 256 → Fin 512 → ℝ) (h : Fin 16 → Fin 512 → ℝ) (r : Fin 272) (j : Fin 512) : ℝ :=
  if h0 : (r : ℕ) < 256 then x ⟨r, h0⟩ j else h ⟨r - 256, by omega⟩ j
theorem concat_under (h : Fin 16 → Fin 512 → ℝ) (x : Fin 256 → Fin 512 → ℝ) {a : FVec Ideal S16x512 .f32} (ha : a = lift2 (φ := .f32) h) (e) :
    concatenate S272x512 0 [⟨S16x512, a⟩, ⟨S256x512, lift2 (φ := .f32) x⟩] e = lift2 (under h x) := by
  subst ha; funext i; pointwise [lift2, under]
  split_ifs <;> rfl
theorem concat_over (x : Fin 256 → Fin 512 → ℝ) (h : Fin 16 → Fin 512 → ℝ) {a : FVec Ideal S256x512 .f32} (ha : a = lift2 (φ := .f32) x) (e) :
    concatenate S272x512 0 [⟨S256x512, a⟩, ⟨S16x512, lift2 (φ := .f32) h⟩] e = lift2 (over x h) := by
  subst ha; funext i; pointwise [lift2, over]
  split_ifs <;> rfl

theorem drop_slot (x : Fin 1 → Fin 128 → Fin 128 → ℝ) (h) :
    shapeCast (⟨2, ![128, 128]⟩ : Shape) (lift3 (φ := φ) x) h = lift2 fun i j => x 0 i j := by
  funext i; pointwise [lift2, lift3]
theorem add_slot (x : Fin 128 → Fin 128 → ℝ) (h) :
    shapeCast (⟨3, ![1, 128, 128]⟩ : Shape) (lift2 (φ := φ) x) h = lift3 fun _ i j => x i j := by
  funext i; pointwise [lift2, lift3]
theorem rows256 (x : Fin 1 → Fin 512 → ℝ) (h) : broadcastTo (⟨2, ![256, 512]⟩ : Shape) (lift2 (φ := φ) x) h = lift2 fun _ j => x 0 j := by
  funext i; pointwise [lift2]
theorem cols256 (x : Fin 256 → Fin 1 → ℝ) (h) : broadcastTo (⟨2, ![256, 128]⟩ : Shape) (lift2 (φ := φ) x) h = lift2 fun i _ => x i 0 := by
  funext i; pointwise [lift2]
theorem as_row (x : Fin 512 → ℝ) (h) : shapeCast (⟨2, ![1, 512]⟩ : Shape) (lift1 (φ := φ) x) h = lift2 fun _ i => x i := by
  funext i; pointwise [lift2, lift1]
theorem as_line (x : Fin 1 → Fin 512 → ℝ) (h) : shapeCast (⟨1, ![512]⟩ : Shape) (lift2 (φ := φ) x) h = lift1 fun i => x 0 i := by
  funext i; pointwise [lift2, lift1]

theorem prodA (x : Fin 256 → Fin 128 → ℝ) (y : Fin 128 → Fin 128 → ℝ) :
    matmul dot_S256x128_S128x128_S256x128_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem prodB (x y : Fin 256 → Fin 128 → ℝ) :
    matmul dot_S256x128_S256x128_S128x128_0_0_1_1_n_n none (lift2 (φ := .bf16) x) (lift2 (φ := .bf16) y) (lift2 (φ := .f32) fun _ _ => 0)
      = lift2 fun i j => ∑ k, x k i * y k j := by
  funext i; pointwise [lift2]; simp only [← EReal.coe_mul]; rw [coe_sum]; simp
theorem prodC (x : Fin 256 → Fin 128 → ℝ) (y : Fin 128 → Fin 128 → ℝ) :
    matmul dot_S256x128_S128x128_S256x128_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp

/-! ## The counts -/

theorem ofBits_2 : (Ideal.ofBits .f32 0x40000000#32 : EReal) = ((2 : ℝ) : EReal) := by
  simp [Ideal.ofBits, Ideal.ieee, -EReal.coe_mul]; norm_num
theorem ofBits_4 : (Ideal.ofBits .f32 0x40800000#32 : EReal) = ((4 : ℝ) : EReal) := by
  simp [Ideal.ofBits, Ideal.ieee, -EReal.coe_mul]; norm_num
theorem ofBits_8 : (Ideal.ofBits .f32 0x41000000#32 : EReal) = ((8 : ℝ) : EReal) := by
  simp [Ideal.ofBits, Ideal.ieee, -EReal.coe_mul]; norm_num
theorem ofBits_16 : (Ideal.ofBits .f32 0x41800000#32 : EReal) = ((16 : ℝ) : EReal) := by
  simp [Ideal.ofBits, Ideal.ieee, -EReal.coe_mul]; norm_num

/-- The block of rows a grid point works on: the last first. -/
def blockOf (i : grid0.Coords) : ℕ := 31 - (i 0 : ℕ)

theorem word_of (p r : ℕ) (hp : p < 32) (hr : r < 256) :
    (BitVec.ofNat 32 r : BitVec 32).toNat = r ∧ ((31#32 - BitVec.ofNat 32 p) * 256#32 + BitVec.ofNat 32 r + 1#32).toInt = 256 * (31 - p) + r + 1 := by
  refine ⟨by simp; omega, ?_⟩
  rw [BitVec.toInt_eq_toNat_cond]
  simp only [BitVec.toNat_add, BitVec.toNat_mul, BitVec.toNat_sub, BitVec.toNat_ofNat]
  have h31 : (2 ^ 32 - p % 2 ^ 32 + 31 % 2 ^ 32) % 2 ^ 32 = 31 - p := by omega
  rw [h31]
  split_ifs <;> omega

theorem place (i : grid0.Coords) : k0_pay7 (F := Ideal) i = lift2 (φ := .f32) fun r _ => ((256 * blockOf i + r : ℕ) : ℝ) + 1 := by
  have hp : (i 0 : ℕ) < 32 := (i 0).isLt
  funext y
  have hr : (y 0 : ℕ) < 256 := (y 0).isLt
  have h := (word_of (i 0) (y 0) hp hr).2
  have : k0_pay7 (F := Ideal) i y = ((((31#32 - BitVec.ofNat 32 (i 0 : ℕ)) * 256#32 + BitVec.ofNat 32 (y 0 : ℕ) + 1#32).toInt : ℝ) : EReal) := by
    unfold k0_pay7; pointwise; rfl
  rw [this, h]
  refine congrArg Real.toEReal ?_
  unfold blockOf
  push_cast [Nat.cast_sub (show (i 0 : ℕ) ≤ 31 by omega)]
  ring

theorem count0 (i : grid0.Coords) : k0_pay8 (F := Ideal) i = lift2 (φ := .f32) fun r _ => count 0 (256 * blockOf i + r) := by
  unfold k0_pay8; rw [place]; funext y
  refine (congrArg (min _) ofBits_2).trans ((EReal.coe_strictMono.monotone.map_min (a := _) (b := _)).symm.trans (congrArg Real.toEReal ?_))
  simp [count, wide]
theorem count1 (i : grid0.Coords) : k0_pay9 (F := Ideal) i = lift2 (φ := .f32) fun r _ => count 1 (256 * blockOf i + r) := by
  unfold k0_pay9; rw [place]; funext y
  refine (congrArg (min _) ofBits_4).trans ((EReal.coe_strictMono.monotone.map_min (a := _) (b := _)).symm.trans (congrArg Real.toEReal ?_))
  simp [count, wide]
theorem count2 (i : grid0.Coords) : k0_pay10 (F := Ideal) i = lift2 (φ := .f32) fun r _ => count 2 (256 * blockOf i + r) := by
  unfold k0_pay10; rw [place]; funext y
  refine (congrArg (min _) ofBits_8).trans ((EReal.coe_strictMono.monotone.map_min (a := _) (b := _)).symm.trans (congrArg Real.toEReal ?_))
  simp [count, wide]
theorem count3 (i : grid0.Coords) : k0_pay11 (F := Ideal) i = lift2 (φ := .f32) fun r _ => count 3 (256 * blockOf i + r) := by
  unfold k0_pay11; rw [place]; funext y
  refine (congrArg (min _) ofBits_16).trans ((EReal.coe_strictMono.monotone.map_min (a := _) (b := _)).symm.trans (congrArg Real.toEReal ?_))
  simp [count, wide]

end Cert.WindowMix
-- ==== Proof.WindowHost.lean ====
/- The host's operations the pooling mixer's reference uses, on real arrays: running sums down the rows and up them, a
   window's sum as the difference of two running sums, the windows' counts, and groups of columns set apart and joined. -/
module

public import proofs.«01_k».proof.Proof.WindowMix
public import proofs.«01_k».proof.Proof.ReferenceForward

@[expose] public section

set_option maxRecDepth 16384

noncomputable section

namespace Cert.WindowMix

open Idealize.ShloMosaic Cert.FfnBlock Cert.Mixing

set_option backward.isDefEq.respectTransparency.types false

/-! ## Windows as differences of running sums -/

/-- A long sum minus the same sum begun `w` terms later, where the terms end within the long sum. -/
theorem telescope (a : ℕ → ℝ) (n w : ℕ) (h : ∀ k, a (n + k) = 0) :
    ∑ k ∈ Finset.range n, a k - ∑ k ∈ Finset.range n, a (w + k) = ∑ k ∈ Finset.range w, a k := by
  have e1 : ∑ k ∈ Finset.range (n + w), a k = ∑ k ∈ Finset.range n, a k := by
    rw [Finset.sum_range_add]; simp [h]
  have e2 : ∑ k ∈ Finset.range (w + n), a k = ∑ k ∈ Finset.range w, a k + ∑ k ∈ Finset.range n, a (w + k) :=
    Finset.sum_range_add _ _ _
  rw [← e1, Nat.add_comm n w, e2]; ring

theorem ext_of_out (u : Fin 8192 → Fin 512 → ℝ) {s : ℤ} (h : s < 0 ∨ 8192 ≤ s) (j : Fin 512) : ext u s j = 0 := by
  unfold ext
  exact dif_neg (by omega)

/-- The sum of the rows up to `t`, written over a window of 8192 rows. -/
def upTo (u : Fin 8192 → Fin 512 → ℝ) (t : ℤ) (j : Fin 512) : ℝ := ∑ k ∈ Finset.range 8192, ext u (t + (k : ℕ) - 8191) j
/-- The sum of the rows from `t` on, written over a window of 8192 rows. -/
def from' (u : Fin 8192 → Fin 512 → ℝ) (t : ℤ) (j : Fin 512) : ℝ := ∑ k ∈ Finset.range 8192, ext u (t + (k : ℕ)) j

theorem upTo_eq (u : Fin 8192 → Fin 512 → ℝ) (t : ℤ) (j : Fin 512) : upTo u t j = ∑ k ∈ Finset.range 8192, ext u (t - (k : ℕ)) j := by
  unfold upTo
  rw [← Finset.sum_range_reflect]
  refine Finset.sum_congr rfl fun k hk => congrArg (fun q => ext u q j) ?_
  have := Finset.mem_range.1 hk
  omega
theorem upTo_neg (u : Fin 8192 → Fin 512 → ℝ) {t : ℤ} (h : t < 0) (j : Fin 512) : upTo u t j = 0 := by
  rw [upTo_eq]
  exact Finset.sum_eq_zero fun k _ => ext_of_out u (by omega) j
theorem upTo_sub (u : Fin 8192 → Fin 512 → ℝ) (t : Fin 8192) (w : ℕ) (j : Fin 512) :
    upTo u (t : ℕ) j - upTo u ((t : ℕ) - (w : ℕ) : ℤ) j = ∑ k ∈ Finset.range w, ext u ((t : ℕ) - (k : ℕ) : ℤ) j := by
  rw [upTo_eq, upTo_eq, ← telescope (fun k => ext u ((t : ℕ) - (k : ℕ) : ℤ) j) 8192 w fun k => ext_of_out u (by push_cast; omega) j]
  refine congrArg (_ - ·) (Finset.sum_congr rfl fun k _ => congrArg (fun q => ext u q j) ?_)
  push_cast; omega

/-- Every row minus the row as far below it as its group's window is wide. -/
def ahead (e : Fin 8192 → Fin 512 → ℝ) (t : Fin 8192) (j : Fin 512) : ℝ := e t j - ext e ((t : ℕ) + (wide (grp j) : ℕ) : ℤ) j
theorem ahead_ext (e : Fin 8192 → Fin 512 → ℝ) (t : ℕ) (j : Fin 512) :
    ext (ahead e) (t : ℤ) j = ext e (t : ℤ) j - ext e ((wide (grp j) + t : ℕ) : ℤ) j := by
  by_cases h : t < 8192
  · have q := ext_nat (ahead e) ⟨t, h⟩ j
    have q' := ext_nat e ⟨t, h⟩ j
    simp only at q q'
    rw [q, q', ahead]
    have w : (((⟨t, h⟩ : Fin 8192) : ℕ) + (wide (grp j) : ℕ) : ℤ) = ((wide (grp j) + t : ℕ) : ℤ) := by push_cast; ring
    rw [w]
  · rw [ext_of_out _ (by omega), ext_of_out _ (by omega), ext_of_out _ (by omega), sub_zero]
theorem from_ahead (e : Fin 8192 → Fin 512 → ℝ) (t : Fin 8192) (j : Fin 512) :
    from' (ahead e) (t : ℕ) j = ∑ k ∈ Finset.range (wide (grp j)), ext e ((t : ℕ) + (k : ℕ) : ℤ) j := by
  have hz : ∀ k : ℕ, ext e ((t : ℕ) + ((8192 + k : ℕ) : ℤ)) j = 0 := fun k => ext_of_out e (by omega) j
  rw [← telescope (fun k => ext e ((t : ℕ) + (k : ℕ) : ℤ) j) 8192 (wide (grp j)) hz, ← Finset.sum_sub_distrib]
  refine Finset.sum_congr rfl fun k _ => ?_
  have h := ahead_ext e (t + k) j
  have e1 : (((t : ℕ) + k : ℕ) : ℤ) = ((t : ℕ) : ℤ) + (k : ℤ) := by push_cast; rfl
  have e2 : ((wide (grp j) + ((t : ℕ) + k) : ℕ) : ℤ) = ((t : ℕ) : ℤ) + ((wide (grp j) + k : ℕ) : ℤ) := by push_cast; ring
  rw [e1, e2] at h
  exact h

/-! ## Running sums -/

theorem fold_sum {n : ℕ} (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

theorem window_term (u : Fin 8192 → Fin 512 → ℝ) (lo : ℕ) (P : Fin 2 → ℕ) (j : Fin 512) (hj : P 1 = j) (v : EReal) (hv : v = 0)
    {dec : Decidable (∀ a : Fin 2, (![lo, 0] : Fin 2 → ℕ) a ≤ P a ∧ P a - (![lo, 0] : Fin 2 → ℕ) a < (![8192, 512] : Fin 2 → ℕ) a)} :
    (if hin : ∀ a : Fin 2, (![lo, 0] : Fin 2 → ℕ) a ≤ P a ∧ P a - (![lo, 0] : Fin 2 → ℕ) a < (![8192, 512] : Fin 2 → ℕ) a then
      (lift2 (φ := .f32) u (fun a => ⟨P a - (![lo, 0] : Fin 2 → ℕ) a, (hin a).2⟩) : EReal) else v)
      = ((ext u ((P 0 : ℕ) - (lo : ℕ) : ℤ) j : ℝ) : EReal) := by
  by_cases h : lo ≤ P 0 ∧ P 0 - lo < 8192
  · have hin : ∀ a : Fin 2, (![lo, 0] : Fin 2 → ℕ) a ≤ P a ∧ P a - (![lo, 0] : Fin 2 → ℕ) a < (![8192, 512] : Fin 2 → ℕ) a := by
      intro a
      fin_cases a
      · exact h
      · exact ⟨Nat.zero_le _, by show P 1 - 0 < 512; rw [hj]; exact j.isLt⟩
    have e := ext_nat u ⟨P 0 - lo, h.2⟩ j
    have w : (((⟨P 0 - lo, h.2⟩ : Fin 8192) : ℕ) : ℤ) = (P 0 : ℤ) - (lo : ℤ) := by show ((P 0 - lo : ℕ) : ℤ) = _; omega
    rw [w] at e
    rw [dif_pos hin, e]
    exact congrArg Real.toEReal (congrArg (u _) (Fin.ext (by show P 1 - 0 = (j : ℕ); omega)))
  · rw [dif_neg fun q => h (q 0), ext_of_out u (by omega), hv]
    rfl
theorem window_sums {lo hi : ℕ} (u : Fin 8192 → Fin 512 → ℝ) (z : FVec Ideal ⟨0, ![]⟩ .f32) (h) (hu) (hz : z (Shape.Idx.first hu) = ((0 : ℝ) : EReal)) :
    Host.reduceWindowAdd (t := ⟨2, ![8192, 512]⟩) ![8192, 1] ![1, 1] ![lo, 0] ![hi, 0] (lift2 (φ := .f32) u) z h hu
      = lift2 (φ := .f32) fun t j => ∑ k ∈ Finset.range 8192, ext u ((t : ℕ) + (k : ℕ) - (lo : ℕ) : ℤ) j := by
  funext i
  unfold Host.reduceWindowAdd
  rw [Ideal.hostReduceWindowAdd_def, hz]
  unfold Ideal.hostReduceWindowAdd Host.reduceWindow
  refine (fold_sum _ _).trans ?_
  rw [EReal.coe_zero, zero_add]
  refine Eq.trans (b := ∑ y : (⟨2, ![8192, 1]⟩ : Shape).Idx, ((ext u ((i 0 : ℕ) + (y 0 : ℕ) - (lo : ℕ) : ℤ) (i 1) : ℝ) : EReal)) ?_ ?_
  · rw [← Equiv.sum_comp (⟨2, ![8192, 1]⟩ : Shape).rowMajor.symm]
    refine Finset.sum_congr rfl fun k _ => ?_
    have hj : ((i 1 : Fin 512) : ℕ) * 1 + (((⟨2, ![8192, 1]⟩ : Shape).rowMajor.symm k 1 : Fin 1) : ℕ) = ((i 1 : Fin 512) : ℕ) := by
      have := ((⟨2, ![8192, 1]⟩ : Shape).rowMajor.symm k 1 : Fin 1).isLt
      rw [Nat.mul_one, Nat.lt_one_iff.1 this, Nat.add_zero]
    refine Eq.trans (window_term u lo (fun a => (i a : ℕ) * (![1, 1] : Fin 2 → ℕ) a + ((⟨2, ![8192, 1]⟩ : Shape).rowMajor.symm k a : ℕ)) (i 1) hj _ rfl) ?_
    refine congrArg (fun q : ℤ => ((ext u (q - (lo : ℤ)) (i 1) : ℝ) : EReal)) ?_
    show (((i 0 : ℕ) * 1 + ((⟨2, ![8192, 1]⟩ : Shape).rowMajor.symm k 0 : ℕ) : ℕ) : ℤ) = _
    push_cast
    rw [mul_one]
  · rw [ValueIdx.sum_idx2]
    simp only [Finset.univ_unique, Finset.sum_singleton]
    rw [coe_sum]
    exact congrArg Real.toEReal (Finset.sum_range fun k : ℕ => ext u ((i 0 : ℕ) + (k : ℕ) - (lo : ℕ) : ℤ) (i 1)).symm

/-- A running sum minus the running sum `w` rows above it. -/
theorem lag_diff (u : Fin 8192 → Fin 512 → ℝ) (t : Fin 8192) (w : ℕ) (j : Fin 512) :
    upTo u (t : ℕ) j - (if h : (t : ℕ) < w then 0 else upTo u (((t : ℕ) - w : ℕ) : ℤ) j) = ∑ k ∈ Finset.range w, ext u ((t : ℕ) - (k : ℕ) : ℤ) j := by
  rw [← upTo_sub u t w j]
  by_cases h : (t : ℕ) < w
  · rw [dif_pos h, upTo_neg u (t := ((t : ℕ) : ℤ) - (w : ℤ)) (by omega)]
  · rw [dif_neg h, Nat.cast_sub (by omega)]
/-- A row plus the negated row below it. -/
theorem lead_sum (e : Fin 8192 → Fin 512 → ℝ) (t : Fin 8192) (w n : ℕ) (hn : n + w = 8192) (j : Fin 512) (hw : wide (grp j) = w) :
    e t j + (if h : (t : ℕ) < n then - e ⟨w + t, by omega⟩ j else 0) = ahead e t j := by
  unfold ahead
  rw [hw, sub_eq_add_neg]
  by_cases h : (t : ℕ) < n
  · have q := ext_nat e ⟨w + t, by omega⟩ j
    simp only at q
    rw [dif_pos h, ← q]
    refine congrArg (fun r : ℤ => e t j + -ext e r j) ?_
    push_cast; omega
  · rw [dif_neg h, ext_of_out e (by omega), neg_zero]

/-! ## The counts -/

theorem word_2 : ∀ t : Fin 8192, (IntOp.minsi (BitVec.ofNat 32 (t : ℕ) + 1#32) 2#32).toInt = ((min ((t : ℕ) + 1) 2 : ℕ) : ℤ) := by decide +kernel
theorem word_4 : ∀ t : Fin 8192, (IntOp.minsi (BitVec.ofNat 32 (t : ℕ) + 1#32) 4#32).toInt = ((min ((t : ℕ) + 1) 4 : ℕ) : ℤ) := by decide +kernel
theorem word_8 : ∀ t : Fin 8192, (IntOp.minsi (BitVec.ofNat 32 (t : ℕ) + 1#32) 8#32).toInt = ((min ((t : ℕ) + 1) 8 : ℕ) : ℤ) := by decide +kernel
theorem word_16 : ∀ t : Fin 8192, (IntOp.minsi (BitVec.ofNat 32 (t : ℕ) + 1#32) 16#32).toInt = ((min ((t : ℕ) + 1) 16 : ℕ) : ℤ) := by decide +kernel
theorem count_2 (t : Fin 8192) : (FloatOps.sitofp (F := Ideal) .f32 (IntOp.minsi (BitVec.ofNat 32 (t : ℕ) + 1#32) 2#32) : EReal) = ((count 0 t : ℝ) : EReal) := by
  show (((IntOp.minsi (BitVec.ofNat 32 (t : ℕ) + 1#32) 2#32).toInt : ℝ) : EReal) = _
  rw [word_2, count]
  push_cast
  norm_num [wide]
theorem count_4 (t : Fin 8192) : (FloatOps.sitofp (F := Ideal) .f32 (IntOp.minsi (BitVec.ofNat 32 (t : ℕ) + 1#32) 4#32) : EReal) = ((count 1 t : ℝ) : EReal) := by
  show (((IntOp.minsi (BitVec.ofNat 32 (t : ℕ) + 1#32) 4#32).toInt : ℝ) : EReal) = _
  rw [word_4, count]
  push_cast
  norm_num [wide]
theorem count_8 (t : Fin 8192) : (FloatOps.sitofp (F := Ideal) .f32 (IntOp.minsi (BitVec.ofNat 32 (t : ℕ) + 1#32) 8#32) : EReal) = ((count 2 t : ℝ) : EReal) := by
  show (((IntOp.minsi (BitVec.ofNat 32 (t : ℕ) + 1#32) 8#32).toInt : ℝ) : EReal) = _
  rw [word_8, count]
  push_cast
  norm_num [wide]
theorem count_16 (t : Fin 8192) : (FloatOps.sitofp (F := Ideal) .f32 (IntOp.minsi (BitVec.ofNat 32 (t : ℕ) + 1#32) 16#32) : EReal) = ((count 3 t : ℝ) : EReal) := by
  show (((IntOp.minsi (BitVec.ofNat 32 (t : ℕ) + 1#32) 16#32).toInt : ℝ) : EReal) = _
  rw [word_16, count]
  push_cast
  norm_num [wide]

/-! ## Rows moved down and up -/

theorem lag_2 (x : Fin 8192 → Fin 128 → ℝ) {z : FVec Ideal ⟨2, ![2, 128]⟩ .f32} {y : FVec Ideal ⟨2, ![8190, 128]⟩ .f32}
    (hz : z = lift2 (φ := .f32) fun _ _ => 0) (hy : y = lift2 (φ := .f32) fun t j => x ⟨t, by omega⟩ j) (h) :
    concatenate (⟨2, ![8192, 128]⟩ : Shape) 0 [⟨⟨2, ![2, 128]⟩, z⟩, ⟨⟨2, ![8190, 128]⟩, y⟩] h
      = lift2 (φ := .f32) fun t j => if h : (t : ℕ) < 2 then 0 else x ⟨t - 2, by omega⟩ j := by
  subst hz hy; funext i; pointwise [lift2]
  split_ifs <;> rfl
theorem lead_2 (x : Fin 8190 → Fin 128 → ℝ) (h) (hu) :
    pad (⟨2, ![8192, 128]⟩ : Shape) ![0, 0] ![2, 0] ![0, 0] (lift2 (φ := .f32) x) (constant (F := Ideal) ⟨0, ![]⟩ .f32 0x00000000#32) h hu
      = lift2 (φ := .f32) fun t j => if h : (t : ℕ) < 8190 then x ⟨t, h⟩ j else 0 := by
  funext i
  pointwise [lift2]
  split_ifs <;> rfl
theorem lag_4 (x : Fin 8192 → Fin 128 → ℝ) {z : FVec Ideal ⟨2, ![4, 128]⟩ .f32} {y : FVec Ideal ⟨2, ![8188, 128]⟩ .f32}
    (hz : z = lift2 (φ := .f32) fun _ _ => 0) (hy : y = lift2 (φ := .f32) fun t j => x ⟨t, by omega⟩ j) (h) :
    concatenate (⟨2, ![8192, 128]⟩ : Shape) 0 [⟨⟨2, ![4, 128]⟩, z⟩, ⟨⟨2, ![8188, 128]⟩, y⟩] h
      = lift2 (φ := .f32) fun t j => if h : (t : ℕ) < 4 then 0 else x ⟨t - 4, by omega⟩ j := by
  subst hz hy; funext i; pointwise [lift2]
  split_ifs <;> rfl
theorem lead_4 (x : Fin 8188 → Fin 128 → ℝ) (h) (hu) :
    pad (⟨2, ![8192, 128]⟩ : Shape) ![0, 0] ![4, 0] ![0, 0] (lift2 (φ := .f32) x) (constant (F := Ideal) ⟨0, ![]⟩ .f32 0x00000000#32) h hu
      = lift2 (φ := .f32) fun t j => if h : (t : ℕ) < 8188 then x ⟨t, h⟩ j else 0 := by
  funext i
  pointwise [lift2]
  split_ifs <;> rfl
theorem lag_8 (x : Fin 8192 → Fin 128 → ℝ) {z : FVec Ideal ⟨2, ![8, 128]⟩ .f32} {y : FVec Ideal ⟨2, ![8184, 128]⟩ .f32}
    (hz : z = lift2 (φ := .f32) fun _ _ => 0) (hy : y = lift2 (φ := .f32) fun t j => x ⟨t, by omega⟩ j) (h) :
    concatenate (⟨2, ![8192, 128]⟩ : Shape) 0 [⟨⟨2, ![8, 128]⟩, z⟩, ⟨⟨2, ![8184, 128]⟩, y⟩] h
      = lift2 (φ := .f32) fun t j => if h : (t : ℕ) < 8 then 0 else x ⟨t - 8, by omega⟩ j := by
  subst hz hy; funext i; pointwise [lift2]
  split_ifs <;> rfl
theorem lead_8 (x : Fin 8184 → Fin 128 → ℝ) (h) (hu) :
    pad (⟨2, ![8192, 128]⟩ : Shape) ![0, 0] ![8, 0] ![0, 0] (lift2 (φ := .f32) x) (constant (F := Ideal) ⟨0, ![]⟩ .f32 0x00000000#32) h hu
      = lift2 (φ := .f32) fun t j => if h : (t : ℕ) < 8184 then x ⟨t, h⟩ j else 0 := by
  funext i
  pointwise [lift2]
  split_ifs <;> rfl
theorem lag_16 (x : Fin 8192 → Fin 128 → ℝ) {z : FVec Ideal ⟨2, ![16, 128]⟩ .f32} {y : FVec Ideal ⟨2, ![8176, 128]⟩ .f32}
    (hz : z = lift2 (φ := .f32) fun _ _ => 0) (hy : y = lift2 (φ := .f32) fun t j => x ⟨t, by omega⟩ j) (h) :
    concatenate (⟨2, ![8192, 128]⟩ : Shape) 0 [⟨⟨2, ![16, 128]⟩, z⟩, ⟨⟨2, ![8176, 128]⟩, y⟩] h
      = lift2 (φ := .f32) fun t j => if h : (t : ℕ) < 16 then 0 else x ⟨t - 16, by omega⟩ j := by
  subst hz hy; funext i; pointwise [lift2]
  split_ifs <;> rfl
theorem lead_16 (x : Fin 8176 → Fin 128 → ℝ) (h) (hu) :
    pad (⟨2, ![8192, 128]⟩ : Shape) ![0, 0] ![16, 0] ![0, 0] (lift2 (φ := .f32) x) (constant (F := Ideal) ⟨0, ![]⟩ .f32 0x00000000#32) h hu
      = lift2 (φ := .f32) fun t j => if h : (t : ℕ) < 8176 then x ⟨t, h⟩ j else 0 := by
  funext i
  pointwise [lift2]
  split_ifs <;> rfl

/-! ## Groups of columns -/

/-- One group's columns, zeros elsewhere. -/
def only (g : Fin 4) (x : Fin 8192 → Fin 128 → ℝ) (t : Fin 8192) (j : Fin 512) : ℝ := if grp j = g then x t (plc j) else 0
theorem only_sum (f : Fin 8192 → Fin 512 → ℝ) (t : Fin 8192) (j : Fin 512) :
    only 3 (fun t c => f t (at4 3 c)) t j + only 2 (fun t c => f t (at4 2 c)) t j + only 1 (fun t c => f t (at4 1 c)) t j + only 0 (fun t c => f t (at4 0 c)) t j = f t j := by
  have e := at4_grp j
  unfold only
  generalize grp j = g at e ⊢
  fin_cases g <;> simp at e ⊢ <;> rw [e]
theorem pick_col (g : Fin 4) (x : Fin 8192 → Fin 128 → ℝ) (t : Fin 8192) (j : Fin 512) (lo : ℕ) (hlo : lo = 128 * g) :
    (if h : lo ≤ (j : ℕ) ∧ (j : ℕ) - lo < 128 then ((x t ⟨(j : ℕ) - lo, h.2⟩ : ℝ) : EReal) else 0) = ((only g x t j : ℝ) : EReal) := by
  subst hlo
  unfold only
  by_cases h : grp j = g
  · have e : (j : ℕ) / 128 = g := congrArg Fin.val h
    rw [if_pos h, dif_pos (by omega)]
    exact congrArg Real.toEReal (congrArg (x t) (Fin.ext (by show (j : ℕ) - 128 * g = j % 128; omega)))
  · rw [if_neg h, dif_neg fun q => h (Fin.ext (by show (j : ℕ) / 128 = g; omega))]
    rfl
theorem pad_0 (x : Fin 8192 → Fin 128 → ℝ) (h) (hu) :
    pad (⟨2, ![8192, 512]⟩ : Shape) ![0, 0] ![0, 384] ![0, 0] (lift2 (φ := .f32) x) (constant (F := Ideal) ⟨0, ![]⟩ .f32 0x00000000#32) h hu
      = lift2 (φ := .f32) (only 0 x) := by
  funext i
  pointwise [lift2]
  refine Eq.trans ?_ (pick_col 0 x (i 0) (i 1) 0 rfl)
  have e : (0 ≤ ((i 1 : Fin 512) : ℕ) ∧ ((i 1 : Fin 512) : ℕ) - 0 < 128) ↔ ((i 1 : Fin 512) : ℕ) < 128 := by omega
  by_cases h : ((i 1 : Fin 512) : ℕ) < 128
  · rw [dif_pos h, dif_pos (e.2 h)]; rfl
  · rw [dif_neg h, dif_neg fun q => h (e.1 q)]
theorem pad_1 (x : Fin 8192 → Fin 128 → ℝ) (h) (hu) :
    pad (⟨2, ![8192, 512]⟩ : Shape) ![0, 128] ![0, 256] ![0, 0] (lift2 (φ := .f32) x) (constant (F := Ideal) ⟨0, ![]⟩ .f32 0x00000000#32) h hu
      = lift2 (φ := .f32) (only 1 x) := by
  funext i
  pointwise [lift2]
  exact pick_col 1 x (i 0) (i 1) 128 rfl
theorem pad_2 (x : Fin 8192 → Fin 128 → ℝ) (h) (hu) :
    pad (⟨2, ![8192, 512]⟩ : Shape) ![0, 256] ![0, 128] ![0, 0] (lift2 (φ := .f32) x) (constant (F := Ideal) ⟨0, ![]⟩ .f32 0x00000000#32) h hu
      = lift2 (φ := .f32) (only 2 x) := by
  funext i
  pointwise [lift2]
  exact pick_col 2 x (i 0) (i 1) 256 rfl
theorem pad_3 (x : Fin 8192 → Fin 128 → ℝ) (h) (hu) :
    pad (⟨2, ![8192, 512]⟩ : Shape) ![0, 384] ![0, 0] ![0, 0] (lift2 (φ := .f32) x) (constant (F := Ideal) ⟨0, ![]⟩ .f32 0x00000000#32) h hu
      = lift2 (φ := .f32) (only 3 x) := by
  funext i
  pointwise [lift2]
  exact pick_col 3 x (i 0) (i 1) 384 rfl

theorem stack_of (f : Fin 8192 → Fin 512 → ℝ) {a0 a1 a2 a3 : FVec Ideal ⟨3, ![8192, 1, 128]⟩ .f32}
    (h0 : a0 = lift3 (φ := .f32) fun t _ c => f t (at4 0 c)) (h1 : a1 = lift3 (φ := .f32) fun t _ c => f t (at4 1 c))
    (h2 : a2 = lift3 (φ := .f32) fun t _ c => f t (at4 2 c)) (h3 : a3 = lift3 (φ := .f32) fun t _ c => f t (at4 3 c)) (h) :
    concatenate (⟨3, ![8192, 4, 128]⟩ : Shape) 1 [⟨⟨3, ![8192, 1, 128]⟩, a0⟩, ⟨⟨3, ![8192, 1, 128]⟩, a1⟩, ⟨⟨3, ![8192, 1, 128]⟩, a2⟩, ⟨⟨3, ![8192, 1, 128]⟩, a3⟩] h
      = lift3 (φ := .f32) fun t g c => f t (at4 g c) := by
  subst h0 h1 h2 h3; funext i; pointwise [lift3]
  obtain ⟨g, hg⟩ : ∃ g : Fin 4, g = i 1 := ⟨_, rfl⟩
  rw [← hg]
  fin_cases g <;> rfl

theorem flat_groups (X : Fin 8192 → Fin 4 → Fin 128 → ℝ) (h) :
    shapeCast ⟨2, ![8192, 512]⟩ (lift3 (φ := .f32) X) h = lift2 (φ := .f32) fun t j => X t (grp j) (plc j) := by
  funext i; pointwise [lift2, lift3]; rfl
theorem group_cols (X : Fin 8192 → Fin 512 → ℝ) (h) :
    shapeCast ⟨3, ![8192, 4, 128]⟩ (lift2 (φ := .f32) X) h = lift3 (φ := .f32) fun t g c => X t (at4 g c) := by
  funext i; pointwise [lift2, lift3]
  exact congrArg Real.toEReal (congrArg (X (i 0)) (Fin.ext (by simp [at4, Nat.mul_comm])))
theorem drop_one (X : Fin 8192 → Fin 1 → Fin 128 → ℝ) (h) :
    shapeCast ⟨2, ![8192, 128]⟩ (lift3 (φ := .f32) X) h = lift2 (φ := .f32) fun t c => X t 0 c := by
  funext i; pointwise [lift2, lift3]
theorem line_row (x : Fin 512 → ℝ) (h) : shapeCast (⟨2, ![1, 512]⟩ : Shape) (lift1 (φ := .f32) x) h = lift2 (φ := .f32) fun _ j => x j := as_row x h

end Cert.WindowMix
-- ==== Proof.WindowMixBlock.lean ====
/- One block of 256 rows of the causal pooling mixer's backward kernel: what each value of its body is, and what the body
   leaves in its three outputs and in the sixteen rows it carries to the next block. -/
module

public import proofs.«01_k».proof.Proof.WindowMix
public import proofs.«01_k».proof.Proof.Gen.Kernel6Ideal.Frame
public import Idealize.ShloMosaic.Lib.Pipeline.ReadBack
public import Idealize.ShloMosaic.Lib.Pointwise

@[expose] public section

set_option maxRecDepth 16384

noncomputable section

namespace Cert.WindowMix

open Idealize.ShloMosaic Cert.Kernel6Ideal Cert.Kernel6Ideal.Gen Cert.FfnBlock Cert.Mixing Idealize.ShloMosaic.TcCoe

set_option backward.isDefEq.respectTransparency.types false

/-! ## Pieces of columns -/

variable {φ : FTy}

theorem piece {a r q : ℕ} (g : Fin 4) (x : Fin a → Fin 512 → ℝ) (hq : 128 * (g : ℕ) = q) (h : (⟨2, ![a, 512]⟩ : Shape).Slices ![r, q] ⟨2, ![256, 128]⟩) :
    extractStridedSlice (⟨2, ![256, 128]⟩ : Shape) ![r, q] (lift2 (φ := φ) x) h
      = lift2 fun i c => x ⟨r + i, Nat.lt_of_lt_of_le (Nat.add_lt_add_left i.isLt _) (h.2 0)⟩ (at4 g c) := by
  subst hq; rfl
theorem piece_low {q : ℕ} (g : Fin 4) (x : Fin 256 → Fin 512 → ℝ) (hq : 128 * (g : ℕ) = q) (h : (⟨2, ![256, 512]⟩ : Shape).Slices ![0, q] ⟨2, ![256, 128]⟩) :
    extractStridedSlice (⟨2, ![256, 128]⟩ : Shape) ![0, q] (lift2 (φ := φ) x) h = lift2 fun i c => x i (at4 g c) := by
  rw [piece g x hq h]
  refine congrArg lift2 (funext fun i => funext fun c => ?_)
  exact congrArg (fun r => x r (at4 g c)) (Fin.ext (Nat.zero_add _))

/-! ## The body's values -/

/-- The rows above the block: zeros above the first block. -/
def halo (p : ℕ) (h : Fin 16 → Fin 512 → ℝ) (r : Fin 16) (j : Fin 512) : ℝ := if p = 0 then 0 else h r j
/-- The sums over the four windows, each ending at its row. -/
def near (U : Fin 272 → Fin 512 → ℝ) : Fin 4 → Fin 272 → Fin 512 → ℝ :=
  ![turned 1 U, turned 2 (turned 1 U), turned 4 (turned 2 (turned 1 U)), turned 8 (turned 4 (turned 2 (turned 1 U)))]
/-- The sums over the four windows, each beginning at its row. -/
def later (U : Fin 272 → Fin 512 → ℝ) : Fin 4 → Fin 272 → Fin 512 → ℝ :=
  ![turned 271 U, turned 270 (turned 271 U), turned 268 (turned 270 (turned 271 U)), turned 264 (turned 268 (turned 270 (turned 271 U)))]
/-- The block's window means minus its rows. -/
def diff (p : ℕ) (h : Fin 16 → Fin 512 → ℝ) (x : Fin 256 → Fin 512 → ℝ) (r : Fin 256) (j : Fin 512) : ℝ :=
  near (under (halo p h) x) (grp j) ⟨16 + r, by omega⟩ j / count (grp j) (256 * p + r) - x r j
/-- The block's gradient of the window means, over the counts. -/
def share (p : ℕ) (P : Fin 4 → Fin 128 → Fin 128 → ℝ) (S : Fin 512 → ℝ) (t : Fin 256 → Fin 512 → ℝ) (r : Fin 256) (j : Fin 512) : ℝ :=
  deltaGrad P S (t r) j / count (grp j) (256 * p + r)
/-- The block's gradient of the input. -/
def blockIn (p : ℕ) (P : Fin 4 → Fin 128 → Fin 128 → ℝ) (S : Fin 512 → ℝ) (t : Fin 256 → Fin 512 → ℝ) (k : Fin 16 → Fin 512 → ℝ) (r : Fin 256) (j : Fin 512) : ℝ :=
  later (over (share p P S t) k) (grp j) ⟨r, by omega⟩ j - deltaGrad P S (t r) j
/-- The rows the block hands on. -/
def hand (p : ℕ) (P : Fin 4 → Fin 128 → Fin 128 → ℝ) (S : Fin 512 → ℝ) (t : Fin 256 → Fin 512 → ℝ) (r : Fin 16) (j : Fin 512) : ℝ :=
  share p P S t ⟨r, by omega⟩ j

variable (i : grid0.Coords) (x t : Fin 256 → Fin 512 → ℝ) (h k : Fin 16 → Fin 512 → ℝ) (P : Fin 4 → Fin 128 → Fin 128 → ℝ) (S : Fin 512 → ℝ)

theorem pick : Scalar.select (Scalar.cmpi .sgt (Scalar.subi 31#32 (BitVec.ofNat 32 (i 0).val)) 0#32) (lift2 (φ := .f32) h)
    (broadcast S16x512 (Scalar.ofBits .f32 0x00000000#32) : FVec Ideal S16x512 .f32) = lift2 (φ := .f32) (halo (blockOf i) h) := by
  rw [cst_zero]
  have hp : (i 0 : ℕ) < 32 := (i 0).isLt
  have hb : ∀ q : Fin 32, (Scalar.cmpi .sgt (Scalar.subi 31#32 (BitVec.ofNat 32 (q : ℕ))) 0#32 = 1#1) ↔ ¬ (31 - (q : ℕ) = 0) := by decide
  have hb' := hb ⟨(i 0 : ℕ), hp⟩
  unfold Scalar.select halo blockOf
  by_cases e : 31 - (i 0 : ℕ) = 0
  · refine (if_neg (fun hh => (hb'.1 hh) e)).trans ?_
    simp only [e, if_true]
  · refine (if_pos (hb'.2 e)).trans ?_
    simp only [e, if_false]

theorem sums0 : k0_pay12 i (lift2 (φ := .f32) x) (lift2 (φ := .f32) h) = lift2 (φ := .f32) (near (under (halo (blockOf i) h) x) 0) := by
  unfold k0_pay12
  exact (congrArg (fun q : FVec Ideal S272x512 .f32 => addf q (dynamicRotate 0 1#32 none q rotates_S272x512_d0)) (concat_under _ _ (pick i h) _)).trans
    (turn 1#32 (by decide) (under (halo (blockOf i) h) x) _)
theorem sums1 : k0_pay13 i (lift2 (φ := .f32) x) (lift2 (φ := .f32) h) = lift2 (φ := .f32) (near (under (halo (blockOf i) h) x) 1) := by
  unfold k0_pay13
  simp only [sums0]
  exact turn 2#32 (by decide) _ _
theorem sums2 : k0_pay14 i (lift2 (φ := .f32) x) (lift2 (φ := .f32) h) = lift2 (φ := .f32) (near (under (halo (blockOf i) h) x) 2) := by
  unfold k0_pay14
  simp only [sums1]
  exact turn 4#32 (by decide) _ _
theorem sums3 : k0_pay15 i (lift2 (φ := .f32) x) (lift2 (φ := .f32) h) = lift2 (φ := .f32) (near (under (halo (blockOf i) h) x) 3) := by
  unfold k0_pay15
  simp only [sums2]
  exact turn 8#32 (by decide) _ _

/-- A group's columns of the differences. -/
theorem diff_at (p : ℕ) (g : Fin 4) (r : Fin 256) (c : Fin 128) :
    near (under (halo p h) x) g ⟨16 + r, by omega⟩ (at4 g c) / count g (256 * p + r) - x r (at4 g c) = diff p h x r (at4 g c) := by
  unfold diff; rw [grp_at4]

theorem divf_count (g : Fin 4) (p : ℕ) (y : Fin 256 → Fin 128 → ℝ) :
    divf (lift2 (φ := .f32) y) (lift2 fun r _ => count g (256 * p + r)) = lift2 fun r c => y r c / count g (256 * p + r) :=
  divf_lift2 _ _ fun _ _ => count_ne _ _

theorem diff_piece (g : Fin 4) {q : ℕ} (hq : 128 * (g : ℕ) = q) (p : ℕ) (e e2 e3) :
    subf (divf (extractStridedSlice S256x128 ![16, q] (lift2 (φ := .f32) (near (under (halo p h) x) g) : FVec Ideal S272x512 .f32) e)
        (broadcastTo S256x128 (lift2 (φ := .f32) fun (r : Fin 256) (_ : Fin 1) => count g (256 * p + r)) e2))
      (extractStridedSlice S256x128 ![0, q] (lift2 (φ := .f32) x : FVec Ideal S256x512 .f32) e3)
    = lift2 (φ := .f32) fun r c => diff p h x r (at4 g c) :=
  (congrArg₂ subf ((congrArg₂ divf (piece g _ hq e) (cols256 _ e2)).trans (divf_count g p _)) (piece_low g x hq e3)).trans
    ((subf_lift2 _ _).trans (congrArg lift2 (funext fun r => funext fun c => diff_at x h p g r c)))

theorem diff0 : k0_pay16 i (lift2 (φ := .f32) x) (lift2 (φ := .f32) h) = lift2 (φ := .f32) fun r c => diff (blockOf i) h x r (at4 0 c) := by
  unfold k0_pay16
  simp only [sums0, count0]
  exact diff_piece x h 0 rfl _ _ _ _
theorem diff1 : k0_pay18 (lift2 (φ := .f32) x) (k0_pay9 i) (k0_pay17 i (lift2 (φ := .f32) x) (lift2 (φ := .f32) h)) = lift2 (φ := .f32) fun r c => diff (blockOf i) h x r (at4 1 c) := by
  unfold k0_pay18 k0_pay17
  simp only [sums1, count1]
  exact diff_piece x h 1 rfl _ _ _ _
theorem diff2 : k0_pay19 (lift2 (φ := .f32) x) (k0_pay10 i) (k0_pay14 i (lift2 (φ := .f32) x) (lift2 (φ := .f32) h)) = lift2 (φ := .f32) fun r c => diff (blockOf i) h x r (at4 2 c) := by
  unfold k0_pay19
  simp only [sums2, count2]
  exact diff_piece x h 2 rfl _ _ _ _
theorem diff3 : k0_pay20 (lift2 (φ := .f32) x) (k0_pay11 i) (k0_pay15 i (lift2 (φ := .f32) x) (lift2 (φ := .f32) h)) = lift2 (φ := .f32) fun r c => diff (blockOf i) h x r (at4 3 c) := by
  unfold k0_pay20
  simp only [sums3, count3]
  exact diff_piece x h 3 rfl _ _ _ _

theorem mixed_at (d : Fin 512 → ℝ) (g : Fin 4) (c : Fin 128) : mixed P d (at4 g c) = ∑ q, d (at4 g q) * P g q c := by
  simp only [mixed, grp_at4, plc_at4]
theorem deltaGrad_at (d : Fin 512 → ℝ) (g : Fin 4) (c : Fin 128) : deltaGrad P S d (at4 g c) = ∑ q, d (at4 g q) * S (at4 g q) * P g c q := by
  simp only [deltaGrad, grp_at4, plc_at4]

/-- The gradient times the group's products. -/
theorem scale_terms : k0_pay22 (lift2 (φ := .f32) x) (k0_pay9 i) (k0_pay10 i) (k0_pay11 i)
      (k0_pay14 i (lift2 (φ := .f32) x) (lift2 (φ := .f32) h)) (k0_pay15 i (lift2 (φ := .f32) x) (lift2 (φ := .f32) h)) (k0_pay16 i (lift2 (φ := .f32) x) (lift2 (φ := .f32) h))
      (k0_pay17 i (lift2 (φ := .f32) x) (lift2 (φ := .f32) h)) (lift2 (φ := .f32) t) (lift3 (φ := .f32) fun _ => P 0) (lift3 (φ := .f32) fun _ => P 1) (lift3 (φ := .f32) fun _ => P 2) (lift3 (φ := .f32) fun _ => P 3)
    = lift2 (φ := .f32) fun r j => t r j * mixed P (diff (blockOf i) h x r) j := by
  unfold k0_pay22
  refine (congrArg (mulf _) (concat_of (fun r j => mixed P (diff (blockOf i) h x r) j) ?_ ?_ ?_ ?_ _)).trans (mulf_lift2 _ _)
    <;> simp only [diff0, diff1, diff2, diff3, drop_slot, truncf_lift2, constant_lift2, prodA, mixed_at]

/-- The sums down the block's columns added to a row. -/
theorem scale_sum (z : Fin 1 → Fin 512 → ℝ) (y : Fin 256 → Fin 512 → ℝ) :
    k0_pay23 (k0_pay21 (lift2 (φ := .f32) z)) (lift2 (φ := .f32) y) = lift2 (φ := .f32) fun u j => z u j + ∑ r, y r j := by
  have e : ∀ (h h2 h3 h4), (shapeCast S1x512 (multiReduction .add [0] S512 (lift2 (φ := .f32) y) 0x00000000#32 h h2 h3) h4 : FVec Ideal S1x512 .f32)
      = lift2 (φ := .f32) fun _ j => ∑ r, y r j := by
    intro h h2 h3 h4; funext i; pointwise [lift2]; rw [coe_sum]
  unfold k0_pay23 k0_pay21
  exact (congrArg₂ addf (cast_same z _) (e _ _ _ _)).trans (addf_lift2 _ _)

theorem scaled : k0_pay24 (lift2 (φ := .f32) t) (lift2 (φ := .f32) fun _ : Fin 1 => S) = lift2 (φ := .bf16) fun r j => t r j * S j := by
  simp only [k0_pay24, cast_same, rows256, mulf_lift2, truncf_lift2]
theorem scaled0 : k0_pay25 (lift2 (φ := .f32) t) (lift2 (φ := .f32) fun _ : Fin 1 => S) = lift2 (φ := .bf16) fun r c => t r (at4 0 c) * S (at4 0 c) := by
  unfold k0_pay25; dsimp only; rw [scaled, piece_low (q := 0) 0 _ rfl]
theorem scaled1 : k0_pay28 (lift2 (φ := .f32) t) (lift2 (φ := .f32) fun _ : Fin 1 => S) = lift2 (φ := .bf16) fun r c => t r (at4 1 c) * S (at4 1 c) := by
  unfold k0_pay28; dsimp only; rw [scaled, piece_low (q := 128) 1 _ rfl]
theorem scaled2 : k0_pay31 (lift2 (φ := .bf16) fun r j => t r j * S j) = lift2 (φ := .bf16) fun r c => t r (at4 2 c) * S (at4 2 c) := by
  unfold k0_pay31; dsimp only; rw [piece_low (q := 256) 2 _ rfl]
theorem scaled3 : k0_pay34 (lift2 (φ := .bf16) fun r j => t r j * S j) = lift2 (φ := .bf16) fun r c => t r (at4 3 c) * S (at4 3 c) := by
  unfold k0_pay34; dsimp only; rw [piece_low (q := 384) 3 _ rfl]

/-- What a block adds to the gradient of the weights. -/
def blockWeights (p : ℕ) (h : Fin 16 → Fin 512 → ℝ) (x t : Fin 256 → Fin 512 → ℝ) (S : Fin 512 → ℝ) (g : Fin 4) (c d : Fin 128) : ℝ :=
  ∑ r, diff p h x r (at4 g c) * (t r (at4 g d) * S (at4 g d))

section
variable (z : Fin 1 → Fin 128 → Fin 128 → ℝ) (y : Fin 256 → Fin 128 → ℝ)
theorem weights0 : k0_pay26 (lift2 (φ := .f32) y) (lift2 (φ := .f32) t) (lift2 (φ := .f32) fun _ : Fin 1 => S) (lift3 (φ := .f32) z)
    = lift3 (φ := .f32) fun _ c d => z 0 c d + ∑ r, y r c * (t r (at4 0 d) * S (at4 0 d)) := by
  unfold k0_pay26; simp only [drop_slot, truncf_lift2, scaled0, constant_lift2, prodB, addf_lift2, add_slot]
theorem weights1 : k0_pay29 (lift2 (φ := .f32) y) (lift2 (φ := .f32) t) (lift2 (φ := .f32) fun _ : Fin 1 => S) (lift3 (φ := .f32) z)
    = lift3 (φ := .f32) fun _ c d => z 0 c d + ∑ r, y r c * (t r (at4 1 d) * S (at4 1 d)) := by
  unfold k0_pay29; simp only [drop_slot, truncf_lift2, scaled1, constant_lift2, prodB, addf_lift2, add_slot]
theorem weights2 : k0_pay32 (lift2 (φ := .f32) y) (lift2 (φ := .bf16) fun r j => t r j * S j) (lift3 (φ := .f32) z)
    = lift3 (φ := .f32) fun _ c d => z 0 c d + ∑ r, y r c * (t r (at4 2 d) * S (at4 2 d)) := by
  unfold k0_pay32; simp only [drop_slot, truncf_lift2, scaled2, constant_lift2, prodB, addf_lift2, add_slot]
theorem weights3 : k0_pay35 (lift2 (φ := .f32) y) (lift2 (φ := .bf16) fun r j => t r j * S j) (lift3 (φ := .f32) z)
    = lift3 (φ := .f32) fun _ c d => z 0 c d + ∑ r, y r c * (t r (at4 3 d) * S (at4 3 d)) := by
  unfold k0_pay35; simp only [drop_slot, truncf_lift2, scaled3, constant_lift2, prodB, addf_lift2, add_slot]
end

theorem back0 : k0_pay27 (lift2 (φ := .f32) t) (lift2 (φ := .f32) fun _ : Fin 1 => S) (lift3 (φ := .f32) fun _ => P 0)
    = lift2 (φ := .f32) fun r c => deltaGrad P S (t r) (at4 0 c) := by
  unfold k0_pay27; simp only [drop_slot, truncf_lift2, scaled0, constant_lift2, prodC, deltaGrad_at]
theorem back1 : k0_pay30 (lift2 (φ := .bf16) fun r c => t r (at4 1 c) * S (at4 1 c)) (lift3 (φ := .f32) fun _ => P 1)
    = lift2 (φ := .f32) fun r c => deltaGrad P S (t r) (at4 1 c) := by
  unfold k0_pay30; simp only [drop_slot, truncf_lift2, constant_lift2, prodC, deltaGrad_at]
theorem back2 : k0_pay33 (lift2 (φ := .bf16) fun r j => t r j * S j) (lift3 (φ := .f32) fun _ => P 2)
    = lift2 (φ := .f32) fun r c => deltaGrad P S (t r) (at4 2 c) := by
  unfold k0_pay33; simp only [drop_slot, truncf_lift2, scaled2, constant_lift2, prodC, deltaGrad_at]
theorem back3 : k0_pay36 (lift2 (φ := .bf16) fun r j => t r j * S j) (lift3 (φ := .f32) fun _ => P 3)
    = lift2 (φ := .f32) fun r c => deltaGrad P S (t r) (at4 3 c) := by
  unfold k0_pay36; simp only [drop_slot, truncf_lift2, scaled3, constant_lift2, prodC, deltaGrad_at]

theorem share_at (p : ℕ) (g : Fin 4) (r : Fin 256) (c : Fin 128) : share p P S t r (at4 g c) = deltaGrad P S (t r) (at4 g c) / count g (256 * p + r) := by
  unfold share; rw [grp_at4]
theorem share0 : k0_pay37 (k0_pay8 i) (lift2 (φ := .f32) fun r c => deltaGrad P S (t r) (at4 0 c)) = lift2 (φ := .f32) fun r c => share (blockOf i) P S t r (at4 0 c) := by
  unfold k0_pay37; simp only [count0]; rw [cols256, divf_count]; simp only [share_at]
theorem share1 : k0_pay38 (k0_pay9 i) (lift2 (φ := .bf16) fun r c => t r (at4 1 c) * S (at4 1 c)) (lift3 (φ := .f32) fun _ => P 1) = lift2 (φ := .f32) fun r c => share (blockOf i) P S t r (at4 1 c) := by
  unfold k0_pay38; simp only [count1, back1]; rw [cols256, divf_count]; simp only [share_at]
theorem share2 : k0_pay39 (k0_pay10 i) (lift2 (φ := .bf16) fun r j => t r j * S j) (lift3 (φ := .f32) fun _ => P 2) = lift2 (φ := .f32) fun r c => share (blockOf i) P S t r (at4 2 c) := by
  unfold k0_pay39; simp only [count2, back2]; rw [cols256, divf_count]; simp only [share_at]

/-- The four groups' columns of the means' gradient together. -/
theorem shares : k0_pay1 (k0_pay11 i) (lift2 (φ := .f32) fun r c => deltaGrad P S (t r) (at4 3 c)) (lift2 (φ := .f32) fun r c => share (blockOf i) P S t r (at4 0 c))
      (lift2 (φ := .f32) fun r c => share (blockOf i) P S t r (at4 1 c)) (lift2 (φ := .f32) fun r c => share (blockOf i) P S t r (at4 2 c))
    = lift2 (φ := .f32) (share (blockOf i) P S t) := by
  unfold k0_pay1
  refine concat_of (share (blockOf i) P S t) rfl rfl rfl ?_ _
  rw [count3, cols256, divf_count]; simp only [share_at]
theorem handed : k0_pay3 (k0_pay11 i) (lift2 (φ := .f32) fun r c => deltaGrad P S (t r) (at4 3 c)) (lift2 (φ := .f32) fun r c => share (blockOf i) P S t r (at4 0 c))
      (lift2 (φ := .f32) fun r c => share (blockOf i) P S t r (at4 1 c)) (lift2 (φ := .f32) fun r c => share (blockOf i) P S t r (at4 2 c))
    = lift2 (φ := .f32) (hand (blockOf i) P S t) := by
  unfold k0_pay3; simp only [shares]; rw [shapeCast_self, cut]
  refine congrArg lift2 (funext fun r => funext fun c => ?_)
  exact congrArg₂ (share (blockOf i) P S t) (Fin.ext (Nat.zero_add _)) (Fin.ext (Nat.zero_add _))
theorem blockIn_at (p : ℕ) (g : Fin 4) (r : Fin 256) (c : Fin 128) :
    blockIn p P S t k r (at4 g c) = later (over (share p P S t) k) g ⟨r, by omega⟩ (at4 g c) - deltaGrad P S (t r) (at4 g c) := by
  unfold blockIn; rw [grp_at4]
theorem grads : k0_pay2 (k0_pay11 i) (lift2 (φ := .f32) fun r c => deltaGrad P S (t r) (at4 0 c)) (lift2 (φ := .f32) fun r c => deltaGrad P S (t r) (at4 1 c))
      (lift2 (φ := .f32) fun r c => deltaGrad P S (t r) (at4 2 c)) (lift2 (φ := .f32) fun r c => deltaGrad P S (t r) (at4 3 c))
      (lift2 (φ := .f32) fun r c => share (blockOf i) P S t r (at4 0 c)) (lift2 (φ := .f32) fun r c => share (blockOf i) P S t r (at4 1 c)) (lift2 (φ := .f32) fun r c => share (blockOf i) P S t r (at4 2 c))
      (lift2 (φ := .f32) k)
    = lift2 (φ := .f32) (blockIn (blockOf i) P S t k) := by
  have t1 (A) := turn 271#32 (by decide) A rotates_S272x512_d0
  have t2 (A) := turn 270#32 (by decide) A rotates_S272x512_d0
  have t3 (A) := turn 268#32 (by decide) A rotates_S272x512_d0
  have t4 (A) := turn 264#32 (by decide) A rotates_S272x512_d0
  have low (g : Fin 4) (A : Fin 272 → Fin 512 → ℝ) (q : ℕ) (hq : 128 * (g : ℕ) = q) (h' : (⟨2, ![272, 512]⟩ : Shape).Slices ![0, q] ⟨2, ![256, 128]⟩) :
      extractStridedSlice (⟨2, ![256, 128]⟩ : Shape) ![0, q] (lift2 (φ := .f32) A) h' = lift2 (φ := .f32) fun r c => A ⟨r, by omega⟩ (at4 g c) := by
    rw [piece g A hq h']
    refine congrArg lift2 (funext fun r => funext fun c => congrArg (fun r => A r (at4 g c)) (Fin.ext (Nat.zero_add _)))
  unfold k0_pay2
  refine concat_of (blockIn (blockOf i) P S t k) ?_ ?_ ?_ ?_ _
  · rw [concat_over _ k (shares i t P S), t1, low 0 _ 0 rfl, subf_lift2]; simp only [blockIn_at]; rfl
  · rw [concat_over _ k (shares i t P S), t1, t2, low 1 _ 128 rfl, subf_lift2]; simp only [blockIn_at]; rfl
  · rw [concat_over _ k (shares i t P S), t1, t2, t3, low 2 _ 256 rfl, subf_lift2]; simp only [blockIn_at]; rfl
  · rw [concat_over _ k (shares i t P S), t1, t2, t3, t4, low 3 _ 384 rfl, subf_lift2]; simp only [blockIn_at]; rfl

/-! ## Slots and whole blocks -/

theorem slot0 (w : Fin 4 → Fin 128 → Fin 128 → ℝ) (e) :
    View.ld (Val := Elt Ideal) (e' := .f32) (lift3 w : FVec Ideal S4x128x128 .f32) (Rect.unit (s := S4x128x128) ![0, 0, 0] ![1, 128, 128] e) = lift3 (φ := .f32) fun _ : Fin 1 => w 0 := by
  funext i; pointwise [lift3]
theorem slot1 (w : Fin 4 → Fin 128 → Fin 128 → ℝ) (e) :
    View.ld (Val := Elt Ideal) (e' := .f32) (lift3 w : FVec Ideal S4x128x128 .f32) (Rect.unit (s := S4x128x128) ![1, 0, 0] ![1, 128, 128] e) = lift3 (φ := .f32) fun _ : Fin 1 => w 1 := by
  funext i; pointwise [lift3]
theorem slot2 (w : Fin 4 → Fin 128 → Fin 128 → ℝ) (e) :
    View.ld (Val := Elt Ideal) (e' := .f32) (lift3 w : FVec Ideal S4x128x128 .f32) (Rect.unit (s := S4x128x128) ![2, 0, 0] ![1, 128, 128] e) = lift3 (φ := .f32) fun _ : Fin 1 => w 2 := by
  funext i; pointwise [lift3]
theorem slot3 (w : Fin 4 → Fin 128 → Fin 128 → ℝ) (e) :
    View.ld (Val := Elt Ideal) (e' := .f32) (lift3 w : FVec Ideal S4x128x128 .f32) (Rect.unit (s := S4x128x128) ![3, 0, 0] ![1, 128, 128] e) = lift3 (φ := .f32) fun _ : Fin 1 => w 3 := by
  funext i; pointwise [lift3]
theorem store_slots {p0 p1 p2 p3 : Fin 128 → Fin 128 → ℝ} (Y : Fin 4 → Fin 128 → Fin 128 → ℝ) (L : List (View.Piece (Elt Ideal) S4x128x128 .f32))
    {b0 b1 b2 b3} (h0 : ∀ i j, p0 i j = Y 0 i j) (h1 : ∀ i j, p1 i j = Y 1 i j) (h2 : ∀ i j, p2 i j = Y 2 i j) (h3 : ∀ i j, p3 i j = Y 3 i j) :
    View.canon (Val := Elt Ideal) (s := S4x128x128) (e := .f32)
      (⟨Rect.unit (s := S4x128x128) ![3, 0, 0] ![1, 128, 128] b3, lift3 (φ := .f32) fun _ => p3⟩
        :: ⟨Rect.unit (s := S4x128x128) ![2, 0, 0] ![1, 128, 128] b2, lift3 (φ := .f32) fun _ => p2⟩
        :: ⟨Rect.unit (s := S4x128x128) ![1, 0, 0] ![1, 128, 128] b1, lift3 (φ := .f32) fun _ => p1⟩
        :: ⟨Rect.unit (s := S4x128x128) ![0, 0, 0] ![1, 128, 128] b0, lift3 (φ := .f32) fun _ => p0⟩ :: L)
      = lift3 (φ := .f32) Y := by
  funext y
  exact View.canon_append_of_piecesOf (Val := Elt Ideal) (e := .f32) (lift3 (φ := .f32) Y) L [⟨_, _⟩, ⟨_, _⟩, ⟨_, _⟩, ⟨_, _⟩]
    ⟨fun x => slot_at b3 Y p3 (by norm_num) h3 x, fun x => slot_at b2 Y p2 (by norm_num) h2 x, fun x => slot_at b1 Y p1 (by norm_num) h1 x,
      fun x => slot_at b0 Y p0 (by norm_num) h0 x, trivial⟩ y (View.cover_of_tiled [⟨_, _⟩, ⟨_, _⟩, ⟨_, _⟩, ⟨_, _⟩] ![1, 128, 128] (by rfl) y)

theorem whole_rows (x : Vec Ideal S256x512 .f32) (h) : View.ld x (Rect.unit (s := S256x512) ![0, 0] S256x512.size h) = x :=
  View.ld_unit_lit _ _ (by decide)
theorem whole_edge (x : Vec Ideal S16x512 .f32) (h) : View.ld x (Rect.unit (s := S16x512) ![0, 0] S16x512.size h) = x :=
  View.ld_unit_lit _ _ (by decide)
theorem whole_line (x : Vec Ideal S1x512 .f32) (h) : View.ld x (Rect.unit (s := S1x512) ![0, 0] S1x512.size h) = x :=
  View.ld_unit_lit _ _ (by decide)

/-! ## What the body leaves -/

section
variable (c : Dev nD) (a1 : Memref sig .tc .vmem S256x512 .f32) (h1 : a1.IsWhole) (a2 : Memref sig .tc .vmem S16x512 .f32) (h2 : a2.IsWhole)
  (a3 : Memref sig .tc .vmem S256x512 .f32) (h3 : a3.IsWhole) (a4 : Memref sig .tc .vmem S4x128x128 .f32) (h4 : a4.IsWhole) (a5 : Memref sig .tc .vmem S1x512 .f32) (h5 : a5.IsWhole)
  (a6 : Memref sig .tc .vmem S256x512 .f32) (h6 : a6.IsWhole) (a7 : Memref sig .tc .vmem S4x128x128 .f32) (h7 : a7.IsWhole) (a8 : Memref sig .tc .vmem S1x512 .f32) (h8 : a8.IsWhole)
  (a9 : Memref sig .tc .vmem S16x512 .f32) (h9 : a9.IsWhole)

theorem first_in (hc : cond0_0 i) : out0_A_5 (F := Ideal) c i a1 h1 a2 h2 a3 h3 a4 h4 a5 h5 a6 h6 a7 h7 a8 h8 a9 h9 hc
      (lift2 (φ := .f32) x) (lift2 (φ := .f32) h) (lift2 (φ := .f32) t) (lift3 (φ := .f32) P) (lift2 (φ := .f32) fun _ : Fin 1 => S)
    = lift2 (φ := .f32) (blockIn (blockOf i) P S t fun _ _ => 0) := by
  frame_open
  simp (disch := decide) only [↓ View.readCov_skip, ↓ View.readCov_cons_toLoadRect, ↓ View.readCov_fill]
  try frame_out
  simp only [k0_pay4, cst_zero, cast_same, whole_rows, whole_line, slot0, slot1, slot2, slot3, scaled, scaled1, back0, back1, back2, back3, share0, share1, share2, grads]
theorem first_weights (hc : cond0_0 i) : out0_A_6 (F := Ideal) c i a1 h1 a2 h2 a3 h3 a4 h4 a5 h5 a6 h6 a7 h7 a8 h8 a9 h9 hc
      (lift2 (φ := .f32) x) (lift2 (φ := .f32) h) (lift2 (φ := .f32) t) (lift3 (φ := .f32) P) (lift2 (φ := .f32) fun _ : Fin 1 => S)
    = lift3 (φ := .f32) (blockWeights (blockOf i) h x t S) := by
  frame_open
  simp (disch := decide) only [↓ View.readCov_skip, ↓ View.readCov_cons_toLoadRect, ↓ View.readCov_fill]
  try frame_out
  simp only [k0_pay5, cst_zero3, whole_rows, whole_edge, whole_line, slot0, slot1, slot2, slot3, diff0, diff1, diff2, diff3, scaled, weights0, weights1, weights2, weights3, zero_add]
  refine store_slots _ _ ?_ ?_ ?_ ?_ <;> exact fun _ _ => rfl
theorem first_scale (hc : cond0_0 i) : out0_A_7 (F := Ideal) c i a1 h1 a2 h2 a3 h3 a4 h4 a5 h5 a6 h6 a7 h7 a8 h8 a9 h9 hc
      (lift2 (φ := .f32) x) (lift2 (φ := .f32) h) (lift2 (φ := .f32) t) (lift3 (φ := .f32) P) (lift2 (φ := .f32) fun _ : Fin 1 => S)
    = lift2 (φ := .f32) fun _ : Fin 1 => fun j => ∑ r, t r j * mixed P (diff (blockOf i) h x r) j := by
  frame_open
  simp (disch := decide) only [↓ View.readCov_skip, ↓ View.readCov_cons_toLoadRect, ↓ View.readCov_fill]
  try frame_out
  simp only [k0_pay6, cst_zero, whole_rows, whole_edge, whole_line, slot0, slot1, slot2, slot3, scale_terms, scale_sum, zero_add]
theorem first_hand (hc : cond0_0 i) : sout0_A_0 (F := Ideal) c i a1 h1 a2 h2 a3 h3 a4 h4 a5 h5 a6 h6 a7 h7 a8 h8 a9 h9 hc
      (lift2 (φ := .f32) x) (lift2 (φ := .f32) h) (lift2 (φ := .f32) t) (lift3 (φ := .f32) P) (lift2 (φ := .f32) fun _ : Fin 1 => S)
    = lift2 (φ := .f32) (hand (blockOf i) P S t) := by
  frame_open
  simp (disch := decide) only [↓ View.readCov_skip, ↓ View.readCov_cons_toLoadRect, ↓ View.readCov_fill]
  try frame_out
  simp only [whole_rows, whole_line, slot0, slot1, slot2, slot3, scaled, scaled1, back0, back1, back2, back3, share0, share1, share2, handed]

variable (Z : Fin 4 → Fin 128 → Fin 128 → ℝ) (z : Fin 512 → ℝ)

theorem next_in (hc : ¬ cond0_0 i) : out0_B_5 (F := Ideal) c i a1 h1 a2 h2 a3 h3 a4 h4 a5 h5 a6 h6 a7 h7 a8 h8 a9 h9 hc
      (lift2 (φ := .f32) x) (lift2 (φ := .f32) h) (lift2 (φ := .f32) t) (lift3 (φ := .f32) P) (lift2 (φ := .f32) fun _ : Fin 1 => S)
      (lift3 (φ := .f32) Z) (lift2 (φ := .f32) fun _ : Fin 1 => z) (lift2 (φ := .f32) k)
    = lift2 (φ := .f32) (blockIn (blockOf i) P S t k) := by
  frame_out
  simp only [whole_rows, whole_edge, whole_line, slot0, slot1, slot2, slot3, scaled, scaled1, back0, back1, back2, back3, share0, share1, share2, grads]
theorem next_weights (hc : ¬ cond0_0 i) : out0_B_6 (F := Ideal) c i a1 h1 a2 h2 a3 h3 a4 h4 a5 h5 a6 h6 a7 h7 a8 h8 a9 h9 hc
      (lift2 (φ := .f32) x) (lift2 (φ := .f32) h) (lift2 (φ := .f32) t) (lift3 (φ := .f32) P) (lift2 (φ := .f32) fun _ : Fin 1 => S)
      (lift3 (φ := .f32) Z) (lift2 (φ := .f32) fun _ : Fin 1 => z) (lift2 (φ := .f32) k)
    = lift3 (φ := .f32) fun g c d => Z g c d + blockWeights (blockOf i) h x t S g c d := by
  frame_out
  simp only [whole_rows, whole_edge, whole_line, slot0, slot1, slot2, slot3, diff0, diff1, diff2, diff3, scaled, weights0, weights1, weights2, weights3]
  refine store_slots _ _ ?_ ?_ ?_ ?_ <;> exact fun _ _ => rfl
theorem next_scale (hc : ¬ cond0_0 i) : out0_B_7 (F := Ideal) c i a1 h1 a2 h2 a3 h3 a4 h4 a5 h5 a6 h6 a7 h7 a8 h8 a9 h9 hc
      (lift2 (φ := .f32) x) (lift2 (φ := .f32) h) (lift2 (φ := .f32) t) (lift3 (φ := .f32) P) (lift2 (φ := .f32) fun _ : Fin 1 => S)
      (lift3 (φ := .f32) Z) (lift2 (φ := .f32) fun _ : Fin 1 => z) (lift2 (φ := .f32) k)
    = lift2 (φ := .f32) fun _ : Fin 1 => fun j => z j + ∑ r, t r j * mixed P (diff (blockOf i) h x r) j := by
  frame_out
  simp only [whole_rows, whole_edge, whole_line, slot0, slot1, slot2, slot3, scale_terms, scale_sum]
theorem next_hand (hc : ¬ cond0_0 i) : sout0_B_0 (F := Ideal) c i a1 h1 a2 h2 a3 h3 a4 h4 a5 h5 a6 h6 a7 h7 a8 h8 a9 h9 hc
      (lift2 (φ := .f32) x) (lift2 (φ := .f32) h) (lift2 (φ := .f32) t) (lift3 (φ := .f32) P) (lift2 (φ := .f32) fun _ : Fin 1 => S)
      (lift3 (φ := .f32) Z) (lift2 (φ := .f32) fun _ : Fin 1 => z) (lift2 (φ := .f32) k)
    = lift2 (φ := .f32) (hand (blockOf i) P S t) := by
  frame_out
  simp only [whole_rows, whole_edge, whole_line, slot0, slot1, slot2, slot3, scaled, scaled1, back0, back1, back2, back3, share0, share1, share2, handed]

end

end Cert.WindowMix
-- ==== Proof.WindowMixRows.lean ====
/- The mixer's blocks of 256 rows put together: what one block computes from its own rows, the sixteen rows above it and
   the sixteen rows handed on by the block below is what the whole array's window sums give at the block's rows. -/
module

public import proofs.«01_k».proof.Proof.WindowMixBlock

@[expose] public section

set_option maxRecDepth 16384

noncomputable section

namespace Cert.WindowMix

/-! ## The four window sums -/

theorem wide_le (g : Fin 4) : wide g ≤ 16 := by fin_cases g <;> simp [wide]

theorem near_behind (U : Fin 272 → Fin 512 → ℝ) (g : Fin 4) : Behind U (near U g) (wide g) := by
  have h1 : Behind U (turned 1 U) 2 := (behind_one U).double (by norm_num)
  have h2 : Behind U (turned 2 (turned 1 U)) 4 := h1.double (by norm_num)
  have h3 : Behind U (turned 4 (turned 2 (turned 1 U))) 8 := h2.double (by norm_num)
  have h4 : Behind U (turned 8 (turned 4 (turned 2 (turned 1 U)))) 16 := h3.double (by norm_num)
  fin_cases g
  exacts [h1, h2, h3, h4]
theorem later_before (U : Fin 272 → Fin 512 → ℝ) (g : Fin 4) : Before U (later U g) (wide g) := by
  have h1 : Before U (turned 271 U) 2 := (before_one U).double (by norm_num) (by norm_num)
  have h2 : Before U (turned 270 (turned 271 U)) 4 := h1.double (by norm_num) (by norm_num)
  have h3 : Before U (turned 268 (turned 270 (turned 271 U))) 8 := h2.double (by norm_num) (by norm_num)
  have h4 : Before U (turned 264 (turned 268 (turned 270 (turned 271 U)))) 16 := h3.double (by norm_num) (by norm_num)
  fin_cases g
  exacts [h1, h2, h3, h4]

/-! ## A block's rows -/

/-- Row `r` of the `p`-th block of 256 rows. -/
def row256 (p : ℕ) (r : Fin 256) : Fin 8192 := ⟨(256 * p + r) % 8192, Nat.mod_lt _ (by norm_num)⟩
theorem row256_val {p : ℕ} (hp : p < 32) (r : Fin 256) : ((row256 p r : Fin 8192) : ℕ) = 256 * p + r := by
  show (256 * p + (r : ℕ)) % 8192 = _
  omega
/-- Row `r` of the sixteen rows above the `p`-th block; the first sixteen rows where there is nothing above. -/
def above (p : ℕ) (r : Fin 16) : Fin 8192 := ⟨(16 * (16 * p - 1) + r) % 8192, Nat.mod_lt _ (by norm_num)⟩
theorem above_val {p : ℕ} (hp : p < 32) (r : Fin 16) : ((above p r : Fin 8192) : ℕ) = 16 * (16 * p - 1) + r := by
  show (16 * (16 * p - 1) + (r : ℕ)) % 8192 = _
  omega

theorem ext_in (u : Fin 8192 → Fin 512 → ℝ) {s : ℤ} (q : Fin 8192) (h : s = (q : ℕ)) (j : Fin 512) : ext u s j = u q j := by
  subst h; exact ext_nat u q j
theorem ext_out (u : Fin 8192 → Fin 512 → ℝ) {s : ℤ} (h : s < 0 ∨ 8192 ≤ s) (j : Fin 512) : ext u s j = 0 := by
  unfold ext
  exact dif_neg (by omega)

variable (u T : Fin 8192 → Fin 512 → ℝ) (P : Fin 4 → Fin 128 → Fin 128 → ℝ) (S : Fin 512 → ℝ)

/-- The `p`-th block of 256 rows. -/
def rowsOf (u : Fin 8192 → Fin 512 → ℝ) (p : ℕ) (r : Fin 256) (j : Fin 512) : ℝ := u (row256 p r) j
/-- The sixteen rows above it. -/
def edgeOf (u : Fin 8192 → Fin 512 → ℝ) (p : ℕ) (r : Fin 16) (j : Fin 512) : ℝ := u (above p r) j
/-- The first sixteen rows of the gradients of the means in the `p`-th block: zeros past the last block. -/
def carried (p : ℕ) (r : Fin 16) (j : Fin 512) : ℝ := ext (meanGrad T P S) ((256 * p + r : ℕ) : ℤ) j

theorem under_rows {p : ℕ} (hp : p < 32) (r : Fin 272) (j : Fin 512) :
    under (halo p (edgeOf u p)) (rowsOf u p) r j = ext u (256 * p + r - 16 : ℤ) j := by
  unfold under halo edgeOf rowsOf
  split_ifs with h0 h1
  · exact (ext_out u (by omega) j).symm
  · exact (ext_in u _ (by rw [above_val hp]; simp only; omega) j).symm
  · exact (ext_in u _ (by rw [row256_val hp]; simp only; omega) j).symm

theorem diff_rows {p : ℕ} (hp : p < 32) (r : Fin 256) (j : Fin 512) :
    diff p (edgeOf u p) (rowsOf u p) r j = delta u (row256 p r) j := by
  unfold diff delta
  have hw := wide_le (grp j)
  rw [near_behind _ (grp j) (16 + r) (by omega) j (by omega), row256_val hp]
  refine congrArg (fun q => q / _ - _) (Finset.sum_congr rfl fun k hk => ?_)
  rw [under_rows u hp]
  have := Finset.mem_range.1 hk
  refine congrArg (fun q => ext u q j) ?_
  simp only
  omega

theorem share_rows {p : ℕ} (hp : p < 32) (r : Fin 256) (j : Fin 512) : share p P S (rowsOf T p) r j = meanGrad T P S (row256 p r) j := by
  unfold share meanGrad rowsOf
  rw [row256_val hp]

theorem hand_rows {p : ℕ} (hp : p < 32) : hand p P S (rowsOf T p) = carried T P S p := by
  funext r j
  refine (share_rows T P S hp _ j).trans (ext_in _ _ ?_ j).symm
  rw [row256_val hp]
theorem carried_last (r : Fin 16) (j : Fin 512) : carried T P S 32 r j = 0 := ext_out _ (by omega) j

theorem over_rows {p : ℕ} (hp : p < 32) (r : Fin 272) (j : Fin 512) :
    over (share p P S (rowsOf T p)) (carried T P S (p + 1)) r j = ext (meanGrad T P S) ((256 * p + r : ℕ) : ℤ) j := by
  unfold over
  split_ifs with h0
  · refine (share_rows T P S hp _ j).trans (ext_in _ _ ?_ j).symm
    rw [row256_val hp]
  · refine congrArg (fun q => ext _ q j) ?_
    simp only
    omega

theorem in_rows {p : ℕ} (hp : p < 32) (r : Fin 256) (j : Fin 512) :
    blockIn p P S (rowsOf T p) (carried T P S (p + 1)) r j = inGrad T P S (row256 p r) j := by
  unfold blockIn inGrad
  have hw := wide_le (grp j)
  rw [later_before _ (grp j) r (by omega) j (by omega), row256_val hp]
  refine congrArg (fun q => q - _) (Finset.sum_congr rfl fun k hk => ?_)
  rw [over_rows T P S hp]
  have := Finset.mem_range.1 hk
  refine congrArg (fun q => ext _ q j) ?_
  simp only
  omega

/-! ## Sums over the blocks -/

/-- The blocks from the last to the first together are all rows. -/
theorem sum_blocks (f : Fin 8192 → ℝ) : ∑ q ∈ Finset.range 32, ∑ r, f (row256 (31 - q) r) = ∑ t, f t := by
  have e : ∑ q ∈ Finset.range 32, ∑ r, f (row256 (31 - q) r) = ∑ q ∈ Finset.range 32, ∑ r, f (row256 q r) :=
    Finset.sum_range_reflect (fun q => ∑ r, f (row256 q r)) 32
  rw [e, Finset.sum_range]
  have h : ∑ r : Fin (32 * 256), f r = ∑ p : Fin 32, ∑ k : Fin 256, f (row256 p k) := by
    rw [← Fintype.sum_prod_type', ← finProdFinEquiv.sum_comp]
    refine Finset.sum_congr rfl fun p _ => congrArg f (Fin.ext ?_)
    rw [row256_val p.1.isLt]
    simp [finProdFinEquiv]; omega
  exact h.symm

/-- The products over the last `n` blocks. -/
def weightsOf (n : ℕ) (g : Fin 4) (c d : Fin 128) : ℝ :=
  ∑ q ∈ Finset.range n, ∑ r, delta u (row256 (31 - q) r) (at4 g c) * (T (row256 (31 - q) r) (at4 g d) * S (at4 g d))
/-- The sums over the last `n` blocks. -/
def scaleOf (n : ℕ) (j : Fin 512) : ℝ := ∑ q ∈ Finset.range n, ∑ r, T (row256 (31 - q) r) j * mixed P (delta u (row256 (31 - q) r)) j

theorem weights_rows {p : ℕ} (hp : p < 32) (g : Fin 4) (c d : Fin 128) :
    blockWeights p (edgeOf u p) (rowsOf u p) (rowsOf T p) S g c d = ∑ r, delta u (row256 p r) (at4 g c) * (T (row256 p r) (at4 g d) * S (at4 g d)) :=
  Finset.sum_congr rfl fun r _ => congrArg (· * _) (diff_rows u hp r _)
theorem scale_rows {p : ℕ} (hp : p < 32) (j : Fin 512) :
    ∑ r, rowsOf T p r j * mixed P (diff p (edgeOf u p) (rowsOf u p) r) j = ∑ r, T (row256 p r) j * mixed P (delta u (row256 p r)) j :=
  Finset.sum_congr rfl fun r _ => congrArg (fun e => _ * mixed P e j) (funext fun q => diff_rows u hp r q)
theorem weights_all : weightsOf u T S 32 = weightGrad u T S := by
  funext g c d
  exact sum_blocks fun t => delta u t (at4 g c) * (T t (at4 g d) * S (at4 g d))
theorem scale_all : scaleOf u T P 32 = scaleGrad u T P := by
  funext j
  exact sum_blocks fun t => T t j * mixed P (delta u t) j

end Cert.WindowMix
-- ==== Proof.WindowMixArrays.lean ====
/- The mixer's three gradients as the kernel leaves them in its arrays. -/
module

public import proofs.«01_k».proof.Proof.WindowMixRows

@[expose] public section

set_option maxRecDepth 16384

noncomputable section

namespace Cert.WindowMix

open Idealize.ShloMosaic Cert.Kernel6Ideal Cert.Kernel6Ideal.Gen Cert.FfnBlock Cert.Mixing Idealize.ShloMosaic.TcCoe

set_option backward.isDefEq.respectTransparency.types false

variable (m : (ℓ : Loc nD τ sig) → Buf (Elt Ideal) ℓ) (ρ : Dev nD → PrngReg) (c : Dev nD)
  (W : Fin 8192 → Fin 768 → ℝ) (T : Fin 8192 → Fin 512 → ℝ) (P : Fin 4 → Fin 128 → Fin 128 → ℝ) (S : Fin 512 → ℝ)

/-- The first 512 columns: the mixer's input. -/
def front (W : Fin 8192 → Fin 768 → ℝ) (t : Fin 8192) (j : Fin 512) : ℝ := W t ⟨j, by omega⟩

/-- What the four arguments hold. -/
structure Args : Prop where
  proj : m ((c : Thread nD τ).loc main_arg0) = lift2 (φ := .f32) W
  dtok : m ((c : Thread nD τ).loc main_arg1) = lift2 (φ := .f32) T
  weights : m ((c : Thread nD τ).loc main_arg2) = lift3 (φ := .f32) P
  scale : m ((c : Thread nD τ).loc main_arg3) = lift1 (φ := .f32) S

/-- The block index of every window at every grid point. -/
theorem index0 : ∀ t : Fin cfg0.N,
    win0_0.index t = ![31 - (t : ℕ), 0]
    ∧ win0_1.index t = ![16 * (31 - (t : ℕ)) - 1, 0]
    ∧ win0_2.index t = ![31 - (t : ℕ), 0]
    ∧ win0_3.index t = ![0, 0, 0]
    ∧ win0_4.index t = ![0, 0]
    ∧ win0_5.index t = ![31 - (t : ℕ), 0]
    ∧ win0_6.index t = ![0, 0, 0]
    ∧ win0_7.index t = ![0, 0] :=
  (by decide +kernel : ∀ t : Fin grid0.N, _)
theorem block_of : ∀ t : Fin cfg0.N, blockOf (grid0.coords t) = 31 - (t : ℕ) :=
  (by decide +kernel : ∀ t : Fin grid0.N, _)

variable {m c W T P S}

theorem block0_0 (h : Args m c W T P S) (t : Fin cfg0.N) : X0_0 m c t = lift2 (φ := .f32) (rowsOf (front W) (31 - t)) := by
  have e : X0_0 m c t = fun y => iblk m c 0 t fun a => ⟨(y a).val, ((cfg0.win 0).moved_iff _ y).mp (moved0_0 t y) a⟩ := by
    funext y; unfold X0_0 Pipeline.Window.fill; exact dif_pos (moved0_0 t y)
  rw [e]
  funext y
  show m ((c : Thread nD τ).loc main_arg0) (((cfg0.win 0).blk t).view.emb _) = _
  rw [h.proj]
  refine congrArg Real.toEReal (congrArg₂ W (Fin.ext ?_) (Fin.ext ?_))
  · rw [row256_val (by omega)]; blk_simp [index0 t]; exact congrArg (· + _) (Nat.mul_comm ..)
  · blk_simp [index0 t]
theorem block0_1 (h : Args m c W T P S) (t : Fin cfg0.N) : X0_1 m c t = lift2 (φ := .f32) (edgeOf (front W) (31 - t)) := by
  have e : X0_1 m c t = fun y => iblk m c 1 t fun a => ⟨(y a).val, ((cfg0.win 1).moved_iff _ y).mp (moved0_1 t y) a⟩ := by
    funext y; unfold X0_1 Pipeline.Window.fill; exact dif_pos (moved0_1 t y)
  rw [e]
  funext y
  show m ((c : Thread nD τ).loc main_arg0) (((cfg0.win 1).blk t).view.emb _) = _
  rw [h.proj]
  refine congrArg Real.toEReal (congrArg₂ W (Fin.ext ?_) (Fin.ext ?_))
  · rw [above_val (by omega)]; blk_simp [index0 t]; exact congrArg (· + _) (Nat.mul_comm ..)
  · blk_simp [index0 t]
theorem block0_2 (h : Args m c W T P S) (t : Fin cfg0.N) : iblk m c 2 t = lift2 (φ := .f32) (rowsOf T (31 - t)) := by
  funext y
  show m ((c : Thread nD τ).loc main_arg1) (((cfg0.win 2).blk t).view.emb _) = _
  rw [h.dtok]
  refine congrArg Real.toEReal (congrArg₂ T (Fin.ext ?_) (Fin.ext ?_))
  · rw [row256_val (by omega)]; blk_simp [index0 t]; exact congrArg (· + _) (Nat.mul_comm ..)
  · blk_simp [index0 t]
theorem block0_3 (h : Args m c W T P S) (t : Fin cfg0.N) : iblk m c 3 t = lift3 (φ := .f32) P := by
  refine Eq.trans ?_ h.weights
  funext y
  show m ((c : Thread nD τ).loc main_arg2) (((cfg0.win 3).blk t).view.emb y) = _
  refine congrArg (m ((c : Thread nD τ).loc main_arg2)) (funext fun a => Fin.ext ?_)
  fin_cases a <;> blk_simp [index0 t]
theorem scale_row (h : Args m c W T P S) : V m c main_v0 = lift2 (φ := .f32) fun _ : Fin 1 => S := by
  show StableHlo.after (List.flatten [hostOps0]) (fun b => m (c, b)) (Proc.devRef .tc main_v0) = _
  simp only [List.flatten_cons, List.flatten_nil, List.append_nil]
  refine Eq.trans (b := shapeCast S1x512 (m ((c : Thread nD τ).loc main_arg3) : FVec Ideal S512 .f32) shapeCasts_S512_S1x512) ?_ ?_
  · after_results
    try rfl
  · rw [h.scale]
    exact as_row S _
theorem block0_4 (h : Args m c W T P S) (t : Fin cfg0.N) : iblk m c 4 t = lift2 (φ := .f32) fun _ : Fin 1 => S := by
  refine Eq.trans ?_ (scale_row h)
  funext y
  show V m c main_v0 (((cfg0.win 4).blk t).view.emb y) = _
  refine congrArg (V m c main_v0) (funext fun a => Fin.ext ?_)
  fin_cases a <;> blk_simp [index0 t]

/-- What the kernel leaves after each grid point: the block's gradient, the sums so far, and the rows handed on. -/
theorem blocks (h : Args m c W T P S) (n : ℕ) (hn : n < cfg0.N) :
    outsAt0 m c n hn = (lift2 (φ := .f32) (fun r j => inGrad T P S (row256 (31 - n) r) j), lift3 (φ := .f32) (weightsOf (front W) T S (n + 1)),
      lift2 (φ := .f32) (fun _ : Fin 1 => scaleOf (front W) T P (n + 1)), lift2 (φ := .f32) (carried T P S (31 - n))) := by
  have hN : n < 32 := hn
  induction n with
  | zero =>
    refine (outsAt0_A m c ⟨0, hn⟩ rfl).trans ?_
    rw [block0_0 h, block0_1 h, block0_2 h, block0_3 h, block0_4 h]
    refine congrArg₂ Prod.mk ?_ (congrArg₂ Prod.mk ?_ (congrArg₂ Prod.mk ?_ ?_))
    · refine (first_in ..).trans (congrArg (lift2 (φ := .f32)) (funext fun r => funext fun j => ?_))
      rw [block_of, ← in_rows T P S (by norm_num : 31 - 0 < 32)]
      exact congrArg (fun q => blockIn _ P S _ q r j) (funext fun a => funext fun b => (carried_last T P S a b).symm)
    · refine (first_weights ..).trans (congrArg (lift3 (φ := .f32)) (funext fun g => funext fun a => funext fun b => ?_))
      rw [block_of]
      exact (weights_rows (front W) T S (by norm_num) g a b).trans (Finset.sum_range_one fun q => ∑ r, delta (front W) (row256 (31 - q) r) (at4 g a) * (T (row256 (31 - q) r) (at4 g b) * S (at4 g b))).symm
    · refine (first_scale ..).trans (congrArg (lift2 (φ := .f32)) (funext fun _ => funext fun j => ?_))
      rw [block_of]
      exact (scale_rows (front W) T P (by norm_num) j).trans (Finset.sum_range_one fun q => ∑ r, T (row256 (31 - q) r) j * mixed P (delta (front W) (row256 (31 - q) r)) j).symm
    · refine (first_hand ..).trans (congrArg (lift2 (φ := .f32)) ?_)
      rw [block_of]
      exact hand_rows T P S (by norm_num)
  | succ n ih =>
    refine (outsAt0_B m c ⟨n + 1, hn⟩ (by show ¬ (n + 1) % 32 = 0; omega)).trans ?_
    rw [block0_0 h, block0_1 h, block0_2 h, block0_3 h, block0_4 h]
    have e : outsAt0 m c n (Nat.lt_of_succ_lt hn) = _ := ih (Nat.lt_of_succ_lt hn) (by omega)
    simp only [Nat.add_sub_cancel]
    simp only [e]
    have hp : 31 - (n + 1) < 32 := by omega
    have hq : 31 - n = 31 - (n + 1) + 1 := by omega
    refine congrArg₂ Prod.mk ?_ (congrArg₂ Prod.mk ?_ (congrArg₂ Prod.mk ?_ ?_))
    · refine (next_in ..).trans (congrArg (lift2 (φ := .f32)) (funext fun r => funext fun j => ?_))
      rw [block_of, hq]
      exact in_rows T P S hp r j
    · refine (next_weights ..).trans (congrArg (lift3 (φ := .f32)) (funext fun g => funext fun a => funext fun b => ?_))
      rw [block_of]
      exact (congrArg (_ + ·) (weights_rows (front W) T S hp g a b)).trans (Finset.sum_range_succ _ (n + 1)).symm
    · refine (next_scale ..).trans (congrArg (lift2 (φ := .f32)) (funext fun _ => funext fun j => ?_))
      rw [block_of]
      exact (congrArg (_ + ·) (scale_rows (front W) T P hp j)).trans (Finset.sum_range_succ _ (n + 1)).symm
    · refine (next_hand ..).trans (congrArg (lift2 (φ := .f32)) ?_)
      rw [block_of]
      exact hand_rows T P S hp

/-! ## The arrays -/

/-- The last grid point. -/
def last0 : Fin cfg0.N := ⟨31, by show 31 < 32; norm_num⟩

theorem array_in (h : Args m c W T P S) : (dats m 0 c).arrAt 5 cfg0.N = (lift2 (φ := .f32) (inGrad T P S) : FVec Ideal S8192x512 .f32) := by
  refine (dats m 0 c).arrAt_eq_of_covers 5 _ (by decide +kernel) fun t hf y => ?_
  blk_simp
  rw [after0_5, blocks h]
  have ht : (t : ℕ) < 32 := t.isLt
  refine congrArg Real.toEReal (congrArg₂ (inGrad T P S) (Fin.ext ?_) (Fin.ext ?_))
  · rw [row256_val (by omega)]; blk_simp [index0 t]; exact congrArg (· + _) (Nat.mul_comm ..)
  · blk_simp [index0 t]
theorem array_weights (h : Args m c W T P S) : (dats m 0 c).arrAt 6 cfg0.N = (lift3 (φ := .f32) (weightGrad (front W) T S) : FVec Ideal S4x128x128 .f32) := by
  refine (dats m 0 c).arrAt_eq_of_after_last 6 last0 (by decide +kernel) _ fun j => ?_
  rw [after0_6, blocks h, ← weights_all]
  rfl
theorem array_scale (h : Args m c W T P S) : (dats m 0 c).arrAt 7 cfg0.N = lift2 (φ := .f32) fun _ : Fin 1 => scaleGrad (front W) T P := by
  refine (dats m 0 c).arrAt_eq_of_after_last 7 last0 (by decide +kernel) _ fun j => ?_
  rw [after0_7, blocks h, ← scale_all]
  rfl

theorem end_scale (h : Args m c W T P S) :
    Pipeline.afterTail₀ cfgs (dats m) 0 (V0 m) [hostOps1] c main_v2 = lift1 (φ := .f32) (scaleGrad (front W) T P) := by
  unfold Pipeline.afterTail₀
  simp only [List.flatten_cons, List.flatten_nil, List.append_nil]
  refine Eq.trans (b := shapeCast S512 ((dats m 0 c).arrAt 7 cfg0.N : FVec Ideal S1x512 .f32) shapeCasts_S1x512_S512) ?_ ?_
  · after_results
    exact congrArg (fun q => shapeCast S512 (q : FVec Ideal S1x512 .f32) shapeCasts_S1x512_S512)
      ((dats m 0 c).withArrays_arrAt launch₀0.sharedIn (V0 m c) (A_eq m c) 7)
  · rw [array_scale h]
    exact as_line _ _

/-- What the three results hold at the end. -/
theorem run_values (W : Dev nD → Fin 8192 → Fin 768 → ℝ) (T : Dev nD → Fin 8192 → Fin 512 → ℝ) (P : Dev nD → Fin 4 → Fin 128 → Fin 128 → ℝ) (S : Dev nD → Fin 512 → ℝ)
    (h : ∀ c, Args m c (W c) (T c) (P c) (S c)) :
    θ_run defs (onTc (τ := τ) (main (F := Ideal))) ⟨m, fun _ => 0, ρ⟩ (fun r => ∀ c : Dev nD,
      r.2.mem ((c.tc : Thread nD τ).loc main_v1_0) = lift2 (φ := .f32) (inGrad (T c) (P c) (S c))
      ∧ r.2.mem ((c.tc : Thread nD τ).loc main_v1_1) = lift3 (φ := .f32) (weightGrad (front (W c)) (T c) (S c))
      ∧ r.2.mem ((c.tc : Thread nD τ).loc main_v2) = lift1 (φ := .f32) (scaleGrad (front (W c)) (T c) (P c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ g c => ⟨((g c).1 5).trans (array_in (h c)), ((g c).1 6).trans (array_weights (h c)),
      ((g c).2 main_v2 (by decide)).trans (end_scale (h c)),
      ((g c).1 0).trans (((dats m 0 c).arrAt_in 0 rfl _).trans ((A_eq m c 0).trans (V_main_arg0 m c))),
      ((g c).1 2).trans (((dats m 0 c).arrAt_in 2 rfl _).trans ((A_eq m c 2).trans (V_main_arg1 m c))),
      ((g c).1 3).trans (((dats m 0 c).arrAt_in 3 rfl _).trans ((A_eq m c 3).trans (V_main_arg2 m c))),
      (((g c).2 main_arg3 (Pipeline.mem_restRefs_of main_arg3 (by decide) (by decide))).trans (W_main_arg3 m (dats m) c))⟩) (run_main m ρ)

end Cert.WindowMix
-- ==== Proof.WindowReference.lean ====
/- The reference of the causal pooling mixer's backward pass on real numbers: each operation in turn. -/
module

public import proofs.«01_k».proof.Proof.WindowHost
public import proofs.«01_k».proof.Proof.WindowMixArrays
public import proofs.«01_k».proof.Proof.Gen.Reference6Ideal.Read

@[expose] public section

set_option maxRecDepth 16384

noncomputable section

namespace Cert.WindowMix

open Idealize.ShloMosaic Cert.FfnBlock Cert.Reference6Ideal Cert.Reference6Ideal.Gen Cert.Reference6Ideal.Read

set_option backward.isDefEq.respectTransparency.types false

variable (W : Fin 8192 → Fin 768 → ℝ) (T : Fin 8192 → Fin 512 → ℝ) (P : Fin 4 → Fin 128 → Fin 128 → ℝ) (S : Fin 512 → ℝ)

/-! ## The mixer's gradients at a group's columns -/

theorem delta_at4 (u : Fin 8192 → Fin 512 → ℝ) (t : Fin 8192) (g : Fin 4) (c : Fin 128) :
    delta u t (at4 g c) = (∑ k ∈ Finset.range (wide g), ext u ((t : ℕ) - (k : ℕ) : ℤ) (at4 g c)) / count g t - u t (at4 g c) := by
  unfold delta; rw [grp_at4]
theorem deltaGrad_at4 (t : Fin 512 → ℝ) (g : Fin 4) (c : Fin 128) :
    deltaGrad P S t (at4 g c) = ∑ d, t (at4 g d) * S (at4 g d) * P g c d := by
  unfold deltaGrad; rw [grp_at4, plc_at4]
theorem meanGrad_at4 (t : Fin 8192) (g : Fin 4) (c : Fin 128) :
    meanGrad T P S t (at4 g c) = deltaGrad P S (T t) (at4 g c) / count g t := by
  unfold meanGrad; rw [grp_at4]

/-! ## The running sums of the mixer's input -/

theorem at_v0 : val_main_v0 (F := Ideal) (lift2 (φ := .f32) W) =
    lift2 (φ := .f32) (front W) := by
  funext i
  rw [val_main_v0_apply]
  rfl
theorem at_v1 : val_main_v1 (F := Ideal) (lift2 (φ := .f32) W) =
    lift2 (φ := .f32) fun t j => upTo (front W) (t : ℕ) j := by
  unfold val_main_v1
  rw [at_v0 W]
  refine (window_sums (lo := 8191) (hi := 0) (front W) _ _ _ ?_).trans ?_
  · rw [val_main_call0_call0_v0_apply]; exact ofBits_zero
  · unfold upTo
    simp only [Nat.cast_ofNat]
/-! ## The difference from the window's mean: group 0, window 2 -/

theorem at_v3 : val_main_v3 (F := Ideal) (lift2 (φ := .f32) W) =
    lift2 (φ := .f32) fun t c => upTo (front W) (t : ℕ) (at4 0 c) := by
  funext i
  rw [val_main_v3_apply, at_v1 W]
  exact congrArg (fun q => ((upTo (front W) ((i 0 : Fin 8192) : ℕ) q : ℝ) : EReal)) (Fin.ext (Nat.zero_add _).symm)
theorem at_v4 : val_main_v4 (F := Ideal)  =
    lift2 (φ := .f32) fun _ _ => 0 := by
  funext i
  rw [val_main_v4_apply]
  exact ofBits_zero
theorem at_v5 : val_main_v5 (F := Ideal) (lift2 (φ := .f32) W) =
    lift2 (φ := .f32) fun t c => upTo (front W) (t : ℕ) (at4 0 c) := by
  funext i
  rw [val_main_v5_apply, at_v3 W]
  rfl
theorem at_v6 : val_main_v6 (F := Ideal) (lift2 (φ := .f32) W) =
    lift2 (φ := .f32) fun t c => if h : (t : ℕ) < 2 then 0 else upTo (front W) (((t : ℕ) - 2 : ℕ) : ℤ) (at4 0 c) := by
  unfold val_main_v6
  exact lag_2 (fun t c => upTo (front W) (t : ℕ) (at4 0 c)) at_v4 (at_v5 W) _
theorem at_v12 : val_main_v12 (F := Ideal)  =
    lift1 (φ := .f32) fun t => count 0 t := by
  funext i
  rw [val_main_v12_apply, val_main_v11_apply, val_main_v9_apply, val_main_v2_apply, val_main_v8_apply, val_main_v10_apply]
  exact count_2 (i 0)
theorem at_v13 : val_main_v13 (F := Ideal)  =
    lift2 (φ := .f32) fun t _ => count 0 t := by
  funext i
  rw [val_main_v13_apply, at_v12]
  rfl
theorem at_v14 : val_main_v14 (F := Ideal) (lift2 (φ := .f32) W) =
    lift2 (φ := .f32) fun t c => ∑ k ∈ Finset.range 2, ext (front W) ((t : ℕ) - (k : ℕ) : ℤ) (at4 0 c) := by
  funext i
  rw [val_main_v14_apply, at_v3 W, at_v6 W]
  exact (EReal.coe_sub _ _).symm.trans (congrArg Real.toEReal (lag_diff (front W) (i 0) 2 (at4 0 (i 1))))
theorem at_v15 : val_main_v15 (F := Ideal)  =
    lift2 (φ := .f32) fun t _ => count 0 t := by
  funext i
  rw [val_main_v15_apply, at_v13]
  rfl
theorem at_v16 : val_main_v16 (F := Ideal) (lift2 (φ := .f32) W) =
    lift2 (φ := .f32) fun t c => (∑ k ∈ Finset.range 2, ext (front W) ((t : ℕ) - (k : ℕ) : ℤ) (at4 0 c)) / count 0 t := by
  funext i
  rw [val_main_v16_apply, at_v14 W, at_v15]
  exact host_div (count_ne 0 _) _
theorem at_v17 : val_main_v17 (F := Ideal) (lift2 (φ := .f32) W) =
    lift2 (φ := .f32) fun t c => front W t (at4 0 c) := by
  funext i
  rw [val_main_v17_apply, at_v0 W]
  exact congrArg (fun q => ((front W (i 0) q : ℝ) : EReal)) (Fin.ext (Nat.zero_add _).symm)
theorem at_v18 : val_main_v18 (F := Ideal) (lift2 (φ := .f32) W) =
    lift2 (φ := .f32) fun t c => delta (front W) t (at4 0 c) := by
  funext i
  rw [val_main_v18_apply, at_v16 W, at_v17 W]
  exact (EReal.coe_sub _ _).symm.trans (congrArg Real.toEReal (delta_at4 (front W) (i 0) 0 (i 1)).symm)
/-! ## The difference from the window's mean: group 1, window 4 -/

theorem at_v19 : val_main_v19 (F := Ideal) (lift2 (φ := .f32) W) =
    lift2 (φ := .f32) fun t c => upTo (front W) (t : ℕ) (at4 1 c) := by
  funext i
  rw [val_main_v19_apply, at_v1 W]
  rfl
theorem at_v20 : val_main_v20 (F := Ideal)  =
    lift2 (φ := .f32) fun _ _ => 0 := by
  funext i
  rw [val_main_v20_apply]
  exact ofBits_zero
theorem at_v21 : val_main_v21 (F := Ideal) (lift2 (φ := .f32) W) =
    lift2 (φ := .f32) fun t c => upTo (front W) (t : ℕ) (at4 1 c) := by
  funext i
  rw [val_main_v21_apply, at_v19 W]
  rfl
theorem at_v22 : val_main_v22 (F := Ideal) (lift2 (φ := .f32) W) =
    lift2 (φ := .f32) fun t c => if h : (t : ℕ) < 4 then 0 else upTo (front W) (((t : ℕ) - 4 : ℕ) : ℤ) (at4 1 c) := by
  unfold val_main_v22
  exact lag_4 (fun t c => upTo (front W) (t : ℕ) (at4 1 c)) at_v20 (at_v21 W) _
theorem at_v28 : val_main_v28 (F := Ideal)  =
    lift1 (φ := .f32) fun t => count 1 t := by
  funext i
  rw [val_main_v28_apply, val_main_v27_apply, val_main_v25_apply, val_main_v2_apply, val_main_v24_apply, val_main_v26_apply]
  exact count_4 (i 0)
theorem at_v29 : val_main_v29 (F := Ideal)  =
    lift2 (φ := .f32) fun t _ => count 1 t := by
  funext i
  rw [val_main_v29_apply, at_v28]
  rfl
theorem at_v30 : val_main_v30 (F := Ideal) (lift2 (φ := .f32) W) =
    lift2 (φ := .f32) fun t c => ∑ k ∈ Finset.range 4, ext (front W) ((t : ℕ) - (k : ℕ) : ℤ) (at4 1 c) := by
  funext i
  rw [val_main_v30_apply, at_v19 W, at_v22 W]
  exact (EReal.coe_sub _ _).symm.trans (congrArg Real.toEReal (lag_diff (front W) (i 0) 4 (at4 1 (i 1))))
theorem at_v31 : val_main_v31 (F := Ideal)  =
    lift2 (φ := .f32) fun t _ => count 1 t := by
  funext i
  rw [val_main_v31_apply, at_v29]
  rfl
theorem at_v32 : val_main_v32 (F := Ideal) (lift2 (φ := .f32) W) =
    lift2 (φ := .f32) fun t c => (∑ k ∈ Finset.range 4, ext (front W) ((t : ℕ) - (k : ℕ) : ℤ) (at4 1 c)) / count 1 t := by
  funext i
  rw [val_main_v32_apply, at_v30 W, at_v31]
  exact host_div (count_ne 1 _) _
theorem at_v33 : val_main_v33 (F := Ideal) (lift2 (φ := .f32) W) =
    lift2 (φ := .f32) fun t c => front W t (at4 1 c) := by
  funext i
  rw [val_main_v33_apply, at_v0 W]
  rfl
theorem at_v34 : val_main_v34 (F := Ideal) (lift2 (φ := .f32) W) =
    lift2 (φ := .f32) fun t c => delta (front W) t (at4 1 c) := by
  funext i
  rw [val_main_v34_apply, at_v32 W, at_v33 W]
  exact (EReal.coe_sub _ _).symm.trans (congrArg Real.toEReal (delta_at4 (front W) (i 0) 1 (i 1)).symm)
/-! ## The difference from the window's mean: group 2, window 8 -/

theorem at_v35 : val_main_v35 (F := Ideal) (lift2 (φ := .f32) W) =
    lift2 (φ := .f32) fun t c => upTo (front W) (t : ℕ) (at4 2 c) := by
  funext i
  rw [val_main_v35_apply, at_v1 W]
  rfl
theorem at_v36 : val_main_v36 (F := Ideal)  =
    lift2 (φ := .f32) fun _ _ => 0 := by
  funext i
  rw [val_main_v36_apply]
  exact ofBits_zero
theorem at_v37 : val_main_v37 (F := Ideal) (lift2 (φ := .f32) W) =
    lift2 (φ := .f32) fun t c => upTo (front W) (t : ℕ) (at4 2 c) := by
  funext i
  rw [val_main_v37_apply, at_v35 W]
  rfl
theorem at_v38 : val_main_v38 (F := Ideal) (lift2 (φ := .f32) W) =
    lift2 (φ := .f32) fun t c => if h : (t : ℕ) < 8 then 0 else upTo (front W) (((t : ℕ) - 8 : ℕ) : ℤ) (at4 2 c) := by
  unfold val_main_v38
  exact lag_8 (fun t c => upTo (front W) (t : ℕ) (at4 2 c)) at_v36 (at_v37 W) _
theorem at_v44 : val_main_v44 (F := Ideal)  =
    lift1 (φ := .f32) fun t => count 2 t := by
  funext i
  rw [val_main_v44_apply, val_main_v43_apply, val_main_v41_apply, val_main_v2_apply, val_main_v40_apply, val_main_v42_apply]
  exact count_8 (i 0)
theorem at_v45 : val_main_v45 (F := Ideal)  =
    lift2 (φ := .f32) fun t _ => count 2 t := by
  funext i
  rw [val_main_v45_apply, at_v44]
  rfl
theorem at_v46 : val_main_v46 (F := Ideal) (lift2 (φ := .f32) W) =
    lift2 (φ := .f32) fun t c => ∑ k ∈ Finset.range 8, ext (front W) ((t : ℕ) - (k : ℕ) : ℤ) (at4 2 c) := by
  funext i
  rw [val_main_v46_apply, at_v35 W, at_v38 W]
  exact (EReal.coe_sub _ _).symm.trans (congrArg Real.toEReal (lag_diff (front W) (i 0) 8 (at4 2 (i 1))))
theorem at_v47 : val_main_v47 (F := Ideal)  =
    lift2 (φ := .f32) fun t _ => count 2 t := by
  funext i
  rw [val_main_v47_apply, at_v45]
  rfl
theorem at_v48 : val_main_v48 (F := Ideal) (lift2 (φ := .f32) W) =
    lift2 (φ := .f32) fun t c => (∑ k ∈ Finset.range 8, ext (front W) ((t : ℕ) - (k : ℕ) : ℤ) (at4 2 c)) / count 2 t := by
  funext i
  rw [val_main_v48_apply, at_v46 W, at_v47]
  exact host_div (count_ne 2 _) _
theorem at_v49 : val_main_v49 (F := Ideal) (lift2 (φ := .f32) W) =
    lift2 (φ := .f32) fun t c => front W t (at4 2 c) := by
  funext i
  rw [val_main_v49_apply, at_v0 W]
  rfl
theorem at_v50 : val_main_v50 (F := Ideal) (lift2 (φ := .f32) W) =
    lift2 (φ := .f32) fun t c => delta (front W) t (at4 2 c) := by
  funext i
  rw [val_main_v50_apply, at_v48 W, at_v49 W]
  exact (EReal.coe_sub _ _).symm.trans (congrArg Real.toEReal (delta_at4 (front W) (i 0) 2 (i 1)).symm)
/-! ## The difference from the window's mean: group 3, window 16 -/

theorem at_v51 : val_main_v51 (F := Ideal) (lift2 (φ := .f32) W) =
    lift2 (φ := .f32) fun t c => upTo (front W) (t : ℕ) (at4 3 c) := by
  funext i
  rw [val_main_v51_apply, at_v1 W]
  rfl
theorem at_v52 : val_main_v52 (F := Ideal)  =
    lift2 (φ := .f32) fun _ _ => 0 := by
  funext i
  rw [val_main_v52_apply]
  exact ofBits_zero
theorem at_v53 : val_main_v53 (F := Ideal) (lift2 (φ := .f32) W) =
    lift2 (φ := .f32) fun t c => upTo (front W) (t : ℕ) (at4 3 c) := by
  funext i
  rw [val_main_v53_apply, at_v51 W]
  rfl
theorem at_v54 : val_main_v54 (F := Ideal) (lift2 (φ := .f32) W) =
    lift2 (φ := .f32) fun t c => if h : (t : ℕ) < 16 then 0 else upTo (front W) (((t : ℕ) - 16 : ℕ) : ℤ) (at4 3 c) := by
  unfold val_main_v54
  exact lag_16 (fun t c => upTo (front W) (t : ℕ) (at4 3 c)) at_v52 (at_v53 W) _
theorem at_v60 : val_main_v60 (F := Ideal)  =
    lift1 (φ := .f32) fun t => count 3 t := by
  funext i
  rw [val_main_v60_apply, val_main_v59_apply, val_main_v57_apply, val_main_v2_apply, val_main_v56_apply, val_main_v58_apply]
  exact count_16 (i 0)
theorem at_v61 : val_main_v61 (F := Ideal)  =
    lift2 (φ := .f32) fun t _ => count 3 t := by
  funext i
  rw [val_main_v61_apply, at_v60]
  rfl
theorem at_v62 : val_main_v62 (F := Ideal) (lift2 (φ := .f32) W) =
    lift2 (φ := .f32) fun t c => ∑ k ∈ Finset.range 16, ext (front W) ((t : ℕ) - (k : ℕ) : ℤ) (at4 3 c) := by
  funext i
  rw [val_main_v62_apply, at_v51 W, at_v54 W]
  exact (EReal.coe_sub _ _).symm.trans (congrArg Real.toEReal (lag_diff (front W) (i 0) 16 (at4 3 (i 1))))
theorem at_v63 : val_main_v63 (F := Ideal)  =
    lift2 (φ := .f32) fun t _ => count 3 t := by
  funext i
  rw [val_main_v63_apply, at_v61]
  rfl
theorem at_v64 : val_main_v64 (F := Ideal) (lift2 (φ := .f32) W) =
    lift2 (φ := .f32) fun t c => (∑ k ∈ Finset.range 16, ext (front W) ((t : ℕ) - (k : ℕ) : ℤ) (at4 3 c)) / count 3 t := by
  funext i
  rw [val_main_v64_apply, at_v62 W, at_v63]
  exact host_div (count_ne 3 _) _
theorem at_v65 : val_main_v65 (F := Ideal) (lift2 (φ := .f32) W) =
    lift2 (φ := .f32) fun t c => front W t (at4 3 c) := by
  funext i
  rw [val_main_v65_apply, at_v0 W]
  rfl
theorem at_v66 : val_main_v66 (F := Ideal) (lift2 (φ := .f32) W) =
    lift2 (φ := .f32) fun t c => delta (front W) t (at4 3 c) := by
  funext i
  rw [val_main_v66_apply, at_v64 W, at_v65 W]
  exact (EReal.coe_sub _ _).symm.trans (congrArg Real.toEReal (delta_at4 (front W) (i 0) 3 (i 1)).symm)
/-! ## The groups' products -/

theorem at_v67 : val_main_v67 (F := Ideal) (lift2 (φ := .f32) W) =
    lift3 (φ := .f32) fun t _ c => delta (front W) t (at4 0 c) := by
  funext i
  rw [val_main_v67_apply, at_v18 W]
  rfl
theorem at_v68 : val_main_v68 (F := Ideal) (lift2 (φ := .f32) W) =
    lift3 (φ := .f32) fun t _ c => delta (front W) t (at4 1 c) := by
  funext i
  rw [val_main_v68_apply, at_v34 W]
  rfl
theorem at_v69 : val_main_v69 (F := Ideal) (lift2 (φ := .f32) W) =
    lift3 (φ := .f32) fun t _ c => delta (front W) t (at4 2 c) := by
  funext i
  rw [val_main_v69_apply, at_v50 W]
  rfl
theorem at_v70 : val_main_v70 (F := Ideal) (lift2 (φ := .f32) W) =
    lift3 (φ := .f32) fun t _ c => delta (front W) t (at4 3 c) := by
  funext i
  rw [val_main_v70_apply, at_v66 W]
  rfl
theorem at_v71 : val_main_v71 (F := Ideal) (lift2 (φ := .f32) W) =
    lift3 (φ := .f32) fun t g c => delta (front W) t (at4 g c) := by
  unfold val_main_v71
  exact stack_of (delta (front W)) (at_v67 W) (at_v68 W) (at_v69 W) (at_v70 W) _
theorem at_v72 : val_main_v72 (F := Ideal) (lift2 (φ := .f32) W) (lift3 (φ := .f32) P) =
    lift3 (φ := .f32) fun g d t => ∑ c, P g c d * delta (front W) t (at4 g c) := by
  funext i
  rw [val_main_v72_apply, at_v71 W]
  exact host_dot (fun c => P (i 0) c (i 1)) (fun c => delta (front W) (i 2) (at4 (i 0) c))
theorem at_v73 : val_main_v73 (F := Ideal) (lift2 (φ := .f32) W) (lift3 (φ := .f32) P) =
    lift3 (φ := .f32) fun t g d => ∑ c, delta (front W) t (at4 g c) * P g c d := by
  funext i
  rw [val_main_v73_apply, at_v72 W P]
  exact congrArg Real.toEReal (Finset.sum_congr rfl fun _ _ => mul_comm _ _)
theorem at_v74 : val_main_v74 (F := Ideal) (lift2 (φ := .f32) W) (lift3 (φ := .f32) P) =
    lift2 (φ := .f32) fun t j => mixed P (delta (front W) t) j := by
  unfold val_main_v74
  rw [at_v73 W P]
  exact flat_groups _ _
theorem at_v78 : val_main_v78 (F := Ideal) (lift2 (φ := .f32) W) (lift2 (φ := .f32) T) (lift3 (φ := .f32) P) =
    lift2 (φ := .f32) fun t j => mixed P (delta (front W) t) j * T t j := by
  funext i
  rw [val_main_v78_apply, at_v74 W P]
  exact (EReal.coe_mul _ _).symm
theorem at_v79 : val_main_v79 (F := Ideal) (lift2 (φ := .f32) W) (lift2 (φ := .f32) T) (lift3 (φ := .f32) P) =
    lift1 (φ := .f32) (scaleGrad (front W) T P) := by
  funext i
  rw [val_main_v79_apply, val_main_cst_14_apply, at_v78 W T P]
  exact (host_sum fun t => mixed P (delta (front W) t) (i 0) * T t (i 0)).trans (congrArg Real.toEReal (Finset.sum_congr rfl fun _ _ => mul_comm _ _))
theorem at_v80 : val_main_v80 (F := Ideal) (lift2 (φ := .f32) W) (lift2 (φ := .f32) T) (lift3 (φ := .f32) P) =
    lift2 (φ := .f32) fun _ j => scaleGrad (front W) T P j := by
  unfold val_main_v80
  rw [at_v79 W T P]
  exact line_row _ _
theorem at_v83 : val_main_v83 (F := Ideal) (lift2 (φ := .f32) W) (lift2 (φ := .f32) T) (lift3 (φ := .f32) P) =
    lift1 (φ := .f32) (scaleGrad (front W) T P) := by
  funext i
  rw [val_main_v83_apply, val_main_cst_15_apply, at_v80 W T P]
  exact host_sum_one _
theorem at_v75 : val_main_v75 (F := Ideal) (lift1 (φ := .f32) S) =
    lift2 (φ := .f32) fun _ j => S j := by
  funext i
  rw [val_main_v75_apply]
  rfl
theorem at_v81 : val_main_v81 (F := Ideal) (lift1 (φ := .f32) S) =
    lift2 (φ := .f32) fun _ j => S j := by
  funext i
  rw [val_main_v81_apply, at_v75 S]
  rfl
theorem at_v82 : val_main_v82 (F := Ideal) (lift2 (φ := .f32) T) (lift1 (φ := .f32) S) =
    lift2 (φ := .f32) fun t j => T t j * S j := by
  funext i
  rw [val_main_v82_apply, at_v81 S]
  exact (EReal.coe_mul _ _).symm
theorem at_v84 : val_main_v84 (F := Ideal) (lift2 (φ := .f32) T) (lift1 (φ := .f32) S) =
    lift3 (φ := .f32) fun t g d => T t (at4 g d) * S (at4 g d) := by
  unfold val_main_v84
  rw [at_v82 T S]
  exact group_cols _ _
theorem at_v85 : val_main_v85 (F := Ideal) (lift2 (φ := .f32) T) (lift1 (φ := .f32) S) =
    lift3 (φ := .f32) fun g d t => T t (at4 g d) * S (at4 g d) := by
  funext i
  rw [val_main_v85_apply, at_v84 T S]
  rfl
theorem at_v86 : val_main_v86 (F := Ideal) (lift2 (φ := .f32) T) (lift3 (φ := .f32) P) (lift1 (φ := .f32) S) =
    lift3 (φ := .f32) fun g t c => deltaGrad P S (T t) (at4 g c) := by
  funext i
  rw [val_main_v86_apply, at_v85 T S]
  refine (host_dot (fun d => T (i 1) (at4 (i 0) d) * S (at4 (i 0) d)) (fun d => P (i 0) (i 2) d)).trans ?_
  exact congrArg Real.toEReal (deltaGrad_at4 P S (T (i 1)) (i 0) (i 2)).symm
theorem at_v87 : val_main_v87 (F := Ideal) (lift2 (φ := .f32) T) (lift3 (φ := .f32) P) (lift1 (φ := .f32) S) =
    lift3 (φ := .f32) fun t g c => deltaGrad P S (T t) (at4 g c) := by
  funext i
  rw [val_main_v87_apply, at_v86 T P S]
  rfl
theorem at_v88 : val_main_v88 (F := Ideal) (lift2 (φ := .f32) W) (lift2 (φ := .f32) T) (lift1 (φ := .f32) S) =
    lift3 (φ := .f32) fun g d c => weightGrad (front W) T S g c d := by
  funext i
  rw [val_main_v88_apply, at_v85 T S, at_v71 W]
  refine (host_dot (fun t => T t (at4 (i 0) (i 1)) * S (at4 (i 0) (i 1))) (fun t => delta (front W) t (at4 (i 0) (i 2)))).trans ?_
  exact congrArg Real.toEReal (Finset.sum_congr rfl fun _ _ => mul_comm _ _)
theorem at_v89 : val_main_v89 (F := Ideal) (lift2 (φ := .f32) W) (lift2 (φ := .f32) T) (lift1 (φ := .f32) S) =
    lift3 (φ := .f32) (weightGrad (front W) T S) := by
  funext i
  rw [val_main_v89_apply, at_v88 W T S]
  rfl
/-! ## The gradient of the mixer's input -/

theorem at_v90 : val_main_v90 (F := Ideal) (lift2 (φ := .f32) T) (lift3 (φ := .f32) P) (lift1 (φ := .f32) S) =
    lift3 (φ := .f32) fun t _ c => deltaGrad P S (T t) (at4 0 c) := by
  funext i
  rw [val_main_v90_apply, at_v87 T P S]
  have h1 : (i 1).val < 1 := (i 1).isLt
  exact congrArg (fun q => ((deltaGrad P S (T (i 0)) (at4 q (i 2)) : ℝ) : EReal)) (Fin.ext (by show (i 1).val = 0; omega))
theorem at_v91 : val_main_v91 (F := Ideal) (lift2 (φ := .f32) T) (lift3 (φ := .f32) P) (lift1 (φ := .f32) S) =
    lift2 (φ := .f32) fun t c => deltaGrad P S (T t) (at4 0 c) := by
  unfold val_main_v91
  rw [at_v90 T P S]
  exact drop_one _ _
theorem at_v92 : val_main_v92 (F := Ideal) (lift2 (φ := .f32) T) (lift3 (φ := .f32) P) (lift1 (φ := .f32) S) =
    lift3 (φ := .f32) fun t _ c => deltaGrad P S (T t) (at4 1 c) := by
  funext i
  rw [val_main_v92_apply, at_v87 T P S]
  have h1 : (i 1).val < 1 := (i 1).isLt
  exact congrArg (fun q => ((deltaGrad P S (T (i 0)) (at4 q (i 2)) : ℝ) : EReal)) (Fin.ext (by show 1 + (i 1).val = 1; omega))
theorem at_v93 : val_main_v93 (F := Ideal) (lift2 (φ := .f32) T) (lift3 (φ := .f32) P) (lift1 (φ := .f32) S) =
    lift2 (φ := .f32) fun t c => deltaGrad P S (T t) (at4 1 c) := by
  unfold val_main_v93
  rw [at_v92 T P S]
  exact drop_one _ _
theorem at_v94 : val_main_v94 (F := Ideal) (lift2 (φ := .f32) T) (lift3 (φ := .f32) P) (lift1 (φ := .f32) S) =
    lift3 (φ := .f32) fun t _ c => deltaGrad P S (T t) (at4 2 c) := by
  funext i
  rw [val_main_v94_apply, at_v87 T P S]
  have h1 : (i 1).val < 1 := (i 1).isLt
  exact congrArg (fun q => ((deltaGrad P S (T (i 0)) (at4 q (i 2)) : ℝ) : EReal)) (Fin.ext (by show 2 + (i 1).val = 2; omega))
theorem at_v95 : val_main_v95 (F := Ideal) (lift2 (φ := .f32) T) (lift3 (φ := .f32) P) (lift1 (φ := .f32) S) =
    lift2 (φ := .f32) fun t c => deltaGrad P S (T t) (at4 2 c) := by
  unfold val_main_v95
  rw [at_v94 T P S]
  exact drop_one _ _
theorem at_v96 : val_main_v96 (F := Ideal) (lift2 (φ := .f32) T) (lift3 (φ := .f32) P) (lift1 (φ := .f32) S) =
    lift3 (φ := .f32) fun t _ c => deltaGrad P S (T t) (at4 3 c) := by
  funext i
  rw [val_main_v96_apply, at_v87 T P S]
  have h1 : (i 1).val < 1 := (i 1).isLt
  exact congrArg (fun q => ((deltaGrad P S (T (i 0)) (at4 q (i 2)) : ℝ) : EReal)) (Fin.ext (by show 3 + (i 1).val = 3; omega))
theorem at_v97 : val_main_v97 (F := Ideal) (lift2 (φ := .f32) T) (lift3 (φ := .f32) P) (lift1 (φ := .f32) S) =
    lift2 (φ := .f32) fun t c => deltaGrad P S (T t) (at4 3 c) := by
  unfold val_main_v97
  rw [at_v96 T P S]
  exact drop_one _ _
theorem at_v98 : val_main_v98 (F := Ideal) (lift2 (φ := .f32) T) (lift3 (φ := .f32) P) (lift1 (φ := .f32) S) =
    lift2 (φ := .f32) fun t c => -deltaGrad P S (T t) (at4 3 c) := by
  funext i
  rw [val_main_v98_apply, at_v97 T P S]
  exact (EReal.coe_neg _).symm
theorem at_v99 : val_main_v99 (F := Ideal) (lift2 (φ := .f32) T) (lift3 (φ := .f32) P) (lift1 (φ := .f32) S) =
    lift2 (φ := .f32) (only 3 fun t c => -deltaGrad P S (T t) (at4 3 c)) := by
  unfold val_main_v99
  rw [at_v98 T P S]
  exact pad_3 _ _ _
theorem at_v100 : val_main_v100 (F := Ideal)  =
    lift2 (φ := .f32) fun t _ => count 3 t := by
  funext i
  rw [val_main_v100_apply, at_v61]
  rfl
theorem at_v101 : val_main_v101 (F := Ideal) (lift2 (φ := .f32) T) (lift3 (φ := .f32) P) (lift1 (φ := .f32) S) =
    lift2 (φ := .f32) fun t c => meanGrad T P S t (at4 3 c) := by
  funext i
  rw [val_main_v101_apply, at_v97 T P S, at_v100]
  exact (host_div (count_ne 3 _) _).trans (congrArg Real.toEReal (meanGrad_at4 T P S (i 0) 3 (i 1)).symm)
theorem at_v102 : val_main_v102 (F := Ideal) (lift2 (φ := .f32) T) (lift3 (φ := .f32) P) (lift1 (φ := .f32) S) =
    lift2 (φ := .f32) fun t c => -meanGrad T P S t (at4 3 c) := by
  funext i
  rw [val_main_v102_apply, at_v101 T P S]
  exact (EReal.coe_neg _).symm
theorem at_v104 : val_main_v104 (F := Ideal) (lift2 (φ := .f32) T) (lift3 (φ := .f32) P) (lift1 (φ := .f32) S) =
    lift2 (φ := .f32) fun (t : Fin 8176) c => -meanGrad T P S ⟨16 + t, by omega⟩ (at4 3 c) := by
  funext i
  rw [val_main_v104_apply, at_v102 T P S]
  rfl
theorem at_v105 : val_main_v105 (F := Ideal) (lift2 (φ := .f32) T) (lift3 (φ := .f32) P) (lift1 (φ := .f32) S) =
    lift2 (φ := .f32) fun t c => if h : (t : ℕ) < 8176 then -meanGrad T P S ⟨16 + t, by omega⟩ (at4 3 c) else 0 := by
  unfold val_main_v105
  rw [at_v104 T P S]
  exact lead_16 _ _ _
theorem at_v106 : val_main_v106 (F := Ideal) (lift2 (φ := .f32) T) (lift3 (φ := .f32) P) (lift1 (φ := .f32) S) =
    lift2 (φ := .f32) fun t c => ahead (meanGrad T P S) t (at4 3 c) := by
  funext i
  rw [val_main_v106_apply, at_v101 T P S, at_v105 T P S]
  exact (EReal.coe_add _ _).symm.trans (congrArg Real.toEReal (lead_sum (meanGrad T P S) (i 0) 16 8176 rfl (at4 3 (i 1)) (by rw [grp_at4]; rfl)))
theorem at_v107 : val_main_v107 (F := Ideal) (lift2 (φ := .f32) T) (lift3 (φ := .f32) P) (lift1 (φ := .f32) S) =
    lift2 (φ := .f32) (only 3 fun t c => ahead (meanGrad T P S) t (at4 3 c)) := by
  unfold val_main_v107
  rw [at_v106 T P S]
  exact pad_3 _ _ _
theorem at_v108 : val_main_v108 (F := Ideal) (lift2 (φ := .f32) T) (lift3 (φ := .f32) P) (lift1 (φ := .f32) S) =
    lift2 (φ := .f32) fun t c => -deltaGrad P S (T t) (at4 2 c) := by
  funext i
  rw [val_main_v108_apply, at_v95 T P S]
  exact (EReal.coe_neg _).symm
theorem at_v109 : val_main_v109 (F := Ideal) (lift2 (φ := .f32) T) (lift3 (φ := .f32) P) (lift1 (φ := .f32) S) =
    lift2 (φ := .f32) (only 2 fun t c => -deltaGrad P S (T t) (at4 2 c)) := by
  unfold val_main_v109
  rw [at_v108 T P S]
  exact pad_2 _ _ _
theorem at_v111 : val_main_v111 (F := Ideal)  =
    lift2 (φ := .f32) fun t _ => count 2 t := by
  funext i
  rw [val_main_v111_apply, at_v45]
  rfl
theorem at_v112 : val_main_v112 (F := Ideal) (lift2 (φ := .f32) T) (lift3 (φ := .f32) P) (lift1 (φ := .f32) S) =
    lift2 (φ := .f32) fun t c => meanGrad T P S t (at4 2 c) := by
  funext i
  rw [val_main_v112_apply, at_v95 T P S, at_v111]
  exact (host_div (count_ne 2 _) _).trans (congrArg Real.toEReal (meanGrad_at4 T P S (i 0) 2 (i 1)).symm)
theorem at_v113 : val_main_v113 (F := Ideal) (lift2 (φ := .f32) T) (lift3 (φ := .f32) P) (lift1 (φ := .f32) S) =
    lift2 (φ := .f32) fun t c => -meanGrad T P S t (at4 2 c) := by
  funext i
  rw [val_main_v113_apply, at_v112 T P S]
  exact (EReal.coe_neg _).symm
theorem at_v115 : val_main_v115 (F := Ideal) (lift2 (φ := .f32) T) (lift3 (φ := .f32) P) (lift1 (φ := .f32) S) =
    lift2 (φ := .f32) fun (t : Fin 8184) c => -meanGrad T P S ⟨8 + t, by omega⟩ (at4 2 c) := by
  funext i
  rw [val_main_v115_apply, at_v113 T P S]
  rfl
theorem at_v116 : val_main_v116 (F := Ideal) (lift2 (φ := .f32) T) (lift3 (φ := .f32) P) (lift1 (φ := .f32) S) =
    lift2 (φ := .f32) fun t c => if h : (t : ℕ) < 8184 then -meanGrad T P S ⟨8 + t, by omega⟩ (at4 2 c) else 0 := by
  unfold val_main_v116
  rw [at_v115 T P S]
  exact lead_8 _ _ _
theorem at_v117 : val_main_v117 (F := Ideal) (lift2 (φ := .f32) T) (lift3 (φ := .f32) P) (lift1 (φ := .f32) S) =
    lift2 (φ := .f32) fun t c => ahead (meanGrad T P S) t (at4 2 c) := by
  funext i
  rw [val_main_v117_apply, at_v112 T P S, at_v116 T P S]
  exact (EReal.coe_add _ _).symm.trans (congrArg Real.toEReal (lead_sum (meanGrad T P S) (i 0) 8 8184 rfl (at4 2 (i 1)) (by rw [grp_at4]; rfl)))
theorem at_v118 : val_main_v118 (F := Ideal) (lift2 (φ := .f32) T) (lift3 (φ := .f32) P) (lift1 (φ := .f32) S) =
    lift2 (φ := .f32) (only 2 fun t c => ahead (meanGrad T P S) t (at4 2 c)) := by
  unfold val_main_v118
  rw [at_v117 T P S]
  exact pad_2 _ _ _
theorem at_v120 : val_main_v120 (F := Ideal) (lift2 (φ := .f32) T) (lift3 (φ := .f32) P) (lift1 (φ := .f32) S) =
    lift2 (φ := .f32) fun t c => -deltaGrad P S (T t) (at4 1 c) := by
  funext i
  rw [val_main_v120_apply, at_v93 T P S]
  exact (EReal.coe_neg _).symm
theorem at_v121 : val_main_v121 (F := Ideal) (lift2 (φ := .f32) T) (lift3 (φ := .f32) P) (lift1 (φ := .f32) S) =
    lift2 (φ := .f32) (only 1 fun t c => -deltaGrad P S (T t) (at4 1 c)) := by
  unfold val_main_v121
  rw [at_v120 T P S]
  exact pad_1 _ _ _
theorem at_v123 : val_main_v123 (F := Ideal)  =
    lift2 (φ := .f32) fun t _ => count 1 t := by
  funext i
  rw [val_main_v123_apply, at_v29]
  rfl
theorem at_v124 : val_main_v124 (F := Ideal) (lift2 (φ := .f32) T) (lift3 (φ := .f32) P) (lift1 (φ := .f32) S) =
    lift2 (φ := .f32) fun t c => meanGrad T P S t (at4 1 c) := by
  funext i
  rw [val_main_v124_apply, at_v93 T P S, at_v123]
  exact (host_div (count_ne 1 _) _).trans (congrArg Real.toEReal (meanGrad_at4 T P S (i 0) 1 (i 1)).symm)
theorem at_v125 : val_main_v125 (F := Ideal) (lift2 (φ := .f32) T) (lift3 (φ := .f32) P) (lift1 (φ := .f32) S) =
    lift2 (φ := .f32) fun t c => -meanGrad T P S t (at4 1 c) := by
  funext i
  rw [val_main_v125_apply, at_v124 T P S]
  exact (EReal.coe_neg _).symm
theorem at_v127 : val_main_v127 (F := Ideal) (lift2 (φ := .f32) T) (lift3 (φ := .f32) P) (lift1 (φ := .f32) S) =
    lift2 (φ := .f32) fun (t : Fin 8188) c => -meanGrad T P S ⟨4 + t, by omega⟩ (at4 1 c) := by
  funext i
  rw [val_main_v127_apply, at_v125 T P S]
  rfl
theorem at_v128 : val_main_v128 (F := Ideal) (lift2 (φ := .f32) T) (lift3 (φ := .f32) P) (lift1 (φ := .f32) S) =
    lift2 (φ := .f32) fun t c => if h : (t : ℕ) < 8188 then -meanGrad T P S ⟨4 + t, by omega⟩ (at4 1 c) else 0 := by
  unfold val_main_v128
  rw [at_v127 T P S]
  exact lead_4 _ _ _
theorem at_v129 : val_main_v129 (F := Ideal) (lift2 (φ := .f32) T) (lift3 (φ := .f32) P) (lift1 (φ := .f32) S) =
    lift2 (φ := .f32) fun t c => ahead (meanGrad T P S) t (at4 1 c) := by
  funext i
  rw [val_main_v129_apply, at_v124 T P S, at_v128 T P S]
  exact (EReal.coe_add _ _).symm.trans (congrArg Real.toEReal (lead_sum (meanGrad T P S) (i 0) 4 8188 rfl (at4 1 (i 1)) (by rw [grp_at4]; rfl)))
theorem at_v130 : val_main_v130 (F := Ideal) (lift2 (φ := .f32) T) (lift3 (φ := .f32) P) (lift1 (φ := .f32) S) =
    lift2 (φ := .f32) (only 1 fun t c => ahead (meanGrad T P S) t (at4 1 c)) := by
  unfold val_main_v130
  rw [at_v129 T P S]
  exact pad_1 _ _ _
theorem at_v132 : val_main_v132 (F := Ideal) (lift2 (φ := .f32) T) (lift3 (φ := .f32) P) (lift1 (φ := .f32) S) =
    lift2 (φ := .f32) fun t c => -deltaGrad P S (T t) (at4 0 c) := by
  funext i
  rw [val_main_v132_apply, at_v91 T P S]
  exact (EReal.coe_neg _).symm
theorem at_v133 : val_main_v133 (F := Ideal) (lift2 (φ := .f32) T) (lift3 (φ := .f32) P) (lift1 (φ := .f32) S) =
    lift2 (φ := .f32) (only 0 fun t c => -deltaGrad P S (T t) (at4 0 c)) := by
  unfold val_main_v133
  rw [at_v132 T P S]
  exact pad_0 _ _ _
theorem at_v135 : val_main_v135 (F := Ideal)  =
    lift2 (φ := .f32) fun t _ => count 0 t := by
  funext i
  rw [val_main_v135_apply, at_v13]
  rfl
theorem at_v136 : val_main_v136 (F := Ideal) (lift2 (φ := .f32) T) (lift3 (φ := .f32) P) (lift1 (φ := .f32) S) =
    lift2 (φ := .f32) fun t c => meanGrad T P S t (at4 0 c) := by
  funext i
  rw [val_main_v136_apply, at_v91 T P S, at_v135]
  exact (host_div (count_ne 0 _) _).trans (congrArg Real.toEReal (meanGrad_at4 T P S (i 0) 0 (i 1)).symm)
theorem at_v137 : val_main_v137 (F := Ideal) (lift2 (φ := .f32) T) (lift3 (φ := .f32) P) (lift1 (φ := .f32) S) =
    lift2 (φ := .f32) fun t c => -meanGrad T P S t (at4 0 c) := by
  funext i
  rw [val_main_v137_apply, at_v136 T P S]
  exact (EReal.coe_neg _).symm
theorem at_v139 : val_main_v139 (F := Ideal) (lift2 (φ := .f32) T) (lift3 (φ := .f32) P) (lift1 (φ := .f32) S) =
    lift2 (φ := .f32) fun (t : Fin 8190) c => -meanGrad T P S ⟨2 + t, by omega⟩ (at4 0 c) := by
  funext i
  rw [val_main_v139_apply, at_v137 T P S]
  rfl
theorem at_v140 : val_main_v140 (F := Ideal) (lift2 (φ := .f32) T) (lift3 (φ := .f32) P) (lift1 (φ := .f32) S) =
    lift2 (φ := .f32) fun t c => if h : (t : ℕ) < 8190 then -meanGrad T P S ⟨2 + t, by omega⟩ (at4 0 c) else 0 := by
  unfold val_main_v140
  rw [at_v139 T P S]
  exact lead_2 _ _ _
theorem at_v141 : val_main_v141 (F := Ideal) (lift2 (φ := .f32) T) (lift3 (φ := .f32) P) (lift1 (φ := .f32) S) =
    lift2 (φ := .f32) fun t c => ahead (meanGrad T P S) t (at4 0 c) := by
  funext i
  rw [val_main_v141_apply, at_v136 T P S, at_v140 T P S]
  exact (EReal.coe_add _ _).symm.trans (congrArg Real.toEReal (lead_sum (meanGrad T P S) (i 0) 2 8190 rfl (at4 0 (i 1)) (by rw [grp_at4]; rfl)))
theorem at_v142 : val_main_v142 (F := Ideal) (lift2 (φ := .f32) T) (lift3 (φ := .f32) P) (lift1 (φ := .f32) S) =
    lift2 (φ := .f32) (only 0 fun t c => ahead (meanGrad T P S) t (at4 0 c)) := by
  unfold val_main_v142
  rw [at_v141 T P S]
  exact pad_0 _ _ _
theorem at_v110 : val_main_v110 (F := Ideal) (lift2 (φ := .f32) T) (lift3 (φ := .f32) P) (lift1 (φ := .f32) S) =
    lift2 (φ := .f32) fun t j => only 3 (fun t c => -deltaGrad P S (T t) (at4 3 c)) t j + only 2 (fun t c => -deltaGrad P S (T t) (at4 2 c)) t j := by
  funext i
  rw [val_main_v110_apply, at_v99 T P S, at_v109 T P S]
  exact (EReal.coe_add _ _).symm
theorem at_v122 : val_main_v122 (F := Ideal) (lift2 (φ := .f32) T) (lift3 (φ := .f32) P) (lift1 (φ := .f32) S) =
    lift2 (φ := .f32) fun t j => only 3 (fun t c => -deltaGrad P S (T t) (at4 3 c)) t j + only 2 (fun t c => -deltaGrad P S (T t) (at4 2 c)) t j + only 1 (fun t c => -deltaGrad P S (T t) (at4 1 c)) t j := by
  funext i
  rw [val_main_v122_apply, at_v110 T P S, at_v121 T P S]
  exact (EReal.coe_add _ _).symm
theorem at_v134 : val_main_v134 (F := Ideal) (lift2 (φ := .f32) T) (lift3 (φ := .f32) P) (lift1 (φ := .f32) S) =
    lift2 (φ := .f32) fun t j => -deltaGrad P S (T t) j := by
  funext i
  rw [val_main_v134_apply, at_v122 T P S, at_v133 T P S]
  exact (EReal.coe_add _ _).symm.trans (congrArg Real.toEReal (only_sum (fun t j => -deltaGrad P S (T t) j) (i 0) (i 1)))
theorem at_v119 : val_main_v119 (F := Ideal) (lift2 (φ := .f32) T) (lift3 (φ := .f32) P) (lift1 (φ := .f32) S) =
    lift2 (φ := .f32) fun t j => only 3 (fun t c => ahead (meanGrad T P S) t (at4 3 c)) t j + only 2 (fun t c => ahead (meanGrad T P S) t (at4 2 c)) t j := by
  funext i
  rw [val_main_v119_apply, at_v107 T P S, at_v118 T P S]
  exact (EReal.coe_add _ _).symm
theorem at_v131 : val_main_v131 (F := Ideal) (lift2 (φ := .f32) T) (lift3 (φ := .f32) P) (lift1 (φ := .f32) S) =
    lift2 (φ := .f32) fun t j => only 3 (fun t c => ahead (meanGrad T P S) t (at4 3 c)) t j + only 2 (fun t c => ahead (meanGrad T P S) t (at4 2 c)) t j + only 1 (fun t c => ahead (meanGrad T P S) t (at4 1 c)) t j := by
  funext i
  rw [val_main_v131_apply, at_v119 T P S, at_v130 T P S]
  exact (EReal.coe_add _ _).symm
theorem at_v143 : val_main_v143 (F := Ideal) (lift2 (φ := .f32) T) (lift3 (φ := .f32) P) (lift1 (φ := .f32) S) =
    lift2 (φ := .f32) fun t j => ahead (meanGrad T P S) t j := by
  funext i
  rw [val_main_v143_apply, at_v131 T P S, at_v142 T P S]
  exact (EReal.coe_add _ _).symm.trans (congrArg Real.toEReal (only_sum (ahead (meanGrad T P S)) (i 0) (i 1)))
theorem at_v144 : val_main_v144 (F := Ideal) (lift2 (φ := .f32) T) (lift3 (φ := .f32) P) (lift1 (φ := .f32) S) =
    lift2 (φ := .f32) fun t j => ∑ k ∈ Finset.range (wide (grp j)), ext (meanGrad T P S) ((t : ℕ) + (k : ℕ) : ℤ) j := by
  unfold val_main_v144
  rw [at_v143 T P S]
  refine (window_sums (lo := 0) (hi := 8191) (ahead (meanGrad T P S)) _ _ _ ?_).trans ?_
  · rw [val_main_call1_call0_v0_apply]; exact ofBits_zero
  · funext i
    refine congrArg Real.toEReal (Eq.trans ?_ (from_ahead (meanGrad T P S) (i 0) (i 1)))
    unfold from'
    simp only [Nat.cast_zero, sub_zero]
theorem at_v145 : val_main_v145 (F := Ideal) (lift2 (φ := .f32) T) (lift3 (φ := .f32) P) (lift1 (φ := .f32) S) =
    lift2 (φ := .f32) (inGrad T P S) := by
  funext i
  rw [val_main_v145_apply, at_v134 T P S, at_v144 T P S]
  exact (EReal.coe_add _ _).symm.trans (congrArg Real.toEReal (by rw [inGrad, sub_eq_add_neg, add_comm]))
end Cert.WindowMix
-- ==== Proof.WindowMixClaim.lean ====
/- The causal pooling mixer's claim: the reference, from its own operations, gives the three gradients the kernel leaves. -/
module

public import proofs.«01_k».proof.Defs
public import proofs.«01_k».proof.Proof.WindowReference
public import proofs.«01_k».proof.Proof.Finite
public import proofs.«01_k».proof.Proof.Gen.Pre_finite6
public import Idealize.ShloMosaic.Adequacy

@[expose] public section

set_option maxRecDepth 16384

noncomputable section

namespace Cert.WindowMix

open Idealize.ShloMosaic Idealize.ShloMosaic.StableHlo Idealize.ShloMosaic.TcCoe Idealize.SL.Sem Cert.FfnBlock

set_option backward.isDefEq.respectTransparency.types false

/-- The reference's frame. -/
theorem frame_reference [Cert.Reference6Ideal.Facts] : Cert.quiescent_Reference6Ideal := fun m g _ =>
  (θ_run _ _ _).mono (fun r h => ⟨fun c => (h c).2.2.2, sem_eq_zero_of_no_sems (by decide) _⟩)
    (Cert.Reference6Ideal.Value.run m g)

/-- An array of three axes that passes the precondition's test is an array of real numbers. -/
theorem lift3_of {n m l : ℕ} (x : FVec Ideal ⟨3, ![n, m, l]⟩ .f32) (hb)
    (h : cmpf .olt (Host.absf x) (broadcastInDim _ ![] hb (constant Cert.Pre_finite.S_ .f32 0x7F800000#32)) = fun _ => 1#1) :
    ∃ X : Fin n → Fin m → Fin l → ℝ, x = lift3 (φ := .f32) X :=
  ⟨fun a b c => EReal.toReal (x fun k => match k with | ⟨0, _⟩ => a | ⟨1, _⟩ => b | ⟨2, _⟩ => c), funext fun i => by
    have e : (fun k => match k with | ⟨0, _⟩ => i 0 | ⟨1, _⟩ => i 1 | ⟨2, _⟩ => i 2 : Shape.Idx ⟨3, ![n, m, l]⟩) = i :=
      funext fun k => match k with | ⟨0, _⟩ => rfl | ⟨1, _⟩ => rfl | ⟨2, _⟩ => rfl
    show x i = ((EReal.toReal (x fun k => match k with | ⟨0, _⟩ => i 0 | ⟨1, _⟩ => i 1 | ⟨2, _⟩ => i 2) : ℝ) : EReal)
    rw [e]; exact real_at x hb h i⟩

/-- Under the precondition every device's arguments hold real numbers. -/
theorem args_of (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) :
    ∃ (W : Fin 8192 → Fin 768 → ℝ) (T : Fin 8192 → Fin 512 → ℝ) (P : Fin 4 → Fin 128 → Fin 128 → ℝ) (S : Fin 512 → ℝ),
      Args m c W T P S := by
  obtain ⟨h0, h1, h2, h3⟩ := h c
  obtain ⟨W, e0⟩ := lift2_of _ _ h0
  obtain ⟨T, e1⟩ := lift2_of _ _ h1
  obtain ⟨P, e2⟩ := lift3_of _ _ h2
  obtain ⟨S, e3⟩ := lift1_of _ _ h3
  exact ⟨W, T, P, S, e0, e1, e2, e3⟩

theorem algebraic : Cert.algebraic_Kernel6Ideal_Reference6Ideal_pre_finite6 := by
  intro m ρ m' ρ' hpre heq
  choose W T P S hA using args_of m hpre
  refine ⟨fun c => lift2 (φ := .f32) (inGrad (T c) (P c) (S c)),
    fun c => lift3 (φ := .f32) (weightGrad (front (W c)) (T c) (S c)),
    fun c => lift1 (φ := .f32) (scaleGrad (front (W c)) (T c) (P c)),
    run_values ρ W T P S hA, (θ_run _ _ _).mono (fun r h c => ?_) (Cert.Reference6Ideal.Value.run m' ρ')⟩
  obtain ⟨h0, h1, h2, hargs⟩ := h c
  obtain ⟨e0, e1, e2, e3⟩ := heq c
  have q0 := e0.trans (hA c).proj
  have q1 := e1.trans (hA c).dtok
  have q2 := e2.trans (hA c).weights
  have q3 := e3.trans (hA c).scale
  refine ⟨h0.trans ((Cert.Reference6Ideal.Read.val_main_v145_eq _ _).trans ?_),
    h1.trans ((Cert.Reference6Ideal.Read.val_main_v89_eq _ _).trans ?_),
    h2.trans ((Cert.Reference6Ideal.Read.val_main_v83_eq _ _).trans ?_), hargs⟩
  · rw [q1, q2, q3]; exact at_v145 (T c) (P c) (S c)
  · rw [q0, q1, q3]; exact at_v89 (W c) (T c) (S c)
  · rw [q0, q1, q2]; exact at_v83 (W c) (T c) (P c)

end Cert.WindowMix
-- ==== Proof.PoolProducts.lean ====
/- The sub-layer of a pooling layer: what its bodies' products do to arrays of real numbers, and its arrays' forms. -/
module

public import proofs.«01_k».proof.Proof.Mixing
public import proofs.«01_k».proof.Proof.Gen.Kernel3Ideal.Skeleton
public import Idealize.ShloMosaic.Lib.Pipeline.ReadBack

@[expose] public section

set_option maxRecDepth 16384

noncomputable section

namespace Cert.MixPool

open Idealize.ShloMosaic Cert.Kernel3Ideal Cert.Kernel3Ideal.Gen Cert.FfnBlock Cert.Mixing

set_option backward.isDefEq.respectTransparency.types false

theorem product0 (x : Fin 1024 → Fin 1024 → ℝ) (y : Fin 1024 → Fin 256 → ℝ) :
    matmul dot_S1024x1024_S1024x256_S1024x256_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product1 (x : Fin 256 → Fin 1024 → ℝ) (y : Fin 256 → Fin 512 → ℝ) :
    matmul dot_S256x1024_S256x512_S1024x512_0_0_1_1_n_n none (lift2 (φ := .bf16) x) (lift2 (φ := .bf16) y) (lift2 (φ := .f32) fun _ _ => 0)
      = lift2 fun i j => ∑ k, x k i * y k j := by
  funext i; pointwise [lift2]; simp only [← EReal.coe_mul]; rw [coe_sum]; simp
theorem product2 (x : Fin 256 → Fin 128 → ℝ) (y : Fin 256 → Fin 128 → ℝ) :
    matmul dot_S256x128_S256x128_S256x256_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product3 (x : Fin 256 → Fin 256 → ℝ) (y : Fin 256 → Fin 128 → ℝ) :
    matmul dot_S256x256_S256x128_S256x128_0_0_1_1_n_n none (lift2 (φ := .bf16) x) (lift2 (φ := .bf16) y) (lift2 (φ := .f32) fun _ _ => 0)
      = lift2 fun i j => ∑ k, x k i * y k j := by
  funext i; pointwise [lift2]; simp only [← EReal.coe_mul]; rw [coe_sum]; simp
theorem product4 (x : Fin 256 → Fin 256 → ℝ) (y : Fin 256 → Fin 128 → ℝ) :
    matmul dot_S256x256_S256x128_S256x128_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product5 (x : Fin 256 → Fin 256 → ℝ) (y : Fin 256 → Fin 256 → ℝ) :
    matmul dot_S256x256_S256x256_S256x256_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product6 (x : Fin 256 → Fin 256 → ℝ) (y : Fin 256 → Fin 512 → ℝ) :
    matmul dot_S256x256_S256x512_S256x512_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product7 (x : Fin 256 → Fin 256 → ℝ) (y : Fin 256 → Fin 768 → ℝ) :
    matmul dot_S256x256_S256x768_S256x768_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product8 (x : Fin 256 → Fin 256 → ℝ) (y : Fin 768 → Fin 256 → ℝ) :
    matmul dot_S256x256_S768x256_S256x768_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product9 (x : Fin 256 → Fin 512 → ℝ) (y : Fin 256 → Fin 512 → ℝ) :
    matmul dot_S256x512_S256x512_S256x256_1_1_0_0_n_n none (lift2 (φ := .bf16) x) (lift2 (φ := .bf16) y) (lift2 (φ := .f32) fun _ _ => 0)
      = lift2 fun i j => ∑ k, x i k * y j k := by
  funext i; pointwise [lift2]; simp only [← EReal.coe_mul]; rw [coe_sum]; simp
theorem product10 (x : Fin 256 → Fin 768 → ℝ) (y : Fin 768 → Fin 256 → ℝ) :
    matmul dot_S256x768_S768x256_S256x256_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp
theorem product11 (x : Fin 768 → Fin 1024 → ℝ) (y : Fin 1024 → Fin 256 → ℝ) :
    matmul dot_S768x1024_S1024x256_S768x256_1_0_0_1_n_n none (lift2 (φ := .bf16) x) (lift2 (φ := .bf16) y) (lift2 (φ := .f32) fun _ _ => 0)
      = lift2 fun i j => ∑ k, x i k * y k j := by
  funext i; pointwise [lift2]; simp only [← EReal.coe_mul]; rw [coe_sum]; simp

/-- A gain as the one-row array the kernel takes. -/
abbrev argG (g : Fin 1024 → ℝ) : Vec Ideal S1x1024 .f32 := lift2 (φ := .f32) (n := 1) fun _ => g
/-- A block of 256 rows. -/
abbrev argY (X : Fin 256 → Fin 1024 → ℝ) : Vec Ideal S256x1024 .f32 := lift2 (φ := .f32) X
/-- The memory's projection weights in four row slots. -/
abbrev argKv (W : Fin 1024 → Fin 512 → ℝ) : Vec Ideal S4x256x512 .bf16 := lift3 (φ := .bf16) fun s i j => W (quarter s i) j
/-- The output weights in four column slots. -/
abbrev argWo (W : Fin 768 → Fin 1024 → ℝ) : Vec Ideal S4x768x256 .bf16 := lift3 (φ := .bf16) fun s i j => W i (quarter s j)
/-- The input weights in four row slots. -/
abbrev argWi (W : Fin 1024 → Fin 768 → ℝ) : Vec Ideal S4x256x768 .bf16 := lift3 (φ := .bf16) fun s i j => W (quarter s i) j

end Cert.MixPool
-- ==== Proof.PoolForward.lean ====
/- What the forward bodies of a pooling layer's sub-layer compute on one block: the memory's projection, the input projection, and the attention with the output product. -/
module

public import proofs.«01_k».proof.Proof.PoolProducts
public import proofs.«01_k».proof.Proof.Gen.Kernel3Ideal.Frame.Region0
public import proofs.«01_k».proof.Proof.Gen.Kernel3Ideal.Frame.Region1
public import proofs.«01_k».proof.Proof.Gen.Kernel3Ideal.Frame.Region2
public import Idealize.ShloMosaic.Lib.Pipeline.ReadBack

@[expose] public section

set_option maxRecDepth 16384

noncomputable section

namespace Cert.MixPool

open Idealize.ShloMosaic Cert.Kernel3Ideal Cert.Kernel3Ideal.Gen Cert.FfnBlock Cert.Mixing Idealize.ShloMosaic.TcCoe

set_option backward.isDefEq.respectTransparency.types false

variable (g gm : Fin 1024 → ℝ) (M X : Fin 256 → Fin 1024 → ℝ) (Wkv : Fin 1024 → Fin 512 → ℝ) (Wi : Fin 1024 → Fin 768 → ℝ)
  (KV : Fin 256 → Fin 512 → ℝ) (Wo : Fin 768 → Fin 1024 → ℝ) (T : Fin 256 → Fin 512 → ℝ) (Q : Fin 256 → Fin 256 → ℝ)

theorem out_kv (x : Vec Ideal S256x512 .bf16) : View.canon [⟨r0_6, x⟩] = x := View.canon_cons_unit_lit _ _ _ (by decide)

/-- The memory's keys and values. -/
theorem memory_out : out0_3 (argY M) (argG gm) (argKv Wkv) = lift2 (φ := .bf16) fun k => times Wkv (normed gm (M k)) := by
  unfold out0_3
  refine (out_kv _).trans ?_
  simp only [whole_256_1024_f32, whole_1_1024_f32, slot_kv0, slot_kv1, slot_kv2, slot_kv3]
  simp only [k0_pay1, mulf_lift2]
  rw [sum1]
  simp only [mulf_lift2, cast_col256, cst_width, divf_width, cst_eps, addf_lift2, rsqrt_ms, cols_256, cast_same, rows_256, truncf_lift2, cut_256_1024_0, cut_256_1024_256, cut_256_1024_512, cut_256_1024_768, drop_256_512, constant_lift2, product0, product1, product2, product3, product4, product5, product6, product7, product8, product9, product10, product11]
  refine congrArg lift2 (funext fun i => funext fun j => ?_)
  exact (sum_quarters fun q => normed gm (M i) q * Wkv q j).symm
theorem out_u (x : Vec Ideal S256x1024 .bf16) : View.canon [⟨r1_0, x⟩] = x := View.canon_cons_unit_lit _ _ _ (by decide)
theorem out_p (x : Vec Ideal S256x768 .f32) : View.canon [⟨r1_6, x⟩] = x := View.canon_cons_unit_lit _ _ _ (by decide)
theorem slot_wi0 (w : Fin 4 → Fin 256 → Fin 768 → ℝ) (h) :
    View.ld (Val := Elt Ideal) (e' := .bf16) (lift3 w : FVec Ideal S4x256x768 .bf16) (Rect.unit (s := S4x256x768) ![0, 0, 0] S1x256x768.size h)
      = lift3 (φ := .bf16) fun _ : Fin 1 => w 0 := by
  funext i; pointwise [lift3]
theorem slot_wi1 (w : Fin 4 → Fin 256 → Fin 768 → ℝ) (h) :
    View.ld (Val := Elt Ideal) (e' := .bf16) (lift3 w : FVec Ideal S4x256x768 .bf16) (Rect.unit (s := S4x256x768) ![1, 0, 0] S1x256x768.size h)
      = lift3 (φ := .bf16) fun _ : Fin 1 => w 1 := by
  funext i; pointwise [lift3]
theorem slot_wi2 (w : Fin 4 → Fin 256 → Fin 768 → ℝ) (h) :
    View.ld (Val := Elt Ideal) (e' := .bf16) (lift3 w : FVec Ideal S4x256x768 .bf16) (Rect.unit (s := S4x256x768) ![2, 0, 0] S1x256x768.size h)
      = lift3 (φ := .bf16) fun _ : Fin 1 => w 2 := by
  funext i; pointwise [lift3]
theorem slot_wi3 (w : Fin 4 → Fin 256 → Fin 768 → ℝ) (h) :
    View.ld (Val := Elt Ideal) (e' := .bf16) (lift3 w : FVec Ideal S4x256x768 .bf16) (Rect.unit (s := S4x256x768) ![3, 0, 0] S1x256x768.size h)
      = lift3 (φ := .bf16) fun _ : Fin 1 => w 3 := by
  funext i; pointwise [lift3]

theorem input_normed : k1_pay2 (argY X) (argG g) = lift2 (φ := .bf16) fun i => normed g (X i) := by
  simp only [k1_pay2, mulf_lift2]
  rw [sum1]
  simp only [mulf_lift2, cast_col256, cst_width, divf_width, cst_eps, addf_lift2, rsqrt_ms, cols_256, cast_same, rows_256, truncf_lift2]
  rfl

/-- The normed rows. -/
theorem input_out_u : out1_3 (argY X) (argG g) (argWi Wi) = lift2 (φ := .bf16) fun i => normed g (X i) := by
  unfold out1_3
  refine (out_u _).trans ?_
  simp only [whole_256_1024_f32, whole_1_1024_f32, input_normed]

/-- The input projection. -/
theorem input_out_p : out1_4 (argY X) (argG g) (argWi Wi) = lift2 (φ := .f32) fun i => times Wi (normed g (X i)) := by
  unfold out1_4
  refine (out_p _).trans ?_
  simp only [whole_256_1024_f32, whole_1_1024_f32, slot_wi0, slot_wi1, slot_wi2, slot_wi3]
  simp only [k1_pay1, k1_pay3, k1_pay4, k1_pay5, input_normed, cut_256_1024_0, cut_256_1024_256, cut_256_1024_512, cut_256_1024_768, drop_256_768, constant_lift2, product0, product1, product2, product3, product4, product5, product6, product7, product8, product9, product10, product11, addf_lift2]
  refine congrArg lift2 (funext fun i => funext fun j => ?_)
  exact (sum_quarters fun q => normed g (X i) q * Wi q j).symm

/-! ## The attention over the memory rows -/

theorem low_mask : k2_pay2 = low := mask_low _

theorem score_1 : k2_pay7 (F := Ideal) (lift2 (φ := .f32) Q) (lift2 (φ := .bf16) fun i j => KV i (col 0 (by norm_num) j)) = lift2 fun i => score KV (Q i) 1 := by
  simp only [k2_pay7, k2_pay3, k2_pay4, k2_pay5, low_mask, cast_same, truncf_lift2, cut_128_256_0, cst_zero16, select_low, constant_lift2, product0, product1, product2, product3, product4, product5, product6, product7, product8, product9, product10, product11, cst_eighth, mulf_lift2,
    sum_low, sum_high, hd_1, key_1]
  rfl
theorem score_2 : k2_pay8 (F := Ideal) (lift2 (φ := .f32) Q) (lift2 (φ := .bf16) fun i j => KV i (col 128 (by norm_num) j)) = lift2 fun i => score KV (Q i) 2 := by
  simp only [k2_pay8, k2_pay3, k2_pay4, k2_pay6, low_mask, cast_same, truncf_lift2, cut_128_256_128, cst_zero16, select_low, constant_lift2, product0, product1, product2, product3, product4, product5, product6, product7, product8, product9, product10, product11, cst_eighth, mulf_lift2,
    sum_low, sum_high, hd_2, key_2]
  rfl
theorem score_3 : k2_pay9 (F := Ideal) (lift2 (φ := .f32) Q) (lift2 (φ := .bf16) fun i j => KV i (col 128 (by norm_num) j)) = lift2 fun i => score KV (Q i) 3 := by
  simp only [k2_pay9, k2_pay3, k2_pay4, k2_pay6, low_mask, cast_same, truncf_lift2, cut_128_256_128, cst_zero16, select_low, constant_lift2, product0, product1, product2, product3, product4, product5, product6, product7, product8, product9, product10, product11, cst_eighth, mulf_lift2,
    sum_low, sum_high, hd_3, key_3]
  rfl
theorem exp_0 : k2_pay10 (F := Ideal) (lift2 (φ := .f32) Q) (lift2 (φ := .bf16) fun i j => KV i (col 0 (by norm_num) j))
    = lift2 fun i k => Real.exp (score KV (Q i) 0 k - top (score KV (Q i) 0)) := by
  simp only [k2_pay10, k2_pay3, k2_pay4, k2_pay5, low_mask, cast_same, truncf_lift2, cut_128_256_0, cst_zero16, select_low, constant_lift2, product0, product1, product2, product3, product4, product5, product6, product7, product8, product9, product10, product11, cst_eighth, mulf_lift2,
    sum_low, sum_high, hd_0, key_0]
  rw [max1]
  simp only [cast_col256, cols_256_256, subf_lift2, exp_lift2]
  rfl
theorem soft_of (S : Fin 256 → Fin 256 → ℝ) : k2_pay11 (F := Ideal) (lift2 (φ := .f32) S) = lift2 fun i => soft (S i) := by
  simp only [k2_pay11]
  rw [max1]
  simp only [cast_col256, cols_256_256, subf_lift2, exp_lift2]
  rw [sum1]
  simp only [cast_col256, cols_256_256, divf_soft]
  rfl
theorem weigh_0 (E : Fin 256 → Fin 256 → ℝ) (V : Fin 256 → Fin 128 → ℝ) :
    k2_pay12 (F := Ideal) (lift2 (φ := .f32) fun i k => Real.exp (E i k)) (lift2 (φ := .bf16) V)
      = lift2 fun i j => ∑ k, Real.exp (E i k) / (∑ l, Real.exp (E i l)) * V k j := by
  simp only [k2_pay12]
  rw [sum1]
  simp only [cast_col256, cols_256_256, divf_soft, cast_same, truncf_lift2, constant_lift2, product0, product1, product2, product3, product4, product5, product6, product7, product8, product9, product10, product11]
theorem weigh_1 (S : Fin 256 → Fin 256 → ℝ) (V : Fin 256 → Fin 128 → ℝ) :
    k2_pay13 (F := Ideal) (lift2 (φ := .f32) S) (lift2 (φ := .bf16) V) = lift2 fun i j => ∑ k, soft (S i) k * V k j := by
  simp only [k2_pay13]
  rw [max1]
  simp only [cast_col256, cols_256_256, subf_lift2, exp_lift2]
  rw [sum1]
  simp only [cast_col256, cols_256_256, divf_soft, cast_same, truncf_lift2, constant_lift2, product0, product1, product2, product3, product4, product5, product6, product7, product8, product9, product10, product11]
  rfl
theorem weigh_2 (S : Fin 256 → Fin 256 → ℝ) (V : Fin 256 → Fin 128 → ℝ) :
    k2_pay14 (F := Ideal) (lift2 (φ := .f32) S) (lift2 (φ := .bf16) V) = lift2 fun i j => ∑ k, soft (S i) k * V k j := by
  simp only [k2_pay14]
  rw [max1]
  simp only [cast_col256, cols_256_256, subf_lift2, exp_lift2]
  rw [sum1]
  simp only [cast_col256, cols_256_256, divf_soft, cast_same, truncf_lift2, constant_lift2, product0, product1, product2, product3, product4, product5, product6, product7, product8, product9, product10, product11]
  rfl

/-- What one head adds to an attention row. -/
theorem cat_of (A1 A2 A3 : Fin 256 → Fin 128 → ℝ) (S : Fin 256 → Fin 256 → ℝ) (V : Fin 256 → Fin 128 → ℝ) :
    k2_pay15 (F := Ideal) low (lift2 (φ := .f32) S) (lift2 (φ := .f32) A1) (lift2 (φ := .f32) A2) (lift2 (φ := .f32) A3) (lift2 (φ := .bf16) V) (lift2 (φ := .f32) T)
      = lift2 (φ := .bf16) fun i => sideBySide (T i) (fun j => if (j : ℕ) < 64 then A1 i j else A2 i j)
          (fun j => if (j : ℕ) < 64 then A3 i j else ∑ k, S i k * V k j) := by
  rw [k2_pay15]
  refine (concat_parts_of (x0 := T) (x1 := fun i j => if (j : ℕ) < 64 then A1 i j else A2 i j) (x2 := fun i j => if (j : ℕ) < 64 then A3 i j else ∑ k, S i k * V k j) ?_ ?_ ?_ _).trans rfl
  · simp only [cast_same, truncf_lift2]
  · simp only [cast_same, select_low, truncf_lift2]
  · simp only [cast_same, truncf_lift2, constant_lift2, product0, product1, product2, product3, product4, product5, product6, product7, product8, product9, product10, product11, select_low]

theorem all_0 : k2_pay18 (F := Ideal) (argY X) (lift2 (φ := .f32) T) (lift2 (φ := .f32) Q) (lift2 (φ := .bf16) KV) (argWo Wo) (argG g) = low := low_mask
theorem all_1 : k2_pay19 (F := Ideal) (argY X) (lift2 (φ := .f32) T) (lift2 (φ := .f32) Q) (lift2 (φ := .bf16) KV) (argWo Wo) (argG g) = lift2 (φ := .f32) fun i => prob KV (Q i) 3 := by
  simp only [k2_pay19, whole_256_256_f32, piece_kv128, score_3, soft_of]
  rfl
theorem all_2 : k2_pay20 (F := Ideal) (argY X) (lift2 (φ := .f32) T) (lift2 (φ := .f32) Q) (lift2 (φ := .bf16) KV) (argWo Wo) (argG g) = lift2 (φ := .f32) fun i j => ∑ k, prob KV (Q i) 0 k * KV k (valCol (col 0 (by norm_num) j)) := by
  simp only [k2_pay20, whole_256_256_f32, piece_kv0, piece_kv256, exp_0, weigh_0]
  exact congrArg lift2 (funext fun i => funext fun j => Finset.sum_congr rfl fun k _ => congrArg₂ (· * ·) rfl (congrArg (KV k) (Fin.ext (by simp [col, valCol]))))
theorem all_3 : k2_pay21 (F := Ideal) (argY X) (lift2 (φ := .f32) T) (lift2 (φ := .f32) Q) (lift2 (φ := .bf16) KV) (argWo Wo) (argG g) = lift2 (φ := .f32) fun i j => ∑ k, prob KV (Q i) 1 k * KV k (valCol (col 0 (by norm_num) j)) := by
  simp only [k2_pay21, whole_256_256_f32, piece_kv0, piece_kv256, score_1, weigh_1]
  exact congrArg lift2 (funext fun i => funext fun j => Finset.sum_congr rfl fun k _ => congrArg₂ (· * ·) rfl (congrArg (KV k) (Fin.ext (by simp [col, valCol]))))
theorem all_4 : k2_pay22 (F := Ideal) (argY X) (lift2 (φ := .f32) T) (lift2 (φ := .f32) Q) (lift2 (φ := .bf16) KV) (argWo Wo) (argG g) = lift2 (φ := .f32) fun i j => ∑ k, prob KV (Q i) 2 k * KV k (valCol (col 128 (by norm_num) j)) := by
  simp only [k2_pay22, whole_256_256_f32, piece_kv128, piece_kv384, score_2, weigh_2]
  exact congrArg lift2 (funext fun i => funext fun j => Finset.sum_congr rfl fun k _ => congrArg₂ (· * ·) rfl (congrArg (KV k) (Fin.ext (by simp [col, valCol]; omega))))

/-- The token rows with the attention rows after them. -/
theorem cat_all : k2_pay15 (F := Ideal) low (lift2 (φ := .f32) fun i => prob KV (Q i) 3)
      (lift2 (φ := .f32) fun i j => ∑ k, prob KV (Q i) 0 k * KV k (valCol (col 0 (by norm_num) j)))
      (lift2 (φ := .f32) fun i j => ∑ k, prob KV (Q i) 1 k * KV k (valCol (col 0 (by norm_num) j)))
      (lift2 (φ := .f32) fun i j => ∑ k, prob KV (Q i) 2 k * KV k (valCol (col 128 (by norm_num) j)))
      (lift2 (φ := .bf16) fun i j => KV i (col 384 (by norm_num) j)) (lift2 (φ := .f32) T)
    = lift2 (φ := .bf16) fun i => beside (T i) (attend KV (Q i)) := by
  rw [cat_of]
  refine congrArg lift2 (funext fun i => ?_)
  refine Eq.trans ?_ (side_attend (T i) fun h j => ∑ k, prob KV (Q i) h k * KV k (valCol j))
  have e : ∀ j : Fin 128, (col 384 (by norm_num) j : Fin 512) = valCol (col 128 (by norm_num) j) := fun j => Fin.ext (by simp [col, valCol]; omega)
  simp only [e]

/-- The product rows. -/
theorem mix_all : k2_pay16 (F := Ideal) low (lift2 (φ := .f32) fun i => prob KV (Q i) 3)
      (lift2 (φ := .f32) fun i j => ∑ k, prob KV (Q i) 0 k * KV k (valCol (col 0 (by norm_num) j)))
      (lift2 (φ := .f32) fun i j => ∑ k, prob KV (Q i) 1 k * KV k (valCol (col 0 (by norm_num) j)))
      (lift2 (φ := .f32) fun i j => ∑ k, prob KV (Q i) 2 k * KV k (valCol (col 128 (by norm_num) j)))
      (lift2 (φ := .bf16) fun i j => KV i (col 384 (by norm_num) j)) (lift2 (φ := .f32) T)
      (lift3 (φ := .bf16) fun (_ : Fin 1) i j => Wo i (quarter 0 j)) (lift3 (φ := .bf16) fun (_ : Fin 1) i j => Wo i (quarter 1 j))
      (lift3 (φ := .bf16) fun (_ : Fin 1) i j => Wo i (quarter 2 j)) (lift3 (φ := .bf16) fun (_ : Fin 1) i j => Wo i (quarter 3 j))
    = lift2 (φ := .f32) fun i => mixed KV Wo (T i) (Q i) := by
  rw [k2_pay16]
  refine (concat_quarters_of (x0 := fun i j => mixed KV Wo (T i) (Q i) (quarter 0 j)) (x1 := fun i j => mixed KV Wo (T i) (Q i) (quarter 1 j))
    (x2 := fun i j => mixed KV Wo (T i) (Q i) (quarter 2 j)) (x3 := fun i j => mixed KV Wo (T i) (Q i) (quarter 3 j)) ?_ ?_ ?_ ?_ _).trans ?_
  iterate 4
    · simp only [cat_all, drop_768_256, constant_lift2, product0, product1, product2, product3, product4, product5, product6, product7, product8, product9, product10, product11]
      rfl
  exact congrArg lift2 (funext fun i => joined_quarters (mixed KV Wo (T i) (Q i)))

theorem out_cat (x : Vec Ideal S256x768 .bf16) : View.canon [⟨r2_6, x⟩] = x := View.canon_cons_unit_lit _ _ _ (by decide)
theorem out_row (x : Vec Ideal S256x1024 .f32) : View.canon [⟨r2_11, x⟩] = x := View.canon_cons_unit_lit _ _ _ (by decide)

theorem mix_out_cat : out2_7 (F := Ideal) (argY X) (lift2 (φ := .f32) T) (lift2 (φ := .f32) Q) (lift2 (φ := .bf16) KV) (argWo Wo) (argG g) = lift2 (φ := .bf16) fun i => beside (T i) (attend KV (Q i)) := by
  unfold out2_7
  refine (out_cat _).trans ?_
  simp only [all_0, all_1, all_2, all_3, all_4, piece_kv384, whole_256_512_f32, slot_wo0, slot_wo1, slot_wo2, slot_wo3, cat_all]
theorem mix_out_mix : out2_8 (F := Ideal) (argY X) (lift2 (φ := .f32) T) (lift2 (φ := .f32) Q) (lift2 (φ := .bf16) KV) (argWo Wo) (argG g) = lift2 (φ := .f32) fun i => mixed KV Wo (T i) (Q i) := by
  unfold out2_8
  refine (out_row _).trans ?_
  simp only [all_0, all_1, all_2, all_3, all_4, piece_kv384, whole_256_512_f32, slot_wo0, slot_wo1, slot_wo2, slot_wo3, mix_all]
theorem mix_out_h : out2_6 (F := Ideal) (argY X) (lift2 (φ := .f32) T) (lift2 (φ := .f32) Q) (lift2 (φ := .bf16) KV) (argWo Wo) (argG g) = lift2 (φ := .f32) fun i => mixOut g (X i) (mixed KV Wo (T i) (Q i)) := by
  unfold out2_6
  refine (out_row _).trans ?_
  simp only [all_0, all_1, all_2, all_3, all_4, piece_kv384, whole_256_512_f32, slot_wo0, slot_wo1, slot_wo2, slot_wo3, whole_256_1024_f32, whole_1_1024_f32, k2_pay1, k2_pay17, mix_all]
  simp only [mulf_lift2]
  rw [sum1]
  simp only [mulf_lift2, cast_col256, cst_width, divf_width, cst_eps, addf_lift2, rsqrt_ms, cols_256, cast_same, rows_256, truncf_lift2]
  rfl

end Cert.MixPool
-- ==== Proof.PoolValues.lean ====
/- The sub-layer of a pooling layer over the real numbers: its inputs, its rows, and its gradients. -/
module

public import proofs.«01_k».proof.Proof.MixBack

@[expose] public section

noncomputable section

namespace Cert.MixPool

open Cert.FfnBlock Cert.Mixing

/-- The query's entries of a row of the input projection. -/
def query (p : Fin 768 → ℝ) (j : Fin 256) : ℝ := p ⟨512 + j, by omega⟩
/-- The token mixer's entries of a row of the input projection. -/
def forToken (p : Fin 768 → ℝ) (j : Fin 512) : ℝ := p ⟨j, by omega⟩

/-- The sub-layer's inputs: its rows, the token mixer's rows, the gradients arriving at the output and at the token
    mixer's part of the projection, the memory, the three gains and the three weights. -/
structure Inputs where
  H : Fin 8192 → Fin 1024 → ℝ
  T : Fin 8192 → Fin 512 → ℝ
  D : Fin 8192 → Fin 1024 → ℝ
  DP : Fin 8192 → Fin 512 → ℝ
  M : Fin 256 → Fin 1024 → ℝ
  g : Fin 1024 → ℝ
  gm : Fin 1024 → ℝ
  g' : Fin 1024 → ℝ
  Wi : Fin 1024 → Fin 768 → ℝ
  Wkv : Fin 1024 → Fin 512 → ℝ
  Wo : Fin 768 → Fin 1024 → ℝ

namespace Inputs

variable (I : Inputs)

/-- The memory's keys and values. -/
def mem (k : Fin 256) : Fin 512 → ℝ := times I.Wkv (normed I.gm (I.M k))
/-- The input projection's row. -/
def proj (r : Fin 8192) : Fin 768 → ℝ := times I.Wi (normed I.g (I.H r))
/-- The token mixer's row with the attention's row after it. -/
def cat (r : Fin 8192) : Fin 768 → ℝ := beside (I.T r) (attend I.mem (query (I.proj r)))
/-- The output product's row. -/
def mix (r : Fin 8192) : Fin 1024 → ℝ := mixed I.mem I.Wo (I.T r) (query (I.proj r))
/-- The sub-layer's output row. -/
def out (r : Fin 8192) : Fin 1024 → ℝ := mixOut I.g' (I.H r) (I.mix r)
/-- The gradient at the output product's row. -/
def dmix (r : Fin 8192) : Fin 1024 → ℝ := mixedBack I.g' (I.mix r) (I.D r)
/-- The gradient at the token mixer's row. -/
def dtok (r : Fin 8192) : Fin 512 → ℝ := tokBack I.Wo (I.dmix r)
/-- The gradient at the query row. -/
def dquery (r : Fin 8192) : Fin 256 → ℝ := queryBack I.mem (query (I.proj r)) (attBack I.Wo (I.dmix r))
/-- The gradient at the memory's keys and values. -/
def dmem (k : Fin 256) (j : Fin 512) : ℝ := ∑ r, memBack I.mem (query (I.proj r)) (attBack I.Wo (I.dmix r)) k j
/-- The gradient at the projection's row. -/
def dproj (r : Fin 8192) : Fin 768 → ℝ := beside (I.DP r) (I.dquery r)
/-- The gradient of the output gain. -/
def dgpost (j : Fin 1024) : ℝ := ∑ r, I.D r j * hat (I.mix r) j
/-- The gradient of the output weights. -/
def dwo (i : Fin 768) (j : Fin 1024) : ℝ := ∑ r, I.cat r i * I.dmix r j
/-- The gradient of the memory's weights. -/
def dwkv (i : Fin 1024) (j : Fin 512) : ℝ := ∑ k, normed I.gm (I.M k) i * I.dmem k j
/-- The gradient of the memory's gain. -/
def dgmem (j : Fin 1024) : ℝ := ∑ k, timesT I.Wkv (I.dmem k) j * hat (I.M k) j
/-- The gradient at the input rows. -/
def dh (r : Fin 8192) : Fin 1024 → ℝ := mixIn I.g (I.H r) (I.D r) (timesT I.Wi (I.dproj r))
/-- The gradient of the input gain. -/
def dgpre (j : Fin 1024) : ℝ := ∑ r, timesT I.Wi (I.dproj r) j * hat (I.H r) j
/-- The gradient of the input weights. -/
def dwin (i : Fin 1024) (j : Fin 768) : ℝ := ∑ r, normed I.g (I.H r) i * I.dproj r j

end Inputs

end Cert.MixPool
-- ==== Proof.PoolForwardArrays.lean ====
/- The forward kernels' output arrays of the pooling layer's sub-layer, on real arrays. -/
module

public import proofs.«01_k».proof.Proof.PoolForward
public import proofs.«01_k».proof.Proof.PoolValues
public import proofs.«01_k».proof.Proof.BackwardArrays
public import proofs.«01_k».proof.Proof.WeightGradArrays
public import Idealize.ShloMosaic.Lib.Pipeline.ReadBack

@[expose] public section

set_option maxRecDepth 16384

noncomputable section

namespace Cert.MixPool

open Idealize.ShloMosaic Cert.Kernel3Ideal Cert.Kernel3Ideal.Gen Cert.FfnBlock Cert.Mixing Idealize.ShloMosaic.TcCoe

set_option backward.isDefEq.respectTransparency.types false

variable (V : (c : Dev nD) → (b : Ref sig .tc) → Buf (Elt Ideal) ((c : Thread nD τ).loc b)) (c : Dev nD)

/-- The memory's keys and values as the kernels take them. -/
abbrev argMem (X : Fin 256 → Fin 512 → ℝ) : Vec Ideal S256x512 .bf16 := lift2 (φ := .bf16) X
/-- The gradient at the memory's keys and values. -/
abbrev argDmem (X : Fin 256 → Fin 512 → ℝ) : Vec Ideal S256x512 .f32 := lift2 (φ := .f32) X

section
variable (M : Fin 256 → Fin 1024 → ℝ) (gm : Fin 1024 → ℝ) (Wkv : Fin 1024 → Fin 512 → ℝ)

/-- The block index of every window at every grid point. -/
theorem index0 : ∀ t : Fin cfg0.N,
    win0_0.index t = ![0, 0]
    ∧ win0_1.index t = ![0, 0]
    ∧ win0_2.index t = ![0, 0, 0]
    ∧ win0_3.index t = ![0, 0] :=
  (by decide +kernel : ∀ t : Fin grid0.N, _)

/-- The arrays this kernel finds on entry. -/
structure Entry0 : Prop where
  e0 : V c (Pipeline.arrRef spec0 0) = argY M
  e1 : V c (Pipeline.arrRef spec0 1) = argG gm
  e2 : V c (Pipeline.arrRef spec0 2) = argKv Wkv

theorem block0_0 (he : Entry0 V c M gm Wkv) (t : Fin cfg0.N) : iblk0 V c 0 t = argY M := by
  rw [iblk0, he.e0]
  funext y
  show argY M (((cfg0.win 0).blk t).view.emb y) = argY M y
  refine congrArg (argY M) (funext fun a => Fin.ext ?_)
  fin_cases a <;> blk_simp [index0 t]
theorem block0_1 (he : Entry0 V c M gm Wkv) (t : Fin cfg0.N) : iblk0 V c 1 t = argG gm := by
  rw [iblk0, he.e1]
  funext y
  show argG gm (((cfg0.win 1).blk t).view.emb y) = _
  refine congrArg Real.toEReal (congrArg gm (Fin.ext ?_))
  blk_simp [index0 t]
theorem block0_2 (he : Entry0 V c M gm Wkv) (t : Fin cfg0.N) : iblk0 V c 2 t = argKv Wkv := by
  rw [iblk0, he.e2]
  funext y
  show argKv Wkv (((cfg0.win 2).blk t).view.emb y) = argKv Wkv y
  refine congrArg (argKv Wkv) (funext fun a => Fin.ext ?_)
  fin_cases a <;> blk_simp [index0 t]

theorem array_kv (he : Entry0 V c M gm Wkv) :
    (dat0 V c).arrAt 3 cfg0.N = (argMem fun k => times Wkv (normed gm (M k))) := by
  refine (dat0 V c).arrAt_eq_of_covers 3 _ (by decide +kernel) fun t hf y => ?_
  blk_simp
  rw [after0_3, block0_0 V c M gm Wkv he, block0_1 V c M gm Wkv he, block0_2 V c M gm Wkv he, memory_out]
  refine congrArg (argMem fun k => times Wkv (normed gm (M k))) (funext fun a => Fin.ext ?_)
  fin_cases a <;> blk_simp [index0 t]

end

section
variable (H : Fin 8192 → Fin 1024 → ℝ) (g : Fin 1024 → ℝ) (Wi : Fin 1024 → Fin 768 → ℝ)

/-- The block index of every window at every grid point. -/
theorem index1 : ∀ t : Fin cfg1.N,
    win1_0.index t = ![(t : ℕ), 0]
    ∧ win1_1.index t = ![0, 0]
    ∧ win1_2.index t = ![0, 0, 0]
    ∧ win1_3.index t = ![(t : ℕ), 0]
    ∧ win1_4.index t = ![(t : ℕ), 0] :=
  (by decide +kernel : ∀ t : Fin grid1.N, _)

/-- The arrays this kernel finds on entry. -/
structure Entry1 : Prop where
  e0 : V c (Pipeline.arrRef spec1 0) = (lift2 (φ := .f32) H : FVec Ideal S8192x1024 .f32)
  e1 : V c (Pipeline.arrRef spec1 1) = argG g
  e2 : V c (Pipeline.arrRef spec1 2) = argWi Wi

theorem block1_0 (he : Entry1 V c H g Wi) (t : Fin cfg1.N) : iblk1 V c 0 t = (lift2 (φ := .f32) fun i => H (row256 t i) : FVec Ideal S256x1024 .f32) := by
  rw [iblk1, he.e0]
  funext y
  show (lift2 (φ := .f32) H : FVec Ideal S8192x1024 .f32) (((cfg1.win 0).blk t).view.emb y) = _
  refine congrArg Real.toEReal (congrArg₂ H (Fin.ext ?_) (Fin.ext ?_))
  · blk_simp [index1 t]; exact (row256_val t.isLt (y 0)).symm
  · blk_simp [index1 t]
theorem block1_1 (he : Entry1 V c H g Wi) (t : Fin cfg1.N) : iblk1 V c 1 t = argG g := by
  rw [iblk1, he.e1]
  funext y
  show argG g (((cfg1.win 1).blk t).view.emb y) = _
  refine congrArg Real.toEReal (congrArg g (Fin.ext ?_))
  blk_simp [index1 t]
theorem block1_2 (he : Entry1 V c H g Wi) (t : Fin cfg1.N) : iblk1 V c 2 t = argWi Wi := by
  rw [iblk1, he.e2]
  funext y
  show argWi Wi (((cfg1.win 2).blk t).view.emb y) = argWi Wi y
  refine congrArg (argWi Wi) (funext fun a => Fin.ext ?_)
  fin_cases a <;> blk_simp [index1 t]

theorem array_u (he : Entry1 V c H g Wi) :
    (dat1 V c).arrAt 3 cfg1.N = (lift2 (φ := .bf16) fun i => normed g (H i) : FVec Ideal S8192x1024 .bf16) := by
  refine (dat1 V c).arrAt_eq_of_covers 3 _ (by decide +kernel) fun t hf y => ?_
  blk_simp
  rw [after1_3, block1_0 V c H g Wi he, block1_1 V c H g Wi he, block1_2 V c H g Wi he, input_out_u]
  refine congrArg Real.toEReal (congr (congrArg (fun i => normed g (H i)) (Fin.ext ?_)) (Fin.ext ?_))
  · blk_simp [index1 t]; exact row256_val t.isLt (y 0)
  · blk_simp [index1 t]

theorem array_proj (he : Entry1 V c H g Wi) :
    (dat1 V c).arrAt 4 cfg1.N = (lift2 (φ := .f32) fun i => times Wi (normed g (H i)) : FVec Ideal S8192x768 .f32) := by
  refine (dat1 V c).arrAt_eq_of_covers 4 _ (by decide +kernel) fun t hf y => ?_
  blk_simp
  rw [after1_4, block1_0 V c H g Wi he, block1_1 V c H g Wi he, block1_2 V c H g Wi he, input_out_p]
  refine congrArg Real.toEReal (congr (congrArg (fun i => times Wi (normed g (H i))) (Fin.ext ?_)) (Fin.ext ?_))
  · blk_simp [index1 t]; exact row256_val t.isLt (y 0)
  · blk_simp [index1 t]

end

section
variable (H : Fin 8192 → Fin 1024 → ℝ) (T : Fin 8192 → Fin 512 → ℝ) (Pj : Fin 8192 → Fin 768 → ℝ) (KV : Fin 256 → Fin 512 → ℝ) (Wo : Fin 768 → Fin 1024 → ℝ) (g : Fin 1024 → ℝ)

/-- The block index of every window at every grid point. -/
theorem index2 : ∀ t : Fin cfg2.N,
    win2_0.index t = ![(t : ℕ), 0]
    ∧ win2_1.index t = ![(t : ℕ), 0]
    ∧ win2_2.index t = ![(t : ℕ), 2]
    ∧ win2_3.index t = ![0, 0]
    ∧ win2_4.index t = ![0, 0, 0]
    ∧ win2_5.index t = ![0, 0]
    ∧ win2_6.index t = ![(t : ℕ), 0]
    ∧ win2_7.index t = ![(t : ℕ), 0]
    ∧ win2_8.index t = ![(t : ℕ), 0] :=
  (by decide +kernel : ∀ t : Fin grid2.N, _)

/-- The arrays this kernel finds on entry. -/
structure Entry2 : Prop where
  e0 : V c (Pipeline.arrRef spec2 0) = (lift2 (φ := .f32) H : FVec Ideal S8192x1024 .f32)
  e1 : V c (Pipeline.arrRef spec2 1) = (lift2 (φ := .f32) T : FVec Ideal S8192x512 .f32)
  e2 : V c (Pipeline.arrRef spec2 2) = (lift2 (φ := .f32) Pj : FVec Ideal S8192x768 .f32)
  e3 : V c (Pipeline.arrRef spec2 3) = argMem KV
  e4 : V c (Pipeline.arrRef spec2 4) = argWo Wo
  e5 : V c (Pipeline.arrRef spec2 5) = argG g

theorem block2_0 (he : Entry2 V c H T Pj KV Wo g) (t : Fin cfg2.N) : iblk2 V c 0 t = (lift2 (φ := .f32) fun i => H (row256 t i) : FVec Ideal S256x1024 .f32) := by
  rw [iblk2, he.e0]
  funext y
  show (lift2 (φ := .f32) H : FVec Ideal S8192x1024 .f32) (((cfg2.win 0).blk t).view.emb y) = _
  refine congrArg Real.toEReal (congrArg₂ H (Fin.ext ?_) (Fin.ext ?_))
  · blk_simp [index2 t]; exact (row256_val t.isLt (y 0)).symm
  · blk_simp [index2 t]
theorem block2_1 (he : Entry2 V c H T Pj KV Wo g) (t : Fin cfg2.N) : iblk2 V c 1 t = (lift2 (φ := .f32) fun i => T (row256 t i) : FVec Ideal S256x512 .f32) := by
  rw [iblk2, he.e1]
  funext y
  show (lift2 (φ := .f32) T : FVec Ideal S8192x512 .f32) (((cfg2.win 1).blk t).view.emb y) = _
  refine congrArg Real.toEReal (congrArg₂ T (Fin.ext ?_) (Fin.ext ?_))
  · blk_simp [index2 t]; exact (row256_val t.isLt (y 0)).symm
  · blk_simp [index2 t]
theorem block2_2 (he : Entry2 V c H T Pj KV Wo g) (t : Fin cfg2.N) : iblk2 V c 2 t = (lift2 (φ := .f32) fun i => query (Pj (row256 t i)) : FVec Ideal S256x256 .f32) := by
  rw [iblk2, he.e2]
  funext y
  show (lift2 (φ := .f32) Pj : FVec Ideal S8192x768 .f32) (((cfg2.win 2).blk t).view.emb y) = Real.toEReal (query (Pj (row256 t (y 0))) (y 1))
  refine congrArg Real.toEReal (congrArg₂ Pj (Fin.ext ?_) (Fin.ext ?_))
  · blk_simp [index2 t]; exact (row256_val t.isLt (y 0)).symm
  · blk_simp [index2 t]
theorem block2_3 (he : Entry2 V c H T Pj KV Wo g) (t : Fin cfg2.N) : iblk2 V c 3 t = argMem KV := by
  rw [iblk2, he.e3]
  funext y
  show argMem KV (((cfg2.win 3).blk t).view.emb y) = argMem KV y
  refine congrArg (argMem KV) (funext fun a => Fin.ext ?_)
  fin_cases a <;> blk_simp [index2 t]
theorem block2_4 (he : Entry2 V c H T Pj KV Wo g) (t : Fin cfg2.N) : iblk2 V c 4 t = argWo Wo := by
  rw [iblk2, he.e4]
  funext y
  show argWo Wo (((cfg2.win 4).blk t).view.emb y) = argWo Wo y
  refine congrArg (argWo Wo) (funext fun a => Fin.ext ?_)
  fin_cases a <;> blk_simp [index2 t]
theorem block2_5 (he : Entry2 V c H T Pj KV Wo g) (t : Fin cfg2.N) : iblk2 V c 5 t = argG g := by
  rw [iblk2, he.e5]
  funext y
  show argG g (((cfg2.win 5).blk t).view.emb y) = _
  refine congrArg Real.toEReal (congrArg g (Fin.ext ?_))
  blk_simp [index2 t]

theorem array_out (he : Entry2 V c H T Pj KV Wo g) :
    (dat2 V c).arrAt 6 cfg2.N = (lift2 (φ := .f32) fun i => mixOut g (H i) (mixed KV Wo (T i) (query (Pj i))) : FVec Ideal S8192x1024 .f32) := by
  refine (dat2 V c).arrAt_eq_of_covers 6 _ (by decide +kernel) fun t hf y => ?_
  blk_simp
  rw [after2_6, block2_0 V c H T Pj KV Wo g he, block2_1 V c H T Pj KV Wo g he, block2_2 V c H T Pj KV Wo g he, block2_3 V c H T Pj KV Wo g he, block2_4 V c H T Pj KV Wo g he, block2_5 V c H T Pj KV Wo g he, mix_out_h]
  refine congrArg Real.toEReal (congr (congrArg (fun i => mixOut g (H i) (mixed KV Wo (T i) (query (Pj i)))) (Fin.ext ?_)) (Fin.ext ?_))
  · blk_simp [index2 t]; exact row256_val t.isLt (y 0)
  · blk_simp [index2 t]

theorem array_cat (he : Entry2 V c H T Pj KV Wo g) :
    (dat2 V c).arrAt 7 cfg2.N = (lift2 (φ := .bf16) fun i => beside (T i) (attend KV (query (Pj i))) : FVec Ideal S8192x768 .bf16) := by
  refine (dat2 V c).arrAt_eq_of_covers 7 _ (by decide +kernel) fun t hf y => ?_
  blk_simp
  rw [after2_7, block2_0 V c H T Pj KV Wo g he, block2_1 V c H T Pj KV Wo g he, block2_2 V c H T Pj KV Wo g he, block2_3 V c H T Pj KV Wo g he, block2_4 V c H T Pj KV Wo g he, block2_5 V c H T Pj KV Wo g he, mix_out_cat]
  refine congrArg Real.toEReal (congr (congrArg (fun i => beside (T i) (attend KV (query (Pj i)))) (Fin.ext ?_)) (Fin.ext ?_))
  · blk_simp [index2 t]; exact row256_val t.isLt (y 0)
  · blk_simp [index2 t]

theorem array_mix (he : Entry2 V c H T Pj KV Wo g) :
    (dat2 V c).arrAt 8 cfg2.N = (lift2 (φ := .f32) fun i => mixed KV Wo (T i) (query (Pj i)) : FVec Ideal S8192x1024 .f32) := by
  refine (dat2 V c).arrAt_eq_of_covers 8 _ (by decide +kernel) fun t hf y => ?_
  blk_simp
  rw [after2_8, block2_0 V c H T Pj KV Wo g he, block2_1 V c H T Pj KV Wo g he, block2_2 V c H T Pj KV Wo g he, block2_3 V c H T Pj KV Wo g he, block2_4 V c H T Pj KV Wo g he, block2_5 V c H T Pj KV Wo g he, mix_out_mix]
  refine congrArg Real.toEReal (congr (congrArg (fun i => mixed KV Wo (T i) (query (Pj i))) (Fin.ext ?_)) (Fin.ext ?_))
  · blk_simp [index2 t]; exact row256_val t.isLt (y 0)
  · blk_simp [index2 t]

end

end Cert.MixPool
-- ==== Proof.PoolBackward.lean ====
/- The gradient body around a pooling layer's attention over the memory, on one block of 256 rows. -/
module

public import proofs.«01_k».proof.Proof.PoolProducts
public import proofs.«01_k».proof.Proof.MixBack
public import proofs.«01_k».proof.Proof.Gen.Kernel3Ideal.Frame.Region3
public import Idealize.ShloMosaic.Lib.Pipeline.ReadBack

@[expose] public section

set_option maxRecDepth 16384

noncomputable section

namespace Cert.MixPool

open Idealize.ShloMosaic Cert.Kernel3Ideal Cert.Kernel3Ideal.Gen Cert.FfnBlock Cert.Mixing Idealize.ShloMosaic.TcCoe

set_option backward.isDefEq.respectTransparency.types false

variable (g : Fin 1024 → ℝ) (Mx D : Fin 256 → Fin 1024 → ℝ) (Q : Fin 256 → Fin 256 → ℝ) (KV : Fin 256 → Fin 512 → ℝ) (Wo : Fin 768 → Fin 1024 → ℝ)
  (E : Fin 256 → Fin 768 → ℝ)

/-- The attention's entries of a row of the output product. -/
def tail (e : Fin 768 → ℝ) (j : Fin 256) : ℝ := e (attCol j)

theorem mix_rs : k3_pay8 (argY Mx) = lift2 (φ := .f32) fun i (_ : Fin 1) => rs (Mx i) := by
  simp only [k3_pay8, k3_pay7, cast_same, mulf_lift2]
  rw [sum1]
  simp only [cast_same, mulf_lift2, cast_col256, cst_width, divf_width, cst_eps, addf_lift2, rsqrt_ms, cols_256, rows_256, subf_lift2, truncf_lift2]
  rfl
theorem mix_hat : k3_pay9 (argY Mx) = lift2 (φ := .f32) fun i => hat (Mx i) := by
  simp only [k3_pay9, k3_pay7, mix_rs, cast_same, mulf_lift2, cast_col256, cst_width, divf_width, cst_eps, addf_lift2, rsqrt_ms, cols_256, rows_256, subf_lift2, truncf_lift2]
  rfl
/-- The gradient at the output product. -/
theorem back_mix : k3_pay11 (argY Mx) (argG g) (argY D) = lift2 (φ := .bf16) fun i => mixedBack g (Mx i) (D i) := by
  simp only [k3_pay11, mix_hat, mix_rs, cast_same, mulf_lift2, cast_col256, cst_width, divf_width, cst_eps, addf_lift2, rsqrt_ms, cols_256, rows_256, subf_lift2, truncf_lift2]
  rw [sum1]
  simp only [cast_same, mulf_lift2, cast_col256, cst_width, divf_width, cst_eps, addf_lift2, rsqrt_ms, cols_256, rows_256, subf_lift2, truncf_lift2]
  rfl
/-- The gradient at the rows of the output product. -/
theorem back_rows : k3_pay12 (lift2 (φ := .bf16) Mx) (lift3 (φ := .bf16) fun (_ : Fin 1) i j => Wo i (quarter 0 j)) (lift3 (φ := .bf16) fun (_ : Fin 1) i j => Wo i (quarter 1 j))
      (lift3 (φ := .bf16) fun (_ : Fin 1) i j => Wo i (quarter 2 j)) (lift3 (φ := .bf16) fun (_ : Fin 1) i j => Wo i (quarter 3 j))
    = lift2 (φ := .f32) fun i => timesT Wo (Mx i) := by
  simp only [k3_pay12, cut_256_1024_0, cut_256_1024_256, cut_256_1024_512, cut_256_1024_768, drop_768_256, constant_lift2, product0, product1, product2, product3, product4, product5, product6, product7, product8, product9, product10, product11, addf_lift2]
  refine congrArg lift2 (funext fun i => funext fun j => ?_)
  exact (sum_quarters fun q => Mx i q * Wo j q).symm
theorem back_mask : k3_pay14 = low := mask_low _
theorem back_q : k3_pay15 (F := Ideal) (lift2 (φ := .f32) Q) = lift2 (φ := .bf16) Q := by simp only [k3_pay15, cast_same, truncf_lift2]
theorem back_zero : k3_pay16 (F := Ideal) = lift2 (φ := .bf16) fun (_ : Fin 256) (_ : Fin 128) => 0 := by simp only [k3_pay16, cst_zero16]
theorem back_key (x : Fin 256 → Fin 128 → ℝ) : k3_pay17 (F := Ideal) (lift2 (φ := .bf16) x) = lift2 (φ := .bf16) x := by simp only [k3_pay17, cast_same]
theorem back_key' (x : Fin 256 → Fin 128 → ℝ) : k3_pay18 (F := Ideal) (lift2 (φ := .bf16) x) = lift2 (φ := .bf16) x := by simp only [k3_pay18, cast_same]
/-! ## Scores, weights and their gradients, head by head -/

theorem back_score_1 : k3_pay31 (F := Ideal) low (lift2 (φ := .bf16) Q) (lift2 (φ := .bf16) fun _ _ => 0) (lift2 (φ := .bf16) fun i j => KV i (col 0 (by norm_num) j)) = lift2 (φ := .f32) fun i => score KV (Q i) 1 := by
  simp only [k3_pay31, k3_pay18, k3_pay22, k3_pay23, k3_pay27, k3_pay28, select_low, cut_128_256_0, cut_128_256_128, cut_128_768_512, cut_128_768_640, cast_same, truncf_lift2, constant_lift2, product0, product1, product2, product3, product4, product5, product6, product7, product8, product9, product10, product11, cst_eighth, mulf_lift2, sum_low, sum_high, hd_1, key_1]
  rfl
theorem back_score_2 : k3_pay32 (F := Ideal) low (lift2 (φ := .bf16) Q) (lift2 (φ := .bf16) fun _ _ => 0) (lift2 (φ := .bf16) fun i j => KV i (col 128 (by norm_num) j)) = lift2 (φ := .f32) fun i => score KV (Q i) 2 := by
  simp only [k3_pay32, k3_pay18, k3_pay22, k3_pay23, k3_pay27, k3_pay28, select_low, cut_128_256_0, cut_128_256_128, cut_128_768_512, cut_128_768_640, cast_same, truncf_lift2, constant_lift2, product0, product1, product2, product3, product4, product5, product6, product7, product8, product9, product10, product11, cst_eighth, mulf_lift2, sum_low, sum_high, hd_2, key_2]
  rfl
theorem back_score_3 : k3_pay33 (F := Ideal) low (lift2 (φ := .bf16) Q) (lift2 (φ := .bf16) fun _ _ => 0) (lift2 (φ := .bf16) fun i j => KV i (col 128 (by norm_num) j)) = lift2 (φ := .f32) fun i => score KV (Q i) 3 := by
  simp only [k3_pay33, k3_pay18, k3_pay22, k3_pay23, k3_pay27, k3_pay28, select_low, cut_128_256_0, cut_128_256_128, cut_128_768_512, cut_128_768_640, cast_same, truncf_lift2, constant_lift2, product0, product1, product2, product3, product4, product5, product6, product7, product8, product9, product10, product11, cst_eighth, mulf_lift2, sum_low, sum_high, hd_3, key_3]
  rfl
theorem back_exp : k3_pay38 (F := Ideal) low (lift2 (φ := .bf16) Q) (lift2 (φ := .bf16) fun _ _ => 0) (lift2 (φ := .bf16) fun i j => KV i (col 0 (by norm_num) j)) = lift2 (φ := .f32) fun i k => Real.exp (score KV (Q i) 0 k - top (score KV (Q i) 0)) := by
  simp only [k3_pay38, k3_pay22, select_low, cut_128_256_0, cut_128_256_128, cut_128_768_512, cut_128_768_640, cast_same, truncf_lift2, constant_lift2, product0, product1, product2, product3, product4, product5, product6, product7, product8, product9, product10, product11, cst_eighth, mulf_lift2, sum_low, sum_high, hd_0, key_0]
  rw [max1]
  simp only [cast_col256, cols_256_256, subf_lift2, exp_lift2]
  rfl
theorem back_prob_0 : k3_pay34 (F := Ideal) (lift2 (φ := .f32) E) low (lift2 (φ := .bf16) fun _ _ => 0) (lift2 (φ := .bf16) fun i j => KV i (col 256 (by norm_num) j)) = lift2 (φ := .f32) fun i => probBack KV (tail (E i)) 0 := by
  simp only [k3_pay34, k3_pay19, k3_pay20, k3_pay21, k3_pay24, k3_pay25, k3_pay26, k3_pay29, k3_pay30, select_low, cut_128_256_0, cut_128_256_128, cut_128_768_512, cut_128_768_640, cast_same, truncf_lift2, constant_lift2, product0, product1, product2, product3, product4, product5, product6, product7, product8, product9, product10, product11, sum_low, sum_high, att_0, val_0]
  rfl
theorem back_prob_1 : k3_pay35 (F := Ideal) (lift2 (φ := .f32) E) low (lift2 (φ := .bf16) fun _ _ => 0) (lift2 (φ := .bf16) fun i j => KV i (col 256 (by norm_num) j)) = lift2 (φ := .f32) fun i => probBack KV (tail (E i)) 1 := by
  simp only [k3_pay35, k3_pay19, k3_pay20, k3_pay21, k3_pay24, k3_pay25, k3_pay26, k3_pay29, k3_pay30, select_low, cut_128_256_0, cut_128_256_128, cut_128_768_512, cut_128_768_640, cast_same, truncf_lift2, constant_lift2, product0, product1, product2, product3, product4, product5, product6, product7, product8, product9, product10, product11, sum_low, sum_high, att_1, val_1]
  rfl
theorem back_prob_2 : k3_pay36 (F := Ideal) (lift2 (φ := .f32) E) low (lift2 (φ := .bf16) fun _ _ => 0) (lift2 (φ := .bf16) fun i j => KV i (col 384 (by norm_num) j)) = lift2 (φ := .f32) fun i => probBack KV (tail (E i)) 2 := by
  simp only [k3_pay36, k3_pay19, k3_pay20, k3_pay21, k3_pay24, k3_pay25, k3_pay26, k3_pay29, k3_pay30, select_low, cut_128_256_0, cut_128_256_128, cut_128_768_512, cut_128_768_640, cast_same, truncf_lift2, constant_lift2, product0, product1, product2, product3, product4, product5, product6, product7, product8, product9, product10, product11, sum_low, sum_high, att_2, val_2]
  rfl
theorem back_prob_3 : k3_pay37 (F := Ideal) (lift2 (φ := .f32) E) low (lift2 (φ := .bf16) fun _ _ => 0) (lift2 (φ := .bf16) fun i j => KV i (col 384 (by norm_num) j)) = lift2 (φ := .f32) fun i => probBack KV (tail (E i)) 3 := by
  simp only [k3_pay37, k3_pay19, k3_pay20, k3_pay21, k3_pay24, k3_pay25, k3_pay26, k3_pay29, k3_pay30, select_low, cut_128_256_0, cut_128_256_128, cut_128_768_512, cut_128_768_640, cast_same, truncf_lift2, constant_lift2, product0, product1, product2, product3, product4, product5, product6, product7, product8, product9, product10, product11, sum_low, sum_high, att_3, val_3]
  rfl
theorem back_soft_0 : k3_pay39 (F := Ideal) (lift2 (φ := .f32) fun i k => Real.exp (score KV (Q i) 0 k - top (score KV (Q i) 0))) = lift2 (φ := .f32) fun i => prob KV (Q i) 0 := by
  simp only [k3_pay39]
  rw [sum1]
  simp only [cast_col256, cols_256_256, divf_soft]
  rfl
theorem back_soft_1 : k3_pay41 (F := Ideal) (lift2 (φ := .f32) fun i => score KV (Q i) 1) = lift2 (φ := .f32) fun i => prob KV (Q i) 1 := by
  simp only [k3_pay41]
  rw [max1]
  simp only [cast_col256, cols_256_256, subf_lift2, exp_lift2]
  rw [sum1]
  simp only [cast_col256, cols_256_256, divf_soft]
  rfl
theorem back_soft_2 : k3_pay43 (F := Ideal) (lift2 (φ := .f32) fun i => score KV (Q i) 2) = lift2 (φ := .f32) fun i => prob KV (Q i) 2 := by
  simp only [k3_pay43]
  rw [max1]
  simp only [cast_col256, cols_256_256, subf_lift2, exp_lift2]
  rw [sum1]
  simp only [cast_col256, cols_256_256, divf_soft]
  rfl
theorem back_soft_3 : k3_pay45 (F := Ideal) (lift2 (φ := .f32) fun i => score KV (Q i) 3) = lift2 (φ := .f32) fun i => prob KV (Q i) 3 := by
  simp only [k3_pay45]
  rw [max1]
  simp only [cast_col256, cols_256_256, subf_lift2, exp_lift2]
  rw [sum1]
  simp only [cast_col256, cols_256_256, divf_soft]
  rfl
theorem back_scores_0 : k3_pay40 (F := Ideal) (lift2 (φ := .f32) fun i => probBack KV (tail (E i)) 0) (lift2 (φ := .f32) fun i k => Real.exp (score KV (Q i) 0 k - top (score KV (Q i) 0))) = lift2 (φ := .bf16) fun i => scoreBack KV (Q i) (tail (E i)) 0 := by
  simp only [k3_pay40, back_soft_0, mulf_lift2]
  rw [sum1]
  simp only [cast_col256, cols_256_256, subf_lift2, mulf_lift2, cst_eighth, truncf_lift2]
  rfl
theorem back_scores_1 : k3_pay42 (F := Ideal) (lift2 (φ := .f32) fun i => score KV (Q i) 1) (lift2 (φ := .f32) fun i => probBack KV (tail (E i)) 1) = lift2 (φ := .bf16) fun i => scoreBack KV (Q i) (tail (E i)) 1 := by
  simp only [k3_pay42, back_soft_1, mulf_lift2]
  rw [sum1]
  simp only [cast_col256, cols_256_256, subf_lift2, mulf_lift2, cst_eighth, truncf_lift2]
  rfl
theorem back_scores_2 : k3_pay44 (F := Ideal) (lift2 (φ := .f32) fun i => score KV (Q i) 2) (lift2 (φ := .f32) fun i => probBack KV (tail (E i)) 2) = lift2 (φ := .bf16) fun i => scoreBack KV (Q i) (tail (E i)) 2 := by
  simp only [k3_pay44, back_soft_2, mulf_lift2]
  rw [sum1]
  simp only [cast_col256, cols_256_256, subf_lift2, mulf_lift2, cst_eighth, truncf_lift2]
  rfl
theorem back_scores_3 : k3_pay46 (F := Ideal) (lift2 (φ := .f32) fun i => score KV (Q i) 3) (lift2 (φ := .f32) fun i => probBack KV (tail (E i)) 3) = lift2 (φ := .bf16) fun i => scoreBack KV (Q i) (tail (E i)) 3 := by
  simp only [k3_pay46, back_soft_3, mulf_lift2]
  rw [sum1]
  simp only [cast_col256, cols_256_256, subf_lift2, mulf_lift2, cst_eighth, truncf_lift2]
  rfl

/-! ## What the body leaves -/

variable (c : Dev nD) (i : grid3.Coords) (a1 : Memref sig .tc .vmem S256x1024 .f32) (h1 : a1.IsWhole) (a2 : Memref sig .tc .vmem S256x1024 .f32) (h2 : a2.IsWhole) (a3 : Memref sig .tc .vmem S256x256 .f32) (h3 : a3.IsWhole) (a4 : Memref sig .tc .vmem S256x512 .bf16) (h4 : a4.IsWhole) (a5 : Memref sig .tc .vmem S4x768x256 .bf16) (h5 : a5.IsWhole) (a6 : Memref sig .tc .vmem S1x1024 .f32) (h6 : a6.IsWhole) (a7 : Memref sig .tc .vmem S256x1024 .bf16) (h7 : a7.IsWhole) (a8 : Memref sig .tc .vmem S256x512 .f32) (h8 : a8.IsWhole) (a9 : Memref sig .tc .vmem S256x256 .bf16) (h9 : a9.IsWhole) (a10 : Memref sig .tc .vmem S256x512 .f32) (h10 : a10.IsWhole) (a11 : Memref sig .tc .vmem S1x1024 .f32) (h11 : a11.IsWhole)

theorem backA_6 (hc : cond3_0 i) :
    out3_A_6 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g)
      = lift2 (φ := .bf16) fun i => mixedBack g (Mx i) (D i) := by
  frame_out
  exact back_mix g Mx D
theorem backA_7 (hc : cond3_0 i) :
    out3_A_7 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g)
      = lift2 (φ := .f32) fun i => tokBack Wo (mixedBack g (Mx i) (D i)) := by
  frame_out
  simp only [k3_pay13, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, cut_512_768_0]
  refine congrArg lift2 (funext fun i => funext fun j => congrArg (timesT Wo _) (Fin.ext ?_))
  simp [col]
theorem backA_8 (hc : cond3_0 i) :
    out3_A_8 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g)
      = lift2 (φ := .bf16) fun i => queryBack KV (Q i) (attBack Wo (mixedBack g (Mx i) (D i))) := by
  frame_out
  simp only [whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, k3_pay2, k3_pay47, k3_pay48, k3_pay49, select_low, cut_128_256_0, cut_128_256_128, cut_128_768_512, cut_128_768_640, cast_same, truncf_lift2, constant_lift2, product0, product1, product2, product3, product4, product5, product6, product7, product8, product9, product10, product11]
  exact store_qm _ [] (fun i j h => (query_low KV (Q i) _ j h).symm) (fun i j h => (query_high KV (Q i) _ j h).symm)
theorem backA_9 (hc : cond3_0 i) :
    out3_A_9 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g)
      = lift2 (φ := .f32) fun k j => ∑ i, memBack KV (Q i) (attBack Wo (mixedBack g (Mx i) (D i))) k j := by
  frame_open
  simp (disch := decide) only [↓ View.readCov_skip, ↓ View.readCov_cons_toLoadRect, ↓ View.readCov_fill]
  try frame_out
  simp only [k3_pay5, cst_zero, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, k3_pay3, k3_pay4, k3_pay50, k3_pay1, k3_pay51, k3_pay52, k3_pay53, k3_pay19, k3_pay20, k3_pay21, k3_pay22, k3_pay23, k3_pay24, k3_pay25, k3_pay26, k3_pay27, k3_pay28, k3_pay29, k3_pay30, select_low, cut_128_256_0, cut_128_256_128, cut_128_768_512, cut_128_768_640, cast_same, truncf_lift2, constant_lift2, product0, product1, product2, product3, product4, product5, product6, product7, product8, product9, product10, product11, addf_lift2, zero_add, two_heads, att_low, att_high]
  refine store_kv _ _ ?_ ?_ ?_ ?_
  · exact (fun k j h => (Finset.sum_congr rfl fun i _ => mem_0 KV (Q i) (attBack Wo (mixedBack g (Mx i) (D i))) k j h).symm)
  · exact (fun k j h => (Finset.sum_congr rfl fun i _ => mem_2 KV (Q i) (attBack Wo (mixedBack g (Mx i) (D i))) k j h).symm)
  · exact (fun k j h => (Finset.sum_congr rfl fun i _ => mem_1 KV (Q i) (attBack Wo (mixedBack g (Mx i) (D i))) k j h).symm)
  · exact (fun k j h => (Finset.sum_congr rfl fun i _ => mem_3 KV (Q i) (attBack Wo (mixedBack g (Mx i) (D i))) k j h).symm)
theorem backA_10 (hc : cond3_0 i) :
    out3_A_10 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g)
      = argG fun j => ∑ r, D r j * hat (Mx r) j := by
  frame_open
  simp (disch := decide) only [↓ View.readCov_skip, ↓ View.readCov_cons_toLoadRect, ↓ View.readCov_fill]
  try frame_out
  simp only [k3_pay10, k3_pay6, cst_zero, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, mix_hat, cast_same, mulf_lift2]
  rw [sum0]
  simp only [cast_row, cast_same, addf_lift2, zero_add]
theorem backB_6 (hc : ¬ cond3_0 i) (Z : Fin 256 → Fin 512 → ℝ) (z : Fin 1024 → ℝ) :
    out3_B_6 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g) (lift2 (φ := .f32) Z) (argG z)
      = lift2 (φ := .bf16) fun i => mixedBack g (Mx i) (D i) := by
  frame_out
  exact back_mix g Mx D
theorem backB_7 (hc : ¬ cond3_0 i) (Z : Fin 256 → Fin 512 → ℝ) (z : Fin 1024 → ℝ) :
    out3_B_7 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g) (lift2 (φ := .f32) Z) (argG z)
      = lift2 (φ := .f32) fun i => tokBack Wo (mixedBack g (Mx i) (D i)) := by
  frame_out
  simp only [k3_pay13, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, cut_512_768_0]
  refine congrArg lift2 (funext fun i => funext fun j => congrArg (timesT Wo _) (Fin.ext ?_))
  simp [col]
theorem backB_8 (hc : ¬ cond3_0 i) (Z : Fin 256 → Fin 512 → ℝ) (z : Fin 1024 → ℝ) :
    out3_B_8 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g) (lift2 (φ := .f32) Z) (argG z)
      = lift2 (φ := .bf16) fun i => queryBack KV (Q i) (attBack Wo (mixedBack g (Mx i) (D i))) := by
  frame_out
  simp only [whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, k3_pay2, k3_pay47, k3_pay48, k3_pay49, select_low, cut_128_256_0, cut_128_256_128, cut_128_768_512, cut_128_768_640, cast_same, truncf_lift2, constant_lift2, product0, product1, product2, product3, product4, product5, product6, product7, product8, product9, product10, product11]
  exact store_qm _ [] (fun i j h => (query_low KV (Q i) _ j h).symm) (fun i j h => (query_high KV (Q i) _ j h).symm)
theorem backB_9 (hc : ¬ cond3_0 i) (Z : Fin 256 → Fin 512 → ℝ) (z : Fin 1024 → ℝ) :
    out3_B_9 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g) (lift2 (φ := .f32) Z) (argG z)
      = lift2 (φ := .f32) fun k j => Z k j + ∑ i, memBack KV (Q i) (attBack Wo (mixedBack g (Mx i) (D i))) k j := by
  frame_out
  simp only [whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, back_mix, back_rows, back_mask, back_q, back_zero, back_key, back_key', back_score_1, back_score_2, back_score_3, back_exp, back_prob_0, back_prob_1, back_prob_2, back_prob_3, back_soft_0, back_soft_1, back_soft_2, back_soft_3, back_scores_0, back_scores_1, back_scores_2, back_scores_3, k3_pay3, k3_pay4, k3_pay50, k3_pay1, k3_pay51, k3_pay52, k3_pay53, k3_pay19, k3_pay20, k3_pay21, k3_pay22, k3_pay23, k3_pay24, k3_pay25, k3_pay26, k3_pay27, k3_pay28, k3_pay29, k3_pay30, select_low, cut_128_256_0, cut_128_256_128, cut_128_768_512, cut_128_768_640, cast_same, truncf_lift2, constant_lift2, product0, product1, product2, product3, product4, product5, product6, product7, product8, product9, product10, product11, addf_lift2, two_heads, att_low, att_high]
  refine store_kv _ _ ?_ ?_ ?_ ?_
  · exact (fun k j h => congrArg₂ (· + ·) (congrArg (Z k) (Fin.ext rfl)) (Finset.sum_congr rfl fun i _ => mem_0 KV (Q i) (attBack Wo (mixedBack g (Mx i) (D i))) k j h).symm)
  · exact (fun k j h => congrArg₂ (· + ·) (congrArg (Z k) (Fin.ext rfl)) (Finset.sum_congr rfl fun i _ => mem_2 KV (Q i) (attBack Wo (mixedBack g (Mx i) (D i))) k j h).symm)
  · exact (fun k j h => congrArg₂ (· + ·) (congrArg (Z k) (Fin.ext rfl)) (Finset.sum_congr rfl fun i _ => mem_1 KV (Q i) (attBack Wo (mixedBack g (Mx i) (D i))) k j h).symm)
  · exact (fun k j h => congrArg₂ (· + ·) (congrArg (Z k) (Fin.ext rfl)) (Finset.sum_congr rfl fun i _ => mem_3 KV (Q i) (attBack Wo (mixedBack g (Mx i) (D i))) k j h).symm)
theorem backB_10 (hc : ¬ cond3_0 i) (Z : Fin 256 → Fin 512 → ℝ) (z : Fin 1024 → ℝ) :
    out3_B_10 (F := Ideal) c i a1 h1 a2 h2 a3 h3 a4 h4 a5 h5 a6 h6 a7 h7 a8 h8 a9 h9 a10 h10 a11 h11 hc (argY D) (argY Mx) (lift2 (φ := .f32) Q) (lift2 (φ := .bf16) KV) (argWo Wo) (argG g) (lift2 (φ := .f32) Z) (argG z)
      = argG fun j => z j + ∑ r, D r j * hat (Mx r) j := by
  frame_out
  simp only [k3_pay10, whole_256_1024_f32, whole_1_1024_f32, whole_256_256_bf16, whole_256_256_f32, tile_wo0, tile_wo1, tile_wo2, tile_wo3, tile_kv0, tile_kv128, tile_kv256, tile_kv384, tile_dkv0, tile_dkv128, tile_dkv256, tile_dkv384, mix_hat, cast_same, mulf_lift2]
  rw [sum0]
  simp only [cast_row, cast_same, addf_lift2]

end Cert.MixPool
-- ==== Proof.PoolGrads.lean ====
/- The gradient bodies of a pooling layer's sub-layer for the output weights, the memory's projection, the input rows and the input weights: one grid point each. -/
module

public import proofs.«01_k».proof.Proof.PoolProducts
public import proofs.«01_k».proof.Proof.MixBack
public import proofs.«01_k».proof.Proof.Gen.Kernel3Ideal.Frame.Region4
public import proofs.«01_k».proof.Proof.Gen.Kernel3Ideal.Frame.Region5
public import proofs.«01_k».proof.Proof.Gen.Kernel3Ideal.Frame.Region6
public import proofs.«01_k».proof.Proof.Gen.Kernel3Ideal.Frame.Region7
public import Idealize.ShloMosaic.Lib.Pipeline.ReadBack

@[expose] public section

set_option maxRecDepth 16384

noncomputable section

namespace Cert.MixPool

open Idealize.ShloMosaic Cert.Kernel3Ideal Cert.Kernel3Ideal.Gen Cert.FfnBlock Cert.Mixing Idealize.ShloMosaic.TcCoe

set_option backward.isDefEq.respectTransparency.types false

/-! ## The output weights -/

section

variable (C : Fin 1024 → Fin 768 → ℝ) (Dm : Fin 1024 → Fin 1024 → ℝ) (c : Dev nD) (i : grid4.Coords) (a1 : Memref sig .tc .vmem S1024x768 .bf16) (h1 : a1.IsWhole) (a2 : Memref sig .tc .vmem S1024x1024 .bf16) (h2 : a2.IsWhole) (a3 : Memref sig .tc .vmem S4x768x256 .f32) (h3 : a3.IsWhole)

theorem wout_flip : k4_pay4 (lift2 (φ := .bf16) C) = lift2 (φ := .bf16) fun i j => C j i := by
  simp only [k4_pay4, cast_same]
  rw [flip_768]
theorem woutA (hc : cond4_0 i) :
    out4_A_2 (F := Ideal) c i a1 h1 a2 h2 a3 h3 hc (lift2 (φ := .bf16) C) (lift2 (φ := .bf16) Dm)
      = lift3 (φ := .f32) fun s i j => ∑ r, C r i * Dm r (quarter s j) := by
  frame_open
  simp (disch := decide) only [↓ View.readCov_skip, ↓ View.readCov_cons_toLoadRect, ↓ View.readCov_fill]
  try frame_out
  simp only [k4_pay3, cst_zero3, whole_1024_768_bf16, tile_y1024_0, tile_y1024_256, tile_y1024_512, tile_y1024_768, tile_dwo0, tile_dwo1, tile_dwo2, tile_dwo3, k4_pay1, k4_pay2, wout_flip, k4_pay5, k4_pay6, k4_pay7,
    cast_same, constant_lift2, product0, product1, product2, product3, product4, product5, product6, product7, product8, product9, product10, product11, drop_768_256, addf_lift2, add_768_256, zero_add]
  refine store_wo _ _ ?_ ?_ ?_ ?_ <;> exact fun _ _ => rfl
theorem woutB (hc : ¬ cond4_0 i) (Z : Fin 4 → Fin 768 → Fin 256 → ℝ) :
    out4_B_2 (F := Ideal) c i a1 h1 a2 h2 a3 h3 hc (lift2 (φ := .bf16) C) (lift2 (φ := .bf16) Dm) (lift3 (φ := .f32) Z)
      = lift3 (φ := .f32) fun s i j => Z s i j + ∑ r, C r i * Dm r (quarter s j) := by
  frame_out
  simp only [whole_1024_768_bf16, tile_y1024_0, tile_y1024_256, tile_y1024_512, tile_y1024_768, tile_dwo0, tile_dwo1, tile_dwo2, tile_dwo3, k4_pay1, k4_pay2, wout_flip, k4_pay5, k4_pay6, k4_pay7,
    cast_same, constant_lift2, product0, product1, product2, product3, product4, product5, product6, product7, product8, product9, product10, product11, drop_768_256, addf_lift2, add_768_256]
  refine store_wo _ _ ?_ ?_ ?_ ?_ <;> exact fun _ _ => rfl

end

/-! ## The memory's projection -/

section

variable (gm : Fin 1024 → ℝ) (M : Fin 256 → Fin 1024 → ℝ) (Wkv : Fin 1024 → Fin 512 → ℝ) (DKV : Fin 256 → Fin 512 → ℝ)

theorem memory_hat : k5_pay2 (argY M) = lift2 (φ := .f32) fun i => hat (M i) := by
  simp only [k5_pay2, mulf_lift2]
  rw [sum1]
  simp only [cast_same, mulf_lift2, cast_col256, cst_width, divf_width, cst_eps, addf_lift2, rsqrt_ms, cols_256, rows_256, subf_lift2, truncf_lift2]
  rfl
/-- The gradient of the memory's projection weights. -/
theorem memory_dw : out5_4 (argY M) (argG gm) (argKv Wkv) (lift2 (φ := .f32) DKV)
    = lift2 (φ := .f32) fun i j => ∑ k, normed gm (M k) i * DKV k j := by
  unfold out5_4
  refine (View.canon_cons_unit_lit _ _ _ (by decide)).trans ?_
  simp only [whole_256_1024_f32, whole_1_1024_f32, whole_256_512_f32, k5_pay4, k5_pay3, memory_hat, cast_same, mulf_lift2, cast_col256, cst_width, divf_width, cst_eps, addf_lift2, rsqrt_ms, cols_256, rows_256, subf_lift2, truncf_lift2, constant_lift2, product0, product1, product2, product3, product4, product5, product6, product7, product8, product9, product10, product11]
  rfl
/-- The gradient of the memory's gain. -/
theorem memory_dg : out5_5 (argY M) (argG gm) (argKv Wkv) (lift2 (φ := .f32) DKV)
    = argG fun j => ∑ k, timesT Wkv (DKV k) j * hat (M k) j := by
  unfold out5_5
  refine (View.canon_cons_unit_lit _ _ _ (by decide)).trans ?_
  simp only [whole_256_1024_f32, memory_hat, k5_pay1]
  rw [concat_quarters_of (x0 := fun i j => timesT Wkv (DKV i) (quarter 0 j)) (x1 := fun i j => timesT Wkv (DKV i) (quarter 1 j)) (x2 := fun i j => timesT Wkv (DKV i) (quarter 2 j))
    (x3 := fun i j => timesT Wkv (DKV i) (quarter 3 j)) ?_ ?_ ?_ ?_]
  · simp only [joined_quarters, mulf_lift2]
    rw [sum0]
    simp only [cast_row]
  · simp only [k5_pay5, k5_pay3, whole_256_512_f32, slot_kv0, cast_same, truncf_lift2, drop_256_512, constant_lift2, product0, product1, product2, product3, product4, product5, product6, product7, product8, product9, product10, product11]; rfl
  · simp only [k5_pay6, k5_pay3, whole_256_512_f32, slot_kv1, cast_same, truncf_lift2, drop_256_512, constant_lift2, product0, product1, product2, product3, product4, product5, product6, product7, product8, product9, product10, product11]; rfl
  · simp only [k5_pay7, k5_pay3, whole_256_512_f32, slot_kv2, cast_same, truncf_lift2, drop_256_512, constant_lift2, product0, product1, product2, product3, product4, product5, product6, product7, product8, product9, product10, product11]; rfl
  · simp only [k5_pay8, k5_pay3, whole_256_512_f32, slot_kv3, cast_same, truncf_lift2, drop_256_512, constant_lift2, product0, product1, product2, product3, product4, product5, product6, product7, product8, product9, product10, product11]; rfl

end

/-! ## The input rows -/

section

variable (g : Fin 1024 → ℝ) (H D : Fin 256 → Fin 1024 → ℝ) (Wi : Fin 1024 → Fin 768 → ℝ) (Tx : Fin 256 → Fin 512 → ℝ) (Dq : Fin 256 → Fin 256 → ℝ)

/-- The gradient at one normed entry, from the two parts of the projection's row. -/
theorem rows_parts (i : Fin 256) (j : Fin 1024) : ∑ k, Tx i k * Wi j (col 0 (by norm_num) k) + ∑ k, Dq i k * Wi j (col 512 (by norm_num) k) = timesT Wi (beside (Tx i) (Dq i)) j := by
  refine Eq.trans ?_ (sum_768 fun q => beside (Tx i) (Dq i) q * Wi j q).symm
  simp only [col, beside_0, beside_1]
theorem rows_du : k6_pay10 (k6_pay5 (lift2 (φ := .f32) Tx) (lift3 (φ := .bf16) fun (_ : Fin 1) i j => Wi (quarter 0 i) (col 0 (by norm_num) j))) (k6_pay6 (lift2 (φ := .f32) Tx) (lift3 (φ := .bf16) fun (_ : Fin 1) i j => Wi (quarter 1 i) (col 0 (by norm_num) j))) (k6_pay7 (lift2 (φ := .f32) Tx) (lift3 (φ := .bf16) fun (_ : Fin 1) i j => Wi (quarter 2 i) (col 0 (by norm_num) j))) (k6_pay8 (lift2 (φ := .f32) Tx) (lift3 (φ := .bf16) fun (_ : Fin 1) i j => Wi (quarter 3 i) (col 0 (by norm_num) j))) (k6_pay9 (lift2 (φ := .bf16) Dq)) (lift3 (φ := .bf16) fun (_ : Fin 1) i j => Wi (quarter 0 i) (col 512 (by norm_num) j)) (lift3 (φ := .bf16) fun (_ : Fin 1) i j => Wi (quarter 1 i) (col 512 (by norm_num) j)) (lift3 (φ := .bf16) fun (_ : Fin 1) i j => Wi (quarter 2 i) (col 512 (by norm_num) j)) (lift3 (φ := .bf16) fun (_ : Fin 1) i j => Wi (quarter 3 i) (col 512 (by norm_num) j)) = lift2 (φ := .f32) fun i => timesT Wi (beside (Tx i) (Dq i)) := by
  rw [k6_pay10]
  refine (concat_quarters_of (x0 := fun i j => timesT Wi (beside (Tx i) (Dq i)) (quarter 0 j)) (x1 := fun i j => timesT Wi (beside (Tx i) (Dq i)) (quarter 1 j)) (x2 := fun i j => timesT Wi (beside (Tx i) (Dq i)) (quarter 2 j)) (x3 := fun i j => timesT Wi (beside (Tx i) (Dq i)) (quarter 3 j)) ?_ ?_ ?_ ?_ _).trans ?_
  · simp only [k6_pay5, k6_pay4, k6_pay9, cst_zero, cast_same, truncf_lift2, drop_256_512, drop_256_256, constant_lift2, product0, product1, product2, product3, product4, product5, product6, product7, product8, product9, product10, product11, addf_lift2, zero_add]
    exact congrArg lift2 (funext fun i => funext fun j => rows_parts Wi Tx Dq i (quarter 0 j))
  · simp only [k6_pay6, k6_pay4, k6_pay9, cst_zero, cast_same, truncf_lift2, drop_256_512, drop_256_256, constant_lift2, product0, product1, product2, product3, product4, product5, product6, product7, product8, product9, product10, product11, addf_lift2, zero_add]
    exact congrArg lift2 (funext fun i => funext fun j => rows_parts Wi Tx Dq i (quarter 1 j))
  · simp only [k6_pay7, k6_pay4, k6_pay9, cst_zero, cast_same, truncf_lift2, drop_256_512, drop_256_256, constant_lift2, product0, product1, product2, product3, product4, product5, product6, product7, product8, product9, product10, product11, addf_lift2, zero_add]
    exact congrArg lift2 (funext fun i => funext fun j => rows_parts Wi Tx Dq i (quarter 2 j))
  · simp only [k6_pay8, k6_pay4, k6_pay9, cst_zero, cast_same, truncf_lift2, drop_256_512, drop_256_256, constant_lift2, product0, product1, product2, product3, product4, product5, product6, product7, product8, product9, product10, product11, addf_lift2, zero_add]
    exact congrArg lift2 (funext fun i => funext fun j => rows_parts Wi Tx Dq i (quarter 3 j))
  · exact congrArg lift2 (funext fun i => joined_quarters _)
theorem rows_rs : k6_pay11 (argY H) = lift2 (φ := .f32) fun i (_ : Fin 1) => rs (H i) := by
  simp only [k6_pay11, mulf_lift2]
  rw [sum1]
  simp only [cast_same, mulf_lift2, cast_col256, cst_width, divf_width, cst_eps, addf_lift2, rsqrt_ms, cols_256, rows_256, subf_lift2, truncf_lift2]
  rfl
theorem rows_hat : k6_pay12 (argY H) = lift2 (φ := .f32) fun i => hat (H i) := by
  simp only [k6_pay12, rows_rs, cast_same, mulf_lift2, cast_col256, cst_width, divf_width, cst_eps, addf_lift2, rsqrt_ms, cols_256, rows_256, subf_lift2, truncf_lift2]
  rfl

variable (c : Dev nD) (i : grid6.Coords) (a1 : Memref sig .tc .vmem S256x1024 .f32) (h1 : a1.IsWhole) (a2 : Memref sig .tc .vmem S256x1024 .f32) (h2 : a2.IsWhole) (a3 : Memref sig .tc .vmem S1x1024 .f32) (h3 : a3.IsWhole) (a4 : Memref sig .tc .vmem S4x256x768 .bf16) (h4 : a4.IsWhole) (a5 : Memref sig .tc .vmem S256x512 .f32) (h5 : a5.IsWhole) (a6 : Memref sig .tc .vmem S256x256 .bf16) (h6 : a6.IsWhole) (a7 : Memref sig .tc .vmem S256x1024 .f32) (h7 : a7.IsWhole) (a8 : Memref sig .tc .vmem S256x768 .bf16) (h8 : a8.IsWhole) (a9 : Memref sig .tc .vmem S1x1024 .f32) (h9 : a9.IsWhole)

theorem rowsA_6 (hc : cond6_0 i) :
    out6_A_6 (F := Ideal) c i a1 h1 a2 h2 a3 h3 a4 h4 a5 h5 a6 h6 a7 h7 a8 h8 a9 h9 hc (argY H) (argY D) (argG g) (argWi Wi) (lift2 (φ := .f32) Tx) (lift2 (φ := .bf16) Dq)
      = lift2 (φ := .f32) fun i => mixIn g (H i) (D i) (timesT Wi (beside (Tx i) (Dq i))) := by
  frame_out
  simp only [whole_256_1024_f32, whole_1_1024_f32, whole_256_512_f32, whole_256_256_bf16, tile_wp0_0, tile_wp0_512, tile_wp1_0, tile_wp1_512, tile_wp2_0, tile_wp2_512, tile_wp3_0, tile_wp3_512, k6_pay1, k6_pay13, k6_pay14, rows_du, rows_hat, rows_rs, cast_same, mulf_lift2, cast_col256, cst_width, divf_width, cst_eps, addf_lift2, rsqrt_ms, cols_256, rows_256, subf_lift2, truncf_lift2]
  rw [sum1]
  simp only [cast_same, mulf_lift2, cast_col256, cst_width, divf_width, cst_eps, addf_lift2, rsqrt_ms, cols_256, rows_256, subf_lift2, truncf_lift2]
  rfl
theorem rowsA_7 (hc : cond6_0 i) :
    out6_A_7 (F := Ideal) c i a1 h1 a2 h2 a3 h3 a4 h4 a5 h5 a6 h6 a7 h7 a8 h8 a9 h9 hc (argY H) (argY D) (argG g) (argWi Wi) (lift2 (φ := .f32) Tx) (lift2 (φ := .bf16) Dq)
      = lift2 (φ := .bf16) fun i => beside (Tx i) (Dq i) := by
  frame_out
  simp only [whole_256_1024_f32, whole_1_1024_f32, whole_256_512_f32, whole_256_256_bf16, tile_wp0_0, tile_wp0_512, tile_wp1_0, tile_wp1_512, tile_wp2_0, tile_wp2_512, tile_wp3_0, tile_wp3_512, k6_pay4, k6_pay9, cast_same, truncf_lift2]
  exact store_768 _ [] (fun i j h => (beside_0 _ _ j h).symm) (fun i j h => (beside_1 _ _ j h).symm)
theorem rowsA_8 (hc : cond6_0 i) :
    out6_A_8 (F := Ideal) c i a1 h1 a2 h2 a3 h3 a4 h4 a5 h5 a6 h6 a7 h7 a8 h8 a9 h9 hc (argY H) (argY D) (argG g) (argWi Wi) (lift2 (φ := .f32) Tx) (lift2 (φ := .bf16) Dq)
      = argG fun j => ∑ r, timesT Wi (beside (Tx r) (Dq r)) j * hat (H r) j := by
  frame_open
  simp (disch := decide) only [↓ View.readCov_skip, ↓ View.readCov_cons_toLoadRect, ↓ View.readCov_fill]
  try frame_out
  simp only [whole_256_1024_f32, whole_1_1024_f32, whole_256_512_f32, whole_256_256_bf16, tile_wp0_0, tile_wp0_512, tile_wp1_0, tile_wp1_512, tile_wp2_0, tile_wp2_512, tile_wp3_0, tile_wp3_512, k6_pay2, k6_pay3, cst_zero, rows_du, rows_hat, mulf_lift2]
  rw [sum0]
  simp only [cast_row, cast_same, addf_lift2, zero_add]
theorem rowsB_6 (hc : ¬ cond6_0 i) (z : Fin 1024 → ℝ) :
    out6_B_6 (F := Ideal) c i a1 h1 a2 h2 a3 h3 a4 h4 a5 h5 a6 h6 a7 h7 a8 h8 a9 h9 hc (argY H) (argY D) (argG g) (argWi Wi) (lift2 (φ := .f32) Tx) (lift2 (φ := .bf16) Dq) (argG z)
      = lift2 (φ := .f32) fun i => mixIn g (H i) (D i) (timesT Wi (beside (Tx i) (Dq i))) := by
  frame_out
  simp only [whole_256_1024_f32, whole_1_1024_f32, whole_256_512_f32, whole_256_256_bf16, tile_wp0_0, tile_wp0_512, tile_wp1_0, tile_wp1_512, tile_wp2_0, tile_wp2_512, tile_wp3_0, tile_wp3_512, k6_pay1, k6_pay13, k6_pay14, rows_du, rows_hat, rows_rs, cast_same, mulf_lift2, cast_col256, cst_width, divf_width, cst_eps, addf_lift2, rsqrt_ms, cols_256, rows_256, subf_lift2, truncf_lift2]
  rw [sum1]
  simp only [cast_same, mulf_lift2, cast_col256, cst_width, divf_width, cst_eps, addf_lift2, rsqrt_ms, cols_256, rows_256, subf_lift2, truncf_lift2]
  rfl
theorem rowsB_7 (hc : ¬ cond6_0 i) (z : Fin 1024 → ℝ) :
    out6_B_7 (F := Ideal) c i a1 h1 a2 h2 a3 h3 a4 h4 a5 h5 a6 h6 a7 h7 a8 h8 a9 h9 hc (argY H) (argY D) (argG g) (argWi Wi) (lift2 (φ := .f32) Tx) (lift2 (φ := .bf16) Dq) (argG z)
      = lift2 (φ := .bf16) fun i => beside (Tx i) (Dq i) := by
  frame_out
  simp only [whole_256_1024_f32, whole_1_1024_f32, whole_256_512_f32, whole_256_256_bf16, tile_wp0_0, tile_wp0_512, tile_wp1_0, tile_wp1_512, tile_wp2_0, tile_wp2_512, tile_wp3_0, tile_wp3_512, k6_pay4, k6_pay9, cast_same, truncf_lift2]
  exact store_768 _ [] (fun i j h => (beside_0 _ _ j h).symm) (fun i j h => (beside_1 _ _ j h).symm)
theorem rowsB_8 (hc : ¬ cond6_0 i) (z : Fin 1024 → ℝ) :
    out6_B_8 (F := Ideal) c i a1 h1 a2 h2 a3 h3 a4 h4 a5 h5 a6 h6 a7 h7 a8 h8 a9 h9 hc (argY H) (argY D) (argG g) (argWi Wi) (lift2 (φ := .f32) Tx) (lift2 (φ := .bf16) Dq) (argG z)
      = argG fun j => z j + ∑ r, timesT Wi (beside (Tx r) (Dq r)) j * hat (H r) j := by
  frame_out
  simp only [whole_256_1024_f32, whole_1_1024_f32, whole_256_512_f32, whole_256_256_bf16, tile_wp0_0, tile_wp0_512, tile_wp1_0, tile_wp1_512, tile_wp2_0, tile_wp2_512, tile_wp3_0, tile_wp3_512, k6_pay2, rows_du, rows_hat, mulf_lift2]
  rw [sum0]
  simp only [cast_row, cast_same, addf_lift2]

end

/-! ## The input weights -/

section

variable (U : Fin 1024 → Fin 1024 → ℝ) (Dp : Fin 1024 → Fin 768 → ℝ) (c : Dev nD) (i : grid7.Coords) (a1 : Memref sig .tc .vmem S1024x1024 .bf16) (h1 : a1.IsWhole) (a2 : Memref sig .tc .vmem S1024x768 .bf16) (h2 : a2.IsWhole) (a3 : Memref sig .tc .vmem S1024x768 .f32) (h3 : a3.IsWhole)

theorem win_flip : k7_pay2 (lift2 (φ := .bf16) U) = lift2 (φ := .bf16) fun i j => U j i := by
  simp only [k7_pay2, cast_same]
  rw [flip_1024]
theorem winA (hc : cond7_0 i) :
    out7_A_2 (F := Ideal) c i a1 h1 a2 h2 a3 h3 hc (lift2 (φ := .bf16) U) (lift2 (φ := .bf16) Dp)
      = lift2 (φ := .f32) fun i j => ∑ r, U r i * Dp r j := by
  frame_open
  simp (disch := decide) only [↓ View.readCov_skip, ↓ View.readCov_cons_toLoadRect, ↓ View.readCov_fill]
  try frame_out
  simp only [cst_zero, whole_1024_1024_bf16, tile_d768_bf16_0, tile_d768_f32_0, tile_d768_bf16_256, tile_d768_f32_256, tile_d768_bf16_512, tile_d768_f32_512, k7_pay1, win_flip, k7_pay3, k7_pay4, k7_pay5,
    cast_same, constant_lift2, product0, product1, product2, product3, product4, product5, product6, product7, product8, product9, product10, product11, addf_lift2, zero_add]
  refine store_dw_768 _ _ ?_ ?_ ?_ <;> exact fun _ _ _ => rfl
theorem winB (hc : ¬ cond7_0 i) (Z : Fin 1024 → Fin 768 → ℝ) :
    out7_B_2 (F := Ideal) c i a1 h1 a2 h2 a3 h3 hc (lift2 (φ := .bf16) U) (lift2 (φ := .bf16) Dp) (lift2 (φ := .f32) Z)
      = lift2 (φ := .f32) fun i j => Z i j + ∑ r, U r i * Dp r j := by
  frame_out
  simp only [whole_1024_1024_bf16, tile_d768_bf16_0, tile_d768_f32_0, tile_d768_bf16_256, tile_d768_f32_256, tile_d768_bf16_512, tile_d768_f32_512, k7_pay1, win_flip, k7_pay3, k7_pay4, k7_pay5,
    cast_same, constant_lift2, product0, product1, product2, product3, product4, product5, product6, product7, product8, product9, product10, product11, addf_lift2]
  refine store_dw_768 _ _ ?_ ?_ ?_ <;> exact fun _ _ _ => rfl

end

end Cert.MixPool
-- ==== Proof.PoolBackwardArrays.lean ====
/- The arrays of the kernels that take the gradient back to the token mixer, the queries and the memory in the pooling layer's sub-layer. -/
module

public import proofs.«01_k».proof.Proof.PoolForwardArrays
public import proofs.«01_k».proof.Proof.PoolBackward
public import proofs.«01_k».proof.Proof.PoolGrads
public import Idealize.ShloMosaic.Lib.Pipeline.ReadBack

@[expose] public section

set_option maxRecDepth 16384

noncomputable section

namespace Cert.MixPool

open Idealize.ShloMosaic Cert.Kernel3Ideal Cert.Kernel3Ideal.Gen Cert.FfnBlock Cert.Mixing Idealize.ShloMosaic.TcCoe

set_option backward.isDefEq.respectTransparency.types false

variable (V : (c : Dev nD) → (b : Ref sig .tc) → Buf (Elt Ideal) ((c : Thread nD τ).loc b)) (c : Dev nD)

section
variable (D : Fin 8192 → Fin 1024 → ℝ) (Mx : Fin 8192 → Fin 1024 → ℝ) (Pj : Fin 8192 → Fin 768 → ℝ) (KV : Fin 256 → Fin 512 → ℝ) (Wo : Fin 768 → Fin 1024 → ℝ) (g : Fin 1024 → ℝ)

/-- The block index of every window at every grid point. -/
theorem index3 : ∀ t : Fin cfg3.N,
    win3_0.index t = ![(t : ℕ), 0]
    ∧ win3_1.index t = ![(t : ℕ), 0]
    ∧ win3_2.index t = ![(t : ℕ), 2]
    ∧ win3_3.index t = ![0, 0]
    ∧ win3_4.index t = ![0, 0, 0]
    ∧ win3_5.index t = ![0, 0]
    ∧ win3_6.index t = ![(t : ℕ), 0]
    ∧ win3_7.index t = ![(t : ℕ), 0]
    ∧ win3_8.index t = ![(t : ℕ), 0]
    ∧ win3_9.index t = ![0, 0]
    ∧ win3_10.index t = ![0, 0] :=
  (by decide +kernel : ∀ t : Fin grid3.N, _)

/-- The arrays this kernel finds on entry. -/
structure Entry3 : Prop where
  e0 : V c (Pipeline.arrRef spec3 0) = (lift2 (φ := .f32) D : FVec Ideal S8192x1024 .f32)
  e1 : V c (Pipeline.arrRef spec3 1) = (lift2 (φ := .f32) Mx : FVec Ideal S8192x1024 .f32)
  e2 : V c (Pipeline.arrRef spec3 2) = (lift2 (φ := .f32) Pj : FVec Ideal S8192x768 .f32)
  e3 : V c (Pipeline.arrRef spec3 3) = argMem KV
  e4 : V c (Pipeline.arrRef spec3 4) = argWo Wo
  e5 : V c (Pipeline.arrRef spec3 5) = argG g

theorem block3_0 (he : Entry3 V c D Mx Pj KV Wo g) (t : Fin cfg3.N) : iblk3 V c 0 t = (lift2 (φ := .f32) fun i => D (row256 t i) : FVec Ideal S256x1024 .f32) := by
  rw [iblk3, he.e0]
  funext y
  show (lift2 (φ := .f32) D : FVec Ideal S8192x1024 .f32) (((cfg3.win 0).blk t).view.emb y) = _
  refine congrArg Real.toEReal (congrArg₂ D (Fin.ext ?_) (Fin.ext ?_))
  · blk_simp [index3 t]; exact (row256_val t.isLt (y 0)).symm
  · blk_simp [index3 t]
theorem block3_1 (he : Entry3 V c D Mx Pj KV Wo g) (t : Fin cfg3.N) : iblk3 V c 1 t = (lift2 (φ := .f32) fun i => Mx (row256 t i) : FVec Ideal S256x1024 .f32) := by
  rw [iblk3, he.e1]
  funext y
  show (lift2 (φ := .f32) Mx : FVec Ideal S8192x1024 .f32) (((cfg3.win 1).blk t).view.emb y) = _
  refine congrArg Real.toEReal (congrArg₂ Mx (Fin.ext ?_) (Fin.ext ?_))
  · blk_simp [index3 t]; exact (row256_val t.isLt (y 0)).symm
  · blk_simp [index3 t]
theorem block3_2 (he : Entry3 V c D Mx Pj KV Wo g) (t : Fin cfg3.N) : iblk3 V c 2 t = (lift2 (φ := .f32) fun i => query (Pj (row256 t i)) : FVec Ideal S256x256 .f32) := by
  rw [iblk3, he.e2]
  funext y
  show (lift2 (φ := .f32) Pj : FVec Ideal S8192x768 .f32) (((cfg3.win 2).blk t).view.emb y) = Real.toEReal (query (Pj (row256 t (y 0))) (y 1))
  refine congrArg Real.toEReal (congrArg₂ Pj (Fin.ext ?_) (Fin.ext ?_))
  · blk_simp [index3 t]; exact (row256_val t.isLt (y 0)).symm
  · blk_simp [index3 t]
theorem block3_3 (he : Entry3 V c D Mx Pj KV Wo g) (t : Fin cfg3.N) : iblk3 V c 3 t = argMem KV := by
  rw [iblk3, he.e3]
  funext y
  show argMem KV (((cfg3.win 3).blk t).view.emb y) = argMem KV y
  refine congrArg (argMem KV) (funext fun a => Fin.ext ?_)
  fin_cases a <;> blk_simp [index3 t]
theorem block3_4 (he : Entry3 V c D Mx Pj KV Wo g) (t : Fin cfg3.N) : iblk3 V c 4 t = argWo Wo := by
  rw [iblk3, he.e4]
  funext y
  show argWo Wo (((cfg3.win 4).blk t).view.emb y) = argWo Wo y
  refine congrArg (argWo Wo) (funext fun a => Fin.ext ?_)
  fin_cases a <;> blk_simp [index3 t]
theorem block3_5 (he : Entry3 V c D Mx Pj KV Wo g) (t : Fin cfg3.N) : iblk3 V c 5 t = argG g := by
  rw [iblk3, he.e5]
  funext y
  show argG g (((cfg3.win 5).blk t).view.emb y) = _
  refine congrArg Real.toEReal (congrArg g (Fin.ext ?_))
  blk_simp [index3 t]

/-- What the kernel leaves in its output blocks after each grid point. -/
theorem grads3 (he : Entry3 V c D Mx Pj KV Wo g) (n : ℕ) (hn : n < cfg3.N) :
    outsAt3 V c n hn = (lift2 (φ := .bf16) fun i => mixedBack g (Mx (row256 n i)) (D (row256 n i)),
      lift2 (φ := .f32) fun i => tokBack Wo (mixedBack g (Mx (row256 n i)) (D (row256 n i))),
      lift2 (φ := .bf16) fun i => queryBack KV (query (Pj (row256 n i))) (attBack Wo (mixedBack g (Mx (row256 n i)) (D (row256 n i)))),
      argDmem fun k j => ∑ p ∈ Finset.range (n + 1), ∑ k', memBack KV (query (Pj (row256 p k'))) (attBack Wo (mixedBack g (Mx (row256 p k')) (D (row256 p k')))) k j,
      argG fun j => ∑ p ∈ Finset.range (n + 1), ∑ k', D (row256 p k') j * hat (Mx (row256 p k')) j) := by
  have hN : n < 32 := hn
  induction n with
  | zero =>
    refine (outsAt3_A V c ⟨0, hn⟩ rfl).trans ?_
    rw [block3_0 V c D Mx Pj KV Wo g he, block3_1 V c D Mx Pj KV Wo g he, block3_2 V c D Mx Pj KV Wo g he, block3_3 V c D Mx Pj KV Wo g he, block3_4 V c D Mx Pj KV Wo g he, block3_5 V c D Mx Pj KV Wo g he]
    refine congrArg₂ Prod.mk ?_ (congrArg₂ Prod.mk ?_ (congrArg₂ Prod.mk ?_ (congrArg₂ Prod.mk ?_ (?_))))
    · exact backA_6 ..
    · exact backA_7 ..
    · exact backA_8 ..
    · refine (backA_9 ..).trans ?_
      simp
    · refine (backA_10 ..).trans ?_
      simp
  | succ n ih =>
    refine (outsAt3_B V c ⟨n + 1, hn⟩ (by show ¬ (n + 1) % 32 = 0; omega)).trans ?_
    rw [block3_0 V c D Mx Pj KV Wo g he, block3_1 V c D Mx Pj KV Wo g he, block3_2 V c D Mx Pj KV Wo g he, block3_3 V c D Mx Pj KV Wo g he, block3_4 V c D Mx Pj KV Wo g he, block3_5 V c D Mx Pj KV Wo g he]
    have e : outsAt3 V c n (Nat.lt_of_succ_lt hn) = _ := ih (Nat.lt_of_succ_lt hn) (by omega)
    simp only [Nat.add_sub_cancel]
    simp only [e]
    refine congrArg₂ Prod.mk ?_ (congrArg₂ Prod.mk ?_ (congrArg₂ Prod.mk ?_ (congrArg₂ Prod.mk ?_ (?_))))
    · exact backB_6 ..
    · exact backB_7 ..
    · exact backB_8 ..
    · refine (backB_9 ..).trans ?_
      simp only [Finset.sum_range_succ _ (n + 1)]
    · refine (backB_10 ..).trans ?_
      simp only [Finset.sum_range_succ _ (n + 1)]

/-- The last grid point. -/
def last3 : Fin cfg3.N := ⟨31, by show 31 < 32; norm_num⟩

theorem array_dm (he : Entry3 V c D Mx Pj KV Wo g) :
    (dat3 V c).arrAt 6 cfg3.N = (lift2 (φ := .bf16) fun i => mixedBack g (Mx i) (D i) : FVec Ideal S8192x1024 .bf16) := by
  refine (dat3 V c).arrAt_eq_of_covers 6 _ (by decide +kernel) fun t hf y => ?_
  blk_simp
  rw [after3_6, grads3 V c D Mx Pj KV Wo g he]
  refine congrArg Real.toEReal (congr (congrArg (fun i => mixedBack g (Mx i) (D i)) (Fin.ext ?_)) (Fin.ext ?_))
  · blk_simp [index3 t]; exact row256_val t.isLt (y 0)
  · blk_simp [index3 t]

theorem array_dtok (he : Entry3 V c D Mx Pj KV Wo g) :
    (dat3 V c).arrAt 7 cfg3.N = (lift2 (φ := .f32) fun i => tokBack Wo (mixedBack g (Mx i) (D i)) : FVec Ideal S8192x512 .f32) := by
  refine (dat3 V c).arrAt_eq_of_covers 7 _ (by decide +kernel) fun t hf y => ?_
  blk_simp
  rw [after3_7, grads3 V c D Mx Pj KV Wo g he]
  refine congrArg Real.toEReal (congr (congrArg (fun i => tokBack Wo (mixedBack g (Mx i) (D i))) (Fin.ext ?_)) (Fin.ext ?_))
  · blk_simp [index3 t]; exact row256_val t.isLt (y 0)
  · blk_simp [index3 t]

theorem array_dqm (he : Entry3 V c D Mx Pj KV Wo g) :
    (dat3 V c).arrAt 8 cfg3.N = (lift2 (φ := .bf16) fun i => queryBack KV (query (Pj i)) (attBack Wo (mixedBack g (Mx i) (D i))) : FVec Ideal S8192x256 .bf16) := by
  refine (dat3 V c).arrAt_eq_of_covers 8 _ (by decide +kernel) fun t hf y => ?_
  blk_simp
  rw [after3_8, grads3 V c D Mx Pj KV Wo g he]
  refine congrArg Real.toEReal (congr (congrArg (fun i => queryBack KV (query (Pj i)) (attBack Wo (mixedBack g (Mx i) (D i)))) (Fin.ext ?_)) (Fin.ext ?_))
  · blk_simp [index3 t]; exact row256_val t.isLt (y 0)
  · blk_simp [index3 t]

theorem array_dkv (he : Entry3 V c D Mx Pj KV Wo g) :
    (dat3 V c).arrAt 9 cfg3.N = (argDmem fun k j => ∑ r, memBack KV (query (Pj r)) (attBack Wo (mixedBack g (Mx r) (D r))) k j) := by
  refine (dat3 V c).arrAt_eq_of_after_last 9 last3 (by decide +kernel) _ fun j => ?_
  rw [after3_9, grads3 V c D Mx Pj KV Wo g he]
  exact congrArg Real.toEReal (sum_rows256 fun r => memBack KV (query (Pj r)) (attBack Wo (mixedBack g (Mx r) (D r))) (j 0) (j 1))

theorem array_dgpost (he : Entry3 V c D Mx Pj KV Wo g) :
    (dat3 V c).arrAt 10 cfg3.N = (argG fun j => ∑ r, D r j * hat (Mx r) j) := by
  refine (dat3 V c).arrAt_eq_of_after_last 10 last3 (by decide +kernel) _ fun j => ?_
  rw [after3_10, grads3 V c D Mx Pj KV Wo g he]
  exact congrArg Real.toEReal (sum_rows256 fun r => D r (j 1) * hat (Mx r) (j 1))

end

section
variable (C : Fin 8192 → Fin 768 → ℝ) (Dm : Fin 8192 → Fin 1024 → ℝ)

/-- The block index of every window at every grid point. -/
theorem index4 : ∀ t : Fin cfg4.N,
    win4_0.index t = ![(t : ℕ), 0]
    ∧ win4_1.index t = ![(t : ℕ), 0]
    ∧ win4_2.index t = ![0, 0, 0] :=
  (by decide +kernel : ∀ t : Fin grid4.N, _)

/-- The arrays this kernel finds on entry. -/
structure Entry4 : Prop where
  e0 : V c (Pipeline.arrRef spec4 0) = (lift2 (φ := .bf16) C : FVec Ideal S8192x768 .bf16)
  e1 : V c (Pipeline.arrRef spec4 1) = (lift2 (φ := .bf16) Dm : FVec Ideal S8192x1024 .bf16)

theorem block4_0 (he : Entry4 V c C Dm) (t : Fin cfg4.N) : iblk4 V c 0 t = (lift2 (φ := .bf16) fun i => C (row1024 t i) : FVec Ideal S1024x768 .bf16) := by
  rw [iblk4, he.e0]
  funext y
  show (lift2 (φ := .bf16) C : FVec Ideal S8192x768 .bf16) (((cfg4.win 0).blk t).view.emb y) = _
  refine congrArg Real.toEReal (congrArg₂ C (Fin.ext ?_) (Fin.ext ?_))
  · blk_simp [index4 t]; exact (row1024_val t.isLt (y 0)).symm
  · blk_simp [index4 t]
theorem block4_1 (he : Entry4 V c C Dm) (t : Fin cfg4.N) : iblk4 V c 1 t = (lift2 (φ := .bf16) fun i => Dm (row1024 t i) : FVec Ideal S1024x1024 .bf16) := by
  rw [iblk4, he.e1]
  funext y
  show (lift2 (φ := .bf16) Dm : FVec Ideal S8192x1024 .bf16) (((cfg4.win 1).blk t).view.emb y) = _
  refine congrArg Real.toEReal (congrArg₂ Dm (Fin.ext ?_) (Fin.ext ?_))
  · blk_simp [index4 t]; exact (row1024_val t.isLt (y 0)).symm
  · blk_simp [index4 t]

/-- What the kernel leaves in its output blocks after each grid point. -/
theorem grads4 (he : Entry4 V c C Dm) (n : ℕ) (hn : n < cfg4.N) :
    outsAt4 V c n hn = lift3 (φ := .f32) fun s i j => ∑ p ∈ Finset.range (n + 1), ∑ k', C (row1024 p k') i * Dm (row1024 p k') (quarter s j) := by
  have hN : n < 8 := hn
  induction n with
  | zero =>
    refine (outsAt4_A V c ⟨0, hn⟩ rfl).trans ?_
    rw [block4_0 V c C Dm he, block4_1 V c C Dm he]
    refine (woutA ..).trans ?_
    simp
  | succ n ih =>
    refine (outsAt4_B V c ⟨n + 1, hn⟩ (by show ¬ (n + 1) % 8 = 0; omega)).trans ?_
    rw [block4_0 V c C Dm he, block4_1 V c C Dm he]
    have e : outsAt4 V c n (Nat.lt_of_succ_lt hn) = _ := ih (Nat.lt_of_succ_lt hn) (by omega)
    show out4_B_2 c _ _ _ _ _ _ _ _ _ _ (outsAt4 V c n (Nat.lt_of_succ_lt hn)) = _
    rw [e]
    refine (woutB ..).trans ?_
    simp only [Finset.sum_range_succ _ (n + 1)]

/-- The last grid point. -/
def last4 : Fin cfg4.N := ⟨7, by show 7 < 8; norm_num⟩

theorem array_dwo (he : Entry4 V c C Dm) :
    (dat4 V c).arrAt 2 cfg4.N = (lift3 (φ := .f32) fun s i j => ∑ r, C r i * Dm r (quarter s j)) := by
  refine (dat4 V c).arrAt_eq_of_after_last 2 last4 (by decide +kernel) _ fun j => ?_
  rw [after4_2, grads4 V c C Dm he]
  exact congrArg Real.toEReal (sum_rows1024 fun r => C r (j 1) * Dm r (quarter (j 0) (j 2)))

end

section
variable (M : Fin 256 → Fin 1024 → ℝ) (gm : Fin 1024 → ℝ) (Wkv : Fin 1024 → Fin 512 → ℝ) (DKV : Fin 256 → Fin 512 → ℝ)

/-- The block index of every window at every grid point. -/
theorem index5 : ∀ t : Fin cfg5.N,
    win5_0.index t = ![0, 0]
    ∧ win5_1.index t = ![0, 0]
    ∧ win5_2.index t = ![0, 0, 0]
    ∧ win5_3.index t = ![0, 0]
    ∧ win5_4.index t = ![0, 0]
    ∧ win5_5.index t = ![0, 0] :=
  (by decide +kernel : ∀ t : Fin grid5.N, _)

/-- The arrays this kernel finds on entry. -/
structure Entry5 : Prop where
  e0 : V c (Pipeline.arrRef spec5 0) = argY M
  e1 : V c (Pipeline.arrRef spec5 1) = argG gm
  e2 : V c (Pipeline.arrRef spec5 2) = argKv Wkv
  e3 : V c (Pipeline.arrRef spec5 3) = argDmem DKV

theorem block5_0 (he : Entry5 V c M gm Wkv DKV) (t : Fin cfg5.N) : iblk5 V c 0 t = argY M := by
  rw [iblk5, he.e0]
  funext y
  show argY M (((cfg5.win 0).blk t).view.emb y) = argY M y
  refine congrArg (argY M) (funext fun a => Fin.ext ?_)
  fin_cases a <;> blk_simp [index5 t]
theorem block5_1 (he : Entry5 V c M gm Wkv DKV) (t : Fin cfg5.N) : iblk5 V c 1 t = argG gm := by
  rw [iblk5, he.e1]
  funext y
  show argG gm (((cfg5.win 1).blk t).view.emb y) = _
  refine congrArg Real.toEReal (congrArg gm (Fin.ext ?_))
  blk_simp [index5 t]
theorem block5_2 (he : Entry5 V c M gm Wkv DKV) (t : Fin cfg5.N) : iblk5 V c 2 t = argKv Wkv := by
  rw [iblk5, he.e2]
  funext y
  show argKv Wkv (((cfg5.win 2).blk t).view.emb y) = argKv Wkv y
  refine congrArg (argKv Wkv) (funext fun a => Fin.ext ?_)
  fin_cases a <;> blk_simp [index5 t]
theorem block5_3 (he : Entry5 V c M gm Wkv DKV) (t : Fin cfg5.N) : iblk5 V c 3 t = argDmem DKV := by
  rw [iblk5, he.e3]
  funext y
  show argDmem DKV (((cfg5.win 3).blk t).view.emb y) = argDmem DKV y
  refine congrArg (argDmem DKV) (funext fun a => Fin.ext ?_)
  fin_cases a <;> blk_simp [index5 t]

theorem array_dwkv (he : Entry5 V c M gm Wkv DKV) :
    (dat5 V c).arrAt 4 cfg5.N = (lift2 (φ := .f32) fun i j => ∑ k, normed gm (M k) i * DKV k j) := by
  refine (dat5 V c).arrAt_eq_of_covers 4 _ (by decide +kernel) fun t hf y => ?_
  blk_simp
  rw [after5_4, block5_0 V c M gm Wkv DKV he, block5_1 V c M gm Wkv DKV he, block5_2 V c M gm Wkv DKV he, block5_3 V c M gm Wkv DKV he, memory_dw]
  refine congrArg (lift2 (φ := .f32) fun i j => ∑ k, normed gm (M k) i * DKV k j) (funext fun a => Fin.ext ?_)
  fin_cases a <;> blk_simp [index5 t]

theorem array_dgmem (he : Entry5 V c M gm Wkv DKV) :
    (dat5 V c).arrAt 5 cfg5.N = (argG fun j => ∑ k, timesT Wkv (DKV k) j * hat (M k) j) := by
  refine (dat5 V c).arrAt_eq_of_covers 5 _ (by decide +kernel) fun t hf y => ?_
  blk_simp
  rw [after5_5, block5_0 V c M gm Wkv DKV he, block5_1 V c M gm Wkv DKV he, block5_2 V c M gm Wkv DKV he, block5_3 V c M gm Wkv DKV he, memory_dg]
  refine congrArg (argG fun j => ∑ k, timesT Wkv (DKV k) j * hat (M k) j) (funext fun a => Fin.ext ?_)
  fin_cases a <;> blk_simp [index5 t]

end

end Cert.MixPool
-- ==== Proof.PoolInputArrays.lean ====
/- The arrays of the kernels that take the gradient back to the input rows and the input weights in the pooling layer's sub-layer. -/
module

public import proofs.«01_k».proof.Proof.PoolForwardArrays
public import proofs.«01_k».proof.Proof.PoolGrads
public import Idealize.ShloMosaic.Lib.Pipeline.ReadBack

@[expose] public section

set_option maxRecDepth 16384

noncomputable section

namespace Cert.MixPool

open Idealize.ShloMosaic Cert.Kernel3Ideal Cert.Kernel3Ideal.Gen Cert.FfnBlock Cert.Mixing Idealize.ShloMosaic.TcCoe

set_option backward.isDefEq.respectTransparency.types false

variable (V : (c : Dev nD) → (b : Ref sig .tc) → Buf (Elt Ideal) ((c : Thread nD τ).loc b)) (c : Dev nD)

section
variable (H : Fin 8192 → Fin 1024 → ℝ) (D : Fin 8192 → Fin 1024 → ℝ) (g : Fin 1024 → ℝ) (Wi : Fin 1024 → Fin 768 → ℝ) (Tx : Fin 8192 → Fin 512 → ℝ) (Dq : Fin 8192 → Fin 256 → ℝ)

/-- The block index of every window at every grid point. -/
theorem index6 : ∀ t : Fin cfg6.N,
    win6_0.index t = ![(t : ℕ), 0]
    ∧ win6_1.index t = ![(t : ℕ), 0]
    ∧ win6_2.index t = ![0, 0]
    ∧ win6_3.index t = ![0, 0, 0]
    ∧ win6_4.index t = ![(t : ℕ), 0]
    ∧ win6_5.index t = ![(t : ℕ), 0]
    ∧ win6_6.index t = ![(t : ℕ), 0]
    ∧ win6_7.index t = ![(t : ℕ), 0]
    ∧ win6_8.index t = ![0, 0] :=
  (by decide +kernel : ∀ t : Fin grid6.N, _)

/-- The arrays this kernel finds on entry. -/
structure Entry6 : Prop where
  e0 : V c (Pipeline.arrRef spec6 0) = (lift2 (φ := .f32) H : FVec Ideal S8192x1024 .f32)
  e1 : V c (Pipeline.arrRef spec6 1) = (lift2 (φ := .f32) D : FVec Ideal S8192x1024 .f32)
  e2 : V c (Pipeline.arrRef spec6 2) = argG g
  e3 : V c (Pipeline.arrRef spec6 3) = argWi Wi
  e4 : V c (Pipeline.arrRef spec6 4) = (lift2 (φ := .f32) Tx : FVec Ideal S8192x512 .f32)
  e5 : V c (Pipeline.arrRef spec6 5) = (lift2 (φ := .bf16) Dq : FVec Ideal S8192x256 .bf16)

theorem block6_0 (he : Entry6 V c H D g Wi Tx Dq) (t : Fin cfg6.N) : iblk6 V c 0 t = (lift2 (φ := .f32) fun i => H (row256 t i) : FVec Ideal S256x1024 .f32) := by
  rw [iblk6, he.e0]
  funext y
  show (lift2 (φ := .f32) H : FVec Ideal S8192x1024 .f32) (((cfg6.win 0).blk t).view.emb y) = _
  refine congrArg Real.toEReal (congrArg₂ H (Fin.ext ?_) (Fin.ext ?_))
  · blk_simp [index6 t]; exact (row256_val t.isLt (y 0)).symm
  · blk_simp [index6 t]
theorem block6_1 (he : Entry6 V c H D g Wi Tx Dq) (t : Fin cfg6.N) : iblk6 V c 1 t = (lift2 (φ := .f32) fun i => D (row256 t i) : FVec Ideal S256x1024 .f32) := by
  rw [iblk6, he.e1]
  funext y
  show (lift2 (φ := .f32) D : FVec Ideal S8192x1024 .f32) (((cfg6.win 1).blk t).view.emb y) = _
  refine congrArg Real.toEReal (congrArg₂ D (Fin.ext ?_) (Fin.ext ?_))
  · blk_simp [index6 t]; exact (row256_val t.isLt (y 0)).symm
  · blk_simp [index6 t]
theorem block6_2 (he : Entry6 V c H D g Wi Tx Dq) (t : Fin cfg6.N) : iblk6 V c 2 t = argG g := by
  rw [iblk6, he.e2]
  funext y
  show argG g (((cfg6.win 2).blk t).view.emb y) = _
  refine congrArg Real.toEReal (congrArg g (Fin.ext ?_))
  blk_simp [index6 t]
theorem block6_3 (he : Entry6 V c H D g Wi Tx Dq) (t : Fin cfg6.N) : iblk6 V c 3 t = argWi Wi := by
  rw [iblk6, he.e3]
  funext y
  show argWi Wi (((cfg6.win 3).blk t).view.emb y) = argWi Wi y
  refine congrArg (argWi Wi) (funext fun a => Fin.ext ?_)
  fin_cases a <;> blk_simp [index6 t]
theorem block6_4 (he : Entry6 V c H D g Wi Tx Dq) (t : Fin cfg6.N) : iblk6 V c 4 t = (lift2 (φ := .f32) fun i => Tx (row256 t i) : FVec Ideal S256x512 .f32) := by
  rw [iblk6, he.e4]
  funext y
  show (lift2 (φ := .f32) Tx : FVec Ideal S8192x512 .f32) (((cfg6.win 4).blk t).view.emb y) = _
  refine congrArg Real.toEReal (congrArg₂ Tx (Fin.ext ?_) (Fin.ext ?_))
  · blk_simp [index6 t]; exact (row256_val t.isLt (y 0)).symm
  · blk_simp [index6 t]
theorem block6_5 (he : Entry6 V c H D g Wi Tx Dq) (t : Fin cfg6.N) : iblk6 V c 5 t = (lift2 (φ := .bf16) fun i => Dq (row256 t i) : FVec Ideal S256x256 .bf16) := by
  rw [iblk6, he.e5]
  funext y
  show (lift2 (φ := .bf16) Dq : FVec Ideal S8192x256 .bf16) (((cfg6.win 5).blk t).view.emb y) = _
  refine congrArg Real.toEReal (congrArg₂ Dq (Fin.ext ?_) (Fin.ext ?_))
  · blk_simp [index6 t]; exact (row256_val t.isLt (y 0)).symm
  · blk_simp [index6 t]

/-- What the kernel leaves in its output blocks after each grid point. -/
theorem grads6 (he : Entry6 V c H D g Wi Tx Dq) (n : ℕ) (hn : n < cfg6.N) :
    outsAt6 V c n hn = (lift2 (φ := .f32) fun i => mixIn g (H (row256 n i)) (D (row256 n i)) (timesT Wi (beside (Tx (row256 n i)) (Dq (row256 n i)))),
      lift2 (φ := .bf16) fun i => beside (Tx (row256 n i)) (Dq (row256 n i)),
      argG fun j => ∑ p ∈ Finset.range (n + 1), ∑ k', timesT Wi (beside (Tx (row256 p k')) (Dq (row256 p k'))) j * hat (H (row256 p k')) j) := by
  have hN : n < 32 := hn
  induction n with
  | zero =>
    refine (outsAt6_A V c ⟨0, hn⟩ rfl).trans ?_
    rw [block6_0 V c H D g Wi Tx Dq he, block6_1 V c H D g Wi Tx Dq he, block6_2 V c H D g Wi Tx Dq he, block6_3 V c H D g Wi Tx Dq he, block6_4 V c H D g Wi Tx Dq he, block6_5 V c H D g Wi Tx Dq he]
    refine congrArg₂ Prod.mk ?_ (congrArg₂ Prod.mk ?_ (?_))
    · exact rowsA_6 ..
    · exact rowsA_7 ..
    · refine (rowsA_8 ..).trans ?_
      simp
  | succ n ih =>
    refine (outsAt6_B V c ⟨n + 1, hn⟩ (by show ¬ (n + 1) % 32 = 0; omega)).trans ?_
    rw [block6_0 V c H D g Wi Tx Dq he, block6_1 V c H D g Wi Tx Dq he, block6_2 V c H D g Wi Tx Dq he, block6_3 V c H D g Wi Tx Dq he, block6_4 V c H D g Wi Tx Dq he, block6_5 V c H D g Wi Tx Dq he]
    have e : outsAt6 V c n (Nat.lt_of_succ_lt hn) = _ := ih (Nat.lt_of_succ_lt hn) (by omega)
    simp only [Nat.add_sub_cancel]
    simp only [e]
    refine congrArg₂ Prod.mk ?_ (congrArg₂ Prod.mk ?_ (?_))
    · exact rowsB_6 ..
    · exact rowsB_7 ..
    · refine (rowsB_8 ..).trans ?_
      simp only [Finset.sum_range_succ _ (n + 1)]

/-- The last grid point. -/
def last6 : Fin cfg6.N := ⟨31, by show 31 < 32; norm_num⟩

theorem array_dh (he : Entry6 V c H D g Wi Tx Dq) :
    (dat6 V c).arrAt 6 cfg6.N = (lift2 (φ := .f32) fun i => mixIn g (H i) (D i) (timesT Wi (beside (Tx i) (Dq i))) : FVec Ideal S8192x1024 .f32) := by
  refine (dat6 V c).arrAt_eq_of_covers 6 _ (by decide +kernel) fun t hf y => ?_
  blk_simp
  rw [after6_6, grads6 V c H D g Wi Tx Dq he]
  refine congrArg Real.toEReal (congr (congrArg (fun i => mixIn g (H i) (D i) (timesT Wi (beside (Tx i) (Dq i)))) (Fin.ext ?_)) (Fin.ext ?_))
  · blk_simp [index6 t]; exact row256_val t.isLt (y 0)
  · blk_simp [index6 t]

theorem array_dproj (he : Entry6 V c H D g Wi Tx Dq) :
    (dat6 V c).arrAt 7 cfg6.N = (lift2 (φ := .bf16) fun i => beside (Tx i) (Dq i) : FVec Ideal S8192x768 .bf16) := by
  refine (dat6 V c).arrAt_eq_of_covers 7 _ (by decide +kernel) fun t hf y => ?_
  blk_simp
  rw [after6_7, grads6 V c H D g Wi Tx Dq he]
  refine congrArg Real.toEReal (congr (congrArg (fun i => beside (Tx i) (Dq i)) (Fin.ext ?_)) (Fin.ext ?_))
  · blk_simp [index6 t]; exact row256_val t.isLt (y 0)
  · blk_simp [index6 t]

theorem array_dgpre (he : Entry6 V c H D g Wi Tx Dq) :
    (dat6 V c).arrAt 8 cfg6.N = (argG fun j => ∑ r, timesT Wi (beside (Tx r) (Dq r)) j * hat (H r) j) := by
  refine (dat6 V c).arrAt_eq_of_after_last 8 last6 (by decide +kernel) _ fun j => ?_
  rw [after6_8, grads6 V c H D g Wi Tx Dq he]
  exact congrArg Real.toEReal (sum_rows256 fun r => timesT Wi (beside (Tx r) (Dq r)) (j 1) * hat (H r) (j 1))

end

section
variable (U : Fin 8192 → Fin 1024 → ℝ) (Dp : Fin 8192 → Fin 768 → ℝ)

/-- The block index of every window at every grid point. -/
theorem index7 : ∀ t : Fin cfg7.N,
    win7_0.index t = ![(t : ℕ), 0]
    ∧ win7_1.index t = ![(t : ℕ), 0]
    ∧ win7_2.index t = ![0, 0] :=
  (by decide +kernel : ∀ t : Fin grid7.N, _)

/-- The arrays this kernel finds on entry. -/
structure Entry7 : Prop where
  e0 : V c (Pipeline.arrRef spec7 0) = (lift2 (φ := .bf16) U : FVec Ideal S8192x1024 .bf16)
  e1 : V c (Pipeline.arrRef spec7 1) = (lift2 (φ := .bf16) Dp : FVec Ideal S8192x768 .bf16)

theorem block7_0 (he : Entry7 V c U Dp) (t : Fin cfg7.N) : iblk7 V c 0 t = (lift2 (φ := .bf16) fun i => U (row1024 t i) : FVec Ideal S1024x1024 .bf16) := by
  rw [iblk7, he.e0]
  funext y
  show (lift2 (φ := .bf16) U : FVec Ideal S8192x1024 .bf16) (((cfg7.win 0).blk t).view.emb y) = _
  refine congrArg Real.toEReal (congrArg₂ U (Fin.ext ?_) (Fin.ext ?_))
  · blk_simp [index7 t]; exact (row1024_val t.isLt (y 0)).symm
  · blk_simp [index7 t]
theorem block7_1 (he : Entry7 V c U Dp) (t : Fin cfg7.N) : iblk7 V c 1 t = (lift2 (φ := .bf16) fun i => Dp (row1024 t i) : FVec Ideal S1024x768 .bf16) := by
  rw [iblk7, he.e1]
  funext y
  show (lift2 (φ := .bf16) Dp : FVec Ideal S8192x768 .bf16) (((cfg7.win 1).blk t).view.emb y) = _
  refine congrArg Real.toEReal (congrArg₂ Dp (Fin.ext ?_) (Fin.ext ?_))
  · blk_simp [index7 t]; exact (row1024_val t.isLt (y 0)).symm
  · blk_simp [index7 t]

/-- What the kernel leaves in its output blocks after each grid point. -/
theorem grads7 (he : Entry7 V c U Dp) (n : ℕ) (hn : n < cfg7.N) :
    outsAt7 V c n hn = lift2 (φ := .f32) fun i j => ∑ p ∈ Finset.range (n + 1), ∑ k', U (row1024 p k') i * Dp (row1024 p k') j := by
  have hN : n < 8 := hn
  induction n with
  | zero =>
    refine (outsAt7_A V c ⟨0, hn⟩ rfl).trans ?_
    rw [block7_0 V c U Dp he, block7_1 V c U Dp he]
    refine (winA ..).trans ?_
    simp
  | succ n ih =>
    refine (outsAt7_B V c ⟨n + 1, hn⟩ (by show ¬ (n + 1) % 8 = 0; omega)).trans ?_
    rw [block7_0 V c U Dp he, block7_1 V c U Dp he]
    have e : outsAt7 V c n (Nat.lt_of_succ_lt hn) = _ := ih (Nat.lt_of_succ_lt hn) (by omega)
    show out7_B_2 c _ _ _ _ _ _ _ _ _ _ (outsAt7 V c n (Nat.lt_of_succ_lt hn)) = _
    rw [e]
    refine (winB ..).trans ?_
    simp only [Finset.sum_range_succ _ (n + 1)]

/-- The last grid point. -/
def last7 : Fin cfg7.N := ⟨7, by show 7 < 8; norm_num⟩

theorem array_dwin (he : Entry7 V c U Dp) :
    (dat7 V c).arrAt 2 cfg7.N = (lift2 (φ := .f32) fun i j => ∑ r, U r i * Dp r j) := by
  refine (dat7 V c).arrAt_eq_of_after_last 2 last7 (by decide +kernel) _ fun j => ?_
  rw [after7_2, grads7 V c U Dp he]
  exact congrArg Real.toEReal (sum_rows1024 fun r => U r (j 0) * Dp r (j 1))

end

end Cert.MixPool
-- ==== Proof.PoolRun.lean ====
/- The run of the program around a pooling layer's token mixer: from real arguments its ten results end holding the sub-layer's rows and gradients. -/
module

public import proofs.«01_k».proof.Proof.PoolForwardArrays
public import proofs.«01_k».proof.Proof.PoolBackwardArrays
public import proofs.«01_k».proof.Proof.PoolInputArrays
public import proofs.«01_k».proof.Proof.Gen.Kernel3Ideal.Frame
public import Idealize.ShloMosaic.Lib.Pipeline.ReadBack

@[expose] public section

set_option maxRecDepth 16384

noncomputable section

namespace Cert.MixPool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen Cert.FfnBlock Cert.Mixing

set_option backward.isDefEq.respectTransparency.types false

/-! ## Moving arrays in and out of their slots -/

theorem slots_kv (W : Fin 1024 → Fin 512 → ℝ) (h) : shapeCast S4x256x512 (lift2 (φ := .bf16) W : FVec Ideal S1024x512 .bf16) h = argKv W := by
  funext i; pointwise [lift2, lift3]
  exact congrArg Real.toEReal (congrArg (W · (i 2)) (Fin.ext (by simp [quarter, Nat.mul_comm])))
theorem slots_in (W : Fin 1024 → Fin 768 → ℝ) (h) : shapeCast S4x256x768 (lift2 (φ := .bf16) W : FVec Ideal S1024x768 .bf16) h = argWi W := by
  funext i; pointwise [lift2, lift3]
  exact congrArg Real.toEReal (congrArg (W · (i 2)) (Fin.ext (by simp [quarter, Nat.mul_comm])))
theorem token_part (X : Fin 8192 → Fin 768 → ℝ) (h) :
    extractStridedSlice S8192x512 ![0, 0] (lift2 (φ := .f32) X : FVec Ideal S8192x768 .f32) h = lift2 (φ := .f32) fun i => forToken (X i) := by
  funext i; pointwise [lift2]; exact congrArg Real.toEReal (congrArg (X (i 0)) (Fin.ext (by simp)))
theorem slots_out (W : Fin 768 → Fin 1024 → ℝ) (h h') :
    transpose S4x768x256 [1, 0, 2] (shapeCast S768x4x256 (lift2 (φ := .bf16) W : FVec Ideal S768x1024 .bf16) h) h' = argWo W := by
  funext i; pointwise [lift2, lift3]
  exact congrArg Real.toEReal (congrArg (W (i 1)) (Fin.ext (by simp [quarter, Nat.mul_comm])))
theorem join_out (W : Fin 768 → Fin 1024 → ℝ) (h h') :
    shapeCast S768x1024 (transpose S768x4x256 [1, 0, 2] (lift3 (φ := .f32) fun s i j => W i (quarter s j) : FVec Ideal S4x768x256 .f32) h) h' = lift2 (φ := .f32) W := by
  funext i; pointwise [lift2, lift3]
  exact congrArg Real.toEReal (congrArg (W (i 0)) (Fin.ext (Nat.div_add_mod _ _)))
theorem drop_row (x : Fin 1024 → ℝ) (h) : shapeCast S1024 (argG x) h = lift1 (φ := .f32) x := by
  funext i; pointwise [lift2, lift1]

variable (I : Inputs) (m : (ℓ : Loc nD τ sig) → Buf (Elt Ideal) ℓ) (ρ : Dev nD → PrngReg) (c : Dev nD)

/-- The program's arguments hold these real arrays. -/
structure Args : Prop where
  a0 : m ((c : Thread nD τ).loc main_arg0) = (lift2 (φ := .f32) I.H : FVec Ideal S8192x1024 .f32)
  a1 : m ((c : Thread nD τ).loc main_arg1) = (lift2 (φ := .f32) I.T : FVec Ideal S8192x512 .f32)
  a2 : m ((c : Thread nD τ).loc main_arg2) = (lift2 (φ := .f32) I.D : FVec Ideal S8192x1024 .f32)
  a3 : m ((c : Thread nD τ).loc main_arg3) = (lift2 (φ := .f32) I.DP : FVec Ideal S8192x512 .f32)
  a4 : m ((c : Thread nD τ).loc main_arg4) = (lift2 (φ := .f32) I.M : FVec Ideal S256x1024 .f32)
  a5 : m ((c : Thread nD τ).loc main_arg5) = (lift1 (φ := .f32) I.g : FVec Ideal S1024 .f32)
  a6 : m ((c : Thread nD τ).loc main_arg6) = (lift1 (φ := .f32) I.gm : FVec Ideal S1024 .f32)
  a7 : m ((c : Thread nD τ).loc main_arg7) = (lift1 (φ := .f32) I.g' : FVec Ideal S1024 .f32)
  a8 : m ((c : Thread nD τ).loc main_arg8) = (lift2 (φ := .f32) I.Wi : FVec Ideal S1024x768 .f32)
  a9 : m ((c : Thread nD τ).loc main_arg9) = (lift2 (φ := .f32) I.Wkv : FVec Ideal S1024x512 .f32)
  a10 : m ((c : Thread nD τ).loc main_arg10) = (lift2 (φ := .f32) I.Wo : FVec Ideal S768x1024 .f32)

/-! ## What the preparation leaves -/

theorem prep_v0 : W1 m ρ c (Proc.devRef .tc main_v0) = (shapeCast S1x1024 (m ((c : Thread nD τ).loc main_arg5) : FVec Ideal S1024 .f32) shapeCasts_S1024_S1x1024 : FVec Ideal S1x1024 .f32) := by
  unfold_abbrev_sides
  after_results
  rfl
theorem prep_v1 : W1 m ρ c (Proc.devRef .tc main_v1) = (shapeCast S1x1024 (m ((c : Thread nD τ).loc main_arg6) : FVec Ideal S1024 .f32) shapeCasts_S1024_S1x1024 : FVec Ideal S1x1024 .f32) := by
  unfold_abbrev_sides
  after_results
  rfl
theorem prep_v2 : W1 m ρ c (Proc.devRef .tc main_v2) = (shapeCast S1x1024 (m ((c : Thread nD τ).loc main_arg7) : FVec Ideal S1024 .f32) shapeCasts_S1024_S1x1024 : FVec Ideal S1x1024 .f32) := by
  unfold_abbrev_sides
  after_results
  rfl
theorem prep_v4 : W1 m ρ c (Proc.devRef .tc main_v4) = (shapeCast S4x256x768 (truncf .bf16 (m ((c : Thread nD τ).loc main_arg8) : FVec Ideal S1024x768 .f32) bitsLt_bf16_f32) shapeCasts_S1024x768_S4x256x768 : FVec Ideal S4x256x768 .bf16) := by
  unfold_abbrev_sides
  after_results
  rfl
theorem prep_v6 : W1 m ρ c (Proc.devRef .tc main_v6) = (shapeCast S4x256x512 (truncf .bf16 (m ((c : Thread nD τ).loc main_arg9) : FVec Ideal S1024x512 .f32) bitsLt_bf16_f32) shapeCasts_S1024x512_S4x256x512 : FVec Ideal S4x256x512 .bf16) := by
  unfold_abbrev_sides
  after_results
  rfl
theorem prep_v9 : W1 m ρ c (Proc.devRef .tc main_v9) = (transpose S4x768x256 [1, 0, 2] (shapeCast S768x4x256 (truncf .bf16 (m ((c : Thread nD τ).loc main_arg10) : FVec Ideal S768x1024 .f32) bitsLt_bf16_f32) shapeCasts_S768x1024_S768x4x256) transposes_S768x4x256_S4x768x256_1_0_2 : FVec Ideal S4x768x256 .bf16) := by
  unfold_abbrev_sides
  after_results
  rfl

variable (hA : Args I m c)
include hA

theorem ready_v0 : W1 m ρ c (Proc.devRef .tc main_v0) = argG I.g := by
  rw [prep_v0, hA.a5]
  exact cast_row _ _
theorem ready_v1 : W1 m ρ c (Proc.devRef .tc main_v1) = argG I.gm := by
  rw [prep_v1, hA.a6]
  exact cast_row _ _
theorem ready_v2 : W1 m ρ c (Proc.devRef .tc main_v2) = argG I.g' := by
  rw [prep_v2, hA.a7]
  exact cast_row _ _
theorem ready_v4 : W1 m ρ c (Proc.devRef .tc main_v4) = argWi I.Wi := by
  rw [prep_v4, hA.a8, truncf_lift2]
  exact slots_in _ _
theorem ready_v6 : W1 m ρ c (Proc.devRef .tc main_v6) = argKv I.Wkv := by
  rw [prep_v6, hA.a9, truncf_lift2]
  exact slots_kv _ _
theorem ready_v9 : W1 m ρ c (Proc.devRef .tc main_v9) = argWo I.Wo := by
  rw [prep_v9, hA.a10, truncf_lift2]
  exact slots_out _ _ _

/-! ## The kernels, one after another -/

/-- What kernel 0 finds. -/
theorem entry0 : Entry0 (V1 m ρ) c I.M I.gm I.Wkv where
  e0 := (W1_args m ρ c main_arg4 (by decide)).trans hA.a4
  e1 := ready_v1 I m ρ c hA
  e2 := ready_v6 I m ρ c hA
theorem after_kv : W2 m ρ c (Proc.devRef .tc main_v10) = argMem I.mem :=
  (W2_arr m ρ c 3).trans (array_kv (he := entry0 I m ρ c hA))

/-- What kernel 1 finds. -/
theorem entry1 : Entry1 (V2 m ρ) c I.H I.g I.Wi where
  e0 := (W2_args m ρ c main_arg0 (by decide)).trans hA.a0
  e1 := (W2_of m ρ c main_v0 (by decide +kernel)).trans (ready_v0 I m ρ c hA)
  e2 := (W2_of m ρ c main_v4 (by decide +kernel)).trans (ready_v4 I m ρ c hA)
theorem after_u : W3 m ρ c (Proc.devRef .tc main_v11_0) = (lift2 (φ := .bf16) (fun r => normed I.g (I.H r)) : FVec Ideal S8192x1024 .bf16) :=
  (W3_arr m ρ c 3).trans (array_u (he := entry1 I m ρ c hA))
theorem after_proj : W3 m ρ c (Proc.devRef .tc main_v11_1) = (lift2 (φ := .f32) (I.proj) : FVec Ideal S8192x768 .f32) :=
  (W3_arr m ρ c 4).trans (array_proj (he := entry1 I m ρ c hA))

/-- What kernel 2 finds. -/
theorem entry2 : Entry2 (V3 m ρ) c I.H I.T I.proj I.mem I.Wo I.g' where
  e0 := (W3_args m ρ c main_arg0 (by decide)).trans hA.a0
  e1 := (W3_args m ρ c main_arg1 (by decide)).trans hA.a1
  e2 := after_proj I m ρ c hA
  e3 := (W3_of m ρ c main_v10 (by decide +kernel)).trans (after_kv I m ρ c hA)
  e4 := (W3_of m ρ c main_v9 (by decide +kernel)).trans ((W2_of m ρ c main_v9 (by decide +kernel)).trans (ready_v9 I m ρ c hA))
  e5 := (W3_of m ρ c main_v2 (by decide +kernel)).trans ((W2_of m ρ c main_v2 (by decide +kernel)).trans (ready_v2 I m ρ c hA))
theorem after_out : W4 m ρ c (Proc.devRef .tc main_v12_0) = (lift2 (φ := .f32) (I.out) : FVec Ideal S8192x1024 .f32) :=
  (W4_arr m ρ c 6).trans (array_out (he := entry2 I m ρ c hA))
theorem after_cat : W4 m ρ c (Proc.devRef .tc main_v12_1) = (lift2 (φ := .bf16) (I.cat) : FVec Ideal S8192x768 .bf16) :=
  (W4_arr m ρ c 7).trans (array_cat (he := entry2 I m ρ c hA))
theorem after_mix : W4 m ρ c (Proc.devRef .tc main_v12_2) = (lift2 (φ := .f32) (I.mix) : FVec Ideal S8192x1024 .f32) :=
  (W4_arr m ρ c 8).trans (array_mix (he := entry2 I m ρ c hA))

/-- What kernel 3 finds. -/
theorem entry3 : Entry3 (V4 m ρ) c I.D I.mix I.proj I.mem I.Wo I.g' where
  e0 := (W4_args m ρ c main_arg2 (by decide)).trans hA.a2
  e1 := after_mix I m ρ c hA
  e2 := (W4_of m ρ c main_v11_1 (by decide +kernel)).trans (after_proj I m ρ c hA)
  e3 := (W4_of m ρ c main_v10 (by decide +kernel)).trans ((W3_of m ρ c main_v10 (by decide +kernel)).trans (after_kv I m ρ c hA))
  e4 := (W4_of m ρ c main_v9 (by decide +kernel)).trans ((W3_of m ρ c main_v9 (by decide +kernel)).trans ((W2_of m ρ c main_v9 (by decide +kernel)).trans (ready_v9 I m ρ c hA)))
  e5 := (W4_of m ρ c main_v2 (by decide +kernel)).trans ((W3_of m ρ c main_v2 (by decide +kernel)).trans ((W2_of m ρ c main_v2 (by decide +kernel)).trans (ready_v2 I m ρ c hA)))
theorem after_dm : W5 m ρ c (Proc.devRef .tc main_v13_0) = (lift2 (φ := .bf16) (I.dmix) : FVec Ideal S8192x1024 .bf16) :=
  (W5_arr m ρ c 6).trans (array_dm (he := entry3 I m ρ c hA))
theorem after_dtok : W5 m ρ c (Proc.devRef .tc main_v13_1) = (lift2 (φ := .f32) (I.dtok) : FVec Ideal S8192x512 .f32) :=
  (W5_arr m ρ c 7).trans (array_dtok (he := entry3 I m ρ c hA))
theorem after_dqm : W5 m ρ c (Proc.devRef .tc main_v13_2) = (lift2 (φ := .bf16) (I.dquery) : FVec Ideal S8192x256 .bf16) :=
  (W5_arr m ρ c 8).trans (array_dqm (he := entry3 I m ρ c hA))
theorem after_dkv : W5 m ρ c (Proc.devRef .tc main_v13_3) = argDmem I.dmem :=
  (W5_arr m ρ c 9).trans (array_dkv (he := entry3 I m ρ c hA))
theorem after_dgpost : W5 m ρ c (Proc.devRef .tc main_v13_4) = argG I.dgpost :=
  (W5_arr m ρ c 10).trans (array_dgpost (he := entry3 I m ρ c hA))

/-- What kernel 4 finds. -/
theorem entry4 : Entry4 (V5 m ρ) c I.cat I.dmix where
  e0 := (W5_of m ρ c main_v12_1 (by decide +kernel)).trans (after_cat I m ρ c hA)
  e1 := after_dm I m ρ c hA
theorem after_dwo : W6 m ρ c (Proc.devRef .tc main_v14) = (lift3 (φ := .f32) fun s i j => I.dwo i (quarter s j) : FVec Ideal S4x768x256 .f32) :=
  (W6_arr m ρ c 2).trans (array_dwo (he := entry4 I m ρ c hA))

/-- What kernel 5 finds. -/
theorem entry5 : Entry5 (V6 m ρ) c I.M I.gm I.Wkv I.dmem where
  e0 := (W6_args m ρ c main_arg4 (by decide)).trans hA.a4
  e1 := (W6_of m ρ c main_v1 (by decide +kernel)).trans ((W5_of m ρ c main_v1 (by decide +kernel)).trans ((W4_of m ρ c main_v1 (by decide +kernel)).trans ((W3_of m ρ c main_v1 (by decide +kernel)).trans ((W2_of m ρ c main_v1 (by decide +kernel)).trans (ready_v1 I m ρ c hA)))))
  e2 := (W6_of m ρ c main_v6 (by decide +kernel)).trans ((W5_of m ρ c main_v6 (by decide +kernel)).trans ((W4_of m ρ c main_v6 (by decide +kernel)).trans ((W3_of m ρ c main_v6 (by decide +kernel)).trans ((W2_of m ρ c main_v6 (by decide +kernel)).trans (ready_v6 I m ρ c hA)))))
  e3 := (W6_of m ρ c main_v13_3 (by decide +kernel)).trans (after_dkv I m ρ c hA)
theorem after_dwkv : W7 m ρ c (Proc.devRef .tc main_v15_0) = (lift2 (φ := .f32) (I.dwkv) : FVec Ideal S1024x512 .f32) :=
  (W7_arr m ρ c 4).trans (array_dwkv (he := entry5 I m ρ c hA))
theorem after_dgmem : W7 m ρ c (Proc.devRef .tc main_v15_1) = argG I.dgmem :=
  (W7_arr m ρ c 5).trans (array_dgmem (he := entry5 I m ρ c hA))

/-- What kernel 6 finds. -/
theorem entry6 : Entry6 (V7 m ρ) c I.H I.D I.g I.Wi I.DP I.dquery where
  e0 := (W7_args m ρ c main_arg0 (by decide)).trans hA.a0
  e1 := (W7_args m ρ c main_arg2 (by decide)).trans hA.a2
  e2 := (W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans (ready_v0 I m ρ c hA))))))
  e3 := (W7_of m ρ c main_v4 (by decide +kernel)).trans ((W6_of m ρ c main_v4 (by decide +kernel)).trans ((W5_of m ρ c main_v4 (by decide +kernel)).trans ((W4_of m ρ c main_v4 (by decide +kernel)).trans ((W3_of m ρ c main_v4 (by decide +kernel)).trans ((W2_of m ρ c main_v4 (by decide +kernel)).trans (ready_v4 I m ρ c hA))))))
  e4 := (W7_args m ρ c main_arg3 (by decide)).trans hA.a3
  e5 := (W7_of m ρ c main_v13_2 (by decide +kernel)).trans ((W6_of m ρ c main_v13_2 (by decide +kernel)).trans (after_dqm I m ρ c hA))
theorem after_dh : W8 m ρ c (Proc.devRef .tc main_v16_0) = (lift2 (φ := .f32) (I.dh) : FVec Ideal S8192x1024 .f32) :=
  (W8_arr m ρ c 6).trans (array_dh (he := entry6 I m ρ c hA))
theorem after_dproj : W8 m ρ c (Proc.devRef .tc main_v16_1) = (lift2 (φ := .bf16) (I.dproj) : FVec Ideal S8192x768 .bf16) :=
  (W8_arr m ρ c 7).trans (array_dproj (he := entry6 I m ρ c hA))
theorem after_dgpre : W8 m ρ c (Proc.devRef .tc main_v16_2) = argG I.dgpre :=
  (W8_arr m ρ c 8).trans (array_dgpre (he := entry6 I m ρ c hA))

/-- What kernel 7 finds. -/
theorem entry7 : Entry7 (V8 m ρ) c (fun r => normed I.g (I.H r)) I.dproj where
  e0 := (W8_of m ρ c main_v11_0 (by decide +kernel)).trans ((W7_of m ρ c main_v11_0 (by decide +kernel)).trans ((W6_of m ρ c main_v11_0 (by decide +kernel)).trans ((W5_of m ρ c main_v11_0 (by decide +kernel)).trans ((W4_of m ρ c main_v11_0 (by decide +kernel)).trans (after_u I m ρ c hA)))))
  e1 := after_dproj I m ρ c hA
theorem after_dwin : W9 m ρ c (Proc.devRef .tc main_v17) = (lift2 (φ := .f32) (I.dwin) : FVec Ideal S1024x768 .f32) :=
  (W9_arr m ρ c 2).trans (array_dwin (he := entry7 I m ρ c hA))

/-! ## The ten results -/

theorem end_out : W10 m ρ c (Proc.devRef .tc main_v12_0) = (lift2 (φ := .f32) (I.out) : FVec Ideal S8192x1024 .f32) :=
  (W10_of m ρ c main_v12_0 (by decide +kernel)).trans ((W9_of m ρ c main_v12_0 (by decide +kernel)).trans ((W8_of m ρ c main_v12_0 (by decide +kernel)).trans ((W7_of m ρ c main_v12_0 (by decide +kernel)).trans ((W6_of m ρ c main_v12_0 (by decide +kernel)).trans ((W5_of m ρ c main_v12_0 (by decide +kernel)).trans (after_out I m ρ c hA))))))
theorem end_dh : W10 m ρ c (Proc.devRef .tc main_v16_0) = (lift2 (φ := .f32) (I.dh) : FVec Ideal S8192x1024 .f32) :=
  (W10_of m ρ c main_v16_0 (by decide +kernel)).trans ((W9_of m ρ c main_v16_0 (by decide +kernel)).trans (after_dh I m ρ c hA))
theorem end_dtok : W10 m ρ c (Proc.devRef .tc main_v13_1) = (lift2 (φ := .f32) (I.dtok) : FVec Ideal S8192x512 .f32) :=
  (W10_of m ρ c main_v13_1 (by decide +kernel)).trans ((W9_of m ρ c main_v13_1 (by decide +kernel)).trans ((W8_of m ρ c main_v13_1 (by decide +kernel)).trans ((W7_of m ρ c main_v13_1 (by decide +kernel)).trans ((W6_of m ρ c main_v13_1 (by decide +kernel)).trans (after_dtok I m ρ c hA)))))
theorem end_dwin : W10 m ρ c (Proc.devRef .tc main_v17) = (lift2 (φ := .f32) (I.dwin) : FVec Ideal S1024x768 .f32) :=
  (W10_of m ρ c main_v17 (by decide +kernel)).trans (after_dwin I m ρ c hA)
theorem end_dwkv : W10 m ρ c (Proc.devRef .tc main_v15_0) = (lift2 (φ := .f32) (I.dwkv) : FVec Ideal S1024x512 .f32) :=
  (W10_of m ρ c main_v15_0 (by decide +kernel)).trans ((W9_of m ρ c main_v15_0 (by decide +kernel)).trans ((W8_of m ρ c main_v15_0 (by decide +kernel)).trans (after_dwkv I m ρ c hA)))
omit hA in
theorem last_tok : W10 m ρ c (Proc.devRef .tc main_v18) = (extractStridedSlice S8192x512 ![0, 0] (W9 m ρ c (Proc.devRef .tc main_v11_1) : FVec Ideal S8192x768 .f32) slices_S8192x768_S8192x512_0_0 : FVec Ideal S8192x512 .f32) := by
  unfold_abbrev_sides
  after_results
theorem end_tok : W10 m ρ c (Proc.devRef .tc main_v18) = (lift2 (φ := .f32) (fun r => forToken (I.proj r)) : FVec Ideal S8192x512 .f32) := by
  have h : W9 m ρ c (Proc.devRef .tc main_v11_1) = (lift2 (φ := .f32) (I.proj) : FVec Ideal S8192x768 .f32) :=
    (W9_of m ρ c main_v11_1 (by decide +kernel)).trans ((W8_of m ρ c main_v11_1 (by decide +kernel)).trans ((W7_of m ρ c main_v11_1 (by decide +kernel)).trans ((W6_of m ρ c main_v11_1 (by decide +kernel)).trans ((W5_of m ρ c main_v11_1 (by decide +kernel)).trans ((W4_of m ρ c main_v11_1 (by decide +kernel)).trans (after_proj I m ρ c hA))))))
  rw [last_tok, h]
  exact token_part _ _
omit hA in
theorem last_dgpre : W10 m ρ c (Proc.devRef .tc main_v19) = shapeCast S1024 (W9 m ρ c (Proc.devRef .tc main_v16_2) : FVec Ideal S1x1024 .f32) shapeCasts_S1x1024_S1024 := by
  unfold_abbrev_sides
  after_results
  rfl
theorem end_dgpre : W10 m ρ c (Proc.devRef .tc main_v19) = (lift1 (φ := .f32) (I.dgpre) : FVec Ideal S1024 .f32) := by
  have h : W9 m ρ c (Proc.devRef .tc main_v16_2) = argG I.dgpre :=
    (W9_of m ρ c main_v16_2 (by decide +kernel)).trans (after_dgpre I m ρ c hA)
  rw [last_dgpre, h]
  exact drop_row _ _
omit hA in
theorem last_dgmem : W10 m ρ c (Proc.devRef .tc main_v20) = shapeCast S1024 (W9 m ρ c (Proc.devRef .tc main_v15_1) : FVec Ideal S1x1024 .f32) shapeCasts_S1x1024_S1024 := by
  unfold_abbrev_sides
  after_results
  rfl
theorem end_dgmem : W10 m ρ c (Proc.devRef .tc main_v20) = (lift1 (φ := .f32) (I.dgmem) : FVec Ideal S1024 .f32) := by
  have h : W9 m ρ c (Proc.devRef .tc main_v15_1) = argG I.dgmem :=
    (W9_of m ρ c main_v15_1 (by decide +kernel)).trans ((W8_of m ρ c main_v15_1 (by decide +kernel)).trans (after_dgmem I m ρ c hA))
  rw [last_dgmem, h]
  exact drop_row _ _
omit hA in
theorem last_dgpost : W10 m ρ c (Proc.devRef .tc main_v21) = shapeCast S1024 (W9 m ρ c (Proc.devRef .tc main_v13_4) : FVec Ideal S1x1024 .f32) shapeCasts_S1x1024_S1024 := by
  unfold_abbrev_sides
  after_results
  rfl
theorem end_dgpost : W10 m ρ c (Proc.devRef .tc main_v21) = (lift1 (φ := .f32) (I.dgpost) : FVec Ideal S1024 .f32) := by
  have h : W9 m ρ c (Proc.devRef .tc main_v13_4) = argG I.dgpost :=
    (W9_of m ρ c main_v13_4 (by decide +kernel)).trans ((W8_of m ρ c main_v13_4 (by decide +kernel)).trans ((W7_of m ρ c main_v13_4 (by decide +kernel)).trans ((W6_of m ρ c main_v13_4 (by decide +kernel)).trans (after_dgpost I m ρ c hA))))
  rw [last_dgpost, h]
  exact drop_row _ _
omit hA in
theorem last_dwo : W10 m ρ c (Proc.devRef .tc main_v23)
    = shapeCast S768x1024 (transpose S768x4x256 [1, 0, 2] (W9 m ρ c (Proc.devRef .tc main_v14) : FVec Ideal S4x768x256 .f32)
        transposes_S4x768x256_S768x4x256_1_0_2) shapeCasts_S768x4x256_S768x1024 := by
  unfold_abbrev_sides
  after_results
  rfl
theorem end_dwo : W10 m ρ c (Proc.devRef .tc main_v23) = (lift2 (φ := .f32) (I.dwo) : FVec Ideal S768x1024 .f32) := by
  have h : W9 m ρ c (Proc.devRef .tc main_v14) = (lift3 (φ := .f32) fun s i j => I.dwo i (quarter s j) : FVec Ideal S4x768x256 .f32) :=
    (W9_of m ρ c main_v14 (by decide +kernel)).trans ((W8_of m ρ c main_v14 (by decide +kernel)).trans ((W7_of m ρ c main_v14 (by decide +kernel)).trans (after_dwo I m ρ c hA)))
  rw [last_dwo, h]
  exact join_out _ _ _

/-! ## The run -/

omit hA I c

local notation "𝕄" => MT nD τ sig Unit (Elt Ideal) ℕ (UR sig nD τ) ℕ

/-- Every run ends with each lasting buffer at the contents the program's stages leave in it. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => h)

/-- The contents of the ten results and of the arguments at the end of a run. -/
theorem run_values : θ_run defs (onTc (τ := τ) (main (F := Ideal))) ⟨m, fun _ => 0, ρ⟩ (fun r => ∀ c : Dev nD,
      r.2.mem ((c.tc : Thread nD τ).loc main_v12_0) = W10 m ρ c (Proc.devRef .tc main_v12_0)
      ∧ r.2.mem ((c.tc : Thread nD τ).loc main_v18) = W10 m ρ c (Proc.devRef .tc main_v18)
      ∧ r.2.mem ((c.tc : Thread nD τ).loc main_v16_0) = W10 m ρ c (Proc.devRef .tc main_v16_0)
      ∧ r.2.mem ((c.tc : Thread nD τ).loc main_v13_1) = W10 m ρ c (Proc.devRef .tc main_v13_1)
      ∧ r.2.mem ((c.tc : Thread nD τ).loc main_v19) = W10 m ρ c (Proc.devRef .tc main_v19)
      ∧ r.2.mem ((c.tc : Thread nD τ).loc main_v20) = W10 m ρ c (Proc.devRef .tc main_v20)
      ∧ r.2.mem ((c.tc : Thread nD τ).loc main_v21) = W10 m ρ c (Proc.devRef .tc main_v21)
      ∧ r.2.mem ((c.tc : Thread nD τ).loc main_v17) = W10 m ρ c (Proc.devRef .tc main_v17)
      ∧ r.2.mem ((c.tc : Thread nD τ).loc main_v15_0) = W10 m ρ c (Proc.devRef .tc main_v15_0)
      ∧ r.2.mem ((c.tc : Thread nD τ).loc main_v23) = W10 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v12_0 (by decide)),
      h c _ (mem_uc main_v18 (by decide)),
      h c _ (mem_uc main_v16_0 (by decide)),
      h c _ (mem_uc main_v13_1 (by decide)),
      h c _ (mem_uc main_v19 (by decide)),
      h c _ (mem_uc main_v20 (by decide)),
      h c _ (mem_uc main_v21 (by decide)),
      h c _ (mem_uc main_v17 (by decide)),
      h c _ (mem_uc main_v15_0 (by decide)),
      h c _ (mem_uc main_v23 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c)⟩) (run_all m ρ)

end Cert.MixPool
-- ==== Proof.PoolReferenceForward.lean ====
/- The reference of a pooling layer's mixing sub-layer on real numbers: each operation of the forward pass in turn. -/
module

public import proofs.«01_k».proof.Proof.PoolValues
public import proofs.«01_k».proof.Proof.MixHost
public import proofs.«01_k».proof.Proof.Gen.Reference3Ideal.Read

@[expose] public section

set_option maxRecDepth 16384

noncomputable section

namespace Cert.MixPool

open Idealize.ShloMosaic Cert.FfnBlock Cert.Mixing Cert.Reference3Ideal Cert.Reference3Ideal.Gen Cert.Reference3Ideal.Read

set_option backward.isDefEq.respectTransparency.types false

/-! ## The arguments -/

namespace Inputs

variable (I : Inputs)

abbrev h : FVec Ideal S8192x1024 .f32 := lift2 (φ := .f32) I.H
abbrev t : FVec Ideal S8192x512 .f32 := lift2 (φ := .f32) I.T
abbrev d : FVec Ideal S8192x1024 .f32 := lift2 (φ := .f32) I.D
abbrev dp : FVec Ideal S8192x512 .f32 := lift2 (φ := .f32) I.DP
abbrev p : FVec Ideal S256x1024 .f32 := lift2 (φ := .f32) I.M
abbrev g1 : FVec Ideal S1024 .f32 := lift1 (φ := .f32) I.g
abbrev g2 : FVec Ideal S1024 .f32 := lift1 (φ := .f32) I.gm
abbrev g3 : FVec Ideal S1024 .f32 := lift1 (φ := .f32) I.g'
abbrev w1 : FVec Ideal S1024x768 .f32 := lift2 (φ := .f32) I.Wi
abbrev w2 : FVec Ideal S1024x512 .f32 := lift2 (φ := .f32) I.Wkv
abbrev w3 : FVec Ideal S768x1024 .f32 := lift2 (φ := .f32) I.Wo

end Inputs

variable (I : Inputs)

/-! ## One operation after another -/

theorem at_v0 : val_main_v0 (F := Ideal) I.h =
    lift2 (φ := .f32) fun a b => I.H a b * I.H a b := by
  funext i
  rw [val_main_v0_apply]
  exact (EReal.coe_mul _ _).symm
theorem at_v1 : val_main_v1 (F := Ideal) I.h =
    lift1 (φ := .f32) fun a => ∑ k, I.H a k * I.H a k := by
  funext i
  rw [val_main_v1_apply, val_main_cst_apply, at_v0 I]
  exact host_sum _
theorem at_v4 : val_main_v4 (F := Ideal) I.h =
    lift2 (φ := .f32) fun a _ => (∑ k, I.H a k * I.H a k) / 1024 := by
  funext i
  rw [val_main_v4_apply, val_main_v2_apply, at_v1 I, val_main_v3_apply, val_main_cst_0_apply, word_width]
  exact host_div (by norm_num) _
theorem at_v6 : val_main_v6 (F := Ideal) I.h =
    lift2 (φ := .f32) fun a _ => ms (I.H a) := by
  funext i
  rw [val_main_v6_apply, at_v4 I, val_main_v5_apply, val_main_cst_1_apply, word_eps]
  exact (EReal.coe_add _ _).symm
theorem at_v7 : val_main_v7 (F := Ideal) I.h =
    lift2 (φ := .f32) fun a _ => rs (I.H a) := by
  funext i
  rw [val_main_v7_apply, at_v6 I]
  exact host_rsqrt (ms_pos _)
theorem at_v8 : val_main_v8 (F := Ideal) I.h =
    lift2 (φ := .f32) fun a _ => rs (I.H a) / ms (I.H a) := by
  funext i
  rw [val_main_v8_apply, at_v7 I, at_v6 I]
  exact host_div (ms_pos _).ne' _
theorem at_v10 : val_main_v10 (F := Ideal) I.h =
    lift2 (φ := .f32) fun a _ => (-1 / 2) * (rs (I.H a) / ms (I.H a)) := by
  funext i
  rw [val_main_v10_apply, val_main_v9_apply, val_main_cst_2_apply, word_neg_half, at_v8 I]
  exact (EReal.coe_mul _ _).symm
theorem at_v12 : val_main_v12 (F := Ideal) I.h =
    lift2 (φ := .f32) fun a b => hat (I.H a) b := by
  funext i
  rw [val_main_v12_apply, val_main_v11_apply, at_v7 I]
  exact (EReal.coe_mul _ _).symm
theorem at_v15 : val_main_v15 (F := Ideal) I.h I.g1 =
    lift2 (φ := .f32) fun a b => normed I.g (I.H a) b := by
  funext i
  rw [val_main_v15_apply, at_v12 I, val_main_v14_apply, val_main_v13_apply]
  exact (EReal.coe_mul _ _).symm
theorem at_v16 : val_main_v16 (F := Ideal) I.p =
    lift2 (φ := .f32) fun a b => I.M a b * I.M a b := by
  funext i
  rw [val_main_v16_apply]
  exact (EReal.coe_mul _ _).symm
theorem at_v17 : val_main_v17 (F := Ideal) I.p =
    lift1 (φ := .f32) fun a => ∑ k, I.M a k * I.M a k := by
  funext i
  rw [val_main_v17_apply, val_main_cst_3_apply, at_v16 I]
  exact host_sum _
theorem at_v20 : val_main_v20 (F := Ideal) I.p =
    lift2 (φ := .f32) fun a _ => (∑ k, I.M a k * I.M a k) / 1024 := by
  funext i
  rw [val_main_v20_apply, val_main_v18_apply, at_v17 I, val_main_v19_apply, val_main_cst_4_apply, word_width]
  exact host_div (by norm_num) _
theorem at_v22 : val_main_v22 (F := Ideal) I.p =
    lift2 (φ := .f32) fun a _ => ms (I.M a) := by
  funext i
  rw [val_main_v22_apply, at_v20 I, val_main_v21_apply, val_main_cst_5_apply, word_eps]
  exact (EReal.coe_add _ _).symm
theorem at_v23 : val_main_v23 (F := Ideal) I.p =
    lift2 (φ := .f32) fun a _ => rs (I.M a) := by
  funext i
  rw [val_main_v23_apply, at_v22 I]
  exact host_rsqrt (ms_pos _)
theorem at_v25 : val_main_v25 (F := Ideal) I.p =
    lift2 (φ := .f32) fun a b => hat (I.M a) b := by
  funext i
  rw [val_main_v25_apply, val_main_v24_apply, at_v23 I]
  exact (EReal.coe_mul _ _).symm
theorem at_v28 : val_main_v28 (F := Ideal) I.p I.g2 =
    lift2 (φ := .f32) fun a b => normed I.gm (I.M a) b := by
  funext i
  rw [val_main_v28_apply, at_v25 I, val_main_v27_apply, val_main_v26_apply]
  exact (EReal.coe_mul _ _).symm
theorem at_v29 : val_main_v29 (F := Ideal) I.h I.g1 I.w1 =
    lift2 (φ := .f32) fun a b => I.proj a b := by
  funext i
  rw [val_main_v29_apply, at_v15 I]
  exact host_dot _ _
theorem at_v30 : val_main_v30 (F := Ideal) I.h I.g1 I.w1 =
    lift2 (φ := .f32) fun a b => query (I.proj a) b := by
  funext i
  rw [val_main_v30_apply, at_v29 I]
  rfl
theorem at_v31 : val_main_v31 (F := Ideal) I.p I.g2 I.w2 =
    lift2 (φ := .f32) fun a b => I.mem a b := by
  funext i
  rw [val_main_v31_apply, at_v28 I]
  exact host_dot _ _
theorem at_v32 : val_main_v32 (F := Ideal) I.p I.g2 I.w2 =
    lift2 (φ := .f32) fun a b => I.mem a (keyCol b) := by
  funext i
  rw [val_main_v32_apply, at_v31 I]
  rfl
theorem at_v33 : val_main_v33 (F := Ideal) I.p I.g2 I.w2 =
    lift3 (φ := .f32) fun a b c => I.mem a (keyCol (hd b c)) := by
  funext i
  unfold val_main_v33
  rw [at_v32 I]
  exact congrFun (heads_mem _ _) i
theorem at_v34 : val_main_v34 (F := Ideal) I.p I.g2 I.w2 =
    lift2 (φ := .f32) fun a b => I.mem a (valCol b) := by
  funext i
  rw [val_main_v34_apply, at_v31 I]
  rfl
theorem at_v35 : val_main_v35 (F := Ideal) I.p I.g2 I.w2 =
    lift3 (φ := .f32) fun a b c => I.mem a (valCol (hd b c)) := by
  funext i
  unfold val_main_v35
  rw [at_v34 I]
  exact congrFun (heads_mem _ _) i
theorem at_v36 : val_main_v36 (F := Ideal) I.h I.g1 I.w1 =
    lift3 (φ := .f32) fun a b c => query (I.proj a) (hd b c) := by
  funext i
  unfold val_main_v36
  rw [at_v30 I]
  exact congrFun (heads_rows _ _) i
theorem at_v37 : val_main_v37 (F := Ideal) I.h I.p I.g1 I.g2 I.w1 I.w2 =
    lift3 (φ := .f32) fun a b c => ∑ k, query (I.proj b) (hd a k) * I.mem c (keyCol (hd a k)) := by
  funext i
  rw [val_main_v37_apply, at_v36 I, at_v33 I]
  exact host_dot _ _
theorem at_v39 : val_main_v39 (F := Ideal) I.h I.p I.g1 I.g2 I.w1 I.w2 =
    lift3 (φ := .f32) fun a b c => score I.mem (query (I.proj b)) a c := by
  funext i
  rw [val_main_v39_apply, at_v37 I, val_main_v38_apply, val_main_cst_6_apply, word_eighth]
  exact (EReal.coe_mul _ _).symm
theorem at_v40 : val_main_v40 (F := Ideal) I.h I.p I.g1 I.g2 I.w1 I.w2 =
    lift2 (φ := .f32) fun a b => top (score I.mem (query (I.proj b)) a) := by
  funext i
  unfold val_main_v40
  rw [at_v39 I]
  exact congrFun (max_last _ _ _) i
theorem at_v47 : val_main_v47 (F := Ideal) I.h I.p I.g1 I.g2 I.w1 I.w2 =
    lift2 (φ := .f32) fun a b => top (score I.mem (query (I.proj b)) a) := by
  funext i
  rw [val_main_v47_apply, val_main_v46_apply, val_main_cst_9_apply, at_v40 I]
  exact max_bottom _
theorem at_v59 : val_main_v59 (F := Ideal) I.h I.p I.g1 I.g2 I.w1 I.w2 =
    lift3 (φ := .f32) fun a b c => score I.mem (query (I.proj b)) a c - top (score I.mem (query (I.proj b)) a) := by
  funext i
  rw [val_main_v59_apply, at_v39 I, val_main_v58_apply, val_main_v57_apply, at_v47 I]
  exact (EReal.coe_sub _ _).symm
theorem at_v60 : val_main_v60 (F := Ideal) I.h I.p I.g1 I.g2 I.w1 I.w2 =
    lift3 (φ := .f32) fun a b c => Real.exp (score I.mem (query (I.proj b)) a c - top (score I.mem (query (I.proj b)) a)) := by
  funext i
  rw [val_main_v60_apply, at_v59 I]
  rfl
theorem at_v61 : val_main_v61 (F := Ideal) I.h I.p I.g1 I.g2 I.w1 I.w2 =
    lift2 (φ := .f32) fun a b => total (score I.mem (query (I.proj b)) a) := by
  funext i
  rw [val_main_v61_apply, val_main_cst_15_apply, at_v60 I]
  exact host_sum _
theorem at_v64 : val_main_v64 (F := Ideal) I.h I.p I.g1 I.g2 I.w1 I.w2 =
    lift3 (φ := .f32) fun a b c => prob I.mem (query (I.proj b)) a c := by
  funext i
  rw [val_main_v64_apply, at_v60 I, val_main_v63_apply, val_main_v62_apply, at_v61 I]
  exact host_div (total_ne _) _
theorem at_v65 : val_main_v65 (F := Ideal) I.h I.p I.g1 I.g2 I.w1 I.w2 =
    lift3 (φ := .f32) fun a b _ => total (score I.mem (query (I.proj b)) a) * total (score I.mem (query (I.proj b)) a) := by
  funext i
  rw [val_main_v65_apply, val_main_v62_apply, at_v61 I]
  exact (EReal.coe_mul _ _).symm
theorem at_v67 : val_main_v67 (F := Ideal) I.h I.p I.g1 I.g2 I.w1 I.w2 =
    lift3 (φ := .f32) fun a b _ => 1 / (total (score I.mem (query (I.proj b)) a) * total (score I.mem (query (I.proj b)) a)) := by
  funext i
  rw [val_main_v67_apply, val_main_v66_apply, val_main_cst_16_apply, word_one, at_v65 I]
  exact host_div (mul_ne_zero (total_ne _) (total_ne _)) _
theorem at_v68 : val_main_v68 (F := Ideal) I.h I.p I.g1 I.g2 I.w1 I.w2 =
    lift3 (φ := .f32) fun a b c => ∑ k, I.mem k (valCol (hd a b)) * prob I.mem (query (I.proj c)) a k := by
  funext i
  rw [val_main_v68_apply, at_v35 I, at_v64 I]
  exact host_dot _ _
theorem at_v69 : val_main_v69 (F := Ideal) I.h I.p I.g1 I.g2 I.w1 I.w2 =
    lift3 (φ := .f32) fun a b c => ∑ k, I.mem k (valCol (hd b c)) * prob I.mem (query (I.proj a)) b k := by
  funext i
  rw [val_main_v69_apply, at_v68 I]
  rfl
theorem at_v70 : val_main_v70 (F := Ideal) I.h I.p I.g1 I.g2 I.w1 I.w2 =
    lift2 (φ := .f32) fun a b => attend I.mem (query (I.proj a)) b := by
  funext i
  unfold val_main_v70
  rw [at_v69 I]
  exact (congrFun (flat_rows _ _) i).trans (congrArg Real.toEReal (attend_eq _ _ _))
theorem at_v71 : val_main_v71 (F := Ideal) I.h I.t I.p I.g1 I.g2 I.w1 I.w2 =
    lift2 (φ := .f32) fun a b => I.cat a b := by
  funext i
  unfold val_main_v71
  exact congrFun (join_rows_of (at_v70 I) _) i
theorem at_v72 : val_main_v72 (F := Ideal) I.h I.t I.p I.g1 I.g2 I.w1 I.w2 I.w3 =
    lift2 (φ := .f32) fun a b => I.mix a b := by
  funext i
  rw [val_main_v72_apply, at_v71 I]
  exact host_dot _ _
theorem at_v73 : val_main_v73 (F := Ideal) I.h I.t I.p I.g1 I.g2 I.w1 I.w2 I.w3 =
    lift2 (φ := .f32) fun a b => I.mix a b * I.mix a b := by
  funext i
  rw [val_main_v73_apply, at_v72 I]
  exact (EReal.coe_mul _ _).symm
theorem at_v74 : val_main_v74 (F := Ideal) I.h I.t I.p I.g1 I.g2 I.w1 I.w2 I.w3 =
    lift1 (φ := .f32) fun a => ∑ k, I.mix a k * I.mix a k := by
  funext i
  rw [val_main_v74_apply, val_main_cst_17_apply, at_v73 I]
  exact host_sum _
theorem at_v77 : val_main_v77 (F := Ideal) I.h I.t I.p I.g1 I.g2 I.w1 I.w2 I.w3 =
    lift2 (φ := .f32) fun a _ => (∑ k, I.mix a k * I.mix a k) / 1024 := by
  funext i
  rw [val_main_v77_apply, val_main_v75_apply, at_v74 I, val_main_v76_apply, val_main_cst_18_apply, word_width]
  exact host_div (by norm_num) _
theorem at_v79 : val_main_v79 (F := Ideal) I.h I.t I.p I.g1 I.g2 I.w1 I.w2 I.w3 =
    lift2 (φ := .f32) fun a _ => ms (I.mix a) := by
  funext i
  rw [val_main_v79_apply, at_v77 I, val_main_v78_apply, val_main_cst_19_apply, word_eps]
  exact (EReal.coe_add _ _).symm
theorem at_v80 : val_main_v80 (F := Ideal) I.h I.t I.p I.g1 I.g2 I.w1 I.w2 I.w3 =
    lift2 (φ := .f32) fun a _ => rs (I.mix a) := by
  funext i
  rw [val_main_v80_apply, at_v79 I]
  exact host_rsqrt (ms_pos _)
theorem at_v81 : val_main_v81 (F := Ideal) I.h I.t I.p I.g1 I.g2 I.w1 I.w2 I.w3 =
    lift2 (φ := .f32) fun a _ => rs (I.mix a) / ms (I.mix a) := by
  funext i
  rw [val_main_v81_apply, at_v80 I, at_v79 I]
  exact host_div (ms_pos _).ne' _
theorem at_v83 : val_main_v83 (F := Ideal) I.h I.t I.p I.g1 I.g2 I.w1 I.w2 I.w3 =
    lift2 (φ := .f32) fun a _ => (-1 / 2) * (rs (I.mix a) / ms (I.mix a)) := by
  funext i
  rw [val_main_v83_apply, val_main_v82_apply, val_main_cst_20_apply, word_neg_half, at_v81 I]
  exact (EReal.coe_mul _ _).symm
theorem at_v85 : val_main_v85 (F := Ideal) I.h I.t I.p I.g1 I.g2 I.w1 I.w2 I.w3 =
    lift2 (φ := .f32) fun a b => hat (I.mix a) b := by
  funext i
  rw [val_main_v85_apply, at_v72 I, val_main_v84_apply, at_v80 I]
  exact (EReal.coe_mul _ _).symm
theorem at_v88 : val_main_v88 (F := Ideal) I.h I.t I.p I.g1 I.g2 I.g3 I.w1 I.w2 I.w3 =
    lift2 (φ := .f32) fun a b => normed I.g' (I.mix a) b := by
  funext i
  rw [val_main_v88_apply, at_v85 I, val_main_v87_apply, val_main_v86_apply]
  exact (EReal.coe_mul _ _).symm
theorem at_v89 : val_main_v89 (F := Ideal) I.h I.t I.p I.g1 I.g2 I.g3 I.w1 I.w2 I.w3 =
    lift2 (φ := .f32) fun a b => I.out a b := by
  funext i
  rw [val_main_v89_apply, at_v88 I]
  exact (EReal.coe_add _ _).symm
theorem at_v90 : val_main_v90 (F := Ideal) I.h I.g1 I.w1 =
    lift2 (φ := .f32) fun a b => forToken (I.proj a) b := by
  funext i
  rw [val_main_v90_apply, at_v29 I]
  rfl

end Cert.MixPool
-- ==== Proof.PoolReferenceBackward.lean ====
/- The reference of a pooling layer's mixing sub-layer on real numbers: each operation of the backward pass in turn. -/
module

public import proofs.«01_k».proof.Proof.PoolReferenceForward

@[expose] public section

set_option maxRecDepth 16384

noncomputable section

namespace Cert.MixPool

open Idealize.ShloMosaic Cert.FfnBlock Cert.Mixing Cert.Reference3Ideal Cert.Reference3Ideal.Gen Cert.Reference3Ideal.Read

set_option backward.isDefEq.respectTransparency.types false

variable (I : Inputs)

/-! ## One operation after another -/

theorem at_v91 : val_main_v91 (F := Ideal) I.dp =
    lift2 (φ := .f32) fun a b => lowPart (I.DP a) b := by
  funext i
  unfold val_main_v91
  exact congrFun (pad_low_512_768 _ _ _) i
theorem at_v92 : val_main_v92 (F := Ideal) I.d =
    lift2 (φ := .f32) fun a b => I.D a b := by
  funext i
  unfold val_main_v92
  exact congrFun (cast_same _ _) i
theorem at_v93 : val_main_v93 (F := Ideal) I.h I.t I.d I.p I.g1 I.g2 I.w1 I.w2 I.w3 =
    lift2 (φ := .f32) fun a b => hat (I.mix a) b * I.D a b := by
  funext i
  rw [val_main_v93_apply, at_v85 I, at_v92 I]
  exact (EReal.coe_mul _ _).symm
theorem at_v94 : val_main_v94 (F := Ideal) I.h I.t I.d I.p I.g1 I.g2 I.w1 I.w2 I.w3 =
    lift1 (φ := .f32) fun a => I.dgpost a := by
  funext i
  rw [val_main_v94_apply, val_main_cst_22_apply, at_v93 I]
  exact (host_sum _).trans (congrArg Real.toEReal (Finset.sum_congr rfl fun _ _ => mul_comm _ _))
theorem at_v95 : val_main_v95 (F := Ideal) I.h I.t I.d I.p I.g1 I.g2 I.w1 I.w2 I.w3 =
    lift2 (φ := .f32) fun _ b => I.dgpost b := by
  funext i
  unfold val_main_v95
  rw [at_v94 I]
  exact congrFun (cast_row _ _) i
theorem at_v97 : val_main_v97 (F := Ideal) I.d I.g3 =
    lift2 (φ := .f32) fun a b => I.D a b * I.g' b := by
  funext i
  rw [val_main_v97_apply, at_v92 I, val_main_v96_apply, val_main_v86_apply]
  exact (EReal.coe_mul _ _).symm
theorem at_v98 : val_main_v98 (F := Ideal) I.h I.t I.d I.p I.g1 I.g2 I.w1 I.w2 I.w3 =
    lift1 (φ := .f32) fun a => I.dgpost a := by
  funext i
  rw [val_main_v98_apply, val_main_cst_23_apply, at_v95 I]
  exact host_sum_one _
theorem at_v99 : val_main_v99 (F := Ideal) I.h I.t I.d I.p I.g1 I.g2 I.g3 I.w1 I.w2 I.w3 =
    lift2 (φ := .f32) fun a b => I.mix a b * (I.D a b * I.g' b) := by
  funext i
  rw [val_main_v99_apply, at_v72 I, at_v97 I]
  exact (EReal.coe_mul _ _).symm
theorem at_v100 : val_main_v100 (F := Ideal) I.h I.t I.d I.p I.g1 I.g2 I.g3 I.w1 I.w2 I.w3 =
    lift1 (φ := .f32) fun a => ∑ k, I.mix a k * (I.D a k * I.g' k) := by
  funext i
  rw [val_main_v100_apply, val_main_cst_24_apply, at_v99 I]
  exact host_sum _
theorem at_v101 : val_main_v101 (F := Ideal) I.h I.t I.d I.p I.g1 I.g2 I.g3 I.w1 I.w2 I.w3 =
    lift2 (φ := .f32) fun a _ => ∑ k, I.mix a k * (I.D a k * I.g' k) := by
  funext i
  unfold val_main_v101
  rw [at_v100 I]
  exact congrFun (cast_col _ _) i
theorem at_v103 : val_main_v103 (F := Ideal) I.h I.t I.d I.p I.g1 I.g2 I.g3 I.w1 I.w2 I.w3 =
    lift2 (φ := .f32) fun a b => (I.D a b * I.g' b) * rs (I.mix a) := by
  funext i
  rw [val_main_v103_apply, at_v97 I, val_main_v102_apply, at_v80 I]
  exact (EReal.coe_mul _ _).symm
theorem at_v104 : val_main_v104 (F := Ideal) I.h I.t I.d I.p I.g1 I.g2 I.g3 I.w1 I.w2 I.w3 =
    lift2 (φ := .f32) fun a _ => (∑ k, I.mix a k * (I.D a k * I.g' k)) * ((-1 / 2) * (rs (I.mix a) / ms (I.mix a))) := by
  funext i
  rw [val_main_v104_apply, at_v101 I, at_v83 I]
  exact (EReal.coe_mul _ _).symm
theorem at_v106 : val_main_v106 (F := Ideal) I.h I.t I.d I.p I.g1 I.g2 I.g3 I.w1 I.w2 I.w3 =
    lift2 (φ := .f32) fun a _ => sizeBack (I.mix a) (fun j => I.D a j * I.g' j) := by
  funext i
  rw [val_main_v106_apply, at_v104 I, val_main_v105_apply, val_main_cst_25_apply, word_width]
  exact host_div (by norm_num) _
theorem at_v107 : val_main_v107 (F := Ideal) I.h I.t I.d I.p I.g1 I.g2 I.g3 I.w1 I.w2 I.w3 =
    lift1 (φ := .f32) fun a => sizeBack (I.mix a) (fun j => I.D a j * I.g' j) := by
  funext i
  rw [val_main_v107_apply, val_main_cst_26_apply, at_v106 I]
  exact host_sum_one _
theorem at_v109 : val_main_v109 (F := Ideal) I.h I.t I.d I.p I.g1 I.g2 I.g3 I.w1 I.w2 I.w3 =
    lift2 (φ := .f32) fun a b => I.mix a b * sizeBack (I.mix a) (fun j => I.D a j * I.g' j) := by
  funext i
  rw [val_main_v109_apply, at_v72 I, val_main_v108_apply, at_v107 I]
  exact (EReal.coe_mul _ _).symm
theorem at_v110 : val_main_v110 (F := Ideal) I.h I.t I.d I.p I.g1 I.g2 I.g3 I.w1 I.w2 I.w3 =
    lift2 (φ := .f32) fun a b => (I.D a b * I.g' b) * rs (I.mix a) + (I.mix a b * sizeBack (I.mix a) (fun j => I.D a j * I.g' j)) := by
  funext i
  rw [val_main_v110_apply, at_v103 I, at_v109 I]
  exact (EReal.coe_add _ _).symm
theorem at_v111 : val_main_v111 (F := Ideal) I.h I.t I.d I.p I.g1 I.g2 I.g3 I.w1 I.w2 I.w3 =
    lift2 (φ := .f32) fun a b => sizeBack (I.mix a) (fun j => I.D a j * I.g' j) * I.mix a b := by
  funext i
  rw [val_main_v111_apply, val_main_v108_apply, at_v107 I, at_v72 I]
  exact (EReal.coe_mul _ _).symm
theorem at_v112 : val_main_v112 (F := Ideal) I.h I.t I.d I.p I.g1 I.g2 I.g3 I.w1 I.w2 I.w3 =
    lift2 (φ := .f32) fun a b => I.dmix a b := by
  funext i
  rw [val_main_v112_apply, at_v110 I, at_v111 I]
  exact ((EReal.coe_add _ _).symm).trans (congrArg Real.toEReal (rms_back (fun j => I.D (i 0) j * I.g' j) _ _))
theorem at_v113 : val_main_v113 (F := Ideal) I.h I.t I.d I.p I.g1 I.g2 I.g3 I.w1 I.w2 I.w3 =
    lift2 (φ := .f32) fun a b => ∑ k, I.dmix k a * I.cat k b := by
  funext i
  rw [val_main_v113_apply, at_v112 I, at_v71 I]
  exact host_dot _ _
theorem at_v114 : val_main_v114 (F := Ideal) I.h I.t I.d I.p I.g1 I.g2 I.g3 I.w1 I.w2 I.w3 =
    lift2 (φ := .f32) fun a b => I.dwo a b := by
  funext i
  rw [val_main_v114_apply, at_v113 I]
  exact congrArg Real.toEReal (Finset.sum_congr rfl fun _ _ => mul_comm _ _)
theorem at_v115 : val_main_v115 (F := Ideal) I.h I.t I.d I.p I.g1 I.g2 I.g3 I.w1 I.w2 I.w3 =
    lift2 (φ := .f32) fun a b => timesT I.Wo (I.dmix a) b := by
  funext i
  rw [val_main_v115_apply, at_v112 I]
  exact host_dot _ _
theorem at_v116 : val_main_v116 (F := Ideal) I.h I.t I.d I.p I.g1 I.g2 I.g3 I.w1 I.w2 I.w3 =
    lift2 (φ := .f32) fun a b => I.dtok a b := by
  funext i
  rw [val_main_v116_apply, at_v115 I]
  rfl
theorem at_v117 : val_main_v117 (F := Ideal) I.h I.t I.d I.p I.g1 I.g2 I.g3 I.w1 I.w2 I.w3 =
    lift2 (φ := .f32) fun a b => attBack I.Wo (I.dmix a) b := by
  funext i
  rw [val_main_v117_apply, at_v115 I]
  rfl
theorem at_v118 : val_main_v118 (F := Ideal) I.h I.t I.d I.p I.g1 I.g2 I.g3 I.w1 I.w2 I.w3 =
    lift3 (φ := .f32) fun a b c => attBack I.Wo (I.dmix a) (hd b c) := by
  funext i
  unfold val_main_v118
  rw [at_v117 I]
  exact congrFun (heads_rows _ _) i
theorem at_v119 : val_main_v119 (F := Ideal) I.h I.t I.d I.p I.g1 I.g2 I.g3 I.w1 I.w2 I.w3 =
    lift3 (φ := .f32) fun a b c => attBack I.Wo (I.dmix c) (hd a b) := by
  funext i
  rw [val_main_v119_apply, at_v118 I]
  rfl
theorem at_v120 : val_main_v120 (F := Ideal) I.h I.t I.d I.p I.g1 I.g2 I.g3 I.w1 I.w2 I.w3 =
    lift3 (φ := .f32) fun a b c => probBack I.mem (attBack I.Wo (I.dmix b)) a c := by
  funext i
  rw [val_main_v120_apply, at_v119 I, at_v35 I]
  exact host_dot _ _
theorem at_v121 : val_main_v121 (F := Ideal) I.h I.t I.d I.p I.g1 I.g2 I.g3 I.w1 I.w2 I.w3 =
    lift3 (φ := .f32) fun a b c => ∑ k, attBack I.Wo (I.dmix k) (hd a b) * prob I.mem (query (I.proj k)) a c := by
  funext i
  rw [val_main_v121_apply, at_v119 I, at_v64 I]
  exact host_dot _ _
theorem at_v122 : val_main_v122 (F := Ideal) I.h I.t I.d I.p I.g1 I.g2 I.g3 I.w1 I.w2 I.w3 =
    lift3 (φ := .f32) fun a b c => ∑ k, attBack I.Wo (I.dmix k) (hd b c) * prob I.mem (query (I.proj k)) b a := by
  funext i
  rw [val_main_v122_apply, at_v121 I]
  rfl
theorem at_v124 : val_main_v124 (F := Ideal) I.h I.t I.d I.p I.g1 I.g2 I.g3 I.w1 I.w2 I.w3 =
    lift3 (φ := .f32) fun a b c => probBack I.mem (attBack I.Wo (I.dmix b)) a c * (1 / (total (score I.mem (query (I.proj b)) a) * total (score I.mem (query (I.proj b)) a))) := by
  funext i
  rw [val_main_v124_apply, at_v120 I, val_main_v123_apply, at_v67 I]
  exact (EReal.coe_mul _ _).symm
theorem at_v125 : val_main_v125 (F := Ideal) I.h I.t I.d I.p I.g1 I.g2 I.g3 I.w1 I.w2 I.w3 =
    lift3 (φ := .f32) fun a b c => (probBack I.mem (attBack I.Wo (I.dmix b)) a c * (1 / (total (score I.mem (query (I.proj b)) a) * total (score I.mem (query (I.proj b)) a)))) * Real.exp (score I.mem (query (I.proj b)) a c - top (score I.mem (query (I.proj b)) a)) := by
  funext i
  rw [val_main_v125_apply, at_v124 I, at_v60 I]
  exact (EReal.coe_mul _ _).symm
theorem at_v126 : val_main_v126 (F := Ideal) I.h I.t I.d I.p I.g1 I.g2 I.g3 I.w1 I.w2 I.w3 =
    lift2 (φ := .f32) fun a b => ∑ k, (probBack I.mem (attBack I.Wo (I.dmix b)) a k * (1 / (total (score I.mem (query (I.proj b)) a) * total (score I.mem (query (I.proj b)) a)))) * Real.exp (score I.mem (query (I.proj b)) a k - top (score I.mem (query (I.proj b)) a)) := by
  funext i
  rw [val_main_v126_apply, val_main_cst_27_apply, at_v125 I]
  exact host_sum _
theorem at_v127 : val_main_v127 (F := Ideal) I.h I.t I.d I.p I.g1 I.g2 I.g3 I.w1 I.w2 I.w3 =
    lift3 (φ := .f32) fun a b _ => ∑ k, (probBack I.mem (attBack I.Wo (I.dmix b)) a k * (1 / (total (score I.mem (query (I.proj b)) a) * total (score I.mem (query (I.proj b)) a)))) * Real.exp (score I.mem (query (I.proj b)) a k - top (score I.mem (query (I.proj b)) a)) := by
  funext i
  unfold val_main_v127
  rw [at_v126 I]
  exact congrFun (with_last _ _) i
theorem at_v128 : val_main_v128 (F := Ideal) I.h I.t I.d I.p I.g1 I.g2 I.g3 I.w1 I.w2 I.w3 =
    lift3 (φ := .f32) fun a b _ => -(∑ k, (probBack I.mem (attBack I.Wo (I.dmix b)) a k * (1 / (total (score I.mem (query (I.proj b)) a) * total (score I.mem (query (I.proj b)) a)))) * Real.exp (score I.mem (query (I.proj b)) a k - top (score I.mem (query (I.proj b)) a))) := by
  funext i
  rw [val_main_v128_apply, at_v127 I]
  exact (EReal.coe_neg _).symm
theorem at_v130 : val_main_v130 (F := Ideal) I.h I.t I.d I.p I.g1 I.g2 I.g3 I.w1 I.w2 I.w3 =
    lift3 (φ := .f32) fun a b c => probBack I.mem (attBack I.Wo (I.dmix b)) a c / total (score I.mem (query (I.proj b)) a) := by
  funext i
  rw [val_main_v130_apply, at_v120 I, val_main_v129_apply, val_main_v62_apply, at_v61 I]
  exact host_div (total_ne _) _
theorem at_v131 : val_main_v131 (F := Ideal) I.h I.t I.d I.p I.g1 I.g2 I.g3 I.w1 I.w2 I.w3 =
    lift2 (φ := .f32) fun a b => -(∑ k, (probBack I.mem (attBack I.Wo (I.dmix b)) a k * (1 / (total (score I.mem (query (I.proj b)) a) * total (score I.mem (query (I.proj b)) a)))) * Real.exp (score I.mem (query (I.proj b)) a k - top (score I.mem (query (I.proj b)) a))) := by
  funext i
  rw [val_main_v131_apply, val_main_cst_28_apply, at_v128 I]
  exact host_sum_one _
theorem at_v133 : val_main_v133 (F := Ideal) I.h I.t I.d I.p I.g1 I.g2 I.g3 I.w1 I.w2 I.w3 =
    lift3 (φ := .f32) fun a b c => probBack I.mem (attBack I.Wo (I.dmix b)) a c / total (score I.mem (query (I.proj b)) a) + (-(∑ k, (probBack I.mem (attBack I.Wo (I.dmix b)) a k * (1 / (total (score I.mem (query (I.proj b)) a) * total (score I.mem (query (I.proj b)) a)))) * Real.exp (score I.mem (query (I.proj b)) a k - top (score I.mem (query (I.proj b)) a)))) := by
  funext i
  rw [val_main_v133_apply, at_v130 I, val_main_v132_apply, at_v131 I]
  exact (EReal.coe_add _ _).symm
theorem at_v134 : val_main_v134 (F := Ideal) I.h I.t I.d I.p I.g1 I.g2 I.g3 I.w1 I.w2 I.w3 =
    lift3 (φ := .f32) fun a b c => softBack (prob I.mem (query (I.proj b)) a) (probBack I.mem (attBack I.Wo (I.dmix b)) a) c := by
  funext i
  rw [val_main_v134_apply, at_v133 I, at_v60 I]
  exact ((EReal.coe_mul _ _).symm).trans (congrArg Real.toEReal (soft_back (score I.mem (query (I.proj (i 1))) (i 0)) _ _))
theorem at_v136 : val_main_v136 (F := Ideal) I.h I.t I.d I.p I.g1 I.g2 I.g3 I.w1 I.w2 I.w3 =
    lift3 (φ := .f32) fun a b c => scoreBack I.mem (query (I.proj b)) (attBack I.Wo (I.dmix b)) a c := by
  funext i
  rw [val_main_v136_apply, at_v134 I, val_main_v135_apply, val_main_cst_29_apply, word_eighth]
  exact (EReal.coe_mul _ _).symm
theorem at_v137 : val_main_v137 (F := Ideal) I.h I.t I.d I.p I.g1 I.g2 I.g3 I.w1 I.w2 I.w3 =
    lift3 (φ := .f32) fun a b c => ∑ k, scoreBack I.mem (query (I.proj k)) (attBack I.Wo (I.dmix k)) a b * query (I.proj k) (hd a c) := by
  funext i
  rw [val_main_v137_apply, at_v136 I, at_v36 I]
  exact host_dot _ _
theorem at_v138 : val_main_v138 (F := Ideal) I.h I.t I.d I.p I.g1 I.g2 I.g3 I.w1 I.w2 I.w3 =
    lift3 (φ := .f32) fun a b c => ∑ k, scoreBack I.mem (query (I.proj k)) (attBack I.Wo (I.dmix k)) b a * query (I.proj k) (hd b c) := by
  funext i
  rw [val_main_v138_apply, at_v137 I]
  rfl
theorem at_v139 : val_main_v139 (F := Ideal) I.h I.t I.d I.p I.g1 I.g2 I.g3 I.w1 I.w2 I.w3 =
    lift3 (φ := .f32) fun a b c => ∑ k, scoreBack I.mem (query (I.proj b)) (attBack I.Wo (I.dmix b)) a k * I.mem k (keyCol (hd a c)) := by
  funext i
  rw [val_main_v139_apply, at_v136 I, at_v33 I]
  exact host_dot _ _
theorem at_v140 : val_main_v140 (F := Ideal) I.h I.t I.d I.p I.g1 I.g2 I.g3 I.w1 I.w2 I.w3 =
    lift3 (φ := .f32) fun a b c => ∑ k, scoreBack I.mem (query (I.proj a)) (attBack I.Wo (I.dmix a)) b k * I.mem k (keyCol (hd b c)) := by
  funext i
  rw [val_main_v140_apply, at_v139 I]
  rfl
theorem at_v141 : val_main_v141 (F := Ideal) I.h I.t I.d I.p I.g1 I.g2 I.g3 I.w1 I.w2 I.w3 =
    lift2 (φ := .f32) fun a b => I.dquery a b := by
  funext i
  unfold val_main_v141
  rw [at_v140 I]
  exact (congrFun (flat_rows _ _) i).trans (congrArg Real.toEReal (query_eq _ _ _ _))
theorem at_v142 : val_main_v142 (F := Ideal) I.h I.t I.d I.p I.g1 I.g2 I.g3 I.w1 I.w2 I.w3 =
    lift2 (φ := .f32) fun a b => ∑ r, attBack I.Wo (I.dmix r) b * prob I.mem (query (I.proj r)) (headOf b) a := by
  funext i
  unfold val_main_v142
  rw [at_v122 I]
  exact (congrFun (flat_mem _ _) i).trans (congrArg Real.toEReal (congrArg (fun t => ∑ r, attBack I.Wo (I.dmix r) t * prob I.mem (query (I.proj r)) (headOf (i 1)) (i 0)) (hd_headOf (i 1))))
theorem at_v143 : val_main_v143 (F := Ideal) I.h I.t I.d I.p I.g1 I.g2 I.g3 I.w1 I.w2 I.w3 =
    lift2 (φ := .f32) fun a b => highPart 256 (fun j => ∑ r, attBack I.Wo (I.dmix r) j * prob I.mem (query (I.proj r)) (headOf j) a) b := by
  funext i
  unfold val_main_v143
  rw [at_v142 I]
  exact congrFun (pad_high_256_512 _ _ _) i
theorem at_v144 : val_main_v144 (F := Ideal) I.h I.t I.d I.p I.g1 I.g2 I.g3 I.w1 I.w2 I.w3 =
    lift2 (φ := .f32) fun a b => ∑ r, scoreBack I.mem (query (I.proj r)) (attBack I.Wo (I.dmix r)) (headOf b) a * query (I.proj r) b := by
  funext i
  unfold val_main_v144
  rw [at_v138 I]
  exact (congrFun (flat_mem _ _) i).trans (congrArg Real.toEReal (congrArg (fun t => ∑ r, scoreBack I.mem (query (I.proj r)) (attBack I.Wo (I.dmix r)) (headOf (i 1)) (i 0) * query (I.proj r) t) (hd_headOf (i 1))))
theorem at_v145 : val_main_v145 (F := Ideal) I.h I.t I.d I.p I.g1 I.g2 I.g3 I.w1 I.w2 I.w3 =
    lift2 (φ := .f32) fun a b => lowPart (fun j => ∑ r, scoreBack I.mem (query (I.proj r)) (attBack I.Wo (I.dmix r)) (headOf j) a * query (I.proj r) j) b := by
  funext i
  unfold val_main_v145
  rw [at_v144 I]
  exact congrFun (pad_low_256_512 _ _ _) i
theorem at_v146 : val_main_v146 (F := Ideal) I.h I.t I.d I.p I.g1 I.g2 I.g3 I.w1 I.w2 I.w3 =
    lift2 (φ := .f32) fun a b => I.dmem a b := by
  funext i
  rw [val_main_v146_apply, at_v143 I, at_v145 I]
  exact ((EReal.coe_add _ _).symm).trans (congrArg Real.toEReal (mem_back _ _ _ _ _))
theorem at_v147 : val_main_v147 (F := Ideal) I.h I.t I.d I.p I.g1 I.g2 I.g3 I.w1 I.w2 I.w3 =
    lift2 (φ := .f32) fun a b => ∑ k, I.dmem k a * normed I.gm (I.M k) b := by
  funext i
  rw [val_main_v147_apply, at_v146 I, at_v28 I]
  exact host_dot _ _
theorem at_v148 : val_main_v148 (F := Ideal) I.h I.t I.d I.p I.g1 I.g2 I.g3 I.w1 I.w2 I.w3 =
    lift2 (φ := .f32) fun a b => I.dwkv a b := by
  funext i
  rw [val_main_v148_apply, at_v147 I]
  exact congrArg Real.toEReal (Finset.sum_congr rfl fun _ _ => mul_comm _ _)
theorem at_v149 : val_main_v149 (F := Ideal) I.h I.t I.d I.p I.g1 I.g2 I.g3 I.w1 I.w2 I.w3 =
    lift2 (φ := .f32) fun a b => timesT I.Wkv (I.dmem a) b := by
  funext i
  rw [val_main_v149_apply, at_v146 I]
  exact host_dot _ _
theorem at_v150 : val_main_v150 (F := Ideal) I.h I.t I.d I.p I.g1 I.g2 I.g3 I.w1 I.w2 I.w3 =
    lift2 (φ := .f32) fun a b => highPart 512 (I.dquery a) b := by
  funext i
  unfold val_main_v150
  rw [at_v141 I]
  exact congrFun (pad_high_256_768 _ _ _) i
theorem at_v151 : val_main_v151 (F := Ideal) I.h I.t I.d I.dp I.p I.g1 I.g2 I.g3 I.w1 I.w2 I.w3 =
    lift2 (φ := .f32) fun a b => I.dproj a b := by
  funext i
  rw [val_main_v151_apply, at_v91 I, at_v150 I]
  exact ((EReal.coe_add _ _).symm).trans (congrArg Real.toEReal (beside_parts _ _ _))
theorem at_v152 : val_main_v152 (F := Ideal) I.h I.t I.d I.dp I.p I.g1 I.g2 I.g3 I.w1 I.w2 I.w3 =
    lift2 (φ := .f32) fun a b => ∑ k, I.dproj k a * normed I.g (I.H k) b := by
  funext i
  rw [val_main_v152_apply, at_v151 I, at_v15 I]
  exact host_dot _ _
theorem at_v153 : val_main_v153 (F := Ideal) I.h I.t I.d I.dp I.p I.g1 I.g2 I.g3 I.w1 I.w2 I.w3 =
    lift2 (φ := .f32) fun a b => I.dwin a b := by
  funext i
  rw [val_main_v153_apply, at_v152 I]
  exact congrArg Real.toEReal (Finset.sum_congr rfl fun _ _ => mul_comm _ _)
theorem at_v154 : val_main_v154 (F := Ideal) I.h I.t I.d I.dp I.p I.g1 I.g2 I.g3 I.w1 I.w2 I.w3 =
    lift2 (φ := .f32) fun a b => timesT I.Wi (I.dproj a) b := by
  funext i
  rw [val_main_v154_apply, at_v151 I]
  exact host_dot _ _
theorem at_v155 : val_main_v155 (F := Ideal) I.h I.t I.d I.p I.g1 I.g2 I.g3 I.w1 I.w2 I.w3 =
    lift2 (φ := .f32) fun a b => hat (I.M a) b * timesT I.Wkv (I.dmem a) b := by
  funext i
  rw [val_main_v155_apply, at_v25 I, at_v149 I]
  exact (EReal.coe_mul _ _).symm
theorem at_v156 : val_main_v156 (F := Ideal) I.h I.t I.d I.p I.g1 I.g2 I.g3 I.w1 I.w2 I.w3 =
    lift1 (φ := .f32) fun a => I.dgmem a := by
  funext i
  rw [val_main_v156_apply, val_main_cst_33_apply, at_v155 I]
  exact (host_sum _).trans (congrArg Real.toEReal (Finset.sum_congr rfl fun _ _ => mul_comm _ _))
theorem at_v157 : val_main_v157 (F := Ideal) I.h I.t I.d I.p I.g1 I.g2 I.g3 I.w1 I.w2 I.w3 =
    lift2 (φ := .f32) fun _ b => I.dgmem b := by
  funext i
  unfold val_main_v157
  rw [at_v156 I]
  exact congrFun (cast_row _ _) i
theorem at_v158 : val_main_v158 (F := Ideal) I.h I.t I.d I.p I.g1 I.g2 I.g3 I.w1 I.w2 I.w3 =
    lift1 (φ := .f32) fun a => I.dgmem a := by
  funext i
  rw [val_main_v158_apply, val_main_cst_34_apply, at_v157 I]
  exact host_sum_one _
theorem at_v159 : val_main_v159 (F := Ideal) I.h I.t I.d I.dp I.p I.g1 I.g2 I.g3 I.w1 I.w2 I.w3 =
    lift2 (φ := .f32) fun a b => hat (I.H a) b * timesT I.Wi (I.dproj a) b := by
  funext i
  rw [val_main_v159_apply, at_v12 I, at_v154 I]
  exact (EReal.coe_mul _ _).symm
theorem at_v160 : val_main_v160 (F := Ideal) I.h I.t I.d I.dp I.p I.g1 I.g2 I.g3 I.w1 I.w2 I.w3 =
    lift1 (φ := .f32) fun a => I.dgpre a := by
  funext i
  rw [val_main_v160_apply, val_main_cst_35_apply, at_v159 I]
  exact (host_sum _).trans (congrArg Real.toEReal (Finset.sum_congr rfl fun _ _ => mul_comm _ _))
theorem at_v161 : val_main_v161 (F := Ideal) I.h I.t I.d I.dp I.p I.g1 I.g2 I.g3 I.w1 I.w2 I.w3 =
    lift2 (φ := .f32) fun _ b => I.dgpre b := by
  funext i
  unfold val_main_v161
  rw [at_v160 I]
  exact congrFun (cast_row _ _) i
theorem at_v163 : val_main_v163 (F := Ideal) I.h I.t I.d I.dp I.p I.g1 I.g2 I.g3 I.w1 I.w2 I.w3 =
    lift2 (φ := .f32) fun a b => timesT I.Wi (I.dproj a) b * I.g b := by
  funext i
  rw [val_main_v163_apply, at_v154 I, val_main_v162_apply, val_main_v13_apply]
  exact (EReal.coe_mul _ _).symm
theorem at_v164 : val_main_v164 (F := Ideal) I.h I.t I.d I.dp I.p I.g1 I.g2 I.g3 I.w1 I.w2 I.w3 =
    lift1 (φ := .f32) fun a => I.dgpre a := by
  funext i
  rw [val_main_v164_apply, val_main_cst_36_apply, at_v161 I]
  exact host_sum_one _
theorem at_v165 : val_main_v165 (F := Ideal) I.h I.t I.d I.dp I.p I.g1 I.g2 I.g3 I.w1 I.w2 I.w3 =
    lift2 (φ := .f32) fun a b => I.H a b * (timesT I.Wi (I.dproj a) b * I.g b) := by
  funext i
  rw [val_main_v165_apply, at_v163 I]
  exact (EReal.coe_mul _ _).symm
theorem at_v166 : val_main_v166 (F := Ideal) I.h I.t I.d I.dp I.p I.g1 I.g2 I.g3 I.w1 I.w2 I.w3 =
    lift1 (φ := .f32) fun a => ∑ k, I.H a k * (timesT I.Wi (I.dproj a) k * I.g k) := by
  funext i
  rw [val_main_v166_apply, val_main_cst_37_apply, at_v165 I]
  exact host_sum _
theorem at_v167 : val_main_v167 (F := Ideal) I.h I.t I.d I.dp I.p I.g1 I.g2 I.g3 I.w1 I.w2 I.w3 =
    lift2 (φ := .f32) fun a _ => ∑ k, I.H a k * (timesT I.Wi (I.dproj a) k * I.g k) := by
  funext i
  unfold val_main_v167
  rw [at_v166 I]
  exact congrFun (cast_col _ _) i
theorem at_v169 : val_main_v169 (F := Ideal) I.h I.t I.d I.dp I.p I.g1 I.g2 I.g3 I.w1 I.w2 I.w3 =
    lift2 (φ := .f32) fun a b => (timesT I.Wi (I.dproj a) b * I.g b) * rs (I.H a) := by
  funext i
  rw [val_main_v169_apply, at_v163 I, val_main_v168_apply, at_v7 I]
  exact (EReal.coe_mul _ _).symm
theorem at_v170 : val_main_v170 (F := Ideal) I.h I.t I.d I.dp I.p I.g1 I.g2 I.g3 I.w1 I.w2 I.w3 =
    lift2 (φ := .f32) fun a b => I.D a b + ((timesT I.Wi (I.dproj a) b * I.g b) * rs (I.H a)) := by
  funext i
  rw [val_main_v170_apply, at_v169 I]
  exact (EReal.coe_add _ _).symm
theorem at_v171 : val_main_v171 (F := Ideal) I.h I.t I.d I.dp I.p I.g1 I.g2 I.g3 I.w1 I.w2 I.w3 =
    lift2 (φ := .f32) fun a _ => (∑ k, I.H a k * (timesT I.Wi (I.dproj a) k * I.g k)) * ((-1 / 2) * (rs (I.H a) / ms (I.H a))) := by
  funext i
  rw [val_main_v171_apply, at_v167 I, at_v10 I]
  exact (EReal.coe_mul _ _).symm
theorem at_v173 : val_main_v173 (F := Ideal) I.h I.t I.d I.dp I.p I.g1 I.g2 I.g3 I.w1 I.w2 I.w3 =
    lift2 (φ := .f32) fun a _ => sizeBack (I.H a) (fun j => timesT I.Wi (I.dproj a) j * I.g j) := by
  funext i
  rw [val_main_v173_apply, at_v171 I, val_main_v172_apply, val_main_cst_38_apply, word_width]
  exact host_div (by norm_num) _
theorem at_v174 : val_main_v174 (F := Ideal) I.h I.t I.d I.dp I.p I.g1 I.g2 I.g3 I.w1 I.w2 I.w3 =
    lift1 (φ := .f32) fun a => sizeBack (I.H a) (fun j => timesT I.Wi (I.dproj a) j * I.g j) := by
  funext i
  rw [val_main_v174_apply, val_main_cst_39_apply, at_v173 I]
  exact host_sum_one _
theorem at_v176 : val_main_v176 (F := Ideal) I.h I.t I.d I.dp I.p I.g1 I.g2 I.g3 I.w1 I.w2 I.w3 =
    lift2 (φ := .f32) fun a b => I.H a b * sizeBack (I.H a) (fun j => timesT I.Wi (I.dproj a) j * I.g j) := by
  funext i
  rw [val_main_v176_apply, val_main_v175_apply, at_v174 I]
  exact (EReal.coe_mul _ _).symm
theorem at_v177 : val_main_v177 (F := Ideal) I.h I.t I.d I.dp I.p I.g1 I.g2 I.g3 I.w1 I.w2 I.w3 =
    lift2 (φ := .f32) fun a b => I.D a b + ((timesT I.Wi (I.dproj a) b * I.g b) * rs (I.H a)) + (I.H a b * sizeBack (I.H a) (fun j => timesT I.Wi (I.dproj a) j * I.g j)) := by
  funext i
  rw [val_main_v177_apply, at_v170 I, at_v176 I]
  exact (EReal.coe_add _ _).symm
theorem at_v178 : val_main_v178 (F := Ideal) I.h I.t I.d I.dp I.p I.g1 I.g2 I.g3 I.w1 I.w2 I.w3 =
    lift2 (φ := .f32) fun a b => sizeBack (I.H a) (fun j => timesT I.Wi (I.dproj a) j * I.g j) * I.H a b := by
  funext i
  rw [val_main_v178_apply, val_main_v175_apply, at_v174 I]
  exact (EReal.coe_mul _ _).symm
theorem at_v179 : val_main_v179 (F := Ideal) I.h I.t I.d I.dp I.p I.g1 I.g2 I.g3 I.w1 I.w2 I.w3 =
    lift2 (φ := .f32) fun a b => I.dh a b := by
  funext i
  rw [val_main_v179_apply, at_v177 I, at_v178 I]
  exact ((EReal.coe_add _ _).symm).trans (congrArg Real.toEReal (in_back _ _ _ _ _))

end Cert.MixPool
-- ==== Proof.PoolClaim.lean ====
/- The mixing sub-layer of a pooling layer: the kernels and the differentiated reference agree on all ten results when the
   arguments hold real numbers. -/
module

public import proofs.«01_k».proof.Defs
public import proofs.«01_k».proof.Proof.PoolRun
public import proofs.«01_k».proof.Proof.PoolReferenceBackward
public import proofs.«01_k».proof.Proof.Finite
public import proofs.«01_k».proof.Proof.Gen.Pre_finite3
public import proofs.«01_k».proof.Proof.Gen.Reference3Ideal.Run

@[expose] public section

set_option maxRecDepth 16384

noncomputable section

namespace Cert.MixPool

open Idealize.ShloMosaic Idealize.ShloMosaic.StableHlo Idealize.ShloMosaic.TcCoe Idealize.SL.Sem Cert.FfnBlock

set_option backward.isDefEq.respectTransparency.types false

/-- Under the precondition every device's arguments hold real numbers. -/
theorem args_of (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) : ∃ I : Inputs, Args I m c := by
  obtain ⟨h0, h1, h2, h3, h4, h5, h6, h7, h8, h9, h10⟩ := h c
  obtain ⟨x0, e0⟩ := lift2_of _ _ h0
  obtain ⟨x1, e1⟩ := lift2_of _ _ h1
  obtain ⟨x2, e2⟩ := lift2_of _ _ h2
  obtain ⟨x3, e3⟩ := lift2_of _ _ h3
  obtain ⟨x4, e4⟩ := lift2_of _ _ h4
  obtain ⟨x5, e5⟩ := lift1_of _ _ h5
  obtain ⟨x6, e6⟩ := lift1_of _ _ h6
  obtain ⟨x7, e7⟩ := lift1_of _ _ h7
  obtain ⟨x8, e8⟩ := lift2_of _ _ h8
  obtain ⟨x9, e9⟩ := lift2_of _ _ h9
  obtain ⟨x10, e10⟩ := lift2_of _ _ h10
  exact ⟨⟨x0, x1, x2, x3, x4, x5, x6, x7, x8, x9, x10⟩, ⟨e0, e1, e2, e3, e4, e5, e6, e7, e8, e9, e10⟩⟩

section
open Cert.Reference3Ideal Cert.Reference3Ideal.Read

/-- The reference's frame. -/
theorem frame_reference [Cert.Reference3Ideal.Facts] : Cert.quiescent_Reference3Ideal := fun m g _ =>
  (θ_run _ _ _).mono (fun r h => ⟨fun c => ((h c).2.2.2.2.2.2.2.2.2.2), sem_eq_zero_of_no_sems (by decide) _⟩)
    (Cert.Reference3Ideal.Value.run m g)

/-- The reference's arguments hold these real arrays. -/
structure Holds (I : Inputs) (V : Valuation τ sig (Elt Ideal)) : Prop where
  a0 : V (Proc.devRef .tc main_arg0) = I.h
  a1 : V (Proc.devRef .tc main_arg1) = I.t
  a2 : V (Proc.devRef .tc main_arg2) = I.d
  a3 : V (Proc.devRef .tc main_arg3) = I.dp
  a4 : V (Proc.devRef .tc main_arg4) = I.p
  a5 : V (Proc.devRef .tc main_arg5) = I.g1
  a6 : V (Proc.devRef .tc main_arg6) = I.g2
  a7 : V (Proc.devRef .tc main_arg7) = I.g3
  a8 : V (Proc.devRef .tc main_arg8) = I.w1
  a9 : V (Proc.devRef .tc main_arg9) = I.w2
  a10 : V (Proc.devRef .tc main_arg10) = I.w3

variable {I : Inputs} {V : Valuation τ sig (Elt Ideal)} (h : Holds I V)
include h

theorem ref_out : val_main_v89 (F := Ideal) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.out) := by
  rw [h.a0, h.a1, h.a4, h.a5, h.a6, h.a7, h.a8, h.a9, h.a10]; exact at_v89 I
theorem ref_tok : val_main_v90 (F := Ideal) (V (Proc.devRef .tc main_arg0)) (V (Proc.devRef .tc main_arg5)) (V (Proc.devRef .tc main_arg8))
    = lift2 (φ := .f32) (fun r => forToken (I.proj r)) := by
  rw [h.a0, h.a5, h.a8]; exact at_v90 I
theorem ref_dh : val_main_v179 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dh) := by
  rw [h.a0, h.a1, h.a2, h.a3, h.a4, h.a5, h.a6, h.a7, h.a8, h.a9, h.a10]; exact at_v179 I
theorem ref_dtok : val_main_v116 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dtok) := by
  rw [h.a0, h.a1, h.a2, h.a4, h.a5, h.a6, h.a7, h.a8, h.a9, h.a10]; exact at_v116 I
theorem ref_dgpre : val_main_v164 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift1 (φ := .f32) (I.dgpre) := by
  rw [h.a0, h.a1, h.a2, h.a3, h.a4, h.a5, h.a6, h.a7, h.a8, h.a9, h.a10]; exact at_v164 I
theorem ref_dgmem : val_main_v158 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift1 (φ := .f32) (I.dgmem) := by
  rw [h.a0, h.a1, h.a2, h.a4, h.a5, h.a6, h.a7, h.a8, h.a9, h.a10]; exact at_v158 I
theorem ref_dgpost : val_main_v98 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9)) (V (Proc.devRef .tc main_arg10))
    = lift1 (φ := .f32) (I.dgpost) := by
  rw [h.a0, h.a1, h.a2, h.a4, h.a5, h.a6, h.a8, h.a9, h.a10]; exact at_v98 I
theorem ref_dwin : val_main_v153 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dwin) := by
  rw [h.a0, h.a1, h.a2, h.a3, h.a4, h.a5, h.a6, h.a7, h.a8, h.a9, h.a10]; exact at_v153 I
theorem ref_dwkv : val_main_v148 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dwkv) := by
  rw [h.a0, h.a1, h.a2, h.a4, h.a5, h.a6, h.a7, h.a8, h.a9, h.a10]; exact at_v148 I
theorem ref_dwo : val_main_v114 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
    = lift2 (φ := .f32) (I.dwo) := by
  rw [h.a0, h.a1, h.a2, h.a4, h.a5, h.a6, h.a7, h.a8, h.a9, h.a10]; exact at_v114 I

end

theorem algebraic : Cert.algebraic_Kernel3Ideal_Reference3Ideal_pre_finite3 := by
  intro m ρ m' ρ' hpre heq
  choose I hA using args_of m hpre
  have hB : ∀ c, Holds (I c) (launchContents m' c) := fun c =>
    have ⟨e0, e1, e2, e3, e4, e5, e6, e7, e8, e9, e10⟩ := heq c
    ⟨e0.trans (hA c).a0, e1.trans (hA c).a1, e2.trans (hA c).a2, e3.trans (hA c).a3, e4.trans (hA c).a4, e5.trans (hA c).a5, e6.trans (hA c).a6, e7.trans (hA c).a7, e8.trans (hA c).a8, e9.trans (hA c).a9, e10.trans (hA c).a10⟩
  refine ⟨fun c => lift2 (φ := .f32) ((I c).out),
    fun c => lift2 (φ := .f32) (fun r => forToken ((I c).proj r)),
    fun c => lift2 (φ := .f32) ((I c).dh),
    fun c => lift2 (φ := .f32) ((I c).dtok),
    fun c => lift1 (φ := .f32) ((I c).dgpre),
    fun c => lift1 (φ := .f32) ((I c).dgmem),
    fun c => lift1 (φ := .f32) ((I c).dgpost),
    fun c => lift2 (φ := .f32) ((I c).dwin),
    fun c => lift2 (φ := .f32) ((I c).dwkv),
    fun c => lift2 (φ := .f32) ((I c).dwo),
    (θ_run _ _ _).mono (fun r h c => ?_) (run_values m ρ), (θ_run _ _ _).mono (fun r h c => ?_) (Cert.Reference3Ideal.Value.run m' ρ')⟩
  · obtain ⟨h0, h1, h2, h3, h4, h5, h6, h7, h8, h9, hargs⟩ := h c
    exact ⟨h0.trans (end_out (I c) m ρ c (hA c)),
      h1.trans (end_tok (I c) m ρ c (hA c)),
      h2.trans (end_dh (I c) m ρ c (hA c)),
      h3.trans (end_dtok (I c) m ρ c (hA c)),
      h4.trans (end_dgpre (I c) m ρ c (hA c)),
      h5.trans (end_dgmem (I c) m ρ c (hA c)),
      h6.trans (end_dgpost (I c) m ρ c (hA c)),
      h7.trans (end_dwin (I c) m ρ c (hA c)),
      h8.trans (end_dwkv (I c) m ρ c (hA c)),
      h9.trans (end_dwo (I c) m ρ c (hA c)), hargs⟩
  · obtain ⟨h0, h1, h2, h3, h4, h5, h6, h7, h8, h9, hargs⟩ := h c
    exact ⟨h0.trans ((Cert.Reference3Ideal.Read.val_main_v89_eq _).trans (ref_out (hB c))),
      h1.trans ((Cert.Reference3Ideal.Read.val_main_v90_eq _).trans (ref_tok (hB c))),
      h2.trans ((Cert.Reference3Ideal.Read.val_main_v179_eq _).trans (ref_dh (hB c))),
      h3.trans ((Cert.Reference3Ideal.Read.val_main_v116_eq _).trans (ref_dtok (hB c))),
      h4.trans ((Cert.Reference3Ideal.Read.val_main_v164_eq _).trans (ref_dgpre (hB c))),
      h5.trans ((Cert.Reference3Ideal.Read.val_main_v158_eq _).trans (ref_dgmem (hB c))),
      h6.trans ((Cert.Reference3Ideal.Read.val_main_v98_eq _).trans (ref_dgpost (hB c))),
      h7.trans ((Cert.Reference3Ideal.Read.val_main_v153_eq _).trans (ref_dwin (hB c))),
      h8.trans ((Cert.Reference3Ideal.Read.val_main_v148_eq _).trans (ref_dwkv (hB c))),
      h9.trans ((Cert.Reference3Ideal.Read.val_main_v114_eq _).trans (ref_dwo (hB c))), hargs⟩

end Cert.MixPool
-- ==== Proof.lean ====
/- The claims: the frames of the five programs, and that each program's kernels and its reference agree on all their results,
   for the first three when the arguments hold real numbers. The feed-forward block's agreement is put together here, those
   of the two mixing sub-layers, of the optimiser and of the loss head in the modules `SbClaim`, `PoolClaim`, `OptimiserClaim`
   and `LossClaim`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.ReferenceBackward
public import proofs.«01_k».proof.Proof.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Pre_finite2
public import proofs.«01_k».proof.Proof.Gen.Pre_finite3
public import proofs.«01_k».proof.Proof.SbClaim
public import proofs.«01_k».proof.Proof.OptimiserClaim
public import proofs.«01_k».proof.Proof.LossClaim
public import proofs.«01_k».proof.Proof.WindowMixClaim
public import proofs.«01_k».proof.Proof.PoolClaim
public import Idealize.ShloMosaic.Adequacy
public import Idealize.ShloMosaic.Init

@[expose] public section

noncomputable section

namespace Cert.Proof

open Idealize.ShloMosaic Idealize.ShloMosaic.StableHlo Idealize.ShloMosaic.TcCoe Idealize.SL.Sem Cert.FfnBlock

set_option backward.isDefEq.respectTransparency.types false

/-- The reference's frame. -/
theorem frame_reference [Cert.ReferenceIdeal.Facts] : Cert.quiescent_ReferenceIdeal := fun m g _ =>
  (θ_run _ _ _).mono (fun r h => ⟨fun c => ((h c).2.2.2.2.2.2.2), sem_eq_zero_of_no_sems (by decide) _⟩)
    (Cert.ReferenceIdeal.Value.run m g)

/-! ## The reference's seven results -/

section
open Cert.ReferenceIdeal Cert.ReferenceIdeal.Read

variable {g g' : Fin 1024 → ℝ} {H dY : Fin 8192 → Fin 1024 → ℝ} {Wg Wu : Fin 1024 → Fin 2048 → ℝ} {Wd : Fin 2048 → Fin 1024 → ℝ}

/-- The reference's arguments hold these real arrays. -/
structure Holds (g g' : Fin 1024 → ℝ) (H dY : Fin 8192 → Fin 1024 → ℝ) (Wg Wu : Fin 1024 → Fin 2048 → ℝ)
    (Wd : Fin 2048 → Fin 1024 → ℝ) (V : Valuation τ sig (Elt Ideal)) : Prop where
  a0 : V (Proc.devRef .tc main_arg0) = (lift2 (φ := .f32) H : FVec Ideal S8192x1024 .f32)
  a1 : V (Proc.devRef .tc main_arg1) = (lift2 (φ := .f32) dY : FVec Ideal S8192x1024 .f32)
  a2 : V (Proc.devRef .tc main_arg2) = (lift1 (φ := .f32) g : FVec Ideal S1024 .f32)
  a3 : V (Proc.devRef .tc main_arg3) = (lift1 (φ := .f32) g' : FVec Ideal S1024 .f32)
  a4 : V (Proc.devRef .tc main_arg4) = (lift2 (φ := .f32) Wg : FVec Ideal S1024x2048 .f32)
  a5 : V (Proc.devRef .tc main_arg5) = (lift2 (φ := .f32) Wu : FVec Ideal S1024x2048 .f32)
  a6 : V (Proc.devRef .tc main_arg6) = (lift2 (φ := .f32) Wd : FVec Ideal S2048x1024 .f32)

variable {V : Valuation τ sig (Elt Ideal)} (h : Holds g g' H dY Wg Wu Wd V)
include h

theorem ref_out : val_main_v39 (F := Ideal) (V (Proc.devRef .tc main_arg0)) (V (Proc.devRef .tc main_arg2)) (V (Proc.devRef .tc main_arg3)) (V (Proc.devRef .tc main_arg4)) (V (Proc.devRef .tc main_arg5)) (V (Proc.devRef .tc main_arg6))
    = lift2 (φ := .f32) (resOut g g' H Wg Wu Wd) := by
  rw [h.a0, h.a2, h.a3, h.a4, h.a5, h.a6]; exact at_v39
theorem ref_in : val_main_v96 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    = lift2 (φ := .f32) (resIn g g' H dY Wg Wu Wd) := by
  rw [h.a0, h.a1, h.a2, h.a3, h.a4, h.a5, h.a6]; exact at_v96
theorem ref_gain : val_main_v81 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    = lift1 (φ := .f32) (resGain g g' H dY Wg Wu Wd) := by
  rw [h.a0, h.a1, h.a2, h.a3, h.a4, h.a5, h.a6]; exact at_v81
theorem ref_gain2 : val_main_v48 (F := Ideal) (V (Proc.devRef .tc main_arg0)) (V (Proc.devRef .tc main_arg1)) (V (Proc.devRef .tc main_arg2)) (V (Proc.devRef .tc main_arg4)) (V (Proc.devRef .tc main_arg5)) (V (Proc.devRef .tc main_arg6))
    = lift1 (φ := .f32) (resGain' g H dY Wg Wu Wd) := by
  rw [h.a0, h.a1, h.a2, h.a4, h.a5, h.a6]; exact at_v48
theorem ref_gate : val_main_v73 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    = lift2 (φ := .f32) (resGate g g' H dY Wg Wu Wd) := by
  rw [h.a0, h.a1, h.a2, h.a3, h.a4, h.a5, h.a6]; exact at_v73
theorem ref_up : val_main_v69 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    = lift2 (φ := .f32) (resUp g g' H dY Wg Wu Wd) := by
  rw [h.a0, h.a1, h.a2, h.a3, h.a4, h.a5, h.a6]; exact at_v69
theorem ref_down : val_main_v64 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    = lift2 (φ := .f32) (resDown g g' H dY Wg Wu Wd) := by
  rw [h.a0, h.a1, h.a2, h.a3, h.a4, h.a5, h.a6]; exact at_v64

end

/-! ## The claims -/

theorem algebraic : Cert.algebraic_KernelIdeal_ReferenceIdeal_pre_finite := by
  intro m ρ m' ρ' hpre heq
  choose g g' H dY Wg Wu Wd hA using args_of m hpre
  have hB : ∀ c, Holds (g c) (g' c) (H c) (dY c) (Wg c) (Wu c) (Wd c) (launchContents m' c) := fun c =>
    have ⟨e0, e1, e2, e3, e4, e5, e6⟩ := heq c
    ⟨e0.trans (hA c).a0, e1.trans (hA c).a1, e2.trans (hA c).a2, e3.trans (hA c).a3, e4.trans (hA c).a4,
      e5.trans (hA c).a5, e6.trans (hA c).a6⟩
  refine ⟨fun c => lift2 (φ := .f32) (resOut (g c) (g' c) (H c) (Wg c) (Wu c) (Wd c)),
    fun c => lift2 (φ := .f32) (resIn (g c) (g' c) (H c) (dY c) (Wg c) (Wu c) (Wd c)),
    fun c => lift1 (φ := .f32) (resGain (g c) (g' c) (H c) (dY c) (Wg c) (Wu c) (Wd c)),
    fun c => lift1 (φ := .f32) (resGain' (g c) (H c) (dY c) (Wg c) (Wu c) (Wd c)),
    fun c => lift2 (φ := .f32) (resGate (g c) (g' c) (H c) (dY c) (Wg c) (Wu c) (Wd c)),
    fun c => lift2 (φ := .f32) (resUp (g c) (g' c) (H c) (dY c) (Wg c) (Wu c) (Wd c)),
    fun c => lift2 (φ := .f32) (resDown (g c) (g' c) (H c) (dY c) (Wg c) (Wu c) (Wd c)),
    (θ_run _ _ _).mono (fun r h c => ?_) (run_values m ρ), (θ_run _ _ _).mono (fun r h c => ?_) (Cert.ReferenceIdeal.Value.run m' ρ')⟩
  · obtain ⟨h0, h1, h2, h3, h4, h5, h6, hargs⟩ := h c
    exact ⟨h0.trans (end_out (g c) (g' c) (H c) (dY c) (Wg c) (Wu c) (Wd c) m ρ c (hA c)),
      h1.trans (end_in (g c) (g' c) (H c) (dY c) (Wg c) (Wu c) (Wd c) m ρ c (hA c)),
      h2.trans (end_gain (g c) (g' c) (H c) (dY c) (Wg c) (Wu c) (Wd c) m ρ c (hA c)),
      h3.trans (end_gain2 (g c) (g' c) (H c) (dY c) (Wg c) (Wu c) (Wd c) m ρ c (hA c)),
      h4.trans (end_gate (g c) (g' c) (H c) (dY c) (Wg c) (Wu c) (Wd c) m ρ c (hA c)),
      h5.trans (end_up (g c) (g' c) (H c) (dY c) (Wg c) (Wu c) (Wd c) m ρ c (hA c)),
      h6.trans (end_down (g c) (g' c) (H c) (dY c) (Wg c) (Wu c) (Wd c) m ρ c (hA c)), hargs⟩
  · obtain ⟨h0, h1, h2, h3, h4, h5, h6, hargs⟩ := h c
    exact ⟨h0.trans ((Cert.ReferenceIdeal.Read.val_main_v39_eq _).trans (ref_out (hB c))),
      h1.trans ((Cert.ReferenceIdeal.Read.val_main_v96_eq _).trans (ref_in (hB c))),
      h2.trans ((Cert.ReferenceIdeal.Read.val_main_v81_eq _).trans (ref_gain (hB c))),
      h3.trans ((Cert.ReferenceIdeal.Read.val_main_v48_eq _).trans (ref_gain2 (hB c))),
      h4.trans ((Cert.ReferenceIdeal.Read.val_main_v73_eq _).trans (ref_gate (hB c))),
      h5.trans ((Cert.ReferenceIdeal.Read.val_main_v69_eq _).trans (ref_up (hB c))),
      h6.trans ((Cert.ReferenceIdeal.Read.val_main_v64_eq _).trans (ref_down (hB c))), hargs⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Gen.facts, Cert.Pre_finite2.Gen.facts, Cert.Pre_finite3.Gen.facts, Cert.Pre_finite6.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    MixSb.frame_reference, fun m ρ _ => MixSb.frame_reference m ρ trivial,
    fun m ρ _ => Cert.Kernel3.Gen.frame m ρ, fun m ρ _ => Cert.Kernel3Ideal.Gen.frame m ρ, fun m ρ _ => Cert.Kernel3Ideal.Gen.frame m ρ,
    MixPool.frame_reference, fun m ρ _ => MixPool.frame_reference m ρ trivial,
    fun m ρ _ => Cert.Kernel4.Gen.frame m ρ, fun m ρ _ => Cert.Kernel4Ideal.Gen.frame m ρ, Optimiser.frame_reference,
    fun m ρ _ => Cert.Kernel5.Gen.frame m ρ, fun m ρ _ => Cert.Kernel5Ideal.Gen.frame m ρ, LossHead.frame_reference,
    fun m ρ _ => Cert.Kernel6.Gen.frame m ρ, fun m ρ _ => Cert.Kernel6Ideal.Gen.frame m ρ, fun m ρ _ => Cert.Kernel6Ideal.Gen.frame m ρ,
    WindowMix.frame_reference, fun m ρ _ => WindowMix.frame_reference m ρ trivial,
    trivial, algebraic, trivial, MixSb.algebraic, trivial, MixPool.algebraic, trivial, Optimiser.algebraic, trivial, LossHead.algebraic, trivial, WindowMix.algebraic⟩

end Cert.Proof

end
